-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))) = (fun _ => 1#1)

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxRefIdeal (m : (ℓ : Loc Cert.CtxRefIdeal.nD Cert.CtxRefIdeal.τ Cert.CtxRefIdeal.sig) → Buf (Elt Ideal) ℓ) : Prop :=
  True

def Pre_Modb (m : (ℓ : Loc Cert.Modb.nD Cert.Modb.τ Cert.Modb.sig) → Buf (Elt Bits) ℓ) : Prop :=
  True

def Pre_ModbIdeal (m : (ℓ : Loc Cert.ModbIdeal.nD Cert.ModbIdeal.τ Cert.ModbIdeal.sig) → Buf (Elt Ideal) ℓ) : Prop :=
  True

def Pre_ModbIdeal_finite_mod2 [hPre_finite_mod2 : Cert.Pre_finite_mod2.Facts] (m : (ℓ : Loc Cert.ModbIdeal.nD Cert.ModbIdeal.τ Cert.ModbIdeal.sig) → Buf (Elt Ideal) ℓ) : Prop :=
  ∀ c : Dev Cert.ModbIdeal.nD,
    (Cert.Pre_finite_mod2.fn (F := Ideal) (m ((c.tc : Thread Cert.ModbIdeal.nD Cert.ModbIdeal.τ).loc Cert.ModbIdeal.main_arg0)) (m ((c.tc : Thread Cert.ModbIdeal.nD Cert.ModbIdeal.τ).loc Cert.ModbIdeal.main_arg1)) (m ((c.tc : Thread Cert.ModbIdeal.nD Cert.ModbIdeal.τ).loc Cert.ModbIdeal.main_arg2)) (m ((c.tc : Thread Cert.ModbIdeal.nD Cert.ModbIdeal.τ).loc Cert.ModbIdeal.main_arg3)) (m ((c.tc : Thread Cert.ModbIdeal.nD Cert.ModbIdeal.τ).loc Cert.ModbIdeal.main_arg4)) (m ((c.tc : Thread Cert.ModbIdeal.nD Cert.ModbIdeal.τ).loc Cert.ModbIdeal.main_arg5))) = (fun _ => 1#1)

def Pre_ModbRefIdeal (m : (ℓ : Loc Cert.ModbRefIdeal.nD Cert.ModbRefIdeal.τ Cert.ModbRefIdeal.sig) → Buf (Elt Ideal) ℓ) : Prop :=
  True

def Pre_ModbRefIdeal_finite_mod2 [hPre_finite_mod2 : Cert.Pre_finite_mod2.Facts] (m : (ℓ : Loc Cert.ModbRefIdeal.nD Cert.ModbRefIdeal.τ Cert.ModbRefIdeal.sig) → Buf (Elt Ideal) ℓ) : Prop :=
  ∀ c : Dev Cert.ModbRefIdeal.nD,
    (Cert.Pre_finite_mod2.fn (F := Ideal) (m ((c.tc : Thread Cert.ModbRefIdeal.nD Cert.ModbRefIdeal.τ).loc Cert.ModbRefIdeal.main_arg0)) (m ((c.tc : Thread Cert.ModbRefIdeal.nD Cert.ModbRefIdeal.τ).loc Cert.ModbRefIdeal.main_arg1)) (m ((c.tc : Thread Cert.ModbRefIdeal.nD Cert.ModbRefIdeal.τ).loc Cert.ModbRefIdeal.main_arg2)) (m ((c.tc : Thread Cert.ModbRefIdeal.nD Cert.ModbRefIdeal.τ).loc Cert.ModbRefIdeal.main_arg3)) (m ((c.tc : Thread Cert.ModbRefIdeal.nD Cert.ModbRefIdeal.τ).loc Cert.ModbRefIdeal.main_arg4)) (m ((c.tc : Thread Cert.ModbRefIdeal.nD Cert.ModbRefIdeal.τ).loc Cert.ModbRefIdeal.main_arg5))) = (fun _ => 1#1)

def Pre_Moda (m : (ℓ : Loc Cert.Moda.nD Cert.Moda.τ Cert.Moda.sig) → Buf (Elt Bits) ℓ) : Prop :=
  True

def Pre_ModaIdeal (m : (ℓ : Loc Cert.ModaIdeal.nD Cert.ModaIdeal.τ Cert.ModaIdeal.sig) → Buf (Elt Ideal) ℓ) : Prop :=
  True

def Pre_ModaIdeal_finite_mod1 [hPre_finite_mod1 : Cert.Pre_finite_mod1.Facts] (m : (ℓ : Loc Cert.ModaIdeal.nD Cert.ModaIdeal.τ Cert.ModaIdeal.sig) → Buf (Elt Ideal) ℓ) : Prop :=
  ∀ c : Dev Cert.ModaIdeal.nD,
    (Cert.Pre_finite_mod1.fn (F := Ideal) (m ((c.tc : Thread Cert.ModaIdeal.nD Cert.ModaIdeal.τ).loc Cert.ModaIdeal.main_arg0)) (m ((c.tc : Thread Cert.ModaIdeal.nD Cert.ModaIdeal.τ).loc Cert.ModaIdeal.main_arg1)) (m ((c.tc : Thread Cert.ModaIdeal.nD Cert.ModaIdeal.τ).loc Cert.ModaIdeal.main_arg2)) (m ((c.tc : Thread Cert.ModaIdeal.nD Cert.ModaIdeal.τ).loc Cert.ModaIdeal.main_arg3)) (m ((c.tc : Thread Cert.ModaIdeal.nD Cert.ModaIdeal.τ).loc Cert.ModaIdeal.main_arg4)) (m ((c.tc : Thread Cert.ModaIdeal.nD Cert.ModaIdeal.τ).loc Cert.ModaIdeal.main_arg5))) = (fun _ => 1#1)

def Pre_ModaRefIdeal (m : (ℓ : Loc Cert.ModaRefIdeal.nD Cert.ModaRefIdeal.τ Cert.ModaRefIdeal.sig) → Buf (Elt Ideal) ℓ) : Prop :=
  True

def Pre_ModaRefIdeal_finite_mod1 [hPre_finite_mod1 : Cert.Pre_finite_mod1.Facts] (m : (ℓ : Loc Cert.ModaRefIdeal.nD Cert.ModaRefIdeal.τ Cert.ModaRefIdeal.sig) → Buf (Elt Ideal) ℓ) : Prop :=
  ∀ c : Dev Cert.ModaRefIdeal.nD,
    (Cert.Pre_finite_mod1.fn (F := Ideal) (m ((c.tc : Thread Cert.ModaRefIdeal.nD Cert.ModaRefIdeal.τ).loc Cert.ModaRefIdeal.main_arg0)) (m ((c.tc : Thread Cert.ModaRefIdeal.nD Cert.ModaRefIdeal.τ).loc Cert.ModaRefIdeal.main_arg1)) (m ((c.tc : Thread Cert.ModaRefIdeal.nD Cert.ModaRefIdeal.τ).loc Cert.ModaRefIdeal.main_arg2)) (m ((c.tc : Thread Cert.ModaRefIdeal.nD Cert.ModaRefIdeal.τ).loc Cert.ModaRefIdeal.main_arg3)) (m ((c.tc : Thread Cert.ModaRefIdeal.nD Cert.ModaRefIdeal.τ).loc Cert.ModaRefIdeal.main_arg4)) (m ((c.tc : Thread Cert.ModaRefIdeal.nD Cert.ModaRefIdeal.τ).loc Cert.ModaRefIdeal.main_arg5))) = (fun _ => 1#1)

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalIdeal_finite_final [hPre_finite_final : Cert.Pre_finite_final.Facts] (m : (ℓ : Loc Cert.FinalIdeal.nD Cert.FinalIdeal.τ Cert.FinalIdeal.sig) → Buf (Elt Ideal) ℓ) : Prop :=
  ∀ c : Dev Cert.FinalIdeal.nD,
    (Cert.Pre_finite_final.fn (F := Ideal) (m ((c.tc : Thread Cert.FinalIdeal.nD Cert.FinalIdeal.τ).loc Cert.FinalIdeal.main_arg0)) (m ((c.tc : Thread Cert.FinalIdeal.nD Cert.FinalIdeal.τ).loc Cert.FinalIdeal.main_arg1)) (m ((c.tc : Thread Cert.FinalIdeal.nD Cert.FinalIdeal.τ).loc Cert.FinalIdeal.main_arg2)) (m ((c.tc : Thread Cert.FinalIdeal.nD Cert.FinalIdeal.τ).loc Cert.FinalIdeal.main_arg3)) (m ((c.tc : Thread Cert.FinalIdeal.nD Cert.FinalIdeal.τ).loc Cert.FinalIdeal.main_arg4)) (m ((c.tc : Thread Cert.FinalIdeal.nD Cert.FinalIdeal.τ).loc Cert.FinalIdeal.main_arg5))) = (fun _ => 1#1)

def Pre_FinalRefIdeal (m : (ℓ : Loc Cert.FinalRefIdeal.nD Cert.FinalRefIdeal.τ Cert.FinalRefIdeal.sig) → Buf (Elt Ideal) ℓ) : Prop :=
  True

def Pre_FinalRefIdeal_finite_final [hPre_finite_final : Cert.Pre_finite_final.Facts] (m : (ℓ : Loc Cert.FinalRefIdeal.nD Cert.FinalRefIdeal.τ Cert.FinalRefIdeal.sig) → Buf (Elt Ideal) ℓ) : Prop :=
  ∀ c : Dev Cert.FinalRefIdeal.nD,
    (Cert.Pre_finite_final.fn (F := Ideal) (m ((c.tc : Thread Cert.FinalRefIdeal.nD Cert.FinalRefIdeal.τ).loc Cert.FinalRefIdeal.main_arg0)) (m ((c.tc : Thread Cert.FinalRefIdeal.nD Cert.FinalRefIdeal.τ).loc Cert.FinalRefIdeal.main_arg1)) (m ((c.tc : Thread Cert.FinalRefIdeal.nD Cert.FinalRefIdeal.τ).loc Cert.FinalRefIdeal.main_arg2)) (m ((c.tc : Thread Cert.FinalRefIdeal.nD Cert.FinalRefIdeal.τ).loc Cert.FinalRefIdeal.main_arg3)) (m ((c.tc : Thread Cert.FinalRefIdeal.nD Cert.FinalRefIdeal.τ).loc Cert.FinalRefIdeal.main_arg4)) (m ((c.tc : Thread Cert.FinalRefIdeal.nD Cert.FinalRefIdeal.τ).loc Cert.FinalRefIdeal.main_arg5))) = (fun _ => 1#1)

def Pre_Adaln (m : (ℓ : Loc Cert.Adaln.nD Cert.Adaln.τ Cert.Adaln.sig) → Buf (Elt Bits) ℓ) : Prop :=
  True

def Pre_AdalnIdeal (m : (ℓ : Loc Cert.AdalnIdeal.nD Cert.AdalnIdeal.τ Cert.AdalnIdeal.sig) → Buf (Elt Ideal) ℓ) : Prop :=
  True

def Pre_AdalnRefIdeal (m : (ℓ : Loc Cert.AdalnRefIdeal.nD Cert.AdalnRefIdeal.τ Cert.AdalnRefIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_finite_qk [hPre_finite_qk : Cert.Pre_finite_qk.Facts] (m : (ℓ : Loc Cert.FwdIdeal.nD Cert.FwdIdeal.τ Cert.FwdIdeal.sig) → Buf (Elt Ideal) ℓ) : Prop :=
  ∀ c : Dev Cert.FwdIdeal.nD,
    (Cert.Pre_finite_qk.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))) = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_finite_qk [hPre_finite_qk : Cert.Pre_finite_qk.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_finite_qk.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2))) = (fun _ => 1#1)

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def Pre_HeadCtx (m : (ℓ : Loc Cert.HeadCtx.nD Cert.HeadCtx.τ Cert.HeadCtx.sig) → Buf (Elt Bits) ℓ) : Prop :=
  True

def Pre_HeadCtxIdeal (m : (ℓ : Loc Cert.HeadCtxIdeal.nD Cert.HeadCtxIdeal.τ Cert.HeadCtxIdeal.sig) → Buf (Elt Ideal) ℓ) : Prop :=
  True

def Pre_HeadCtxRefIdeal (m : (ℓ : Loc Cert.HeadCtxRefIdeal.nD Cert.HeadCtxRefIdeal.τ Cert.HeadCtxRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3))
      ∧ r.2.sem = fun _ => 0)

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1)
      ∧ r.2.mem ((c.tc : Thread Cert.Ctx.nD Cert.Ctx.τ).loc Cert.Ctx.main_arg2) = m ((c.tc : Thread Cert.Ctx.nD Cert.Ctx.τ).loc Cert.Ctx.main_arg2))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2))
      ∧ r.2.sem = fun _ => 0)

def quiescent_Modb [hModb : Cert.Modb.Facts] : Prop :=
  ∀ (m : (ℓ : Loc Cert.Modb.nD Cert.Modb.τ Cert.Modb.sig) → Buf (Elt Bits) ℓ) (g : Dev Cert.Modb.nD → PrngReg), Pre_Modb m →
    θ_run (Cert.Modb.defs (F := Bits)) (onTc (τ := Cert.Modb.τ) (Cert.Modb.main (F := Bits))) ⟨m, fun _ => 0, g⟩ (fun r => (∀ c : Dev Cert.Modb.nD,
      r.2.mem ((c.tc : Thread Cert.Modb.nD Cert.Modb.τ).loc Cert.Modb.main_arg0) = m ((c.tc : Thread Cert.Modb.nD Cert.Modb.τ).loc Cert.Modb.main_arg0)
      ∧ r.2.mem ((c.tc : Thread Cert.Modb.nD Cert.Modb.τ).loc Cert.Modb.main_arg1) = m ((c.tc : Thread Cert.Modb.nD Cert.Modb.τ).loc Cert.Modb.main_arg1)
      ∧ r.2.mem ((c.tc : Thread Cert.Modb.nD Cert.Modb.τ).loc Cert.Modb.main_arg2) = m ((c.tc : Thread Cert.Modb.nD Cert.Modb.τ).loc Cert.Modb.main_arg2)
      ∧ r.2.mem ((c.tc : Thread Cert.Modb.nD Cert.Modb.τ).loc Cert.Modb.main_arg3) = m ((c.tc : Thread Cert.Modb.nD Cert.Modb.τ).loc Cert.Modb.main_arg3)
      ∧ r.2.mem ((c.tc : Thread Cert.Modb.nD Cert.Modb.τ).loc Cert.Modb.main_arg4) = m ((c.tc : Thread Cert.Modb.nD Cert.Modb.τ).loc Cert.Modb.main_arg4)
      ∧ r.2.mem ((c.tc : Thread Cert.Modb.nD Cert.Modb.τ).loc Cert.Modb.main_arg5) = m ((c.tc : Thread Cert.Modb.nD Cert.Modb.τ).loc Cert.Modb.main_arg5))
      ∧ r.2.sem = fun _ => 0)

def quiescent_ModbIdeal [hModbIdeal : Cert.ModbIdeal.Facts] : Prop :=
  ∀ (m : (ℓ : Loc Cert.ModbIdeal.nD Cert.ModbIdeal.τ Cert.ModbIdeal.sig) → Buf (Elt Ideal) ℓ) (g : Dev Cert.ModbIdeal.nD → PrngReg), Pre_ModbIdeal m →
    θ_run (Cert.ModbIdeal.defs (F := Ideal)) (onTc (τ := Cert.ModbIdeal.τ) (Cert.ModbIdeal.main (F := Ideal))) ⟨m, fun _ => 0, g⟩ (fun r => (∀ c : Dev Cert.ModbIdeal.nD,
      r.2.mem ((c.tc : Thread Cert.ModbIdeal.nD Cert.ModbIdeal.τ).loc Cert.ModbIdeal.main_arg0) = m ((c.tc : Thread Cert.ModbIdeal.nD Cert.ModbIdeal.τ).loc Cert.ModbIdeal.main_arg0)
      ∧ r.2.mem ((c.tc : Thread Cert.ModbIdeal.nD Cert.ModbIdeal.τ).loc Cert.ModbIdeal.main_arg1) = m ((c.tc : Thread Cert.ModbIdeal.nD Cert.ModbIdeal.τ).loc Cert.ModbIdeal.main_arg1)
      ∧ r.2.mem ((c.tc : Thread Cert.ModbIdeal.nD Cert.ModbIdeal.τ).loc Cert.ModbIdeal.main_arg2) = m ((c.tc : Thread Cert.ModbIdeal.nD Cert.ModbIdeal.τ).loc Cert.ModbIdeal.main_arg2)
      ∧ r.2.mem ((c.tc : Thread Cert.ModbIdeal.nD Cert.ModbIdeal.τ).loc Cert.ModbIdeal.main_arg3) = m ((c.tc : Thread Cert.ModbIdeal.nD Cert.ModbIdeal.τ).loc Cert.ModbIdeal.main_arg3)
      ∧ r.2.mem ((c.tc : Thread Cert.ModbIdeal.nD Cert.ModbIdeal.τ).loc Cert.ModbIdeal.main_arg4) = m ((c.tc : Thread Cert.ModbIdeal.nD Cert.ModbIdeal.τ).loc Cert.ModbIdeal.main_arg4)
      ∧ r.2.mem ((c.tc : Thread Cert.ModbIdeal.nD Cert.ModbIdeal.τ).loc Cert.ModbIdeal.main_arg5) = m ((c.tc : Thread Cert.ModbIdeal.nD Cert.ModbIdeal.τ).loc Cert.ModbIdeal.main_arg5))
      ∧ r.2.sem = fun _ => 0)

def quiescent_ModbIdeal_pre_finite_mod2 [hModbIdeal : Cert.ModbIdeal.Facts] [hPre_finite_mod2 : Cert.Pre_finite_mod2.Facts] : Prop :=
  ∀ (m : (ℓ : Loc Cert.ModbIdeal.nD Cert.ModbIdeal.τ Cert.ModbIdeal.sig) → Buf (Elt Ideal) ℓ) (g : Dev Cert.ModbIdeal.nD → PrngReg), Pre_ModbIdeal_finite_mod2 m →
    θ_run (Cert.ModbIdeal.defs (F := Ideal)) (onTc (τ := Cert.ModbIdeal.τ) (Cert.ModbIdeal.main (F := Ideal))) ⟨m, fun _ => 0, g⟩ (fun r => (∀ c : Dev Cert.ModbIdeal.nD,
      r.2.mem ((c.tc : Thread Cert.ModbIdeal.nD Cert.ModbIdeal.τ).loc Cert.ModbIdeal.main_arg0) = m ((c.tc : Thread Cert.ModbIdeal.nD Cert.ModbIdeal.τ).loc Cert.ModbIdeal.main_arg0)
      ∧ r.2.mem ((c.tc : Thread Cert.ModbIdeal.nD Cert.ModbIdeal.τ).loc Cert.ModbIdeal.main_arg1) = m ((c.tc : Thread Cert.ModbIdeal.nD Cert.ModbIdeal.τ).loc Cert.ModbIdeal.main_arg1)
      ∧ r.2.mem ((c.tc : Thread Cert.ModbIdeal.nD Cert.ModbIdeal.τ).loc Cert.ModbIdeal.main_arg2) = m ((c.tc : Thread Cert.ModbIdeal.nD Cert.ModbIdeal.τ).loc Cert.ModbIdeal.main_arg2)
      ∧ r.2.mem ((c.tc : Thread Cert.ModbIdeal.nD Cert.ModbIdeal.τ).loc Cert.ModbIdeal.main_arg3) = m ((c.tc : Thread Cert.ModbIdeal.nD Cert.ModbIdeal.τ).loc Cert.ModbIdeal.main_arg3)
      ∧ r.2.mem ((c.tc : Thread Cert.ModbIdeal.nD Cert.ModbIdeal.τ).loc Cert.ModbIdeal.main_arg4) = m ((c.tc : Thread Cert.ModbIdeal.nD Cert.ModbIdeal.τ).loc Cert.ModbIdeal.main_arg4)
      ∧ r.2.mem ((c.tc : Thread Cert.ModbIdeal.nD Cert.ModbIdeal.τ).loc Cert.ModbIdeal.main_arg5) = m ((c.tc : Thread Cert.ModbIdeal.nD Cert.ModbIdeal.τ).loc Cert.ModbIdeal.main_arg5))
      ∧ r.2.sem = fun _ => 0)

def quiescent_ModbRefIdeal [hModbRefIdeal : Cert.ModbRefIdeal.Facts] : Prop :=
  ∀ (m : (ℓ : Loc Cert.ModbRefIdeal.nD Cert.ModbRefIdeal.τ Cert.ModbRefIdeal.sig) → Buf (Elt Ideal) ℓ) (g : Dev Cert.ModbRefIdeal.nD → PrngReg), Pre_ModbRefIdeal m →
    θ_run (Cert.ModbRefIdeal.defs (F := Ideal)) (onTc (τ := Cert.ModbRefIdeal.τ) (Cert.ModbRefIdeal.main (F := Ideal))) ⟨m, fun _ => 0, g⟩ (fun r => (∀ c : Dev Cert.ModbRefIdeal.nD,
      r.2.mem ((c.tc : Thread Cert.ModbRefIdeal.nD Cert.ModbRefIdeal.τ).loc Cert.ModbRefIdeal.main_arg0) = m ((c.tc : Thread Cert.ModbRefIdeal.nD Cert.ModbRefIdeal.τ).loc Cert.ModbRefIdeal.main_arg0)
      ∧ r.2.mem ((c.tc : Thread Cert.ModbRefIdeal.nD Cert.ModbRefIdeal.τ).loc Cert.ModbRefIdeal.main_arg1) = m ((c.tc : Thread Cert.ModbRefIdeal.nD Cert.ModbRefIdeal.τ).loc Cert.ModbRefIdeal.main_arg1)
      ∧ r.2.mem ((c.tc : Thread Cert.ModbRefIdeal.nD Cert.ModbRefIdeal.τ).loc Cert.ModbRefIdeal.main_arg2) = m ((c.tc : Thread Cert.ModbRefIdeal.nD Cert.ModbRefIdeal.τ).loc Cert.ModbRefIdeal.main_arg2)
      ∧ r.2.mem ((c.tc : Thread Cert.ModbRefIdeal.nD Cert.ModbRefIdeal.τ).loc Cert.ModbRefIdeal.main_arg3) = m ((c.tc : Thread Cert.ModbRefIdeal.nD Cert.ModbRefIdeal.τ).loc Cert.ModbRefIdeal.main_arg3)
      ∧ r.2.mem ((c.tc : Thread Cert.ModbRefIdeal.nD Cert.ModbRefIdeal.τ).loc Cert.ModbRefIdeal.main_arg4) = m ((c.tc : Thread Cert.ModbRefIdeal.nD Cert.ModbRefIdeal.τ).loc Cert.ModbRefIdeal.main_arg4)
      ∧ r.2.mem ((c.tc : Thread Cert.ModbRefIdeal.nD Cert.ModbRefIdeal.τ).loc Cert.ModbRefIdeal.main_arg5) = m ((c.tc : Thread Cert.ModbRefIdeal.nD Cert.ModbRefIdeal.τ).loc Cert.ModbRefIdeal.main_arg5))
      ∧ r.2.sem = fun _ => 0)

def quiescent_ModbRefIdeal_pre_finite_mod2 [hModbRefIdeal : Cert.ModbRefIdeal.Facts] [hPre_finite_mod2 : Cert.Pre_finite_mod2.Facts] : Prop :=
  ∀ (m : (ℓ : Loc Cert.ModbRefIdeal.nD Cert.ModbRefIdeal.τ Cert.ModbRefIdeal.sig) → Buf (Elt Ideal) ℓ) (g : Dev Cert.ModbRefIdeal.nD → PrngReg), Pre_ModbRefIdeal_finite_mod2 m →
    θ_run (Cert.ModbRefIdeal.defs (F := Ideal)) (onTc (τ := Cert.ModbRefIdeal.τ) (Cert.ModbRefIdeal.main (F := Ideal))) ⟨m, fun _ => 0, g⟩ (fun r => (∀ c : Dev Cert.ModbRefIdeal.nD,
      r.2.mem ((c.tc : Thread Cert.ModbRefIdeal.nD Cert.ModbRefIdeal.τ).loc Cert.ModbRefIdeal.main_arg0) = m ((c.tc : Thread Cert.ModbRefIdeal.nD Cert.ModbRefIdeal.τ).loc Cert.ModbRefIdeal.main_arg0)
      ∧ r.2.mem ((c.tc : Thread Cert.ModbRefIdeal.nD Cert.ModbRefIdeal.τ).loc Cert.ModbRefIdeal.main_arg1) = m ((c.tc : Thread Cert.ModbRefIdeal.nD Cert.ModbRefIdeal.τ).loc Cert.ModbRefIdeal.main_arg1)
      ∧ r.2.mem ((c.tc : Thread Cert.ModbRefIdeal.nD Cert.ModbRefIdeal.τ).loc Cert.ModbRefIdeal.main_arg2) = m ((c.tc : Thread Cert.ModbRefIdeal.nD Cert.ModbRefIdeal.τ).loc Cert.ModbRefIdeal.main_arg2)
      ∧ r.2.mem ((c.tc : Thread Cert.ModbRefIdeal.nD Cert.ModbRefIdeal.τ).loc Cert.ModbRefIdeal.main_arg3) = m ((c.tc : Thread Cert.ModbRefIdeal.nD Cert.ModbRefIdeal.τ).loc Cert.ModbRefIdeal.main_arg3)
      ∧ r.2.mem ((c.tc : Thread Cert.ModbRefIdeal.nD Cert.ModbRefIdeal.τ).loc Cert.ModbRefIdeal.main_arg4) = m ((c.tc : Thread Cert.ModbRefIdeal.nD Cert.ModbRefIdeal.τ).loc Cert.ModbRefIdeal.main_arg4)
      ∧ r.2.mem ((c.tc : Thread Cert.ModbRefIdeal.nD Cert.ModbRefIdeal.τ).loc Cert.ModbRefIdeal.main_arg5) = m ((c.tc : Thread Cert.ModbRefIdeal.nD Cert.ModbRefIdeal.τ).loc Cert.ModbRefIdeal.main_arg5))
      ∧ r.2.sem = fun _ => 0)

def quiescent_Moda [hModa : Cert.Moda.Facts] : Prop :=
  ∀ (m : (ℓ : Loc Cert.Moda.nD Cert.Moda.τ Cert.Moda.sig) → Buf (Elt Bits) ℓ) (g : Dev Cert.Moda.nD → PrngReg), Pre_Moda m →
    θ_run (Cert.Moda.defs (F := Bits)) (onTc (τ := Cert.Moda.τ) (Cert.Moda.main (F := Bits))) ⟨m, fun _ => 0, g⟩ (fun r => (∀ c : Dev Cert.Moda.nD,
      r.2.mem ((c.tc : Thread Cert.Moda.nD Cert.Moda.τ).loc Cert.Moda.main_arg0) = m ((c.tc : Thread Cert.Moda.nD Cert.Moda.τ).loc Cert.Moda.main_arg0)
      ∧ r.2.mem ((c.tc : Thread Cert.Moda.nD Cert.Moda.τ).loc Cert.Moda.main_arg1) = m ((c.tc : Thread Cert.Moda.nD Cert.Moda.τ).loc Cert.Moda.main_arg1)
      ∧ r.2.mem ((c.tc : Thread Cert.Moda.nD Cert.Moda.τ).loc Cert.Moda.main_arg2) = m ((c.tc : Thread Cert.Moda.nD Cert.Moda.τ).loc Cert.Moda.main_arg2)
      ∧ r.2.mem ((c.tc : Thread Cert.Moda.nD Cert.Moda.τ).loc Cert.Moda.main_arg3) = m ((c.tc : Thread Cert.Moda.nD Cert.Moda.τ).loc Cert.Moda.main_arg3)
      ∧ r.2.mem ((c.tc : Thread Cert.Moda.nD Cert.Moda.τ).loc Cert.Moda.main_arg4) = m ((c.tc : Thread Cert.Moda.nD Cert.Moda.τ).loc Cert.Moda.main_arg4)
      ∧ r.2.mem ((c.tc : Thread Cert.Moda.nD Cert.Moda.τ).loc Cert.Moda.main_arg5) = m ((c.tc : Thread Cert.Moda.nD Cert.Moda.τ).loc Cert.Moda.main_arg5))
      ∧ r.2.sem = fun _ => 0)

def quiescent_ModaIdeal [hModaIdeal : Cert.ModaIdeal.Facts] : Prop :=
  ∀ (m : (ℓ : Loc Cert.ModaIdeal.nD Cert.ModaIdeal.τ Cert.ModaIdeal.sig) → Buf (Elt Ideal) ℓ) (g : Dev Cert.ModaIdeal.nD → PrngReg), Pre_ModaIdeal m →
    θ_run (Cert.ModaIdeal.defs (F := Ideal)) (onTc (τ := Cert.ModaIdeal.τ) (Cert.ModaIdeal.main (F := Ideal))) ⟨m, fun _ => 0, g⟩ (fun r => (∀ c : Dev Cert.ModaIdeal.nD,
      r.2.mem ((c.tc : Thread Cert.ModaIdeal.nD Cert.ModaIdeal.τ).loc Cert.ModaIdeal.main_arg0) = m ((c.tc : Thread Cert.ModaIdeal.nD Cert.ModaIdeal.τ).loc Cert.ModaIdeal.main_arg0)
      ∧ r.2.mem ((c.tc : Thread Cert.ModaIdeal.nD Cert.ModaIdeal.τ).loc Cert.ModaIdeal.main_arg1) = m ((c.tc : Thread Cert.ModaIdeal.nD Cert.ModaIdeal.τ).loc Cert.ModaIdeal.main_arg1)
      ∧ r.2.mem ((c.tc : Thread Cert.ModaIdeal.nD Cert.ModaIdeal.τ).loc Cert.ModaIdeal.main_arg2) = m ((c.tc : Thread Cert.ModaIdeal.nD Cert.ModaIdeal.τ).loc Cert.ModaIdeal.main_arg2)
      ∧ r.2.mem ((c.tc : Thread Cert.ModaIdeal.nD Cert.ModaIdeal.τ).loc Cert.ModaIdeal.main_arg3) = m ((c.tc : Thread Cert.ModaIdeal.nD Cert.ModaIdeal.τ).loc Cert.ModaIdeal.main_arg3)
      ∧ r.2.mem ((c.tc : Thread Cert.ModaIdeal.nD Cert.ModaIdeal.τ).loc Cert.ModaIdeal.main_arg4) = m ((c.tc : Thread Cert.ModaIdeal.nD Cert.ModaIdeal.τ).loc Cert.ModaIdeal.main_arg4)
      ∧ r.2.mem ((c.tc : Thread Cert.ModaIdeal.nD Cert.ModaIdeal.τ).loc Cert.ModaIdeal.main_arg5) = m ((c.tc : Thread Cert.ModaIdeal.nD Cert.ModaIdeal.τ).loc Cert.ModaIdeal.main_arg5))
      ∧ r.2.sem = fun _ => 0)

def quiescent_ModaIdeal_pre_finite_mod1 [hModaIdeal : Cert.ModaIdeal.Facts] [hPre_finite_mod1 : Cert.Pre_finite_mod1.Facts] : Prop :=
  ∀ (m : (ℓ : Loc Cert.ModaIdeal.nD Cert.ModaIdeal.τ Cert.ModaIdeal.sig) → Buf (Elt Ideal) ℓ) (g : Dev Cert.ModaIdeal.nD → PrngReg), Pre_ModaIdeal_finite_mod1 m →
    θ_run (Cert.ModaIdeal.defs (F := Ideal)) (onTc (τ := Cert.ModaIdeal.τ) (Cert.ModaIdeal.main (F := Ideal))) ⟨m, fun _ => 0, g⟩ (fun r => (∀ c : Dev Cert.ModaIdeal.nD,
      r.2.mem ((c.tc : Thread Cert.ModaIdeal.nD Cert.ModaIdeal.τ).loc Cert.ModaIdeal.main_arg0) = m ((c.tc : Thread Cert.ModaIdeal.nD Cert.ModaIdeal.τ).loc Cert.ModaIdeal.main_arg0)
      ∧ r.2.mem ((c.tc : Thread Cert.ModaIdeal.nD Cert.ModaIdeal.τ).loc Cert.ModaIdeal.main_arg1) = m ((c.tc : Thread Cert.ModaIdeal.nD Cert.ModaIdeal.τ).loc Cert.ModaIdeal.main_arg1)
      ∧ r.2.mem ((c.tc : Thread Cert.ModaIdeal.nD Cert.ModaIdeal.τ).loc Cert.ModaIdeal.main_arg2) = m ((c.tc : Thread Cert.ModaIdeal.nD Cert.ModaIdeal.τ).loc Cert.ModaIdeal.main_arg2)
      ∧ r.2.mem ((c.tc : Thread Cert.ModaIdeal.nD Cert.ModaIdeal.τ).loc Cert.ModaIdeal.main_arg3) = m ((c.tc : Thread Cert.ModaIdeal.nD Cert.ModaIdeal.τ).loc Cert.ModaIdeal.main_arg3)
      ∧ r.2.mem ((c.tc : Thread Cert.ModaIdeal.nD Cert.ModaIdeal.τ).loc Cert.ModaIdeal.main_arg4) = m ((c.tc : Thread Cert.ModaIdeal.nD Cert.ModaIdeal.τ).loc Cert.ModaIdeal.main_arg4)
      ∧ r.2.mem ((c.tc : Thread Cert.ModaIdeal.nD Cert.ModaIdeal.τ).loc Cert.ModaIdeal.main_arg5) = m ((c.tc : Thread Cert.ModaIdeal.nD Cert.ModaIdeal.τ).loc Cert.ModaIdeal.main_arg5))
      ∧ r.2.sem = fun _ => 0)

def quiescent_ModaRefIdeal [hModaRefIdeal : Cert.ModaRefIdeal.Facts] : Prop :=
  ∀ (m : (ℓ : Loc Cert.ModaRefIdeal.nD Cert.ModaRefIdeal.τ Cert.ModaRefIdeal.sig) → Buf (Elt Ideal) ℓ) (g : Dev Cert.ModaRefIdeal.nD → PrngReg), Pre_ModaRefIdeal m →
    θ_run (Cert.ModaRefIdeal.defs (F := Ideal)) (onTc (τ := Cert.ModaRefIdeal.τ) (Cert.ModaRefIdeal.main (F := Ideal))) ⟨m, fun _ => 0, g⟩ (fun r => (∀ c : Dev Cert.ModaRefIdeal.nD,
      r.2.mem ((c.tc : Thread Cert.ModaRefIdeal.nD Cert.ModaRefIdeal.τ).loc Cert.ModaRefIdeal.main_arg0) = m ((c.tc : Thread Cert.ModaRefIdeal.nD Cert.ModaRefIdeal.τ).loc Cert.ModaRefIdeal.main_arg0)
      ∧ r.2.mem ((c.tc : Thread Cert.ModaRefIdeal.nD Cert.ModaRefIdeal.τ).loc Cert.ModaRefIdeal.main_arg1) = m ((c.tc : Thread Cert.ModaRefIdeal.nD Cert.ModaRefIdeal.τ).loc Cert.ModaRefIdeal.main_arg1)
      ∧ r.2.mem ((c.tc : Thread Cert.ModaRefIdeal.nD Cert.ModaRefIdeal.τ).loc Cert.ModaRefIdeal.main_arg2) = m ((c.tc : Thread Cert.ModaRefIdeal.nD Cert.ModaRefIdeal.τ).loc Cert.ModaRefIdeal.main_arg2)
      ∧ r.2.mem ((c.tc : Thread Cert.ModaRefIdeal.nD Cert.ModaRefIdeal.τ).loc Cert.ModaRefIdeal.main_arg3) = m ((c.tc : Thread Cert.ModaRefIdeal.nD Cert.ModaRefIdeal.τ).loc Cert.ModaRefIdeal.main_arg3)
      ∧ r.2.mem ((c.tc : Thread Cert.ModaRefIdeal.nD Cert.ModaRefIdeal.τ).loc Cert.ModaRefIdeal.main_arg4) = m ((c.tc : Thread Cert.ModaRefIdeal.nD Cert.ModaRefIdeal.τ).loc Cert.ModaRefIdeal.main_arg4)
      ∧ r.2.mem ((c.tc : Thread Cert.ModaRefIdeal.nD Cert.ModaRefIdeal.τ).loc Cert.ModaRefIdeal.main_arg5) = m ((c.tc : Thread Cert.ModaRefIdeal.nD Cert.ModaRefIdeal.τ).loc Cert.ModaRefIdeal.main_arg5))
      ∧ r.2.sem = fun _ => 0)

def quiescent_ModaRefIdeal_pre_finite_mod1 [hModaRefIdeal : Cert.ModaRefIdeal.Facts] [hPre_finite_mod1 : Cert.Pre_finite_mod1.Facts] : Prop :=
  ∀ (m : (ℓ : Loc Cert.ModaRefIdeal.nD Cert.ModaRefIdeal.τ Cert.ModaRefIdeal.sig) → Buf (Elt Ideal) ℓ) (g : Dev Cert.ModaRefIdeal.nD → PrngReg), Pre_ModaRefIdeal_finite_mod1 m →
    θ_run (Cert.ModaRefIdeal.defs (F := Ideal)) (onTc (τ := Cert.ModaRefIdeal.τ) (Cert.ModaRefIdeal.main (F := Ideal))) ⟨m, fun _ => 0, g⟩ (fun r => (∀ c : Dev Cert.ModaRefIdeal.nD,
      r.2.mem ((c.tc : Thread Cert.ModaRefIdeal.nD Cert.ModaRefIdeal.τ).loc Cert.ModaRefIdeal.main_arg0) = m ((c.tc : Thread Cert.ModaRefIdeal.nD Cert.ModaRefIdeal.τ).loc Cert.ModaRefIdeal.main_arg0)
      ∧ r.2.mem ((c.tc : Thread Cert.ModaRefIdeal.nD Cert.ModaRefIdeal.τ).loc Cert.ModaRefIdeal.main_arg1) = m ((c.tc : Thread Cert.ModaRefIdeal.nD Cert.ModaRefIdeal.τ).loc Cert.ModaRefIdeal.main_arg1)
      ∧ r.2.mem ((c.tc : Thread Cert.ModaRefIdeal.nD Cert.ModaRefIdeal.τ).loc Cert.ModaRefIdeal.main_arg2) = m ((c.tc : Thread Cert.ModaRefIdeal.nD Cert.ModaRefIdeal.τ).loc Cert.ModaRefIdeal.main_arg2)
      ∧ r.2.mem ((c.tc : Thread Cert.ModaRefIdeal.nD Cert.ModaRefIdeal.τ).loc Cert.ModaRefIdeal.main_arg3) = m ((c.tc : Thread Cert.ModaRefIdeal.nD Cert.ModaRefIdeal.τ).loc Cert.ModaRefIdeal.main_arg3)
      ∧ r.2.mem ((c.tc : Thread Cert.ModaRefIdeal.nD Cert.ModaRefIdeal.τ).loc Cert.ModaRefIdeal.main_arg4) = m ((c.tc : Thread Cert.ModaRefIdeal.nD Cert.ModaRefIdeal.τ).loc Cert.ModaRefIdeal.main_arg4)
      ∧ r.2.mem ((c.tc : Thread Cert.ModaRefIdeal.nD Cert.ModaRefIdeal.τ).loc Cert.ModaRefIdeal.main_arg5) = m ((c.tc : Thread Cert.ModaRefIdeal.nD Cert.ModaRefIdeal.τ).loc Cert.ModaRefIdeal.main_arg5))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4)
      ∧ r.2.mem ((c.tc : Thread Cert.Final.nD Cert.Final.τ).loc Cert.Final.main_arg5) = m ((c.tc : Thread Cert.Final.nD Cert.Final.τ).loc Cert.Final.main_arg5))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
      ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5))
      ∧ r.2.sem = fun _ => 0)

def quiescent_FinalIdeal_pre_finite_final [hFinalIdeal : Cert.FinalIdeal.Facts] [hPre_finite_final : Cert.Pre_finite_final.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal_finite_final m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
      ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3)
      ∧ r.2.mem ((c.tc : Thread Cert.FinalRefIdeal.nD Cert.FinalRefIdeal.τ).loc Cert.FinalRefIdeal.main_arg4) = m ((c.tc : Thread Cert.FinalRefIdeal.nD Cert.FinalRefIdeal.τ).loc Cert.FinalRefIdeal.main_arg4)
      ∧ r.2.mem ((c.tc : Thread Cert.FinalRefIdeal.nD Cert.FinalRefIdeal.τ).loc Cert.FinalRefIdeal.main_arg5) = m ((c.tc : Thread Cert.FinalRefIdeal.nD Cert.FinalRefIdeal.τ).loc Cert.FinalRefIdeal.main_arg5))
      ∧ r.2.sem = fun _ => 0)

def quiescent_FinalRefIdeal_pre_finite_final [hFinalRefIdeal : Cert.FinalRefIdeal.Facts] [hPre_finite_final : Cert.Pre_finite_final.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal_finite_final m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3)
      ∧ r.2.mem ((c.tc : Thread Cert.FinalRefIdeal.nD Cert.FinalRefIdeal.τ).loc Cert.FinalRefIdeal.main_arg4) = m ((c.tc : Thread Cert.FinalRefIdeal.nD Cert.FinalRefIdeal.τ).loc Cert.FinalRefIdeal.main_arg4)
      ∧ r.2.mem ((c.tc : Thread Cert.FinalRefIdeal.nD Cert.FinalRefIdeal.τ).loc Cert.FinalRefIdeal.main_arg5) = m ((c.tc : Thread Cert.FinalRefIdeal.nD Cert.FinalRefIdeal.τ).loc Cert.FinalRefIdeal.main_arg5))
      ∧ r.2.sem = fun _ => 0)

def quiescent_Adaln [hAdaln : Cert.Adaln.Facts] : Prop :=
  ∀ (m : (ℓ : Loc Cert.Adaln.nD Cert.Adaln.τ Cert.Adaln.sig) → Buf (Elt Bits) ℓ) (g : Dev Cert.Adaln.nD → PrngReg), Pre_Adaln m →
    θ_run (Cert.Adaln.defs (F := Bits)) (onTc (τ := Cert.Adaln.τ) (Cert.Adaln.main (F := Bits))) ⟨m, fun _ => 0, g⟩ (fun r => (∀ c : Dev Cert.Adaln.nD,
      r.2.mem ((c.tc : Thread Cert.Adaln.nD Cert.Adaln.τ).loc Cert.Adaln.main_arg0) = m ((c.tc : Thread Cert.Adaln.nD Cert.Adaln.τ).loc Cert.Adaln.main_arg0)
      ∧ r.2.mem ((c.tc : Thread Cert.Adaln.nD Cert.Adaln.τ).loc Cert.Adaln.main_arg1) = m ((c.tc : Thread Cert.Adaln.nD Cert.Adaln.τ).loc Cert.Adaln.main_arg1)
      ∧ r.2.mem ((c.tc : Thread Cert.Adaln.nD Cert.Adaln.τ).loc Cert.Adaln.main_arg2) = m ((c.tc : Thread Cert.Adaln.nD Cert.Adaln.τ).loc Cert.Adaln.main_arg2)
      ∧ r.2.mem ((c.tc : Thread Cert.Adaln.nD Cert.Adaln.τ).loc Cert.Adaln.main_arg3) = m ((c.tc : Thread Cert.Adaln.nD Cert.Adaln.τ).loc Cert.Adaln.main_arg3)
      ∧ r.2.mem ((c.tc : Thread Cert.Adaln.nD Cert.Adaln.τ).loc Cert.Adaln.main_arg4) = m ((c.tc : Thread Cert.Adaln.nD Cert.Adaln.τ).loc Cert.Adaln.main_arg4)
      ∧ r.2.mem ((c.tc : Thread Cert.Adaln.nD Cert.Adaln.τ).loc Cert.Adaln.main_arg5) = m ((c.tc : Thread Cert.Adaln.nD Cert.Adaln.τ).loc Cert.Adaln.main_arg5))
      ∧ r.2.sem = fun _ => 0)

def quiescent_AdalnIdeal [hAdalnIdeal : Cert.AdalnIdeal.Facts] : Prop :=
  ∀ (m : (ℓ : Loc Cert.AdalnIdeal.nD Cert.AdalnIdeal.τ Cert.AdalnIdeal.sig) → Buf (Elt Ideal) ℓ) (g : Dev Cert.AdalnIdeal.nD → PrngReg), Pre_AdalnIdeal m →
    θ_run (Cert.AdalnIdeal.defs (F := Ideal)) (onTc (τ := Cert.AdalnIdeal.τ) (Cert.AdalnIdeal.main (F := Ideal))) ⟨m, fun _ => 0, g⟩ (fun r => (∀ c : Dev Cert.AdalnIdeal.nD,
      r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
      ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
      ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2)
      ∧ r.2.mem ((c.tc : Thread Cert.AdalnIdeal.nD Cert.AdalnIdeal.τ).loc Cert.AdalnIdeal.main_arg3) = m ((c.tc : Thread Cert.AdalnIdeal.nD Cert.AdalnIdeal.τ).loc Cert.AdalnIdeal.main_arg3)
      ∧ r.2.mem ((c.tc : Thread Cert.AdalnIdeal.nD Cert.AdalnIdeal.τ).loc Cert.AdalnIdeal.main_arg4) = m ((c.tc : Thread Cert.AdalnIdeal.nD Cert.AdalnIdeal.τ).loc Cert.AdalnIdeal.main_arg4)
      ∧ r.2.mem ((c.tc : Thread Cert.AdalnIdeal.nD Cert.AdalnIdeal.τ).loc Cert.AdalnIdeal.main_arg5) = m ((c.tc : Thread Cert.AdalnIdeal.nD Cert.AdalnIdeal.τ).loc Cert.AdalnIdeal.main_arg5))
      ∧ r.2.sem = fun _ => 0)

def quiescent_AdalnRefIdeal [hAdalnRefIdeal : Cert.AdalnRefIdeal.Facts] : Prop :=
  ∀ (m : (ℓ : Loc Cert.AdalnRefIdeal.nD Cert.AdalnRefIdeal.τ Cert.AdalnRefIdeal.sig) → Buf (Elt Ideal) ℓ) (g : Dev Cert.AdalnRefIdeal.nD → PrngReg), Pre_AdalnRefIdeal m →
    θ_run (Cert.AdalnRefIdeal.defs (F := Ideal)) (onTc (τ := Cert.AdalnRefIdeal.τ) (Cert.AdalnRefIdeal.main (F := Ideal))) ⟨m, fun _ => 0, g⟩ (fun r => (∀ c : Dev Cert.AdalnRefIdeal.nD,
      r.2.mem ((c.tc : Thread Cert.AdalnRefIdeal.nD Cert.AdalnRefIdeal.τ).loc Cert.AdalnRefIdeal.main_arg0) = m ((c.tc : Thread Cert.AdalnRefIdeal.nD Cert.AdalnRefIdeal.τ).loc Cert.AdalnRefIdeal.main_arg0)
      ∧ r.2.mem ((c.tc : Thread Cert.AdalnRefIdeal.nD Cert.AdalnRefIdeal.τ).loc Cert.AdalnRefIdeal.main_arg1) = m ((c.tc : Thread Cert.AdalnRefIdeal.nD Cert.AdalnRefIdeal.τ).loc Cert.AdalnRefIdeal.main_arg1)
      ∧ r.2.mem ((c.tc : Thread Cert.AdalnRefIdeal.nD Cert.AdalnRefIdeal.τ).loc Cert.AdalnRefIdeal.main_arg2) = m ((c.tc : Thread Cert.AdalnRefIdeal.nD Cert.AdalnRefIdeal.τ).loc Cert.AdalnRefIdeal.main_arg2)
      ∧ r.2.mem ((c.tc : Thread Cert.AdalnRefIdeal.nD Cert.AdalnRefIdeal.τ).loc Cert.AdalnRefIdeal.main_arg3) = m ((c.tc : Thread Cert.AdalnRefIdeal.nD Cert.AdalnRefIdeal.τ).loc Cert.AdalnRefIdeal.main_arg3)
      ∧ r.2.mem ((c.tc : Thread Cert.AdalnRefIdeal.nD Cert.AdalnRefIdeal.τ).loc Cert.AdalnRefIdeal.main_arg4) = m ((c.tc : Thread Cert.AdalnRefIdeal.nD Cert.AdalnRefIdeal.τ).loc Cert.AdalnRefIdeal.main_arg4)
      ∧ r.2.mem ((c.tc : Thread Cert.AdalnRefIdeal.nD Cert.AdalnRefIdeal.τ).loc Cert.AdalnRefIdeal.main_arg5) = m ((c.tc : Thread Cert.AdalnRefIdeal.nD Cert.AdalnRefIdeal.τ).loc Cert.AdalnRefIdeal.main_arg5))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdIdeal_pre_finite_qk [hFwdIdeal : Cert.FwdIdeal.Facts] [hPre_finite_qk : Cert.Pre_finite_qk.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_finite_qk m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_FwdRefIdeal_pre_finite_qk [hFwdRefIdeal : Cert.FwdRefIdeal.Facts] [hPre_finite_qk : Cert.Pre_finite_qk.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_finite_qk m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6)
      ∧ r.2.mem ((c.tc : Thread Cert.Head.nD Cert.Head.τ).loc Cert.Head.main_arg7) = m ((c.tc : Thread Cert.Head.nD Cert.Head.τ).loc Cert.Head.main_arg7)
      ∧ r.2.mem ((c.tc : Thread Cert.Head.nD Cert.Head.τ).loc Cert.Head.main_arg8) = m ((c.tc : Thread Cert.Head.nD Cert.Head.τ).loc Cert.Head.main_arg8)
      ∧ r.2.mem ((c.tc : Thread Cert.Head.nD Cert.Head.τ).loc Cert.Head.main_arg9) = m ((c.tc : Thread Cert.Head.nD Cert.Head.τ).loc Cert.Head.main_arg9)
      ∧ r.2.mem ((c.tc : Thread Cert.Head.nD Cert.Head.τ).loc Cert.Head.main_arg10) = m ((c.tc : Thread Cert.Head.nD Cert.Head.τ).loc Cert.Head.main_arg10))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
      ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
      ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
      ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9)
      ∧ r.2.mem ((c.tc : Thread Cert.HeadIdeal.nD Cert.HeadIdeal.τ).loc Cert.HeadIdeal.main_arg10) = m ((c.tc : Thread Cert.HeadIdeal.nD Cert.HeadIdeal.τ).loc Cert.HeadIdeal.main_arg10))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6)
      ∧ r.2.mem ((c.tc : Thread Cert.HeadRefIdeal.nD Cert.HeadRefIdeal.τ).loc Cert.HeadRefIdeal.main_arg7) = m ((c.tc : Thread Cert.HeadRefIdeal.nD Cert.HeadRefIdeal.τ).loc Cert.HeadRefIdeal.main_arg7)
      ∧ r.2.mem ((c.tc : Thread Cert.HeadRefIdeal.nD Cert.HeadRefIdeal.τ).loc Cert.HeadRefIdeal.main_arg8) = m ((c.tc : Thread Cert.HeadRefIdeal.nD Cert.HeadRefIdeal.τ).loc Cert.HeadRefIdeal.main_arg8)
      ∧ r.2.mem ((c.tc : Thread Cert.HeadRefIdeal.nD Cert.HeadRefIdeal.τ).loc Cert.HeadRefIdeal.main_arg9) = m ((c.tc : Thread Cert.HeadRefIdeal.nD Cert.HeadRefIdeal.τ).loc Cert.HeadRefIdeal.main_arg9)
      ∧ r.2.mem ((c.tc : Thread Cert.HeadRefIdeal.nD Cert.HeadRefIdeal.τ).loc Cert.HeadRefIdeal.main_arg10) = m ((c.tc : Thread Cert.HeadRefIdeal.nD Cert.HeadRefIdeal.τ).loc Cert.HeadRefIdeal.main_arg10))
      ∧ r.2.sem = fun _ => 0)

def quiescent_HeadCtx [hHeadCtx : Cert.HeadCtx.Facts] : Prop :=
  ∀ (m : (ℓ : Loc Cert.HeadCtx.nD Cert.HeadCtx.τ Cert.HeadCtx.sig) → Buf (Elt Bits) ℓ) (g : Dev Cert.HeadCtx.nD → PrngReg), Pre_HeadCtx m →
    θ_run (Cert.HeadCtx.defs (F := Bits)) (onTc (τ := Cert.HeadCtx.τ) (Cert.HeadCtx.main (F := Bits))) ⟨m, fun _ => 0, g⟩ (fun r => (∀ c : Dev Cert.HeadCtx.nD,
      r.2.mem ((c.tc : Thread Cert.HeadCtx.nD Cert.HeadCtx.τ).loc Cert.HeadCtx.main_arg0) = m ((c.tc : Thread Cert.HeadCtx.nD Cert.HeadCtx.τ).loc Cert.HeadCtx.main_arg0)
      ∧ r.2.mem ((c.tc : Thread Cert.HeadCtx.nD Cert.HeadCtx.τ).loc Cert.HeadCtx.main_arg1) = m ((c.tc : Thread Cert.HeadCtx.nD Cert.HeadCtx.τ).loc Cert.HeadCtx.main_arg1)
      ∧ r.2.mem ((c.tc : Thread Cert.HeadCtx.nD Cert.HeadCtx.τ).loc Cert.HeadCtx.main_arg2) = m ((c.tc : Thread Cert.HeadCtx.nD Cert.HeadCtx.τ).loc Cert.HeadCtx.main_arg2)
      ∧ r.2.mem ((c.tc : Thread Cert.HeadCtx.nD Cert.HeadCtx.τ).loc Cert.HeadCtx.main_arg3) = m ((c.tc : Thread Cert.HeadCtx.nD Cert.HeadCtx.τ).loc Cert.HeadCtx.main_arg3)
      ∧ r.2.mem ((c.tc : Thread Cert.HeadCtx.nD Cert.HeadCtx.τ).loc Cert.HeadCtx.main_arg4) = m ((c.tc : Thread Cert.HeadCtx.nD Cert.HeadCtx.τ).loc Cert.HeadCtx.main_arg4)
      ∧ r.2.mem ((c.tc : Thread Cert.HeadCtx.nD Cert.HeadCtx.τ).loc Cert.HeadCtx.main_arg5) = m ((c.tc : Thread Cert.HeadCtx.nD Cert.HeadCtx.τ).loc Cert.HeadCtx.main_arg5)
      ∧ r.2.mem ((c.tc : Thread Cert.HeadCtx.nD Cert.HeadCtx.τ).loc Cert.HeadCtx.main_arg6) = m ((c.tc : Thread Cert.HeadCtx.nD Cert.HeadCtx.τ).loc Cert.HeadCtx.main_arg6)
      ∧ r.2.mem ((c.tc : Thread Cert.HeadCtx.nD Cert.HeadCtx.τ).loc Cert.HeadCtx.main_arg7) = m ((c.tc : Thread Cert.HeadCtx.nD Cert.HeadCtx.τ).loc Cert.HeadCtx.main_arg7)
      ∧ r.2.mem ((c.tc : Thread Cert.HeadCtx.nD Cert.HeadCtx.τ).loc Cert.HeadCtx.main_arg8) = m ((c.tc : Thread Cert.HeadCtx.nD Cert.HeadCtx.τ).loc Cert.HeadCtx.main_arg8)
      ∧ r.2.mem ((c.tc : Thread Cert.HeadCtx.nD Cert.HeadCtx.τ).loc Cert.HeadCtx.main_arg9) = m ((c.tc : Thread Cert.HeadCtx.nD Cert.HeadCtx.τ).loc Cert.HeadCtx.main_arg9)
      ∧ r.2.mem ((c.tc : Thread Cert.HeadCtx.nD Cert.HeadCtx.τ).loc Cert.HeadCtx.main_arg10) = m ((c.tc : Thread Cert.HeadCtx.nD Cert.HeadCtx.τ).loc Cert.HeadCtx.main_arg10)
      ∧ r.2.mem ((c.tc : Thread Cert.HeadCtx.nD Cert.HeadCtx.τ).loc Cert.HeadCtx.main_arg11) = m ((c.tc : Thread Cert.HeadCtx.nD Cert.HeadCtx.τ).loc Cert.HeadCtx.main_arg11)
      ∧ r.2.mem ((c.tc : Thread Cert.HeadCtx.nD Cert.HeadCtx.τ).loc Cert.HeadCtx.main_arg12) = m ((c.tc : Thread Cert.HeadCtx.nD Cert.HeadCtx.τ).loc Cert.HeadCtx.main_arg12)
      ∧ r.2.mem ((c.tc : Thread Cert.HeadCtx.nD Cert.HeadCtx.τ).loc Cert.HeadCtx.main_arg13) = m ((c.tc : Thread Cert.HeadCtx.nD Cert.HeadCtx.τ).loc Cert.HeadCtx.main_arg13)
      ∧ r.2.mem ((c.tc : Thread Cert.HeadCtx.nD Cert.HeadCtx.τ).loc Cert.HeadCtx.main_arg14) = m ((c.tc : Thread Cert.HeadCtx.nD Cert.HeadCtx.τ).loc Cert.HeadCtx.main_arg14))
      ∧ r.2.sem = fun _ => 0)

def quiescent_HeadCtxIdeal [hHeadCtxIdeal : Cert.HeadCtxIdeal.Facts] : Prop :=
  ∀ (m : (ℓ : Loc Cert.HeadCtxIdeal.nD Cert.HeadCtxIdeal.τ Cert.HeadCtxIdeal.sig) → Buf (Elt Ideal) ℓ) (g : Dev Cert.HeadCtxIdeal.nD → PrngReg), Pre_HeadCtxIdeal m →
    θ_run (Cert.HeadCtxIdeal.defs (F := Ideal)) (onTc (τ := Cert.HeadCtxIdeal.τ) (Cert.HeadCtxIdeal.main (F := Ideal))) ⟨m, fun _ => 0, g⟩ (fun r => (∀ c : Dev Cert.HeadCtxIdeal.nD,
      r.2.mem ((c.tc : Thread Cert.HeadCtxIdeal.nD Cert.HeadCtxIdeal.τ).loc Cert.HeadCtxIdeal.main_arg0) = m ((c.tc : Thread Cert.HeadCtxIdeal.nD Cert.HeadCtxIdeal.τ).loc Cert.HeadCtxIdeal.main_arg0)
      ∧ r.2.mem ((c.tc : Thread Cert.HeadCtxIdeal.nD Cert.HeadCtxIdeal.τ).loc Cert.HeadCtxIdeal.main_arg1) = m ((c.tc : Thread Cert.HeadCtxIdeal.nD Cert.HeadCtxIdeal.τ).loc Cert.HeadCtxIdeal.main_arg1)
      ∧ r.2.mem ((c.tc : Thread Cert.HeadCtxIdeal.nD Cert.HeadCtxIdeal.τ).loc Cert.HeadCtxIdeal.main_arg2) = m ((c.tc : Thread Cert.HeadCtxIdeal.nD Cert.HeadCtxIdeal.τ).loc Cert.HeadCtxIdeal.main_arg2)
      ∧ r.2.mem ((c.tc : Thread Cert.HeadCtxIdeal.nD Cert.HeadCtxIdeal.τ).loc Cert.HeadCtxIdeal.main_arg3) = m ((c.tc : Thread Cert.HeadCtxIdeal.nD Cert.HeadCtxIdeal.τ).loc Cert.HeadCtxIdeal.main_arg3)
      ∧ r.2.mem ((c.tc : Thread Cert.HeadCtxIdeal.nD Cert.HeadCtxIdeal.τ).loc Cert.HeadCtxIdeal.main_arg4) = m ((c.tc : Thread Cert.HeadCtxIdeal.nD Cert.HeadCtxIdeal.τ).loc Cert.HeadCtxIdeal.main_arg4)
      ∧ r.2.mem ((c.tc : Thread Cert.HeadCtxIdeal.nD Cert.HeadCtxIdeal.τ).loc Cert.HeadCtxIdeal.main_arg5) = m ((c.tc : Thread Cert.HeadCtxIdeal.nD Cert.HeadCtxIdeal.τ).loc Cert.HeadCtxIdeal.main_arg5)
      ∧ r.2.mem ((c.tc : Thread Cert.HeadCtxIdeal.nD Cert.HeadCtxIdeal.τ).loc Cert.HeadCtxIdeal.main_arg6) = m ((c.tc : Thread Cert.HeadCtxIdeal.nD Cert.HeadCtxIdeal.τ).loc Cert.HeadCtxIdeal.main_arg6)
      ∧ r.2.mem ((c.tc : Thread Cert.HeadCtxIdeal.nD Cert.HeadCtxIdeal.τ).loc Cert.HeadCtxIdeal.main_arg7) = m ((c.tc : Thread Cert.HeadCtxIdeal.nD Cert.HeadCtxIdeal.τ).loc Cert.HeadCtxIdeal.main_arg7)
      ∧ r.2.mem ((c.tc : Thread Cert.HeadCtxIdeal.nD Cert.HeadCtxIdeal.τ).loc Cert.HeadCtxIdeal.main_arg8) = m ((c.tc : Thread Cert.HeadCtxIdeal.nD Cert.HeadCtxIdeal.τ).loc Cert.HeadCtxIdeal.main_arg8)
      ∧ r.2.mem ((c.tc : Thread Cert.HeadCtxIdeal.nD Cert.HeadCtxIdeal.τ).loc Cert.HeadCtxIdeal.main_arg9) = m ((c.tc : Thread Cert.HeadCtxIdeal.nD Cert.HeadCtxIdeal.τ).loc Cert.HeadCtxIdeal.main_arg9)
      ∧ r.2.mem ((c.tc : Thread Cert.HeadCtxIdeal.nD Cert.HeadCtxIdeal.τ).loc Cert.HeadCtxIdeal.main_arg10) = m ((c.tc : Thread Cert.HeadCtxIdeal.nD Cert.HeadCtxIdeal.τ).loc Cert.HeadCtxIdeal.main_arg10)
      ∧ r.2.mem ((c.tc : Thread Cert.HeadCtxIdeal.nD Cert.HeadCtxIdeal.τ).loc Cert.HeadCtxIdeal.main_arg11) = m ((c.tc : Thread Cert.HeadCtxIdeal.nD Cert.HeadCtxIdeal.τ).loc Cert.HeadCtxIdeal.main_arg11)
      ∧ r.2.mem ((c.tc : Thread Cert.HeadCtxIdeal.nD Cert.HeadCtxIdeal.τ).loc Cert.HeadCtxIdeal.main_arg12) = m ((c.tc : Thread Cert.HeadCtxIdeal.nD Cert.HeadCtxIdeal.τ).loc Cert.HeadCtxIdeal.main_arg12)
      ∧ r.2.mem ((c.tc : Thread Cert.HeadCtxIdeal.nD Cert.HeadCtxIdeal.τ).loc Cert.HeadCtxIdeal.main_arg13) = m ((c.tc : Thread Cert.HeadCtxIdeal.nD Cert.HeadCtxIdeal.τ).loc Cert.HeadCtxIdeal.main_arg13)
      ∧ r.2.mem ((c.tc : Thread Cert.HeadCtxIdeal.nD Cert.HeadCtxIdeal.τ).loc Cert.HeadCtxIdeal.main_arg14) = m ((c.tc : Thread Cert.HeadCtxIdeal.nD Cert.HeadCtxIdeal.τ).loc Cert.HeadCtxIdeal.main_arg14))
      ∧ r.2.sem = fun _ => 0)

def quiescent_HeadCtxRefIdeal [hHeadCtxRefIdeal : Cert.HeadCtxRefIdeal.Facts] : Prop :=
  ∀ (m : (ℓ : Loc Cert.HeadCtxRefIdeal.nD Cert.HeadCtxRefIdeal.τ Cert.HeadCtxRefIdeal.sig) → Buf (Elt Ideal) ℓ) (g : Dev Cert.HeadCtxRefIdeal.nD → PrngReg), Pre_HeadCtxRefIdeal m →
    θ_run (Cert.HeadCtxRefIdeal.defs (F := Ideal)) (onTc (τ := Cert.HeadCtxRefIdeal.τ) (Cert.HeadCtxRefIdeal.main (F := Ideal))) ⟨m, fun _ => 0, g⟩ (fun r => (∀ c : Dev Cert.HeadCtxRefIdeal.nD,
      r.2.mem ((c.tc : Thread Cert.HeadCtxRefIdeal.nD Cert.HeadCtxRefIdeal.τ).loc Cert.HeadCtxRefIdeal.main_arg0) = m ((c.tc : Thread Cert.HeadCtxRefIdeal.nD Cert.HeadCtxRefIdeal.τ).loc Cert.HeadCtxRefIdeal.main_arg0)
      ∧ r.2.mem ((c.tc : Thread Cert.HeadCtxRefIdeal.nD Cert.HeadCtxRefIdeal.τ).loc Cert.HeadCtxRefIdeal.main_arg1) = m ((c.tc : Thread Cert.HeadCtxRefIdeal.nD Cert.HeadCtxRefIdeal.τ).loc Cert.HeadCtxRefIdeal.main_arg1)
      ∧ r.2.mem ((c.tc : Thread Cert.HeadCtxRefIdeal.nD Cert.HeadCtxRefIdeal.τ).loc Cert.HeadCtxRefIdeal.main_arg2) = m ((c.tc : Thread Cert.HeadCtxRefIdeal.nD Cert.HeadCtxRefIdeal.τ).loc Cert.HeadCtxRefIdeal.main_arg2)
      ∧ r.2.mem ((c.tc : Thread Cert.HeadCtxRefIdeal.nD Cert.HeadCtxRefIdeal.τ).loc Cert.HeadCtxRefIdeal.main_arg3) = m ((c.tc : Thread Cert.HeadCtxRefIdeal.nD Cert.HeadCtxRefIdeal.τ).loc Cert.HeadCtxRefIdeal.main_arg3)
      ∧ r.2.mem ((c.tc : Thread Cert.HeadCtxRefIdeal.nD Cert.HeadCtxRefIdeal.τ).loc Cert.HeadCtxRefIdeal.main_arg4) = m ((c.tc : Thread Cert.HeadCtxRefIdeal.nD Cert.HeadCtxRefIdeal.τ).loc Cert.HeadCtxRefIdeal.main_arg4)
      ∧ r.2.mem ((c.tc : Thread Cert.HeadCtxRefIdeal.nD Cert.HeadCtxRefIdeal.τ).loc Cert.HeadCtxRefIdeal.main_arg5) = m ((c.tc : Thread Cert.HeadCtxRefIdeal.nD Cert.HeadCtxRefIdeal.τ).loc Cert.HeadCtxRefIdeal.main_arg5)
      ∧ r.2.mem ((c.tc : Thread Cert.HeadCtxRefIdeal.nD Cert.HeadCtxRefIdeal.τ).loc Cert.HeadCtxRefIdeal.main_arg6) = m ((c.tc : Thread Cert.HeadCtxRefIdeal.nD Cert.HeadCtxRefIdeal.τ).loc Cert.HeadCtxRefIdeal.main_arg6)
      ∧ r.2.mem ((c.tc : Thread Cert.HeadCtxRefIdeal.nD Cert.HeadCtxRefIdeal.τ).loc Cert.HeadCtxRefIdeal.main_arg7) = m ((c.tc : Thread Cert.HeadCtxRefIdeal.nD Cert.HeadCtxRefIdeal.τ).loc Cert.HeadCtxRefIdeal.main_arg7)
      ∧ r.2.mem ((c.tc : Thread Cert.HeadCtxRefIdeal.nD Cert.HeadCtxRefIdeal.τ).loc Cert.HeadCtxRefIdeal.main_arg8) = m ((c.tc : Thread Cert.HeadCtxRefIdeal.nD Cert.HeadCtxRefIdeal.τ).loc Cert.HeadCtxRefIdeal.main_arg8)
      ∧ r.2.mem ((c.tc : Thread Cert.HeadCtxRefIdeal.nD Cert.HeadCtxRefIdeal.τ).loc Cert.HeadCtxRefIdeal.main_arg9) = m ((c.tc : Thread Cert.HeadCtxRefIdeal.nD Cert.HeadCtxRefIdeal.τ).loc Cert.HeadCtxRefIdeal.main_arg9)
      ∧ r.2.mem ((c.tc : Thread Cert.HeadCtxRefIdeal.nD Cert.HeadCtxRefIdeal.τ).loc Cert.HeadCtxRefIdeal.main_arg10) = m ((c.tc : Thread Cert.HeadCtxRefIdeal.nD Cert.HeadCtxRefIdeal.τ).loc Cert.HeadCtxRefIdeal.main_arg10)
      ∧ r.2.mem ((c.tc : Thread Cert.HeadCtxRefIdeal.nD Cert.HeadCtxRefIdeal.τ).loc Cert.HeadCtxRefIdeal.main_arg11) = m ((c.tc : Thread Cert.HeadCtxRefIdeal.nD Cert.HeadCtxRefIdeal.τ).loc Cert.HeadCtxRefIdeal.main_arg11)
      ∧ r.2.mem ((c.tc : Thread Cert.HeadCtxRefIdeal.nD Cert.HeadCtxRefIdeal.τ).loc Cert.HeadCtxRefIdeal.main_arg12) = m ((c.tc : Thread Cert.HeadCtxRefIdeal.nD Cert.HeadCtxRefIdeal.τ).loc Cert.HeadCtxRefIdeal.main_arg12)
      ∧ r.2.mem ((c.tc : Thread Cert.HeadCtxRefIdeal.nD Cert.HeadCtxRefIdeal.τ).loc Cert.HeadCtxRefIdeal.main_arg13) = m ((c.tc : Thread Cert.HeadCtxRefIdeal.nD Cert.HeadCtxRefIdeal.τ).loc Cert.HeadCtxRefIdeal.main_arg13)
      ∧ r.2.mem ((c.tc : Thread Cert.HeadCtxRefIdeal.nD Cert.HeadCtxRefIdeal.τ).loc Cert.HeadCtxRefIdeal.main_arg14) = m ((c.tc : Thread Cert.HeadCtxRefIdeal.nD Cert.HeadCtxRefIdeal.τ).loc Cert.HeadCtxRefIdeal.main_arg14))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v15_0)) (v1 : (c : Dev Cert.ConvIdeal.nD) → Buf (Elt Ideal) ((c.tc : Thread Cert.ConvIdeal.nD Cert.ConvIdeal.τ).loc Cert.ConvIdeal.main_v15_1)) (v2 : (c : Dev Cert.ConvIdeal.nD) → Buf (Elt Ideal) ((c.tc : Thread Cert.ConvIdeal.nD Cert.ConvIdeal.τ).loc Cert.ConvIdeal.main_v15_2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v15_0) = v0 c
          ∧ r.2.mem ((c.tc : Thread Cert.ConvIdeal.nD Cert.ConvIdeal.τ).loc Cert.ConvIdeal.main_v15_1) = v1 c
          ∧ r.2.mem ((c.tc : Thread Cert.ConvIdeal.nD Cert.ConvIdeal.τ).loc Cert.ConvIdeal.main_v15_2) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v82) = v0 c
          ∧ r.2.mem ((c.tc : Thread Cert.ConvRefIdeal.nD Cert.ConvRefIdeal.τ).loc Cert.ConvRefIdeal.main_v68) = v1 c
          ∧ r.2.mem ((c.tc : Thread Cert.ConvRefIdeal.nD Cert.ConvRefIdeal.τ).loc Cert.ConvRefIdeal.main_v87) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4))

def preserves_Attn_AttnIdeal : Prop :=
  IdealRules.named_const.Statement Cert.AttnIdeal.κ "exp2_scale" .f32 0x3E16C740#32 (((Real.sqrt 96)⁻¹ * (Real.log 2)⁻¹ : ℝ) : EReal)
  ∧ IdealRules.named_const.Statement Cert.AttnIdeal.κ "attn_scale" .f32 0x3DD105EC#32 (((Real.sqrt 96)⁻¹ : ℝ) : EReal)

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v85_0)) (v1 : (c : Dev Cert.AttnIdeal.nD) → Buf (Elt Ideal) ((c.tc : Thread Cert.AttnIdeal.nD Cert.AttnIdeal.τ).loc Cert.AttnIdeal.main_v85_1)) (v2 : (c : Dev Cert.AttnIdeal.nD) → Buf (Elt Ideal) ((c.tc : Thread Cert.AttnIdeal.nD Cert.AttnIdeal.τ).loc Cert.AttnIdeal.main_v85_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v85_0) = v0 c
          ∧ r.2.mem ((c.tc : Thread Cert.AttnIdeal.nD Cert.AttnIdeal.τ).loc Cert.AttnIdeal.main_v85_1) = v1 c
          ∧ r.2.mem ((c.tc : Thread Cert.AttnIdeal.nD Cert.AttnIdeal.τ).loc Cert.AttnIdeal.main_v85_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v115) = v0 c
          ∧ r.2.mem ((c.tc : Thread Cert.AttnRefIdeal.nD Cert.AttnRefIdeal.τ).loc Cert.AttnRefIdeal.main_v118) = v1 c
          ∧ r.2.mem ((c.tc : Thread Cert.AttnRefIdeal.nD Cert.AttnRefIdeal.τ).loc Cert.AttnRefIdeal.main_v120) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_Act_ActIdeal : Prop :=
  True

def algebraic_ActIdeal_ActRefIdeal [hActIdeal : Cert.ActIdeal.Facts] [hActRefIdeal : Cert.ActRefIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)
      ∧ m' ((c.tc : Thread Cert.ActRefIdeal.nD Cert.ActRefIdeal.τ).loc Cert.ActRefIdeal.main_arg3) = m ((c.tc : Thread Cert.ActIdeal.nD Cert.ActIdeal.τ).loc Cert.ActIdeal.main_arg3)) →
    ∃ (v0 : (c : Dev Cert.ActIdeal.nD) → Buf (Elt Ideal) ((c.tc : Thread Cert.ActIdeal.nD Cert.ActIdeal.τ).loc Cert.ActIdeal.main_v10)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v10) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v17) = v0 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2)
          ∧ r.2.mem ((c.tc : Thread Cert.ActRefIdeal.nD Cert.ActRefIdeal.τ).loc Cert.ActRefIdeal.main_arg3) = m' ((c.tc : Thread Cert.ActRefIdeal.nD Cert.ActRefIdeal.τ).loc Cert.ActRefIdeal.main_arg3))

def preserves_Ctx_CtxIdeal : Prop :=
  True

def algebraic_CtxIdeal_CtxRefIdeal [hCtxIdeal : Cert.CtxIdeal.Facts] [hCtxRefIdeal : Cert.CtxRefIdeal.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxIdeal m →
    (∀ c : Dev Cert.CtxIdeal.nD,
      m' ((c.tc : Thread Cert.CtxRefIdeal.nD Cert.CtxRefIdeal.τ).loc Cert.CtxRefIdeal.main_arg0) = m ((c.tc : Thread Cert.CtxIdeal.nD Cert.CtxIdeal.τ).loc Cert.CtxIdeal.main_arg0)
      ∧ m' ((c.tc : Thread Cert.CtxRefIdeal.nD Cert.CtxRefIdeal.τ).loc Cert.CtxRefIdeal.main_arg1) = m ((c.tc : Thread Cert.CtxIdeal.nD Cert.CtxIdeal.τ).loc Cert.CtxIdeal.main_arg1)
      ∧ m' ((c.tc : Thread Cert.CtxRefIdeal.nD Cert.CtxRefIdeal.τ).loc Cert.CtxRefIdeal.main_arg2) = m ((c.tc : Thread Cert.CtxIdeal.nD Cert.CtxIdeal.τ).loc Cert.CtxIdeal.main_arg2)) →
    ∃ (v0 : (c : Dev Cert.CtxIdeal.nD) → Buf (Elt Ideal) ((c.tc : Thread Cert.CtxIdeal.nD Cert.CtxIdeal.τ).loc Cert.CtxIdeal.main_v2)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v2) = v0 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
          ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
          ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          r.2.mem ((c.tc : Thread Cert.CtxRefIdeal.nD Cert.CtxRefIdeal.τ).loc Cert.CtxRefIdeal.main_v31) = v0 c
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0)
          ∧ r.2.mem ((c.tc : Thread Cert.CtxRefIdeal.nD Cert.CtxRefIdeal.τ).loc Cert.CtxRefIdeal.main_arg1) = m' ((c.tc : Thread Cert.CtxRefIdeal.nD Cert.CtxRefIdeal.τ).loc Cert.CtxRefIdeal.main_arg1)
          ∧ r.2.mem ((c.tc : Thread Cert.CtxRefIdeal.nD Cert.CtxRefIdeal.τ).loc Cert.CtxRefIdeal.main_arg2) = m' ((c.tc : Thread Cert.CtxRefIdeal.nD Cert.CtxRefIdeal.τ).loc Cert.CtxRefIdeal.main_arg2))

def preserves_Modb_ModbIdeal : Prop :=
  True

def algebraic_ModbIdeal_ModbRefIdeal_pre_finite_mod2 [hModbIdeal : Cert.ModbIdeal.Facts] [hModbRefIdeal : Cert.ModbRefIdeal.Facts] [hPre_finite_mod2 : Cert.Pre_finite_mod2.Facts] : Prop :=
  ∀ (m : (ℓ : Loc Cert.ModbIdeal.nD Cert.ModbIdeal.τ Cert.ModbIdeal.sig) → Buf (Elt Ideal) ℓ) (g : Dev Cert.ModbIdeal.nD → PrngReg)
    (m' : (ℓ : Loc Cert.ModbRefIdeal.nD Cert.ModbRefIdeal.τ Cert.ModbRefIdeal.sig) → Buf (Elt Ideal) ℓ) (g' : Dev Cert.ModbRefIdeal.nD → PrngReg), Pre_ModbIdeal_finite_mod2 m →
    (∀ c : Dev Cert.ModbIdeal.nD,
      m' ((c.tc : Thread Cert.ModbRefIdeal.nD Cert.ModbRefIdeal.τ).loc Cert.ModbRefIdeal.main_arg0) = m ((c.tc : Thread Cert.ModbIdeal.nD Cert.ModbIdeal.τ).loc Cert.ModbIdeal.main_arg0)
      ∧ m' ((c.tc : Thread Cert.ModbRefIdeal.nD Cert.ModbRefIdeal.τ).loc Cert.ModbRefIdeal.main_arg1) = m ((c.tc : Thread Cert.ModbIdeal.nD Cert.ModbIdeal.τ).loc Cert.ModbIdeal.main_arg1)
      ∧ m' ((c.tc : Thread Cert.ModbRefIdeal.nD Cert.ModbRefIdeal.τ).loc Cert.ModbRefIdeal.main_arg2) = m ((c.tc : Thread Cert.ModbIdeal.nD Cert.ModbIdeal.τ).loc Cert.ModbIdeal.main_arg2)
      ∧ m' ((c.tc : Thread Cert.ModbRefIdeal.nD Cert.ModbRefIdeal.τ).loc Cert.ModbRefIdeal.main_arg3) = m ((c.tc : Thread Cert.ModbIdeal.nD Cert.ModbIdeal.τ).loc Cert.ModbIdeal.main_arg3)
      ∧ m' ((c.tc : Thread Cert.ModbRefIdeal.nD Cert.ModbRefIdeal.τ).loc Cert.ModbRefIdeal.main_arg4) = m ((c.tc : Thread Cert.ModbIdeal.nD Cert.ModbIdeal.τ).loc Cert.ModbIdeal.main_arg4)
      ∧ m' ((c.tc : Thread Cert.ModbRefIdeal.nD Cert.ModbRefIdeal.τ).loc Cert.ModbRefIdeal.main_arg5) = m ((c.tc : Thread Cert.ModbIdeal.nD Cert.ModbIdeal.τ).loc Cert.ModbIdeal.main_arg5)) →
    ∃ (v0 : (c : Dev Cert.ModbIdeal.nD) → Buf (Elt Ideal) ((c.tc : Thread Cert.ModbIdeal.nD Cert.ModbIdeal.τ).loc Cert.ModbIdeal.main_v14_0)) (v1 : (c : Dev Cert.ModbIdeal.nD) → Buf (Elt Ideal) ((c.tc : Thread Cert.ModbIdeal.nD Cert.ModbIdeal.τ).loc Cert.ModbIdeal.main_v14_1)) (v2 : (c : Dev Cert.ModbIdeal.nD) → Buf (Elt Ideal) ((c.tc : Thread Cert.ModbIdeal.nD Cert.ModbIdeal.τ).loc Cert.ModbIdeal.main_v14_2)),
      θ_run (Cert.ModbIdeal.defs (F := Ideal)) (onTc (τ := Cert.ModbIdeal.τ) (Cert.ModbIdeal.main (F := Ideal))) ⟨m, fun _ => 0, g⟩ (fun r => ∀ c : Dev Cert.ModbIdeal.nD,
          r.2.mem ((c.tc : Thread Cert.ModbIdeal.nD Cert.ModbIdeal.τ).loc Cert.ModbIdeal.main_v14_0) = v0 c
          ∧ r.2.mem ((c.tc : Thread Cert.ModbIdeal.nD Cert.ModbIdeal.τ).loc Cert.ModbIdeal.main_v14_1) = v1 c
          ∧ r.2.mem ((c.tc : Thread Cert.ModbIdeal.nD Cert.ModbIdeal.τ).loc Cert.ModbIdeal.main_v14_2) = v2 c
          ∧ r.2.mem ((c.tc : Thread Cert.ModbIdeal.nD Cert.ModbIdeal.τ).loc Cert.ModbIdeal.main_arg0) = m ((c.tc : Thread Cert.ModbIdeal.nD Cert.ModbIdeal.τ).loc Cert.ModbIdeal.main_arg0)
          ∧ r.2.mem ((c.tc : Thread Cert.ModbIdeal.nD Cert.ModbIdeal.τ).loc Cert.ModbIdeal.main_arg1) = m ((c.tc : Thread Cert.ModbIdeal.nD Cert.ModbIdeal.τ).loc Cert.ModbIdeal.main_arg1)
          ∧ r.2.mem ((c.tc : Thread Cert.ModbIdeal.nD Cert.ModbIdeal.τ).loc Cert.ModbIdeal.main_arg2) = m ((c.tc : Thread Cert.ModbIdeal.nD Cert.ModbIdeal.τ).loc Cert.ModbIdeal.main_arg2)
          ∧ r.2.mem ((c.tc : Thread Cert.ModbIdeal.nD Cert.ModbIdeal.τ).loc Cert.ModbIdeal.main_arg3) = m ((c.tc : Thread Cert.ModbIdeal.nD Cert.ModbIdeal.τ).loc Cert.ModbIdeal.main_arg3)
          ∧ r.2.mem ((c.tc : Thread Cert.ModbIdeal.nD Cert.ModbIdeal.τ).loc Cert.ModbIdeal.main_arg4) = m ((c.tc : Thread Cert.ModbIdeal.nD Cert.ModbIdeal.τ).loc Cert.ModbIdeal.main_arg4)
          ∧ r.2.mem ((c.tc : Thread Cert.ModbIdeal.nD Cert.ModbIdeal.τ).loc Cert.ModbIdeal.main_arg5) = m ((c.tc : Thread Cert.ModbIdeal.nD Cert.ModbIdeal.τ).loc Cert.ModbIdeal.main_arg5))
      ∧ θ_run (Cert.ModbRefIdeal.defs (F := Ideal)) (onTc (τ := Cert.ModbRefIdeal.τ) (Cert.ModbRefIdeal.main (F := Ideal))) ⟨m', fun _ => 0, g'⟩ (fun r => ∀ c : Dev Cert.ModbRefIdeal.nD,
          r.2.mem ((c.tc : Thread Cert.ModbRefIdeal.nD Cert.ModbRefIdeal.τ).loc Cert.ModbRefIdeal.main_v56) = v0 c
          ∧ r.2.mem ((c.tc : Thread Cert.ModbRefIdeal.nD Cert.ModbRefIdeal.τ).loc Cert.ModbRefIdeal.main_v62) = v1 c
          ∧ r.2.mem ((c.tc : Thread Cert.ModbRefIdeal.nD Cert.ModbRefIdeal.τ).loc Cert.ModbRefIdeal.main_v64) = v2 c
          ∧ r.2.mem ((c.tc : Thread Cert.ModbRefIdeal.nD Cert.ModbRefIdeal.τ).loc Cert.ModbRefIdeal.main_arg0) = m' ((c.tc : Thread Cert.ModbRefIdeal.nD Cert.ModbRefIdeal.τ).loc Cert.ModbRefIdeal.main_arg0)
          ∧ r.2.mem ((c.tc : Thread Cert.ModbRefIdeal.nD Cert.ModbRefIdeal.τ).loc Cert.ModbRefIdeal.main_arg1) = m' ((c.tc : Thread Cert.ModbRefIdeal.nD Cert.ModbRefIdeal.τ).loc Cert.ModbRefIdeal.main_arg1)
          ∧ r.2.mem ((c.tc : Thread Cert.ModbRefIdeal.nD Cert.ModbRefIdeal.τ).loc Cert.ModbRefIdeal.main_arg2) = m' ((c.tc : Thread Cert.ModbRefIdeal.nD Cert.ModbRefIdeal.τ).loc Cert.ModbRefIdeal.main_arg2)
          ∧ r.2.mem ((c.tc : Thread Cert.ModbRefIdeal.nD Cert.ModbRefIdeal.τ).loc Cert.ModbRefIdeal.main_arg3) = m' ((c.tc : Thread Cert.ModbRefIdeal.nD Cert.ModbRefIdeal.τ).loc Cert.ModbRefIdeal.main_arg3)
          ∧ r.2.mem ((c.tc : Thread Cert.ModbRefIdeal.nD Cert.ModbRefIdeal.τ).loc Cert.ModbRefIdeal.main_arg4) = m' ((c.tc : Thread Cert.ModbRefIdeal.nD Cert.ModbRefIdeal.τ).loc Cert.ModbRefIdeal.main_arg4)
          ∧ r.2.mem ((c.tc : Thread Cert.ModbRefIdeal.nD Cert.ModbRefIdeal.τ).loc Cert.ModbRefIdeal.main_arg5) = m' ((c.tc : Thread Cert.ModbRefIdeal.nD Cert.ModbRefIdeal.τ).loc Cert.ModbRefIdeal.main_arg5))

def preserves_Moda_ModaIdeal : Prop :=
  True

def algebraic_ModaIdeal_ModaRefIdeal_pre_finite_mod1 [hModaIdeal : Cert.ModaIdeal.Facts] [hModaRefIdeal : Cert.ModaRefIdeal.Facts] [hPre_finite_mod1 : Cert.Pre_finite_mod1.Facts] : Prop :=
  ∀ (m : (ℓ : Loc Cert.ModaIdeal.nD Cert.ModaIdeal.τ Cert.ModaIdeal.sig) → Buf (Elt Ideal) ℓ) (g : Dev Cert.ModaIdeal.nD → PrngReg)
    (m' : (ℓ : Loc Cert.ModaRefIdeal.nD Cert.ModaRefIdeal.τ Cert.ModaRefIdeal.sig) → Buf (Elt Ideal) ℓ) (g' : Dev Cert.ModaRefIdeal.nD → PrngReg), Pre_ModaIdeal_finite_mod1 m →
    (∀ c : Dev Cert.ModaIdeal.nD,
      m' ((c.tc : Thread Cert.ModaRefIdeal.nD Cert.ModaRefIdeal.τ).loc Cert.ModaRefIdeal.main_arg0) = m ((c.tc : Thread Cert.ModaIdeal.nD Cert.ModaIdeal.τ).loc Cert.ModaIdeal.main_arg0)
      ∧ m' ((c.tc : Thread Cert.ModaRefIdeal.nD Cert.ModaRefIdeal.τ).loc Cert.ModaRefIdeal.main_arg1) = m ((c.tc : Thread Cert.ModaIdeal.nD Cert.ModaIdeal.τ).loc Cert.ModaIdeal.main_arg1)
      ∧ m' ((c.tc : Thread Cert.ModaRefIdeal.nD Cert.ModaRefIdeal.τ).loc Cert.ModaRefIdeal.main_arg2) = m ((c.tc : Thread Cert.ModaIdeal.nD Cert.ModaIdeal.τ).loc Cert.ModaIdeal.main_arg2)
      ∧ m' ((c.tc : Thread Cert.ModaRefIdeal.nD Cert.ModaRefIdeal.τ).loc Cert.ModaRefIdeal.main_arg3) = m ((c.tc : Thread Cert.ModaIdeal.nD Cert.ModaIdeal.τ).loc Cert.ModaIdeal.main_arg3)
      ∧ m' ((c.tc : Thread Cert.ModaRefIdeal.nD Cert.ModaRefIdeal.τ).loc Cert.ModaRefIdeal.main_arg4) = m ((c.tc : Thread Cert.ModaIdeal.nD Cert.ModaIdeal.τ).loc Cert.ModaIdeal.main_arg4)
      ∧ m' ((c.tc : Thread Cert.ModaRefIdeal.nD Cert.ModaRefIdeal.τ).loc Cert.ModaRefIdeal.main_arg5) = m ((c.tc : Thread Cert.ModaIdeal.nD Cert.ModaIdeal.τ).loc Cert.ModaIdeal.main_arg5)) →
    ∃ (v0 : (c : Dev Cert.ModaIdeal.nD) → Buf (Elt Ideal) ((c.tc : Thread Cert.ModaIdeal.nD Cert.ModaIdeal.τ).loc Cert.ModaIdeal.main_v15_0)) (v1 : (c : Dev Cert.ModaIdeal.nD) → Buf (Elt Ideal) ((c.tc : Thread Cert.ModaIdeal.nD Cert.ModaIdeal.τ).loc Cert.ModaIdeal.main_v15_1)),
      θ_run (Cert.ModaIdeal.defs (F := Ideal)) (onTc (τ := Cert.ModaIdeal.τ) (Cert.ModaIdeal.main (F := Ideal))) ⟨m, fun _ => 0, g⟩ (fun r => ∀ c : Dev Cert.ModaIdeal.nD,
          r.2.mem ((c.tc : Thread Cert.ModaIdeal.nD Cert.ModaIdeal.τ).loc Cert.ModaIdeal.main_v15_0) = v0 c
          ∧ r.2.mem ((c.tc : Thread Cert.ModaIdeal.nD Cert.ModaIdeal.τ).loc Cert.ModaIdeal.main_v15_1) = v1 c
          ∧ r.2.mem ((c.tc : Thread Cert.ModaIdeal.nD Cert.ModaIdeal.τ).loc Cert.ModaIdeal.main_arg0) = m ((c.tc : Thread Cert.ModaIdeal.nD Cert.ModaIdeal.τ).loc Cert.ModaIdeal.main_arg0)
          ∧ r.2.mem ((c.tc : Thread Cert.ModaIdeal.nD Cert.ModaIdeal.τ).loc Cert.ModaIdeal.main_arg1) = m ((c.tc : Thread Cert.ModaIdeal.nD Cert.ModaIdeal.τ).loc Cert.ModaIdeal.main_arg1)
          ∧ r.2.mem ((c.tc : Thread Cert.ModaIdeal.nD Cert.ModaIdeal.τ).loc Cert.ModaIdeal.main_arg2) = m ((c.tc : Thread Cert.ModaIdeal.nD Cert.ModaIdeal.τ).loc Cert.ModaIdeal.main_arg2)
          ∧ r.2.mem ((c.tc : Thread Cert.ModaIdeal.nD Cert.ModaIdeal.τ).loc Cert.ModaIdeal.main_arg3) = m ((c.tc : Thread Cert.ModaIdeal.nD Cert.ModaIdeal.τ).loc Cert.ModaIdeal.main_arg3)
          ∧ r.2.mem ((c.tc : Thread Cert.ModaIdeal.nD Cert.ModaIdeal.τ).loc Cert.ModaIdeal.main_arg4) = m ((c.tc : Thread Cert.ModaIdeal.nD Cert.ModaIdeal.τ).loc Cert.ModaIdeal.main_arg4)
          ∧ r.2.mem ((c.tc : Thread Cert.ModaIdeal.nD Cert.ModaIdeal.τ).loc Cert.ModaIdeal.main_arg5) = m ((c.tc : Thread Cert.ModaIdeal.nD Cert.ModaIdeal.τ).loc Cert.ModaIdeal.main_arg5))
      ∧ θ_run (Cert.ModaRefIdeal.defs (F := Ideal)) (onTc (τ := Cert.ModaRefIdeal.τ) (Cert.ModaRefIdeal.main (F := Ideal))) ⟨m', fun _ => 0, g'⟩ (fun r => ∀ c : Dev Cert.ModaRefIdeal.nD,
          r.2.mem ((c.tc : Thread Cert.ModaRefIdeal.nD Cert.ModaRefIdeal.τ).loc Cert.ModaRefIdeal.main_v56) = v0 c
          ∧ r.2.mem ((c.tc : Thread Cert.ModaRefIdeal.nD Cert.ModaRefIdeal.τ).loc Cert.ModaRefIdeal.main_v58) = v1 c
          ∧ r.2.mem ((c.tc : Thread Cert.ModaRefIdeal.nD Cert.ModaRefIdeal.τ).loc Cert.ModaRefIdeal.main_arg0) = m' ((c.tc : Thread Cert.ModaRefIdeal.nD Cert.ModaRefIdeal.τ).loc Cert.ModaRefIdeal.main_arg0)
          ∧ r.2.mem ((c.tc : Thread Cert.ModaRefIdeal.nD Cert.ModaRefIdeal.τ).loc Cert.ModaRefIdeal.main_arg1) = m' ((c.tc : Thread Cert.ModaRefIdeal.nD Cert.ModaRefIdeal.τ).loc Cert.ModaRefIdeal.main_arg1)
          ∧ r.2.mem ((c.tc : Thread Cert.ModaRefIdeal.nD Cert.ModaRefIdeal.τ).loc Cert.ModaRefIdeal.main_arg2) = m' ((c.tc : Thread Cert.ModaRefIdeal.nD Cert.ModaRefIdeal.τ).loc Cert.ModaRefIdeal.main_arg2)
          ∧ r.2.mem ((c.tc : Thread Cert.ModaRefIdeal.nD Cert.ModaRefIdeal.τ).loc Cert.ModaRefIdeal.main_arg3) = m' ((c.tc : Thread Cert.ModaRefIdeal.nD Cert.ModaRefIdeal.τ).loc Cert.ModaRefIdeal.main_arg3)
          ∧ r.2.mem ((c.tc : Thread Cert.ModaRefIdeal.nD Cert.ModaRefIdeal.τ).loc Cert.ModaRefIdeal.main_arg4) = m' ((c.tc : Thread Cert.ModaRefIdeal.nD Cert.ModaRefIdeal.τ).loc Cert.ModaRefIdeal.main_arg4)
          ∧ r.2.mem ((c.tc : Thread Cert.ModaRefIdeal.nD Cert.ModaRefIdeal.τ).loc Cert.ModaRefIdeal.main_arg5) = m' ((c.tc : Thread Cert.ModaRefIdeal.nD Cert.ModaRefIdeal.τ).loc Cert.ModaRefIdeal.main_arg5))

def preserves_Final_FinalIdeal : Prop :=
  True

def algebraic_FinalIdeal_FinalRefIdeal_pre_finite_final [hFinalIdeal : Cert.FinalIdeal.Facts] [hFinalRefIdeal : Cert.FinalRefIdeal.Facts] [hPre_finite_final : Cert.Pre_finite_final.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal_finite_final m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)
      ∧ m' ((c.tc : Thread Cert.FinalRefIdeal.nD Cert.FinalRefIdeal.τ).loc Cert.FinalRefIdeal.main_arg4) = m ((c.tc : Thread Cert.FinalIdeal.nD Cert.FinalIdeal.τ).loc Cert.FinalIdeal.main_arg4)
      ∧ m' ((c.tc : Thread Cert.FinalRefIdeal.nD Cert.FinalRefIdeal.τ).loc Cert.FinalRefIdeal.main_arg5) = m ((c.tc : Thread Cert.FinalIdeal.nD Cert.FinalIdeal.τ).loc Cert.FinalIdeal.main_arg5)) →
    ∃ (v0 : (c : Dev Cert.FinalIdeal.nD) → Buf (Elt Ideal) ((c.tc : Thread Cert.FinalIdeal.nD Cert.FinalIdeal.τ).loc Cert.FinalIdeal.main_v7_0)) (v1 : (c : Dev Cert.FinalIdeal.nD) → Buf (Elt Ideal) ((c.tc : Thread Cert.FinalIdeal.nD Cert.FinalIdeal.τ).loc Cert.FinalIdeal.main_v7_1)) (v2 : (c : Dev Cert.FinalIdeal.nD) → Buf (Elt Ideal) ((c.tc : Thread Cert.FinalIdeal.nD Cert.FinalIdeal.τ).loc Cert.FinalIdeal.main_v7_2)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v7_0) = v0 c
          ∧ r.2.mem ((c.tc : Thread Cert.FinalIdeal.nD Cert.FinalIdeal.τ).loc Cert.FinalIdeal.main_v7_1) = v1 c
          ∧ r.2.mem ((c.tc : Thread Cert.FinalIdeal.nD Cert.FinalIdeal.τ).loc Cert.FinalIdeal.main_v7_2) = v2 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
          ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v65) = v0 c
          ∧ r.2.mem ((c.tc : Thread Cert.FinalRefIdeal.nD Cert.FinalRefIdeal.τ).loc Cert.FinalRefIdeal.main_v71) = v1 c
          ∧ r.2.mem ((c.tc : Thread Cert.FinalRefIdeal.nD Cert.FinalRefIdeal.τ).loc Cert.FinalRefIdeal.main_v74) = v2 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3)
          ∧ r.2.mem ((c.tc : Thread Cert.FinalRefIdeal.nD Cert.FinalRefIdeal.τ).loc Cert.FinalRefIdeal.main_arg4) = m' ((c.tc : Thread Cert.FinalRefIdeal.nD Cert.FinalRefIdeal.τ).loc Cert.FinalRefIdeal.main_arg4)
          ∧ r.2.mem ((c.tc : Thread Cert.FinalRefIdeal.nD Cert.FinalRefIdeal.τ).loc Cert.FinalRefIdeal.main_arg5) = m' ((c.tc : Thread Cert.FinalRefIdeal.nD Cert.FinalRefIdeal.τ).loc Cert.FinalRefIdeal.main_arg5))

def preserves_Adaln_AdalnIdeal : Prop :=
  True

def algebraic_AdalnIdeal_AdalnRefIdeal [hAdalnIdeal : Cert.AdalnIdeal.Facts] [hAdalnRefIdeal : Cert.AdalnRefIdeal.Facts] : Prop :=
  ∀ (m : (ℓ : Loc Cert.AdalnIdeal.nD Cert.AdalnIdeal.τ Cert.AdalnIdeal.sig) → Buf (Elt Ideal) ℓ) (g : Dev Cert.AdalnIdeal.nD → PrngReg)
    (m' : (ℓ : Loc Cert.AdalnRefIdeal.nD Cert.AdalnRefIdeal.τ Cert.AdalnRefIdeal.sig) → Buf (Elt Ideal) ℓ) (g' : Dev Cert.AdalnRefIdeal.nD → PrngReg), Pre_AdalnIdeal m →
    (∀ c : Dev Cert.AdalnIdeal.nD,
      m' ((c.tc : Thread Cert.AdalnRefIdeal.nD Cert.AdalnRefIdeal.τ).loc Cert.AdalnRefIdeal.main_arg0) = m ((c.tc : Thread Cert.AdalnIdeal.nD Cert.AdalnIdeal.τ).loc Cert.AdalnIdeal.main_arg0)
      ∧ m' ((c.tc : Thread Cert.AdalnRefIdeal.nD Cert.AdalnRefIdeal.τ).loc Cert.AdalnRefIdeal.main_arg1) = m ((c.tc : Thread Cert.AdalnIdeal.nD Cert.AdalnIdeal.τ).loc Cert.AdalnIdeal.main_arg1)
      ∧ m' ((c.tc : Thread Cert.AdalnRefIdeal.nD Cert.AdalnRefIdeal.τ).loc Cert.AdalnRefIdeal.main_arg2) = m ((c.tc : Thread Cert.AdalnIdeal.nD Cert.AdalnIdeal.τ).loc Cert.AdalnIdeal.main_arg2)
      ∧ m' ((c.tc : Thread Cert.AdalnRefIdeal.nD Cert.AdalnRefIdeal.τ).loc Cert.AdalnRefIdeal.main_arg3) = m ((c.tc : Thread Cert.AdalnIdeal.nD Cert.AdalnIdeal.τ).loc Cert.AdalnIdeal.main_arg3)
      ∧ m' ((c.tc : Thread Cert.AdalnRefIdeal.nD Cert.AdalnRefIdeal.τ).loc Cert.AdalnRefIdeal.main_arg4) = m ((c.tc : Thread Cert.AdalnIdeal.nD Cert.AdalnIdeal.τ).loc Cert.AdalnIdeal.main_arg4)
      ∧ m' ((c.tc : Thread Cert.AdalnRefIdeal.nD Cert.AdalnRefIdeal.τ).loc Cert.AdalnRefIdeal.main_arg5) = m ((c.tc : Thread Cert.AdalnIdeal.nD Cert.AdalnIdeal.τ).loc Cert.AdalnIdeal.main_arg5)) →
    ∃ (v0 : (c : Dev Cert.AdalnIdeal.nD) → Buf (Elt Ideal) ((c.tc : Thread Cert.AdalnIdeal.nD Cert.AdalnIdeal.τ).loc Cert.AdalnIdeal.main_v5_0)) (v1 : (c : Dev Cert.AdalnIdeal.nD) → Buf (Elt Ideal) ((c.tc : Thread Cert.AdalnIdeal.nD Cert.AdalnIdeal.τ).loc Cert.AdalnIdeal.main_v5_1)) (v2 : (c : Dev Cert.AdalnIdeal.nD) → Buf (Elt Ideal) ((c.tc : Thread Cert.AdalnIdeal.nD Cert.AdalnIdeal.τ).loc Cert.AdalnIdeal.main_v5_2)),
      θ_run (Cert.AdalnIdeal.defs (F := Ideal)) (onTc (τ := Cert.AdalnIdeal.τ) (Cert.AdalnIdeal.main (F := Ideal))) ⟨m, fun _ => 0, g⟩ (fun r => ∀ c : Dev Cert.AdalnIdeal.nD,
          r.2.mem ((c.tc : Thread Cert.AdalnIdeal.nD Cert.AdalnIdeal.τ).loc Cert.AdalnIdeal.main_v5_0) = v0 c
          ∧ r.2.mem ((c.tc : Thread Cert.AdalnIdeal.nD Cert.AdalnIdeal.τ).loc Cert.AdalnIdeal.main_v5_1) = v1 c
          ∧ r.2.mem ((c.tc : Thread Cert.AdalnIdeal.nD Cert.AdalnIdeal.τ).loc Cert.AdalnIdeal.main_v5_2) = v2 c
          ∧ r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
          ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
          ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2)
          ∧ r.2.mem ((c.tc : Thread Cert.AdalnIdeal.nD Cert.AdalnIdeal.τ).loc Cert.AdalnIdeal.main_arg3) = m ((c.tc : Thread Cert.AdalnIdeal.nD Cert.AdalnIdeal.τ).loc Cert.AdalnIdeal.main_arg3)
          ∧ r.2.mem ((c.tc : Thread Cert.AdalnIdeal.nD Cert.AdalnIdeal.τ).loc Cert.AdalnIdeal.main_arg4) = m ((c.tc : Thread Cert.AdalnIdeal.nD Cert.AdalnIdeal.τ).loc Cert.AdalnIdeal.main_arg4)
          ∧ r.2.mem ((c.tc : Thread Cert.AdalnIdeal.nD Cert.AdalnIdeal.τ).loc Cert.AdalnIdeal.main_arg5) = m ((c.tc : Thread Cert.AdalnIdeal.nD Cert.AdalnIdeal.τ).loc Cert.AdalnIdeal.main_arg5))
      ∧ θ_run (Cert.AdalnRefIdeal.defs (F := Ideal)) (onTc (τ := Cert.AdalnRefIdeal.τ) (Cert.AdalnRefIdeal.main (F := Ideal))) ⟨m', fun _ => 0, g'⟩ (fun r => ∀ c : Dev Cert.AdalnRefIdeal.nD,
          r.2.mem ((c.tc : Thread Cert.AdalnRefIdeal.nD Cert.AdalnRefIdeal.τ).loc Cert.AdalnRefIdeal.main_v14) = v0 c
          ∧ r.2.mem ((c.tc : Thread Cert.AdalnRefIdeal.nD Cert.AdalnRefIdeal.τ).loc Cert.AdalnRefIdeal.main_v16) = v1 c
          ∧ r.2.mem ((c.tc : Thread Cert.AdalnRefIdeal.nD Cert.AdalnRefIdeal.τ).loc Cert.AdalnRefIdeal.main_v17) = v2 c
          ∧ r.2.mem ((c.tc : Thread Cert.AdalnRefIdeal.nD Cert.AdalnRefIdeal.τ).loc Cert.AdalnRefIdeal.main_arg0) = m' ((c.tc : Thread Cert.AdalnRefIdeal.nD Cert.AdalnRefIdeal.τ).loc Cert.AdalnRefIdeal.main_arg0)
          ∧ r.2.mem ((c.tc : Thread Cert.AdalnRefIdeal.nD Cert.AdalnRefIdeal.τ).loc Cert.AdalnRefIdeal.main_arg1) = m' ((c.tc : Thread Cert.AdalnRefIdeal.nD Cert.AdalnRefIdeal.τ).loc Cert.AdalnRefIdeal.main_arg1)
          ∧ r.2.mem ((c.tc : Thread Cert.AdalnRefIdeal.nD Cert.AdalnRefIdeal.τ).loc Cert.AdalnRefIdeal.main_arg2) = m' ((c.tc : Thread Cert.AdalnRefIdeal.nD Cert.AdalnRefIdeal.τ).loc Cert.AdalnRefIdeal.main_arg2)
          ∧ r.2.mem ((c.tc : Thread Cert.AdalnRefIdeal.nD Cert.AdalnRefIdeal.τ).loc Cert.AdalnRefIdeal.main_arg3) = m' ((c.tc : Thread Cert.AdalnRefIdeal.nD Cert.AdalnRefIdeal.τ).loc Cert.AdalnRefIdeal.main_arg3)
          ∧ r.2.mem ((c.tc : Thread Cert.AdalnRefIdeal.nD Cert.AdalnRefIdeal.τ).loc Cert.AdalnRefIdeal.main_arg4) = m' ((c.tc : Thread Cert.AdalnRefIdeal.nD Cert.AdalnRefIdeal.τ).loc Cert.AdalnRefIdeal.main_arg4)
          ∧ r.2.mem ((c.tc : Thread Cert.AdalnRefIdeal.nD Cert.AdalnRefIdeal.τ).loc Cert.AdalnRefIdeal.main_arg5) = m' ((c.tc : Thread Cert.AdalnRefIdeal.nD Cert.AdalnRefIdeal.τ).loc Cert.AdalnRefIdeal.main_arg5))

def preserves_Fwd_FwdIdeal : Prop :=
  IdealRules.named_const.Statement Cert.FwdIdeal.κ "exp2_scale" .f32 0x3E16C740#32 (((Real.sqrt 96)⁻¹ * (Real.log 2)⁻¹ : ℝ) : EReal)
  ∧ IdealRules.named_const.Statement Cert.FwdIdeal.κ "log2_e" .f32 0x3FB8AA3B#32 (((Real.log 2)⁻¹ : ℝ) : EReal)

def algebraic_FwdIdeal_FwdRefIdeal_pre_finite_qk [hFwdIdeal : Cert.FwdIdeal.Facts] [hFwdRefIdeal : Cert.FwdRefIdeal.Facts] [hPre_finite_qk : Cert.Pre_finite_qk.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_finite_qk m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)) →
    ∃ (v0 : (c : Dev Cert.FwdIdeal.nD) → Buf (Elt Ideal) ((c.tc : Thread Cert.FwdIdeal.nD Cert.FwdIdeal.τ).loc Cert.FwdIdeal.main_v12_0)) (v1 : (c : Dev Cert.FwdIdeal.nD) → Buf (Elt Ideal) ((c.tc : Thread Cert.FwdIdeal.nD Cert.FwdIdeal.τ).loc Cert.FwdIdeal.main_v12_2)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v12_0) = v0 c
          ∧ r.2.mem ((c.tc : Thread Cert.FwdIdeal.nD Cert.FwdIdeal.τ).loc Cert.FwdIdeal.main_v12_2) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v19) = v0 c
          ∧ r.2.mem ((c.tc : Thread Cert.FwdRefIdeal.nD Cert.FwdRefIdeal.τ).loc Cert.FwdRefIdeal.main_v27) = v1 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2))

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)
      ∧ m' ((c.tc : Thread Cert.HeadRefIdeal.nD Cert.HeadRefIdeal.τ).loc Cert.HeadRefIdeal.main_arg6) = m ((c.tc : Thread Cert.HeadIdeal.nD Cert.HeadIdeal.τ).loc Cert.HeadIdeal.main_arg6)
      ∧ m' ((c.tc : Thread Cert.HeadRefIdeal.nD Cert.HeadRefIdeal.τ).loc Cert.HeadRefIdeal.main_arg7) = m ((c.tc : Thread Cert.HeadIdeal.nD Cert.HeadIdeal.τ).loc Cert.HeadIdeal.main_arg7)
      ∧ m' ((c.tc : Thread Cert.HeadRefIdeal.nD Cert.HeadRefIdeal.τ).loc Cert.HeadRefIdeal.main_arg8) = m ((c.tc : Thread Cert.HeadIdeal.nD Cert.HeadIdeal.τ).loc Cert.HeadIdeal.main_arg8)
      ∧ m' ((c.tc : Thread Cert.HeadRefIdeal.nD Cert.HeadRefIdeal.τ).loc Cert.HeadRefIdeal.main_arg9) = m ((c.tc : Thread Cert.HeadIdeal.nD Cert.HeadIdeal.τ).loc Cert.HeadIdeal.main_arg9)
      ∧ m' ((c.tc : Thread Cert.HeadRefIdeal.nD Cert.HeadRefIdeal.τ).loc Cert.HeadRefIdeal.main_arg10) = m ((c.tc : Thread Cert.HeadIdeal.nD Cert.HeadIdeal.τ).loc Cert.HeadIdeal.main_arg10)) →
    ∃ (v0 : (c : Dev Cert.HeadIdeal.nD) → Buf (Elt Ideal) ((c.tc : Thread Cert.HeadIdeal.nD Cert.HeadIdeal.τ).loc Cert.HeadIdeal.main_v117_2)) (v1 : (c : Dev Cert.HeadIdeal.nD) → Buf (Elt Ideal) ((c.tc : Thread Cert.HeadIdeal.nD Cert.HeadIdeal.τ).loc Cert.HeadIdeal.main_v117_3)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v117_2) = v0 c
          ∧ r.2.mem ((c.tc : Thread Cert.HeadIdeal.nD Cert.HeadIdeal.τ).loc Cert.HeadIdeal.main_v117_3) = v1 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
          ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
          ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
          ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9)
          ∧ r.2.mem ((c.tc : Thread Cert.HeadIdeal.nD Cert.HeadIdeal.τ).loc Cert.HeadIdeal.main_arg10) = m ((c.tc : Thread Cert.HeadIdeal.nD Cert.HeadIdeal.τ).loc Cert.HeadIdeal.main_arg10))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v150) = v0 c
          ∧ r.2.mem ((c.tc : Thread Cert.HeadRefIdeal.nD Cert.HeadRefIdeal.τ).loc Cert.HeadRefIdeal.main_v153) = v1 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5)
          ∧ r.2.mem ((c.tc : Thread Cert.HeadRefIdeal.nD Cert.HeadRefIdeal.τ).loc Cert.HeadRefIdeal.main_arg6) = m' ((c.tc : Thread Cert.HeadRefIdeal.nD Cert.HeadRefIdeal.τ).loc Cert.HeadRefIdeal.main_arg6)
          ∧ r.2.mem ((c.tc : Thread Cert.HeadRefIdeal.nD Cert.HeadRefIdeal.τ).loc Cert.HeadRefIdeal.main_arg7) = m' ((c.tc : Thread Cert.HeadRefIdeal.nD Cert.HeadRefIdeal.τ).loc Cert.HeadRefIdeal.main_arg7)
          ∧ r.2.mem ((c.tc : Thread Cert.HeadRefIdeal.nD Cert.HeadRefIdeal.τ).loc Cert.HeadRefIdeal.main_arg8) = m' ((c.tc : Thread Cert.HeadRefIdeal.nD Cert.HeadRefIdeal.τ).loc Cert.HeadRefIdeal.main_arg8)
          ∧ r.2.mem ((c.tc : Thread Cert.HeadRefIdeal.nD Cert.HeadRefIdeal.τ).loc Cert.HeadRefIdeal.main_arg9) = m' ((c.tc : Thread Cert.HeadRefIdeal.nD Cert.HeadRefIdeal.τ).loc Cert.HeadRefIdeal.main_arg9)
          ∧ r.2.mem ((c.tc : Thread Cert.HeadRefIdeal.nD Cert.HeadRefIdeal.τ).loc Cert.HeadRefIdeal.main_arg10) = m' ((c.tc : Thread Cert.HeadRefIdeal.nD Cert.HeadRefIdeal.τ).loc Cert.HeadRefIdeal.main_arg10))

def preserves_HeadCtx_HeadCtxIdeal : Prop :=
  True

def algebraic_HeadCtxIdeal_HeadCtxRefIdeal [hHeadCtxIdeal : Cert.HeadCtxIdeal.Facts] [hHeadCtxRefIdeal : Cert.HeadCtxRefIdeal.Facts] : Prop :=
  ∀ (m : (ℓ : Loc Cert.HeadCtxIdeal.nD Cert.HeadCtxIdeal.τ Cert.HeadCtxIdeal.sig) → Buf (Elt Ideal) ℓ) (g : Dev Cert.HeadCtxIdeal.nD → PrngReg)
    (m' : (ℓ : Loc Cert.HeadCtxRefIdeal.nD Cert.HeadCtxRefIdeal.τ Cert.HeadCtxRefIdeal.sig) → Buf (Elt Ideal) ℓ) (g' : Dev Cert.HeadCtxRefIdeal.nD → PrngReg), Pre_HeadCtxIdeal m →
    (∀ c : Dev Cert.HeadCtxIdeal.nD,
      m' ((c.tc : Thread Cert.HeadCtxRefIdeal.nD Cert.HeadCtxRefIdeal.τ).loc Cert.HeadCtxRefIdeal.main_arg0) = m ((c.tc : Thread Cert.HeadCtxIdeal.nD Cert.HeadCtxIdeal.τ).loc Cert.HeadCtxIdeal.main_arg0)
      ∧ m' ((c.tc : Thread Cert.HeadCtxRefIdeal.nD Cert.HeadCtxRefIdeal.τ).loc Cert.HeadCtxRefIdeal.main_arg1) = m ((c.tc : Thread Cert.HeadCtxIdeal.nD Cert.HeadCtxIdeal.τ).loc Cert.HeadCtxIdeal.main_arg1)
      ∧ m' ((c.tc : Thread Cert.HeadCtxRefIdeal.nD Cert.HeadCtxRefIdeal.τ).loc Cert.HeadCtxRefIdeal.main_arg2) = m ((c.tc : Thread Cert.HeadCtxIdeal.nD Cert.HeadCtxIdeal.τ).loc Cert.HeadCtxIdeal.main_arg2)
      ∧ m' ((c.tc : Thread Cert.HeadCtxRefIdeal.nD Cert.HeadCtxRefIdeal.τ).loc Cert.HeadCtxRefIdeal.main_arg3) = m ((c.tc : Thread Cert.HeadCtxIdeal.nD Cert.HeadCtxIdeal.τ).loc Cert.HeadCtxIdeal.main_arg3)
      ∧ m' ((c.tc : Thread Cert.HeadCtxRefIdeal.nD Cert.HeadCtxRefIdeal.τ).loc Cert.HeadCtxRefIdeal.main_arg4) = m ((c.tc : Thread Cert.HeadCtxIdeal.nD Cert.HeadCtxIdeal.τ).loc Cert.HeadCtxIdeal.main_arg4)
      ∧ m' ((c.tc : Thread Cert.HeadCtxRefIdeal.nD Cert.HeadCtxRefIdeal.τ).loc Cert.HeadCtxRefIdeal.main_arg5) = m ((c.tc : Thread Cert.HeadCtxIdeal.nD Cert.HeadCtxIdeal.τ).loc Cert.HeadCtxIdeal.main_arg5)
      ∧ m' ((c.tc : Thread Cert.HeadCtxRefIdeal.nD Cert.HeadCtxRefIdeal.τ).loc Cert.HeadCtxRefIdeal.main_arg6) = m ((c.tc : Thread Cert.HeadCtxIdeal.nD Cert.HeadCtxIdeal.τ).loc Cert.HeadCtxIdeal.main_arg6)
      ∧ m' ((c.tc : Thread Cert.HeadCtxRefIdeal.nD Cert.HeadCtxRefIdeal.τ).loc Cert.HeadCtxRefIdeal.main_arg7) = m ((c.tc : Thread Cert.HeadCtxIdeal.nD Cert.HeadCtxIdeal.τ).loc Cert.HeadCtxIdeal.main_arg7)
      ∧ m' ((c.tc : Thread Cert.HeadCtxRefIdeal.nD Cert.HeadCtxRefIdeal.τ).loc Cert.HeadCtxRefIdeal.main_arg8) = m ((c.tc : Thread Cert.HeadCtxIdeal.nD Cert.HeadCtxIdeal.τ).loc Cert.HeadCtxIdeal.main_arg8)
      ∧ m' ((c.tc : Thread Cert.HeadCtxRefIdeal.nD Cert.HeadCtxRefIdeal.τ).loc Cert.HeadCtxRefIdeal.main_arg9) = m ((c.tc : Thread Cert.HeadCtxIdeal.nD Cert.HeadCtxIdeal.τ).loc Cert.HeadCtxIdeal.main_arg9)
      ∧ m' ((c.tc : Thread Cert.HeadCtxRefIdeal.nD Cert.HeadCtxRefIdeal.τ).loc Cert.HeadCtxRefIdeal.main_arg10) = m ((c.tc : Thread Cert.HeadCtxIdeal.nD Cert.HeadCtxIdeal.τ).loc Cert.HeadCtxIdeal.main_arg10)
      ∧ m' ((c.tc : Thread Cert.HeadCtxRefIdeal.nD Cert.HeadCtxRefIdeal.τ).loc Cert.HeadCtxRefIdeal.main_arg11) = m ((c.tc : Thread Cert.HeadCtxIdeal.nD Cert.HeadCtxIdeal.τ).loc Cert.HeadCtxIdeal.main_arg11)
      ∧ m' ((c.tc : Thread Cert.HeadCtxRefIdeal.nD Cert.HeadCtxRefIdeal.τ).loc Cert.HeadCtxRefIdeal.main_arg12) = m ((c.tc : Thread Cert.HeadCtxIdeal.nD Cert.HeadCtxIdeal.τ).loc Cert.HeadCtxIdeal.main_arg12)
      ∧ m' ((c.tc : Thread Cert.HeadCtxRefIdeal.nD Cert.HeadCtxRefIdeal.τ).loc Cert.HeadCtxRefIdeal.main_arg13) = m ((c.tc : Thread Cert.HeadCtxIdeal.nD Cert.HeadCtxIdeal.τ).loc Cert.HeadCtxIdeal.main_arg13)
      ∧ m' ((c.tc : Thread Cert.HeadCtxRefIdeal.nD Cert.HeadCtxRefIdeal.τ).loc Cert.HeadCtxRefIdeal.main_arg14) = m ((c.tc : Thread Cert.HeadCtxIdeal.nD Cert.HeadCtxIdeal.τ).loc Cert.HeadCtxIdeal.main_arg14)) →
    ∃ (v0 : (c : Dev Cert.HeadCtxIdeal.nD) → Buf (Elt Ideal) ((c.tc : Thread Cert.HeadCtxIdeal.nD Cert.HeadCtxIdeal.τ).loc Cert.HeadCtxIdeal.main_v100_2)),
      θ_run (Cert.HeadCtxIdeal.defs (F := Ideal)) (onTc (τ := Cert.HeadCtxIdeal.τ) (Cert.HeadCtxIdeal.main (F := Ideal))) ⟨m, fun _ => 0, g⟩ (fun r => ∀ c : Dev Cert.HeadCtxIdeal.nD,
          r.2.mem ((c.tc : Thread Cert.HeadCtxIdeal.nD Cert.HeadCtxIdeal.τ).loc Cert.HeadCtxIdeal.main_v100_2) = v0 c
          ∧ r.2.mem ((c.tc : Thread Cert.HeadCtxIdeal.nD Cert.HeadCtxIdeal.τ).loc Cert.HeadCtxIdeal.main_arg0) = m ((c.tc : Thread Cert.HeadCtxIdeal.nD Cert.HeadCtxIdeal.τ).loc Cert.HeadCtxIdeal.main_arg0)
          ∧ r.2.mem ((c.tc : Thread Cert.HeadCtxIdeal.nD Cert.HeadCtxIdeal.τ).loc Cert.HeadCtxIdeal.main_arg1) = m ((c.tc : Thread Cert.HeadCtxIdeal.nD Cert.HeadCtxIdeal.τ).loc Cert.HeadCtxIdeal.main_arg1)
          ∧ r.2.mem ((c.tc : Thread Cert.HeadCtxIdeal.nD Cert.HeadCtxIdeal.τ).loc Cert.HeadCtxIdeal.main_arg2) = m ((c.tc : Thread Cert.HeadCtxIdeal.nD Cert.HeadCtxIdeal.τ).loc Cert.HeadCtxIdeal.main_arg2)
          ∧ r.2.mem ((c.tc : Thread Cert.HeadCtxIdeal.nD Cert.HeadCtxIdeal.τ).loc Cert.HeadCtxIdeal.main_arg3) = m ((c.tc : Thread Cert.HeadCtxIdeal.nD Cert.HeadCtxIdeal.τ).loc Cert.HeadCtxIdeal.main_arg3)
          ∧ r.2.mem ((c.tc : Thread Cert.HeadCtxIdeal.nD Cert.HeadCtxIdeal.τ).loc Cert.HeadCtxIdeal.main_arg4) = m ((c.tc : Thread Cert.HeadCtxIdeal.nD Cert.HeadCtxIdeal.τ).loc Cert.HeadCtxIdeal.main_arg4)
          ∧ r.2.mem ((c.tc : Thread Cert.HeadCtxIdeal.nD Cert.HeadCtxIdeal.τ).loc Cert.HeadCtxIdeal.main_arg5) = m ((c.tc : Thread Cert.HeadCtxIdeal.nD Cert.HeadCtxIdeal.τ).loc Cert.HeadCtxIdeal.main_arg5)
          ∧ r.2.mem ((c.tc : Thread Cert.HeadCtxIdeal.nD Cert.HeadCtxIdeal.τ).loc Cert.HeadCtxIdeal.main_arg6) = m ((c.tc : Thread Cert.HeadCtxIdeal.nD Cert.HeadCtxIdeal.τ).loc Cert.HeadCtxIdeal.main_arg6)
          ∧ r.2.mem ((c.tc : Thread Cert.HeadCtxIdeal.nD Cert.HeadCtxIdeal.τ).loc Cert.HeadCtxIdeal.main_arg7) = m ((c.tc : Thread Cert.HeadCtxIdeal.nD Cert.HeadCtxIdeal.τ).loc Cert.HeadCtxIdeal.main_arg7)
          ∧ r.2.mem ((c.tc : Thread Cert.HeadCtxIdeal.nD Cert.HeadCtxIdeal.τ).loc Cert.HeadCtxIdeal.main_arg8) = m ((c.tc : Thread Cert.HeadCtxIdeal.nD Cert.HeadCtxIdeal.τ).loc Cert.HeadCtxIdeal.main_arg8)
          ∧ r.2.mem ((c.tc : Thread Cert.HeadCtxIdeal.nD Cert.HeadCtxIdeal.τ).loc Cert.HeadCtxIdeal.main_arg9) = m ((c.tc : Thread Cert.HeadCtxIdeal.nD Cert.HeadCtxIdeal.τ).loc Cert.HeadCtxIdeal.main_arg9)
          ∧ r.2.mem ((c.tc : Thread Cert.HeadCtxIdeal.nD Cert.HeadCtxIdeal.τ).loc Cert.HeadCtxIdeal.main_arg10) = m ((c.tc : Thread Cert.HeadCtxIdeal.nD Cert.HeadCtxIdeal.τ).loc Cert.HeadCtxIdeal.main_arg10)
          ∧ r.2.mem ((c.tc : Thread Cert.HeadCtxIdeal.nD Cert.HeadCtxIdeal.τ).loc Cert.HeadCtxIdeal.main_arg11) = m ((c.tc : Thread Cert.HeadCtxIdeal.nD Cert.HeadCtxIdeal.τ).loc Cert.HeadCtxIdeal.main_arg11)
          ∧ r.2.mem ((c.tc : Thread Cert.HeadCtxIdeal.nD Cert.HeadCtxIdeal.τ).loc Cert.HeadCtxIdeal.main_arg12) = m ((c.tc : Thread Cert.HeadCtxIdeal.nD Cert.HeadCtxIdeal.τ).loc Cert.HeadCtxIdeal.main_arg12)
          ∧ r.2.mem ((c.tc : Thread Cert.HeadCtxIdeal.nD Cert.HeadCtxIdeal.τ).loc Cert.HeadCtxIdeal.main_arg13) = m ((c.tc : Thread Cert.HeadCtxIdeal.nD Cert.HeadCtxIdeal.τ).loc Cert.HeadCtxIdeal.main_arg13)
          ∧ r.2.mem ((c.tc : Thread Cert.HeadCtxIdeal.nD Cert.HeadCtxIdeal.τ).loc Cert.HeadCtxIdeal.main_arg14) = m ((c.tc : Thread Cert.HeadCtxIdeal.nD Cert.HeadCtxIdeal.τ).loc Cert.HeadCtxIdeal.main_arg14))
      ∧ θ_run (Cert.HeadCtxRefIdeal.defs (F := Ideal)) (onTc (τ := Cert.HeadCtxRefIdeal.τ) (Cert.HeadCtxRefIdeal.main (F := Ideal))) ⟨m', fun _ => 0, g'⟩ (fun r => ∀ c : Dev Cert.HeadCtxRefIdeal.nD,
          r.2.mem ((c.tc : Thread Cert.HeadCtxRefIdeal.nD Cert.HeadCtxRefIdeal.τ).loc Cert.HeadCtxRefIdeal.main_v73) = v0 c
          ∧ r.2.mem ((c.tc : Thread Cert.HeadCtxRefIdeal.nD Cert.HeadCtxRefIdeal.τ).loc Cert.HeadCtxRefIdeal.main_arg0) = m' ((c.tc : Thread Cert.HeadCtxRefIdeal.nD Cert.HeadCtxRefIdeal.τ).loc Cert.HeadCtxRefIdeal.main_arg0)
          ∧ r.2.mem ((c.tc : Thread Cert.HeadCtxRefIdeal.nD Cert.HeadCtxRefIdeal.τ).loc Cert.HeadCtxRefIdeal.main_arg1) = m' ((c.tc : Thread Cert.HeadCtxRefIdeal.nD Cert.HeadCtxRefIdeal.τ).loc Cert.HeadCtxRefIdeal.main_arg1)
          ∧ r.2.mem ((c.tc : Thread Cert.HeadCtxRefIdeal.nD Cert.HeadCtxRefIdeal.τ).loc Cert.HeadCtxRefIdeal.main_arg2) = m' ((c.tc : Thread Cert.HeadCtxRefIdeal.nD Cert.HeadCtxRefIdeal.τ).loc Cert.HeadCtxRefIdeal.main_arg2)
          ∧ r.2.mem ((c.tc : Thread Cert.HeadCtxRefIdeal.nD Cert.HeadCtxRefIdeal.τ).loc Cert.HeadCtxRefIdeal.main_arg3) = m' ((c.tc : Thread Cert.HeadCtxRefIdeal.nD Cert.HeadCtxRefIdeal.τ).loc Cert.HeadCtxRefIdeal.main_arg3)
          ∧ r.2.mem ((c.tc : Thread Cert.HeadCtxRefIdeal.nD Cert.HeadCtxRefIdeal.τ).loc Cert.HeadCtxRefIdeal.main_arg4) = m' ((c.tc : Thread Cert.HeadCtxRefIdeal.nD Cert.HeadCtxRefIdeal.τ).loc Cert.HeadCtxRefIdeal.main_arg4)
          ∧ r.2.mem ((c.tc : Thread Cert.HeadCtxRefIdeal.nD Cert.HeadCtxRefIdeal.τ).loc Cert.HeadCtxRefIdeal.main_arg5) = m' ((c.tc : Thread Cert.HeadCtxRefIdeal.nD Cert.HeadCtxRefIdeal.τ).loc Cert.HeadCtxRefIdeal.main_arg5)
          ∧ r.2.mem ((c.tc : Thread Cert.HeadCtxRefIdeal.nD Cert.HeadCtxRefIdeal.τ).loc Cert.HeadCtxRefIdeal.main_arg6) = m' ((c.tc : Thread Cert.HeadCtxRefIdeal.nD Cert.HeadCtxRefIdeal.τ).loc Cert.HeadCtxRefIdeal.main_arg6)
          ∧ r.2.mem ((c.tc : Thread Cert.HeadCtxRefIdeal.nD Cert.HeadCtxRefIdeal.τ).loc Cert.HeadCtxRefIdeal.main_arg7) = m' ((c.tc : Thread Cert.HeadCtxRefIdeal.nD Cert.HeadCtxRefIdeal.τ).loc Cert.HeadCtxRefIdeal.main_arg7)
          ∧ r.2.mem ((c.tc : Thread Cert.HeadCtxRefIdeal.nD Cert.HeadCtxRefIdeal.τ).loc Cert.HeadCtxRefIdeal.main_arg8) = m' ((c.tc : Thread Cert.HeadCtxRefIdeal.nD Cert.HeadCtxRefIdeal.τ).loc Cert.HeadCtxRefIdeal.main_arg8)
          ∧ r.2.mem ((c.tc : Thread Cert.HeadCtxRefIdeal.nD Cert.HeadCtxRefIdeal.τ).loc Cert.HeadCtxRefIdeal.main_arg9) = m' ((c.tc : Thread Cert.HeadCtxRefIdeal.nD Cert.HeadCtxRefIdeal.τ).loc Cert.HeadCtxRefIdeal.main_arg9)
          ∧ r.2.mem ((c.tc : Thread Cert.HeadCtxRefIdeal.nD Cert.HeadCtxRefIdeal.τ).loc Cert.HeadCtxRefIdeal.main_arg10) = m' ((c.tc : Thread Cert.HeadCtxRefIdeal.nD Cert.HeadCtxRefIdeal.τ).loc Cert.HeadCtxRefIdeal.main_arg10)
          ∧ r.2.mem ((c.tc : Thread Cert.HeadCtxRefIdeal.nD Cert.HeadCtxRefIdeal.τ).loc Cert.HeadCtxRefIdeal.main_arg11) = m' ((c.tc : Thread Cert.HeadCtxRefIdeal.nD Cert.HeadCtxRefIdeal.τ).loc Cert.HeadCtxRefIdeal.main_arg11)
          ∧ r.2.mem ((c.tc : Thread Cert.HeadCtxRefIdeal.nD Cert.HeadCtxRefIdeal.τ).loc Cert.HeadCtxRefIdeal.main_arg12) = m' ((c.tc : Thread Cert.HeadCtxRefIdeal.nD Cert.HeadCtxRefIdeal.τ).loc Cert.HeadCtxRefIdeal.main_arg12)
          ∧ r.2.mem ((c.tc : Thread Cert.HeadCtxRefIdeal.nD Cert.HeadCtxRefIdeal.τ).loc Cert.HeadCtxRefIdeal.main_arg13) = m' ((c.tc : Thread Cert.HeadCtxRefIdeal.nD Cert.HeadCtxRefIdeal.τ).loc Cert.HeadCtxRefIdeal.main_arg13)
          ∧ r.2.mem ((c.tc : Thread Cert.HeadCtxRefIdeal.nD Cert.HeadCtxRefIdeal.τ).loc Cert.HeadCtxRefIdeal.main_arg14) = m' ((c.tc : Thread Cert.HeadCtxRefIdeal.nD Cert.HeadCtxRefIdeal.τ).loc Cert.HeadCtxRefIdeal.main_arg14))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v6_0)) (v1 : (c : Dev Cert.UpIdeal.nD) → Buf (Elt Ideal) ((c.tc : Thread Cert.UpIdeal.nD Cert.UpIdeal.τ).loc Cert.UpIdeal.main_v6_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v6_0) = v0 c
          ∧ r.2.mem ((c.tc : Thread Cert.UpIdeal.nD Cert.UpIdeal.τ).loc Cert.UpIdeal.main_v6_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v3) = v0 c
          ∧ r.2.mem ((c.tc : Thread Cert.UpRefIdeal.nD Cert.UpRefIdeal.τ).loc Cert.UpRefIdeal.main_v6) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def Claim : Prop :=
  ∃ (hConv : Cert.Conv.Facts) (hConvIdeal : Cert.ConvIdeal.Facts) (hConvRefIdeal : Cert.ConvRefIdeal.Facts) (hAttn : Cert.Attn.Facts) (hAttnIdeal : Cert.AttnIdeal.Facts) (hAttnRefIdeal : Cert.AttnRefIdeal.Facts) (hAct : Cert.Act.Facts) (hActIdeal : Cert.ActIdeal.Facts) (hActRefIdeal : Cert.ActRefIdeal.Facts) (hCtx : Cert.Ctx.Facts) (hCtxIdeal : Cert.CtxIdeal.Facts) (hCtxRefIdeal : Cert.CtxRefIdeal.Facts) (hModb : Cert.Modb.Facts) (hModbIdeal : Cert.ModbIdeal.Facts) (hModbRefIdeal : Cert.ModbRefIdeal.Facts) (hModa : Cert.Moda.Facts) (hModaIdeal : Cert.ModaIdeal.Facts) (hModaRefIdeal : Cert.ModaRefIdeal.Facts) (hFinal : Cert.Final.Facts) (hFinalIdeal : Cert.FinalIdeal.Facts) (hFinalRefIdeal : Cert.FinalRefIdeal.Facts) (hAdaln : Cert.Adaln.Facts) (hAdalnIdeal : Cert.AdalnIdeal.Facts) (hAdalnRefIdeal : Cert.AdalnRefIdeal.Facts) (hFwd : Cert.Fwd.Facts) (hFwdIdeal : Cert.FwdIdeal.Facts) (hFwdRefIdeal : Cert.FwdRefIdeal.Facts) (hHead : Cert.Head.Facts) (hHeadIdeal : Cert.HeadIdeal.Facts) (hHeadRefIdeal : Cert.HeadRefIdeal.Facts) (hHeadCtx : Cert.HeadCtx.Facts) (hHeadCtxIdeal : Cert.HeadCtxIdeal.Facts) (hHeadCtxRefIdeal : Cert.HeadCtxRefIdeal.Facts) (hUp : Cert.Up.Facts) (hUpIdeal : Cert.UpIdeal.Facts) (hUpRefIdeal : Cert.UpRefIdeal.Facts) (hPre_finite : Cert.Pre_finite.Facts) (hPre_finite_mod2 : Cert.Pre_finite_mod2.Facts) (hPre_finite_mod1 : Cert.Pre_finite_mod1.Facts) (hPre_finite_final : Cert.Pre_finite_final.Facts) (hPre_finite_qk : Cert.Pre_finite_qk.Facts),
    quiescent_Conv (hConv := hConv)
    ∧ quiescent_ConvIdeal (hConvIdeal := hConvIdeal)
    ∧ quiescent_ConvRefIdeal (hConvRefIdeal := hConvRefIdeal)
    ∧ quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Act (hAct := hAct)
    ∧ quiescent_ActIdeal (hActIdeal := hActIdeal)
    ∧ quiescent_ActRefIdeal (hActRefIdeal := hActRefIdeal)
    ∧ quiescent_Ctx (hCtx := hCtx)
    ∧ quiescent_CtxIdeal (hCtxIdeal := hCtxIdeal)
    ∧ quiescent_CtxRefIdeal (hCtxRefIdeal := hCtxRefIdeal)
    ∧ quiescent_Modb (hModb := hModb)
    ∧ quiescent_ModbIdeal (hModbIdeal := hModbIdeal)
    ∧ quiescent_ModbIdeal_pre_finite_mod2 (hModbIdeal := hModbIdeal) (hPre_finite_mod2 := hPre_finite_mod2)
    ∧ quiescent_ModbRefIdeal (hModbRefIdeal := hModbRefIdeal)
    ∧ quiescent_ModbRefIdeal_pre_finite_mod2 (hModbRefIdeal := hModbRefIdeal) (hPre_finite_mod2 := hPre_finite_mod2)
    ∧ quiescent_Moda (hModa := hModa)
    ∧ quiescent_ModaIdeal (hModaIdeal := hModaIdeal)
    ∧ quiescent_ModaIdeal_pre_finite_mod1 (hModaIdeal := hModaIdeal) (hPre_finite_mod1 := hPre_finite_mod1)
    ∧ quiescent_ModaRefIdeal (hModaRefIdeal := hModaRefIdeal)
    ∧ quiescent_ModaRefIdeal_pre_finite_mod1 (hModaRefIdeal := hModaRefIdeal) (hPre_finite_mod1 := hPre_finite_mod1)
    ∧ quiescent_Final (hFinal := hFinal)
    ∧ quiescent_FinalIdeal (hFinalIdeal := hFinalIdeal)
    ∧ quiescent_FinalIdeal_pre_finite_final (hFinalIdeal := hFinalIdeal) (hPre_finite_final := hPre_finite_final)
    ∧ quiescent_FinalRefIdeal (hFinalRefIdeal := hFinalRefIdeal)
    ∧ quiescent_FinalRefIdeal_pre_finite_final (hFinalRefIdeal := hFinalRefIdeal) (hPre_finite_final := hPre_finite_final)
    ∧ quiescent_Adaln (hAdaln := hAdaln)
    ∧ quiescent_AdalnIdeal (hAdalnIdeal := hAdalnIdeal)
    ∧ quiescent_AdalnRefIdeal (hAdalnRefIdeal := hAdalnRefIdeal)
    ∧ quiescent_Fwd (hFwd := hFwd)
    ∧ quiescent_FwdIdeal (hFwdIdeal := hFwdIdeal)
    ∧ quiescent_FwdIdeal_pre_finite_qk (hFwdIdeal := hFwdIdeal) (hPre_finite_qk := hPre_finite_qk)
    ∧ quiescent_FwdRefIdeal (hFwdRefIdeal := hFwdRefIdeal)
    ∧ quiescent_FwdRefIdeal_pre_finite_qk (hFwdRefIdeal := hFwdRefIdeal) (hPre_finite_qk := hPre_finite_qk)
    ∧ quiescent_Head (hHead := hHead)
    ∧ quiescent_HeadIdeal (hHeadIdeal := hHeadIdeal)
    ∧ quiescent_HeadRefIdeal (hHeadRefIdeal := hHeadRefIdeal)
    ∧ quiescent_HeadCtx (hHeadCtx := hHeadCtx)
    ∧ quiescent_HeadCtxIdeal (hHeadCtxIdeal := hHeadCtxIdeal)
    ∧ quiescent_HeadCtxRefIdeal (hHeadCtxRefIdeal := hHeadCtxRefIdeal)
    ∧ quiescent_Up (hUp := hUp)
    ∧ quiescent_UpIdeal (hUpIdeal := hUpIdeal)
    ∧ quiescent_UpRefIdeal (hUpRefIdeal := hUpRefIdeal)
    ∧ preserves_Conv_ConvIdeal
    ∧ algebraic_ConvIdeal_ConvRefIdeal (hConvIdeal := hConvIdeal) (hConvRefIdeal := hConvRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Act_ActIdeal
    ∧ algebraic_ActIdeal_ActRefIdeal (hActIdeal := hActIdeal) (hActRefIdeal := hActRefIdeal)
    ∧ preserves_Ctx_CtxIdeal
    ∧ algebraic_CtxIdeal_CtxRefIdeal (hCtxIdeal := hCtxIdeal) (hCtxRefIdeal := hCtxRefIdeal)
    ∧ preserves_Modb_ModbIdeal
    ∧ algebraic_ModbIdeal_ModbRefIdeal_pre_finite_mod2 (hModbIdeal := hModbIdeal) (hModbRefIdeal := hModbRefIdeal) (hPre_finite_mod2 := hPre_finite_mod2)
    ∧ preserves_Moda_ModaIdeal
    ∧ algebraic_ModaIdeal_ModaRefIdeal_pre_finite_mod1 (hModaIdeal := hModaIdeal) (hModaRefIdeal := hModaRefIdeal) (hPre_finite_mod1 := hPre_finite_mod1)
    ∧ preserves_Final_FinalIdeal
    ∧ algebraic_FinalIdeal_FinalRefIdeal_pre_finite_final (hFinalIdeal := hFinalIdeal) (hFinalRefIdeal := hFinalRefIdeal) (hPre_finite_final := hPre_finite_final)
    ∧ preserves_Adaln_AdalnIdeal
    ∧ algebraic_AdalnIdeal_AdalnRefIdeal (hAdalnIdeal := hAdalnIdeal) (hAdalnRefIdeal := hAdalnRefIdeal)
    ∧ preserves_Fwd_FwdIdeal
    ∧ algebraic_FwdIdeal_FwdRefIdeal_pre_finite_qk (hFwdIdeal := hFwdIdeal) (hFwdRefIdeal := hFwdRefIdeal) (hPre_finite_qk := hPre_finite_qk)
    ∧ preserves_Head_HeadIdeal
    ∧ algebraic_HeadIdeal_HeadRefIdeal (hHeadIdeal := hHeadIdeal) (hHeadRefIdeal := hHeadRefIdeal)
    ∧ preserves_HeadCtx_HeadCtxIdeal
    ∧ algebraic_HeadCtxIdeal_HeadCtxRefIdeal (hHeadCtxIdeal := hHeadCtxIdeal) (hHeadCtxRefIdeal := hHeadCtxRefIdeal)
    ∧ preserves_Up_UpIdeal
    ∧ algebraic_UpIdeal_UpRefIdeal (hUpIdeal := hUpIdeal) (hUpRefIdeal := hUpRefIdeal)
-- ==== Pre_finite.lean ====
abbrev S1x4096x8x96 : Shape := ⟨4, ![1, 4096, 8, 96]⟩
abbrev S1x4352x8x96 : Shape := ⟨4, ![1, 4352, 8, 96]⟩
abbrev S1x4352x8x64 : Shape := ⟨4, ![1, 4352, 8, 64]⟩
abbrev S4096x1x2x8 : Shape := ⟨4, ![4096, 1, 2, 8]⟩
abbrev S1x4096x1024 : Shape := ⟨3, ![1, 4096, 1024]⟩
abbrev S_ : Shape := ⟨0, ![]⟩
abbrev S1x4096x512 : Shape := ⟨3, ![1, 4096, 512]⟩

class Facts : Prop where
  bcast_S_S1x4096x8x96 : S_.BroadcastsInDim S1x4096x8x96 (![] : Fin 0 → Fin S1x4096x8x96.rank)
  reducesTo_S1x4096x8x96_S_d0_1_2_3 : S1x4096x8x96.ReducesTo [0, 1, 2, 3] S_
  h_S_ : 0 < S_.numel
  bcast_S_S1x4352x8x96 : S_.BroadcastsInDim S1x4352x8x96 (![] : Fin 0 → Fin S1x4352x8x96.rank)
  reducesTo_S1x4352x8x96_S_d0_1_2_3 : S1x4352x8x96.ReducesTo [0, 1, 2, 3] S_
  bcast_S_S1x4352x8x64 : S_.BroadcastsInDim S1x4352x8x64 (![] : Fin 0 → Fin S1x4352x8x64.rank)
  reducesTo_S1x4352x8x64_S_d0_1_2_3 : S1x4352x8x64.ReducesTo [0, 1, 2, 3] S_
  bcast_S_S4096x1x2x8 : S_.BroadcastsInDim S4096x1x2x8 (![] : Fin 0 → Fin S4096x1x2x8.rank)
  reducesTo_S4096x1x2x8_S_d0_1_2_3 : S4096x1x2x8.ReducesTo [0, 1, 2, 3] S_
  slices_S1x4096x1024_S1x4096x512_0_0_0 : S1x4096x1024.Slices ![0, 0, 0] S1x4096x512
  bcast_S_S1x4096x512 : S_.BroadcastsInDim S1x4096x512 (![] : Fin 0 → Fin S1x4096x512.rank)
  reducesTo_S1x4096x512_S_d0_1_2 : S1x4096x512.ReducesTo [0, 1, 2] S_

variable [Facts]

def fn_part1 {F : FTy → Type} [FloatOps F] (main_arg4 : FVec F S4096x1x2x8 .f32) (main_arg5 : FVec F S1x4096x1024 .f32) (main_v13 : IVec S_ 1) (main_v16 : IVec S4096x1x2x8 1) : IVec S_ 1 :=
  let main_c_5 : IVec S_ 1 := constantI S_ 1 1#1
  let main_v17 : IVec S_ 1 := (fun x v => Host.reduce IntOp.andi x v reducesTo_S4096x1x2x8_S_d0_1_2_3 h_S_) main_v16 main_c_5
  let main_v18 : IVec S_ 1 := andi main_v13 main_v17
  let main_v19 : FVec F S4096x1x2x8 .f32 := Host.absf main_arg4
  let main_cst_6 : FVec F S_ .f32 := constant S_ .f32 0x7F800000#32
  let main_v20 : FVec F S4096x1x2x8 .f32 := broadcastInDim S4096x1x2x8 ![] bcast_S_S4096x1x2x8 main_cst_6
  let main_v21 : IVec S4096x1x2x8 1 := cmpf .olt main_v19 main_v20
  let main_c_7 : IVec S_ 1 := constantI S_ 1 1#1
  let main_v22 : IVec S_ 1 := (fun x v => Host.reduce IntOp.andi x v reducesTo_S4096x1x2x8_S_d0_1_2_3 h_S_) main_v21 main_c_7
  let main_v23 : IVec S_ 1 := andi main_v18 main_v22
  let main_v24 : FVec F S1x4096x512 .f32 := (extractStridedSlice S1x4096x512 ![0, 0, 0] · slices_S1x4096x1024_S1x4096x512_0_0_0) main_arg5
  let main_v25 : FVec F S1x4096x512 .f32 := Host.absf main_v24
  let main_cst_8 : FVec F S_ .f32 := constant S_ .f32 0x7F800000#32
  let main_v26 : FVec F S1x4096x512 .f32 := broadcastInDim S1x4096x512 ![] bcast_S_S1x4096x512 main_cst_8
  let main_v27 : IVec S1x4096x512 1 := cmpf .olt main_v25 main_v26
  let main_c_9 : IVec S_ 1 := constantI S_ 1 1#1
  let main_v28 : IVec S_ 1 := (fun x v => Host.reduce IntOp.andi x v reducesTo_S1x4096x512_S_d0_1_2 h_S_) main_v27 main_c_9
  let main_v29 : IVec S_ 1 := andi main_v23 main_v28
  main_v29

def fn {F : FTy → Type} [FloatOps F] (main_arg0 : FVec F S1x4096x8x96 .f32) (main_arg1 : FVec F S1x4352x8x96 .f32) (main_arg2 : FVec F S1x4352x8x64 .f32) (main_arg3 : FVec F S4096x1x2x8 .f32) (main_arg4 : FVec F S4096x1x2x8 .f32) (main_arg5 : FVec F S1x4096x1024 .f32) : IVec S_ 1 :=
  let main_v0 : FVec F S1x4096x8x96 .f32 := Host.absf main_arg0
  let main_cst : FVec F S_ .f32 := constant S_ .f32 0x7F800000#32
  let main_v1 : FVec F S1x4096x8x96 .f32 := broadcastInDim S1x4096x8x96 ![] bcast_S_S1x4096x8x96 main_cst
  let main_v2 : IVec S1x4096x8x96 1 := cmpf .olt main_v0 main_v1
  let main_c : IVec S_ 1 := constantI S_ 1 1#1
  let main_v3 : IVec S_ 1 := (fun x v => Host.reduce IntOp.andi x v reducesTo_S1x4096x8x96_S_d0_1_2_3 h_S_) main_v2 main_c
  let main_v4 : FVec F S1x4352x8x96 .f32 := Host.absf main_arg1
  let main_cst_0 : FVec F S_ .f32 := constant S_ .f32 0x7F800000#32
  let main_v5 : FVec F S1x4352x8x96 .f32 := broadcastInDim S1x4352x8x96 ![] bcast_S_S1x4352x8x96 main_cst_0
  let main_v6 : IVec S1x4352x8x96 1 := cmpf .olt main_v4 main_v5
  let main_c_1 : IVec S_ 1 := constantI S_ 1 1#1
  let main_v7 : IVec S_ 1 := (fun x v => Host.reduce IntOp.andi x v reducesTo_S1x4352x8x96_S_d0_1_2_3 h_S_) main_v6 main_c_1
  let main_v8 : IVec S_ 1 := andi main_v3 main_v7
  let main_v9 : FVec F S1x4352x8x64 .f32 := Host.absf main_arg2
  let main_cst_2 : FVec F S_ .f32 := constant S_ .f32 0x7F800000#32
  let main_v10 : FVec F S1x4352x8x64 .f32 := broadcastInDim S1x4352x8x64 ![] bcast_S_S1x4352x8x64 main_cst_2
  let main_v11 : IVec S1x4352x8x64 1 := cmpf .olt main_v9 main_v10
  let main_c_3 : IVec S_ 1 := constantI S_ 1 1#1
  let main_v12 : IVec S_ 1 := (fun x v => Host.reduce IntOp.andi x v reducesTo_S1x4352x8x64_S_d0_1_2_3 h_S_) main_v11 main_c_3
  let main_v13 : IVec S_ 1 := andi main_v8 main_v12
  let main_v14 : FVec F S4096x1x2x8 .f32 := Host.absf main_arg3
  let main_cst_4 : FVec F S_ .f32 := constant S_ .f32 0x7F800000#32
  let main_v15 : FVec F S4096x1x2x8 .f32 := broadcastInDim S4096x1x2x8 ![] bcast_S_S4096x1x2x8 main_cst_4
  let main_v16 : IVec S4096x1x2x8 1 := cmpf .olt main_v14 main_v15
  fn_part1 (F := F) main_arg4 main_arg5 main_v13 main_v16
-- ==== Pre_finite_final.lean ====
abbrev S1x4096x4096 : Shape := ⟨3, ![1, 4096, 4096]⟩
abbrev S1x4096x1024 : Shape := ⟨3, ![1, 4096, 1024]⟩
abbrev S1x6144 : Shape := ⟨2, ![1, 6144]⟩
abbrev S1024 : Shape := ⟨1, ![1024]⟩
abbrev S_ : Shape := ⟨0, ![]⟩

class Facts : Prop where
  bcast_S_S1x4096x4096 : S_.BroadcastsInDim S1x4096x4096 (![] : Fin 0 → Fin S1x4096x4096.rank)
  reducesTo_S1x4096x4096_S_d0_1_2 : S1x4096x4096.ReducesTo [0, 1, 2] S_
  h_S_ : 0 < S_.numel
  bcast_S_S1x4096x1024 : S_.BroadcastsInDim S1x4096x1024 (![] : Fin 0 → Fin S1x4096x1024.rank)
  reducesTo_S1x4096x1024_S_d0_1_2 : S1x4096x1024.ReducesTo [0, 1, 2] S_
  bcast_S_S1x6144 : S_.BroadcastsInDim S1x6144 (![] : Fin 0 → Fin S1x6144.rank)
  reducesTo_S1x6144_S_d0_1 : S1x6144.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1x4096x1024 .f32) (main_v13 : IVec S_ 1) (main_v16 : IVec S1x6144 1) : IVec S_ 1 :=
  let main_c_5 : IVec S_ 1 := constantI S_ 1 1#1
  let main_v17 : IVec S_ 1 := (fun x v => Host.reduce IntOp.andi x v reducesTo_S1x6144_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1x4096x1024 .f32 := Host.absf main_arg5
  let main_cst_8 : FVec F S_ .f32 := constant S_ .f32 0x7F800000#32
  let main_v25 : FVec F S1x4096x1024 .f32 := broadcastInDim S1x4096x1024 ![] bcast_S_S1x4096x1024 main_cst_8
  let main_v26 : IVec S1x4096x1024 1 := cmpf .olt main_v24 main_v25
  let main_c_9 : IVec S_ 1 := constantI S_ 1 1#1
  let main_v27 : IVec S_ 1 := (fun x v => Host.reduce IntOp.andi x v reducesTo_S1x4096x1024_S_d0_1_2 h_S_) main_v26 main_c_9
  let main_v28 : IVec S_ 1 := andi main_v23 main_v27
  main_v28

def fn {F : FTy → Type} [FloatOps F] (main_arg0 : FVec F S1x4096x4096 .f32) (main_arg1 : FVec F S1x4096x1024 .f32) (main_arg2 : FVec F S1x4096x1024 .f32) (main_arg3 : FVec F S1x6144 .f32) (main_arg4 : FVec F S1024 .f32) (main_arg5 : FVec F S1x4096x1024 .f32) : IVec S_ 1 :=
  let main_v0 : FVec F S1x4096x4096 .f32 := Host.absf main_arg0
  let main_cst : FVec F S_ .f32 := constant S_ .f32 0x7F800000#32
  let main_v1 : FVec F S1x4096x4096 .f32 := broadcastInDim S1x4096x4096 ![] bcast_S_S1x4096x4096 main_cst
  let main_v2 : IVec S1x4096x4096 1 := cmpf .olt main_v0 main_v1
  let main_c : IVec S_ 1 := constantI S_ 1 1#1
  let main_v3 : IVec S_ 1 := (fun x v => Host.reduce IntOp.andi x v reducesTo_S1x4096x4096_S_d0_1_2 h_S_) main_v2 main_c
  let main_v4 : FVec F S1x4096x1024 .f32 := Host.absf main_arg1
  let main_cst_0 : FVec F S_ .f32 := constant S_ .f32 0x7F800000#32
  let main_v5 : FVec F S1x4096x1024 .f32 := broadcastInDim S1x4096x1024 ![] bcast_S_S1x4096x1024 main_cst_0
  let main_v6 : IVec S1x4096x1024 1 := cmpf .olt main_v4 main_v5
  let main_c_1 : IVec S_ 1 := constantI S_ 1 1#1
  let main_v7 : IVec S_ 1 := (fun x v => Host.reduce IntOp.andi x v reducesTo_S1x4096x1024_S_d0_1_2 h_S_) main_v6 main_c_1
  let main_v8 : IVec S_ 1 := andi main_v3 main_v7
  let main_v9 : FVec F S1x4096x1024 .f32 := Host.absf main_arg2
  let main_cst_2 : FVec F S_ .f32 := constant S_ .f32 0x7F800000#32
  let main_v10 : FVec F S1x4096x1024 .f32 := broadcastInDim S1x4096x1024 ![] bcast_S_S1x4096x1024 main_cst_2
  let main_v11 : IVec S1x4096x1024 1 := cmpf .olt main_v9 main_v10
  let main_c_3 : IVec S_ 1 := constantI S_ 1 1#1
  let main_v12 : IVec S_ 1 := (fun x v => Host.reduce IntOp.andi x v reducesTo_S1x4096x1024_S_d0_1_2 h_S_) main_v11 main_c_3
  let main_v13 : IVec S_ 1 := andi main_v8 main_v12
  let main_v14 : FVec F S1x6144 .f32 := Host.absf main_arg3
  let main_cst_4 : FVec F S_ .f32 := constant S_ .f32 0x7F800000#32
  let main_v15 : FVec F S1x6144 .f32 := broadcastInDim S1x6144 ![] bcast_S_S1x6144 main_cst_4
  let main_v16 : IVec S1x6144 1 := cmpf .olt main_v14 main_v15
  fn_part1 (F := F) main_arg4 main_arg5 main_v13 main_v16
-- ==== Pre_finite_mod1.lean ====
abbrev S1x4096x1024 : Shape := ⟨3, ![1, 4096, 1024]⟩
abbrev S1x6144 : Shape := ⟨2, ![1, 6144]⟩
abbrev S1x1024x1952 : Shape := ⟨3, ![1, 1024, 1952]⟩
abbrev S1x4352x1024 : Shape := ⟨3, ![1, 4352, 1024]⟩
abbrev S1x4096x1536 : Shape := ⟨3, ![1, 4096, 1536]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x6144 : S_.BroadcastsInDim S1x6144 (![] : Fin 0 → Fin S1x6144.rank)
  reducesTo_S1x6144_S_d0_1 : S1x6144.ReducesTo [0, 1] S_
  bcast_S_S1x1024x1952 : S_.BroadcastsInDim S1x1024x1952 (![] : Fin 0 → Fin S1x1024x1952.rank)
  reducesTo_S1x1024x1952_S_d0_1_2 : S1x1024x1952.ReducesTo [0, 1, 2] S_
  bcast_S_S1x4352x1024 : S_.BroadcastsInDim S1x4352x1024 (![] : Fin 0 → Fin S1x4352x1024.rank)
  reducesTo_S1x4352x1024_S_d0_1_2 : S1x4352x1024.ReducesTo [0, 1, 2] S_
  bcast_S_S1x4096x1536 : S_.BroadcastsInDim S1x4096x1536 (![] : Fin 0 → Fin S1x4096x1536.rank)
  reducesTo_S1x4096x1536_S_d0_1_2 : S1x4096x1536.ReducesTo [0, 1, 2] S_

variable [Facts]

def fn_part1 {F : FTy → Type} [FloatOps F] (main_arg5 : FVec F S1x4096x1536 .f32) (main_v13 : IVec S_ 1) (main_v16 : IVec S1x4352x1024 1) : IVec S_ 1 :=
  let main_c_5 : IVec S_ 1 := constantI S_ 1 1#1
  let main_v17 : IVec S_ 1 := (fun x v => Host.reduce IntOp.andi x v reducesTo_S1x4352x1024_S_d0_1_2 h_S_) main_v16 main_c_5
  let main_v18 : IVec S_ 1 := andi main_v13 main_v17
  let main_v19 : FVec F S1x4096x1536 .f32 := Host.absf main_arg5
  let main_cst_6 : FVec F S_ .f32 := constant S_ .f32 0x7F800000#32
  let main_v20 : FVec F S1x4096x1536 .f32 := broadcastInDim S1x4096x1536 ![] bcast_S_S1x4096x1536 main_cst_6
  let main_v21 : IVec S1x4096x1536 1 := cmpf .olt main_v19 main_v20
  let main_c_7 : IVec S_ 1 := constantI S_ 1 1#1
  let main_v22 : IVec S_ 1 := (fun x v => Host.reduce IntOp.andi x v reducesTo_S1x4096x1536_S_d0_1_2 h_S_) main_v21 main_c_7
  let main_v23 : IVec S_ 1 := andi main_v18 main_v22
  main_v23

def fn {F : FTy → Type} [FloatOps F] (main_arg0 : FVec F S1x4096x1024 .f32) (main_arg1 : FVec F S1x6144 .f32) (main_arg2 : FVec F S1x1024x1952 .f32) (main_arg3 : FVec F S1x4096x1024 .f32) (main_arg4 : FVec F S1x4352x1024 .f32) (main_arg5 : FVec F S1x4096x1536 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x6144 .f32 := Host.absf main_arg1
  let main_cst_0 : FVec F S_ .f32 := constant S_ .f32 0x7F800000#32
  let main_v5 : FVec F S1x6144 .f32 := broadcastInDim S1x6144 ![] bcast_S_S1x6144 main_cst_0
  let main_v6 : IVec S1x6144 1 := cmpf .olt main_v4 main_v5
  let main_c_1 : IVec S_ 1 := constantI S_ 1 1#1
  let main_v7 : IVec S_ 1 := (fun x v => Host.reduce IntOp.andi x v reducesTo_S1x6144_S_d0_1 h_S_) main_v6 main_c_1
  let main_v8 : IVec S_ 1 := andi main_v3 main_v7
  let main_v9 : FVec F S1x1024x1952 .f32 := Host.absf main_arg2
  let main_cst_2 : FVec F S_ .f32 := constant S_ .f32 0x7F800000#32
  let main_v10 : FVec F S1x1024x1952 .f32 := broadcastInDim S1x1024x1952 ![] bcast_S_S1x1024x1952 main_cst_2
  let main_v11 : IVec S1x1024x1952 1 := cmpf .olt main_v9 main_v10
  let main_c_3 : IVec S_ 1 := constantI S_ 1 1#1
  let main_v12 : IVec S_ 1 := (fun x v => Host.reduce IntOp.andi x v reducesTo_S1x1024x1952_S_d0_1_2 h_S_) main_v11 main_c_3
  let main_v13 : IVec S_ 1 := andi main_v8 main_v12
  let main_v14 : FVec F S1x4352x1024 .f32 := Host.absf main_arg4
  let main_cst_4 : FVec F S_ .f32 := constant S_ .f32 0x7F800000#32
  let main_v15 : FVec F S1x4352x1024 .f32 := broadcastInDim S1x4352x1024 ![] bcast_S_S1x4352x1024 main_cst_4
  let main_v16 : IVec S1x4352x1024 1 := cmpf .olt main_v14 main_v15
  fn_part1 (F := F) main_arg5 main_v13 main_v16
-- ==== Pre_finite_mod2.lean ====
abbrev S1x4096x1024 : Shape := ⟨3, ![1, 4096, 1024]⟩
abbrev S1x6144 : Shape := ⟨2, ![1, 6144]⟩
abbrev S1x1024x4096 : Shape := ⟨3, ![1, 1024, 4096]⟩
abbrev S1x4096x4096 : Shape := ⟨3, ![1, 4096, 4096]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x6144 : S_.BroadcastsInDim S1x6144 (![] : Fin 0 → Fin S1x6144.rank)
  reducesTo_S1x6144_S_d0_1 : S1x6144.ReducesTo [0, 1] S_
  bcast_S_S1x1024x4096 : S_.BroadcastsInDim S1x1024x4096 (![] : Fin 0 → Fin S1x1024x4096.rank)
  reducesTo_S1x1024x4096_S_d0_1_2 : S1x1024x4096.ReducesTo [0, 1, 2] S_
  bcast_S_S1x4096x4096 : S_.BroadcastsInDim S1x4096x4096 (![] : Fin 0 → Fin S1x4096x4096.rank)
  reducesTo_S1x4096x4096_S_d0_1_2 : S1x4096x4096.ReducesTo [0, 1, 2] S_

variable [Facts]

def fn_part1 {F : FTy → Type} [FloatOps F] (main_arg5 : FVec F S1x4096x4096 .f32) (main_v13 : IVec S_ 1) (main_v16 : IVec S1x1024x4096 1) : IVec S_ 1 :=
  let main_c_5 : IVec S_ 1 := constantI S_ 1 1#1
  let main_v17 : IVec S_ 1 := (fun x v => Host.reduce IntOp.andi x v reducesTo_S1x1024x4096_S_d0_1_2 h_S_) main_v16 main_c_5
  let main_v18 : IVec S_ 1 := andi main_v13 main_v17
  let main_v19 : FVec F S1x4096x4096 .f32 := Host.absf main_arg5
  let main_cst_6 : FVec F S_ .f32 := constant S_ .f32 0x7F800000#32
  let main_v20 : FVec F S1x4096x4096 .f32 := broadcastInDim S1x4096x4096 ![] bcast_S_S1x4096x4096 main_cst_6
  let main_v21 : IVec S1x4096x4096 1 := cmpf .olt main_v19 main_v20
  let main_c_7 : IVec S_ 1 := constantI S_ 1 1#1
  let main_v22 : IVec S_ 1 := (fun x v => Host.reduce IntOp.andi x v reducesTo_S1x4096x4096_S_d0_1_2 h_S_) main_v21 main_c_7
  let main_v23 : IVec S_ 1 := andi main_v18 main_v22
  main_v23

def fn {F : FTy → Type} [FloatOps F] (main_arg0 : FVec F S1x4096x1024 .f32) (main_arg1 : FVec F S1x4096x1024 .f32) (main_arg2 : FVec F S1x6144 .f32) (main_arg3 : FVec F S1x1024x4096 .f32) (main_arg4 : FVec F S1x4096x1024 .f32) (main_arg5 : FVec F S1x4096x4096 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x4096x1024 .f32 := Host.absf main_arg1
  let main_cst_0 : FVec F S_ .f32 := constant S_ .f32 0x7F800000#32
  let main_v5 : FVec F S1x4096x1024 .f32 := broadcastInDim S1x4096x1024 ![] bcast_S_S1x4096x1024 main_cst_0
  let main_v6 : IVec S1x4096x1024 1 := cmpf .olt main_v4 main_v5
  let main_c_1 : IVec S_ 1 := constantI S_ 1 1#1
  let main_v7 : IVec S_ 1 := (fun x v => Host.reduce IntOp.andi x v reducesTo_S1x4096x1024_S_d0_1_2 h_S_) main_v6 main_c_1
  let main_v8 : IVec S_ 1 := andi main_v3 main_v7
  let main_v9 : FVec F S1x6144 .f32 := Host.absf main_arg2
  let main_cst_2 : FVec F S_ .f32 := constant S_ .f32 0x7F800000#32
  let main_v10 : FVec F S1x6144 .f32 := broadcastInDim S1x6144 ![] bcast_S_S1x6144 main_cst_2
  let main_v11 : IVec S1x6144 1 := cmpf .olt main_v9 main_v10
  let main_c_3 : IVec S_ 1 := constantI S_ 1 1#1
  let main_v12 : IVec S_ 1 := (fun x v => Host.reduce IntOp.andi x v reducesTo_S1x6144_S_d0_1 h_S_) main_v11 main_c_3
  let main_v13 : IVec S_ 1 := andi main_v8 main_v12
  let main_v14 : FVec F S1x1024x4096 .f32 := Host.absf main_arg3
  let main_cst_4 : FVec F S_ .f32 := constant S_ .f32 0x7F800000#32
  let main_v15 : FVec F S1x1024x4096 .f32 := broadcastInDim S1x1024x4096 ![] bcast_S_S1x1024x4096 main_cst_4
  let main_v16 : IVec S1x1024x4096 1 := cmpf .olt main_v14 main_v15
  fn_part1 (F := F) main_arg5 main_v13 main_v16
-- ==== Pre_finite_qk.lean ====
abbrev S1x4096x8x96 : Shape := ⟨4, ![1, 4096, 8, 96]⟩
abbrev S1x4352x8x96 : Shape := ⟨4, ![1, 4352, 8, 96]⟩
abbrev S1x4352x8x64 : Shape := ⟨4, ![1, 4352, 8, 64]⟩
abbrev S_ : Shape := ⟨0, ![]⟩

class Facts : Prop where
  bcast_S_S1x4096x8x96 : S_.BroadcastsInDim S1x4096x8x96 (![] : Fin 0 → Fin S1x4096x8x96.rank)
  reducesTo_S1x4096x8x96_S_d0_1_2_3 : S1x4096x8x96.ReducesTo [0, 1, 2, 3] S_
  h_S_ : 0 < S_.numel
  bcast_S_S1x4352x8x96 : S_.BroadcastsInDim S1x4352x8x96 (![] : Fin 0 → Fin S1x4352x8x96.rank)
  reducesTo_S1x4352x8x96_S_d0_1_2_3 : S1x4352x8x96.ReducesTo [0, 1, 2, 3] S_

variable [Facts]

def fn {F : FTy → Type} [FloatOps F] (main_arg0 : FVec F S1x4096x8x96 .f32) (main_arg1 : FVec F S1x4352x8x96 .f32) (main_arg2 : FVec F S1x4352x8x64 .f32) : IVec S_ 1 :=
  let main_v0 : FVec F S1x4096x8x96 .f32 := Host.absf main_arg0
  let main_cst : FVec F S_ .f32 := constant S_ .f32 0x7F800000#32
  let main_v1 : FVec F S1x4096x8x96 .f32 := broadcastInDim S1x4096x8x96 ![] bcast_S_S1x4096x8x96 main_cst
  let main_v2 : IVec S1x4096x8x96 1 := cmpf .olt main_v0 main_v1
  let main_c : IVec S_ 1 := constantI S_ 1 1#1
  let main_v3 : IVec S_ 1 := (fun x v => Host.reduce IntOp.andi x v reducesTo_S1x4096x8x96_S_d0_1_2_3 h_S_) main_v2 main_c
  let main_v4 : FVec F S1x4352x8x96 .f32 := Host.absf main_arg1
  let main_cst_0 : FVec F S_ .f32 := constant S_ .f32 0x7F800000#32
  let main_v5 : FVec F S1x4352x8x96 .f32 := broadcastInDim S1x4352x8x96 ![] bcast_S_S1x4352x8x96 main_cst_0
  let main_v6 : IVec S1x4352x8x96 1 := cmpf .olt main_v4 main_v5
  let main_c_1 : IVec S_ 1 := constantI S_ 1 1#1
  let main_v7 : IVec S_ 1 := (fun x v => Host.reduce IntOp.andi x v reducesTo_S1x4352x8x96_S_d0_1_2_3 h_S_) main_v6 main_c_1
  let main_v8 : IVec S_ 1 := andi main_v3 main_v7
  main_v8
-- ==== Conv.lean ====
abbrev S1x4096x1024 : Shape := ⟨3, ![1, 4096, 1024]⟩
abbrev S1x256x1024 : Shape := ⟨3, ![1, 256, 1024]⟩
abbrev S1x1024x1952 : Shape := ⟨3, ![1, 1024, 1952]⟩
abbrev S1x3x512 : Shape := ⟨3, ![1, 3, 512]⟩
abbrev S1024x1952 : Shape := ⟨2, ![1024, 1952]⟩
abbrev S1952x1024 : Shape := ⟨2, ![1952, 1024]⟩
abbrev S1536x1024 : Shape := ⟨2, ![1536, 1024]⟩
abbrev S3x4x128x1024 : Shape := ⟨4, ![3, 4, 128, 1024]⟩
abbrev S4x3x128x1024 : Shape := ⟨4, ![4, 3, 128, 1024]⟩
abbrev S4096x1024 : Shape := ⟨2, ![4096, 1024]⟩
abbrev S256x1024 : Shape := ⟨2, ![256, 1024]⟩
abbrev S4352x1024 : Shape := ⟨2, ![4352, 1024]⟩
abbrev S4096x1536 : Shape := ⟨2, ![4096, 1536]⟩
abbrev S3x512 : Shape := ⟨2, ![3, 512]⟩
abbrev S4096x384 : Shape := ⟨2, ![4096, 384]⟩
abbrev S3x128 : Shape := ⟨2, ![3, 128]⟩
abbrev S4096x128 : Shape := ⟨2, ![4096, 128]⟩
abbrev S384x1024 : Shape := ⟨2, ![384, 1024]⟩
abbrev S1x128 : Shape := ⟨2, ![1, 128]⟩
abbrev S128 : Shape := ⟨1, ![128]⟩

abbrev nBuf : Space → Nat
  | .hbm => 23
  | .vmem => 13
  | .smem => 0
  | _ => 0

abbrev bufTy : (tb : Table) → Fin (tcTables nBuf tb) → BufTy
  | .hbm, ⟨0, _⟩ => ⟨S1x4096x1024, .f32⟩
  | .hbm, ⟨1, _⟩ => ⟨S1x256x1024, .f32⟩
  | .hbm, ⟨2, _⟩ => ⟨S1x1024x1952, .f32⟩
  | .hbm, ⟨3, _⟩ => ⟨S1x3x512, .f32⟩
  | .hbm, ⟨4, _⟩ => ⟨S1x4096x1024, .f32⟩
  | .hbm, ⟨5, _⟩ => ⟨S1024x1952, .f32⟩
  | .hbm, ⟨6, _⟩ => ⟨S1952x1024, .f32⟩
  | .hbm, ⟨7, _⟩ => ⟨S1952x1024, .bf16⟩
  | .hbm, ⟨8, _⟩ => ⟨S1536x1024, .bf16⟩
  | .hbm, ⟨9, _⟩ => ⟨S3x4x128x1024, .bf16⟩
  | .hbm, ⟨10, _⟩ => ⟨S4x3x128x1024, .bf16⟩
  | .hbm, ⟨11, _⟩ => ⟨S1536x1024, .bf16⟩
  | .hbm, ⟨12, _⟩ => ⟨S4096x1024, .f32⟩
  | .hbm, ⟨13, _⟩ => ⟨S256x1024, .f32⟩
  | .hbm, ⟨14, _⟩ => ⟨S4352x1024, .f32⟩
  | .hbm, ⟨15, _⟩ => ⟨S4352x1024, .bf16⟩
  | .hbm, ⟨16, _⟩ => ⟨S4096x1024, .bf16⟩
  | .hbm, ⟨17, _⟩ => ⟨S4096x1536, .f32⟩
  | .hbm, ⟨18, _⟩ => ⟨S3x512, .f32⟩
  | .hbm, ⟨19, _⟩ => ⟨S4096x1024, .f32⟩
  | .hbm, ⟨20, _⟩ => ⟨S4096x1536, .bf16⟩
  | .hbm, ⟨21, _⟩ => ⟨S3x512, .f32⟩
  | .hbm, ⟨22, _⟩ => ⟨S1536x1024, .f32⟩
  | .local _ .vmem, ⟨0, _⟩ => ⟨S4096x384, .f32⟩
  | .local _ .vmem, ⟨1, _⟩ => ⟨S4096x384, .f32⟩
  | .local _ .vmem, ⟨2, _⟩ => ⟨S3x128, .f32⟩
  | .local _ .vmem, ⟨3, _⟩ => ⟨S3x128, .f32⟩
  | .local _ .vmem, ⟨4, _⟩ => ⟨S4096x128, .f32⟩
  | .local _ .vmem, ⟨5, _⟩ => ⟨S4096x128, .f32⟩
  | .local _ .vmem, ⟨6, _⟩ => ⟨S4096x1024, .bf16⟩
  | .local _ .vmem, ⟨7, _⟩ => ⟨S4096x384, .bf16⟩
  | .local _ .vmem, ⟨8, _⟩ => ⟨S4096x384, .bf16⟩
  | .local _ .vmem, ⟨9, _⟩ => ⟨S3x128, .f32⟩
  | .local _ .vmem, ⟨10, _⟩ => ⟨S3x128, .f32⟩
  | .local _ .vmem, ⟨11, _⟩ => ⟨S384x1024, .f32⟩
  | .local _ .vmem, ⟨12, _⟩ => ⟨S384x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev main_v15_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvRefIdeal.lean ====
abbrev S1x4096x1024 : Shape := ⟨3, ![1, 4096, 1024]⟩
abbrev S1x256x1024 : Shape := ⟨3, ![1, 256, 1024]⟩
abbrev S1x1024x1952 : Shape := ⟨3, ![1, 1024, 1952]⟩
abbrev S1x3x512 : Shape := ⟨3, ![1, 3, 512]⟩
abbrev S1024x1952 : Shape := ⟨2, ![1024, 1952]⟩
abbrev S4096x1024 : Shape := ⟨2, ![4096, 1024]⟩
abbrev S4096x1952 : Shape := ⟨2, ![4096, 1952]⟩
abbrev S3x512 : Shape := ⟨2, ![3, 512]⟩
abbrev S4096x1536 : Shape := ⟨2, ![4096, 1536]⟩
abbrev S4096x512 : Shape := ⟨2, ![4096, 512]⟩
abbrev S_ : Shape := ⟨0, ![]⟩
abbrev S1x512 : Shape := ⟨2, ![1, 512]⟩
abbrev S4098x512 : Shape := ⟨2, ![4098, 512]⟩
abbrev S512 : Shape := ⟨1, ![512]⟩
abbrev S1x4096x512 : Shape := ⟨3, ![1, 4096, 512]⟩
abbrev S1952x1024 : Shape := ⟨2, ![1952, 1024]⟩
abbrev S4096x3x4x128 : Shape := ⟨4, ![4096, 3, 4, 128]⟩
abbrev S4096x4x3x128 : Shape := ⟨4, ![4096, 4, 3, 128]⟩
abbrev S1024x1536 : Shape := ⟨2, ![1024, 1536]⟩
abbrev S1024x3x4x128 : Shape := ⟨4, ![1024, 3, 4, 128]⟩
abbrev S1024x4x3x128 : Shape := ⟨4, ![1024, 4, 3, 128]⟩
abbrev S1536x1024 : Shape := ⟨2, ![1536, 1024]⟩

abbrev nBuf : Space → Nat
  | .hbm => 109
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x256x1024, .f32⟩
  | .hbm, ⟨2, _⟩ => ⟨S1x1024x1952, .f32⟩
  | .hbm, ⟨3, _⟩ => ⟨S1x3x512, .f32⟩
  | .hbm, ⟨4, _⟩ => ⟨S1x4096x1024, .f32⟩
  | .hbm, ⟨5, _⟩ => ⟨S1024x1952, .f32⟩
  | .hbm, ⟨6, _⟩ => ⟨S4096x1024, .f32⟩
  | .hbm, ⟨7, _⟩ => ⟨S4096x1952, .f32⟩
  | .hbm, ⟨8, _⟩ => ⟨S3x512, .f32⟩
  | .hbm, ⟨9, _⟩ => ⟨S4096x1536, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S1x512, .f32⟩
  | .hbm, ⟨16, _⟩ => ⟨S4098x512, .f32⟩
  | .hbm, ⟨17, _⟩ => ⟨S_, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S512, .f32⟩
  | .hbm, ⟨23, _⟩ => ⟨S4096x512, .f32⟩
  | .hbm, ⟨24, _⟩ => ⟨S1x512, .f32⟩
  | .hbm, ⟨25, _⟩ => ⟨S4096x512, .f32⟩
  | .hbm, ⟨26, _⟩ => ⟨S4096x512, .f32⟩
  | .hbm, ⟨27, _⟩ => ⟨S1x512, .f32⟩
  | .hbm, ⟨28, _⟩ => ⟨S512, .f32⟩
  | .hbm, ⟨29, _⟩ => ⟨S4096x512, .f32⟩
  | .hbm, ⟨30, _⟩ => ⟨S1x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S1x512, .f32⟩
  | .hbm, ⟨35, _⟩ => ⟨S512, .f32⟩
  | .hbm, ⟨36, _⟩ => ⟨S4096x512, .f32⟩
  | .hbm, ⟨37, _⟩ => ⟨S1x512, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S1x4096x512, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S_, .f32⟩
  | .hbm, ⟨50, _⟩ => ⟨S512, .f32⟩
  | .hbm, ⟨51, _⟩ => ⟨S1x512, .f32⟩
  | .hbm, ⟨52, _⟩ => ⟨S_, .f32⟩
  | .hbm, ⟨53, _⟩ => ⟨S512, .f32⟩
  | .hbm, ⟨54, _⟩ => ⟨S_, .f32⟩
  | .hbm, ⟨55, _⟩ => ⟨S4098x512, .f32⟩
  | .hbm, ⟨56, _⟩ => ⟨S1x512, .f32⟩
  | .hbm, ⟨57, _⟩ => ⟨S_, .f32⟩
  | .hbm, ⟨58, _⟩ => ⟨S3x512, .f32⟩
  | .hbm, ⟨59, _⟩ => ⟨S4096x512, .f32⟩
  | .hbm, ⟨60, _⟩ => ⟨S4096x512, .f32⟩
  | .hbm, ⟨61, _⟩ => ⟨S4096x512, .f32⟩
  | .hbm, ⟨62, _⟩ => ⟨S_, .f32⟩
  | .hbm, ⟨63, _⟩ => ⟨S512, .f32⟩
  | .hbm, ⟨64, _⟩ => ⟨S1x512, .f32⟩
  | .hbm, ⟨65, _⟩ => ⟨S_, .f32⟩
  | .hbm, ⟨66, _⟩ => ⟨S512, .f32⟩
  | .hbm, ⟨67, _⟩ => ⟨S_, .f32⟩
  | .hbm, ⟨68, _⟩ => ⟨S4098x512, .f32⟩
  | .hbm, ⟨69, _⟩ => ⟨S4098x512, .f32⟩
  | .hbm, ⟨70, _⟩ => ⟨S1x512, .f32⟩
  | .hbm, ⟨71, _⟩ => ⟨S_, .f32⟩
  | .hbm, ⟨72, _⟩ => ⟨S3x512, .f32⟩
  | .hbm, ⟨73, _⟩ => ⟨S3x512, .f32⟩
  | .hbm, ⟨74, _⟩ => ⟨S4096x512, .f32⟩
  | .hbm, ⟨75, _⟩ => ⟨S4096x512, .f32⟩
  | .hbm, ⟨76, _⟩ => ⟨S4096x512, .f32⟩
  | .hbm, ⟨77, _⟩ => ⟨S_, .f32⟩
  | .hbm, ⟨78, _⟩ => ⟨S512, .f32⟩
  | .hbm, ⟨79, _⟩ => ⟨S1x512, .f32⟩
  | .hbm, ⟨80, _⟩ => ⟨S_, .f32⟩
  | .hbm, ⟨81, _⟩ => ⟨S512, .f32⟩
  | .hbm, ⟨82, _⟩ => ⟨S_, .f32⟩
  | .hbm, ⟨83, _⟩ => ⟨S4098x512, .f32⟩
  | .hbm, ⟨84, _⟩ => ⟨S4098x512, .f32⟩
  | .hbm, ⟨85, _⟩ => ⟨S1x512, .f32⟩
  | .hbm, ⟨86, _⟩ => ⟨S_, .f32⟩
  | .hbm, ⟨87, _⟩ => ⟨S3x512, .f32⟩
  | .hbm, ⟨88, _⟩ => ⟨S3x512, .f32⟩
  | .hbm, ⟨89, _⟩ => ⟨S1x512, .f32⟩
  | .hbm, ⟨90, _⟩ => ⟨S4096x512, .f32⟩
  | .hbm, ⟨91, _⟩ => ⟨S1x512, .f32⟩
  | .hbm, ⟨92, _⟩ => ⟨S4096x512, .f32⟩
  | .hbm, ⟨93, _⟩ => ⟨S4096x512, .f32⟩
  | .hbm, ⟨94, _⟩ => ⟨S4096x1536, .f32⟩
  | .hbm, ⟨95, _⟩ => ⟨S_, .f32⟩
  | .hbm, ⟨96, _⟩ => ⟨S4096x1952, .f32⟩
  | .hbm, ⟨97, _⟩ => ⟨S1952x1024, .f32⟩
  | .hbm, ⟨98, _⟩ => ⟨S1024x1952, .f32⟩
  | .hbm, ⟨99, _⟩ => ⟨S4096x1536, .f32⟩
  | .hbm, ⟨100, _⟩ => ⟨S4096x3x4x128, .f32⟩
  | .hbm, ⟨101, _⟩ => ⟨S4096x4x3x128, .f32⟩
  | .hbm, ⟨102, _⟩ => ⟨S4096x1536, .f32⟩
  | .hbm, ⟨103, _⟩ => ⟨S4096x1536, .bf16⟩
  | .hbm, ⟨104, _⟩ => ⟨S1024x1536, .f32⟩
  | .hbm, ⟨105, _⟩ => ⟨S1024x3x4x128, .f32⟩
  | .hbm, ⟨106, _⟩ => ⟨S1024x4x3x128, .f32⟩
  | .hbm, ⟨107, _⟩ => ⟨S1024x1536, .f32⟩
  | .hbm, ⟨108, _⟩ => ⟨S1536x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_2 : Ref sig .tc := ⟨.hbm, 49, rfl⟩
abbrev main_v41 : Ref sig .tc := ⟨.hbm, 50, rfl⟩
abbrev main_v42 : Ref sig .tc := ⟨.hbm, 51, rfl⟩
abbrev main_cst_3 : Ref sig .tc := ⟨.hbm, 52, rfl⟩
abbrev main_v43 : Ref sig .tc := ⟨.hbm, 53, rfl⟩
abbrev main_cst_4 : Ref sig .tc := ⟨.hbm, 54, rfl⟩
abbrev main_v44 : Ref sig .tc := ⟨.hbm, 55, rfl⟩
abbrev main_v45 : Ref sig .tc := ⟨.hbm, 56, rfl⟩
abbrev main_cst_5 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_6 : Ref sig .tc := ⟨.hbm, 62, rfl⟩
abbrev main_v50 : Ref sig .tc := ⟨.hbm, 63, rfl⟩
abbrev main_v51 : Ref sig .tc := ⟨.hbm, 64, rfl⟩
abbrev main_cst_7 : Ref sig .tc := ⟨.hbm, 65, rfl⟩
abbrev main_v52 : Ref sig .tc := ⟨.hbm, 66, rfl⟩
abbrev main_cst_8 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_10 : Ref sig .tc := ⟨.hbm, 77, rfl⟩
abbrev main_v61 : Ref sig .tc := ⟨.hbm, 78, rfl⟩
abbrev main_v62 : Ref sig .tc := ⟨.hbm, 79, rfl⟩
abbrev main_cst_11 : Ref sig .tc := ⟨.hbm, 80, rfl⟩
abbrev main_v63 : Ref sig .tc := ⟨.hbm, 81, rfl⟩
abbrev main_cst_12 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_13 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_14 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩

abbrev nD : Nat := 1
abbrev τ : Topo := Topo.v7x

variable {F : FTy → Type} [FloatOps F]
-- ==== Attn.lean ====
abbrev S1x4096x8x96 : Shape := ⟨4, ![1, 4096, 8, 96]⟩
abbrev S1x4352x8x96 : Shape := ⟨4, ![1, 4352, 8, 96]⟩
abbrev S1x4352x8x64 : Shape := ⟨4, ![1, 4352, 8, 64]⟩
abbrev S4096x1x2x8 : Shape := ⟨4, ![4096, 1, 2, 8]⟩
abbrev S1x4096x1024 : Shape := ⟨3, ![1, 4096, 1024]⟩
abbrev S4096x2x8 : Shape := ⟨3, ![4096, 2, 8]⟩
abbrev S4096x1x8 : Shape := ⟨3, ![4096, 1, 8]⟩
abbrev S4096x8 : Shape := ⟨2, ![4096, 8]⟩
abbrev S4096x32 : Shape := ⟨2, ![4096, 32]⟩
abbrev S_ : Shape := ⟨0, ![]⟩
abbrev S4352x128 : Shape := ⟨2, ![4352, 128]⟩
abbrev S4096x8x96 : Shape := ⟨3, ![4096, 8, 96]⟩
abbrev S4096x8x128 : Shape := ⟨3, ![4096, 8, 128]⟩
abbrev S4096x128 : Shape := ⟨2, ![4096, 128]⟩
abbrev S4096x8x120 : Shape := ⟨3, ![4096, 8, 120]⟩
abbrev S4096x8x8 : Shape := ⟨3, ![4096, 8, 8]⟩
abbrev S4096x1x128 : Shape := ⟨3, ![4096, 1, 128]⟩
abbrev S4352x8x96 : Shape := ⟨3, ![4352, 8, 96]⟩
abbrev S4352x8x128 : Shape := ⟨3, ![4352, 8, 128]⟩
abbrev S4352x8x64 : Shape := ⟨3, ![4352, 8, 64]⟩
abbrev S8x4096x4352 : Shape := ⟨3, ![8, 4096, 4352]⟩
abbrev S8x4096 : Shape := ⟨2, ![8, 4096]⟩
abbrev S8x4096x1 : Shape := ⟨3, ![8, 4096, 1]⟩
abbrev S8x4096x64 : Shape := ⟨3, ![8, 4096, 64]⟩
abbrev S4x2x4096 : Shape := ⟨3, ![4, 2, 4096]⟩
abbrev S4x8x4096 : Shape := ⟨3, ![4, 8, 4096]⟩
abbrev S4096x8x64 : Shape := ⟨3, ![4096, 8, 64]⟩
abbrev S4096x512 : Shape := ⟨2, ![4096, 512]⟩
abbrev S32x4096 : Shape := ⟨2, ![32, 4096]⟩
abbrev S4352x1024 : Shape := ⟨2, ![4352, 1024]⟩
abbrev S4352x512 : Shape := ⟨2, ![4352, 512]⟩
abbrev S4352x1536 : Shape := ⟨2, ![4352, 1536]⟩
abbrev S4096x1024 : Shape := ⟨2, ![4096, 1024]⟩
abbrev S512x256 : Shape := ⟨2, ![512, 256]⟩
abbrev S4352x256 : Shape := ⟨2, ![4352, 256]⟩
abbrev S512x128 : Shape := ⟨2, ![512, 128]⟩
abbrev S8x512 : Shape := ⟨2, ![8, 512]⟩
abbrev S8x128 : Shape := ⟨2, ![8, 128]⟩
abbrev S1x512 : Shape := ⟨2, ![1, 512]⟩

abbrev nBuf : Space → Nat
  | .hbm => 111
  | .vmem => 24
  | .smem => 0
  | _ => 0

abbrev bufTy : (tb : Table) → Fin (tcTables nBuf tb) → BufTy
  | .hbm, ⟨0, _⟩ => ⟨S1x4096x8x96, .f32⟩
  | .hbm, ⟨1, _⟩ => ⟨S1x4352x8x96, .f32⟩
  | .hbm, ⟨2, _⟩ => ⟨S1x4352x8x64, .f32⟩
  | .hbm, ⟨3, _⟩ => ⟨S4096x1x2x8, .f32⟩
  | .hbm, ⟨4, _⟩ => ⟨S4096x1x2x8, .f32⟩
  | .hbm, ⟨5, _⟩ => ⟨S1x4096x1024, .f32⟩
  | .hbm, ⟨6, _⟩ => ⟨S4096x2x8, .f32⟩
  | .hbm, ⟨7, _⟩ => ⟨S4096x2x8, .f32⟩
  | .hbm, ⟨8, _⟩ => ⟨S4096x1x8, .f32⟩
  | .hbm, ⟨9, _⟩ => ⟨S4096x8, .f32⟩
  | .hbm, ⟨10, _⟩ => ⟨S4096x1x8, .f32⟩
  | .hbm, ⟨11, _⟩ => ⟨S4096x8, .f32⟩
  | .hbm, ⟨12, _⟩ => ⟨S4096x1x8, .f32⟩
  | .hbm, ⟨13, _⟩ => ⟨S4096x8, .f32⟩
  | .hbm, ⟨14, _⟩ => ⟨S4096x1x8, .f32⟩
  | .hbm, ⟨15, _⟩ => ⟨S4096x8, .f32⟩
  | .hbm, ⟨16, _⟩ => ⟨S4096x32, .f32⟩
  | .hbm, ⟨17, _⟩ => ⟨S4096x1x8, .f32⟩
  | .hbm, ⟨18, _⟩ => ⟨S4096x8, .f32⟩
  | .hbm, ⟨19, _⟩ => ⟨S4096x8, .f32⟩
  | .hbm, ⟨20, _⟩ => ⟨S4096x1x8, .f32⟩
  | .hbm, ⟨21, _⟩ => ⟨S4096x8, .f32⟩
  | .hbm, ⟨22, _⟩ => ⟨S4096x1x8, .f32⟩
  | .hbm, ⟨23, _⟩ => ⟨S4096x8, .f32⟩
  | .hbm, ⟨24, _⟩ => ⟨S4096x8, .f32⟩
  | .hbm, ⟨25, _⟩ => ⟨S4096x1x8, .f32⟩
  | .hbm, ⟨26, _⟩ => ⟨S4096x8, .f32⟩
  | .hbm, ⟨27, _⟩ => ⟨S4096x32, .f32⟩
  | .hbm, ⟨28, _⟩ => ⟨S_, .f32⟩
  | .hbm, ⟨29, _⟩ => ⟨S4352x128, .f32⟩
  | .hbm, ⟨30, _⟩ => ⟨S_, .f32⟩
  | .hbm, ⟨31, _⟩ => ⟨S4352x128, .f32⟩
  | .hbm, ⟨32, _⟩ => ⟨S4096x8x96, .f32⟩
  | .hbm, ⟨33, _⟩ => ⟨S_, .f32⟩
  | .hbm, ⟨34, _⟩ => ⟨S4096x8x128, .f32⟩
  | .hbm, ⟨35, _⟩ => ⟨S4096x128, .f32⟩
  | .hbm, ⟨36, _⟩ => ⟨S4096x128, .f32⟩
  | .hbm, ⟨37, _⟩ => ⟨S4096x8x128, .i32⟩
  | .hbm, ⟨38, _⟩ => ⟨S_, .i32⟩
  | .hbm, ⟨39, _⟩ => ⟨S4096x8x128, .i32⟩
  | .hbm, ⟨40, _⟩ => ⟨S4096x8x128, .i32⟩
  | .hbm, ⟨41, _⟩ => ⟨S_, .i32⟩
  | .hbm, ⟨42, _⟩ => ⟨S4096x8x128, .i32⟩
  | .hbm, ⟨43, _⟩ => ⟨S4096x8x128, .i1⟩
  | .hbm, ⟨44, _⟩ => ⟨S4096x8x120, .f32⟩
  | .hbm, ⟨45, _⟩ => ⟨S4096x8x8, .f32⟩
  | .hbm, ⟨46, _⟩ => ⟨S4096x8x128, .f32⟩
  | .hbm, ⟨47, _⟩ => ⟨S4096x8x8, .f32⟩
  | .hbm, ⟨48, _⟩ => ⟨S4096x8x120, .f32⟩
  | .hbm, ⟨49, _⟩ => ⟨S4096x8x128, .f32⟩
  | .hbm, ⟨50, _⟩ => ⟨S4096x8x128, .f32⟩
  | .hbm, ⟨51, _⟩ => ⟨S4096x1x128, .f32⟩
  | .hbm, ⟨52, _⟩ => ⟨S4096x8x128, .f32⟩
  | .hbm, ⟨53, _⟩ => ⟨S4096x8x128, .f32⟩
  | .hbm, ⟨54, _⟩ => ⟨S4096x1x128, .f32⟩
  | .hbm, ⟨55, _⟩ => ⟨S4096x8x128, .f32⟩
  | .hbm, ⟨56, _⟩ => ⟨S4096x8x128, .f32⟩
  | .hbm, ⟨57, _⟩ => ⟨S4096x8x128, .f32⟩
  | .hbm, ⟨58, _⟩ => ⟨S4096x8x128, .bf16⟩
  | .hbm, ⟨59, _⟩ => ⟨S4352x8x96, .f32⟩
  | .hbm, ⟨60, _⟩ => ⟨S_, .f32⟩
  | .hbm, ⟨61, _⟩ => ⟨S4352x8x128, .f32⟩
  | .hbm, ⟨62, _⟩ => ⟨S4352x8x128, .bf16⟩
  | .hbm, ⟨63, _⟩ => ⟨S4352x8x64, .f32⟩
  | .hbm, ⟨64, _⟩ => ⟨S4352x8x64, .bf16⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S8x4096x4352, .f32⟩
  | .hbm, ⟨72, _⟩ => ⟨S_, .f32⟩
  | .hbm, ⟨73, _⟩ => ⟨S8x4096, .f32⟩
  | .hbm, ⟨74, _⟩ => ⟨S8x4096x1, .f32⟩
  | .hbm, ⟨75, _⟩ => ⟨S8x4096x4352, .f32⟩
  | .hbm, ⟨76, _⟩ => ⟨S8x4096x4352, .f32⟩
  | .hbm, ⟨77, _⟩ => ⟨S8x4096x4352, .f32⟩
  | .hbm, ⟨78, _⟩ => ⟨S8x4096x4352, .f32⟩
  | .hbm, ⟨79, _⟩ => ⟨S8x4096x4352, .f32⟩
  | .hbm, ⟨80, _⟩ => ⟨S8x4096x4352, .bf16⟩
  | .hbm, ⟨81, _⟩ => ⟨S8x4096x4352, .f32⟩
  | .hbm, ⟨82, _⟩ => ⟨S_, .f32⟩
  | .hbm, ⟨83, _⟩ => ⟨S8x4096, .f32⟩
  | .hbm, ⟨84, _⟩ => ⟨S8x4096x1, .f32⟩
  | .hbm, ⟨85, _⟩ => ⟨S8x4096x64, .f32⟩
  | .hbm, ⟨86, _⟩ => ⟨S_, .f32⟩
  | .hbm, ⟨87, _⟩ => ⟨S8x4096x1, .f32⟩
  | .hbm, ⟨88, _⟩ => ⟨S8x4096x1, .f32⟩
  | .hbm, ⟨89, _⟩ => ⟨S8x4096x64, .f32⟩
  | .hbm, ⟨90, _⟩ => ⟨S8x4096x64, .f32⟩
  | .hbm, ⟨91, _⟩ => ⟨S8x4096x1, .f32⟩
  | .hbm, ⟨92, _⟩ => ⟨S8x4096x1, .f32⟩
  | .hbm, ⟨93, _⟩ => ⟨S8x4096x1, .f32⟩
  | .hbm, ⟨94, _⟩ => ⟨S8x4096x1, .f32⟩
  | .hbm, ⟨95, _⟩ => ⟨S8x4096x1, .f32⟩
  | .hbm, ⟨96, _⟩ => ⟨S8x4096x1, .f32⟩
  | .hbm, ⟨97, _⟩ => ⟨S4x2x4096, .f32⟩
  | .hbm, ⟨98, _⟩ => ⟨S_, .f32⟩
  | .hbm, ⟨99, _⟩ => ⟨S4x8x4096, .f32⟩
  | .hbm, ⟨100, _⟩ => ⟨S4096x8x64, .f32⟩
  | .hbm, ⟨101, _⟩ => ⟨S4096x512, .f32⟩
  | .hbm, ⟨102, _⟩ => ⟨S32x4096, .f32⟩
  | .hbm, ⟨103, _⟩ => ⟨S4352x1024, .bf16⟩
  | .hbm, ⟨104, _⟩ => ⟨S4352x512, .bf16⟩
  | .hbm, ⟨105, _⟩ => ⟨S4352x1536, .bf16⟩
  | .hbm, ⟨106, _⟩ => ⟨S4096x1024, .bf16⟩
  | .hbm, ⟨107, _⟩ => ⟨S4096x1024, .f32⟩
  | .hbm, ⟨108, _⟩ => ⟨S4096x1024, .bf16⟩
  | .hbm, ⟨109, _⟩ => ⟨S4352x1024, .bf16⟩
  | .hbm, ⟨110, _⟩ => ⟨S4352x512, .bf16⟩
  | .local _ .vmem, ⟨0, _⟩ => ⟨S512x256, .bf16⟩
  | .local _ .vmem, ⟨1, _⟩ => ⟨S512x256, .bf16⟩
  | .local _ .vmem, ⟨2, _⟩ => ⟨S4352x256, .bf16⟩
  | .local _ .vmem, ⟨3, _⟩ => ⟨S4352x256, .bf16⟩
  | .local _ .vmem, ⟨4, _⟩ => ⟨S4352x128, .bf16⟩
  | .local _ .vmem, ⟨5, _⟩ => ⟨S4352x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S8x512, .f32⟩
  | .local _ .vmem, ⟨11, _⟩ => ⟨S8x512, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x256, .bf16⟩
  | .local _ .vmem, ⟨17, _⟩ => ⟨S512x256, .bf16⟩
  | .local _ .vmem, ⟨18, _⟩ => ⟨S4352x256, .bf16⟩
  | .local _ .vmem, ⟨19, _⟩ => ⟨S4352x256, .bf16⟩
  | .local _ .vmem, ⟨20, _⟩ => ⟨S4352x128, .bf16⟩
  | .local _ .vmem, ⟨21, _⟩ => ⟨S4352x128, .bf16⟩
  | .local _ .vmem, ⟨22, _⟩ => ⟨S4352x256, .f32⟩
  | .local _ .vmem, ⟨23, _⟩ => ⟨S4352x128, .f32⟩
  | _, _ => ⟨S1x4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_cst_0 : Ref sig .tc := ⟨.hbm, 30, rfl⟩
abbrev main_v23 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c : Ref sig .tc := ⟨.hbm, 38, rfl⟩
abbrev main_v29 : Ref sig .tc := ⟨.hbm, 39, rfl⟩
abbrev main_v30 : Ref sig .tc := ⟨.hbm, 40, rfl⟩
abbrev main_c_2 : Ref sig .tc := ⟨.hbm, 41, rfl⟩
abbrev main_v31 : Ref sig .tc := ⟨.hbm, 42, rfl⟩
abbrev main_v32 : Ref sig .tc := ⟨.hbm, 43, rfl⟩
abbrev main_call0_v0 : Ref sig .tc := ⟨.hbm, 44, rfl⟩
abbrev main_call0_v1 : Ref sig .tc := ⟨.hbm, 45, rfl⟩
abbrev main_v33 : Ref sig .tc := ⟨.hbm, 46, rfl⟩
abbrev main_call1_v0 : Ref sig .tc := ⟨.hbm, 47, rfl⟩
abbrev main_call1_v1 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_3 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_4 : Ref sig .tc := ⟨.hbm, 65, rfl⟩
abbrev main_v49 : Ref sig .tc := ⟨.hbm, 66, rfl⟩
abbrev main_cst_5 : Ref sig .tc := ⟨.hbm, 67, rfl⟩
abbrev main_v50 : Ref sig .tc := ⟨.hbm, 68, rfl⟩
abbrev main_cst_6 : Ref sig .tc := ⟨.hbm, 69, rfl⟩
abbrev main_v51 : Ref sig .tc := ⟨.hbm, 70, rfl⟩
abbrev main_v52 : Ref sig .tc := ⟨.hbm, 71, rfl⟩
abbrev main_cst_7 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_8 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_9 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_10 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85_0 : Ref sig .tc := ⟨.hbm, 108, rfl⟩
abbrev main_v85_1 : Ref sig .tc := ⟨.hbm, 109, rfl⟩
abbrev main_v85_2 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v139 : BitVec 1 := Scalar.cmpi .eq arg1 c7_i32
  let v140 : BitVec 32 := Scalar.extui v139
  let c0_i32_71 : BitVec 32 := 0#32
  let v141 : BitVec 1 := Scalar.cmpi .ne v140 c0_i32_71
  v141

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4352x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S4352x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== AttnIdeal.lean ====
variable {F : FTy → Type} [FloatOps F] [Named F]
def κ : String → Option EReal := fun
  | "attn_scale" => some (((Real.sqrt 96)⁻¹ : ℝ) : EReal)
  | "exp2_scale" => some (((Real.sqrt 96)⁻¹ * (Real.log 2)⁻¹ : ℝ) : EReal)
  | _ => none
-- ==== AttnRefIdeal.lean ====
abbrev S1x4096x8x96 : Shape := ⟨4, ![1, 4096, 8, 96]⟩
abbrev S1x4352x8x96 : Shape := ⟨4, ![1, 4352, 8, 96]⟩
abbrev S1x4352x8x64 : Shape := ⟨4, ![1, 4352, 8, 64]⟩
abbrev S4096x1x2x8 : Shape := ⟨4, ![4096, 1, 2, 8]⟩
abbrev S1x4096x1024 : Shape := ⟨3, ![1, 4096, 1024]⟩
abbrev S4096x8x96 : Shape := ⟨3, ![4096, 8, 96]⟩
abbrev S4352x8x96 : Shape := ⟨3, ![4352, 8, 96]⟩
abbrev S4352x8x64 : Shape := ⟨3, ![4352, 8, 64]⟩
abbrev S4096x8x64 : Shape := ⟨3, ![4096, 8, 64]⟩
abbrev S4096x8x32 : Shape := ⟨3, ![4096, 8, 32]⟩
abbrev S4096x8x2x2x8 : Shape := ⟨5, ![4096, 8, 2, 2, 8]⟩
abbrev S4096x8x2x1x8 : Shape := ⟨5, ![4096, 8, 2, 1, 8]⟩
abbrev S4096x8x2x8 : Shape := ⟨4, ![4096, 8, 2, 8]⟩
abbrev S8x4096x4352 : Shape := ⟨3, ![8, 4096, 4352]⟩
abbrev S_ : Shape := ⟨0, ![]⟩
abbrev S8x4096 : Shape := ⟨2, ![8, 4096]⟩
abbrev S8x4096x1 : Shape := ⟨3, ![8, 4096, 1]⟩
abbrev S8x64x4096 : Shape := ⟨3, ![8, 64, 4096]⟩
abbrev S4096x512 : Shape := ⟨2, ![4096, 512]⟩
abbrev S1x4096x512 : Shape := ⟨3, ![1, 4096, 512]⟩
abbrev S8x64x4352 : Shape := ⟨3, ![8, 64, 4352]⟩
abbrev S8x4352x96 : Shape := ⟨3, ![8, 4352, 96]⟩
abbrev S8x4096x96 : Shape := ⟨3, ![8, 4096, 96]⟩
abbrev S4096x8x128 : Shape := ⟨3, ![4096, 8, 128]⟩
abbrev S4096x1024 : Shape := ⟨2, ![4096, 1024]⟩
abbrev S4352x8x128 : Shape := ⟨3, ![4352, 8, 128]⟩
abbrev S4352x1024 : Shape := ⟨2, ![4352, 1024]⟩
abbrev S4352x512 : Shape := ⟨2, ![4352, 512]⟩

abbrev nBuf : Space → Nat
  | .hbm => 147
  | .vmem => 0
  | .smem => 0
  | _ => 0

abbrev hbmTy0_0 (i : Nat) : BufTy := match i % 128 with
  | 0 => ⟨S1x4096x8x96, .f32⟩
  | 1 => ⟨S1x4352x8x96, .f32⟩
  | 2 => ⟨S1x4352x8x64, .f32⟩
  | 3 => ⟨S4096x1x2x8, .f32⟩
  | 4 => ⟨S4096x1x2x8, .f32⟩
  | 5 => ⟨S1x4096x1024, .f32⟩
  | 6 => ⟨S4096x8x96, .f32⟩
  | 7 => ⟨S4352x8x96, .f32⟩
  | 8 => ⟨S4352x8x64, .f32⟩
  | 9 => ⟨S4096x8x64, .f32⟩
  | 10 => ⟨S4096x8x32, .f32⟩
  | 11 => ⟨S4096x8x2x2x8, .f32⟩
  | 12 => ⟨S4096x8x2x1x8, .f32⟩
  | 13 => ⟨S4096x8x2x8, .f32⟩
  | 14 => ⟨S4096x8x2x1x8, .f32⟩
  | 15 => ⟨S4096x8x2x8, .f32⟩
  | 16 => ⟨S4096x8x2x8, .f32⟩
  | 17 => ⟨S4096x8x2x8, .f32⟩
  | 18 => ⟨S4096x8x2x8, .f32⟩
  | 19 => ⟨S4096x8x2x8, .f32⟩
  | 20 => ⟨S4096x8x2x8, .f32⟩
  | 21 => ⟨S4096x8x2x8, .f32⟩
  | 22 => ⟨S4096x8x2x8, .f32⟩
  | 23 => ⟨S4096x8x2x8, .f32⟩
  | 24 => ⟨S4096x8x2x8, .f32⟩
  | 25 => ⟨S4096x8x2x8, .f32⟩
  | 26 => ⟨S4096x8x2x1x8, .f32⟩
  | 27 => ⟨S4096x8x2x1x8, .f32⟩
  | 28 => ⟨S4096x8x2x2x8, .f32⟩
  | 29 => ⟨S4096x8x32, .f32⟩
  | 30 => ⟨S4096x8x96, .f32⟩
  | 31 => ⟨S8x4096x4352, .f32⟩
  | 32 => ⟨S_, .f32⟩
  | 33 => ⟨S_, .f32⟩
  | 34 => ⟨S_, .f32⟩
  | 35 => ⟨S_, .f32⟩
  | 36 => ⟨S8x4096x4352, .f32⟩
  | 37 => ⟨S8x4096x4352, .f32⟩
  | 38 => ⟨S_, .f32⟩
  | 39 => ⟨S8x4096, .f32⟩
  | 40 => ⟨S8x4096x1, .f32⟩
  | 41 => ⟨S8x4096x4352, .f32⟩
  | 42 => ⟨S8x4096x4352, .i1⟩
  | 43 => ⟨S8x4096x4352, .f32⟩
  | 44 => ⟨S_, .f32⟩
  | 45 => ⟨S8x4096, .f32⟩
  | 46 => ⟨S_, .f32⟩
  | 47 => ⟨S8x4096, .f32⟩
  | 48 => ⟨S8x4096, .f32⟩
  | 49 => ⟨S_, .f32⟩
  | 50 => ⟨S8x4096, .f32⟩
  | 51 => ⟨S8x4096, .i1⟩
  | 52 => ⟨S_, .f32⟩
  | 53 => ⟨S8x4096, .f32⟩
  | 54 => ⟨S8x4096, .i1⟩
  | 55 => ⟨S_, .f32⟩
  | 56 => ⟨S8x4096, .f32⟩
  | 57 => ⟨S_, .f32⟩
  | 58 => ⟨S8x4096, .f32⟩
  | 59 => ⟨S_, .f32⟩
  | 60 => ⟨S8x4096, .f32⟩
  | 61 => ⟨S8x4096, .f32⟩
  | 62 => ⟨S8x4096, .f32⟩
  | 63 => ⟨S8x4096x1, .f32⟩
  | 64 => ⟨S8x4096x4352, .f32⟩
  | 65 => ⟨S8x4096x4352, .f32⟩
  | 66 => ⟨S8x4096x4352, .f32⟩
  | 67 => ⟨S_, .f32⟩
  | 68 => ⟨S8x4096, .f32⟩
  | 69 => ⟨S8x4096x1, .f32⟩
  | 70 => ⟨S8x4096x4352, .f32⟩
  | 71 => ⟨S8x4096x4352, .f32⟩
  | 72 => ⟨S8x4096x1, .f32⟩
  | 73 => ⟨S_, .f32⟩
  | 74 => ⟨S8x4096x1, .f32⟩
  | 75 => ⟨S8x4096x1, .f32⟩
  | 76 => ⟨S8x64x4096, .f32⟩
  | 77 => ⟨S4096x8x64, .f32⟩
  | 78 => ⟨S4096x512, .f32⟩
  | 79 => ⟨S1x4096x512, .f32⟩
  | 80 => ⟨S4096x512, .f32⟩
  | 81 => ⟨S4096x8x64, .f32⟩
  | 82 => ⟨S8x64x4096, .f32⟩
  | 83 => ⟨S8x4096x4352, .f32⟩
  | 84 => ⟨S8x64x4352, .f32⟩
  | 85 => ⟨S4352x8x64, .f32⟩
  | 86 => ⟨S8x4096x4352, .f32⟩
  | 87 => ⟨S8x4096x4352, .f32⟩
  | 88 => ⟨S8x4096x4352, .f32⟩
  | 89 => ⟨S_, .f32⟩
  | 90 => ⟨S8x4096, .f32⟩
  | 91 => ⟨S8x4096x1, .f32⟩
  | 92 => ⟨S8x4096x1, .f32⟩
  | 93 => ⟨S8x4096x4352, .f32⟩
  | 94 => ⟨S8x4096x4352, .f32⟩
  | 95 => ⟨S_, .f32⟩
  | 96 => ⟨S8x4096, .f32⟩
  | 97 => ⟨S8x4096x4352, .f32⟩
  | 98 => ⟨S8x4096x4352, .f32⟩
  | 99 => ⟨S8x4096x4352, .f32⟩
  | 100 => ⟨S8x4096x4352, .f32⟩
  | 101 => ⟨S8x4096x4352, .f32⟩
  | 102 => ⟨S8x4352x96, .f32⟩
  | 103 => ⟨S4352x8x96, .f32⟩
  | 104 => ⟨S8x4096x96, .f32⟩
  | 105 => ⟨S4096x8x96, .f32⟩
  | 106 => ⟨S4096x8x64, .f32⟩
  | 107 => ⟨S4096x8x32, .f32⟩
  | 108 => ⟨S4096x8x2x2x8, .f32⟩
  | 109 => ⟨S4096x8x2x1x8, .f32⟩
  | 110 => ⟨S4096x8x2x8, .f32⟩
  | 111 => ⟨S4096x8x2x1x8, .f32⟩
  | 112 => ⟨S4096x8x2x8, .f32⟩
  | 113 => ⟨S4096x8x2x8, .f32⟩
  | 114 => ⟨S4096x8x2x8, .f32⟩
  | 115 => ⟨S4096x8x2x8, .f32⟩
  | 116 => ⟨S4096x8x2x8, .f32⟩
  | 117 => ⟨S4096x8x2x8, .f32⟩
  | 118 => ⟨S4096x8x2x8, .f32⟩
  | 119 => ⟨S4096x8x2x8, .f32⟩
  | 120 => ⟨S4096x8x2x8, .f32⟩
  | 121 => ⟨S4096x8x2x8, .f32⟩
  | 122 => ⟨S4096x8x2x8, .f32⟩
  | 123 => ⟨S4096x8x2x8, .f32⟩
  | 124 => ⟨S4096x8x2x1x8, .f32⟩
  | 125 => ⟨S_, .f32⟩
  | 126 => ⟨S4096x8x2x2x8, .f32⟩
  | 127 => ⟨S4096x8x2x1x8, .f32⟩
  | _ => ⟨S1x4096x8x96, .f32⟩

abbrev hbmTy0_1 (i : Nat) : BufTy := match i % 128 with
  | 0 => ⟨S_, .f32⟩
  | 1 => ⟨S4096x8x2x2x8, .f32⟩
  | 2 => ⟨S4096x8x2x2x8, .f32⟩
  | 3 => ⟨S4096x8x32, .f32⟩
  | 4 => ⟨S_, .f32⟩
  | 5 => ⟨S4096x8x96, .f32⟩
  | 6 => ⟨S_, .f32⟩
  | 7 => ⟨S4096x8x96, .f32⟩
  | 8 => ⟨S4096x8x96, .f32⟩
  | 9 => ⟨S_, .f32⟩
  | 10 => ⟨S4096x8x128, .f32⟩
  | 11 => ⟨S4096x1024, .f32⟩
  | 12 => ⟨S4096x1024, .bf16⟩
  | 13 => ⟨S_, .f32⟩
  | 14 => ⟨S4352x8x128, .f32⟩
  | 15 => ⟨S4352x1024, .f32⟩
  | 16 => ⟨S4352x1024, .bf16⟩
  | 17 => ⟨S4352x512, .f32⟩
  | 18 => ⟨S4352x512, .bf16⟩
  | _ => ⟨S1x4096x8x96, .f32⟩

abbrev hbmTy (i : Nat) : BufTy := match i / 128 with
  | 0 => hbmTy0_0 i
  | 1 => hbmTy0_1 i
  | _ => ⟨S1x4096x8x96, .f32⟩

abbrev bufTy : (tb : Table) → Fin (tcTables nBuf tb) → BufTy
  | .hbm, ⟨i, _⟩ => hbmTy i
  | _, _ => ⟨S1x4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst : Ref sig .tc := ⟨.hbm, 32, rfl⟩
abbrev main_v26 : Ref sig .tc := ⟨.hbm, 33, rfl⟩
abbrev main_cst_0 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_1 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_2 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_9 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_10 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_11 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_12 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_cst_13 : Ref sig .tc := ⟨.hbm, 125, rfl⟩
abbrev main_v105 : Ref sig .tc := ⟨.hbm, 126, rfl⟩
abbrev main_v106 : Ref sig .tc := ⟨.hbm, 127, rfl⟩
abbrev main_cst_14 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_cst_15 : Ref sig .tc := ⟨.hbm, 132, rfl⟩
abbrev main_v110 : Ref sig .tc := ⟨.hbm, 133, rfl⟩
abbrev main_cst_16 : Ref sig .tc := ⟨.hbm, 134, rfl⟩
abbrev main_v111 : Ref sig .tc := ⟨.hbm, 135, rfl⟩
abbrev main_v112 : Ref sig .tc := ⟨.hbm, 136, rfl⟩
abbrev main_cst_17 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_cst_18 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩

abbrev nD : Nat := 1
abbrev τ : Topo := Topo.v7x

variable {F : FTy → Type} [FloatOps F]
-- ==== Act.lean ====
abbrev S1x4096x1024 : Shape := ⟨3, ![1, 4096, 1024]⟩
abbrev S1x1024x4096 : Shape := ⟨3, ![1, 1024, 4096]⟩
abbrev S4096x1024 : Shape := ⟨2, ![4096, 1024]⟩
abbrev S1024x4096 : Shape := ⟨2, ![1024, 4096]⟩
abbrev S4096x4096 : Shape := ⟨2, ![4096, 4096]⟩
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 15
  | .vmem => 8
  | .smem => 0
  | _ => 0

abbrev bufTy : (tb : Table) → Fin (tcTables nBuf tb) → BufTy
  | .hbm, ⟨0, _⟩ => ⟨S1x4096x1024, .f32⟩
  | .hbm, ⟨1, _⟩ => ⟨S1x1024x4096, .f32⟩
  | .hbm, ⟨2, _⟩ => ⟨S1x4096x1024, .f32⟩
  | .hbm, ⟨3, _⟩ => ⟨S1x4096x1024, .f32⟩
  | .hbm, ⟨4, _⟩ => ⟨S4096x1024, .f32⟩
  | .hbm, ⟨5, _⟩ => ⟨S4096x1024, .bf16⟩
  | .hbm, ⟨6, _⟩ => ⟨S1024x4096, .f32⟩
  | .hbm, ⟨7, _⟩ => ⟨S1024x4096, .bf16⟩
  | .hbm, ⟨8, _⟩ => ⟨S4096x4096, .f32⟩
  | .hbm, ⟨9, _⟩ => ⟨S4096x4096, .bf16⟩
  | .hbm, ⟨10, _⟩ => ⟨S4096x1024, .f32⟩
  | .hbm, ⟨11, _⟩ => ⟨S4096x1024, .bf16⟩
  | .hbm, ⟨12, _⟩ => ⟨S4096x1024, .f32⟩
  | .hbm, ⟨13, _⟩ => ⟨S4096x1024, .bf16⟩
  | .hbm, ⟨14, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ActRefIdeal.lean ====
abbrev S1x4096x1024 : Shape := ⟨3, ![1, 4096, 1024]⟩
abbrev S1x1024x4096 : Shape := ⟨3, ![1, 1024, 4096]⟩
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024x4096, .f32⟩
  | .hbm, ⟨2, _⟩ => ⟨S1x4096x1024, .f32⟩
  | .hbm, ⟨3, _⟩ => ⟨S1x4096x1024, .f32⟩
  | .hbm, ⟨4, _⟩ => ⟨S4096x1024, .f32⟩
  | .hbm, ⟨5, _⟩ => ⟨S1024x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .i1⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S4096x4096, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Ctx.lean ====
abbrev S1x256x1024 : Shape := ⟨3, ![1, 256, 1024]⟩
abbrev S1x6144 : Shape := ⟨2, ![1, 6144]⟩
abbrev S1x4352x1024 : Shape := ⟨3, ![1, 4352, 1024]⟩
abbrev S4352x1024 : Shape := ⟨2, ![4352, 1024]⟩
abbrev S256x1024 : Shape := ⟨2, ![256, 1024]⟩
abbrev S8x1024 : Shape := ⟨2, ![8, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 6
  | .vmem => 3
  | .smem => 0
  | _ => 0

abbrev bufTy : (tb : Table) → Fin (tcTables nBuf tb) → BufTy
  | .hbm, ⟨0, _⟩ => ⟨S1x256x1024, .f32⟩
  | .hbm, ⟨1, _⟩ => ⟨S1x6144, .f32⟩
  | .hbm, ⟨2, _⟩ => ⟨S1x4352x1024, .f32⟩
  | .hbm, ⟨3, _⟩ => ⟨S4352x1024, .f32⟩
  | .hbm, ⟨4, _⟩ => ⟨S256x1024, .f32⟩
  | .hbm, ⟨5, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== CtxRefIdeal.lean ====
abbrev S1x256x1024 : Shape := ⟨3, ![1, 256, 1024]⟩
abbrev S1x6144 : Shape := ⟨2, ![1, 6144]⟩
abbrev S1x4352x1024 : Shape := ⟨3, ![1, 4352, 1024]⟩
abbrev S1x1024 : Shape := ⟨2, ![1, 1024]⟩
abbrev S256x1024 : Shape := ⟨2, ![256, 1024]⟩
abbrev S_ : Shape := ⟨0, ![]⟩
abbrev S256 : Shape := ⟨1, ![256]⟩
abbrev S256x1 : Shape := ⟨2, ![256, 1]⟩
abbrev S1024 : Shape := ⟨1, ![1024]⟩
abbrev S6x1024 : Shape := ⟨2, ![6, 1024]⟩
abbrev S8x1024 : Shape := ⟨2, ![8, 1024]⟩

abbrev nBuf : Space → Nat
  | .hbm => 42
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x6144, .f32⟩
  | .hbm, ⟨2, _⟩ => ⟨S1x4352x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S_, .f32⟩
  | .hbm, ⟨18, _⟩ => ⟨S256x1, .f32⟩
  | .hbm, ⟨19, _⟩ => ⟨S256x1, .f32⟩
  | .hbm, ⟨20, _⟩ => ⟨S256x1, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S1x256x1024, .f32⟩
  | .hbm, ⟨31, _⟩ => ⟨S256x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S256x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S_, .f32⟩
  | .hbm, ⟨40, _⟩ => ⟨S6x1024, .f32⟩
  | .hbm, ⟨41, _⟩ => ⟨S8x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Modb.lean ====
abbrev S1x4096x1024 : Shape := ⟨3, ![1, 4096, 1024]⟩
abbrev S1x6144 : Shape := ⟨2, ![1, 6144]⟩
abbrev S1x1024x4096 : Shape := ⟨3, ![1, 1024, 4096]⟩
abbrev S1x4096x4096 : Shape := ⟨3, ![1, 4096, 4096]⟩
abbrev S4096x1024 : Shape := ⟨2, ![4096, 1024]⟩
abbrev S1x1024 : Shape := ⟨2, ![1, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S4096x4096 : Shape := ⟨2, ![4096, 4096]⟩
abbrev S8x1024 : Shape := ⟨2, ![8, 1024]⟩
abbrev S512x4096 : Shape := ⟨2, ![512, 4096]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 23
  | .vmem => 16
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x6144, .f32⟩
  | .hbm, ⟨3, _⟩ => ⟨S1x1024x4096, .f32⟩
  | .hbm, ⟨4, _⟩ => ⟨S1x4096x1024, .f32⟩
  | .hbm, ⟨5, _⟩ => ⟨S1x4096x4096, .f32⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S1024x4096, .f32⟩
  | .hbm, ⟨13, _⟩ => ⟨S1024x4096, .bf16⟩
  | .hbm, ⟨14, _⟩ => ⟨S1024x8x512, .bf16⟩
  | .hbm, ⟨15, _⟩ => ⟨S8x1024x512, .bf16⟩
  | .hbm, ⟨16, _⟩ => ⟨S4096x4096, .f32⟩
  | .hbm, ⟨17, _⟩ => ⟨S4096x4096, .bf16⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | .hbm, ⟨22, _⟩ => ⟨S8x1024, .f32⟩
  | .local _ .vmem, ⟨0, _⟩ => ⟨S512x4096, .bf16⟩
  | .local _ .vmem, ⟨1, _⟩ => ⟨S512x4096, .bf16⟩
  | .local _ .vmem, ⟨2, _⟩ => ⟨S8x1024x512, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S8x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![c0_i32.toNat, c4_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== ModbRefIdeal.lean ====
abbrev S1x4096x1024 : Shape := ⟨3, ![1, 4096, 1024]⟩
abbrev S1x6144 : Shape := ⟨2, ![1, 6144]⟩
abbrev S1x1024x4096 : Shape := ⟨3, ![1, 1024, 4096]⟩
abbrev S1x4096x4096 : Shape := ⟨3, ![1, 4096, 4096]⟩
abbrev S1x1024 : Shape := ⟨2, ![1, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩
abbrev S4096x4096 : Shape := ⟨2, ![4096, 4096]⟩
abbrev S1024 : Shape := ⟨1, ![1024]⟩
abbrev S5x1024 : Shape := ⟨2, ![5, 1024]⟩
abbrev S8x1024 : Shape := ⟨2, ![8, 1024]⟩

abbrev nBuf : Space → Nat
  | .hbm => 83
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x6144, .f32⟩
  | .hbm, ⟨3, _⟩ => ⟨S1x1024x4096, .f32⟩
  | .hbm, ⟨4, _⟩ => ⟨S1x4096x1024, .f32⟩
  | .hbm, ⟨5, _⟩ => ⟨S1x4096x4096, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S1024x4096, .f32⟩
  | .hbm, ⟨42, _⟩ => ⟨S4096x4096, .f32⟩
  | .hbm, ⟨43, _⟩ => ⟨S4096x1024, .f32⟩
  | .hbm, ⟨44, _⟩ => ⟨S4096x4096, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S4096x1024, .bf16⟩
  | .hbm, ⟨80, _⟩ => ⟨S_, .f32⟩
  | .hbm, ⟨81, _⟩ => ⟨S5x1024, .f32⟩
  | .hbm, ⟨82, _⟩ => ⟨S8x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_9 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_10 : Ref sig .tc := ⟨.hbm, 80, rfl⟩
abbrev main_v63 : Ref sig .tc := ⟨.hbm, 81, rfl⟩
abbrev main_v64 : Ref sig .tc := ⟨.hbm, 82, rfl⟩

abbrev nD : Nat := 1
abbrev τ : Topo := Topo.v7x

variable {F : FTy → Type} [FloatOps F]
-- ==== Moda.lean ====
abbrev S1x4096x1024 : Shape := ⟨3, ![1, 4096, 1024]⟩
abbrev S1x6144 : Shape := ⟨2, ![1, 6144]⟩
abbrev S1x1024x1952 : Shape := ⟨3, ![1, 1024, 1952]⟩
abbrev S1x4352x1024 : Shape := ⟨3, ![1, 4352, 1024]⟩
abbrev S1x4096x1536 : Shape := ⟨3, ![1, 4096, 1536]⟩
abbrev S1024x1952 : Shape := ⟨2, ![1024, 1952]⟩
abbrev S1952x1024 : Shape := ⟨2, ![1952, 1024]⟩
abbrev S1536x1024 : Shape := ⟨2, ![1536, 1024]⟩
abbrev S3x4x128x1024 : Shape := ⟨4, ![3, 4, 128, 1024]⟩
abbrev S4x3x128x1024 : Shape := ⟨4, ![4, 3, 128, 1024]⟩
abbrev S4096x1536 : Shape := ⟨2, ![4096, 1536]⟩
abbrev S4096x3x4x128 : Shape := ⟨4, ![4096, 3, 4, 128]⟩
abbrev S4096x4x3x128 : Shape := ⟨4, ![4096, 4, 3, 128]⟩
abbrev S4352x1024 : Shape := ⟨2, ![4352, 1024]⟩
abbrev S4096x1024 : Shape := ⟨2, ![4096, 1024]⟩
abbrev S8x1024 : Shape := ⟨2, ![8, 1024]⟩
abbrev S512x1536 : Shape := ⟨2, ![512, 1536]⟩
abbrev S512x1024 : Shape := ⟨2, ![512, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 23
  | .vmem => 13
  | .smem => 0
  | _ => 0

abbrev bufTy : (tb : Table) → Fin (tcTables nBuf tb) → BufTy
  | .hbm, ⟨0, _⟩ => ⟨S1x4096x1024, .f32⟩
  | .hbm, ⟨1, _⟩ => ⟨S1x6144, .f32⟩
  | .hbm, ⟨2, _⟩ => ⟨S1x1024x1952, .f32⟩
  | .hbm, ⟨3, _⟩ => ⟨S1x4096x1024, .f32⟩
  | .hbm, ⟨4, _⟩ => ⟨S1x4352x1024, .f32⟩
  | .hbm, ⟨5, _⟩ => ⟨S1x4096x1536, .f32⟩
  | .hbm, ⟨6, _⟩ => ⟨S1024x1952, .f32⟩
  | .hbm, ⟨7, _⟩ => ⟨S1952x1024, .f32⟩
  | .hbm, ⟨8, _⟩ => ⟨S1952x1024, .bf16⟩
  | .hbm, ⟨9, _⟩ => ⟨S1536x1024, .bf16⟩
  | .hbm, ⟨10, _⟩ => ⟨S3x4x128x1024, .bf16⟩
  | .hbm, ⟨11, _⟩ => ⟨S4x3x128x1024, .bf16⟩
  | .hbm, ⟨12, _⟩ => ⟨S1536x1024, .bf16⟩
  | .hbm, ⟨13, _⟩ => ⟨S4096x1536, .f32⟩
  | .hbm, ⟨14, _⟩ => ⟨S4096x3x4x128, .f32⟩
  | .hbm, ⟨15, _⟩ => ⟨S4096x4x3x128, .f32⟩
  | .hbm, ⟨16, _⟩ => ⟨S4096x1536, .f32⟩
  | .hbm, ⟨17, _⟩ => ⟨S4096x1536, .bf16⟩
  | .hbm, ⟨18, _⟩ => ⟨S4352x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S8x1024, .f32⟩
  | .local _ .vmem, ⟨0, _⟩ => ⟨S512x1536, .bf16⟩
  | .local _ .vmem, ⟨1, _⟩ => ⟨S512x1536, .bf16⟩
  | .local _ .vmem, ⟨2, _⟩ => ⟨S1536x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S8x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15_0 : Ref sig .tc := ⟨.hbm, 21, rfl⟩
abbrev main_v15_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ModaRefIdeal.lean ====
abbrev S1x4096x1024 : Shape := ⟨3, ![1, 4096, 1024]⟩
abbrev S1x6144 : Shape := ⟨2, ![1, 6144]⟩
abbrev S1x1024x1952 : Shape := ⟨3, ![1, 1024, 1952]⟩
abbrev S1x4352x1024 : Shape := ⟨3, ![1, 4352, 1024]⟩
abbrev S1x4096x1536 : Shape := ⟨3, ![1, 4096, 1536]⟩
abbrev S1x1024 : Shape := ⟨2, ![1, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1024x1952 : Shape := ⟨2, ![1024, 1952]⟩
abbrev S1024x1536 : Shape := ⟨2, ![1024, 1536]⟩
abbrev S4096x1536 : Shape := ⟨2, ![4096, 1536]⟩
abbrev S1024 : Shape := ⟨1, ![1024]⟩
abbrev S6x1024 : Shape := ⟨2, ![6, 1024]⟩
abbrev S8x1024 : Shape := ⟨2, ![8, 1024]⟩

abbrev nBuf : Space → Nat
  | .hbm => 76
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x6144, .f32⟩
  | .hbm, ⟨2, _⟩ => ⟨S1x1024x1952, .f32⟩
  | .hbm, ⟨3, _⟩ => ⟨S1x4096x1024, .f32⟩
  | .hbm, ⟨4, _⟩ => ⟨S1x4352x1024, .f32⟩
  | .hbm, ⟨5, _⟩ => ⟨S1x4096x1536, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S1024x1952, .f32⟩
  | .hbm, ⟨38, _⟩ => ⟨S1024x1536, .f32⟩
  | .hbm, ⟨39, _⟩ => ⟨S4096x1536, .f32⟩
  | .hbm, ⟨40, _⟩ => ⟨S4096x1024, .f32⟩
  | .hbm, ⟨41, _⟩ => ⟨S1x4096x1024, .f32⟩
  | .hbm, ⟨42, _⟩ => ⟨S4096x1024, .f32⟩
  | .hbm, ⟨43, _⟩ => ⟨S4096x1536, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S6x1024, .f32⟩
  | .hbm, ⟨75, _⟩ => ⟨S8x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_9 : Ref sig .tc := ⟨.hbm, 73, rfl⟩
abbrev main_v57 : Ref sig .tc := ⟨.hbm, 74, rfl⟩
abbrev main_v58 : Ref sig .tc := ⟨.hbm, 75, rfl⟩

abbrev nD : Nat := 1
abbrev τ : Topo := Topo.v7x

variable {F : FTy → Type} [FloatOps F]
-- ==== Final.lean ====
abbrev S1x4096x4096 : Shape := ⟨3, ![1, 4096, 4096]⟩
abbrev S1x4096x1024 : Shape := ⟨3, ![1, 4096, 1024]⟩
abbrev S1x6144 : Shape := ⟨2, ![1, 6144]⟩
abbrev S1024 : Shape := ⟨1, ![1024]⟩
abbrev S4096x4096 : Shape := ⟨2, ![4096, 4096]⟩
abbrev S4096x1024 : Shape := ⟨2, ![4096, 1024]⟩
abbrev S1x1024 : Shape := ⟨2, ![1, 1024]⟩
abbrev S8x1024 : Shape := ⟨2, ![8, 1024]⟩
abbrev S512x4096 : Shape := ⟨2, ![512, 4096]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 16
  | .vmem => 14
  | .smem => 0
  | _ => 0

abbrev bufTy : (tb : Table) → Fin (tcTables nBuf tb) → BufTy
  | .hbm, ⟨0, _⟩ => ⟨S1x4096x4096, .f32⟩
  | .hbm, ⟨1, _⟩ => ⟨S1x4096x1024, .f32⟩
  | .hbm, ⟨2, _⟩ => ⟨S1x4096x1024, .f32⟩
  | .hbm, ⟨3, _⟩ => ⟨S1x6144, .f32⟩
  | .hbm, ⟨4, _⟩ => ⟨S1024, .f32⟩
  | .hbm, ⟨5, _⟩ => ⟨S1x4096x1024, .f32⟩
  | .hbm, ⟨6, _⟩ => ⟨S4096x4096, .f32⟩
  | .hbm, ⟨7, _⟩ => ⟨S4096x4096, .bf16⟩
  | .hbm, ⟨8, _⟩ => ⟨S4096x1024, .f32⟩
  | .hbm, ⟨9, _⟩ => ⟨S4096x1024, .bf16⟩
  | .hbm, ⟨10, _⟩ => ⟨S4096x1024, .f32⟩
  | .hbm, ⟨11, _⟩ => ⟨S4096x1024, .f32⟩
  | .hbm, ⟨12, _⟩ => ⟨S1x1024, .f32⟩
  | .hbm, ⟨13, _⟩ => ⟨S4096x1024, .f32⟩
  | .hbm, ⟨14, _⟩ => ⟨S4096x1024, .bf16⟩
  | .hbm, ⟨15, _⟩ => ⟨S8x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S8x1024, .f32⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![c0_i32.toNat, c5_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== FinalRefIdeal.lean ====
abbrev S1x4096x4096 : Shape := ⟨3, ![1, 4096, 4096]⟩
abbrev S1x4096x1024 : Shape := ⟨3, ![1, 4096, 1024]⟩
abbrev S1x6144 : Shape := ⟨2, ![1, 6144]⟩
abbrev S1024 : Shape := ⟨1, ![1024]⟩
abbrev S1x1024 : Shape := ⟨2, ![1, 1024]⟩
abbrev S4096x1024 : Shape := ⟨2, ![4096, 1024]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S4x1024 : Shape := ⟨2, ![4, 1024]⟩
abbrev S8x1024 : Shape := ⟨2, ![8, 1024]⟩

abbrev nBuf : Space → Nat
  | .hbm => 100
  | .vmem => 0
  | .smem => 0
  | _ => 0

abbrev bufTy : (tb : Table) → Fin (tcTables nBuf tb) → BufTy
  | .hbm, ⟨0, _⟩ => ⟨S1x4096x4096, .f32⟩
  | .hbm, ⟨1, _⟩ => ⟨S1x4096x1024, .f32⟩
  | .hbm, ⟨2, _⟩ => ⟨S1x4096x1024, .f32⟩
  | .hbm, ⟨3, _⟩ => ⟨S1x6144, .f32⟩
  | .hbm, ⟨4, _⟩ => ⟨S1024, .f32⟩
  | .hbm, ⟨5, _⟩ => ⟨S1x4096x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S4096x1024, .f32⟩
  | .hbm, ⟨13, _⟩ => ⟨S4096x4096, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S4096, .f32⟩
  | .hbm, ⟨61, _⟩ => ⟨S_, .f32⟩
  | .hbm, ⟨62, _⟩ => ⟨S4096, .f32⟩
  | .hbm, ⟨63, _⟩ => ⟨S4096, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S4096x1024, .f32⟩
  | .hbm, ⟨77, _⟩ => ⟨S4096x1024, .f32⟩
  | .hbm, ⟨78, _⟩ => ⟨S4096x1, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S_, .f32⟩
  | .hbm, ⟨83, _⟩ => ⟨S4096, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S_, .f32⟩
  | .hbm, ⟨93, _⟩ => ⟨S1024, .f32⟩
  | .hbm, ⟨94, _⟩ => ⟨S1x1024, .f32⟩
  | .hbm, ⟨95, _⟩ => ⟨S4096x1024, .bf16⟩
  | .hbm, ⟨96, _⟩ => ⟨S1x1024, .f32⟩
  | .hbm, ⟨97, _⟩ => ⟨S_, .f32⟩
  | .hbm, ⟨98, _⟩ => ⟨S4x1024, .f32⟩
  | .hbm, ⟨99, _⟩ => ⟨S8x1024, .f32⟩
  | _, _ => ⟨S1x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_13 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_14 : Ref sig .tc := ⟨.hbm, 79, rfl⟩
abbrev main_v58 : Ref sig .tc := ⟨.hbm, 80, rfl⟩
abbrev main_v59 : Ref sig .tc := ⟨.hbm, 81, rfl⟩
abbrev main_cst_15 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_16 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_17 : Ref sig .tc := ⟨.hbm, 97, rfl⟩
abbrev main_v73 : Ref sig .tc := ⟨.hbm, 98, rfl⟩
abbrev main_v74 : Ref sig .tc := ⟨.hbm, 99, rfl⟩

abbrev nD : Nat := 1
abbrev τ : Topo := Topo.v7x

variable {F : FTy → Type} [FloatOps F]
-- ==== Adaln.lean ====
abbrev S8x1024 : Shape := ⟨2, ![8, 1024]⟩
abbrev S1024 : Shape := ⟨1, ![1024]⟩
abbrev S1x1024x768 : Shape := ⟨3, ![1, 1024, 768]⟩
abbrev S8x768 : Shape := ⟨2, ![8, 768]⟩
abbrev S8x24x768 : Shape := ⟨3, ![8, 24, 768]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S1024x16 : Shape := ⟨2, ![1024, 16]⟩
abbrev S1024x768 : Shape := ⟨2, ![1024, 768]⟩
abbrev S24x768 : Shape := ⟨2, ![24, 768]⟩
abbrev S1x768 : Shape := ⟨2, ![1, 768]⟩
abbrev S16x768 : Shape := ⟨2, ![16, 768]⟩
abbrev S1x24x768 : Shape := ⟨3, ![1, 24, 768]⟩

abbrev nBuf : Space → Nat
  | .hbm => 15
  | .vmem => 8
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1x1024x768, .f32⟩
  | .hbm, ⟨3, _⟩ => ⟨S8x768, .f32⟩
  | .hbm, ⟨4, _⟩ => ⟨S8x768, .f32⟩
  | .hbm, ⟨5, _⟩ => ⟨S8x24x768, .f32⟩
  | .hbm, ⟨6, _⟩ => ⟨S1x1024, .f32⟩
  | .hbm, ⟨7, _⟩ => ⟨S_, .f32⟩
  | .hbm, ⟨8, _⟩ => ⟨S7x1024, .f32⟩
  | .hbm, ⟨9, _⟩ => ⟨S16x1024, .f32⟩
  | .hbm, ⟨10, _⟩ => ⟨S1024x16, .f32⟩
  | .hbm, ⟨11, _⟩ => ⟨S1024x768, .f32⟩
  | .hbm, ⟨12, _⟩ => ⟨S1024x768, .f32⟩
  | .hbm, ⟨13, _⟩ => ⟨S8x1024, .f32⟩
  | .hbm, ⟨14, _⟩ => ⟨S24x768, .f32⟩
  | .local _ .vmem, ⟨0, _⟩ => ⟨S1024x16, .f32⟩
  | .local _ .vmem, ⟨1, _⟩ => ⟨S1024x768, .f32⟩
  | .local _ .vmem, ⟨2, _⟩ => ⟨S8x768, .f32⟩
  | .local _ .vmem, ⟨3, _⟩ => ⟨S8x768, .f32⟩
  | .local _ .vmem, ⟨4, _⟩ => ⟨S8x24x768, .f32⟩
  | .local _ .vmem, ⟨5, _⟩ => ⟨S1024x768, .f32⟩
  | .local _ .vmem, ⟨6, _⟩ => ⟨S8x1024, .f32⟩
  | .local _ .vmem, ⟨7, _⟩ => ⟨S24x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1024x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x24x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== AdalnRefIdeal.lean ====
abbrev S8x1024 : Shape := ⟨2, ![8, 1024]⟩
abbrev S1024 : Shape := ⟨1, ![1024]⟩
abbrev S1x1024x768 : Shape := ⟨3, ![1, 1024, 768]⟩
abbrev S8x768 : Shape := ⟨2, ![8, 768]⟩
abbrev S8x24x768 : Shape := ⟨3, ![8, 24, 768]⟩
abbrev S1024x768 : Shape := ⟨2, ![1024, 768]⟩
abbrev S_ : Shape := ⟨0, ![]⟩
abbrev S1x1024 : Shape := ⟨2, ![1, 1024]⟩
abbrev S1x768 : Shape := ⟨2, ![1, 768]⟩
abbrev S768 : Shape := ⟨1, ![768]⟩
abbrev S768x1024 : Shape := ⟨2, ![768, 1024]⟩
abbrev S7x1024 : Shape := ⟨2, ![7, 1024]⟩
abbrev S24x768 : Shape := ⟨2, ![24, 768]⟩

abbrev nBuf : Space → Nat
  | .hbm => 43
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1x1024x768, .f32⟩
  | .hbm, ⟨3, _⟩ => ⟨S8x768, .f32⟩
  | .hbm, ⟨4, _⟩ => ⟨S8x768, .f32⟩
  | .hbm, ⟨5, _⟩ => ⟨S8x24x768, .f32⟩
  | .hbm, ⟨6, _⟩ => ⟨S1024x768, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S_, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1x1024, .f32⟩
  | .hbm, ⟨17, _⟩ => ⟨S8x1024, .f32⟩
  | .hbm, ⟨18, _⟩ => ⟨S8x1024, .f32⟩
  | .hbm, ⟨19, _⟩ => ⟨S_, .f32⟩
  | .hbm, ⟨20, _⟩ => ⟨S8x1024, .f32⟩
  | .hbm, ⟨21, _⟩ => ⟨S8x1024, .f32⟩
  | .hbm, ⟨22, _⟩ => ⟨S_, .f32⟩
  | .hbm, ⟨23, _⟩ => ⟨S8x1024, .f32⟩
  | .hbm, ⟨24, _⟩ => ⟨S8x1024, .f32⟩
  | .hbm, ⟨25, _⟩ => ⟨S8x1024, .f32⟩
  | .hbm, ⟨26, _⟩ => ⟨S8x768, .f32⟩
  | .hbm, ⟨27, _⟩ => ⟨S1x768, .f32⟩
  | .hbm, ⟨28, _⟩ => ⟨S8x768, .f32⟩
  | .hbm, ⟨29, _⟩ => ⟨S_, .f32⟩
  | .hbm, ⟨30, _⟩ => ⟨S768, .f32⟩
  | .hbm, ⟨31, _⟩ => ⟨S1x768, .f32⟩
  | .hbm, ⟨32, _⟩ => ⟨S768x1024, .f32⟩
  | .hbm, ⟨33, _⟩ => ⟨S1024x768, .f32⟩
  | .hbm, ⟨34, _⟩ => ⟨S1x1024, .f32⟩
  | .hbm, ⟨35, _⟩ => ⟨S768x1024, .f32⟩
  | .hbm, ⟨36, _⟩ => ⟨S1024x768, .f32⟩
  | .hbm, ⟨37, _⟩ => ⟨S1024x768, .f32⟩
  | .hbm, ⟨38, _⟩ => ⟨S_, .f32⟩
  | .hbm, ⟨39, _⟩ => ⟨S7x1024, .f32⟩
  | .hbm, ⟨40, _⟩ => ⟨S8x1024, .f32⟩
  | .hbm, ⟨41, _⟩ => ⟨S_, .f32⟩
  | .hbm, ⟨42, _⟩ => ⟨S24x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_0 : Ref sig .tc := ⟨.hbm, 38, rfl⟩
abbrev main_v15 : Ref sig .tc := ⟨.hbm, 39, rfl⟩
abbrev main_v16 : Ref sig .tc := ⟨.hbm, 40, rfl⟩
abbrev main_cst_1 : Ref sig .tc := ⟨.hbm, 41, rfl⟩
abbrev main_v17 : Ref sig .tc := ⟨.hbm, 42, rfl⟩

abbrev nD : Nat := 1
abbrev τ : Topo := Topo.v7x

variable {F : FTy → Type} [FloatOps F]
-- ==== Fwd.lean ====
abbrev S1x4096x8x96 : Shape := ⟨4, ![1, 4096, 8, 96]⟩
abbrev S1x4352x8x96 : Shape := ⟨4, ![1, 4352, 8, 96]⟩
abbrev S1x4352x8x64 : Shape := ⟨4, ![1, 4352, 8, 64]⟩
abbrev S4096x8x96 : Shape := ⟨3, ![4096, 8, 96]⟩
abbrev S_ : Shape := ⟨0, ![]⟩
abbrev S4096x8x128 : Shape := ⟨3, ![4096, 8, 128]⟩
abbrev S4096x1024 : Shape := ⟨2, ![4096, 1024]⟩
abbrev S4352x8x96 : Shape := ⟨3, ![4352, 8, 96]⟩
abbrev S4352x8x128 : Shape := ⟨3, ![4352, 8, 128]⟩
abbrev S4352x1024 : Shape := ⟨2, ![4352, 1024]⟩
abbrev S4352x8x64 : Shape := ⟨3, ![4352, 8, 64]⟩
abbrev S4352x512 : Shape := ⟨2, ![4352, 512]⟩
abbrev S4352x1536 : Shape := ⟨2, ![4352, 1536]⟩
abbrev S4096x512 : Shape := ⟨2, ![4096, 512]⟩
abbrev S32x4096 : Shape := ⟨2, ![32, 4096]⟩
abbrev S1024x256 : Shape := ⟨2, ![1024, 256]⟩
abbrev S4352x256 : Shape := ⟨2, ![4352, 256]⟩
abbrev S4352x128 : Shape := ⟨2, ![4352, 128]⟩
abbrev S1024x128 : Shape := ⟨2, ![1024, 128]⟩
abbrev S8x1024 : Shape := ⟨2, ![8, 1024]⟩
abbrev S512x128 : Shape := ⟨2, ![512, 128]⟩
abbrev S512x4352 : Shape := ⟨2, ![512, 4352]⟩
abbrev S512 : Shape := ⟨1, ![512]⟩
abbrev S512x1 : Shape := ⟨2, ![512, 1]⟩
abbrev S128x512 : Shape := ⟨2, ![128, 512]⟩
abbrev S8x512 : Shape := ⟨2, ![8, 512]⟩

abbrev nBuf : Space → Nat
  | .hbm => 20
  | .vmem => 12
  | .smem => 0
  | _ => 0

abbrev bufTy : (tb : Table) → Fin (tcTables nBuf tb) → BufTy
  | .hbm, ⟨0, _⟩ => ⟨S1x4096x8x96, .f32⟩
  | .hbm, ⟨1, _⟩ => ⟨S1x4352x8x96, .f32⟩
  | .hbm, ⟨2, _⟩ => ⟨S1x4352x8x64, .f32⟩
  | .hbm, ⟨3, _⟩ => ⟨S4096x8x96, .f32⟩
  | .hbm, ⟨4, _⟩ => ⟨S_, .f32⟩
  | .hbm, ⟨5, _⟩ => ⟨S4096x8x128, .f32⟩
  | .hbm, ⟨6, _⟩ => ⟨S4096x8x128, .bf16⟩
  | .hbm, ⟨7, _⟩ => ⟨S4096x1024, .bf16⟩
  | .hbm, ⟨8, _⟩ => ⟨S4352x8x96, .f32⟩
  | .hbm, ⟨9, _⟩ => ⟨S_, .f32⟩
  | .hbm, ⟨10, _⟩ => ⟨S4352x8x128, .f32⟩
  | .hbm, ⟨11, _⟩ => ⟨S4352x8x128, .bf16⟩
  | .hbm, ⟨12, _⟩ => ⟨S4352x1024, .bf16⟩
  | .hbm, ⟨13, _⟩ => ⟨S4352x8x64, .f32⟩
  | .hbm, ⟨14, _⟩ => ⟨S4352x8x64, .bf16⟩
  | .hbm, ⟨15, _⟩ => ⟨S4352x512, .bf16⟩
  | .hbm, ⟨16, _⟩ => ⟨S4352x1536, .bf16⟩
  | .hbm, ⟨17, _⟩ => ⟨S4096x512, .f32⟩
  | .hbm, ⟨18, _⟩ => ⟨S4096x1024, .bf16⟩
  | .hbm, ⟨19, _⟩ => ⟨S32x4096, .f32⟩
  | .local _ .vmem, ⟨0, _⟩ => ⟨S1024x256, .bf16⟩
  | .local _ .vmem, ⟨1, _⟩ => ⟨S1024x256, .bf16⟩
  | .local _ .vmem, ⟨2, _⟩ => ⟨S4352x256, .bf16⟩
  | .local _ .vmem, ⟨3, _⟩ => ⟨S4352x256, .bf16⟩
  | .local _ .vmem, ⟨4, _⟩ => ⟨S4352x128, .bf16⟩
  | .local _ .vmem, ⟨5, _⟩ => ⟨S4352x128, .bf16⟩
  | .local _ .vmem, ⟨6, _⟩ => ⟨S1024x128, .f32⟩
  | .local _ .vmem, ⟨7, _⟩ => ⟨S1024x128, .f32⟩
  | .local _ .vmem, ⟨8, _⟩ => ⟨S1024x128, .bf16⟩
  | .local _ .vmem, ⟨9, _⟩ => ⟨S1024x128, .bf16⟩
  | .local _ .vmem, ⟨10, _⟩ => ⟨S8x1024, .f32⟩
  | .local _ .vmem, ⟨11, _⟩ => ⟨S8x1024, .f32⟩
  | _, _ => ⟨S1x4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32_7 : BitVec 32 := 0#32
  let c2_i32 : BitVec 32 := 2#32
  let v29 : BitVec 32 := Scalar.addi c0_i32_7 c2_i32
  let c1_i32 : BitVec 32 := 1#32
  ⟨c0_i32_7, v29, c1_i32⟩
def k0_mult1 (k0_t1 : Fin k0_t1_loop.trips) : BitVec 32 :=
  let c0_i32_7 : BitVec 32 := 0#32
  let c1_i32 : BitVec 32 := 1#32
  let arg8 : BitVec 32 := Scf.iv c0_i32_7 c1_i32 k0_t1
  let c512_i32 : BitVec 32 := 512#32
  let v30 : BitVec 32 := Scalar.muli arg8 c512_i32
  v30
def k0_off1 (k0_t1 : Fin k0_t1_loop.trips) : Fin 2 → Nat :=
  let c0_i32_7 : BitVec 32 := 0#32
  let c1_i32 : BitVec 32 := 1#32
  let arg8 : BitVec 32 := Scf.iv c0_i32_7 c1_i32 k0_t1
  let c512_i32 : BitVec 32 := 512#32
  let v30 : BitVec 32 := Scalar.muli arg8 c512_i32
  let v31 : BitVec 32 := v30
  let v35 : Index := Scalar.indexCast v31
  let c0_11 : Index := 0#32
  ![v35.toNat, 0]
def k0_off2 (k0_t1 : Fin k0_t1_loop.trips) : Fin 2 → Nat :=
  let c0_i32_7 : BitVec 32 := 0#32
  let c1_i32 : BitVec 32 := 1#32
  let arg8 : BitVec 32 := Scf.iv c0_i32_7 c1_i32 k0_t1
  let c512_i32 : BitVec 32 := 512#32
  let v30 : BitVec 32 := Scalar.muli arg8 c512_i32
  let v31 : BitVec 32 := v30
  let v41 : Index := Scalar.indexCast v31
  let c128 : Index := 128#32
  ![v41.toNat, 128]
def k0_off3 (k0_t1 : Fin k0_t1_loop.trips) : Fin 2 → Nat :=
  let c0_i32_7 : BitVec 32 := 0#32
  let c1_i32 : BitVec 32 := 1#32
  let arg8 : BitVec 32 := Scf.iv c0_i32_7 c1_i32 k0_t1
  let c512_i32 : BitVec 32 := 512#32
  let v30 : BitVec 32 := Scalar.muli arg8 c512_i32
  let v31 : BitVec 32 := v30
  let v129 : Index := Scalar.indexCast v31
  let c0_46 : Index := 0#32
  ![v129.toNat, 0]
def k0_off4 (k0_t1 : Fin k0_t1_loop.trips) : Fin 2 → Nat :=
  let c0_48 : Index := 0#32
  let c0_i32_7 : BitVec 32 := 0#32
  let c1_i32 : BitVec 32 := 1#32
  let arg8 : BitVec 32 := Scf.iv c0_i32_7 c1_i32 k0_t1
  let c512_i32 : BitVec 32 := 512#32
  let v30 : BitVec 32 := Scalar.muli arg8 c512_i32
  let v31 : BitVec 32 := v30
  let v136 : Index := Scalar.indexCast v31
  ![0, v136.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FwdIdeal.lean ====
variable {F : FTy → Type} [FloatOps F] [Named F]
def κ : String → Option EReal := fun
  | "exp2_scale" => some (((Real.sqrt 96)⁻¹ * (Real.log 2)⁻¹ : ℝ) : EReal)
  | "log2_e" => some (((Real.log 2)⁻¹ : ℝ) : EReal)
  | _ => none
-- ==== FwdRefIdeal.lean ====
abbrev S1x4096x8x96 : Shape := ⟨4, ![1, 4096, 8, 96]⟩
abbrev S1x4352x8x96 : Shape := ⟨4, ![1, 4352, 8, 96]⟩
abbrev S1x4352x8x64 : Shape := ⟨4, ![1, 4352, 8, 64]⟩
abbrev S4096x8x96 : Shape := ⟨3, ![4096, 8, 96]⟩
abbrev S4352x8x96 : Shape := ⟨3, ![4352, 8, 96]⟩
abbrev S8x4096x4352 : Shape := ⟨3, ![8, 4096, 4352]⟩
abbrev S_ : Shape := ⟨0, ![]⟩
abbrev S8x4096 : Shape := ⟨2, ![8, 4096]⟩
abbrev S8x4096x1 : Shape := ⟨3, ![8, 4096, 1]⟩
abbrev S4352x8x64 : Shape := ⟨3, ![4352, 8, 64]⟩
abbrev S8x64x4096 : Shape := ⟨3, ![8, 64, 4096]⟩
abbrev S4096x8x64 : Shape := ⟨3, ![4096, 8, 64]⟩
abbrev S4096x512 : Shape := ⟨2, ![4096, 512]⟩
abbrev S4x2x4096 : Shape := ⟨3, ![4, 2, 4096]⟩
abbrev S4x8x4096 : Shape := ⟨3, ![4, 8, 4096]⟩
abbrev S32x4096 : Shape := ⟨2, ![32, 4096]⟩

abbrev nBuf : Space → Nat
  | .hbm => 37
  | .vmem => 0
  | .smem => 0
  | _ => 0

abbrev bufTy : (tb : Table) → Fin (tcTables nBuf tb) → BufTy
  | .hbm, ⟨0, _⟩ => ⟨S1x4096x8x96, .f32⟩
  | .hbm, ⟨1, _⟩ => ⟨S1x4352x8x96, .f32⟩
  | .hbm, ⟨2, _⟩ => ⟨S1x4352x8x64, .f32⟩
  | .hbm, ⟨3, _⟩ => ⟨S4096x8x96, .f32⟩
  | .hbm, ⟨4, _⟩ => ⟨S4352x8x96, .f32⟩
  | .hbm, ⟨5, _⟩ => ⟨S8x4096x4352, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x4096x4352, .f32⟩
  | .hbm, ⟨11, _⟩ => ⟨S8x4096x4352, .f32⟩
  | .hbm, ⟨12, _⟩ => ⟨S_, .f32⟩
  | .hbm, ⟨13, _⟩ => ⟨S8x4096, .f32⟩
  | .hbm, ⟨14, _⟩ => ⟨S8x4096x1, .f32⟩
  | .hbm, ⟨15, _⟩ => ⟨S8x4096x4352, .f32⟩
  | .hbm, ⟨16, _⟩ => ⟨S8x4096x4352, .f32⟩
  | .hbm, ⟨17, _⟩ => ⟨S8x4096x4352, .f32⟩
  | .hbm, ⟨18, _⟩ => ⟨S_, .f32⟩
  | .hbm, ⟨19, _⟩ => ⟨S8x4096, .f32⟩
  | .hbm, ⟨20, _⟩ => ⟨S8x4096x1, .f32⟩
  | .hbm, ⟨21, _⟩ => ⟨S8x4096x4352, .f32⟩
  | .hbm, ⟨22, _⟩ => ⟨S8x4096x4352, .f32⟩
  | .hbm, ⟨23, _⟩ => ⟨S4352x8x64, .f32⟩
  | .hbm, ⟨24, _⟩ => ⟨S8x64x4096, .f32⟩
  | .hbm, ⟨25, _⟩ => ⟨S4096x8x64, .f32⟩
  | .hbm, ⟨26, _⟩ => ⟨S4096x512, .f32⟩
  | .hbm, ⟨27, _⟩ => ⟨S8x4096x1, .f32⟩
  | .hbm, ⟨28, _⟩ => ⟨S8x4096x1, .f32⟩
  | .hbm, ⟨29, _⟩ => ⟨S_, .f32⟩
  | .hbm, ⟨30, _⟩ => ⟨S_, .f32⟩
  | .hbm, ⟨31, _⟩ => ⟨S8x4096x1, .f32⟩
  | .hbm, ⟨32, _⟩ => ⟨S8x4096x1, .f32⟩
  | .hbm, ⟨33, _⟩ => ⟨S4x2x4096, .f32⟩
  | .hbm, ⟨34, _⟩ => ⟨S_, .f32⟩
  | .hbm, ⟨35, _⟩ => ⟨S4x8x4096, .f32⟩
  | .hbm, ⟨36, _⟩ => ⟨S32x4096, .f32⟩
  | _, _ => ⟨S1x4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Head.lean ====
abbrev S1x4352x1024 : Shape := ⟨3, ![1, 4352, 1024]⟩
abbrev S1x1024x1952 : Shape := ⟨3, ![1, 1024, 1952]⟩
abbrev S1x256x768 : Shape := ⟨3, ![1, 256, 768]⟩
abbrev S1x128x1024 : Shape := ⟨3, ![1, 128, 1024]⟩
abbrev S1x256 : Shape := ⟨2, ![1, 256]⟩
abbrev S1x128 : Shape := ⟨2, ![1, 128]⟩
abbrev S4096x1x2x8 : Shape := ⟨4, ![4096, 1, 2, 8]⟩
abbrev S1x4096x8x96 : Shape := ⟨4, ![1, 4096, 8, 96]⟩
abbrev S1x4352x8x96 : Shape := ⟨4, ![1, 4352, 8, 96]⟩
abbrev S1x4352x8x64 : Shape := ⟨4, ![1, 4352, 8, 64]⟩
abbrev S1024x1952 : Shape := ⟨2, ![1024, 1952]⟩
abbrev S256x768 : Shape := ⟨2, ![256, 768]⟩
abbrev S128x1024 : Shape := ⟨2, ![128, 1024]⟩
abbrev S1952x1024 : Shape := ⟨2, ![1952, 1024]⟩
abbrev S_ : Shape := ⟨0, ![]⟩
abbrev S64x1024 : Shape := ⟨2, ![64, 1024]⟩
abbrev S384x1024 : Shape := ⟨2, ![384, 1024]⟩
abbrev S32x1024 : Shape := ⟨2, ![32, 1024]⟩
abbrev S512x1024 : Shape := ⟨2, ![512, 1024]⟩
abbrev S256x8x96 : Shape := ⟨3, ![256, 8, 96]⟩
abbrev S256x8x128 : Shape := ⟨3, ![256, 8, 128]⟩
abbrev S256x1024 : Shape := ⟨2, ![256, 1024]⟩
abbrev S128x8x128 : Shape := ⟨3, ![128, 8, 128]⟩
abbrev S128x8x64 : Shape := ⟨3, ![128, 8, 64]⟩
abbrev S128x512 : Shape := ⟨2, ![128, 512]⟩
abbrev S256x512 : Shape := ⟨2, ![256, 512]⟩
abbrev S4096x2x8 : Shape := ⟨3, ![4096, 2, 8]⟩
abbrev S4096x1x8 : Shape := ⟨3, ![4096, 1, 8]⟩
abbrev S4096x8 : Shape := ⟨2, ![4096, 8]⟩
abbrev S4096x32 : Shape := ⟨2, ![4096, 32]⟩
abbrev S4352x128 : Shape := ⟨2, ![4352, 128]⟩
abbrev S4352x1024 : Shape := ⟨2, ![4352, 1024]⟩
abbrev S4352x512 : Shape := ⟨2, ![4352, 512]⟩
abbrev S4352x256 : Shape := ⟨2, ![4352, 256]⟩
abbrev S4352 : Shape := ⟨1, ![4352]⟩
abbrev S4352x1 : Shape := ⟨2, ![4352, 1]⟩
abbrev S4352x1x128 : Shape := ⟨3, ![4352, 1, 128]⟩
abbrev S4352x1x120 : Shape := ⟨3, ![4352, 1, 120]⟩
abbrev S4352x1x8 : Shape := ⟨3, ![4352, 1, 8]⟩
abbrev S4096x8x96 : Shape := ⟨3, ![4096, 8, 96]⟩
abbrev S4096x8x128 : Shape := ⟨3, ![4096, 8, 128]⟩
abbrev S4096x1024 : Shape := ⟨2, ![4096, 1024]⟩
abbrev S4352x8x96 : Shape := ⟨3, ![4352, 8, 96]⟩
abbrev S4352x8x128 : Shape := ⟨3, ![4352, 8, 128]⟩
abbrev S4352x8x64 : Shape := ⟨3, ![4352, 8, 64]⟩
abbrev S8x256 : Shape := ⟨2, ![8, 256]⟩
abbrev S512x512 : Shape := ⟨2, ![512, 512]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S256 : Shape := ⟨1, ![256]⟩
abbrev S128 : Shape := ⟨1, ![128]⟩

abbrev nBuf : Space → Nat
  | .hbm => 161
  | .vmem => 33
  | .smem => 0
  | _ => 0

abbrev hbmTy0_0 (i : Nat) : BufTy := match i % 128 with
  | 0 => ⟨S1x4352x1024, .f32⟩
  | 1 => ⟨S1x1024x1952, .f32⟩
  | 2 => ⟨S1x256x768, .f32⟩
  | 3 => ⟨S1x128x1024, .f32⟩
  | 4 => ⟨S1x256, .f32⟩
  | 5 => ⟨S1x128, .f32⟩
  | 6 => ⟨S4096x1x2x8, .f32⟩
  | 7 => ⟨S4096x1x2x8, .f32⟩
  | 8 => ⟨S1x4096x8x96, .f32⟩
  | 9 => ⟨S1x4352x8x96, .f32⟩
  | 10 => ⟨S1x4352x8x64, .f32⟩
  | 11 => ⟨S1024x1952, .f32⟩
  | 12 => ⟨S1024x1952, .bf16⟩
  | 13 => ⟨S256x768, .f32⟩
  | 14 => ⟨S256x768, .bf16⟩
  | 15 => ⟨S128x1024, .f32⟩
  | 16 => ⟨S128x1024, .bf16⟩
  | 17 => ⟨S1952x1024, .bf16⟩
  | 18 => ⟨S_, .bf16⟩
  | 19 => ⟨S64x1024, .bf16⟩
  | 20 => ⟨S384x1024, .bf16⟩
  | 21 => ⟨S32x1024, .bf16⟩
  | 22 => ⟨S32x1024, .bf16⟩
  | 23 => ⟨S512x1024, .bf16⟩
  | 24 => ⟨S256x8x96, .bf16⟩
  | 25 => ⟨S_, .bf16⟩
  | 26 => ⟨S256x8x128, .bf16⟩
  | 27 => ⟨S256x1024, .bf16⟩
  | 28 => ⟨S128x8x128, .bf16⟩
  | 29 => ⟨S128x8x64, .bf16⟩
  | 30 => ⟨S_, .bf16⟩
  | 31 => ⟨S128x8x128, .bf16⟩
  | 32 => ⟨S128x1024, .bf16⟩
  | 33 => ⟨S128x8x64, .bf16⟩
  | 34 => ⟨S128x512, .bf16⟩
  | 35 => ⟨S128x8x128, .i32⟩
  | 36 => ⟨S128x8x128, .i32⟩
  | 37 => ⟨S128x8x128, .i1⟩
  | 38 => ⟨S_, .i32⟩
  | 39 => ⟨S128x8x128, .i32⟩
  | 40 => ⟨S128x8x128, .i1⟩
  | 41 => ⟨S128x8x128, .i1⟩
  | 42 => ⟨S_, .i32⟩
  | 43 => ⟨S128x8x128, .i32⟩
  | 44 => ⟨S128x8x128, .i1⟩
  | 45 => ⟨S128x8x128, .i1⟩
  | 46 => ⟨S_, .bf16⟩
  | 47 => ⟨S_, .bf16⟩
  | 48 => ⟨S128x8x128, .bf16⟩
  | 49 => ⟨S128x8x128, .bf16⟩
  | 50 => ⟨S128x8x128, .bf16⟩
  | 51 => ⟨S128x1024, .bf16⟩
  | 52 => ⟨S256x1024, .bf16⟩
  | 53 => ⟨S_, .bf16⟩
  | 54 => ⟨S128x512, .bf16⟩
  | 55 => ⟨S256x512, .bf16⟩
  | 56 => ⟨S4096x2x8, .f32⟩
  | 57 => ⟨S4096x2x8, .f32⟩
  | 58 => ⟨S4096x1x8, .f32⟩
  | 59 => ⟨S4096x8, .f32⟩
  | 60 => ⟨S4096x1x8, .f32⟩
  | 61 => ⟨S4096x8, .f32⟩
  | 62 => ⟨S4096x1x8, .f32⟩
  | 63 => ⟨S4096x8, .f32⟩
  | 64 => ⟨S4096x1x8, .f32⟩
  | 65 => ⟨S4096x8, .f32⟩
  | 66 => ⟨S4096x32, .f32⟩
  | 67 => ⟨S4096x1x8, .f32⟩
  | 68 => ⟨S4096x8, .f32⟩
  | 69 => ⟨S4096x8, .f32⟩
  | 70 => ⟨S4096x1x8, .f32⟩
  | 71 => ⟨S4096x8, .f32⟩
  | 72 => ⟨S4096x1x8, .f32⟩
  | 73 => ⟨S4096x8, .f32⟩
  | 74 => ⟨S4096x8, .f32⟩
  | 75 => ⟨S4096x1x8, .f32⟩
  | 76 => ⟨S4096x8, .f32⟩
  | 77 => ⟨S4096x32, .f32⟩
  | 78 => ⟨S_, .f32⟩
  | 79 => ⟨S4352x128, .f32⟩
  | 80 => ⟨S_, .f32⟩
  | 81 => ⟨S4352x128, .f32⟩
  | 82 => ⟨S4352x1024, .f32⟩
  | 83 => ⟨S4352x1024, .bf16⟩
  | 84 => ⟨S4352x512, .f32⟩
  | 85 => ⟨S4352x256, .f32⟩
  | 86 => ⟨S4352x128, .f32⟩
  | 87 => ⟨S4352x256, .f32⟩
  | 88 => ⟨S_, .f32⟩
  | 89 => ⟨S4352, .f32⟩
  | 90 => ⟨S4352x1, .f32⟩
  | 91 => ⟨S_, .f32⟩
  | 92 => ⟨S4352x1, .f32⟩
  | 93 => ⟨S4352x1, .f32⟩
  | 94 => ⟨S_, .f32⟩
  | 95 => ⟨S4352x1, .f32⟩
  | 96 => ⟨S4352x1, .f32⟩
  | 97 => ⟨S4352x1, .f32⟩
  | 98 => ⟨S4352x256, .f32⟩
  | 99 => ⟨S4352x256, .f32⟩
  | 100 => ⟨S4352x256, .f32⟩
  | 101 => ⟨S4352x256, .f32⟩
  | 102 => ⟨S4352x256, .bf16⟩
  | 103 => ⟨S4352x128, .f32⟩
  | 104 => ⟨S4352x1x128, .f32⟩
  | 105 => ⟨S4352x1x128, .i32⟩
  | 106 => ⟨S_, .i32⟩
  | 107 => ⟨S4352x1x128, .i32⟩
  | 108 => ⟨S4352x1x128, .i32⟩
  | 109 => ⟨S_, .i32⟩
  | 110 => ⟨S4352x1x128, .i32⟩
  | 111 => ⟨S4352x1x128, .i1⟩
  | 112 => ⟨S4352x1x120, .f32⟩
  | 113 => ⟨S4352x1x8, .f32⟩
  | 114 => ⟨S4352x1x128, .f32⟩
  | 115 => ⟨S4352x1x8, .f32⟩
  | 116 => ⟨S4352x1x120, .f32⟩
  | 117 => ⟨S4352x1x128, .f32⟩
  | 118 => ⟨S4352x1x128, .f32⟩
  | 119 => ⟨S4352x1x128, .f32⟩
  | 120 => ⟨S4352x1x128, .f32⟩
  | 121 => ⟨S4352x1x128, .f32⟩
  | 122 => ⟨S4352x1x128, .f32⟩
  | 123 => ⟨S4352x1x128, .f32⟩
  | 124 => ⟨S4352x128, .f32⟩
  | 125 => ⟨S4352x128, .f32⟩
  | 126 => ⟨S_, .f32⟩
  | 127 => ⟨S4352, .f32⟩
  | _ => ⟨S1x4352x1024, .f32⟩

abbrev hbmTy0_1 (i : Nat) : BufTy := match i % 128 with
  | 0 => ⟨S4352x1, .f32⟩
  | 1 => ⟨S_, .f32⟩
  | 2 => ⟨S4352x1, .f32⟩
  | 3 => ⟨S4352x1, .f32⟩
  | 4 => ⟨S_, .f32⟩
  | 5 => ⟨S4352x1, .f32⟩
  | 6 => ⟨S4352x1, .f32⟩
  | 7 => ⟨S4352x1, .f32⟩
  | 8 => ⟨S4352x128, .f32⟩
  | 9 => ⟨S4352x128, .f32⟩
  | 10 => ⟨S4352x128, .f32⟩
  | 11 => ⟨S4352x128, .f32⟩
  | 12 => ⟨S4352x128, .bf16⟩
  | 13 => ⟨S4352x128, .bf16⟩
  | 14 => ⟨S4352x256, .bf16⟩
  | 15 => ⟨S4096x8x96, .f32⟩
  | 16 => ⟨S_, .f32⟩
  | 17 => ⟨S4096x8x128, .f32⟩
  | 18 => ⟨S4096x1024, .f32⟩
  | 19 => ⟨S4352x8x96, .f32⟩
  | 20 => ⟨S_, .f32⟩
  | 21 => ⟨S4352x8x128, .f32⟩
  | 22 => ⟨S4352x1024, .f32⟩
  | 23 => ⟨S4352x8x64, .f32⟩
  | 24 => ⟨S4352x8x64, .bf16⟩
  | 25 => ⟨S4352x512, .bf16⟩
  | 26 => ⟨S4352x512, .bf16⟩
  | 27 => ⟨S4352x1024, .f32⟩
  | 28 => ⟨S8x256, .f32⟩
  | 29 => ⟨S256x1024, .f32⟩
  | 30 => ⟨S256x1024, .f32⟩
  | 31 => ⟨S256x512, .f32⟩
  | 32 => ⟨S512x1024, .f32⟩
  | _ => ⟨S1x4352x1024, .f32⟩

abbrev hbmTy (i : Nat) : BufTy := match i / 128 with
  | 0 => hbmTy0_0 i
  | 1 => hbmTy0_1 i
  | _ => ⟨S1x4352x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S256x1024, .bf16⟩
  | .local _ .vmem, ⟨9, _⟩ => ⟨S256x1024, .bf16⟩
  | .local _ .vmem, ⟨10, _⟩ => ⟨S256x512, .bf16⟩
  | .local _ .vmem, ⟨11, _⟩ => ⟨S512x1024, .bf16⟩
  | .local _ .vmem, ⟨12, _⟩ => ⟨S1x256, .f32⟩
  | .local _ .vmem, ⟨13, _⟩ => ⟨S1x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x256, .bf16⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S512x1024, .bf16⟩
  | .local _ .vmem, ⟨23, _⟩ => ⟨S512x1024, .bf16⟩
  | .local _ .vmem, ⟨24, _⟩ => ⟨S512x512, .bf16⟩
  | .local _ .vmem, ⟨25, _⟩ => ⟨S512x512, .bf16⟩
  | .local _ .vmem, ⟨26, _⟩ => ⟨S512x1024, .f32⟩
  | .local _ .vmem, ⟨27, _⟩ => ⟨S512x1024, .f32⟩
  | .local _ .vmem, ⟨28, _⟩ => ⟨S8x256, .f32⟩
  | .local _ .vmem, ⟨29, _⟩ => ⟨S256x1024, .f32⟩
  | .local _ .vmem, ⟨30, _⟩ => ⟨S256x1024, .f32⟩
  | .local _ .vmem, ⟨31, _⟩ => ⟨S256x512, .f32⟩
  | .local _ .vmem, ⟨32, _⟩ => ⟨S512x1024, .f32⟩
  | _, _ => ⟨S1x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_cst_4 : Ref sig .tc := ⟨.hbm, 47, rfl⟩
abbrev main_call0_v0 : Ref sig .tc := ⟨.hbm, 48, rfl⟩
abbrev main_call0_v1 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_6 : Ref sig .tc := ⟨.hbm, 78, rfl⟩
abbrev main_v57 : Ref sig .tc := ⟨.hbm, 79, rfl⟩
abbrev main_cst_7 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_8 : Ref sig .tc := ⟨.hbm, 88, rfl⟩
abbrev main_v65 : Ref sig .tc := ⟨.hbm, 89, rfl⟩
abbrev main_v66 : Ref sig .tc := ⟨.hbm, 90, rfl⟩
abbrev main_cst_9 : Ref sig .tc := ⟨.hbm, 91, rfl⟩
abbrev main_v67 : Ref sig .tc := ⟨.hbm, 92, rfl⟩
abbrev main_v68 : Ref sig .tc := ⟨.hbm, 93, rfl⟩
abbrev main_cst_10 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_c_11 : Ref sig .tc := ⟨.hbm, 106, rfl⟩
abbrev main_v80 : Ref sig .tc := ⟨.hbm, 107, rfl⟩
abbrev main_v81 : Ref sig .tc := ⟨.hbm, 108, rfl⟩
abbrev main_c_12 : Ref sig .tc := ⟨.hbm, 109, rfl⟩
abbrev main_v82 : Ref sig .tc := ⟨.hbm, 110, rfl⟩
abbrev main_v83 : Ref sig .tc := ⟨.hbm, 111, rfl⟩
abbrev main_call1_v0 : Ref sig .tc := ⟨.hbm, 112, rfl⟩
abbrev main_call1_v1 : Ref sig .tc := ⟨.hbm, 113, rfl⟩
abbrev main_v84 : Ref sig .tc := ⟨.hbm, 114, rfl⟩
abbrev main_call2_v0 : Ref sig .tc := ⟨.hbm, 115, rfl⟩
abbrev main_call2_v1 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_13 : Ref sig .tc := ⟨.hbm, 126, rfl⟩
abbrev main_v94 : Ref sig .tc := ⟨.hbm, 127, rfl⟩
abbrev main_v95 : Ref sig .tc := ⟨.hbm, 128, rfl⟩
abbrev main_cst_14 : Ref sig .tc := ⟨.hbm, 129, rfl⟩
abbrev main_v96 : Ref sig .tc := ⟨.hbm, 130, rfl⟩
abbrev main_v97 : Ref sig .tc := ⟨.hbm, 131, rfl⟩
abbrev main_cst_15 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_cst_16 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_cst_17 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117_0 : Ref sig .tc := ⟨.hbm, 154, rfl⟩
abbrev main_v117_1 : Ref sig .tc := ⟨.hbm, 155, rfl⟩
abbrev main_v117_2 : Ref sig .tc := ⟨.hbm, 156, rfl⟩
abbrev main_v117_3 : Ref sig .tc := ⟨.hbm, 157, rfl⟩
abbrev main_v117_4 : Ref sig .tc := ⟨.hbm, 158, rfl⟩
abbrev main_v117_5 : Ref sig .tc := ⟨.hbm, 159, rfl⟩
abbrev main_v117_6 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg21_0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem18_0 : DmaSem sig := 29
abbrev cc0_sem19_0 : DmaSem sig := 30
abbrev cc0_sem20_0 : DmaSem sig := 31
abbrev cc0_sem21_0 : DmaSem sig := 32

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_12 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_13 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_14 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_15 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_16 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S512x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== HeadRefIdeal.lean ====
abbrev S1x4352x1024 : Shape := ⟨3, ![1, 4352, 1024]⟩
abbrev S1x1024x1952 : Shape := ⟨3, ![1, 1024, 1952]⟩
abbrev S1x256x768 : Shape := ⟨3, ![1, 256, 768]⟩
abbrev S1x128x1024 : Shape := ⟨3, ![1, 128, 1024]⟩
abbrev S1x256 : Shape := ⟨2, ![1, 256]⟩
abbrev S1x128 : Shape := ⟨2, ![1, 128]⟩
abbrev S4096x1x2x8 : Shape := ⟨4, ![4096, 1, 2, 8]⟩
abbrev S1x4096x8x96 : Shape := ⟨4, ![1, 4096, 8, 96]⟩
abbrev S1x4352x8x96 : Shape := ⟨4, ![1, 4352, 8, 96]⟩
abbrev S1x4352x8x64 : Shape := ⟨4, ![1, 4352, 8, 64]⟩
abbrev S1x4096x1024 : Shape := ⟨3, ![1, 4096, 1024]⟩
abbrev S4096x1024 : Shape := ⟨2, ![4096, 1024]⟩
abbrev S1024x1952 : Shape := ⟨2, ![1024, 1952]⟩
abbrev S1024x416 : Shape := ⟨2, ![1024, 416]⟩
abbrev S256x768 : Shape := ⟨2, ![256, 768]⟩
abbrev S128x1024 : Shape := ⟨2, ![128, 1024]⟩
abbrev S4096x416 : Shape := ⟨2, ![4096, 416]⟩
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S4096x768 : Shape := ⟨2, ![4096, 768]⟩
abbrev S4096x8x96 : Shape := ⟨3, ![4096, 8, 96]⟩
abbrev S4096x128 : Shape := ⟨2, ![4096, 128]⟩
abbrev S4096x8x128 : Shape := ⟨3, ![4096, 8, 128]⟩
abbrev S4096x32 : Shape := ⟨2, ![4096, 32]⟩
abbrev S4096x1x32 : Shape := ⟨3, ![4096, 1, 32]⟩
abbrev S4096x1x2x2x8 : Shape := ⟨5, ![4096, 1, 2, 2, 8]⟩
abbrev S4096x1x2x1x8 : Shape := ⟨5, ![4096, 1, 2, 1, 8]⟩
abbrev S4096x8x64 : Shape := ⟨3, ![4096, 8, 64]⟩
abbrev S4096x8x32 : Shape := ⟨3, ![4096, 8, 32]⟩
abbrev S1x4096x8x64 : Shape := ⟨4, ![1, 4096, 8, 64]⟩
abbrev S1x4096x8x32 : Shape := ⟨4, ![1, 4096, 8, 32]⟩
abbrev S1024x128 : Shape := ⟨2, ![1024, 128]⟩
abbrev S128 : Shape := ⟨1, ![128]⟩
abbrev S768x256 : Shape := ⟨2, ![768, 256]⟩
abbrev S256 : Shape := ⟨1, ![256]⟩
abbrev S416x1024 : Shape := ⟨2, ![416, 1024]⟩
abbrev S6x256 : Shape := ⟨2, ![6, 256]⟩
abbrev S8x256 : Shape := ⟨2, ![8, 256]⟩
abbrev S256x8x96 : Shape := ⟨3, ![256, 8, 96]⟩
abbrev S256x8x128 : Shape := ⟨3, ![256, 8, 128]⟩
abbrev S256x1024 : Shape := ⟨2, ![256, 1024]⟩

abbrev nBuf : Space → Nat
  | .hbm => 193
  | .vmem => 0
  | .smem => 0
  | _ => 0

abbrev hbmTy0_0 (i : Nat) : BufTy := match i % 128 with
  | 0 => ⟨S1x4352x1024, .f32⟩
  | 1 => ⟨S1x1024x1952, .f32⟩
  | 2 => ⟨S1x256x768, .f32⟩
  | 3 => ⟨S1x128x1024, .f32⟩
  | 4 => ⟨S1x256, .f32⟩
  | 5 => ⟨S1x128, .f32⟩
  | 6 => ⟨S4096x1x2x8, .f32⟩
  | 7 => ⟨S4096x1x2x8, .f32⟩
  | 8 => ⟨S1x4096x8x96, .f32⟩
  | 9 => ⟨S1x4352x8x96, .f32⟩
  | 10 => ⟨S1x4352x8x64, .f32⟩
  | 11 => ⟨S1x4096x1024, .f32⟩
  | 12 => ⟨S4096x1024, .f32⟩
  | 13 => ⟨S1024x1952, .f32⟩
  | 14 => ⟨S1024x416, .f32⟩
  | 15 => ⟨S256x768, .f32⟩
  | 16 => ⟨S128x1024, .f32⟩
  | 17 => ⟨S4096x416, .f32⟩
  | 18 => ⟨S4096x256, .f32⟩
  | 19 => ⟨S4096x256, .f32⟩
  | 20 => ⟨S_, .f32⟩
  | 21 => ⟨S4096, .f32⟩
  | 22 => ⟨S4096x1, .f32⟩
  | 23 => ⟨S_, .f32⟩
  | 24 => ⟨S4096x1, .f32⟩
  | 25 => ⟨S4096x1, .f32⟩
  | 26 => ⟨S_, .f32⟩
  | 27 => ⟨S4096x1, .f32⟩
  | 28 => ⟨S4096x1, .f32⟩
  | 29 => ⟨S4096x1, .f32⟩
  | 30 => ⟨S4096x1, .f32⟩
  | 31 => ⟨S_, .f32⟩
  | 32 => ⟨S4096x1, .f32⟩
  | 33 => ⟨S4096x1, .f32⟩
  | 34 => ⟨S4096x256, .f32⟩
  | 35 => ⟨S4096x256, .f32⟩
  | 36 => ⟨S4096x256, .f32⟩
  | 37 => ⟨S4096x256, .f32⟩
  | 38 => ⟨S4096x768, .f32⟩
  | 39 => ⟨S4096x8x96, .f32⟩
  | 40 => ⟨S4096x128, .f32⟩
  | 41 => ⟨S4096x128, .f32⟩
  | 42 => ⟨S_, .f32⟩
  | 43 => ⟨S4096, .f32⟩
  | 44 => ⟨S4096x1, .f32⟩
  | 45 => ⟨S_, .f32⟩
  | 46 => ⟨S4096x1, .f32⟩
  | 47 => ⟨S4096x1, .f32⟩
  | 48 => ⟨S_, .f32⟩
  | 49 => ⟨S4096x1, .f32⟩
  | 50 => ⟨S4096x1, .f32⟩
  | 51 => ⟨S4096x1, .f32⟩
  | 52 => ⟨S4096x1, .f32⟩
  | 53 => ⟨S_, .f32⟩
  | 54 => ⟨S4096x1, .f32⟩
  | 55 => ⟨S4096x1, .f32⟩
  | 56 => ⟨S4096x128, .f32⟩
  | 57 => ⟨S4096x128, .f32⟩
  | 58 => ⟨S4096x128, .f32⟩
  | 59 => ⟨S4096x128, .f32⟩
  | 60 => ⟨S4096x1024, .f32⟩
  | 61 => ⟨S4096x8x128, .f32⟩
  | 62 => ⟨S4096x32, .f32⟩
  | 63 => ⟨S4096x1x32, .f32⟩
  | 64 => ⟨S4096x1x2x2x8, .f32⟩
  | 65 => ⟨S4096x1x2x1x8, .f32⟩
  | 66 => ⟨S4096x1x2x8, .f32⟩
  | 67 => ⟨S4096x1x2x1x8, .f32⟩
  | 68 => ⟨S4096x1x2x8, .f32⟩
  | 69 => ⟨S4096x1x2x8, .f32⟩
  | 70 => ⟨S4096x1x2x8, .f32⟩
  | 71 => ⟨S4096x1x2x8, .f32⟩
  | 72 => ⟨S4096x1x2x8, .f32⟩
  | 73 => ⟨S4096x1x2x8, .f32⟩
  | 74 => ⟨S4096x1x2x8, .f32⟩
  | 75 => ⟨S4096x1x2x1x8, .f32⟩
  | 76 => ⟨S4096x1x2x1x8, .f32⟩
  | 77 => ⟨S4096x1x2x2x8, .f32⟩
  | 78 => ⟨S4096x1x32, .f32⟩
  | 79 => ⟨S4096x8x64, .f32⟩
  | 80 => ⟨S4096x8x32, .f32⟩
  | 81 => ⟨S4096x8x64, .f32⟩
  | 82 => ⟨S4096x8x96, .f32⟩
  | 83 => ⟨S1x4096x8x64, .f32⟩
  | 84 => ⟨S4096x8x64, .f32⟩
  | 85 => ⟨S1x4096x8x32, .f32⟩
  | 86 => ⟨S4096x8x32, .f32⟩
  | 87 => ⟨S1x4096x8x64, .f32⟩
  | 88 => ⟨S4096x8x64, .f32⟩
  | 89 => ⟨S_, .f32⟩
  | 90 => ⟨S4096x8x128, .f32⟩
  | 91 => ⟨S_, .f32⟩
  | 92 => ⟨S4096x32, .f32⟩
  | 93 => ⟨S4096x1x32, .f32⟩
  | 94 => ⟨S_, .f32⟩
  | 95 => ⟨S4096x8x128, .f32⟩
  | 96 => ⟨S4096x8x128, .f32⟩
  | 97 => ⟨S4096x1x2x2x8, .f32⟩
  | 98 => ⟨S4096x1x2x1x8, .f32⟩
  | 99 => ⟨S4096x1x2x8, .f32⟩
  | 100 => ⟨S4096x1x2x1x8, .f32⟩
  | 101 => ⟨S4096x1x2x8, .f32⟩
  | 102 => ⟨S4096x1x2x8, .f32⟩
  | 103 => ⟨S4096x1x2x8, .f32⟩
  | 104 => ⟨S4096x1x2x8, .f32⟩
  | 105 => ⟨S4096x1x2x8, .f32⟩
  | 106 => ⟨S4096x1x2x8, .f32⟩
  | 107 => ⟨S4096x1x2x8, .f32⟩
  | 108 => ⟨S4096x1x2x8, .f32⟩
  | 109 => ⟨S4096x1x2x1x8, .f32⟩
  | 110 => ⟨S_, .f32⟩
  | 111 => ⟨S4096x1x2x2x8, .f32⟩
  | 112 => ⟨S4096x1x2x1x8, .f32⟩
  | 113 => ⟨S_, .f32⟩
  | 114 => ⟨S4096x1x2x2x8, .f32⟩
  | 115 => ⟨S4096x1x2x2x8, .f32⟩
  | 116 => ⟨S4096x1x32, .f32⟩
  | 117 => ⟨S_, .f32⟩
  | 118 => ⟨S4096x32, .f32⟩
  | 119 => ⟨S_, .f32⟩
  | 120 => ⟨S4096x416, .f32⟩
  | 121 => ⟨S4096x1024, .f32⟩
  | 122 => ⟨S1024x128, .f32⟩
  | 123 => ⟨S128x1024, .f32⟩
  | 124 => ⟨S4096x128, .f32⟩
  | 125 => ⟨S4096x128, .f32⟩
  | 126 => ⟨S_, .f32⟩
  | 127 => ⟨S128, .f32⟩
  | _ => ⟨S1x4352x1024, .f32⟩

abbrev hbmTy0_1 (i : Nat) : BufTy := match i % 128 with
  | 0 => ⟨S1x128, .f32⟩
  | 1 => ⟨S4096x128, .f32⟩
  | 2 => ⟨S4096x128, .f32⟩
  | 3 => ⟨S4096x128, .f32⟩
  | 4 => ⟨S_, .f32⟩
  | 5 => ⟨S4096, .f32⟩
  | 6 => ⟨S4096x1, .f32⟩
  | 7 => ⟨S4096x128, .f32⟩
  | 8 => ⟨S4096x128, .f32⟩
  | 9 => ⟨S4096x1, .f32⟩
  | 10 => ⟨S_, .f32⟩
  | 11 => ⟨S4096x1, .f32⟩
  | 12 => ⟨S4096x1, .f32⟩
  | 13 => ⟨S_, .f32⟩
  | 14 => ⟨S4096, .f32⟩
  | 15 => ⟨S4096x128, .f32⟩
  | 16 => ⟨S4096x128, .f32⟩
  | 17 => ⟨S4096x128, .f32⟩
  | 18 => ⟨S4096x128, .f32⟩
  | 19 => ⟨S4096x128, .f32⟩
  | 20 => ⟨S_, .f32⟩
  | 21 => ⟨S4096x416, .f32⟩
  | 22 => ⟨S4096x416, .f32⟩
  | 23 => ⟨S4096x768, .f32⟩
  | 24 => ⟨S768x256, .f32⟩
  | 25 => ⟨S256x768, .f32⟩
  | 26 => ⟨S4096x256, .f32⟩
  | 27 => ⟨S4096x256, .f32⟩
  | 28 => ⟨S_, .f32⟩
  | 29 => ⟨S256, .f32⟩
  | 30 => ⟨S1x256, .f32⟩
  | 31 => ⟨S4096x256, .f32⟩
  | 32 => ⟨S4096x256, .f32⟩
  | 33 => ⟨S4096x256, .f32⟩
  | 34 => ⟨S_, .f32⟩
  | 35 => ⟨S4096, .f32⟩
  | 36 => ⟨S4096x1, .f32⟩
  | 37 => ⟨S4096x256, .f32⟩
  | 38 => ⟨S4096x256, .f32⟩
  | 39 => ⟨S4096x1, .f32⟩
  | 40 => ⟨S_, .f32⟩
  | 41 => ⟨S4096x1, .f32⟩
  | 42 => ⟨S4096x1, .f32⟩
  | 43 => ⟨S_, .f32⟩
  | 44 => ⟨S4096, .f32⟩
  | 45 => ⟨S4096x256, .f32⟩
  | 46 => ⟨S4096x256, .f32⟩
  | 47 => ⟨S4096x256, .f32⟩
  | 48 => ⟨S4096x256, .f32⟩
  | 49 => ⟨S4096x256, .f32⟩
  | 50 => ⟨S_, .f32⟩
  | 51 => ⟨S4096x416, .f32⟩
  | 52 => ⟨S4096x416, .f32⟩
  | 53 => ⟨S416x1024, .f32⟩
  | 54 => ⟨S1024x416, .f32⟩
  | 55 => ⟨S4096x1024, .f32⟩
  | 56 => ⟨S_, .f32⟩
  | 57 => ⟨S1x256, .f32⟩
  | 58 => ⟨S_, .f32⟩
  | 59 => ⟨S6x256, .f32⟩
  | 60 => ⟨S8x256, .f32⟩
  | 61 => ⟨S256x8x96, .f32⟩
  | 62 => ⟨S_, .f32⟩
  | 63 => ⟨S256x8x128, .f32⟩
  | 64 => ⟨S256x1024, .f32⟩
  | _ => ⟨S1x4352x1024, .f32⟩

abbrev hbmTy (i : Nat) : BufTy := match i / 128 with
  | 0 => hbmTy0_0 i
  | 1 => hbmTy0_1 i
  | _ => ⟨S1x4352x1024, .f32⟩

abbrev bufTy : (tb : Table) → Fin (tcTables nBuf tb) → BufTy
  | .hbm, ⟨i, _⟩ => hbmTy i
  | _, _ => ⟨S1x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_7 : Ref sig .tc := ⟨.hbm, 89, rfl⟩
abbrev main_v70 : Ref sig .tc := ⟨.hbm, 90, rfl⟩
abbrev main_cst_8 : Ref sig .tc := ⟨.hbm, 91, rfl⟩
abbrev main_v71 : Ref sig .tc := ⟨.hbm, 92, rfl⟩
abbrev main_v72 : Ref sig .tc := ⟨.hbm, 93, rfl⟩
abbrev main_cst_9 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_cst_10 : Ref sig .tc := ⟨.hbm, 110, rfl⟩
abbrev main_v88 : Ref sig .tc := ⟨.hbm, 111, rfl⟩
abbrev main_v89 : Ref sig .tc := ⟨.hbm, 112, rfl⟩
abbrev main_cst_11 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_cst_12 : Ref sig .tc := ⟨.hbm, 117, rfl⟩
abbrev main_v93 : Ref sig .tc := ⟨.hbm, 118, rfl⟩
abbrev main_cst_13 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_cst_14 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_cst_15 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_cst_16 : Ref sig .tc := ⟨.hbm, 138, rfl⟩
abbrev main_v110 : Ref sig .tc := ⟨.hbm, 139, rfl⟩
abbrev main_v111 : Ref sig .tc := ⟨.hbm, 140, rfl⟩
abbrev main_cst_17 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_cst_18 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_cst_19 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_cst_20 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_cst_21 : Ref sig .tc := ⟨.hbm, 168, rfl⟩
abbrev main_v135 : Ref sig .tc := ⟨.hbm, 169, rfl⟩
abbrev main_v136 : Ref sig .tc := ⟨.hbm, 170, rfl⟩
abbrev main_cst_22 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_cst_23 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_cst_24 : Ref sig .tc := ⟨.hbm, 184, rfl⟩
abbrev main_v148 : Ref sig .tc := ⟨.hbm, 185, rfl⟩
abbrev main_cst_25 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_cst_26 : Ref sig .tc := ⟨.hbm, 190, rfl⟩
abbrev main_v152 : Ref sig .tc := ⟨.hbm, 191, rfl⟩
abbrev main_v153 : Ref sig .tc := ⟨.hbm, 192, rfl⟩

abbrev nD : Nat := 1
abbrev τ : Topo := Topo.v7x

variable {F : FTy → Type} [FloatOps F]
-- ==== HeadCtx.lean ====
abbrev S1x4352x1024 : Shape := ⟨3, ![1, 4352, 1024]⟩
abbrev S1x1024x1952 : Shape := ⟨3, ![1, 1024, 1952]⟩
abbrev S1x256x768 : Shape := ⟨3, ![1, 256, 768]⟩
abbrev S1x128x1024 : Shape := ⟨3, ![1, 128, 1024]⟩
abbrev S1x256 : Shape := ⟨2, ![1, 256]⟩
abbrev S1x128 : Shape := ⟨2, ![1, 128]⟩
abbrev S4096x1x2x8 : Shape := ⟨4, ![4096, 1, 2, 8]⟩
abbrev S1x4352x8x96 : Shape := ⟨4, ![1, 4352, 8, 96]⟩
abbrev S1x4352x8x64 : Shape := ⟨4, ![1, 4352, 8, 64]⟩
abbrev S4352x512 : Shape := ⟨2, ![4352, 512]⟩
abbrev S4352x1024 : Shape := ⟨2, ![4352, 1024]⟩
abbrev S256x1024 : Shape := ⟨2, ![256, 1024]⟩
abbrev S256x512 : Shape := ⟨2, ![256, 512]⟩
abbrev S512x1024 : Shape := ⟨2, ![512, 1024]⟩
abbrev S1024x1952 : Shape := ⟨2, ![1024, 1952]⟩
abbrev S256x768 : Shape := ⟨2, ![256, 768]⟩
abbrev S128x1024 : Shape := ⟨2, ![128, 1024]⟩
abbrev S1952x1024 : Shape := ⟨2, ![1952, 1024]⟩
abbrev S_ : Shape := ⟨0, ![]⟩
abbrev S64x1024 : Shape := ⟨2, ![64, 1024]⟩
abbrev S384x1024 : Shape := ⟨2, ![384, 1024]⟩
abbrev S32x1024 : Shape := ⟨2, ![32, 1024]⟩
abbrev S256x8x96 : Shape := ⟨3, ![256, 8, 96]⟩
abbrev S256x8x128 : Shape := ⟨3, ![256, 8, 128]⟩
abbrev S128x8x128 : Shape := ⟨3, ![128, 8, 128]⟩
abbrev S128x8x64 : Shape := ⟨3, ![128, 8, 64]⟩
abbrev S128x512 : Shape := ⟨2, ![128, 512]⟩
abbrev S4096x2x8 : Shape := ⟨3, ![4096, 2, 8]⟩
abbrev S4096x1x8 : Shape := ⟨3, ![4096, 1, 8]⟩
abbrev S4096x8 : Shape := ⟨2, ![4096, 8]⟩
abbrev S4096x32 : Shape := ⟨2, ![4096, 32]⟩
abbrev S4352x128 : Shape := ⟨2, ![4352, 128]⟩
abbrev S4352x1x128 : Shape := ⟨3, ![4352, 1, 128]⟩
abbrev S4352x1x120 : Shape := ⟨3, ![4352, 1, 120]⟩
abbrev S4352x1x8 : Shape := ⟨3, ![4352, 1, 8]⟩
abbrev S4352 : Shape := ⟨1, ![4352]⟩
abbrev S4352x1 : Shape := ⟨2, ![4352, 1]⟩
abbrev S4352x256 : Shape := ⟨2, ![4352, 256]⟩
abbrev S4352x8x96 : Shape := ⟨3, ![4352, 8, 96]⟩
abbrev S4352x8x128 : Shape := ⟨3, ![4352, 8, 128]⟩
abbrev S4352x8x64 : Shape := ⟨3, ![4352, 8, 64]⟩
abbrev S8x256 : Shape := ⟨2, ![8, 256]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S128 : Shape := ⟨1, ![128]⟩

abbrev nBuf : Space → Nat
  | .hbm => 143
  | .vmem => 22
  | .smem => 0
  | _ => 0

abbrev hbmTy0_0 (i : Nat) : BufTy := match i % 128 with
  | 0 => ⟨S1x4352x1024, .f32⟩
  | 1 => ⟨S1x1024x1952, .f32⟩
  | 2 => ⟨S1x256x768, .f32⟩
  | 3 => ⟨S1x128x1024, .f32⟩
  | 4 => ⟨S1x256, .f32⟩
  | 5 => ⟨S1x128, .f32⟩
  | 6 => ⟨S4096x1x2x8, .f32⟩
  | 7 => ⟨S4096x1x2x8, .f32⟩
  | 8 => ⟨S1x4352x8x96, .f32⟩
  | 9 => ⟨S1x4352x8x64, .f32⟩
  | 10 => ⟨S4352x512, .bf16⟩
  | 11 => ⟨S4352x1024, .f32⟩
  | 12 => ⟨S256x1024, .f32⟩
  | 13 => ⟨S256x512, .f32⟩
  | 14 => ⟨S512x1024, .f32⟩
  | 15 => ⟨S1024x1952, .f32⟩
  | 16 => ⟨S1024x1952, .bf16⟩
  | 17 => ⟨S256x768, .f32⟩
  | 18 => ⟨S256x768, .bf16⟩
  | 19 => ⟨S128x1024, .f32⟩
  | 20 => ⟨S128x1024, .bf16⟩
  | 21 => ⟨S1952x1024, .bf16⟩
  | 22 => ⟨S_, .bf16⟩
  | 23 => ⟨S64x1024, .bf16⟩
  | 24 => ⟨S384x1024, .bf16⟩
  | 25 => ⟨S32x1024, .bf16⟩
  | 26 => ⟨S32x1024, .bf16⟩
  | 27 => ⟨S512x1024, .bf16⟩
  | 28 => ⟨S256x8x96, .bf16⟩
  | 29 => ⟨S_, .bf16⟩
  | 30 => ⟨S256x8x128, .bf16⟩
  | 31 => ⟨S256x1024, .bf16⟩
  | 32 => ⟨S128x8x128, .bf16⟩
  | 33 => ⟨S128x8x64, .bf16⟩
  | 34 => ⟨S_, .bf16⟩
  | 35 => ⟨S128x8x128, .bf16⟩
  | 36 => ⟨S128x1024, .bf16⟩
  | 37 => ⟨S128x8x64, .bf16⟩
  | 38 => ⟨S128x512, .bf16⟩
  | 39 => ⟨S128x8x128, .i32⟩
  | 40 => ⟨S128x8x128, .i32⟩
  | 41 => ⟨S128x8x128, .i1⟩
  | 42 => ⟨S_, .i32⟩
  | 43 => ⟨S128x8x128, .i32⟩
  | 44 => ⟨S128x8x128, .i1⟩
  | 45 => ⟨S128x8x128, .i1⟩
  | 46 => ⟨S_, .i32⟩
  | 47 => ⟨S128x8x128, .i32⟩
  | 48 => ⟨S128x8x128, .i1⟩
  | 49 => ⟨S128x8x128, .i1⟩
  | 50 => ⟨S_, .bf16⟩
  | 51 => ⟨S_, .bf16⟩
  | 52 => ⟨S128x8x128, .bf16⟩
  | 53 => ⟨S128x8x128, .bf16⟩
  | 54 => ⟨S128x8x128, .bf16⟩
  | 55 => ⟨S128x1024, .bf16⟩
  | 56 => ⟨S256x1024, .bf16⟩
  | 57 => ⟨S_, .bf16⟩
  | 58 => ⟨S128x512, .bf16⟩
  | 59 => ⟨S256x512, .bf16⟩
  | 60 => ⟨S4096x2x8, .f32⟩
  | 61 => ⟨S4096x2x8, .f32⟩
  | 62 => ⟨S4096x1x8, .f32⟩
  | 63 => ⟨S4096x8, .f32⟩
  | 64 => ⟨S4096x1x8, .f32⟩
  | 65 => ⟨S4096x8, .f32⟩
  | 66 => ⟨S4096x1x8, .f32⟩
  | 67 => ⟨S4096x8, .f32⟩
  | 68 => ⟨S4096x1x8, .f32⟩
  | 69 => ⟨S4096x8, .f32⟩
  | 70 => ⟨S4096x32, .f32⟩
  | 71 => ⟨S4096x1x8, .f32⟩
  | 72 => ⟨S4096x8, .f32⟩
  | 73 => ⟨S4096x8, .f32⟩
  | 74 => ⟨S4096x1x8, .f32⟩
  | 75 => ⟨S4096x8, .f32⟩
  | 76 => ⟨S4096x1x8, .f32⟩
  | 77 => ⟨S4096x8, .f32⟩
  | 78 => ⟨S4096x8, .f32⟩
  | 79 => ⟨S4096x1x8, .f32⟩
  | 80 => ⟨S4096x8, .f32⟩
  | 81 => ⟨S4096x32, .f32⟩
  | 82 => ⟨S_, .f32⟩
  | 83 => ⟨S4352x128, .f32⟩
  | 84 => ⟨S_, .f32⟩
  | 85 => ⟨S4352x128, .f32⟩
  | 86 => ⟨S4352x1024, .f32⟩
  | 87 => ⟨S4352x1024, .bf16⟩
  | 88 => ⟨S4352x512, .f32⟩
  | 89 => ⟨S4352x128, .f32⟩
  | 90 => ⟨S4352x128, .f32⟩
  | 91 => ⟨S4352x1x128, .f32⟩
  | 92 => ⟨S4352x1x128, .i32⟩
  | 93 => ⟨S_, .i32⟩
  | 94 => ⟨S4352x1x128, .i32⟩
  | 95 => ⟨S4352x1x128, .i32⟩
  | 96 => ⟨S_, .i32⟩
  | 97 => ⟨S4352x1x128, .i32⟩
  | 98 => ⟨S4352x1x128, .i1⟩
  | 99 => ⟨S4352x1x120, .f32⟩
  | 100 => ⟨S4352x1x8, .f32⟩
  | 101 => ⟨S4352x1x128, .f32⟩
  | 102 => ⟨S4352x1x8, .f32⟩
  | 103 => ⟨S4352x1x120, .f32⟩
  | 104 => ⟨S4352x1x128, .f32⟩
  | 105 => ⟨S4352x1x128, .f32⟩
  | 106 => ⟨S4352x1x128, .f32⟩
  | 107 => ⟨S4352x1x128, .f32⟩
  | 108 => ⟨S4352x1x128, .f32⟩
  | 109 => ⟨S4352x1x128, .f32⟩
  | 110 => ⟨S4352x1x128, .f32⟩
  | 111 => ⟨S4352x128, .f32⟩
  | 112 => ⟨S4352x128, .f32⟩
  | 113 => ⟨S_, .f32⟩
  | 114 => ⟨S4352, .f32⟩
  | 115 => ⟨S4352x1, .f32⟩
  | 116 => ⟨S_, .f32⟩
  | 117 => ⟨S4352x1, .f32⟩
  | 118 => ⟨S4352x1, .f32⟩
  | 119 => ⟨S_, .f32⟩
  | 120 => ⟨S4352x1, .f32⟩
  | 121 => ⟨S4352x1, .f32⟩
  | 122 => ⟨S4352x1, .f32⟩
  | 123 => ⟨S4352x128, .f32⟩
  | 124 => ⟨S4352x128, .f32⟩
  | 125 => ⟨S4352x128, .f32⟩
  | 126 => ⟨S4352x128, .f32⟩
  | 127 => ⟨S4352x128, .bf16⟩
  | _ => ⟨S1x4352x1024, .f32⟩

abbrev hbmTy0_1 (i : Nat) : BufTy := match i % 128 with
  | 0 => ⟨S4352x128, .bf16⟩
  | 1 => ⟨S4352x256, .bf16⟩
  | 2 => ⟨S4352x8x96, .f32⟩
  | 3 => ⟨S_, .f32⟩
  | 4 => ⟨S4352x8x128, .f32⟩
  | 5 => ⟨S4352x1024, .f32⟩
  | 6 => ⟨S4352x8x64, .f32⟩
  | 7 => ⟨S4352x8x64, .bf16⟩
  | 8 => ⟨S4352x512, .bf16⟩
  | 9 => ⟨S4352x512, .bf16⟩
  | 10 => ⟨S4352x1024, .f32⟩
  | 11 => ⟨S8x256, .f32⟩
  | 12 => ⟨S256x1024, .f32⟩
  | 13 => ⟨S256x512, .f32⟩
  | 14 => ⟨S512x1024, .f32⟩
  | _ => ⟨S1x4352x1024, .f32⟩

abbrev hbmTy (i : Nat) : BufTy := match i / 128 with
  | 0 => hbmTy0_0 i
  | 1 => hbmTy0_1 i
  | _ => ⟨S1x4352x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x512, .bf16⟩
  | .local _ .vmem, ⟨2, _⟩ => ⟨S256x512, .f32⟩
  | .local _ .vmem, ⟨3, _⟩ => ⟨S256x1024, .bf16⟩
  | .local _ .vmem, ⟨4, _⟩ => ⟨S256x1024, .bf16⟩
  | .local _ .vmem, ⟨5, _⟩ => ⟨S256x512, .bf16⟩
  | .local _ .vmem, ⟨6, _⟩ => ⟨S512x1024, .bf16⟩
  | .local _ .vmem, ⟨7, _⟩ => ⟨S1x256, .f32⟩
  | .local _ .vmem, ⟨8, _⟩ => ⟨S1x128, .f32⟩
  | .local _ .vmem, ⟨9, _⟩ => ⟨S256x128, .f32⟩
  | .local _ .vmem, ⟨10, _⟩ => ⟨S256x128, .f32⟩
  | .local _ .vmem, ⟨11, _⟩ => ⟨S256x256, .bf16⟩
  | .local _ .vmem, ⟨12, _⟩ => ⟨S256x1024, .bf16⟩
  | .local _ .vmem, ⟨13, _⟩ => ⟨S256x1024, .f32⟩
  | .local _ .vmem, ⟨14, _⟩ => ⟨S256x512, .f32⟩
  | .local _ .vmem, ⟨15, _⟩ => ⟨S512x1024, .f32⟩
  | .local _ .vmem, ⟨16, _⟩ => ⟨S256x512, .bf16⟩
  | .local _ .vmem, ⟨17, _⟩ => ⟨S256x1024, .f32⟩
  | .local _ .vmem, ⟨18, _⟩ => ⟨S8x256, .f32⟩
  | .local _ .vmem, ⟨19, _⟩ => ⟨S256x1024, .f32⟩
  | .local _ .vmem, ⟨20, _⟩ => ⟨S256x512, .f32⟩
  | .local _ .vmem, ⟨21, _⟩ => ⟨S512x1024, .f32⟩
  | _, _ => ⟨S1x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_2 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_cst_4 : Ref sig .tc := ⟨.hbm, 51, rfl⟩
abbrev main_call0_v0 : Ref sig .tc := ⟨.hbm, 52, rfl⟩
abbrev main_call0_v1 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_5 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_6 : Ref sig .tc := ⟨.hbm, 82, rfl⟩
abbrev main_v57 : Ref sig .tc := ⟨.hbm, 83, rfl⟩
abbrev main_cst_7 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_8 : Ref sig .tc := ⟨.hbm, 93, rfl⟩
abbrev main_v66 : Ref sig .tc := ⟨.hbm, 94, rfl⟩
abbrev main_v67 : Ref sig .tc := ⟨.hbm, 95, rfl⟩
abbrev main_c_9 : Ref sig .tc := ⟨.hbm, 96, rfl⟩
abbrev main_v68 : Ref sig .tc := ⟨.hbm, 97, rfl⟩
abbrev main_v69 : Ref sig .tc := ⟨.hbm, 98, rfl⟩
abbrev main_call1_v0 : Ref sig .tc := ⟨.hbm, 99, rfl⟩
abbrev main_call1_v1 : Ref sig .tc := ⟨.hbm, 100, rfl⟩
abbrev main_v70 : Ref sig .tc := ⟨.hbm, 101, rfl⟩
abbrev main_call2_v0 : Ref sig .tc := ⟨.hbm, 102, rfl⟩
abbrev main_call2_v1 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_10 : Ref sig .tc := ⟨.hbm, 113, rfl⟩
abbrev main_v80 : Ref sig .tc := ⟨.hbm, 114, rfl⟩
abbrev main_v81 : Ref sig .tc := ⟨.hbm, 115, rfl⟩
abbrev main_cst_11 : Ref sig .tc := ⟨.hbm, 116, rfl⟩
abbrev main_v82 : Ref sig .tc := ⟨.hbm, 117, rfl⟩
abbrev main_v83 : Ref sig .tc := ⟨.hbm, 118, rfl⟩
abbrev main_cst_12 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_13 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100_0 : Ref sig .tc := ⟨.hbm, 137, rfl⟩
abbrev main_v100_1 : Ref sig .tc := ⟨.hbm, 138, rfl⟩
abbrev main_v100_2 : Ref sig .tc := ⟨.hbm, 139, rfl⟩
abbrev main_v100_3 : Ref sig .tc := ⟨.hbm, 140, rfl⟩
abbrev main_v100_4 : Ref sig .tc := ⟨.hbm, 141, rfl⟩
abbrev main_v100_5 : Ref sig .tc := ⟨.hbm, 142, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_19 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S256x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S8x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S512x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== HeadCtxRefIdeal.lean ====
abbrev S1x4352x1024 : Shape := ⟨3, ![1, 4352, 1024]⟩
abbrev S1x1024x1952 : Shape := ⟨3, ![1, 1024, 1952]⟩
abbrev S1x256x768 : Shape := ⟨3, ![1, 256, 768]⟩
abbrev S1x128x1024 : Shape := ⟨3, ![1, 128, 1024]⟩
abbrev S1x256 : Shape := ⟨2, ![1, 256]⟩
abbrev S1x128 : Shape := ⟨2, ![1, 128]⟩
abbrev S4096x1x2x8 : Shape := ⟨4, ![4096, 1, 2, 8]⟩
abbrev S1x4352x8x96 : Shape := ⟨4, ![1, 4352, 8, 96]⟩
abbrev S1x4352x8x64 : Shape := ⟨4, ![1, 4352, 8, 64]⟩
abbrev S4352x512 : Shape := ⟨2, ![4352, 512]⟩
abbrev S4352x1024 : Shape := ⟨2, ![4352, 1024]⟩
abbrev S256x1024 : Shape := ⟨2, ![256, 1024]⟩
abbrev S256x512 : Shape := ⟨2, ![256, 512]⟩
abbrev S512x1024 : Shape := ⟨2, ![512, 1024]⟩
abbrev S1x256x1024 : Shape := ⟨3, ![1, 256, 1024]⟩
abbrev S1024x1952 : Shape := ⟨2, ![1024, 1952]⟩
abbrev S1024x416 : Shape := ⟨2, ![1024, 416]⟩
abbrev S128x1024 : Shape := ⟨2, ![128, 1024]⟩
abbrev S256x416 : Shape := ⟨2, ![256, 416]⟩
abbrev S256x128 : Shape := ⟨2, ![256, 128]⟩
abbrev S_ : Shape := ⟨0, ![]⟩
abbrev S256 : Shape := ⟨1, ![256]⟩
abbrev S256x1 : Shape := ⟨2, ![256, 1]⟩
abbrev S256x8x128 : Shape := ⟨3, ![256, 8, 128]⟩
abbrev S256x32 : Shape := ⟨2, ![256, 32]⟩
abbrev S256x1x32 : Shape := ⟨3, ![256, 1, 32]⟩
abbrev S256x8x32 : Shape := ⟨3, ![256, 8, 32]⟩
abbrev S256x8x64 : Shape := ⟨3, ![256, 8, 64]⟩
abbrev S1x256x8x64 : Shape := ⟨4, ![1, 256, 8, 64]⟩
abbrev S1x256x8x32 : Shape := ⟨4, ![1, 256, 8, 32]⟩
abbrev S1024x128 : Shape := ⟨2, ![1024, 128]⟩
abbrev S128 : Shape := ⟨1, ![128]⟩
abbrev S416x1024 : Shape := ⟨2, ![416, 1024]⟩
abbrev S6x256 : Shape := ⟨2, ![6, 256]⟩
abbrev S8x256 : Shape := ⟨2, ![8, 256]⟩

abbrev nBuf : Space → Nat
  | .hbm => 106
  | .vmem => 0
  | .smem => 0
  | _ => 0

abbrev bufTy : (tb : Table) → Fin (tcTables nBuf tb) → BufTy
  | .hbm, ⟨0, _⟩ => ⟨S1x4352x1024, .f32⟩
  | .hbm, ⟨1, _⟩ => ⟨S1x1024x1952, .f32⟩
  | .hbm, ⟨2, _⟩ => ⟨S1x256x768, .f32⟩
  | .hbm, ⟨3, _⟩ => ⟨S1x128x1024, .f32⟩
  | .hbm, ⟨4, _⟩ => ⟨S1x256, .f32⟩
  | .hbm, ⟨5, _⟩ => ⟨S1x128, .f32⟩
  | .hbm, ⟨6, _⟩ => ⟨S4096x1x2x8, .f32⟩
  | .hbm, ⟨7, _⟩ => ⟨S4096x1x2x8, .f32⟩
  | .hbm, ⟨8, _⟩ => ⟨S1x4352x8x96, .f32⟩
  | .hbm, ⟨9, _⟩ => ⟨S1x4352x8x64, .f32⟩
  | .hbm, ⟨10, _⟩ => ⟨S4352x512, .bf16⟩
  | .hbm, ⟨11, _⟩ => ⟨S4352x1024, .f32⟩
  | .hbm, ⟨12, _⟩ => ⟨S256x1024, .f32⟩
  | .hbm, ⟨13, _⟩ => ⟨S256x512, .f32⟩
  | .hbm, ⟨14, _⟩ => ⟨S512x1024, .f32⟩
  | .hbm, ⟨15, _⟩ => ⟨S1x256x1024, .f32⟩
  | .hbm, ⟨16, _⟩ => ⟨S256x1024, .f32⟩
  | .hbm, ⟨17, _⟩ => ⟨S1024x1952, .f32⟩
  | .hbm, ⟨18, _⟩ => ⟨S1024x416, .f32⟩
  | .hbm, ⟨19, _⟩ => ⟨S128x1024, .f32⟩
  | .hbm, ⟨20, _⟩ => ⟨S256x416, .f32⟩
  | .hbm, ⟨21, _⟩ => ⟨S256x128, .f32⟩
  | .hbm, ⟨22, _⟩ => ⟨S256x128, .f32⟩
  | .hbm, ⟨23, _⟩ => ⟨S_, .f32⟩
  | .hbm, ⟨24, _⟩ => ⟨S256, .f32⟩
  | .hbm, ⟨25, _⟩ => ⟨S256x1, .f32⟩
  | .hbm, ⟨26, _⟩ => ⟨S_, .f32⟩
  | .hbm, ⟨27, _⟩ => ⟨S256x1, .f32⟩
  | .hbm, ⟨28, _⟩ => ⟨S256x1, .f32⟩
  | .hbm, ⟨29, _⟩ => ⟨S_, .f32⟩
  | .hbm, ⟨30, _⟩ => ⟨S256x1, .f32⟩
  | .hbm, ⟨31, _⟩ => ⟨S256x1, .f32⟩
  | .hbm, ⟨32, _⟩ => ⟨S256x1, .f32⟩
  | .hbm, ⟨33, _⟩ => ⟨S256x1, .f32⟩
  | .hbm, ⟨34, _⟩ => ⟨S_, .f32⟩
  | .hbm, ⟨35, _⟩ => ⟨S256x1, .f32⟩
  | .hbm, ⟨36, _⟩ => ⟨S256x1, .f32⟩
  | .hbm, ⟨37, _⟩ => ⟨S256x128, .f32⟩
  | .hbm, ⟨38, _⟩ => ⟨S256x128, .f32⟩
  | .hbm, ⟨39, _⟩ => ⟨S256x128, .f32⟩
  | .hbm, ⟨40, _⟩ => ⟨S256x128, .f32⟩
  | .hbm, ⟨41, _⟩ => ⟨S256x1024, .f32⟩
  | .hbm, ⟨42, _⟩ => ⟨S256x8x128, .f32⟩
  | .hbm, ⟨43, _⟩ => ⟨S256x32, .f32⟩
  | .hbm, ⟨44, _⟩ => ⟨S256x1x32, .f32⟩
  | .hbm, ⟨45, _⟩ => ⟨S256x8x32, .f32⟩
  | .hbm, ⟨46, _⟩ => ⟨S256x8x64, .f32⟩
  | .hbm, ⟨47, _⟩ => ⟨S256x8x64, .f32⟩
  | .hbm, ⟨48, _⟩ => ⟨S1x256x8x64, .f32⟩
  | .hbm, ⟨49, _⟩ => ⟨S256x8x64, .f32⟩
  | .hbm, ⟨50, _⟩ => ⟨S1x256x8x32, .f32⟩
  | .hbm, ⟨51, _⟩ => ⟨S256x8x32, .f32⟩
  | .hbm, ⟨52, _⟩ => ⟨S1x256x8x64, .f32⟩
  | .hbm, ⟨53, _⟩ => ⟨S256x8x64, .f32⟩
  | .hbm, ⟨54, _⟩ => ⟨S_, .f32⟩
  | .hbm, ⟨55, _⟩ => ⟨S256x8x128, .f32⟩
  | .hbm, ⟨56, _⟩ => ⟨S_, .f32⟩
  | .hbm, ⟨57, _⟩ => ⟨S256x8x128, .f32⟩
  | .hbm, ⟨58, _⟩ => ⟨S256x8x128, .f32⟩
  | .hbm, ⟨59, _⟩ => ⟨S_, .f32⟩
  | .hbm, ⟨60, _⟩ => ⟨S256x32, .f32⟩
  | .hbm, ⟨61, _⟩ => ⟨S256x1x32, .f32⟩
  | .hbm, ⟨62, _⟩ => ⟨S_, .f32⟩
  | .hbm, ⟨63, _⟩ => ⟨S256x32, .f32⟩
  | .hbm, ⟨64, _⟩ => ⟨S_, .f32⟩
  | .hbm, ⟨65, _⟩ => ⟨S256x416, .f32⟩
  | .hbm, ⟨66, _⟩ => ⟨S256x1024, .f32⟩
  | .hbm, ⟨67, _⟩ => ⟨S1024x128, .f32⟩
  | .hbm, ⟨68, _⟩ => ⟨S128x1024, .f32⟩
  | .hbm, ⟨69, _⟩ => ⟨S256x128, .f32⟩
  | .hbm, ⟨70, _⟩ => ⟨S256x128, .f32⟩
  | .hbm, ⟨71, _⟩ => ⟨S_, .f32⟩
  | .hbm, ⟨72, _⟩ => ⟨S128, .f32⟩
  | .hbm, ⟨73, _⟩ => ⟨S1x128, .f32⟩
  | .hbm, ⟨74, _⟩ => ⟨S256x128, .f32⟩
  | .hbm, ⟨75, _⟩ => ⟨S256x128, .f32⟩
  | .hbm, ⟨76, _⟩ => ⟨S256x128, .f32⟩
  | .hbm, ⟨77, _⟩ => ⟨S_, .f32⟩
  | .hbm, ⟨78, _⟩ => ⟨S256, .f32⟩
  | .hbm, ⟨79, _⟩ => ⟨S256x1, .f32⟩
  | .hbm, ⟨80, _⟩ => ⟨S256x128, .f32⟩
  | .hbm, ⟨81, _⟩ => ⟨S256x128, .f32⟩
  | .hbm, ⟨82, _⟩ => ⟨S256x1, .f32⟩
  | .hbm, ⟨83, _⟩ => ⟨S_, .f32⟩
  | .hbm, ⟨84, _⟩ => ⟨S256x1, .f32⟩
  | .hbm, ⟨85, _⟩ => ⟨S256x1, .f32⟩
  | .hbm, ⟨86, _⟩ => ⟨S_, .f32⟩
  | .hbm, ⟨87, _⟩ => ⟨S256, .f32⟩
  | .hbm, ⟨88, _⟩ => ⟨S256x128, .f32⟩
  | .hbm, ⟨89, _⟩ => ⟨S256x128, .f32⟩
  | .hbm, ⟨90, _⟩ => ⟨S256x128, .f32⟩
  | .hbm, ⟨91, _⟩ => ⟨S256x128, .f32⟩
  | .hbm, ⟨92, _⟩ => ⟨S256x128, .f32⟩
  | .hbm, ⟨93, _⟩ => ⟨S_, .f32⟩
  | .hbm, ⟨94, _⟩ => ⟨S256x416, .f32⟩
  | .hbm, ⟨95, _⟩ => ⟨S256x416, .f32⟩
  | .hbm, ⟨96, _⟩ => ⟨S416x1024, .f32⟩
  | .hbm, ⟨97, _⟩ => ⟨S1024x416, .f32⟩
  | .hbm, ⟨98, _⟩ => ⟨S256x1024, .f32⟩
  | .hbm, ⟨99, _⟩ => ⟨S_, .f32⟩
  | .hbm, ⟨100, _⟩ => ⟨S1x256, .f32⟩
  | .hbm, ⟨101, _⟩ => ⟨S_, .f32⟩
  | .hbm, ⟨102, _⟩ => ⟨S1x256, .f32⟩
  | .hbm, ⟨103, _⟩ => ⟨S_, .f32⟩
  | .hbm, ⟨104, _⟩ => ⟨S6x256, .f32⟩
  | .hbm, ⟨105, _⟩ => ⟨S8x256, .f32⟩
  | _, _ => ⟨S1x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_3 : Ref sig .tc := ⟨.hbm, 54, rfl⟩
abbrev main_v35 : Ref sig .tc := ⟨.hbm, 55, rfl⟩
abbrev main_cst_4 : Ref sig .tc := ⟨.hbm, 56, rfl⟩
abbrev main_v36 : Ref sig .tc := ⟨.hbm, 57, rfl⟩
abbrev main_v37 : Ref sig .tc := ⟨.hbm, 58, rfl⟩
abbrev main_cst_5 : Ref sig .tc := ⟨.hbm, 59, rfl⟩
abbrev main_v38 : Ref sig .tc := ⟨.hbm, 60, rfl⟩
abbrev main_v39 : Ref sig .tc := ⟨.hbm, 61, rfl⟩
abbrev main_cst_6 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_9 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_10 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_12 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_13 : Ref sig .tc := ⟨.hbm, 99, rfl⟩
abbrev main_v70 : Ref sig .tc := ⟨.hbm, 100, rfl⟩
abbrev main_cst_14 : Ref sig .tc := ⟨.hbm, 101, rfl⟩
abbrev main_v71 : Ref sig .tc := ⟨.hbm, 102, rfl⟩
abbrev main_cst_15 : Ref sig .tc := ⟨.hbm, 103, rfl⟩
abbrev main_v72 : Ref sig .tc := ⟨.hbm, 104, rfl⟩
abbrev main_v73 : Ref sig .tc := ⟨.hbm, 105, rfl⟩

abbrev nD : Nat := 1
abbrev τ : Topo := Topo.v7x

variable {F : FTy → Type} [FloatOps F]
-- ==== Up.lean ====
abbrev S1x4096x1024 : Shape := ⟨3, ![1, 4096, 1024]⟩
abbrev S1x1024x4096 : Shape := ⟨3, ![1, 1024, 4096]⟩
abbrev S1024x4096 : Shape := ⟨2, ![1024, 4096]⟩
abbrev S1024x8x512 : Shape := ⟨3, ![1024, 8, 512]⟩
abbrev S8x1024x512 : Shape := ⟨3, ![8, 1024, 512]⟩
abbrev S4096x1024 : Shape := ⟨2, ![4096, 1024]⟩
abbrev S4096x4096 : Shape := ⟨2, ![4096, 4096]⟩
abbrev S1x1024x512 : Shape := ⟨3, ![1, 1024, 512]⟩
abbrev S4096x512 : Shape := ⟨2, ![4096, 512]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 10
  | .vmem => 7
  | .smem => 0
  | _ => 0

abbrev bufTy : (tb : Table) → Fin (tcTables nBuf tb) → BufTy
  | .hbm, ⟨0, _⟩ => ⟨S1x4096x1024, .f32⟩
  | .hbm, ⟨1, _⟩ => ⟨S1x1024x4096, .f32⟩
  | .hbm, ⟨2, _⟩ => ⟨S1024x4096, .f32⟩
  | .hbm, ⟨3, _⟩ => ⟨S1024x4096, .bf16⟩
  | .hbm, ⟨4, _⟩ => ⟨S1024x8x512, .bf16⟩
  | .hbm, ⟨5, _⟩ => ⟨S8x1024x512, .bf16⟩
  | .hbm, ⟨6, _⟩ => ⟨S4096x1024, .f32⟩
  | .hbm, ⟨7, _⟩ => ⟨S4096x1024, .bf16⟩
  | .hbm, ⟨8, _⟩ => ⟨S4096x4096, .bf16⟩
  | .hbm, ⟨9, _⟩ => ⟨S4096x4096, .bf16⟩
  | .local _ .vmem, ⟨0, _⟩ => ⟨S4096x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6_0 : Ref sig .tc := ⟨.hbm, 8, rfl⟩
abbrev main_v6_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpRefIdeal.lean ====
abbrev S1x4096x1024 : Shape := ⟨3, ![1, 4096, 1024]⟩
abbrev S1x1024x4096 : Shape := ⟨3, ![1, 1024, 4096]⟩
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024x4096, .f32⟩
  | .hbm, ⟨2, _⟩ => ⟨S4096x1024, .f32⟩
  | .hbm, ⟨3, _⟩ => ⟨S1024x4096, .f32⟩
  | .hbm, ⟨4, _⟩ => ⟨S4096x4096, .f32⟩
  | .hbm, ⟨5, _⟩ => ⟨S4096x4096, .bf16⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.ConvSpec.lean ====
/- The gradient of the gated short convolution, one channel at a time, over plain functions of the row: what both the
   kernel's blocks and the reference's arrays are read to. -/
module

public import Idealize.ShloMosaic.Lib.Pointwise
public import Idealize.ShloMosaic.Lib.Pipeline.Value

@[expose] public noncomputable section

namespace Cert.ConvSpec

open Idealize.ShloMosaic

/-- A column of the sequence. -/
abbrev Col := Fin 4096 → EReal

/-- The column one row later: row `r` holds what row `r - 1` held, zero in front. -/
def prev (f : Col) : Col := fun r => if h : r.val = 0 then 0 else f ⟨r.val - 1, by omega⟩
/-- The column one row earlier, zero behind. -/
def next (f : Col) : Col := fun r => if h : r.val = 4095 then 0 else f ⟨r.val + 1, by omega⟩

/-- Product of two columns. -/
def times (f g : Col) : Col := fun r => f r * g r

/-- The three-tap convolution of a column. -/
def taps (w : Fin 3 → EReal) (f : Col) : Col := fun r => w 0 * prev f r + w 1 * f r + w 2 * next f r
/-- Its transpose. -/
def tapsT (w : Fin 3 → EReal) (f : Col) : Col := fun r => w 0 * next f r + w 1 * f r + w 2 * prev f r

/-- The gradient's three columns: of the output gate, of the input gate, of the input. -/
def dz (w : Fin 3 → EReal) (d gb gc x : Col) (g : ℕ) : Col := fun r =>
  if g = 0 then d r * taps w (times gc x) r
  else if g = 1 then tapsT w (times d gb) r * x r
  else tapsT w (times d gb) r * gc r

/-- The gradient of the three taps. -/
def dtap (d gb gc x : Col) (k : ℕ) : EReal := ∑ r : Fin 4096,
  d r * gb r * (if k = 0 then prev (times gc x) r else if k = 1 then gc r * x r else next (times gc x) r)

/-! ## The three results over the arguments -/

abbrev SH : Shape := ⟨3, ![1, 4096, 1024]⟩
abbrev SW : Shape := ⟨3, ![1, 1024, 1952]⟩
abbrev SC : Shape := ⟨3, ![1, 3, 512]⟩

/-- Channel `ch` of the gate, input gate and input columns of the projection. -/
def Z (H : FVec Ideal SH .f32) (W : FVec Ideal SW .f32) (g : Fin 3) (ch : Fin 512) : Col := fun r =>
  ∑ k : Fin 1024, H (ix3 0 r k) * W (ix3 0 k ⟨416 + g.val * 512 + ch.val, by omega⟩)
/-- Channel `ch` of the convolution's part of the cotangent. -/
def dc (D : FVec Ideal SH .f32) (ch : Fin 512) : Col := fun r => D (ix3 0 r ⟨512 + ch.val, by omega⟩)
/-- Channel `ch` of the taps. -/
def tw (C : FVec Ideal SC .f32) (ch : Fin 512) : Fin 3 → EReal := fun k => C (ix3 0 k ch)

/-- Column `g` of the gradient of channel `ch`. -/
def G (H : FVec Ideal SH .f32) (W : FVec Ideal SW .f32) (C : FVec Ideal SC .f32) (D : FVec Ideal SH .f32) (ch : Fin 512) (g : ℕ) : Col :=
  dz (tw C ch) (dc D ch) (Z H W 0 ch) (Z H W 1 ch) (Z H W 2 ch) g

/-- The channel of a grouped column. -/
def chan (n : Fin 1536) : Fin 512 := ⟨n.val / 384 * 128 + n.val % 128, by omega⟩

def out0 (H : FVec Ideal SH .f32) (W : FVec Ideal SW .f32) (C : FVec Ideal SC .f32) (D : FVec Ideal SH .f32) :
    FVec Ideal ⟨2, ![4096, 1536]⟩ .bf16 := fun j => G H W C D (chan (j 1)) ((j 1).val % 384 / 128) (j 0)
def out1 (H : FVec Ideal SH .f32) (W : FVec Ideal SW .f32) (D : FVec Ideal SH .f32) :
    FVec Ideal ⟨2, ![3, 512]⟩ .f32 := fun j => dtap (dc D (j 1)) (Z H W 0 (j 1)) (Z H W 1 (j 1)) (Z H W 2 (j 1)) (j 0).val
def out2 (H : FVec Ideal SH .f32) (W : FVec Ideal SW .f32) (C : FVec Ideal SC .f32) (D : FVec Ideal SH .f32) :
    FVec Ideal ⟨2, ![1536, 1024]⟩ .f32 := fun j =>
  ∑ r : Fin 4096, G H W C D (chan (j 0)) ((j 0).val % 384 / 128) r * H (ix3 0 r (j 1))

end Cert.ConvSpec

end
-- ==== Proof.ConvPay.lean ====
/- What one grid point of the convolution gradient's kernel stores, read at an index. -/
module

public import proofs.«01_k».proof.Proof.Gen.ConvIdeal.Frame
public import proofs.«01_k».proof.Proof.ConvSpec
public import Idealize.ShloMosaic.Lib.Pipeline.ValueKit

set_option maxRecDepth 16384

@[expose] public noncomputable section

open Idealize.ShloMosaic Idealize.ShloMosaic.TcCoe Idealize.SL.Sem

namespace Cert.ConvIdeal.Pay

open Cert.ConvIdeal Cert.ConvIdeal.Gen Cert.ConvSpec

theorem prev_at (a b : FVec Ideal S4096x128 .f32) (r : Fin 4096) (l : Fin 128) :
    k0_pay9 (F := Ideal) a b (ix2 r l) = prev (times (fun r => a (ix2 r l)) fun r => b (ix2 r l)) r := by
  pointwise [k0_pay9, k0_pay8, k0_pay7, k0_pay6]
  unfold prev times
  word_cmp
  by_cases h : r.val = 0
  · rw [if_pos h, dif_pos h]
  · rw [if_neg h, dif_neg h, show (⟨(r.val + 4096 - 1) % 4096, by omega⟩ : Fin 4096) = ⟨r.val - 1, by omega⟩ from Fin.ext (by show (r.val + 4096 - 1) % 4096 = r.val - 1; omega)]

set_option maxRecDepth 100000 in
theorem next_at (a b : FVec Ideal S4096x128 .f32) (r : Fin 4096) (l : Fin 128) :
    k0_pay10 (F := Ideal) a b (ix2 r l) = next (times (fun r => a (ix2 r l)) fun r => b (ix2 r l)) r := by
  pointwise [k0_pay10, k0_pay8, k0_pay7, k0_pay6]
  unfold next times
  word_cmp
  by_cases h : r.val = 4095
  · rw [if_pos h, dif_pos h]
  · rw [if_neg h, dif_neg h, show (⟨(r.val + 4096 - 4095) % 4096, by omega⟩ : Fin 4096) = ⟨r.val + 1, by omega⟩ from Fin.ext (by show (r.val + 4096 - 4095) % 4096 = r.val + 1; omega)]

theorem prev'_at (a b : FVec Ideal S4096x128 .f32) (r : Fin 4096) (l : Fin 128) :
    k0_pay17 (F := Ideal) a b (ix2 r l) = prev (times (fun r => b (ix2 r l)) fun r => a (ix2 r l)) r := by
  pointwise [k0_pay17, k0_pay13]
  unfold prev times
  word_cmp
  by_cases h : r.val = 0
  · rw [if_pos h, dif_pos h]
  · rw [if_neg h, dif_neg h, show (⟨(r.val + 4096 - 1) % 4096, by omega⟩ : Fin 4096) = ⟨r.val - 1, by omega⟩ from Fin.ext (by show (r.val + 4096 - 1) % 4096 = r.val - 1; omega)]

set_option maxRecDepth 100000 in
theorem part_at (a b : FVec Ideal S4096x128 .f32) (w0 w1 : FVec Ideal S1x128 .f32) (r : Fin 4096) (l : Fin 128) :
    k0_pay18 (F := Ideal) a b w0 w1 (ix2 r l) = w0 (ix2 0 l) * next (times (fun r => b (ix2 r l)) fun r => a (ix2 r l)) r
      + w1 (ix2 0 l) * (b (ix2 r l) * a (ix2 r l)) := by
  pointwise [k0_pay18, k0_pay13]
  unfold next times
  word_cmp
  by_cases h : r.val = 4095
  · rw [if_pos h, dif_pos h, mul_zero]
  · rw [if_neg h, dif_neg h, show (⟨(r.val + 4096 - 4095) % 4096, by omega⟩ : Fin 4096) = ⟨r.val + 1, by omega⟩ from Fin.ext (by show (r.val + 4096 - 4095) % 4096 = r.val + 1; omega)]

/-- The three columns of the gradient as the kernel stores them. -/
theorem dz0_at (w : Fin 3 → EReal) (gb gc x d : FVec Ideal S4096x128 .f32) (w0 w1 w2 : FVec Ideal S1x128 .f32) (r : Fin 4096) (l : Fin 128)
    (h0 : w0 (ix2 0 l) = w 0) (h1 : w1 (ix2 0 l) = w 1) (h2 : w2 (ix2 0 l) = w 2) :
    k0_pay12 (F := Ideal) gc x d w0 w1 w2 (ix2 r l)
      = dz w (fun r => d (ix2 r l)) (fun r => gb (ix2 r l)) (fun r => gc (ix2 r l)) (fun r => x (ix2 r l)) 0 r := by
  pointwise [k0_pay12, k0_pay11, prev_at, next_at]
  rw [h0, h1, h2]
  pointwise [k0_pay8, k0_pay7, k0_pay6]
  rfl

theorem dz1_at (w : Fin 3 → EReal) (gb gc x d : FVec Ideal S4096x128 .f32) (w0 w1 w2 : FVec Ideal S1x128 .f32) (r : Fin 4096) (l : Fin 128)
    (h0 : w0 (ix2 0 l) = w 0) (h1 : w1 (ix2 0 l) = w 1) (h2 : w2 (ix2 0 l) = w 2) :
    k0_pay2 (F := Ideal) (k0_pay7 x) (k0_pay17 (k0_pay5 gb) (k0_pay11 d)) (k0_pay18 (k0_pay5 gb) (k0_pay11 d) w0 w1) (k0_pay19 w2) (ix2 r l)
      = dz w (fun r => d (ix2 r l)) (fun r => gb (ix2 r l)) (fun r => gc (ix2 r l)) (fun r => x (ix2 r l)) 1 r := by
  pointwise [k0_pay2, k0_pay1, part_at, prev'_at]
  pointwise [k0_pay7, k0_pay19, k0_pay5, k0_pay11]
  rw [h0, h1, h2]
  rfl

theorem dz2_at (w : Fin 3 → EReal) (gb gc x d : FVec Ideal S4096x128 .f32) (w0 w1 w2 : FVec Ideal S1x128 .f32) (r : Fin 4096) (l : Fin 128)
    (h0 : w0 (ix2 0 l) = w 0) (h1 : w1 (ix2 0 l) = w 1) (h2 : w2 (ix2 0 l) = w 2) :
    k0_pay3 (F := Ideal) (k0_pay6 gc) (k0_pay17 (k0_pay5 gb) (k0_pay11 d)) (k0_pay18 (k0_pay5 gb) (k0_pay11 d) w0 w1) (k0_pay19 w2) (ix2 r l)
      = dz w (fun r => d (ix2 r l)) (fun r => gb (ix2 r l)) (fun r => gc (ix2 r l)) (fun r => x (ix2 r l)) 2 r := by
  pointwise [k0_pay3, k0_pay1, part_at, prev'_at]
  pointwise [k0_pay6, k0_pay19, k0_pay5, k0_pay11]
  rw [h0, h1, h2]
  rfl

/-- The three sums of the taps' gradient. -/
theorem dtap0_at (gb gc x d : FVec Ideal S4096x128 .f32) (l : Fin 128) :
    k0_pay14 (F := Ideal) (k0_pay5 gb) (k0_pay9 gc x) (k0_pay11 d) (ix2 0 l)
      = dtap (fun r => d (ix2 r l)) (fun r => gb (ix2 r l)) (fun r => gc (ix2 r l)) (fun r => x (ix2 r l)) 0 := by
  pointwise [k0_pay14, k0_pay13, k0_pay5, k0_pay11, prev_at]
  rfl

theorem dtap1_at (gb gc x d : FVec Ideal S4096x128 .f32) (l : Fin 128) :
    k0_pay15 (F := Ideal) (k0_pay5 gb) (k0_pay8 gc x) (k0_pay11 d) (ix2 0 l)
      = dtap (fun r => d (ix2 r l)) (fun r => gb (ix2 r l)) (fun r => gc (ix2 r l)) (fun r => x (ix2 r l)) 1 := by
  pointwise [k0_pay15, k0_pay13, k0_pay5, k0_pay11, k0_pay8, k0_pay7, k0_pay6]
  rfl

theorem dtap2_at (gb gc x d : FVec Ideal S4096x128 .f32) (l : Fin 128) :
    k0_pay16 (F := Ideal) (k0_pay5 gb) (k0_pay10 gc x) (k0_pay11 d) (ix2 0 l)
      = dtap (fun r => d (ix2 r l)) (fun r => gb (ix2 r l)) (fun r => gc (ix2 r l)) (fun r => x (ix2 r l)) 2 := by
  pointwise [k0_pay16, k0_pay13, k0_pay5, k0_pay11, next_at]
  rfl

end Cert.ConvIdeal.Pay

end
-- ==== Proof.ConvVal.lean ====
/- The kernel's three result arrays. -/
module

public import proofs.«01_k».proof.Proof.ConvPay

set_option maxRecDepth 16384

@[expose] public noncomputable section

open Idealize.ShloMosaic Idealize.ShloMosaic.TcCoe Idealize.SL.Sem
open Idealize.ShloMosaic.Pipeline (Dat)

namespace Cert.ConvIdeal.Val

open Cert.ConvIdeal Cert.ConvIdeal.Gen Cert.ConvSpec Cert.ConvIdeal.Pay

variable (m : (ℓ : Loc nD τ sig) → Buf (Elt Ideal) ℓ)

theorem idx : ∀ t : Fin cfg0.N, win0_0.index t = ![0, t.val]
    ∧ win0_1.index t = ![0, t.val]
    ∧ win0_2.index t = ![0, 4 + t.val]
    ∧ win0_3.index t = ![0, 0]
    ∧ win0_4.index t = ![0, t.val]
    ∧ win0_5.index t = ![0, t.val]
    ∧ win0_6.index t = ![t.val, 0] ∧ t.val < 4 :=
  (by decide +kernel : ∀ t : Fin grid0.N, _)

abbrev aH (c : Dev nD) : FVec Ideal SH .f32 := m ((c : Thread nD τ).loc main_arg0)
abbrev aW (c : Dev nD) : FVec Ideal SW .f32 := m ((c : Thread nD τ).loc main_arg2)
abbrev aC (c : Dev nD) : FVec Ideal SC .f32 := m ((c : Thread nD τ).loc main_arg3)
abbrev aD (c : Dev nD) : FVec Ideal SH .f32 := m ((c : Thread nD τ).loc main_arg4)

/-- The projection the host computes, at grouped columns. -/
theorem z_at (c : Dev nD) (r : Fin 4096) (n : Fin 1536) (g : Fin 3) (ch : Fin 512) (hg : g.val = n.val % 384 / 128)
    (hch : ch.val = n.val / 384 * 128 + n.val % 128) :
    (V m c main_v12 : FVec Ideal S4096x1536 .f32) (ix2 r n) = Z (aH m c) (aW m c) g ch r := by
  unfold V
  entry_read
  pointwise [Z]
  refine Finset.sum_congr (M := EReal) rfl fun k _ => congrArg (fun n => aH m c (ix3 0 r k) * aW m c (ix3 0 k n)) (Fin.ext ?_)
  show 416 + _ = 416 + g.val * 512 + ch.val
  omega

theorem iblk0_at (c : Dev nD) (t : Fin cfg0.N) (r : Fin 4096) (n : Fin 384) (n' : Fin 1536) (hn : n'.val = t.val * 384 + n.val) :
    (iblk m c 0 t : FVec Ideal S4096x384 .f32) (ix2 r n) = (V m c main_v12 : FVec Ideal S4096x1536 .f32) (ix2 r n') := by
  blk_ext [iblk, idx t]

theorem colZ (c : Dev nD) (t : Fin cfg0.N) (g : Fin 3) (l : Fin 128) (ch : Fin 512) (hch : ch.val = t.val * 128 + l.val)
    (n : Fin 384) (hn : n.val = g.val * 128 + l.val) (r : Fin 4096) :
    (iblk m c 0 t : FVec Ideal S4096x384 .f32) (ix2 r n) = Z (aH m c) (aW m c) g ch r := by
  have ht := (idx t).2.2.2.2.2.2.2
  rw [iblk0_at m c t r n ⟨t.val * 384 + n.val, by omega⟩ rfl]
  exact z_at m c r _ g ch (by show _ = (t.val * 384 + n.val) % 384 / 128; omega)
    (by show _ = (t.val * 384 + n.val) / 384 * 128 + (t.val * 384 + n.val) % 128; omega)

theorem colD (c : Dev nD) (t : Fin cfg0.N) (l : Fin 128) (ch : Fin 512) (hch : ch.val = t.val * 128 + l.val) (r : Fin 4096) :
    (iblk m c 2 t : FVec Ideal S4096x128 .f32) (ix2 r l) = dc (aD m c) ch r := by
  have ht := (idx t).2.2.2.2.2.2.2
  have e : (iblk m c 2 t : FVec Ideal S4096x128 .f32) (ix2 r l)
      = (V m c main_v14 : FVec Ideal S4096x1024 .f32) (ix2 r ⟨512 + ch.val, by omega⟩) := by
    blk_ext [iblk, idx t]
  rw [e]
  unfold V
  entry_read
  pointwise [dc]

theorem colC (c : Dev nD) (t : Fin cfg0.N) (l : Fin 128) (ch : Fin 512) (hch : ch.val = t.val * 128 + l.val) (k : Fin 3) :
    (iblk m c 1 t : FVec Ideal S3x128 .f32) (ix2 k l) = tw (aC m c) ch k := by
  have e : (iblk m c 1 t : FVec Ideal S3x128 .f32) (ix2 k l) = (V m c main_v13 : FVec Ideal S3x512 .f32) (ix2 k ch) := by
    blk_ext [iblk, idx t]
  rw [e]
  unfold V
  entry_read
  pointwise [tw]

theorem rowH (c : Dev nD) (t : Fin cfg0.N) (r : Fin 4096) (k : Fin 1024) :
    (X0_3 m c t : FVec Ideal S4096x1024 .bf16) (ix2 r k) = aH m c (ix3 0 r k) := by
  have e : (X0_3 m c t : FVec Ideal S4096x1024 .bf16) (ix2 r k)
      = (V m c main_v10 : FVec Ideal S4352x1024 .bf16) (ix2 ⟨r.val, by omega⟩ k) := by
    unfold X0_3 Pipeline.Window.fill
    rw [dif_pos (moved0_3 t _)]
    blk_ext [iblk, idx t]
  rw [e]
  unfold V
  entry_read
  pointwise

theorem dtap_congr {d d' a a' b b' x x' : Col} {k k' : ℕ} (hd : ∀ r, d r = d' r) (ha : ∀ r, a r = a' r) (hb : ∀ r, b r = b' r)
    (hx : ∀ r, x r = x' r) (hk : k = k') : dtap d a b x k = dtap d' a' b' x' k' := by
  rw [funext hd, funext ha, funext hb, funext hx, hk]

theorem dz_congr {w w' : Fin 3 → EReal} {d d' a a' b b' x x' : Col} {g g' : ℕ} {r r' : Fin 4096} (hw : ∀ k, w k = w' k) (hd : ∀ r, d r = d' r)
    (ha : ∀ r, a r = a' r) (hb : ∀ r, b r = b' r) (hx : ∀ r, x r = x' r) (hg : g = g') (hr : r = r') : dz w d a b x g r = dz w' d' a' b' x' g' r' := by
  rw [funext hw, funext hd, funext ha, funext hb, funext hx, hg, hr]

theorem final5 (c : Dev nD) : (dats m 0 c).arrAt 5 (cfgs 0).N = out1 (aH m c) (aW m c) (aD m c) := by
  refine (dats m 0 c).arrAt_eq_of_covers 5 _ (by decide +kernel) fun t hf y => ?_
  have ht := (idx t).2.2.2.2.2.2.2
  blk_simp
  rw [after0_5]
  unfold Gen.outsAt0
  frame_out
  unfold out1
  have e0 : (((View.whole main_v15_1).slice (win0_5.rect t)).emb y 0).val = (y 0).val := by blk_simp [idx t]
  have e1 : (((View.whole main_v15_1).slice (win0_5.rect t)).emb y 1).val = t.val * 128 + (y 1).val := by blk_simp [idx t]
  rw [e0]
  generalize (((View.whole main_v15_1).slice (win0_5.rect t)).emb y 1) = ch at e1
  canon_tiles x h
  all_goals
    idx_vars x
    obtain rfl : x0 = 0 := Subsingleton.elim _ _
    have hch : ch.val = t.val * 128 + x1.val := by rw [e1, h1]
  · refine (dtap2_at _ _ _ _ _).trans (dtap_congr (fun r => ?_) (fun r => ?_) (fun r => ?_) (fun r => ?_) ?_)
    · exact colD m c t x1 ch hch r
    · pointwise
      exact colZ m c t 0 x1 ch hch _ (by show x1.val = 0 * 128 + x1.val; omega) r
    · pointwise
      exact colZ m c t 1 x1 ch hch _ (by show 128 + x1.val = 1 * 128 + x1.val; omega) r
    · pointwise
      exact colZ m c t 2 x1 ch hch _ (by show 256 + x1.val = 2 * 128 + x1.val; omega) r
    · rw [h0]; rfl
  · refine (dtap1_at _ _ _ _ _).trans (dtap_congr (fun r => ?_) (fun r => ?_) (fun r => ?_) (fun r => ?_) ?_)
    · exact colD m c t x1 ch hch r
    · pointwise
      exact colZ m c t 0 x1 ch hch _ (by show x1.val = 0 * 128 + x1.val; omega) r
    · pointwise
      exact colZ m c t 1 x1 ch hch _ (by show 128 + x1.val = 1 * 128 + x1.val; omega) r
    · pointwise
      exact colZ m c t 2 x1 ch hch _ (by show 256 + x1.val = 2 * 128 + x1.val; omega) r
    · rw [h0]; rfl
  · refine (dtap0_at _ _ _ _ _).trans (dtap_congr (fun r => ?_) (fun r => ?_) (fun r => ?_) (fun r => ?_) ?_)
    · exact colD m c t x1 ch hch r
    · pointwise
      exact colZ m c t 0 x1 ch hch _ (by show x1.val = 0 * 128 + x1.val; omega) r
    · pointwise
      exact colZ m c t 1 x1 ch hch _ (by show 128 + x1.val = 1 * 128 + x1.val; omega) r
    · pointwise
      exact colZ m c t 2 x1 ch hch _ (by show 256 + x1.val = 2 * 128 + x1.val; omega) r
    · rw [h0]; rfl

/-- Three column blocks side by side, read at an index. -/
theorem canon3 (p0 p1 p2 : FVec Ideal S4096x128 .bf16) (f : ℕ → Fin 4096 → Fin 128 → EReal)
    (hp0 : ∀ r l, p0 (ix2 r l) = f 0 r l) (hp1 : ∀ r l, p1 (ix2 r l) = f 1 r l) (hp2 : ∀ r l, p2 (ix2 r l) = f 2 r l) (y : S4096x384.Idx) :
    View.canon (Val := Elt Ideal) (s := S4096x384) (e := .bf16)
      [⟨Rect.unit ![0, 256] ![4096, 128] inb_S4096x384_S4096x128_0_256, p2⟩,
       ⟨Rect.unit ![0, 128] ![4096, 128] inb_S4096x384_S4096x128_0_128, p1⟩,
       ⟨Rect.unit ![0, 0] ![4096, 128] inb_S4096x384_S4096x128_0_0, p0⟩] y
      = f ((y 1).val / 128) (y 0) ⟨(y 1).val % 128, Nat.mod_lt _ (by decide)⟩ := by
  idx_vars y
  canon_tiles x h
  all_goals
    idx_vars x
    have e0 : y0 = x0 := Fin.ext h0
    subst e0
  · refine (hp2 _ _).trans ?_
    have e : y1.val = 256 + x1.val := h1
    show f 2 y0 x1 = f (y1.val / 128) y0 ⟨y1.val % 128, _⟩
    rw [show y1.val / 128 = 2 by omega]
    exact congrArg (f 2 y0) (Fin.ext (by show x1.val = y1.val % 128; omega))
  · refine (hp1 _ _).trans ?_
    have e : y1.val = 128 + x1.val := h1
    show f 1 y0 x1 = f (y1.val / 128) y0 ⟨y1.val % 128, _⟩
    rw [show y1.val / 128 = 1 by omega]
    exact congrArg (f 1 y0) (Fin.ext (by show x1.val = y1.val % 128; omega))
  · refine (hp0 _ _).trans ?_
    have e : y1.val = x1.val := h1
    show f 0 y0 x1 = f (y1.val / 128) y0 ⟨y1.val % 128, _⟩
    rw [show y1.val / 128 = 0 by omega]
    exact congrArg (f 0 y0) (Fin.ext (by show x1.val = y1.val % 128; omega))

/-- A grid point's block of the gradient. -/
theorem blk4 (c : Dev nD) (t : Fin cfg0.N) (ch : Fin 128 → Fin 512) (hch : ∀ l, (ch l).val = t.val * 128 + l.val) (y : S4096x384.Idx) :
    (outsAt0 m c t).1 y
      = G (aH m c) (aW m c) (aC m c) (aD m c) (ch ⟨(y 1).val % 128, Nat.mod_lt _ (by decide)⟩) ((y 1).val / 128) (y 0) := by
  unfold Gen.outsAt0
  frame_out
  refine canon3 _ _ _ (fun g r l => G (aH m c) (aW m c) (aC m c) (aD m c) (ch l) g r) ?_ ?_ ?_ y
  · intro r l
    refine (dz0_at (tw (aC m c) (ch l)) (View.ld (iblk m c 0 t) (Rect.unit ![0, 0] ![4096, 128] inb_S4096x384_S4096x128_0_0)) _ _ _ _ _ _ r l ?_ ?_ ?_).trans (dz_congr (fun _ => rfl) (fun r => ?_) (fun r => ?_) (fun r => ?_) (fun r => ?_) rfl rfl)
    on_goal 4 => exact colD m c t l (ch l) (hch l) r
    on_goal 1 => pointwise; exact colC m c t l (ch l) (hch l) 0
    on_goal 1 => pointwise; exact colC m c t l (ch l) (hch l) 1
    on_goal 1 => pointwise; exact colC m c t l (ch l) (hch l) 2
    · pointwise; exact colZ m c t 0 l (ch l) (hch l) _ (by show l.val = 0 * 128 + l.val; omega) r
    · pointwise; exact colZ m c t 1 l (ch l) (hch l) _ (by show 128 + l.val = 1 * 128 + l.val; omega) r
    · pointwise; exact colZ m c t 2 l (ch l) (hch l) _ (by show 256 + l.val = 2 * 128 + l.val; omega) r
  · intro r l
    refine (dz1_at (tw (aC m c) (ch l)) _ (View.ld (iblk m c 0 t) (Rect.unit ![0, 128] ![4096, 128] inb_S4096x384_S4096x128_0_128)) _ _ _ _ _ r l ?_ ?_ ?_).trans (dz_congr (fun _ => rfl) (fun r => ?_) (fun r => ?_) (fun r => ?_) (fun r => ?_) rfl rfl)
    on_goal 4 => exact colD m c t l (ch l) (hch l) r
    on_goal 1 => pointwise; exact colC m c t l (ch l) (hch l) 0
    on_goal 1 => pointwise; exact colC m c t l (ch l) (hch l) 1
    on_goal 1 => pointwise; exact colC m c t l (ch l) (hch l) 2
    · pointwise; exact colZ m c t 0 l (ch l) (hch l) _ (by show l.val = 0 * 128 + l.val; omega) r
    · pointwise; exact colZ m c t 1 l (ch l) (hch l) _ (by show 128 + l.val = 1 * 128 + l.val; omega) r
    · pointwise; exact colZ m c t 2 l (ch l) (hch l) _ (by show 256 + l.val = 2 * 128 + l.val; omega) r
  · intro r l
    refine (dz2_at (tw (aC m c) (ch l)) _ _ (View.ld (iblk m c 0 t) (Rect.unit ![0, 256] ![4096, 128] inb_S4096x384_S4096x128_0_256)) _ _ _ _ r l ?_ ?_ ?_).trans (dz_congr (fun _ => rfl) (fun r => ?_) (fun r => ?_) (fun r => ?_) (fun r => ?_) rfl rfl)
    on_goal 4 => exact colD m c t l (ch l) (hch l) r
    on_goal 1 => pointwise; exact colC m c t l (ch l) (hch l) 0
    on_goal 1 => pointwise; exact colC m c t l (ch l) (hch l) 1
    on_goal 1 => pointwise; exact colC m c t l (ch l) (hch l) 2
    · pointwise; exact colZ m c t 0 l (ch l) (hch l) _ (by show l.val = 0 * 128 + l.val; omega) r
    · pointwise; exact colZ m c t 1 l (ch l) (hch l) _ (by show 128 + l.val = 1 * 128 + l.val; omega) r
    · pointwise; exact colZ m c t 2 l (ch l) (hch l) _ (by show 256 + l.val = 2 * 128 + l.val; omega) r

theorem final4 (c : Dev nD) : (dats m 0 c).arrAt 4 (cfgs 0).N = out0 (aH m c) (aW m c) (aC m c) (aD m c) := by
  refine (dats m 0 c).arrAt_eq_of_covers 4 _ (by decide +kernel) fun t hf y => ?_
  have ht := (idx t).2.2.2.2.2.2.2
  blk_simp
  rw [after0_4]
  have e0 : (((View.whole main_v15_0).slice (win0_4.rect t)).emb y 0).val = (y 0).val := by blk_simp [idx t]
  have e1 : (((View.whole main_v15_0).slice (win0_4.rect t)).emb y 1).val = t.val * 384 + (y 1).val := by blk_simp [idx t]
  refine (blk4 m c t (fun l => ⟨t.val * 128 + l.val, by omega⟩) (fun _ => rfl) y).trans ?_
  unfold out0
  generalize (((View.whole main_v15_0).slice (win0_4.rect t)).emb y) = j at e0 e1
  idx_vars y
  idx_vars j
  have e0 : j0 = y0 := Fin.ext e0
  have e1 : j1.val = t.val * 384 + y1.val := e1
  have hy : y1.val < 384 := y1.isLt
  subst e0
  show G _ _ _ _ ⟨t.val * 128 + y1.val % 128, _⟩ (y1.val / 128) j0 = G _ _ _ _ (chan j1) (j1.val % 384 / 128) j0
  rw [show j1.val % 384 / 128 = y1.val / 128 by omega]
  exact congrArg (fun n => G _ _ _ _ n _ j0) (Fin.ext (by show t.val * 128 + y1.val % 128 = j1.val / 384 * 128 + j1.val % 128; omega))

theorem final6 (c : Dev nD) : (dats m 0 c).arrAt 6 (cfgs 0).N = out2 (aH m c) (aW m c) (aC m c) (aD m c) := by
  refine (dats m 0 c).arrAt_eq_of_covers 6 _ (by decide +kernel) fun t hf y => ?_
  have ht := (idx t).2.2.2.2.2.2.2
  blk_simp
  rw [after0_6]
  unfold Gen.outsAt0
  frame_out
  rw [View.readCov_eq_canon']
  have e0 : (((View.whole main_v15_2).slice (win0_6.rect t)).emb y 0).val = t.val * 384 + (y 0).val := by blk_simp [idx t]
  have e1 : (((View.whole main_v15_2).slice (win0_6.rect t)).emb y 1).val = (y 1).val := by blk_simp [idx t]
  generalize (((View.whole main_v15_2).slice (win0_6.rect t)).emb y) = j at e0 e1
  refine (congrArg (fun v => k0_pay4 v (X0_3 m c t) y) (a₂ := (outsAt0 m c t).1) (funext fun i => ?_)).trans ?_
  · unfold Gen.outsAt0
    frame_out
    refine congrArg _ (funext fun a => Fin.ext ?_)
    fin_cases a <;> exact (Nat.zero_add _).trans (Nat.one_mul _)
  idx_vars y
  idx_vars j
  have e1 : j1 = y1 := Fin.ext e1
  have e0 : j0.val = t.val * 384 + y0.val := e0
  subst e1
  pointwise [k0_pay4]
  unfold out2
  refine Finset.sum_congr (M := EReal) rfl fun r _ => ?_
  refine congr (congrArg (fun a b : EReal => a * b) ((blk4 m c t (fun l => ⟨t.val * 128 + l.val, by omega⟩) (fun _ => rfl) (ix2 r y0)).trans ?_)) (rowH m c t r j1)
  have hy : y0.val < 384 := y0.isLt
  show G _ _ _ _ ⟨t.val * 128 + y0.val % 128, _⟩ (y0.val / 128) r = G _ _ _ _ (chan j0) (j0.val % 384 / 128) r
  rw [show j0.val % 384 / 128 = y0.val / 128 by omega]
  exact congrArg (fun n => G _ _ _ _ n _ r) (Fin.ext (by show t.val * 128 + y0.val % 128 = j0.val / 384 * 128 + j0.val % 128; omega))

end Cert.ConvIdeal.Val

end
-- ==== Proof.ConvRefVal.lean ====
/- The reference's three results. -/
module

public import proofs.«01_k».proof.Proof.Gen.ConvRefIdeal.Run
public import proofs.«01_k».proof.Proof.Gen.ConvRefIdeal.Read
public import proofs.«01_k».proof.Proof.ConvSpec
public import Idealize.ShloMosaic.Lib.Pipeline.ValueKit

set_option maxRecDepth 16384

@[expose] public noncomputable section

open Idealize.ShloMosaic Idealize.ShloMosaic.TcCoe Idealize.SL.Sem

namespace Cert.ConvRefIdeal.Val

open Cert.ConvRefIdeal Cert.ConvRefIdeal.Gen Cert.ConvRefIdeal.Read Cert.ConvSpec

variable (H : FVec Ideal S1x4096x1024 .f32) (W : FVec Ideal S1x1024x1952 .f32) (C : FVec Ideal S1x3x512 .f32) (D : FVec Ideal S1x4096x1024 .f32)

theorem gb_at (r : Fin 4096) (ch : Fin 512) : (val_main_v5 (F := Ideal) H W (ix2 r ch) : EReal) = Z H W 0 ch r := by
  pointwise [val_main_v5, val_main_v4, val_main_v2, val_main_v1, val_main_v0, Z]
theorem gc_at (r : Fin 4096) (ch : Fin 512) : (val_main_v6 (F := Ideal) H W (ix2 r ch) : EReal) = Z H W 1 ch r := by
  pointwise [val_main_v6, val_main_v4, val_main_v2, val_main_v1, val_main_v0, Z]
  refine Finset.sum_congr (M := EReal) rfl fun k _ => congrArg (fun n => H (ix3 0 r k) * W (ix3 0 k n)) (Fin.ext ?_)
  show 416 + (512 + ch.val) = 416 + 1 * 512 + ch.val
  omega
theorem x_at (r : Fin 4096) (ch : Fin 512) : (val_main_v7 (F := Ideal) H W (ix2 r ch) : EReal) = Z H W 2 ch r := by
  pointwise [val_main_v7, val_main_v4, val_main_v2, val_main_v1, val_main_v0, Z]
  refine Finset.sum_congr (M := EReal) rfl fun k _ => congrArg (fun n => H (ix3 0 r k) * W (ix3 0 k n)) (Fin.ext ?_)
  show 416 + (1024 + ch.val) = 416 + 2 * 512 + ch.val
  omega
theorem d_at (r : Fin 4096) (ch : Fin 512) : (val_main_v35 (F := Ideal) D (ix2 r ch) : EReal) = dc D ch r := by
  pointwise [val_main_v35, val_main_v34, dc]
theorem up_at (r : Fin 4098) (ch : Fin 512) : (val_main_v10 (F := Ideal) H W (ix2 r ch) : EReal) =
    if h : 1 ≤ r.val ∧ r.val < 4097 then times (Z H W 1 ch) (Z H W 2 ch) ⟨r.val - 1, by omega⟩ else 0 := by
  pointwise [val_main_v10, val_main_v8, val_main_v9, val_main_cst, gc_at, x_at]
  by_cases h : 1 ≤ r.val ∧ r.val < 4097
  · rw [dif_pos h, dif_neg (by omega), dif_pos (by omega)]; rfl
  · rw [dif_neg h]
    by_cases h1 : r.val < 1
    · rw [dif_pos h1]
    · rw [dif_neg h1, dif_neg (by omega)]
theorem prev_at (r : Fin 4096) (ch : Fin 512) : (val_main_v15 (F := Ideal) H W (ix2 r ch) : EReal) = prev (times (Z H W 1 ch) (Z H W 2 ch)) r := by
  pointwise [val_main_v15, up_at]
  unfold prev
  by_cases h : r.val = 0
  · rw [dif_pos h, dif_neg (by omega)]
  · rw [dif_neg h, dif_pos (by omega)]
theorem mid_at (r : Fin 4096) (ch : Fin 512) : (val_main_v21 (F := Ideal) H W (ix2 r ch) : EReal) = times (Z H W 1 ch) (Z H W 2 ch) r := by
  pointwise [val_main_v21, up_at]
  rw [dif_pos (by omega)]
  try exact congrArg _ (Fin.ext (by show 1 + r.val - 1 = r.val; omega))
theorem next_at (r : Fin 4096) (ch : Fin 512) : (val_main_v28 (F := Ideal) H W (ix2 r ch) : EReal) = next (times (Z H W 1 ch) (Z H W 2 ch)) r := by
  pointwise [val_main_v28, up_at]
  unfold next
  by_cases h : r.val = 4095
  · rw [dif_pos h, dif_neg (by omega)]
  · rw [dif_neg h, dif_pos (by omega)]
    exact congrArg _ (Fin.ext (by show 2 + r.val - 1 = r.val + 1; omega))
theorem w0_at (r : Fin 4096) (ch : Fin 512) : (val_main_v17 (F := Ideal) C (ix2 r ch) : EReal) = tw C ch 0 := by
  pointwise [val_main_v17, val_main_v16, val_main_v14, val_main_v13, val_main_v3, tw]
theorem w1_at (r : Fin 4096) (ch : Fin 512) : (val_main_v23 (F := Ideal) C (ix2 r ch) : EReal) = tw C ch 1 := by
  pointwise [val_main_v23, val_main_v22, val_main_v20, val_main_v19, val_main_v3, tw]
theorem w2_at (r : Fin 4096) (ch : Fin 512) : (val_main_v30 (F := Ideal) C (ix2 r ch) : EReal) = tw C ch 2 := by
  pointwise [val_main_v30, val_main_v29, val_main_v27, val_main_v26, val_main_v3, tw]
theorem dy_at (r : Fin 4096) (ch : Fin 512) : (val_main_v36 (F := Ideal) H W D (ix2 r ch) : EReal) = times (dc D ch) (Z H W 0 ch) r := by
  pointwise [val_main_v36, gb_at, d_at]
  try exact mul_comm _ _
theorem dgb_at (r : Fin 4096) (ch : Fin 512) : (val_main_v37 (F := Ideal) H W C D (ix2 r ch) : EReal) = G H W C D ch 0 r := by
  pointwise [val_main_v37, val_main_v32, val_main_v31, val_main_v25, val_main_v24, val_main_v18, w0_at, w1_at, w2_at, prev_at, mid_at, next_at, d_at]
  rfl
theorem swap3 (a b c : EReal) : a + b + c = c + b + a := by rw [add_comm a b, add_comm (b + a) c, ← add_assoc]
theorem du_at (r : Fin 4096) (ch : Fin 512) : (val_main_v70 (F := Ideal) H W C D (ix2 r ch) : EReal)
    = tapsT (tw C ch) (times (dc D ch) (Z H W 0 ch)) r := by
  have e38 : val_main_v38 (F := Ideal) C = val_main_v30 C := rfl
  have e47 : val_main_v47 (F := Ideal) C = val_main_v23 C := rfl
  have e58 : val_main_v58 (F := Ideal) C = val_main_v17 C := rfl
  pointwise [val_main_v70, val_main_v65, val_main_v54, val_main_v44, val_main_v39, val_main_v53, val_main_v48, val_main_v64, val_main_v59,
    e38, e47, e58, w0_at, w1_at, w2_at, dy_at, val_main_cst_4, val_main_cst_8, val_main_cst_12]
  unfold tapsT next prev
  have e2 : (if h : 2 ≤ 1 + r.val ∧ 1 + r.val - 2 < 4096 then tw C ch 2 * times (dc D ch) (Z H W 0 ch) ⟨1 + r.val - 2, h.2⟩ else 0)
      = tw C ch 2 * if h : r.val = 0 then 0 else times (dc D ch) (Z H W 0 ch) ⟨r.val - 1, by omega⟩ := by
    by_cases h : r.val = 0
    · rw [dif_pos h, dif_neg (by omega), mul_zero]
    · rw [dif_neg h, dif_pos (by omega)]
      exact congrArg (fun n => tw C ch 2 * times (dc D ch) (Z H W 0 ch) n) (Fin.ext (by show 1 + r.val - 2 = r.val - 1; omega))
  have e0 : (if h : 1 + r.val < 4096 then tw C ch 0 * times (dc D ch) (Z H W 0 ch) ⟨1 + r.val, h⟩ else 0)
      = tw C ch 0 * if h : r.val = 4095 then 0 else times (dc D ch) (Z H W 0 ch) ⟨r.val + 1, by omega⟩ := by
    by_cases h : r.val = 4095
    · rw [dif_pos h, dif_neg (by omega), mul_zero]
    · rw [dif_neg h, dif_pos (by omega)]
      exact congrArg (fun n => tw C ch 0 * times (dc D ch) (Z H W 0 ch) n) (Fin.ext (by show 1 + r.val = r.val + 1; omega))
  rw [e2, e0]
  exact swap3 _ _ _
theorem dtap_at (k : Fin 3) (ch : Fin 512) : (val_main_v68 (F := Ideal) H W D (ix2 k ch) : EReal)
    = dtap (dc D ch) (Z H W 0 ch) (Z H W 1 ch) (Z H W 2 ch) k.val := by
  pointwise [val_main_v68, val_main_v57, val_main_v46, val_main_v45, val_main_v43, val_main_v42, val_main_v41, val_main_v40,
    val_main_v56, val_main_v55, val_main_v52, val_main_v51, val_main_v50, val_main_v49,
    val_main_v67, val_main_v66, val_main_v63, val_main_v62, val_main_v61, val_main_v60, dy_at, prev_at, mid_at, next_at,
    val_main_cst_2, val_main_cst_3, val_main_cst_5, val_main_cst_6, val_main_cst_7, val_main_cst_9, val_main_cst_10, val_main_cst_11, val_main_cst_13]
  simp only [Fin.sum_univ_one]
  have hk : k.val = 0 ∨ k.val = 1 ∨ k.val = 2 := by omega
  unfold dtap
  rcases hk with h | h | h <;> rw [h] <;> simp [times]
theorem out1_eq : val_main_v68 (F := Ideal) H W D = out1 H W D := by
  funext j
  idx_vars j
  exact dtap_at H W D j0 j1
theorem d3_at (r : Fin 4096) (g : Fin 3) (ch : Fin 512) (n : Fin 1952) (hn : n.val = 416 + g.val * 512 + ch.val) :
    (val_main_v75 (F := Ideal) H W C D (ix2 r n) : EReal) = G H W C D ch g.val r := by
  pointwise [val_main_v75, val_main_v74, val_main_v73, val_main_v72, dgb_at, du_at, gc_at, x_at]
  have hg : g.val = 0 ∨ g.val = 1 ∨ g.val = 2 := by omega
  rcases hg with h | h | h
  · rw [dif_pos (by omega), dif_pos (by omega), h, show (⟨n.val - 416, by omega⟩ : Fin 512) = ch from Fin.ext (by show n.val - 416 = ch.val; omega)]
  · rw [dif_pos (by omega), dif_neg (by omega), dif_pos (by omega), h,
      show (⟨n.val - 416 - 512, by omega⟩ : Fin 512) = ch from Fin.ext (by show n.val - 416 - 512 = ch.val; omega)]
    rfl
  · rw [dif_pos (by omega), dif_neg (by omega), dif_neg (by omega), h,
      show (⟨n.val - 416 - 512 - 512, by omega⟩ : Fin 512) = ch from Fin.ext (by show n.val - 416 - 512 - 512 = ch.val; omega), mul_comm]
    rfl
theorem d3g_at (r : Fin 4096) (n : Fin 1536) (n' : Fin 1952) (hn : n'.val = 416 + (n.val / 128 % 3 * 512 + n.val / 384 * 128 + n.val % 128)) :
    (val_main_v75 (F := Ideal) H W C D (ix2 r n') : EReal) = G H W C D (chan n) (n.val % 384 / 128) r := by
  have e : n.val % 384 / 128 = n.val / 128 % 3 := by omega
  rw [e]
  exact d3_at H W C D r ⟨n.val / 128 % 3, by omega⟩ (chan n) n' (by show n'.val = 416 + n.val / 128 % 3 * 512 + (n.val / 384 * 128 + n.val % 128); omega)
theorem out0_eq : val_main_v82 (F := Ideal) H W C D = out0 H W C D := by
  funext j
  idx_vars j
  pointwise [val_main_v82, val_main_v81, val_main_v80, val_main_v79, val_main_v78]
  exact d3g_at H W C D j0 j1 _ rfl
theorem out2_eq : val_main_v87 (F := Ideal) H W C D = out2 H W C D := by
  funext j
  idx_vars j
  pointwise [val_main_v87, val_main_v86, val_main_v85, val_main_v84, val_main_v83, val_main_v77, val_main_v76, val_main_v1]
  exact Finset.sum_congr (M := EReal) rfl fun r _ => congrArg (fun a : EReal => a * H (ix3 0 r j1)) (d3g_at H W C D r j0 _ rfl)
end Cert.ConvRefIdeal.Val

end
-- ==== Proof.ConvClaim.lean ====
/- The claims about the convolution's gradient call. -/

module

public import proofs.«01_k».proof.Defs
public import proofs.«01_k».proof.Proof.ConvVal
public import proofs.«01_k».proof.Proof.ConvRefVal
public import proofs.«01_k».proof.Proof.Gen.Conv.Frame
public import proofs.«01_k».proof.Proof.Gen.ConvRefIdeal.Run
public import Idealize.ShloMosaic.Lib.Claim
public import Idealize.ShloMosaic.Lib.Quiescent

@[expose] public noncomputable section

namespace Cert.Proof

open Idealize.ShloMosaic Idealize.SL.Sem

theorem quiescent_Conv : Cert.quiescent_Conv := fun m ρ _ => Cert.Conv.Gen.frame m ρ

theorem quiescent_ConvIdeal : Cert.quiescent_ConvIdeal := fun m ρ _ => Cert.ConvIdeal.Gen.frame m ρ

theorem quiescent_ConvRefIdeal : Cert.quiescent_ConvRefIdeal := by
  intro m g _
  exact (θ_run _ _ _).mono (fun r h => ⟨fun c => (h c).2.2.2, sem_eq_zero_of_no_sems rfl r.2⟩) (Cert.ConvRefIdeal.Value.run m g)

theorem preserves_Conv_ConvIdeal : Cert.preserves_Conv_ConvIdeal := trivial

theorem algebraic_ConvIdeal_ConvRefIdeal : Cert.algebraic_ConvIdeal_ConvRefIdeal := by
  pair_intro
  · run_from Cert.ConvIdeal.Gen.run_main m g
  · run_from Cert.ConvRefIdeal.Value.run m' g'
    · rw [Cert.ConvRefIdeal.Read.val_main_v82_eq, (hagree c).1, (hagree c).2.2.1, (hagree c).2.2.2.1, (hagree c).2.2.2.2]
      exact (Cert.ConvRefIdeal.Val.out0_eq _ _ _ _).trans (Cert.ConvIdeal.Val.final4 m c).symm
    · rw [Cert.ConvRefIdeal.Read.val_main_v68_eq, (hagree c).1, (hagree c).2.2.1, (hagree c).2.2.2.2]
      exact (Cert.ConvRefIdeal.Val.out1_eq _ _ _).trans (Cert.ConvIdeal.Val.final5 m c).symm
    · rw [Cert.ConvRefIdeal.Read.val_main_v87_eq, (hagree c).1, (hagree c).2.2.1, (hagree c).2.2.2.1, (hagree c).2.2.2.2]
      exact (Cert.ConvRefIdeal.Val.out2_eq _ _ _ _).trans (Cert.ConvIdeal.Val.final6 m c).symm

end Cert.Proof

end
-- ==== Proof.AttnPre.lean ====
/- The arguments of the attention's gradient call are finite: what the precondition says, read at an entry. -/

module

public import proofs.«01_k».proof.Defs
public import proofs.«01_k».proof.Proof.Gen.Pre_finite
public import Idealize.ShloMosaic.Lib.ReduceAll
public import Idealize.ShloMosaic.Lib.Pointwise

@[expose] public noncomputable section

set_option maxRecDepth 16384

namespace Cert.Pre_finite.At

open Idealize.ShloMosaic Idealize.SL.Sem
open Facts

/-- A number whose size is below the format's infinity is real. -/
theorem real_of_lt (x : Ideal .f32) (h : FloatOps.cmpf .olt (FloatOps.absf x) (Ideal.ofBits .f32 0x7F800000#32) = 1#1) : ∃ r : ℝ, x = ((r : ℝ) : EReal) := by
  have hi : (Ideal.ofBits .f32 0x7F800000#32 : Ideal .f32) = (⊤ : EReal) := by simp [Ideal.ofBits, Ideal.ieee]
  rw [hi] at h
  induction x using EReal.rec with
  | coe r => exact ⟨r, rfl⟩
  | bot =>
    have e : FloatOps.absf (F := Ideal) (φ := .f32) (⊥ : EReal) = (⊤ : EReal) := by show max (⊥ : EReal) (-⊥) = ⊤; simp
    rw [e] at h
    exact absurd h (by simp [Ideal.cmpf_def, Ideal.cmp])
  | top =>
    have e : FloatOps.absf (F := Ideal) (φ := .f32) (⊤ : EReal) = (⊤ : EReal) := by show max (⊤ : EReal) (-⊤) = ⊤; simp
    rw [e] at h
    exact absurd h (by simp [Ideal.cmpf_def, Ideal.cmp])

instance : Subsingleton S_.Idx := ⟨fun a b => funext fun k => k.elim0⟩

theorem word_and (a b : BitVec 1) (h : IntOp.andi a b = 1#1) : a = 1#1 ∧ b = 1#1 := by
  revert h; revert a b; decide

theorem fn_real (x0 : FVec Ideal S1x4096x8x96 .f32) (x1 : FVec Ideal S1x4352x8x96 .f32) (x2 : FVec Ideal S1x4352x8x64 .f32) (x3 x4 : FVec Ideal S4096x1x2x8 .f32) (x5 : FVec Ideal S1x4096x1024 .f32)
    (j : S_.Idx) (h : fn (F := Ideal) x0 x1 x2 x3 x4 x5 j = 1#1) :
    (∀ i, ∃ r : ℝ, x0 i = ((r : ℝ) : EReal)) ∧ (∀ i, ∃ r : ℝ, x1 i = ((r : ℝ) : EReal)) ∧ (∀ i, ∃ r : ℝ, x2 i = ((r : ℝ) : EReal)) ∧ (∀ i, ∃ r : ℝ, x3 i = ((r : ℝ) : EReal)) ∧ (∀ i, ∃ r : ℝ, x4 i = ((r : ℝ) : EReal))
      ∧ (∀ (s : Fin 4096) (l : Fin 512), ∃ r : ℝ, x5 (ix3 0 s (Fin.castLE (by decide) l)) = ((r : ℝ) : EReal)) := by
  dsimp only [fn, fn_part1] at h
  obtain ⟨h, h5⟩ := word_and _ _ h
  obtain ⟨h, h4⟩ := word_and _ _ h
  obtain ⟨h, h3⟩ := word_and _ _ h
  obtain ⟨h, h2⟩ := word_and _ _ h
  obtain ⟨h0, h1⟩ := word_and _ _ h
  refine ⟨fun i => real_of_lt _ (Host.reduce_andi_all _ _ _ _ _ h0 i), fun i => real_of_lt _ (Host.reduce_andi_all _ _ _ _ _ h1 i), fun i => real_of_lt _ (Host.reduce_andi_all _ _ _ _ _ h2 i),
    fun i => real_of_lt _ (Host.reduce_andi_all _ _ _ _ _ h3 i), fun i => real_of_lt _ (Host.reduce_andi_all _ _ _ _ _ h4 i), fun s l => ?_⟩
  obtain ⟨r, hr⟩ := real_of_lt _ (Host.reduce_andi_all _ _ _ _ _ h5 (ix3 0 s l))
  refine ⟨r, Eq.trans (congrArg x5 ?_) hr⟩
  funext b
  fin_cases b <;> apply Fin.ext
  · rfl
  · show s.val = 0 + s.val
    omega
  · show l.val = 0 + l.val
    omega

end Cert.Pre_finite.At

end
-- ==== Proof.AttnSpec.lean ====
/- Softmax attention with a rotary query and its gradients, over the reals. -/

module

public import Idealize.ShloMosaic.PureOps.Ideal
public import Mathlib.Analysis.SpecialFunctions.Pow.Real

@[expose] public noncomputable section

namespace Cert.AttnSpec

/-! ## Sums and maxima of reals among the extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem fold_max_real {ι : Type} (s : Finset ι) (hs : s.Nonempty) (f : ι → ℝ) :
    ∃ M : ℝ, s.fold max (⊥ : EReal) (fun i => (f i : EReal)) = (M : EReal) := by
  classical
  induction hs using Finset.Nonempty.cons_induction with
  | singleton a => exact ⟨f a, by simp⟩
  | cons a s ha hs ih =>
    obtain ⟨M, hM⟩ := ih
    exact ⟨max (f a) M, by rw [Finset.fold_cons, hM]; exact (EReal.coe_strictMono.monotone.map_max).symm⟩

/-! ## The rotary embedding of a head's last 32 lanes -/

section Rotary

variable (c n : Fin 4096 → Fin 2 → Fin 8 → ℝ)

/-- The table's entry for lane `d` of a head (`d ≥ 64`). -/
def entry (tab : Fin 4096 → Fin 2 → Fin 8 → ℝ) (s : Fin 4096) (d : ℕ) : ℝ :=
  tab s ⟨(d - 64) / 16 % 2, Nat.mod_lt _ (by decide)⟩ ⟨d % 8, Nat.mod_lt _ (by decide)⟩

/-- The rotated query. -/
def rot (x : Fin 4096 → Fin 8 → Fin 96 → ℝ) (s : Fin 4096) (h : Fin 8) (d : Fin 96) : ℝ :=
  if d.val < 64 then x s h d
  else if d.val % 16 < 8 then x s h d * entry c s d - x s h ⟨(d.val + 8) % 96, Nat.mod_lt _ (by decide)⟩ * entry n s d
  else x s h d * entry c s d + x s h ⟨d.val - 8, lt_of_le_of_lt (Nat.sub_le _ _) d.isLt⟩ * entry n s d

/-- The gradient pulled back through the rotation. -/
def unrot (y : Fin 4096 → Fin 8 → Fin 96 → ℝ) (s : Fin 4096) (h : Fin 8) (d : Fin 96) : ℝ :=
  if d.val < 64 then y s h d
  else if d.val % 16 < 8 then y s h d * entry c s d + y s h ⟨(d.val + 8) % 96, Nat.mod_lt _ (by decide)⟩ * entry n s d
  else y s h d * entry c s d - y s h ⟨d.val - 8, lt_of_le_of_lt (Nat.sub_le _ _) d.isLt⟩ * entry n s d

end Rotary

/-! ## Attention over rotated queries `q`, and its gradients for the cotangent `g` -/

/-- `1 / √96`. -/
def scale : ℝ := (Real.sqrt 96)⁻¹

variable (q : Fin 4096 → Fin 8 → Fin 96 → ℝ) (k : Fin 4352 → Fin 8 → Fin 96 → ℝ)
  (v : Fin 4352 → Fin 8 → Fin 64 → ℝ) (g : Fin 4096 → Fin 8 → Fin 64 → ℝ)

def score (h : Fin 8) (s : Fin 4096) (t : Fin 4352) : ℝ := ∑ d : Fin 96, q s h d * k t h d

def den (h : Fin 8) (s : Fin 4096) : ℝ := ∑ t : Fin 4352, Real.exp (scale * score q k h s t)

def prob (h : Fin 8) (s : Fin 4096) (t : Fin 4352) : ℝ := Real.exp (scale * score q k h s t) / den q k h s

def att (h : Fin 8) (s : Fin 4096) (e : Fin 64) : ℝ := ∑ t : Fin 4352, prob q k h s t * v t h e

def dprob (h : Fin 8) (s : Fin 4096) (t : Fin 4352) : ℝ := ∑ e : Fin 64, g s h e * v t h e

def delta (h : Fin 8) (s : Fin 4096) : ℝ := ∑ t : Fin 4352, prob q k h s t * dprob v g h s t

def dscore (h : Fin 8) (s : Fin 4096) (t : Fin 4352) : ℝ :=
  prob q k h s t * (dprob v g h s t - delta q k v g h s)

def dq (s : Fin 4096) (h : Fin 8) (d : Fin 96) : ℝ := scale * ∑ t : Fin 4352, dscore q k v g h s t * k t h d

def dk (t : Fin 4352) (h : Fin 8) (d : Fin 96) : ℝ := scale * ∑ s : Fin 4096, dscore q k v g h s t * q s h d

def dv (t : Fin 4352) (h : Fin 8) (e : Fin 64) : ℝ := ∑ s : Fin 4096, prob q k h s t * g s h e

/-- A head's 96 values in its slot of 128 lanes. -/
def slot (f : Fin 96 → ℝ) (l : Fin 128) : ℝ := if h : l.val < 96 then f ⟨l.val, h⟩ else 0

variable {q k v g}

theorem den_pos (h : Fin 8) (s : Fin 4096) : 0 < den q k h s :=
  Finset.sum_pos (fun _ _ => Real.exp_pos _) ⟨0, Finset.mem_univ _⟩

theorem sum_exp_shift (a : ℝ) (h : Fin 8) (s : Fin 4096) :
    ∑ t : Fin 4352, Real.exp (scale * score q k h s t - a) = Real.exp (-a) * den q k h s := by
  unfold den
  rw [Finset.mul_sum]
  exact Finset.sum_congr rfl fun t _ => by rw [← Real.exp_add]; ring_nf

/-- The softmax does not depend on what is taken from its scores. -/
theorem prob_shift (a : ℝ) (h : Fin 8) (s : Fin 4096) (t : Fin 4352) :
    Real.exp (scale * score q k h s t - a) / ∑ t' : Fin 4352, Real.exp (scale * score q k h s t' - a)
      = prob q k h s t := by
  have hd := (den_pos (q := q) (k := k) h s).ne'
  rw [sum_exp_shift, sub_eq_add_neg, add_comm, Real.exp_add, prob, mul_div_mul_left _ _ (Real.exp_ne_zero _)]

/-- The probability from the row's saved statistic, in base two. -/
theorem prob_exp2 (M : ℝ) (h : Fin 8) (s : Fin 4096) (t : Fin 4352) :
    (2 : ℝ) ^ (score q k h s t * (scale * (Real.log 2)⁻¹)
      - (M * scale + Real.log (∑ t' : Fin 4352, Real.exp ((score q k h s t' - M) * scale))) * (Real.log 2)⁻¹)
      = prob q k h s t := by
  have h2 : Real.log 2 ≠ 0 := (Real.log_pos one_lt_two).ne'
  have hp := den_pos (q := q) (k := k) h s
  have hs : ∑ t' : Fin 4352, Real.exp ((score q k h s t' - M) * scale) = Real.exp (-(scale * M)) * den q k h s := by
    rw [← sum_exp_shift]; exact Finset.sum_congr rfl fun t _ => by ring_nf
  rw [hs, Real.log_mul (Real.exp_ne_zero _) hp.ne', Real.log_exp, Real.rpow_def_of_pos two_pos, prob]
  have : Real.log 2 * (score q k h s t * (scale * (Real.log 2)⁻¹) - (M * scale + (-(scale * M) + Real.log (den q k h s))) * (Real.log 2)⁻¹)
      = scale * score q k h s t - Real.log (den q k h s) := by field_simp; ring
  rw [this, Real.exp_sub, Real.exp_log hp]

/-- The row's sum of cotangent times output is its sum of probability times probability cotangent. -/
theorem delta_eq (h : Fin 8) (s : Fin 4096) : ∑ e : Fin 64, g s h e * att q k v h s e = delta q k v g h s := by
  simp only [att, delta, dprob, Finset.mul_sum]
  rw [Finset.sum_comm]
  exact Finset.sum_congr rfl fun t _ => Finset.sum_congr rfl fun e _ => by ring

/-- The score's cotangent as the softmax's gradient forms it from the exponentials and their sum. -/
theorem dscore_eq (a : ℝ) (h : Fin 8) (s : Fin 4096) (t : Fin 4352) :
    (dprob v g h s t / (∑ t' : Fin 4352, Real.exp (scale * score q k h s t' - a))
      + -(∑ t' : Fin 4352, dprob v g h s t' * (1 / ((∑ t' : Fin 4352, Real.exp (scale * score q k h s t' - a))
        * (∑ t' : Fin 4352, Real.exp (scale * score q k h s t' - a)))) * Real.exp (scale * score q k h s t' - a)))
      * Real.exp (scale * score q k h s t - a) = dscore q k v g h s t := by
  have hD : (∑ t' : Fin 4352, Real.exp (scale * score q k h s t' - a)) ≠ 0 := by
    rw [sum_exp_shift]; exact (mul_pos (Real.exp_pos _) (den_pos h s)).ne'
  have hp : ∀ t, prob q k h s t = Real.exp (scale * score q k h s t - a) / ∑ t' : Fin 4352, Real.exp (scale * score q k h s t' - a) :=
    fun t => (prob_shift a h s t).symm
  have hd : delta q k v g h s = (∑ t' : Fin 4352, dprob v g h s t' * (1 / ((∑ t' : Fin 4352, Real.exp (scale * score q k h s t' - a))
        * (∑ t' : Fin 4352, Real.exp (scale * score q k h s t' - a)))) * Real.exp (scale * score q k h s t' - a))
        * ∑ t' : Fin 4352, Real.exp (scale * score q k h s t' - a) := by
    rw [delta, Finset.sum_mul]
    refine Finset.sum_congr rfl fun t' _ => ?_
    rw [hp]; field_simp
  rw [dscore, hd, hp]
  field_simp
  ring

theorem sum_slot (f f' : Fin 96 → ℝ) : ∑ l : Fin 128, slot f l * slot f' l = ∑ d : Fin 96, f d * f' d := by
  refine (Fin.sum_univ_add (a := 96) (b := 32) fun l => slot f l * slot f' l).trans ?_
  have h0 : ∑ i : Fin 32, slot f (Fin.natAdd 96 i) * slot f' (Fin.natAdd 96 i) = 0 :=
    Finset.sum_eq_zero fun i _ => by simp [slot]
  rw [h0, add_zero]
  exact Finset.sum_congr rfl fun i _ => by
    have : (Fin.castAdd 32 i).val < 96 := i.isLt
    simp only [slot, dif_pos this]; rfl

/-- A sum over the lanes of one half. -/
theorem sum_half0 (F : Fin 128 → ℝ) : ∑ l : Fin 128, (if l.val < 64 then F l else 0) = ∑ e : Fin 64, F ⟨e.val, by omega⟩ := by
  refine (Fin.sum_univ_add (a := 64) (b := 64) fun l => if l.val < 64 then F l else 0).trans ?_
  have h0 : ∑ i : Fin 64, (if (Fin.natAdd 64 i).val < 64 then F (Fin.natAdd 64 i) else 0) = 0 :=
    Finset.sum_eq_zero fun i _ => by simp
  rw [h0, add_zero]
  exact Finset.sum_congr rfl fun i _ => by
    have : (Fin.castAdd 64 i).val < 64 := i.isLt
    rw [if_pos this]; rfl

theorem sum_half1 (F : Fin 128 → ℝ) : ∑ l : Fin 128, (if 64 ≤ l.val then F l else 0) = ∑ e : Fin 64, F ⟨64 + e.val, by omega⟩ := by
  refine (Fin.sum_univ_add (a := 64) (b := 64) fun l => if 64 ≤ l.val then F l else 0).trans ?_
  have h0 : ∑ i : Fin 64, (if 64 ≤ (Fin.castAdd 64 i).val then F (Fin.castAdd 64 i) else 0) = 0 :=
    Finset.sum_eq_zero fun i _ => by
      have : ¬ 64 ≤ (Fin.castAdd 64 i).val := by have := i.isLt; simp
      rw [if_neg this]
  rw [h0, zero_add]
  exact Finset.sum_congr rfl fun i _ => by
    have : 64 ≤ (Fin.natAdd 64 i).val := by simp
    rw [if_pos this]; rfl

end Cert.AttnSpec

end
-- ==== Proof.AttnPay.lean ====
/- What one grid point of the attention gradient's kernel computes from real blocks, read at an index. -/
module

public import proofs.«01_k».proof.Proof.Gen.AttnIdeal.Frame
public import proofs.«01_k».proof.Proof.AttnSpec
public import Idealize.ShloMosaic.Lib.Pipeline.ValueKit

set_option maxRecDepth 16384

@[expose] public noncomputable section

open Idealize.ShloMosaic Idealize.ShloMosaic.TcCoe Idealize.SL.Sem

namespace Cert.AttnIdeal.Pay

open Cert.AttnIdeal Cert.AttnIdeal.Gen Cert.AttnSpec

theorem named_scale : (Named.named κ "attn_scale" 0x3DD105EC#32 : Ideal .f32) = ((scale : ℝ) : EReal) :=
  IdealRules.named_const.ideal_named_scalar _ _ _ _ rfl

theorem named_exp2 : (Named.named κ "exp2_scale" 0x3E16C740#32 : Ideal .f32) = ((scale * (Real.log 2)⁻¹ : ℝ) : EReal) :=
  IdealRules.named_const.ideal_named_scalar _ _ _ _ rfl

/-- A block's probabilities, from its keys, queries and row statistics. -/
def pb (K : Fin 4352 → Fin 128 → ℝ) (Q : Fin 512 → Fin 128 → ℝ) (st : Fin 512 → ℝ) (t : Fin 4352) (r : Fin 512) : ℝ :=
  2 ^ ((∑ l : Fin 128, K t l * Q r l) * (scale * (Real.log 2)⁻¹) - st r)

/-- A block's score cotangents, from its probabilities, values and masked output cotangents. -/
def dsb (P : Fin 4352 → Fin 512 → ℝ) (V : Fin 4352 → Fin 128 → ℝ) (D : Fin 512 → Fin 128 → ℝ) (dl : Fin 512 → ℝ) (t : Fin 4352)
    (r : Fin 512) : ℝ := P t r * ((∑ l : Fin 128, V t l * D r l) - dl r)

/-- The rows of a head's gradient before the rotation is undone. -/
def dqb (S : Fin 4352 → Fin 512 → ℝ) (K : Fin 4352 → Fin 128 → ℝ) (r : Fin 512) (l : Fin 128) : ℝ := (∑ t : Fin 4352, S t r * K t l) * scale

/-- The lanes below 64, and the others. -/
def lo (D : Fin 512 → Fin 128 → ℝ) (r : Fin 512) (l : Fin 128) : ℝ := if l.val < 64 then D r l else 0
def hi (D : Fin 512 → Fin 128 → ℝ) (r : Fin 512) (l : Fin 128) : ℝ := if 64 ≤ l.val then D r l else 0

/-- Lanes exchanged in pairs eight apart. -/
def swap (y : Fin 128 → ℝ) (l : Fin 128) : ℝ := if l.val % 16 < 8 then y ⟨(l.val + 8) % 128, by omega⟩ else y ⟨(l.val + 120) % 128, by omega⟩

variable {K V : Fin 4352 → Fin 128 → ℝ} {Q D O C N : Fin 512 → Fin 128 → ℝ} {st dl : Fin 512 → ℝ} {P S : Fin 4352 → Fin 512 → ℝ}
  {A : Fin 4352 → Fin 128 → ℝ}

theorem coe_ite (p : Prop) [Decidable p] (a b : ℝ) : ((if p then a else b : ℝ) : EReal) = if p then (a : EReal) else (b : EReal) := by
  split <;> rfl

theorem sum_coe {n : ℕ} (f : Fin n → EReal) (f' : Fin n → ℝ) (h : ∀ i, f i = ((f' i : ℝ) : EReal)) :
    ∑ i : Fin n, f i = ((∑ i : Fin n, f' i : ℝ) : EReal) := by
  rw [coe_sum]; exact Finset.sum_congr rfl fun i _ => h i

theorem low8 : ∀ l : Fin 128, IntOp.cmpi CmpIPredicate.slt (IntOp.andi (BitVec.ofNat 32 l.val) 15#32) 8#32 = if l.val % 16 < 8 then 1#1 else 0#1 := by
  decide +kernel

theorem select_low8 (l : Fin 128) (a b : EReal) :
    (Scalar.select (IntOp.cmpi CmpIPredicate.slt (IntOp.andi (BitVec.ofNat 32 l.val) 15#32) 8#32) a b : EReal) = if l.val % 16 < 8 then a else b := by
  rw [low8]; by_cases h : l.val % 16 < 8 <;> simp [h, Scalar.select]

theorem pay15_at (x : FVec Ideal S512x128 .f32) (h : ∀ r l, x (ix2 r l) = ((D r l : ℝ) : EReal)) (r : Fin 512) (l : Fin 128) :
    k0_pay15 (F := Ideal) x (ix2 r l) = ((lo D r l : ℝ) : EReal) := by
  pointwise [k0_pay15, k0_pay14, k0_pay9]
  word_cmp
  rw [lo, coe_ite, h]
  exact if_congr (by omega) rfl rfl

theorem pay29_at (x : FVec Ideal S512x128 .f32) (h : ∀ r l, x (ix2 r l) = ((D r l : ℝ) : EReal)) (r : Fin 512) (l : Fin 128) :
    k0_pay29 (F := Ideal) x (ix2 r l) = ((hi D r l : ℝ) : EReal) := by
  pointwise [k0_pay29, k0_pay28]
  word_cmp
  rw [hi, coe_ite, h]
  exact if_congr (by omega) rfl rfl

theorem pay16_at (x y : FVec Ideal S512x128 .f32) (hx : ∀ r l, x (ix2 r l) = ((D r l : ℝ) : EReal)) (hy : ∀ r l, y (ix2 r l) = ((O r l : ℝ) : EReal))
    (r : Fin 512) : k0_pay16 (F := Ideal) x y (ix2 0 r) = ((∑ l : Fin 128, lo (fun r l => D r l * O r l) r l : ℝ) : EReal) := by
  pointwise [k0_pay16, k0_pay14, k0_pay11, k0_pay10, k0_pay9]
  word_cmp
  refine sum_coe _ _ fun l => ?_
  rw [lo, coe_ite, hx, hy, EReal.coe_mul]
  exact if_congr (by omega) rfl rfl

theorem pay10_at (x y : FVec Ideal S512x128 .f32) (hx : ∀ r l, x (ix2 r l) = ((D r l : ℝ) : EReal)) (hy : ∀ r l, y (ix2 r l) = ((O r l : ℝ) : EReal))
    (r : Fin 512) (l : Fin 128) : k0_pay10 (F := Ideal) x y (ix2 r l) = ((D r l * O r l : ℝ) : EReal) := by
  pointwise [k0_pay10, k0_pay9]
  rw [hx, hy, EReal.coe_mul]

theorem pb_coe {f : EReal} {a s : ℝ} (hf : f = (a : EReal)) :
    (FloatOps.exp2 (F := Ideal) (φ := .f32) (f * (Named.named κ "exp2_scale" 0x3E16C740#32 : Ideal .f32) - (s : EReal)) : EReal)
      = (((2 : ℝ) ^ (a * (scale * (Real.log 2)⁻¹) - s) : ℝ) : EReal) := by
  rw [named_exp2, hf, ← EReal.coe_mul, ← EReal.coe_sub]
  exact Ideal.exp2_coe _

theorem pay18_at (q : FVec Ideal S512x128 .bf16) (k : FVec Ideal S4352x128 .bf16) (s : FVec Ideal S1x512 .f32)
    (hq : ∀ r l, q (ix2 r l) = ((Q r l : ℝ) : EReal)) (hk : ∀ r l, k (ix2 r l) = ((K r l : ℝ) : EReal)) (hs : ∀ r, s (ix2 0 r) = ((st r : ℝ) : EReal))
    (t : Fin 4352) (r : Fin 512) : k0_pay18 (F := Ideal) (k0_pay17 (F := Ideal) q k s) (ix2 t r) = ((pb K Q st t r : ℝ) : EReal) := by
  pointwise [k0_pay18, k0_pay17, k0_pay13, k0_pay12]
  rw [hs]
  exact pb_coe (sum_coe _ _ fun l => by rw [hk, hq, EReal.coe_mul])

theorem pay30_at (q : FVec Ideal S512x128 .bf16) (k : FVec Ideal S4352x128 .bf16) (s : FVec Ideal S1x512 .f32)
    (hq : ∀ r l, q (ix2 r l) = ((Q r l : ℝ) : EReal)) (hk : ∀ r l, k (ix2 r l) = ((K r l : ℝ) : EReal)) (hs : ∀ r, s (ix2 0 r) = ((st r : ℝ) : EReal))
    (t : Fin 4352) (r : Fin 512) : k0_pay30 (F := Ideal) q k s (ix2 t r) = ((pb K Q st t r : ℝ) : EReal) := by
  pointwise [k0_pay30, k0_pay27, k0_pay26]
  rw [hs]
  exact pb_coe (sum_coe _ _ fun l => by rw [hk, hq, EReal.coe_mul])

theorem pay19_at (v : FVec Ideal S4352x128 .bf16) (d : FVec Ideal S512x128 .bf16) (e : FVec Ideal S1x512 .f32) (z : FVec Ideal S4352x512 .f32)
    (hv : ∀ r l, v (ix2 r l) = ((V r l : ℝ) : EReal)) (hd : ∀ r l, d (ix2 r l) = ((D r l : ℝ) : EReal)) (he : ∀ r, e (ix2 0 r) = ((dl r : ℝ) : EReal))
    (hz : ∀ t r, k0_pay18 (F := Ideal) z (ix2 t r) = ((P t r : ℝ) : EReal)) (t : Fin 4352) (r : Fin 512) :
    k0_pay19 (F := Ideal) v d e z (ix2 t r) = ((dsb P V D dl t r : ℝ) : EReal) := by
  pointwise [k0_pay19]
  rw [hz, he, sum_coe _ (fun l => V t l * D r l) (fun l => by rw [hv, hd, EReal.coe_mul]), ← EReal.coe_sub, ← EReal.coe_mul]
  rfl

theorem pay31_at (v : FVec Ideal S4352x128 .bf16) (d o : FVec Ideal S512x128 .f32) (q : FVec Ideal S512x128 .bf16) (k : FVec Ideal S4352x128 .bf16)
    (s : FVec Ideal S1x512 .f32) (hv : ∀ r l, v (ix2 r l) = ((V r l : ℝ) : EReal)) (hd : ∀ r l, d (ix2 r l) = ((D r l : ℝ) : EReal))
    (ho : ∀ r l, o (ix2 r l) = ((O r l : ℝ) : EReal))
    (hz : ∀ t r, k0_pay30 (F := Ideal) q k s (ix2 t r) = ((P t r : ℝ) : EReal)) (t : Fin 4352) (r : Fin 512) :
    k0_pay31 (F := Ideal) v d o (k0_pay11 (F := Ideal)) q k s (ix2 t r) = ((dsb P V (hi D) (fun r => ∑ l : Fin 128, hi O r l) t r : ℝ) : EReal) := by
  pointwise [k0_pay31, k0_pay28, k0_pay11]
  word_cmp
  rw [hz, sum_coe _ (fun l => V t l * hi D r l) (fun l => by rw [hv, pay29_at d hd, EReal.coe_mul]),
    sum_coe _ (fun l => hi O r l) (fun l => by rw [hi, coe_ite, ho]; exact if_congr (by omega) rfl rfl), ← EReal.coe_sub, ← EReal.coe_mul]
  rfl

theorem pay20_at (d : FVec Ideal S512x128 .bf16) (z : FVec Ideal S4352x512 .f32) (a : FVec Ideal S4352x128 .f32)
    (hd : ∀ r l, d (ix2 r l) = ((D r l : ℝ) : EReal)) (hz : ∀ t r, k0_pay18 (F := Ideal) z (ix2 t r) = ((P t r : ℝ) : EReal)) (t : Fin 4352) (l : Fin 128) :
    k0_pay20 (F := Ideal) d z a (ix2 t l) = a (ix2 t l) + ((∑ r : Fin 512, P t r * D r l : ℝ) : EReal) := by
  pointwise [k0_pay20]
  rw [sum_coe _ (fun r => P t r * D r l) (fun r => by rw [hz, hd, EReal.coe_mul])]

theorem pay32_at (d : FVec Ideal S512x128 .f32) (q : FVec Ideal S512x128 .bf16) (k : FVec Ideal S4352x128 .bf16)
    (s : FVec Ideal S1x512 .f32) (a : FVec Ideal S4352x128 .f32)
    (hd : ∀ r l, d (ix2 r l) = ((D r l : ℝ) : EReal)) (hz : ∀ t r, k0_pay30 (F := Ideal) q k s (ix2 t r) = ((P t r : ℝ) : EReal)) (t : Fin 4352) (l : Fin 128) :
    k0_pay32 (F := Ideal) d q k s a (ix2 t l) = a (ix2 t l) + ((∑ r : Fin 512, P t r * hi D r l : ℝ) : EReal) := by
  pointwise [k0_pay32]
  rw [sum_coe _ (fun r => P t r * hi D r l) (fun r => by rw [hz, pay29_at d hd, EReal.coe_mul])]

theorem pay21_at (v : FVec Ideal S4352x128 .bf16) (q d : FVec Ideal S512x128 .bf16) (e : FVec Ideal S1x512 .f32) (z : FVec Ideal S4352x512 .f32)
    (a : FVec Ideal S4352x128 .f32) (hq : ∀ r l, q (ix2 r l) = ((Q r l : ℝ) : EReal))
    (hz : ∀ t r, k0_pay19 (F := Ideal) v d e z (ix2 t r) = ((S t r : ℝ) : EReal)) (t : Fin 4352) (l : Fin 128) :
    k0_pay21 (F := Ideal) v q d e z a (ix2 t l) = a (ix2 t l) + ((∑ r : Fin 512, S t r * Q r l : ℝ) : EReal) := by
  pointwise [k0_pay21]
  rw [sum_coe _ (fun r => S t r * Q r l) (fun r => by rw [hz, hq, EReal.coe_mul])]

theorem pay2_at (q : FVec Ideal S512x128 .bf16) (z : FVec Ideal S4352x512 .bf16)
    (a : FVec Ideal S4352x128 .f32) (hq : ∀ r l, q (ix2 r l) = ((Q r l : ℝ) : EReal))
    (hz : ∀ t r, z (ix2 t r) = ((S t r : ℝ) : EReal)) (t : Fin 4352) (l : Fin 128) :
    k0_pay2 (F := Ideal) q z a (ix2 t l) = a (ix2 t l) + ((∑ r : Fin 512, S t r * Q r l : ℝ) : EReal) := by
  pointwise [k0_pay2]
  rw [sum_coe _ (fun r => S t r * Q r l) (fun r => by rw [hz, hq, EReal.coe_mul])]

/-- What the kernel stores of a head's query gradient: the rotation undone. -/
def dqr (y : Fin 512 → Fin 128 → ℝ) (C N : Fin 512 → Fin 128 → ℝ) (r : Fin 512) (l : Fin 128) : ℝ :=
  y r l * C r l + swap (fun l => y r l * N r l) l

theorem rotated_coe {f g : Fin 128 → EReal} {y n : Fin 128 → ℝ} {c x : ℝ} (hf : ∀ l, f l = ((y l : ℝ) : EReal)) (hg : ∀ l, g l = ((n l : ℝ) : EReal)) (l : Fin 128) (h8 : (l.val + 128 - 120) % 128 < 128) (h120 : (l.val + 128 - 8) % 128 < 128) :
    (x : EReal) * (c : EReal) + (if l.val % 16 < 8 then f ⟨(l.val + 128 - 120) % 128, h8⟩ * g ⟨(l.val + 128 - 120) % 128, h8⟩
      else f ⟨(l.val + 128 - 8) % 128, h120⟩ * g ⟨(l.val + 128 - 8) % 128, h120⟩)
      = ((x * c + swap (fun l => y l * n l) l : ℝ) : EReal) := by
  rw [EReal.coe_add, EReal.coe_mul, swap, coe_ite, EReal.coe_mul, EReal.coe_mul, hf, hg, hf, hg]
  rfl

theorem pay22_at (v k : FVec Ideal S4352x128 .bf16) (d : FVec Ideal S512x128 .bf16) (e : FVec Ideal S1x512 .f32) (z : FVec Ideal S4352x512 .f32)
    (hk : ∀ r l, k (ix2 r l) = ((K r l : ℝ) : EReal))
    (hz : ∀ t r, k0_pay19 (F := Ideal) v d e z (ix2 t r) = ((S t r : ℝ) : EReal)) (r : Fin 512) (l : Fin 128) :
    k0_pay22 (F := Ideal) v k d e z (ix2 r l) = ((dqb S K r l : ℝ) : EReal) := by
  pointwise [k0_pay22]
  rw [sum_coe _ (fun t => S t r * K t l) (fun t => by rw [hz, hk, EReal.coe_mul]), named_scale, ← EReal.coe_mul]
  rfl

theorem pay25_at (v k : FVec Ideal S4352x128 .bf16) (d : FVec Ideal S512x128 .bf16) (e : FVec Ideal S1x512 .f32) (z : FVec Ideal S4352x512 .f32)
    (cs sn : FVec Ideal S512x128 .f32) (hk : ∀ r l, k (ix2 r l) = ((K r l : ℝ) : EReal))
    (hz : ∀ t r, k0_pay19 (F := Ideal) v d e z (ix2 t r) = ((S t r : ℝ) : EReal))
    (hc : ∀ r l, cs (ix2 r l) = ((C r l : ℝ) : EReal)) (hn : ∀ r l, sn (ix2 r l) = ((N r l : ℝ) : EReal)) (r : Fin 512) (l : Fin 128) :
    k0_pay25 (F := Ideal) (k0_pay23 (F := Ideal) v k d e z cs) (k0_pay24 (F := Ideal) v k d e z sn) (ix2 r l) = ((dqr (dqb S K) C N r l : ℝ) : EReal) := by
  pointwise [k0_pay25, k0_pay24, k0_pay23]
  rw [select_low8, pay22_at v k d e z hk hz r l, hc]
  exact rotated_coe (fun l => pay22_at v k d e z hk hz r l) (fun l => hn r l) l _ _

theorem pay3_at (k : FVec Ideal S4352x128 .bf16) (z : FVec Ideal S4352x512 .bf16) (cs sn : FVec Ideal S512x128 .f32)
    (hk : ∀ r l, k (ix2 r l) = ((K r l : ℝ) : EReal)) (hz : ∀ t r, z (ix2 t r) = ((S t r : ℝ) : EReal))
    (hc : ∀ r l, cs (ix2 r l) = ((C r l : ℝ) : EReal)) (hn : ∀ r l, sn (ix2 r l) = ((N r l : ℝ) : EReal)) (r : Fin 512) (l : Fin 128) :
    k0_pay3 (F := Ideal) k z cs sn (ix2 r l) = ((dqr (dqb S K) C N r l : ℝ) : EReal) := by
  have hy : ∀ l, (∑ t : Fin 4352, z (ix2 t r) * k (ix2 t l)) * (Named.named κ "attn_scale" 0x3DD105EC#32 : Ideal .f32) = ((dqb S K r l : ℝ) : EReal) := fun l => by
    rw [sum_coe _ (fun t => S t r * K t l) (fun t => by rw [hz, hk, EReal.coe_mul]), named_scale, ← EReal.coe_mul]
    rfl
  pointwise [k0_pay3]
  rw [select_low8, hc, hy l]
  exact rotated_coe (f := fun l => (∑ t : Fin 4352, z (ix2 t r) * k (ix2 t l)) * (Named.named κ "attn_scale" 0x3DD105EC#32 : Ideal .f32)) hy (fun l => hn r l) l _ _

theorem pay4_at (a : FVec Ideal S4352x256 .f32) (t : Fin 4352) (l : Fin 256) :
    k0_pay4 (F := Ideal) a (ix2 t l) = a (ix2 t l) * ((scale : ℝ) : EReal) := by
  pointwise [k0_pay4]
  rw [named_scale]

end Cert.AttnIdeal.Pay

end
-- ==== Proof.AttnHost.lean ====
/- The arrays the host prepares for the attention gradient's kernel, from real arguments. -/
module

public import proofs.«01_k».proof.Proof.AttnPay
public import Idealize.ShloMosaic.Lib.StableHlo.RunRead

set_option maxRecDepth 16384

@[expose] public noncomputable section

open Idealize.ShloMosaic Idealize.ShloMosaic.TcCoe Idealize.SL.Sem
open Idealize.ShloMosaic.Pipeline (Dat)

namespace Cert.AttnIdeal.Host

open Cert.AttnIdeal Cert.AttnIdeal.Gen Cert.AttnSpec Cert.AttnIdeal.Pay

variable (m : (ℓ : Loc nD τ sig) → Buf (Elt Ideal) ℓ)

/-- A core's arguments are these reals. -/
structure Args (c : Dev nD) (q : Fin 4096 → Fin 8 → Fin 96 → ℝ) (k : Fin 4352 → Fin 8 → Fin 96 → ℝ) (v : Fin 4352 → Fin 8 → Fin 64 → ℝ)
    (co sn : Fin 4096 → Fin 2 → Fin 8 → ℝ) (g : Fin 4096 → Fin 8 → Fin 64 → ℝ) : Prop where
  hq : ∀ s h d, (m ((c : Thread nD τ).loc main_arg0) : FVec Ideal S1x4096x8x96 .f32) (ix4 0 s h d) = ((q s h d : ℝ) : EReal)
  hk : ∀ s h d, (m ((c : Thread nD τ).loc main_arg1) : FVec Ideal S1x4352x8x96 .f32) (ix4 0 s h d) = ((k s h d : ℝ) : EReal)
  hv : ∀ s h d, (m ((c : Thread nD τ).loc main_arg2) : FVec Ideal S1x4352x8x64 .f32) (ix4 0 s h d) = ((v s h d : ℝ) : EReal)
  hc : ∀ s a f, (m ((c : Thread nD τ).loc main_arg3) : FVec Ideal S4096x1x2x8 .f32) (ix4 s 0 a f) = ((co s a f : ℝ) : EReal)
  hn : ∀ s a f, (m ((c : Thread nD τ).loc main_arg4) : FVec Ideal S4096x1x2x8 .f32) (ix4 s 0 a f) = ((sn s a f : ℝ) : EReal)
  hg : ∀ s (h : Fin 8) (e : Fin 64), (m ((c : Thread nD τ).loc main_arg5) : FVec Ideal S1x4096x1024 .f32) (ix3 0 s ⟨h.val * 64 + e.val, by omega⟩) = ((g s h e : ℝ) : EReal)

variable {m} {c : Dev nD} {q : Fin 4096 → Fin 8 → Fin 96 → ℝ} {k : Fin 4352 → Fin 8 → Fin 96 → ℝ} {v : Fin 4352 → Fin 8 → Fin 64 → ℝ}
    {co sn : Fin 4096 → Fin 2 → Fin 8 → ℝ} {g : Fin 4096 → Fin 8 → Fin 64 → ℝ} (a : Args m c q k v co sn g)
include a

omit a in
theorem entry_at (tab : Fin 4096 → Fin 2 → Fin 8 → ℝ) (s : Fin 4096) (l : ℕ) (b : Fin 2) (f : Fin 8) (hb : b.val = (l - 64) / 16 % 2) (hf : f.val = l % 8) :
    tab s b f = entry tab s l := by
  unfold entry
  exact congrArg₂ (tab s) (Fin.ext hb) (Fin.ext hf)

set_option maxHeartbeats 1000000 in
theorem cos_at (s : Fin 4096) (l : Fin 128) : (V m c main_v22 : FVec Ideal S4352x128 .f32) (ix2 ⟨s.val, by omega⟩ l)
    = (((if 64 ≤ l.val ∧ l.val < 96 then entry co s l.val else 1 : ℝ)) : EReal) := by
  unfold V
  simp only [List.flatten_cons, List.flatten_nil, List.cons_append, List.nil_append, List.append_nil, List.append]
  after_reads_simp
  pointwise
  after_reads_simp
  pointwise
  simp only [show ∀ s b f, m (c, Proc.tc.devRef main_arg3) (ix4 s 0 b f) = ((co s b f : ℝ) : EReal) from a.hc]
  by_cases hb : 64 ≤ l.val ∧ l.val < 96
  · rw [if_pos hb, dif_pos (by omega)]
    split_ifs <;> refine congrArg Real.toEReal (entry_at co s l.val _ _ ?_ ?_) <;> (first | (show 0 = _; omega) | (show 1 = _; omega) | (dsimp only; omega))
  · rw [if_neg hb, dif_neg (by omega)]
    rfl

set_option maxHeartbeats 1000000 in
theorem sgn_at (s : Fin 4096) (l : Fin 128) : (V m c main_v23 : FVec Ideal S4352x128 .f32) (ix2 ⟨s.val, by omega⟩ l)
    = (((if 64 ≤ l.val ∧ l.val < 96 then (if l.val % 16 < 8 then -entry sn s l.val else entry sn s l.val) else 0 : ℝ)) : EReal) := by
  unfold V
  simp only [List.flatten_cons, List.flatten_nil, List.cons_append, List.nil_append, List.append_nil, List.append]
  after_reads_simp
  pointwise
  after_reads_simp
  pointwise
  simp only [show ∀ s b f, m (c, Proc.tc.devRef main_arg4) (ix4 s 0 b f) = ((sn s b f : ℝ) : EReal) from a.hn]
  by_cases hb : 64 ≤ l.val ∧ l.val < 96
  · rw [if_pos hb, dif_pos (by omega)]
    by_cases h8 : l.val % 16 < 8
    · rw [if_pos h8]
      split_ifs <;> first | (exfalso; omega) | (refine congrArg (fun x : ℝ => ((-x : ℝ) : EReal)) (entry_at sn s l.val _ _ ?_ ?_) <;> (first | (show 0 = _; omega) | (show 1 = _; omega) | (dsimp only; omega)))
    · rw [if_neg h8]
      split_ifs <;> first | (exfalso; omega) | (refine congrArg Real.toEReal (entry_at sn s l.val _ _ ?_ ?_) <;> (first | (show 0 = _; omega) | (show 1 = _; omega) | (dsimp only; omega)))
  · rw [if_neg hb, dif_neg (by omega)]
    rfl

theorem pk_at (t : Fin 4352) (h : Fin 8) (l : Fin 128) : (V m c main_v46 : FVec Ideal S4352x8x128 .bf16) (ix3 t h l)
    = ((slot (k t h) l : ℝ) : EReal) := by
  unfold V
  simp only [List.flatten_cons, List.flatten_nil, List.cons_append, List.nil_append, List.append_nil, List.append]
  after_reads_simp
  pointwise
  unfold slot
  split_ifs with hl
  · exact a.hk _ _ _
  · rfl

theorem pq_at (s : Fin 4096) (h : Fin 8) (l : Fin 128) : (V m c main_v25 : FVec Ideal S4096x8x128 .f32) (ix3 s h l)
    = ((slot (q s h) l : ℝ) : EReal) := by
  unfold V
  simp only [List.flatten_cons, List.flatten_nil, List.cons_append, List.nil_append, List.append_nil, List.append]
  after_reads_simp
  pointwise
  unfold slot
  split_ifs with hl
  · exact a.hq _ _ _
  · rfl

theorem vv_at (t : Fin 4352) (h : Fin 8) (e : Fin 64) : (V m c main_v48 : FVec Ideal S4352x8x64 .bf16) (ix3 t h e)
    = ((v t h e : ℝ) : EReal) := by
  unfold V
  simp only [List.flatten_cons, List.flatten_nil, List.cons_append, List.nil_append, List.append_nil, List.append]
  after_reads_simp
  pointwise
  exact a.hv _ _ _

theorem swapped_at (s : Fin 4096) (h : Fin 8) (l : Fin 128) : (V m c main_v35 : FVec Ideal S4096x8x128 .f32) (ix3 s h l)
    = ((swap (slot (q s h)) l : ℝ) : EReal) := by
  unfold V
  simp only [List.flatten_cons, List.flatten_nil, List.cons_append, List.nil_append, List.append_nil, List.append]
  after_reads_simp
  simp -implicitDefEqProofs only [StableHlo.TRef.toBuf, StableHlo.TRef.ofBuf, cast_cast, cast_eq]
  pointwise
  after_reads_simp
  simp -implicitDefEqProofs only [StableHlo.TRef.toBuf, StableHlo.TRef.ofBuf, cast_cast, cast_eq]
  pointwise
  simp only [show ∀ s h d, m (c, Proc.tc.devRef main_arg0) (ix4 0 s h d) = ((q s h d : ℝ) : EReal) from a.hq]
  rw [select_low8]
  unfold swap slot
  dsimp only
  by_cases h8 : l.val % 16 < 8
  · rw [if_pos h8, if_pos h8]
    by_cases h9 : (l.val + 8) % 128 < 96
    · rw [dif_pos h9]
      split_ifs <;> first | (exfalso; omega) | (refine congrArg Real.toEReal (congrArg (q s h) (Fin.ext ?_)); dsimp only; omega)
    · rw [dif_neg h9]
      split_ifs <;> first | (exfalso; omega) | rfl
  · rw [if_neg h8, if_neg h8]
    by_cases h9 : (l.val + 120) % 128 < 96
    · rw [dif_pos h9]
      split_ifs <;> first | (exfalso; omega) | (refine congrArg Real.toEReal (congrArg (q s h) (Fin.ext ?_)); dsimp only; omega)
    · rw [dif_neg h9]
      split_ifs <;> first | (exfalso; omega) | rfl

omit a in
theorem rotated_at (s : Fin 4096) (h : Fin 8) (l : Fin 128) : (V m c main_v43 : FVec Ideal S4096x8x128 .bf16) (ix3 s h l)
    = @HAdd.hAdd EReal EReal EReal _ (@HMul.hMul EReal EReal EReal _ ((V m c main_v25 : FVec Ideal S4096x8x128 .f32) (ix3 s h l)) ((V m c main_v22 : FVec Ideal S4352x128 .f32) (ix2 ⟨s.val, by omega⟩ l)))
      (@HMul.hMul EReal EReal EReal _ ((V m c main_v35 : FVec Ideal S4096x8x128 .f32) (ix3 s h l)) ((V m c main_v23 : FVec Ideal S4352x128 .f32) (ix2 ⟨s.val, by omega⟩ l))) := by
  unfold V
  simp only [List.flatten_cons, List.flatten_nil, List.cons_append, List.nil_append, List.append_nil, List.append]
  after_reads_simp
  pointwise

omit a in
theorem slot_rot (s : Fin 4096) (h : Fin 8) (l : Fin 128) : slot (q s h) l * (if 64 ≤ l.val ∧ l.val < 96 then entry co s l.val else 1)
    + swap (slot (q s h)) l * (if 64 ≤ l.val ∧ l.val < 96 then (if l.val % 16 < 8 then -entry sn s l.val else entry sn s l.val) else 0)
    = slot (rot co sn q s h) l := by
  by_cases h96 : l.val < 96
  · by_cases h64 : l.val < 64
    · have : ¬ (64 ≤ l.val ∧ l.val < 96) := by omega
      simp only [slot, rot, dif_pos h96, if_pos h64, if_neg this]
      ring
    · have hb : 64 ≤ l.val ∧ l.val < 96 := by omega
      by_cases h8 : l.val % 16 < 8
      · have h9 : (l.val + 8) % 128 < 96 := by omega
        have e : (⟨(l.val + 8) % 128, h9⟩ : Fin 96) = ⟨(l.val + 8) % 96, by omega⟩ := Fin.ext (by show (l.val + 8) % 128 = (l.val + 8) % 96; omega)
        simp only [slot, swap, rot, h96, h64, hb, h8, h9, dif_pos, if_pos, if_false, e, and_self, if_true]
        ring
      · have h9 : (l.val + 120) % 128 < 96 := by omega
        have e : (⟨(l.val + 120) % 128, h9⟩ : Fin 96) = ⟨l.val - 8, by omega⟩ := Fin.ext (by show (l.val + 120) % 128 = l.val - 8; omega)
        simp only [slot, swap, rot, h96, h64, hb, h8, h9, dif_pos, if_pos, if_false, e, and_self, if_true]
  · have : ¬ (64 ≤ l.val ∧ l.val < 96) := by omega
    simp only [slot, dif_neg h96, if_neg this]
    ring

theorem rq_at (s : Fin 4096) (h : Fin 8) (l : Fin 128) : (V m c main_v43 : FVec Ideal S4096x8x128 .bf16) (ix3 s h l)
    = ((slot (rot co sn q s h) l : ℝ) : EReal) := by
  rw [rotated_at, pq_at a, cos_at a, swapped_at a, sgn_at a, ← EReal.coe_mul, ← EReal.coe_mul, ← EReal.coe_add, slot_rot]

omit a in
theorem v52_eq (s : Fin 4096) (h : Fin 8) (t : Fin 4352) : (V m c main_v52 : FVec Ideal S8x4096x4352 .f32) (ix3 h s t)
    = (∑ l : Fin 128, @HMul.hMul EReal EReal EReal _ ((V m c main_v43 : FVec Ideal S4096x8x128 .bf16) (ix3 s h l)) ((V m c main_v46 : FVec Ideal S4352x8x128 .bf16) (ix3 t h l)) : EReal) := by
  unfold V
  simp only [List.flatten_cons, List.flatten_nil, List.cons_append, List.nil_append, List.append_nil, List.append]
  after_reads_simp
  generalize (truncf .bf16 _ _ : FVec Ideal S4096x8x128 .bf16) = x
  generalize (truncf .bf16 _ _ : FVec Ideal S4352x8x128 .bf16) = y
  pointwise

theorem score_at (s : Fin 4096) (h : Fin 8) (t : Fin 4352) : (V m c main_v52 : FVec Ideal S8x4096x4352 .f32) (ix3 h s t)
    = ((score (rot co sn q) k h s t : ℝ) : EReal) := by
  rw [v52_eq, score, ← sum_slot]
  exact sum_coe _ _ fun l => by rw [rq_at a, pk_at a, EReal.coe_mul]

end Cert.AttnIdeal.Host
end
-- ==== Proof.AttnSaved.lean ====
/- What the forward pass saves for the attention gradient, from real arguments. -/
module

public import proofs.«01_k».proof.Proof.AttnHost

set_option maxRecDepth 16384

@[expose] public noncomputable section

open Idealize.ShloMosaic Idealize.ShloMosaic.TcCoe Idealize.SL.Sem
open Idealize.ShloMosaic.Pipeline (Dat)

namespace Cert.AttnIdeal.Host

open Cert.AttnIdeal Cert.AttnIdeal.Gen Cert.AttnSpec Cert.AttnIdeal.Pay

variable {m : (ℓ : Loc nD τ sig) → Buf (Elt Ideal) ℓ} {c : Dev nD}

theorem ofBits_two : (Ideal.ofBits .f32 0x40000000#32 : EReal) = ((2 : ℝ) : EReal) := by
  simp [Ideal.ofBits, Ideal.ieee, -EReal.coe_mul]; norm_num

theorem ofBits_width : (Ideal.ofBits .f32 0x42C00000#32 : EReal) = ((96 : ℝ) : EReal) := by
  simp [Ideal.ofBits, Ideal.ieee, -EReal.coe_mul]; norm_num

theorem ofBits_bottom : (Ideal.ofBits .f32 0xFF800000#32 : EReal) = ⊥ := by
  simp [Ideal.ofBits, Ideal.ieee, -EReal.coe_mul]

/-- The constant the scores are multiplied by. -/
theorem root_at : (Ideal.div (1 : EReal) (Ideal.sqrt (Ideal.ofBits .f32 0x42C00000#32)) : EReal) = ((scale : ℝ) : EReal) := by
  rw [ofBits_width, Ideal.sqrt_coe, if_neg (by norm_num), Ideal.div_coe (Real.sqrt_pos.mpr (by norm_num)).ne', one_mul, one_div]
  rfl

theorem v54_eq (s : Fin 4096) (h : Fin 8) : (V m c main_v54 : FVec Ideal S8x4096x1 .f32) (ix3 h s 0)
    = (Finset.univ : Finset (Fin 4352)).fold max (⊥ : EReal) (fun t => (V m c main_v52 : FVec Ideal S8x4096x4352 .f32) (ix3 h s t)) := by
  unfold V
  simp only [List.flatten_cons, List.flatten_nil, List.cons_append, List.nil_append, List.append_nil, List.append]
  after_reads_simp
  generalize (truncf .bf16 _ _ : FVec Ideal S4096x8x128 .bf16) = x
  generalize (truncf .bf16 _ _ : FVec Ideal S4352x8x128 .bf16) = y
  pointwise
  rw [ofBits_bottom]

theorem v60_eq (s : Fin 4096) (h : Fin 8) (t : Fin 4352) : (V m c main_v60 : FVec Ideal S8x4096x4352 .bf16) (ix3 h s t)
    = (Ideal.exp (@HMul.hMul EReal EReal EReal _ (@HSub.hSub EReal EReal EReal _ ((V m c main_v52 : FVec Ideal S8x4096x4352 .f32) (ix3 h s t)) ((V m c main_v54 : FVec Ideal S8x4096x1 .f32) (ix3 h s 0)))
      ((scale : ℝ) : EReal)) : EReal) := by
  unfold V
  simp only [List.flatten_cons, List.flatten_nil, List.cons_append, List.nil_append, List.append_nil, List.append]
  after_reads_simp
  generalize (truncf .bf16 _ _ : FVec Ideal S4096x8x128 .bf16) = x
  generalize (truncf .bf16 _ _ : FVec Ideal S4352x8x128 .bf16) = y
  pointwise
  rw [← root_at]

theorem v63_eq (s : Fin 4096) (h : Fin 8) : (V m c main_v63 : FVec Ideal S8x4096x1 .f32) (ix3 h s 0)
    = (∑ t : Fin 4352, ((V m c main_v60 : FVec Ideal S8x4096x4352 .bf16) (ix3 h s t) : EReal) : EReal) := by
  unfold V
  simp only [List.flatten_cons, List.flatten_nil, List.cons_append, List.nil_append, List.append_nil, List.append]
  after_reads_simp
  generalize (truncf .bf16 _ _ : FVec Ideal S4096x8x128 .bf16) = x
  generalize (truncf .bf16 _ _ : FVec Ideal S4352x8x128 .bf16) = y
  generalize (truncf .bf16 _ _ : FVec Ideal S8x4096x4352 .bf16) = z
  pointwise

theorem v68_eq (s : Fin 4096) (h : Fin 8) (e : Fin 64) : (V m c main_v68 : FVec Ideal S8x4096x64 .f32) (ix3 h s e)
    = @HMul.hMul EReal EReal EReal _ (∑ t : Fin 4352, @HMul.hMul EReal EReal EReal _ ((V m c main_v60 : FVec Ideal S8x4096x4352 .bf16) (ix3 h s t)) ((V m c main_v48 : FVec Ideal S4352x8x64 .bf16) (ix3 t h e)) : EReal)
      (Ideal.div 1 ((V m c main_v63 : FVec Ideal S8x4096x1 .f32) (ix3 h s 0))) := by
  unfold V
  simp only [List.flatten_cons, List.flatten_nil, List.cons_append, List.nil_append, List.append_nil, List.append]
  after_reads_simp
  generalize (truncf .bf16 _ _ : FVec Ideal S4096x8x128 .bf16) = x
  generalize (truncf .bf16 _ _ : FVec Ideal S4352x8x128 .bf16) = y
  generalize (truncf .bf16 _ _ : FVec Ideal S8x4096x4352 .bf16) = z
  pointwise

theorem stat_of (x y : FVec Ideal S8x4096x1 .f32) (i : S8x4096x1.Idx) :
    Host.divf (addf (mulf x (broadcastInDim S8x4096x1 ![] bcast_S_S8x4096x1
      (Host.divf (constant S_ .f32 0x3F800000#32) (Host.sqrt (constant S_ .f32 0x42C00000#32))))) (Host.log y))
      (broadcastInDim S8x4096x1 ![] bcast_S_S8x4096x1 (Host.log (constant S_ .f32 0x40000000#32))) i
    = (Ideal.div (@HAdd.hAdd EReal EReal EReal _ (@HMul.hMul EReal EReal EReal _ (x i) ((scale : ℝ) : EReal)) (Ideal.log (y i))) (Ideal.log ((2 : ℝ) : EReal)) : EReal) := by
  rw [← root_at, ← ofBits_two, ← Ideal.ofBits_one_f32]
  rfl

theorem v74_arr : @Eq (FVec Ideal S8x4096x1 .f32) (V m c main_v74)
    (Host.divf (addf (mulf (V m c main_v54 : FVec Ideal S8x4096x1 .f32) (broadcastInDim S8x4096x1 ![] bcast_S_S8x4096x1
      (Host.divf (constant S_ .f32 0x3F800000#32) (Host.sqrt (constant S_ .f32 0x42C00000#32))))) (Host.log (V m c main_v63 : FVec Ideal S8x4096x1 .f32)))
      (broadcastInDim S8x4096x1 ![] bcast_S_S8x4096x1 (Host.log (constant S_ .f32 0x40000000#32)))) := by
  unfold V
  simp only [List.flatten_cons, List.flatten_nil, List.cons_append, List.nil_append, List.append_nil, List.append]
  after_reads_simp

variable {q : Fin 4096 → Fin 8 → Fin 96 → ℝ} {k : Fin 4352 → Fin 8 → Fin 96 → ℝ} {v : Fin 4352 → Fin 8 → Fin 64 → ℝ}
    {co sn : Fin 4096 → Fin 2 → Fin 8 → ℝ} {g : Fin 4096 → Fin 8 → Fin 64 → ℝ} (a : Args m c q k v co sn g)

/-- The row's statistic over its largest score `M`. -/
def stat (q : Fin 4096 → Fin 8 → Fin 96 → ℝ) (k : Fin 4352 → Fin 8 → Fin 96 → ℝ) (M : Fin 8 → Fin 4096 → ℝ) (h : Fin 8) (s : Fin 4096) : ℝ :=
  (M h s * scale + Real.log (∑ t' : Fin 4352, Real.exp ((score q k h s t' - M h s) * scale))) * (Real.log 2)⁻¹

include a

theorem max_at : ∃ M : Fin 8 → Fin 4096 → ℝ, ∀ h s, (V m c main_v54 : FVec Ideal S8x4096x1 .f32) (ix3 h s 0) = ((M h s : ℝ) : EReal) := by
  have e : ∀ h s, ∃ x : ℝ, (V m c main_v54 : FVec Ideal S8x4096x1 .f32) (ix3 h s 0) = (x : EReal) := fun h s => by
    obtain ⟨x, hx⟩ := fold_max_real (Finset.univ : Finset (Fin 4352)) ⟨0, Finset.mem_univ _⟩ (fun t => score (rot co sn q) k h s t)
    refine ⟨x, ?_⟩
    refine (v54_eq s h).trans (Eq.trans ?_ hx)
    exact congrArg (fun f : Fin 4352 → EReal => Finset.fold max (⊥ : EReal) f Finset.univ) (funext fun t => score_at a s h t)
  exact ⟨fun h s => (e h s).choose, fun h s => (e h s).choose_spec⟩

variable {M : Fin 8 → Fin 4096 → ℝ} (hM : ∀ h s, (V m c main_v54 : FVec Ideal S8x4096x1 .f32) (ix3 h s 0) = ((M h s : ℝ) : EReal))
include hM

theorem ex_at (s : Fin 4096) (h : Fin 8) (t : Fin 4352) : (V m c main_v60 : FVec Ideal S8x4096x4352 .bf16) (ix3 h s t)
    = ((Real.exp ((score (rot co sn q) k h s t - M h s) * scale) : ℝ) : EReal) := by
  rw [v60_eq, hM, score_at a, ← EReal.coe_sub, ← EReal.coe_mul, Ideal.exp_coe]

theorem den_at (s : Fin 4096) (h : Fin 8) : (V m c main_v63 : FVec Ideal S8x4096x1 .f32) (ix3 h s 0)
    = ((∑ t : Fin 4352, Real.exp ((score (rot co sn q) k h s t - M h s) * scale) : ℝ) : EReal) := by
  rw [v63_eq]
  exact sum_coe _ _ fun t => ex_at a hM s h t

omit a hM in
theorem den_pos' (s : Fin 4096) (h : Fin 8) : 0 < ∑ t : Fin 4352, Real.exp ((score q k h s t - M h s) * scale) :=
  Finset.sum_pos (fun _ _ => Real.exp_pos _) ⟨0, Finset.mem_univ _⟩

theorem o_at (s : Fin 4096) (h : Fin 8) (e : Fin 64) : (V m c main_v68 : FVec Ideal S8x4096x64 .f32) (ix3 h s e)
    = ((att (rot co sn q) k v h s e : ℝ) : EReal) := by
  rw [v68_eq, den_at a hM, Ideal.div_coe (den_pos' s h).ne', one_mul,
    sum_coe _ (fun t => Real.exp ((score (rot co sn q) k h s t - M h s) * scale) * v t h e) fun t => by rw [ex_at a hM, vv_at a, EReal.coe_mul], ← EReal.coe_mul]
  refine congrArg _ ?_
  rw [att, Finset.sum_mul]
  refine Finset.sum_congr rfl fun t _ => ?_
  rw [← prob_shift (scale * M h s)]
  simp only [show ∀ x, scale * x - scale * M h s = (x - M h s) * scale from fun x => by ring]
  ring

theorem stat_at (s : Fin 4096) (h : Fin 8) : (V m c main_v74 : FVec Ideal S8x4096x1 .f32) (ix3 h s 0)
    = ((stat (rot co sn q) k M h s : ℝ) : EReal) := by
  rw [v74_arr, stat_of, hM, den_at a hM, Ideal.log_coe, if_neg (den_pos' s h).not_ge, Ideal.log_coe, if_neg (by norm_num), ← EReal.coe_mul, ← EReal.coe_add,
    Ideal.div_coe (Real.log_pos one_lt_two).ne', one_div, ← EReal.coe_mul]
  rfl

omit a hM in
theorem v78_eq (s : Fin 4096) (n : Fin 512) : (V m c main_v78 : FVec Ideal S4096x512 .f32) (ix2 s n)
    = (V m c main_v68 : FVec Ideal S8x4096x64 .f32) (ix3 ⟨n.val / 64, by omega⟩ s ⟨n.val % 64, by omega⟩) := by
  unfold V
  simp only [List.flatten_cons, List.flatten_nil, List.cons_append, List.nil_append, List.append_nil, List.append]
  after_reads_simp
  generalize (mulf _ _ : FVec Ideal S8x4096x64 .f32) = z
  pointwise

omit a hM in
theorem v79_eq (p : Fin 4) (hh : Fin 2) (s : Fin 4096) : (V m c main_v79 : FVec Ideal S32x4096 .f32) (ix2 ⟨8 * p.val + hh.val, by omega⟩ s)
    = (V m c main_v74 : FVec Ideal S8x4096x1 .f32) (ix3 ⟨2 * p.val + hh.val, by omega⟩ s 0) := by
  unfold V
  simp only [List.flatten_cons, List.flatten_nil, List.cons_append, List.nil_append, List.append_nil, List.append]
  after_reads_simp
  generalize (Host.divf _ _ : FVec Ideal S8x4096x1 .f32) = z
  pointwise
  rw [dif_pos (by omega)]
  exact congrArg (fun b => z (ix3 b s 0)) (Fin.ext (by show p.val * 2 + (8 * p.val + hh.val) % 8 = 2 * p.val + hh.val; omega))

omit a hM in
theorem v82_key (t : Fin 4352) (n : Fin 1024) : (V m c main_v82 : FVec Ideal S4352x1536 .bf16) (ix2 t ⟨n.val, by omega⟩)
    = (V m c main_v46 : FVec Ideal S4352x8x128 .bf16) (ix3 t ⟨n.val / 128, by omega⟩ ⟨n.val % 128, by omega⟩) := by
  unfold V
  simp only [List.flatten_cons, List.flatten_nil, List.cons_append, List.nil_append, List.append_nil, List.append]
  after_reads_simp
  pointwise

omit a hM in
theorem v82_val (t : Fin 4352) (n : Fin 512) : (V m c main_v82 : FVec Ideal S4352x1536 .bf16) (ix2 t ⟨1024 + n.val, by omega⟩)
    = (V m c main_v48 : FVec Ideal S4352x8x64 .bf16) (ix3 t ⟨n.val / 64, by omega⟩ ⟨n.val % 64, by omega⟩) := by
  unfold V
  simp only [List.flatten_cons, List.flatten_nil, List.cons_append, List.nil_append, List.append_nil, List.append]
  after_reads_simp
  pointwise

omit a hM in
theorem v83_eq (s : Fin 4096) (n : Fin 1024) : (V m c main_v83 : FVec Ideal S4096x1024 .bf16) (ix2 s n)
    = (V m c main_v43 : FVec Ideal S4096x8x128 .bf16) (ix3 s ⟨n.val / 128, by omega⟩ ⟨n.val % 128, by omega⟩) := by
  unfold V
  simp only [List.flatten_cons, List.flatten_nil, List.cons_append, List.nil_append, List.append_nil, List.append]
  after_reads_simp
  generalize (truncf .bf16 _ _ : FVec Ideal S4096x8x128 .bf16) = z
  pointwise

omit hM in
theorem v84_at (s : Fin 4096) (h : Fin 8) (e : Fin 64) : (V m c main_v84 : FVec Ideal S4096x1024 .f32) (ix2 s ⟨h.val * 64 + e.val, by omega⟩)
    = ((g s h e : ℝ) : EReal) := by
  unfold V
  simp only [List.flatten_cons, List.flatten_nil, List.cons_append, List.nil_append, List.append_nil, List.append]
  after_reads_simp
  pointwise
  exact a.hg s h e

end Cert.AttnIdeal.Host
end
-- ==== Proof.AttnBlk.lean ====
/- The blocks a grid point of the attention gradient's kernel reads, from real arguments. -/
module

public import proofs.«01_k».proof.Proof.AttnSaved

set_option maxRecDepth 16384

@[expose] public noncomputable section

open Idealize.ShloMosaic Idealize.ShloMosaic.TcCoe Idealize.SL.Sem
open Idealize.ShloMosaic.Pipeline (Dat)

namespace Cert.AttnIdeal.Host

open Cert.AttnIdeal Cert.AttnIdeal.Gen Cert.AttnSpec Cert.AttnIdeal.Pay

theorem idx : ∀ t : Fin cfg0.N, win0_0.index t = ![t.val % 8, t.val / 8]
    ∧ win0_1.index t = ![0, t.val / 8]
    ∧ win0_2.index t = ![0, 8 + (t.val / 8)]
    ∧ win0_3.index t = ![t.val % 8, t.val / 8]
    ∧ win0_4.index t = ![t.val % 8, t.val / 8]
    ∧ win0_5.index t = ![t.val / 8, t.val % 8]
    ∧ win0_6.index t = ![t.val % 8, 0]
    ∧ win0_7.index t = ![t.val % 8, 0]
    ∧ win0_8.index t = ![t.val % 8, t.val / 8]
    ∧ win0_9.index t = ![0, t.val / 8]
    ∧ win0_10.index t = ![0, t.val / 8] ∧ t.val < 32 :=
  (by decide +kernel : ∀ t : Fin grid0.N, _)

/-- The head a lane of a point's values belongs to, and the rows of its block. -/
def hd (t : Fin cfg0.N) (a : Fin 2) : Fin 8 := ⟨2 * (t.val / 8) + a.val, by have := (idx t).2.2.2.2.2.2.2.2.2.2.2; omega⟩
def rw' (t : Fin cfg0.N) (r : Fin 512) : Fin 4096 := ⟨512 * (t.val % 8) + r.val, by omega⟩
def half (l : Fin 128) : Fin 2 := ⟨l.val / 64, by omega⟩
def lane (l : Fin 128) : Fin 64 := ⟨l.val % 64, by omega⟩

variable {m : (ℓ : Loc nD τ sig) → Buf (Elt Ideal) ℓ} {c : Dev nD}
variable {q : Fin 4096 → Fin 8 → Fin 96 → ℝ} {k : Fin 4352 → Fin 8 → Fin 96 → ℝ} {v : Fin 4352 → Fin 8 → Fin 64 → ℝ}
    {co sn : Fin 4096 → Fin 2 → Fin 8 → ℝ} {g : Fin 4096 → Fin 8 → Fin 64 → ℝ} (a : Args m c q k v co sn g)
variable {M : Fin 8 → Fin 4096 → ℝ} (hM : ∀ h s, (V m c main_v54 : FVec Ideal S8x4096x1 .f32) (ix3 h s 0) = ((M h s : ℝ) : EReal))
include a

theorem qblk (t : Fin cfg0.N) (b : Fin 2) (r : Fin 512) (l : Fin 128) (n : Fin 256) (hn : n.val = b.val * 128 + l.val) :
    (iblk m c 0 t : FVec Ideal S512x256 .bf16) (ix2 r n) = ((slot (rot co sn q (rw' t r) (hd t b)) l : ℝ) : EReal) := by
  have ht := (idx t).2.2.2.2.2.2.2.2.2.2.2
  have e : (iblk m c 0 t : FVec Ideal S512x256 .bf16) (ix2 r n)
      = (V m c main_v83 : FVec Ideal S4096x1024 .bf16) (ix2 (rw' t r) ⟨t.val / 8 * 256 + n.val, by omega⟩) := by
    blk_ext [iblk, idx t, rw']
  rw [e, v83_eq, rq_at a]
  refine congrArg Real.toEReal (congr (congrArg (fun h => slot (rot co sn q (rw' t r) h)) (Fin.ext ?_)) (Fin.ext ?_)) <;> simp only [hd] <;> omega

theorem kblk (t : Fin cfg0.N) (b : Fin 2) (r : Fin 4352) (l : Fin 128) (n : Fin 256) (hn : n.val = b.val * 128 + l.val) :
    (iblk m c 1 t : FVec Ideal S4352x256 .bf16) (ix2 r n) = ((slot (k r (hd t b)) l : ℝ) : EReal) := by
  have ht := (idx t).2.2.2.2.2.2.2.2.2.2.2
  have e : (iblk m c 1 t : FVec Ideal S4352x256 .bf16) (ix2 r n)
      = (V m c main_v82 : FVec Ideal S4352x1536 .bf16) (ix2 r ⟨t.val / 8 * 256 + n.val, by omega⟩) := by
    blk_ext [iblk, idx t]
  rw [e, v82_key r ⟨t.val / 8 * 256 + n.val, by omega⟩, pk_at a]
  refine congrArg Real.toEReal (congr (congrArg (fun h => slot (k r h)) (Fin.ext ?_)) (Fin.ext ?_)) <;> simp only [hd] <;> omega

theorem vblk (t : Fin cfg0.N) (r : Fin 4352) (l : Fin 128) :
    (iblk m c 2 t : FVec Ideal S4352x128 .bf16) (ix2 r l) = ((v r (hd t (half l)) (lane l) : ℝ) : EReal) := by
  have ht := (idx t).2.2.2.2.2.2.2.2.2.2.2
  have e : (iblk m c 2 t : FVec Ideal S4352x128 .bf16) (ix2 r l)
      = (V m c main_v82 : FVec Ideal S4352x1536 .bf16) (ix2 r ⟨1024 + (t.val / 8 * 128 + l.val), by omega⟩) := by
    blk_ext [iblk, idx t]
  rw [e, v82_val r ⟨t.val / 8 * 128 + l.val, by omega⟩, vv_at a]
  refine congrArg Real.toEReal (congr (congrArg (v r) (Fin.ext ?_)) (Fin.ext ?_)) <;> simp only [hd, half, lane] <;> omega

include hM in
theorem oblk (t : Fin cfg0.N) (r : Fin 512) (l : Fin 128) :
    (iblk m c 3 t : FVec Ideal S512x128 .f32) (ix2 r l) = ((att (rot co sn q) k v (hd t (half l)) (rw' t r) (lane l) : ℝ) : EReal) := by
  have ht := (idx t).2.2.2.2.2.2.2.2.2.2.2
  have e : (iblk m c 3 t : FVec Ideal S512x128 .f32) (ix2 r l)
      = (V m c main_v78 : FVec Ideal S4096x512 .f32) (ix2 (rw' t r) ⟨t.val / 8 * 128 + l.val, by omega⟩) := by
    blk_ext [iblk, idx t, rw']
  rw [e, v78_eq, o_at a hM]
  refine congrArg Real.toEReal (congr (congrArg (fun h => att (rot co sn q) k v h (rw' t r)) (Fin.ext ?_)) (Fin.ext ?_)) <;> simp only [hd, half, lane] <;> omega

theorem dblk (t : Fin cfg0.N) (r : Fin 512) (l : Fin 128) :
    (iblk m c 4 t : FVec Ideal S512x128 .f32) (ix2 r l) = ((g (rw' t r) (hd t (half l)) (lane l) : ℝ) : EReal) := by
  have ht := (idx t).2.2.2.2.2.2.2.2.2.2.2
  have e : (iblk m c 4 t : FVec Ideal S512x128 .f32) (ix2 r l)
      = (V m c main_v84 : FVec Ideal S4096x1024 .f32) (ix2 (rw' t r) ⟨(hd t (half l)).val * 64 + (lane l).val, by have := (hd t (half l)).isLt; have := (lane l).isLt; omega⟩) := by
    blk_ext [iblk, idx t, rw', hd, half, lane]
  rw [e, v84_at a]

include hM in
theorem sblk (t : Fin cfg0.N) (b : Fin 2) (r : Fin 512) (n : Fin 8) (hn : n.val = b.val) :
    (iblk m c 5 t : FVec Ideal S8x512 .f32) (ix2 n r) = ((stat (rot co sn q) k M (hd t b) (rw' t r) : ℝ) : EReal) := by
  have ht := (idx t).2.2.2.2.2.2.2.2.2.2.2
  have e : (iblk m c 5 t : FVec Ideal S8x512 .f32) (ix2 n r)
      = (V m c main_v79 : FVec Ideal S32x4096 .f32) (ix2 ⟨8 * (t.val / 8) + b.val, by omega⟩ (rw' t r)) := by
    blk_ext [iblk, idx t, rw']
  rw [e, v79_eq ⟨t.val / 8, by omega⟩ b, stat_at a hM]
  rfl

theorem cblk (t : Fin cfg0.N) (r : Fin 512) (l : Fin 128) :
    (X0_6 m c t : FVec Ideal S512x128 .f32) (ix2 r l)
      = ((if 64 ≤ l.val ∧ l.val < 96 then entry co (rw' t r) l.val else 1 : ℝ) : EReal) := by
  have ht := (idx t).2.2.2.2.2.2.2.2.2.2.2
  have e : (X0_6 m c t : FVec Ideal S512x128 .f32) (ix2 r l)
      = (V m c main_v22 : FVec Ideal S4352x128 .f32) (ix2 ⟨(rw' t r).val, by omega⟩ l) := by
    unfold X0_6 Pipeline.Window.fill
    rw [dif_pos (moved0_6 t _)]
    blk_ext [iblk, idx t, rw']
  rw [e, cos_at a]

theorem nblk (t : Fin cfg0.N) (r : Fin 512) (l : Fin 128) :
    (X0_7 m c t : FVec Ideal S512x128 .f32) (ix2 r l)
      = ((if 64 ≤ l.val ∧ l.val < 96 then (if l.val % 16 < 8 then -entry sn (rw' t r) l.val else entry sn (rw' t r) l.val) else 0 : ℝ) : EReal) := by
  have ht := (idx t).2.2.2.2.2.2.2.2.2.2.2
  have e : (X0_7 m c t : FVec Ideal S512x128 .f32) (ix2 r l)
      = (V m c main_v23 : FVec Ideal S4352x128 .f32) (ix2 ⟨(rw' t r).val, by omega⟩ l) := by
    unfold X0_7 Pipeline.Window.fill
    rw [dif_pos (moved0_7 t _)]
    blk_ext [iblk, idx t, rw']
  rw [e, sgn_at a]

end Cert.AttnIdeal.Host
end
-- ==== Proof.AttnReal.lean ====
/- One grid point's blocks in the terms of the attention gradient. -/
module

public import proofs.«01_k».proof.Proof.AttnBlk

set_option maxRecDepth 16384

@[expose] public noncomputable section

open Idealize.ShloMosaic Idealize.ShloMosaic.TcCoe Idealize.SL.Sem
open Idealize.ShloMosaic.Pipeline (Dat)

namespace Cert.AttnIdeal.Host

open Cert.AttnIdeal Cert.AttnIdeal.Gen Cert.AttnSpec Cert.AttnIdeal.Pay

variable (q : Fin 4096 → Fin 8 → Fin 96 → ℝ) (k : Fin 4352 → Fin 8 → Fin 96 → ℝ) (v : Fin 4352 → Fin 8 → Fin 64 → ℝ)
    (g : Fin 4096 → Fin 8 → Fin 64 → ℝ) (co sn : Fin 4096 → Fin 2 → Fin 8 → ℝ) (M : Fin 8 → Fin 4096 → ℝ) (t : Fin cfg0.N) (b : Fin 2)

def Qb (r : Fin 512) : Fin 128 → ℝ := slot (q (rw' t r) (hd t b))
def Kb (r : Fin 4352) : Fin 128 → ℝ := slot (k r (hd t b))
def Vb (r : Fin 4352) (l : Fin 128) : ℝ := v r (hd t (half l)) (lane l)
def Db (r : Fin 512) (l : Fin 128) : ℝ := g (rw' t r) (hd t (half l)) (lane l)
def Ob (r : Fin 512) (l : Fin 128) : ℝ := att q k v (hd t (half l)) (rw' t r) (lane l)
def Sb (r : Fin 512) : ℝ := stat q k M (hd t b) (rw' t r)
def Pb (x : Fin 4352) (r : Fin 512) : ℝ := prob q k (hd t b) (rw' t r) x
def Xb (x : Fin 4352) (r : Fin 512) : ℝ := dscore q k v g (hd t b) (rw' t r) x
def Cb (r : Fin 512) (l : Fin 128) : ℝ := if 64 ≤ l.val ∧ l.val < 96 then entry co (rw' t r) l.val else 1
def Nb (r : Fin 512) (l : Fin 128) : ℝ :=
  if 64 ≤ l.val ∧ l.val < 96 then (if l.val % 16 < 8 then -entry sn (rw' t r) l.val else entry sn (rw' t r) l.val) else 0

theorem pb_eq (x : Fin 4352) (r : Fin 512) : pb (Kb k t b) (Qb q t b) (Sb q k M t b) x r = Pb q k t b x r := by
  unfold pb Kb Qb Sb Pb stat
  rw [sum_slot, ← prob_exp2 (M (hd t b) (rw' t r))]
  simp only [show ∑ d : Fin 96, k x (hd t b) d * q (rw' t r) (hd t b) d = score q k (hd t b) (rw' t r) x from
    Finset.sum_congr rfl fun d _ => mul_comm _ _]

theorem half_lo (e : Fin 64) (h : e.val < 128) : half ⟨e.val, h⟩ = 0 := Fin.ext (by show e.val / 64 = 0; omega)
theorem lane_lo (e : Fin 64) (h : e.val < 128) : lane ⟨e.val, h⟩ = e := Fin.ext (by show e.val % 64 = e.val; omega)
theorem half_hi (e : Fin 64) (h : 64 + e.val < 128) : half ⟨64 + e.val, h⟩ = 1 := Fin.ext (by show (64 + e.val) / 64 = 1; omega)
theorem lane_hi (e : Fin 64) (h : 64 + e.val < 128) : lane ⟨64 + e.val, h⟩ = e := Fin.ext (by show (64 + e.val) % 64 = e.val; omega)

theorem sum_lo (A D : Fin 512 → Fin 128 → ℝ) (F : Fin 128 → ℝ) (r : Fin 512) : ∑ l : Fin 128, F l * lo D r l = ∑ e : Fin 64, F ⟨e.val, by omega⟩ * D r ⟨e.val, by omega⟩ := by
  rw [← sum_half0 fun l => F l * D r l]
  exact Finset.sum_congr rfl fun l _ => by unfold lo; split_ifs <;> simp

theorem sum_hi (F : Fin 128 → ℝ) (D : Fin 512 → Fin 128 → ℝ) (r : Fin 512) : ∑ l : Fin 128, F l * hi D r l = ∑ e : Fin 64, F ⟨64 + e.val, by omega⟩ * D r ⟨64 + e.val, by omega⟩ := by
  rw [← sum_half1 fun l => F l * D r l]
  exact Finset.sum_congr rfl fun l _ => by unfold hi; split_ifs <;> simp

theorem ds_lo (x : Fin 4352) (r : Fin 512) :
    dsb (Pb q k t 0) (Vb v t) (lo (Db g t)) (fun r => ∑ l : Fin 128, lo (fun r l => Db g t r l * Ob q k v t r l) r l) x r = Xb q k v g t 0 x r := by
  unfold dsb Xb dscore
  rw [sum_lo (fun _ _ => 0), ← delta_eq]
  have e := sum_half0 fun l => Db g t r l * Ob q k v t r l
  simp only [lo, e]
  simp only [Db, Vb, Ob, half_lo, lane_lo, Pb, dprob]
  simp only [mul_comm]

theorem ds_hi (x : Fin 4352) (r : Fin 512) :
    dsb (Pb q k t 1) (Vb v t) (hi (Db g t)) (fun r => ∑ l : Fin 128, hi (fun r l => Db g t r l * Ob q k v t r l) r l) x r = Xb q k v g t 1 x r := by
  unfold dsb Xb dscore
  rw [sum_hi, ← delta_eq]
  have e := sum_half1 fun l => Db g t r l * Ob q k v t r l
  simp only [hi, e]
  simp only [Db, Vb, Ob, half_hi, lane_hi, Pb, dprob]
  simp only [mul_comm]

theorem sum_mul_slot {n : ℕ} (f : Fin n → ℝ) (y : Fin n → Fin 96 → ℝ) (l : Fin 128) :
    ∑ i : Fin n, f i * slot (y i) l = slot (fun d => ∑ i : Fin n, f i * y i d) l := by
  unfold slot
  split_ifs <;> simp

theorem slot_mul (y : Fin 96 → ℝ) (s : ℝ) (l : Fin 128) : slot y l * s = slot (fun d => s * y d) l := by
  unfold slot
  split_ifs
  · ring
  · ring

theorem dqb_eq (r : Fin 512) (l : Fin 128) : dqb (Xb q k v g t b) (Kb k t b) r l = slot (dq q k v g (rw' t r) (hd t b)) l := by
  unfold dqb Xb Kb
  rw [sum_mul_slot, slot_mul]
  rfl

theorem unrot_slot (y : Fin 512 → Fin 96 → ℝ) (z : Fin 4096 → Fin 8 → Fin 96 → ℝ) (h : Fin 8) (r : Fin 512) (hz : ∀ d, z (rw' t r) h d = y r d) (l : Fin 128) :
    dqr (fun r => slot (y r)) (Cb co t) (Nb sn t) r l = slot (unrot co sn z (rw' t r) h) l := by
  unfold dqr
  by_cases h96 : l.val < 96
  · by_cases h64 : l.val < 64
    · have hb : ¬ (64 ≤ l.val ∧ l.val < 96) := by omega
      have hN : swap (fun l => slot (y r) l * Nb sn t r l) l = 0 := by
        unfold swap
        split_ifs with h8
        · have : ¬ (64 ≤ (l.val + 8) % 128 ∧ (l.val + 8) % 128 < 96) := by omega
          simp only [Nb, if_neg this, mul_zero]
        · have : ¬ (64 ≤ (l.val + 120) % 128 ∧ (l.val + 120) % 128 < 96) := by omega
          simp only [Nb, if_neg this, mul_zero]
      rw [hN]
      simp only [slot, unrot, dif_pos h96, if_pos h64, Cb, if_neg hb, hz]
      ring
    · have hb : 64 ≤ l.val ∧ l.val < 96 := by omega
      by_cases h8 : l.val % 16 < 8
      · have h9 : 64 ≤ (l.val + 8) % 128 ∧ (l.val + 8) % 128 < 96 := by omega
        have h10 : ¬ (l.val + 8) % 128 % 16 < 8 := by omega
        have e : (⟨(l.val + 8) % 128, h9.2⟩ : Fin 96) = ⟨(l.val + 8) % 96, by omega⟩ := Fin.ext (by show (l.val + 8) % 128 = (l.val + 8) % 96; omega)
        have e' : entry sn (rw' t r) ((l.val + 8) % 128) = entry sn (rw' t r) l.val := by
          unfold entry
          exact congr (congrArg (sn (rw' t r)) (Fin.ext (by show ((l.val + 8) % 128 - 64) / 16 % 2 = (l.val - 64) / 16 % 2; omega))) (Fin.ext (by show (l.val + 8) % 128 % 8 = l.val % 8; omega))
        simp only [slot, swap, unrot, Cb, Nb, dif_pos h96, if_neg h64, if_pos hb, if_pos h8, if_pos h9, dif_pos h9.2, if_neg h10, e, e', hz]
      · have h9 : 64 ≤ (l.val + 120) % 128 ∧ (l.val + 120) % 128 < 96 := by omega
        have h10 : (l.val + 120) % 128 % 16 < 8 := by omega
        have e : (⟨(l.val + 120) % 128, h9.2⟩ : Fin 96) = ⟨l.val - 8, by omega⟩ := Fin.ext (by show (l.val + 120) % 128 = l.val - 8; omega)
        have e' : entry sn (rw' t r) ((l.val + 120) % 128) = entry sn (rw' t r) l.val := by
          unfold entry
          exact congr (congrArg (sn (rw' t r)) (Fin.ext (by show ((l.val + 120) % 128 - 64) / 16 % 2 = (l.val - 64) / 16 % 2; omega))) (Fin.ext (by show (l.val + 120) % 128 % 8 = l.val % 8; omega))
        simp only [slot, swap, unrot, Cb, Nb, dif_pos h96, if_neg h64, if_pos hb, if_neg h8, if_pos h9, dif_pos h9.2, if_pos h10, e, e', hz]
        ring
  · have hN : swap (fun l => slot (y r) l * Nb sn t r l) l = 0 := by
      unfold swap
      split_ifs with h8
      · have : ¬ (l.val + 8) % 128 < 96 ∨ ¬ (64 ≤ (l.val + 8) % 128 ∧ (l.val + 8) % 128 < 96) := by omega
        rcases this with h | h
        · simp only [slot, dif_neg h, zero_mul]
        · simp only [Nb, if_neg h, mul_zero]
      · have : ¬ (l.val + 120) % 128 < 96 ∨ ¬ (64 ≤ (l.val + 120) % 128 ∧ (l.val + 120) % 128 < 96) := by omega
        rcases this with h | h
        · simp only [slot, dif_neg h, zero_mul]
        · simp only [Nb, if_neg h, mul_zero]
    rw [hN]
    simp only [slot, dif_neg h96, zero_mul, add_zero]

theorem dqr_eq (r : Fin 512) (l : Fin 128) : dqr (dqb (Xb q k v g t b) (Kb k t b)) (Cb co t) (Nb sn t) r l
    = slot (unrot co sn (dq q k v g) (rw' t r) (hd t b)) l := by
  rw [← unrot_slot co sn t (fun r => dq q k v g (rw' t r) (hd t b)) (dq q k v g) (hd t b) r (fun d => rfl) l]
  congr 1
  funext r l
  exact dqb_eq q k v g t b r l

end Cert.AttnIdeal.Host
end
-- ==== Proof.AttnPoint.lean ====
/- What each grid point of the attention gradient's kernel stores and adds, read at an index. -/
module

public import proofs.«01_k».proof.Proof.AttnReal

set_option maxRecDepth 16384

@[expose] public noncomputable section

open Idealize.ShloMosaic Idealize.ShloMosaic.TcCoe Idealize.SL.Sem
open Idealize.ShloMosaic.Pipeline (Dat)

namespace Cert.AttnIdeal.Host

open Cert.AttnIdeal Cert.AttnIdeal.Gen Cert.AttnSpec Cert.AttnIdeal.Pay

section
variable (m : (ℓ : Loc nD τ sig) → Buf (Elt Ideal) ℓ) (c : Dev nD) (t : Fin cfg0.N)

abbrev q0 : FVec Ideal S512x128 .bf16 := View.ld (iblk m c 0 t) (Rect.unit ![0, 0] ![512, 128] inb_S512x256_S512x128_0_0)
abbrev q1 : FVec Ideal S512x128 .bf16 := View.ld (iblk m c 0 t) (Rect.unit ![0, 128] ![512, 128] inb_S512x256_S512x128_0_128)
abbrev k0 : FVec Ideal S4352x128 .bf16 := View.ld (iblk m c 1 t) (Rect.unit ![0, 0] ![4352, 128] inb_S4352x256_S4352x128_0_0)
abbrev k1 : FVec Ideal S4352x128 .bf16 := View.ld (iblk m c 1 t) (Rect.unit ![0, 128] ![4352, 128] inb_S4352x256_S4352x128_0_128)
abbrev s0 : FVec Ideal S1x512 .f32 := View.ld (iblk m c 5 t) (Rect.unit ![0, 0] ![1, 512] inb_S8x512_S1x512_0_0)
abbrev s1 : FVec Ideal S1x512 .f32 := View.ld (iblk m c 5 t) (Rect.unit ![1, 0] ![1, 512] inb_S8x512_S1x512_1_0)
abbrev ds0 : FVec Ideal S4352x512 .bf16 := k0_pay19 (F := Ideal) (k0_pay8 (iblk m c 2 t)) (k0_pay15 (iblk m c 4 t)) (k0_pay16 (iblk m c 4 t) (iblk m c 3 t)) (k0_pay17 (q0 m c t) (k0 m c t) (s0 m c t))
abbrev ds1 : FVec Ideal S4352x512 .bf16 := k0_pay31 (F := Ideal) (k0_pay8 (iblk m c 2 t)) (k0_pay9 (iblk m c 4 t)) (k0_pay10 (iblk m c 4 t) (iblk m c 3 t)) k0_pay11 (q1 m c t) (k1 m c t) (s1 m c t)
abbrev dvs (acc : FVec Ideal S4352x128 .f32) : FVec Ideal S4352x128 .f32 := k0_pay1 (F := Ideal) (k0_pay32 (k0_pay9 (iblk m c 4 t)) (q1 m c t) (k1 m c t) (s1 m c t)
  (k0_pay20 (k0_pay15 (iblk m c 4 t)) (k0_pay17 (q0 m c t) (k0 m c t) (s0 m c t)) acc))
end

section
variable (q : Fin 4096 → Fin 8 → Fin 96 → ℝ) (k : Fin 4352 → Fin 8 → Fin 96 → ℝ) (v : Fin 4352 → Fin 8 → Fin 64 → ℝ)
    (g : Fin 4096 → Fin 8 → Fin 64 → ℝ) (t : Fin cfg0.N)
/-- What a point adds to the values' and to the keys' gradient. -/
def dvterm (x : Fin 4352) (l : Fin 128) : ℝ :=
  ∑ r : Fin 512, Pb q k t 0 x r * lo (Db g t) r l + ∑ r : Fin 512, Pb q k t 1 x r * hi (Db g t) r l
def dkterm (b : Fin 2) (x : Fin 4352) (l : Fin 128) : ℝ := ∑ r : Fin 512, Xb q k v g t b x r * Qb q t b r l
end

theorem ld_q0 (x : FVec Ideal S512x256 .bf16) (r : Fin 512) (l : Fin 128) :
    (View.ld (Val := Elt Ideal) (S := S512x256) (e' := .bf16) x (Rect.unit ![0, 0] ![512, 128] inb_S512x256_S512x128_0_0) : FVec Ideal S512x128 .bf16) (ix2 r l) = x (ix2 r ⟨l.val, by omega⟩) := by pointwise
theorem ld_q1 (x : FVec Ideal S512x256 .bf16) (r : Fin 512) (l : Fin 128) :
    (View.ld (Val := Elt Ideal) (S := S512x256) (e' := .bf16) x (Rect.unit ![0, 128] ![512, 128] inb_S512x256_S512x128_0_128) : FVec Ideal S512x128 .bf16) (ix2 r l) = x (ix2 r ⟨128 + l.val, by omega⟩) := by pointwise
theorem ld_k0 (x : FVec Ideal S4352x256 .bf16) (r : Fin 4352) (l : Fin 128) :
    (View.ld (Val := Elt Ideal) (S := S4352x256) (e' := .bf16) x (Rect.unit ![0, 0] ![4352, 128] inb_S4352x256_S4352x128_0_0) : FVec Ideal S4352x128 .bf16) (ix2 r l) = x (ix2 r ⟨l.val, by omega⟩) := by pointwise
theorem ld_k1 (x : FVec Ideal S4352x256 .bf16) (r : Fin 4352) (l : Fin 128) :
    (View.ld (Val := Elt Ideal) (S := S4352x256) (e' := .bf16) x (Rect.unit ![0, 128] ![4352, 128] inb_S4352x256_S4352x128_0_128) : FVec Ideal S4352x128 .bf16) (ix2 r l) = x (ix2 r ⟨128 + l.val, by omega⟩) := by pointwise
theorem ld_s0 (x : FVec Ideal S8x512 .f32) (r : Fin 512) :
    (View.ld (Val := Elt Ideal) (S := S8x512) (e' := .f32) x (Rect.unit ![0, 0] ![1, 512] inb_S8x512_S1x512_0_0) : FVec Ideal S1x512 .f32) (ix2 0 r) = x (ix2 0 r) := by pointwise
theorem ld_s1 (x : FVec Ideal S8x512 .f32) (r : Fin 512) :
    (View.ld (Val := Elt Ideal) (S := S8x512) (e' := .f32) x (Rect.unit ![1, 0] ![1, 512] inb_S8x512_S1x512_1_0) : FVec Ideal S1x512 .f32) (ix2 0 r) = x (ix2 1 r) := by pointwise

variable {m : (ℓ : Loc nD τ sig) → Buf (Elt Ideal) ℓ} {c : Dev nD}
variable {q : Fin 4096 → Fin 8 → Fin 96 → ℝ} {k : Fin 4352 → Fin 8 → Fin 96 → ℝ} {v : Fin 4352 → Fin 8 → Fin 64 → ℝ}
    {co sn : Fin 4096 → Fin 2 → Fin 8 → ℝ} {g : Fin 4096 → Fin 8 → Fin 64 → ℝ} (a : Args m c q k v co sn g)
variable {M : Fin 8 → Fin 4096 → ℝ} (hM : ∀ h s, (V m c main_v54 : FVec Ideal S8x4096x1 .f32) (ix3 h s 0) = ((M h s : ℝ) : EReal))
include a

theorem q0_at (t : Fin cfg0.N) (r : Fin 512) (l : Fin 128) : q0 m c t (ix2 r l) = ((Qb (rot co sn q) t 0 r l : ℝ) : EReal) := by
  exact (ld_q0 _ r l).trans (qblk a t 0 r l _ (by show l.val = 0 * 128 + l.val; omega))
theorem q1_at (t : Fin cfg0.N) (r : Fin 512) (l : Fin 128) : q1 m c t (ix2 r l) = ((Qb (rot co sn q) t 1 r l : ℝ) : EReal) := by
  exact (ld_q1 _ r l).trans (qblk a t 1 r l _ (by show 128 + l.val = 1 * 128 + l.val; omega))
theorem k0_at (t : Fin cfg0.N) (r : Fin 4352) (l : Fin 128) : k0 m c t (ix2 r l) = ((Kb k t 0 r l : ℝ) : EReal) := by
  exact (ld_k0 _ r l).trans (kblk a t 0 r l _ (by show l.val = 0 * 128 + l.val; omega))
theorem k1_at (t : Fin cfg0.N) (r : Fin 4352) (l : Fin 128) : k1 m c t (ix2 r l) = ((Kb k t 1 r l : ℝ) : EReal) := by
  exact (ld_k1 _ r l).trans (kblk a t 1 r l _ (by show 128 + l.val = 1 * 128 + l.val; omega))
include hM in
theorem s0_at (t : Fin cfg0.N) (r : Fin 512) : s0 m c t (ix2 0 r) = ((Sb (rot co sn q) k M t 0 r : ℝ) : EReal) := by
  exact (ld_s0 _ r).trans (sblk a hM t 0 r _ rfl)
include hM in
theorem s1_at (t : Fin cfg0.N) (r : Fin 512) : s1 m c t (ix2 0 r) = ((Sb (rot co sn q) k M t 1 r : ℝ) : EReal) := by
  exact (ld_s1 _ r).trans (sblk a hM t 1 r _ rfl)

include hM in
theorem p0_at (t : Fin cfg0.N) (x : Fin 4352) (r : Fin 512) : k0_pay18 (F := Ideal) (k0_pay17 (q0 m c t) (k0 m c t) (s0 m c t)) (ix2 x r)
    = ((Pb (rot co sn q) k t 0 x r : ℝ) : EReal) := by
  rw [pay18_at _ _ _ (q0_at a t) (k0_at a t) (s0_at a hM t), pb_eq]

include hM in
theorem p1_at (t : Fin cfg0.N) (x : Fin 4352) (r : Fin 512) : k0_pay30 (F := Ideal) (q1 m c t) (k1 m c t) (s1 m c t) (ix2 x r)
    = ((Pb (rot co sn q) k t 1 x r : ℝ) : EReal) := by
  rw [pay30_at _ _ _ (q1_at a t) (k1_at a t) (s1_at a hM t), pb_eq]

theorem v_at (t : Fin cfg0.N) (x : Fin 4352) (l : Fin 128) : k0_pay8 (F := Ideal) (iblk m c 2 t) (ix2 x l) = ((Vb v t x l : ℝ) : EReal) := by
  pointwise [k0_pay8]
  exact vblk a t x l

theorem d_at (t : Fin cfg0.N) (x : Fin 512) (l : Fin 128) : k0_pay9 (F := Ideal) (iblk m c 4 t) (ix2 x l) = ((Db g t x l : ℝ) : EReal) := by
  pointwise [k0_pay9]
  exact dblk a t x l

theorem dlo_at (t : Fin cfg0.N) (x : Fin 512) (l : Fin 128) : k0_pay15 (F := Ideal) (iblk m c 4 t) (ix2 x l) = ((lo (Db g t) x l : ℝ) : EReal) :=
  pay15_at _ (dblk a t) x l

include hM in
theorem ds0_at (t : Fin cfg0.N) (x : Fin 4352) (r : Fin 512) : ds0 m c t (ix2 x r) = ((Xb (rot co sn q) k v g t 0 x r : ℝ) : EReal) := by
  refine (pay19_at _ _ _ _ (v_at a t) (dlo_at a t) (pay16_at _ _ (dblk a t) (oblk a hM t)) (p0_at a hM t) x r).trans ?_
  exact congrArg _ (ds_lo _ k v g t x r)

include hM in
theorem ds1_at (t : Fin cfg0.N) (x : Fin 4352) (r : Fin 512) : ds1 m c t (ix2 x r) = ((Xb (rot co sn q) k v g t 1 x r : ℝ) : EReal) := by
  refine (pay31_at _ _ _ _ _ _ (v_at a t) (d_at a t) (pay10_at _ _ (dblk a t) (oblk a hM t)) (p1_at a hM t) x r).trans ?_
  exact congrArg _ (ds_hi _ k v g t x r)

include hM in
theorem dvs_at (t : Fin cfg0.N) (acc : FVec Ideal S4352x128 .f32) (x : Fin 4352) (l : Fin 128) :
    dvs m c t acc (ix2 x l) = acc (ix2 x l) + ((dvterm (rot co sn q) k g t x l : ℝ) : EReal) := by
  have e : dvs m c t acc (ix2 x l) = k0_pay32 (F := Ideal) (k0_pay9 (iblk m c 4 t)) (q1 m c t) (k1 m c t) (s1 m c t)
      (k0_pay20 (k0_pay15 (iblk m c 4 t)) (k0_pay17 (q0 m c t) (k0 m c t) (s0 m c t)) acc) (ix2 x l) := by
    unfold dvs
    generalize k0_pay32 (F := Ideal) _ _ _ _ _ = z
    pointwise [k0_pay1]
  rw [e, pay32_at _ _ _ _ _ (d_at a t) (p1_at a hM t), pay20_at _ _ _ (dlo_at a t) (p0_at a hM t), add_assoc, ← EReal.coe_add]
  rfl

include hM in
theorem dks0_at (t : Fin cfg0.N) (acc : FVec Ideal S4352x128 .f32) (x : Fin 4352) (l : Fin 128) :
    k0_pay21 (F := Ideal) (k0_pay8 (iblk m c 2 t)) (k0_pay12 (q0 m c t)) (k0_pay15 (iblk m c 4 t)) (k0_pay16 (iblk m c 4 t) (iblk m c 3 t))
      (k0_pay17 (q0 m c t) (k0 m c t) (s0 m c t)) acc (ix2 x l) = acc (ix2 x l) + ((dkterm (rot co sn q) k v g t 0 x l : ℝ) : EReal) := by
  rw [pay21_at _ _ _ _ _ _ (Q := Qb (rot co sn q) t 0) (fun r l => by pointwise [k0_pay12]; exact q0_at a t r l) (ds0_at a hM t)]
  rfl

include hM in
theorem dks1_at (t : Fin cfg0.N) (acc : FVec Ideal S4352x128 .f32) (x : Fin 4352) (l : Fin 128) :
    k0_pay2 (F := Ideal) (k0_pay26 (q1 m c t)) (ds1 m c t) acc (ix2 x l) = acc (ix2 x l) + ((dkterm (rot co sn q) k v g t 1 x l : ℝ) : EReal) := by
  rw [pay2_at _ _ _ (Q := Qb (rot co sn q) t 1) (fun r l => by pointwise [k0_pay26]; exact q1_at a t r l) (ds1_at a hM t)]
  rfl

include hM in
theorem dqs0_at (t : Fin cfg0.N) (r : Fin 512) (l : Fin 128) :
    k0_pay25 (F := Ideal) (k0_pay23 (k0_pay8 (iblk m c 2 t)) (k0_pay13 (k0 m c t)) (k0_pay15 (iblk m c 4 t)) (k0_pay16 (iblk m c 4 t) (iblk m c 3 t))
      (k0_pay17 (q0 m c t) (k0 m c t) (s0 m c t)) (X0_6 m c t))
      (k0_pay24 (k0_pay8 (iblk m c 2 t)) (k0_pay13 (k0 m c t)) (k0_pay15 (iblk m c 4 t)) (k0_pay16 (iblk m c 4 t) (iblk m c 3 t))
      (k0_pay17 (q0 m c t) (k0 m c t) (s0 m c t)) (X0_7 m c t)) (ix2 r l)
      = ((slot (unrot co sn (dq (rot co sn q) k v g) (rw' t r) (hd t 0)) l : ℝ) : EReal) := by
  rw [pay25_at _ _ _ _ _ _ _ (K := Kb k t 0) (fun r l => by pointwise [k0_pay13]; exact k0_at a t r l) (ds0_at a hM t) (cblk a t) (nblk a t)]
  exact congrArg _ (dqr_eq (rot co sn q) k v g co sn t 0 r l)

include hM in
theorem dqs1_at (t : Fin cfg0.N) (r : Fin 512) (l : Fin 128) :
    k0_pay3 (F := Ideal) (k0_pay27 (k1 m c t)) (ds1 m c t) (X0_6 m c t) (X0_7 m c t) (ix2 r l)
      = ((slot (unrot co sn (dq (rot co sn q) k v g) (rw' t r) (hd t 1)) l : ℝ) : EReal) := by
  rw [pay3_at _ _ _ _ (K := Kb k t 1) (fun r l => by pointwise [k0_pay27]; exact k1_at a t r l) (ds1_at a hM t) (cblk a t) (nblk a t)]
  exact congrArg _ (dqr_eq (rot co sn q) k v g co sn t 1 r l)

end Cert.AttnIdeal.Host
end
-- ==== Proof.AttnVal.lean ====
/- The three result arrays of the attention gradient's kernel. -/
module

public import proofs.«01_k».proof.Proof.AttnPoint
public import Idealize.ShloMosaic.Lib.Pipeline.ReadBack

set_option maxRecDepth 16384

@[expose] public noncomputable section

open Idealize.ShloMosaic Idealize.ShloMosaic.TcCoe Idealize.SL.Sem
open Idealize.ShloMosaic.Pipeline (Dat)

namespace Cert.AttnIdeal.Host

open Cert.AttnIdeal Cert.AttnIdeal.Gen Cert.AttnSpec Cert.AttnIdeal.Pay

/-- A column of 256 lanes: which of the two blocks of 128, and the lane there. -/
def top (n : Fin 256) : Fin 2 := ⟨n.val / 128, by omega⟩
def low (n : Fin 256) : Fin 128 := ⟨n.val % 128, by omega⟩

/-- Two column blocks side by side, read at an index. -/
theorem canonK (p0 p1 : FVec Ideal S4352x128 .f32) (f : Fin 2 → Fin 4352 → Fin 128 → EReal)
    (hp0 : ∀ r l, p0 (ix2 r l) = f 0 r l) (hp1 : ∀ r l, p1 (ix2 r l) = f 1 r l) (y : S4352x256.Idx) :
    View.canon (Val := Elt Ideal) (s := S4352x256) (e := .f32)
      [⟨Rect.unit ![0, 128] ![4352, 128] inb_S4352x256_S4352x128_0_128, p1⟩,
       ⟨Rect.unit ![0, 0] ![4352, 128] inb_S4352x256_S4352x128_0_0, p0⟩] y
      = f (top (y 1)) (y 0) (low (y 1)) := by
  idx_vars y
  canon_tiles x h
  all_goals
    idx_vars x
    have e0 : y0 = x0 := Fin.ext h0
    subst e0
  · refine (hp1 _ _).trans ?_
    have e : y1.val = 128 + x1.val := h1
    exact congr (congrFun (congrArg f (Fin.ext (by show 1 = y1.val / 128; omega))) y0) (Fin.ext (by show x1.val = y1.val % 128; omega))
  · refine (hp0 _ _).trans ?_
    have e : y1.val = x1.val := h1
    exact congr (congrFun (congrArg f (Fin.ext (by show 0 = y1.val / 128; omega))) y0) (Fin.ext (by show x1.val = y1.val % 128; omega))

/-- What lies under two pieces that cover an index is not read there. -/
theorem canon_under {S : Shape} {e : EltTy} (p1 p0 pz : View.Piece (Elt Ideal) S e) (y : S.Idx) (h : ∃ p ∈ [p1, p0], y ∈ p.1.set) :
    View.canon (Val := Elt Ideal) [p1, p0, pz] y = View.canon (Val := Elt Ideal) [p1, p0] y := by
  have h' : y ∈ p1.1.set ∨ y ∈ p0.1.set := by simpa using h
  by_cases m1 : y ∈ p1.1.set
  · obtain ⟨x, rfl⟩ := p1.1.exists_idx_of_mem m1
    exact (View.canon_cons_emb p1.1 p1.2 _ x).trans (View.canon_cons_emb p1.1 p1.2 _ x).symm
  · rw [View.canon_cons_of_not_mem p1 _ m1, View.canon_cons_of_not_mem p1 _ m1]
    obtain ⟨x, rfl⟩ := p0.1.exists_idx_of_mem (h'.resolve_left m1)
    exact (View.canon_cons_emb p0.1 p0.2 _ x).trans (View.canon_cons_emb p0.1 p0.2 _ x).symm

theorem canonZ (p0 p1 : FVec Ideal S4352x128 .f32) (z : FVec Ideal S4352x256 .f32) (f : Fin 2 → Fin 4352 → Fin 128 → EReal)
    (hp0 : ∀ r l, p0 (ix2 r l) = f 0 r l) (hp1 : ∀ r l, p1 (ix2 r l) = f 1 r l) (y : S4352x256.Idx) :
    View.canon (Val := Elt Ideal) (s := S4352x256) (e := .f32)
      [⟨Rect.unit ![0, 128] ![4352, 128] inb_S4352x256_S4352x128_0_128, p1⟩,
       ⟨Rect.unit ![0, 0] ![4352, 128] inb_S4352x256_S4352x128_0_0, p0⟩,
       ⟨Rect.unit ![0, 0] ![4352, 256] inb_S4352x256_S4352x256_0_0, z⟩] y
      = f (top (y 1)) (y 0) (low (y 1)) :=
  (canon_under _ _ _ y (View.cover_of_tiled_head (Val := Elt Ideal) (S := S4352x256) (e := .f32)
    (Rect.unit ![0, 128] ![4352, 128] inb_S4352x256_S4352x128_0_128) p1
    [⟨Rect.unit ![0, 0] ![4352, 128] inb_S4352x256_S4352x128_0_0, p0⟩] (by rfl) y)).trans (canonK p0 p1 f hp0 hp1 y)

theorem mem_tail {S : Shape} {e : EltTy} (R : Rect S) (w : R.shape.Idx → Elt Ideal e) (L : List (View.Piece (Elt Ideal) S e)) (y : S.Idx)
    (h : ∃ p ∈ L, y ∈ p.1.set) : ∃ p ∈ (⟨R, w⟩ : View.Piece (Elt Ideal) S e) :: L, y ∈ p.1.set :=
  h.elim fun o ho => ⟨o, List.mem_cons_of_mem _ ho.1, ho.2⟩

theorem read_zero0 (r : Fin 4352) (l : Fin 128) :
    (View.readCov (Val := Elt Ideal) (s := S4352x256) (e := .f32) (View.whole cc0_scratch0)
      [⟨Rect.unit ![0, 0] ![4352, 256] inb_S4352x256_S4352x256_0_0, k0_pay6 (F := Ideal)⟩]
      (Rect.toLoadRect (Rect.unit (s := S4352x256) ![0, 0] ![4352, 128] inb_S4352x256_S4352x128_0_0)) : FVec Ideal S4352x128 .f32) (ix2 r l) = (0 : EReal) := by
  rw [View.readCov_eq_canon']
  canon_tiles x h
  pointwise [k0_pay6]

theorem read_zero1 (p0 : FVec Ideal S4352x128 .f32) (r : Fin 4352) (l : Fin 128) :
    (View.readCov (Val := Elt Ideal) (s := S4352x256) (e := .f32) (View.whole cc0_scratch0)
      [⟨Rect.unit ![0, 0] ![4352, 128] inb_S4352x256_S4352x128_0_0, p0⟩,
       ⟨Rect.unit ![0, 0] ![4352, 256] inb_S4352x256_S4352x256_0_0, k0_pay6 (F := Ideal)⟩]
      (Rect.toLoadRect (Rect.unit (s := S4352x256) ![0, 128] ![4352, 128] inb_S4352x256_S4352x128_0_128)) : FVec Ideal S4352x128 .f32) (ix2 r l) = (0 : EReal) := by
  rw [View.readCov_eq_canon']
  obtain ⟨p, hp, hy⟩ := View.cover_of_tiled_head (Val := Elt Ideal) (S := S4352x256) (e := .f32)
    (Rect.unit ![0, 0] ![4352, 256] inb_S4352x256_S4352x256_0_0) (k0_pay6 (F := Ideal)) [] (by rfl)
    ((Rect.unit (s := S4352x256) ![0, 128] ![4352, 128] inb_S4352x256_S4352x128_0_128).idx (ix2 r l))
  have hc := mem_tail (Rect.unit (s := S4352x256) ![0, 0] ![4352, 128] inb_S4352x256_S4352x128_0_0) p0 _ _ ⟨p, hp, hy⟩
  canon_tiles x h using hc
  · have e : 128 + 1 * l.val = (x 1).val := h1
    exact absurd x1_lt (by omega)
  · idx_vars x
    pointwise [k0_pay6]

theorem read_whole (L : List (View.Piece (Elt Ideal) S4352x256 .f32)) (x : Fin 4352) (n : Fin 256) :
    (View.readCov (Val := Elt Ideal) (s := S4352x256) (e := .f32) (View.whole cc0_scratch0) L
      (Rect.toLoadRect (Rect.unit (s := S4352x256) ![0, 0] ![4352, 256] inb_S4352x256_S4352x256_0_0)) : FVec Ideal S4352x256 .f32) (ix2 x n)
      = View.canon L (ix2 x n) := by
  rw [View.readCov_eq_canon']
  refine congrArg (View.canon L) (funext fun a => Fin.ext ?_)
  fin_cases a <;> exact (Nat.zero_add _).trans (Nat.one_mul _)

theorem scaled_at (L : List (View.Piece (Elt Ideal) S4352x256 .f32)) (x : Fin 4352) (n : Fin 256) :
    k0_pay4 (View.readCov (Val := Elt Ideal) (s := S4352x256) (e := .f32) (View.whole cc0_scratch0) L
      (Rect.toLoadRect (Rect.unit (s := S4352x256) ![0, 0] ![4352, 256] inb_S4352x256_S4352x256_0_0)) : FVec Ideal S4352x256 .f32) (ix2 x n)
      = @HMul.hMul EReal EReal EReal _ (View.canon L (ix2 x n)) ((scale : ℝ) : EReal) :=
  (pay4_at _ x n).trans (congrArg (fun z : EReal => @HMul.hMul EReal EReal EReal _ z _) (read_whole L x n))

theorem narrow_at (x : FVec Ideal S4352x128 .f32) (i : S4352x128.Idx) : (k0_pay5 x : FVec Ideal S4352x128 .bf16) i = (x i : EReal) := by
  idx_vars i
  pointwise [k0_pay5]

theorem ld_acc0 (x : FVec Ideal S4352x256 .f32) (r : Fin 4352) (l : Fin 128) :
    View.ld (Val := Elt Ideal) (S := S4352x256) (e' := .f32) x (Rect.unit ![0, 0] ![4352, 128] inb_S4352x256_S4352x128_0_0) (ix2 r l)
      = x (ix2 r ⟨l.val, by omega⟩) := by
  pointwise

theorem ld_acc1 (x : FVec Ideal S4352x256 .f32) (r : Fin 4352) (l : Fin 128) :
    View.ld (Val := Elt Ideal) (S := S4352x256) (e' := .f32) x (Rect.unit ![0, 128] ![4352, 128] inb_S4352x256_S4352x128_0_128) (ix2 r l)
      = x (ix2 r ⟨128 + l.val, by omega⟩) := by
  pointwise

theorem canonQ (p0 p1 : FVec Ideal S512x128 .bf16) (f : Fin 2 → Fin 512 → Fin 128 → EReal)
    (hp0 : ∀ r l, p0 (ix2 r l) = f 0 r l) (hp1 : ∀ r l, p1 (ix2 r l) = f 1 r l) (y : S512x256.Idx) :
    View.canon (Val := Elt Ideal) (s := S512x256) (e := .bf16)
      [⟨Rect.unit ![0, 128] ![512, 128] inb_S512x256_S512x128_0_128, p1⟩,
       ⟨Rect.unit ![0, 0] ![512, 128] inb_S512x256_S512x128_0_0, p0⟩] y
      = f (top (y 1)) (y 0) (low (y 1)) := by
  idx_vars y
  canon_tiles x h
  all_goals
    idx_vars x
    have e0 : y0 = x0 := Fin.ext h0
    subst e0
  · refine (hp1 _ _).trans ?_
    have e : y1.val = 128 + x1.val := h1
    exact congr (congrFun (congrArg f (Fin.ext (by show 1 = y1.val / 128; omega))) y0) (Fin.ext (by show x1.val = y1.val % 128; omega))
  · refine (hp0 _ _).trans ?_
    have e : y1.val = x1.val := h1
    exact congr (congrFun (congrArg f (Fin.ext (by show 0 = y1.val / 128; omega))) y0) (Fin.ext (by show x1.val = y1.val % 128; omega))

theorem col0 {b : Fin 2} (l : Fin 128) (hb : b = 0) : (⟨l.val, by omega⟩ : Fin 256) = ⟨128 * b.val + l.val, by omega⟩ := by
  subst hb; exact Fin.ext (by simp)

theorem col1 {b : Fin 2} (l : Fin 128) (hb : b = 1) : (⟨128 + l.val, by omega⟩ : Fin 256) = ⟨128 * b.val + l.val, by omega⟩ := by
  subst hb; exact Fin.ext (by simp)

/-- The accumulator of the key gradient after one more point, from what it held. -/
def after (X : FVec Ideal S4352x256 .f32) (F : Fin 2 → Fin 4352 → Fin 128 → ℝ) (b : Fin 2) (r : Fin 4352) (l : Fin 128) : EReal :=
  @HAdd.hAdd EReal EReal EReal _ (X (ix2 r ⟨128 * b.val + l.val, by omega⟩)) ((F b r l : ℝ) : EReal)

theorem after_at (X : FVec Ideal S4352x256 .f32) (F : Fin 2 → Fin 4352 → Fin 128 → ℝ) (r : Fin 4352) (n : Fin 256) :
    after X F (top n) r (low n) = @HAdd.hAdd EReal EReal EReal _ (X (ix2 r n)) ((F (top n) r (low n) : ℝ) : EReal) := by
  unfold after
  have e : (⟨128 * (top n).val + (low n).val, by have := (top n).isLt; have := (low n).isLt; omega⟩ : Fin 256) = n :=
    Fin.ext (by show 128 * (n.val / 128) + n.val % 128 = n.val; omega)
  rw [e]

theorem acc0 (X : FVec Ideal S4352x256 .f32) (F : Fin 2 → Fin 4352 → Fin 128 → ℝ) (p : FVec Ideal S4352x128 .f32) (r : Fin 4352) (l : Fin 128)
    (h : p (ix2 r l) = @HAdd.hAdd EReal EReal EReal _ ((View.ld (Val := Elt Ideal) (S := S4352x256) (e' := .f32) X (Rect.unit ![0, 0] ![4352, 128] inb_S4352x256_S4352x128_0_0) : FVec Ideal S4352x128 .f32) (ix2 r l)) ((F 0 r l : ℝ) : EReal)) :
    p (ix2 r l) = after X F 0 r l :=
  h.trans (congrArg (fun z : EReal => @HAdd.hAdd EReal EReal EReal _ z _) ((ld_acc0 X r l).trans (congrArg (fun n => X (ix2 r n)) (col0 l rfl))))

theorem acc1 (X : FVec Ideal S4352x256 .f32) (F : Fin 2 → Fin 4352 → Fin 128 → ℝ) (p : FVec Ideal S4352x128 .f32) (r : Fin 4352) (l : Fin 128)
    (h : p (ix2 r l) = @HAdd.hAdd EReal EReal EReal _ ((View.ld (Val := Elt Ideal) (S := S4352x256) (e' := .f32) X (Rect.unit ![0, 128] ![4352, 128] inb_S4352x256_S4352x128_0_128) : FVec Ideal S4352x128 .f32) (ix2 r l)) ((F 1 r l : ℝ) : EReal)) :
    p (ix2 r l) = after X F 1 r l :=
  h.trans (congrArg (fun z : EReal => @HAdd.hAdd EReal EReal EReal _ z _) ((ld_acc1 X r l).trans (congrArg (fun n => X (ix2 r n)) (col1 l rfl))))

variable {m : (ℓ : Loc nD τ sig) → Buf (Elt Ideal) ℓ} {c : Dev nD}
variable {q : Fin 4096 → Fin 8 → Fin 96 → ℝ} {k : Fin 4352 → Fin 8 → Fin 96 → ℝ} {v : Fin 4352 → Fin 8 → Fin 64 → ℝ}
    {co sn : Fin 4096 → Fin 2 → Fin 8 → ℝ} {g : Fin 4096 → Fin 8 → Fin 64 → ℝ} (a : Args m c q k v co sn g)
variable {M : Fin 8 → Fin 4096 → ℝ} (hM : ∀ h s, (V m c main_v54 : FVec Ideal S8x4096x1 .f32) (ix3 h s 0) = ((M h s : ℝ) : EReal))
include a hM

theorem dq_pt (t : Fin cfg0.N) (j : S512x256.Idx) :
    (outsAt0 m c t.val t.isLt).1 j = ((slot (unrot co sn (dq (rot co sn q) k v g) (rw' t (j 0)) (hd t (top (j 1)))) (low (j 1)) : ℝ) : EReal) := by
  by_cases e0 : t.val % 8 = 0
  · rw [outsAt0_A m c t e0 (by omega)]
    frame_out
    exact canonQ _ _ (fun b r l => ((slot (unrot co sn (dq (rot co sn q) k v g) (rw' t r) (hd t b)) l : ℝ) : EReal)) (dqs0_at a hM t) (dqs1_at a hM t) j
  · by_cases e7 : t.val % 8 = 7
    · rw [outsAt0_C m c t e0 e7]
      frame_out
      exact canonQ _ _ (fun b r l => ((slot (unrot co sn (dq (rot co sn q) k v g) (rw' t r) (hd t b)) l : ℝ) : EReal)) (dqs0_at a hM t) (dqs1_at a hM t) j
    · rw [outsAt0_B m c t e0 e7]
      frame_out
      exact canonQ _ _ (fun b r l => ((slot (unrot co sn (dq (rot co sn q) k v g) (rw' t r) (hd t b)) l : ℝ) : EReal)) (dqs0_at a hM t) (dqs1_at a hM t) j

theorem dv_reset (t : Fin cfg0.N) (e0 : t.val % 8 = 0) (j : S4352x128.Idx) :
    (outsAt0 m c t.val t.isLt).2.2.2.2 j = @HAdd.hAdd EReal EReal EReal _ 0 ((dvterm (rot co sn q) k g t (j 0) (j 1) : ℝ) : EReal) := by
  rw [outsAt0_A m c t e0 (by omega)]
  frame_out
  idx_vars j
  refine (dvs_at a hM t k0_pay7 j0 j1).trans ?_
  refine congrArg (· + _) ?_
  pointwise [k0_pay7]

theorem dv_step (t : Fin cfg0.N) (e0 : ¬ t.val % 8 = 0) (j : S4352x128.Idx) :
    (outsAt0 m c t.val t.isLt).2.2.2.2 j
      = @HAdd.hAdd EReal EReal EReal _ ((outsAt0 m c (t.val - 1) (Nat.lt_of_le_of_lt (Nat.sub_le _ _) t.isLt)).2.2.2.2 j) ((dvterm (rot co sn q) k g t (j 0) (j 1) : ℝ) : EReal) := by
  by_cases e7 : t.val % 8 = 7
  · rw [outsAt0_C m c t e0 e7]
    frame_out
    simp only [read_unread_whole]
    idx_vars j
    exact dvs_at a hM t _ j0 j1
  · rw [outsAt0_B m c t e0 e7]
    frame_out
    simp only [read_unread_whole]
    idx_vars j
    exact dvs_at a hM t _ j0 j1

theorem dk_reset (t : Fin cfg0.N) (e0 : t.val % 8 = 0) (j : S4352x256.Idx) :
    (outsAt0 m c t.val t.isLt).2.2.2.1 j = @HAdd.hAdd EReal EReal EReal _ 0 ((dkterm (rot co sn q) k v g t (top (j 1)) (j 0) (low (j 1)) : ℝ) : EReal) := by
  rw [outsAt0_A m c t e0 (by omega)]
  frame_out
  exact canonZ _ _ _ (fun b r l => @HAdd.hAdd EReal EReal EReal _ 0 ((dkterm (rot co sn q) k v g t b r l : ℝ) : EReal))
    (fun r l => (dks0_at a hM t _ r l).trans (congrArg (fun z : EReal => @HAdd.hAdd EReal EReal EReal _ z _) (read_zero0 r l)))
    (fun r l => (dks1_at a hM t _ r l).trans (congrArg (fun z : EReal => @HAdd.hAdd EReal EReal EReal _ z _) (read_zero1 _ r l))) j

theorem dk_step (t : Fin cfg0.N) (e0 : ¬ t.val % 8 = 0) (j : S4352x256.Idx) :
    (outsAt0 m c t.val t.isLt).2.2.2.1 j
      = @HAdd.hAdd EReal EReal EReal _ ((outsAt0 m c (t.val - 1) (Nat.lt_of_le_of_lt (Nat.sub_le _ _) t.isLt)).2.2.2.1 j) ((dkterm (rot co sn q) k v g t (top (j 1)) (j 0) (low (j 1)) : ℝ) : EReal) := by
  idx_vars j
  refine Eq.trans ?_ (after_at _ (dkterm (rot co sn q) k v g t) j0 j1)
  by_cases e7 : t.val % 8 = 7
  · rw [outsAt0_C m c t e0 e7]
    frame_out
    simp only [read_unread_whole]
    exact canonK _ _ (after _ (dkterm (rot co sn q) k v g t)) (fun r l => acc0 _ _ _ r l (dks0_at a hM t _ r l)) (fun r l => acc1 _ _ _ r l (dks1_at a hM t _ r l)) (ix2 j0 j1)
  · rw [outsAt0_B m c t e0 e7]
    frame_out
    simp only [read_unread_whole]
    exact canonK _ _ (after _ (dkterm (rot co sn q) k v g t)) (fun r l => acc0 _ _ _ r l (dks0_at a hM t _ r l)) (fun r l => acc1 _ _ _ r l (dks1_at a hM t _ r l)) (ix2 j0 j1)

/-! ## The sums over the row blocks -/

omit a hM in
theorem rw_eq (p : ℕ) (s : Fin 8) (r : Fin 512) (h : 8 * p + s.val < cfg0.N) :
    rw' ⟨8 * p + s.val, h⟩ r = ⟨s.val * 512 + r.val, by omega⟩ :=
  Fin.ext (by show 512 * ((8 * p + s.val) % 8) + r.val = s.val * 512 + r.val; omega)

omit a hM in
theorem hd_eq (t : Fin cfg0.N) (s : Fin 8) (b : Fin 2) (h : 8 * (t.val / 8) + s.val < cfg0.N) :
    hd ⟨8 * (t.val / 8) + s.val, h⟩ b = hd t b :=
  Fin.ext (by show 2 * ((8 * (t.val / 8) + s.val) / 8) + b.val = 2 * (t.val / 8) + b.val; omega)

omit a hM in
theorem dk_sum (Q : Fin 4096 → Fin 8 → Fin 96 → ℝ) (t : Fin cfg0.N) (hr : ∀ s : Fin 8, 8 * (t.val / 8) + s.val < cfg0.N) (b : Fin 2) (x : Fin 4352) (l : Fin 128) :
    (∑ s : Fin 8, dkterm Q k v g ⟨8 * (t.val / 8) + s.val, hr s⟩ b x l) * scale = slot (dk Q k v g x (hd t b)) l := by
  unfold dk
  rw [← slot_mul, ← sum_mul_slot]
  refine congrArg (· * scale) ?_
  refine Fin.sum_mul_add_congr (f := fun i : Fin 4096 => dscore Q k v g (hd t b) i x * slot (Q i (hd t b)) l) fun s r hl => ?_
  simp only [Xb, Qb, rw_eq, hd_eq]

omit a hM in
theorem dv_sum (Q : Fin 4096 → Fin 8 → Fin 96 → ℝ) (t : Fin cfg0.N) (hr : ∀ s : Fin 8, 8 * (t.val / 8) + s.val < cfg0.N) (x : Fin 4352) (l : Fin 128) :
    (∑ s : Fin 8, dvterm Q k g ⟨8 * (t.val / 8) + s.val, hr s⟩ x l) = dv Q k g x (hd t (half l)) (lane l) := by
  unfold dv
  simp only [dvterm, ← Finset.sum_add_distrib]
  refine Fin.sum_mul_add_congr (f := fun i : Fin 4096 => prob Q k (hd t (half l)) i x * g i (hd t (half l)) (lane l)) fun s r hl => ?_
  simp only [Pb, rw_eq, hd_eq, lo, hi, Db]
  by_cases hl' : l.val < 64
  · have e : half l = 0 := Fin.ext (by show l.val / 64 = 0; omega)
    rw [if_pos hl', if_neg (by omega), e]
    ring
  · have e : half l = 1 := Fin.ext (by show l.val / 64 = 1; omega)
    rw [if_neg hl', if_pos (by omega), e]
    ring

/-! ## The carried accumulators at a head pair's last point -/

theorem dk_acc (t : Fin cfg0.N) (hr : t.val % 8 = 7) (j : S4352x256.Idx) :
    (outsAt0 m c t.val t.isLt).2.2.2.1 j
      = ((∑ s : Fin 8, dkterm (rot co sn q) k v g ⟨8 * (t.val / 8) + s.val, Pipeline.run_point_lt_of_flush t hr s⟩ (top (j 1)) (j 0) (low (j 1)) : ℝ) : EReal) := by
  rw [Pipeline.eq_sum_fin_of_reset_step_apply_of_flush (fun n h => (outsAt0 m c n h).2.2.2.1) 8 (fun _ => (0 : EReal))
    (fun t j => ((dkterm (rot co sn q) k v g t (top (j 1)) (j 0) (low (j 1)) : ℝ) : EReal)) (dk_reset a hM) (dk_step a hM) t hr j]
  rw [coe_sum]
  exact zero_add _

theorem dv_acc (t : Fin cfg0.N) (hr : t.val % 8 = 7) (j : S4352x128.Idx) :
    (outsAt0 m c t.val t.isLt).2.2.2.2 j
      = ((∑ s : Fin 8, dvterm (rot co sn q) k g ⟨8 * (t.val / 8) + s.val, Pipeline.run_point_lt_of_flush t hr s⟩ (j 0) (j 1) : ℝ) : EReal) := by
  rw [Pipeline.eq_sum_fin_of_reset_step_apply_of_flush (fun n h => (outsAt0 m c n h).2.2.2.2) 8 (fun _ => (0 : EReal))
    (fun t j => ((dvterm (rot co sn q) k g t (j 0) (j 1) : ℝ) : EReal)) (dv_reset a hM) (dv_step a hM) t hr j]
  rw [coe_sum]
  exact zero_add _

omit a hM in
/-- What the last point writes out is what it leaves in the accumulators. -/
theorem dk_out (t : Fin cfg0.N) (hr : t.val % 8 = 7) (x : Fin 4352) (n : Fin 256) :
    (outsAt0 m c t.val t.isLt).2.1 (ix2 x n)
      = @HMul.hMul EReal EReal EReal _ ((outsAt0 m c t.val t.isLt).2.2.2.1 (ix2 x n)) ((scale : ℝ) : EReal) := by
  rw [outsAt0_C m c t (by omega) hr]
  frame_out
  exact scaled_at _ x n

omit a hM in
theorem dv_out (t : Fin cfg0.N) (hr : t.val % 8 = 7) (x : Fin 4352) (l : Fin 128) :
    (outsAt0 m c t.val t.isLt).2.2.1 (ix2 x l) = (outsAt0 m c t.val t.isLt).2.2.2.2 (ix2 x l) := by
  rw [outsAt0_C m c t (by omega) hr]
  frame_out
  exact narrow_at _ (ix2 x l)

/-! ## The result arrays -/

def headK (n : Fin 1024) : Fin 8 := ⟨n.val / 128, by omega⟩
def lowK (n : Fin 1024) : Fin 128 := ⟨n.val % 128, by omega⟩
def headV (n : Fin 512) : Fin 8 := ⟨n.val / 64, by omega⟩
def lowV (n : Fin 512) : Fin 64 := ⟨n.val % 64, by omega⟩

/-- The three gradients as they are laid out: a head's lanes side by side. -/
def outQ (q : Fin 4096 → Fin 8 → Fin 96 → ℝ) (k : Fin 4352 → Fin 8 → Fin 96 → ℝ) (v : Fin 4352 → Fin 8 → Fin 64 → ℝ)
    (co sn : Fin 4096 → Fin 2 → Fin 8 → ℝ) (g : Fin 4096 → Fin 8 → Fin 64 → ℝ) : S4096x1024.Idx → EReal :=
  fun y => ((slot (unrot co sn (dq (rot co sn q) k v g) (y 0) (headK (y 1))) (lowK (y 1)) : ℝ) : EReal)
def outK (q : Fin 4096 → Fin 8 → Fin 96 → ℝ) (k : Fin 4352 → Fin 8 → Fin 96 → ℝ) (v : Fin 4352 → Fin 8 → Fin 64 → ℝ)
    (co sn : Fin 4096 → Fin 2 → Fin 8 → ℝ) (g : Fin 4096 → Fin 8 → Fin 64 → ℝ) : S4352x1024.Idx → EReal :=
  fun y => ((slot (dk (rot co sn q) k v g (y 0) (headK (y 1))) (lowK (y 1)) : ℝ) : EReal)
def outV (q : Fin 4096 → Fin 8 → Fin 96 → ℝ) (k : Fin 4352 → Fin 8 → Fin 96 → ℝ)
    (co sn : Fin 4096 → Fin 2 → Fin 8 → ℝ) (g : Fin 4096 → Fin 8 → Fin 64 → ℝ) : S4352x512.Idx → EReal :=
  fun y => ((dv (rot co sn q) k g (y 0) (headV (y 1)) (lowV (y 1)) : ℝ) : EReal)

theorem final8 : (dats m 0 c).arrAt 8 (cfgs 0).N = outQ q k v co sn g := by
  refine (dats m 0 c).arrAt_eq_of_covers 8 _ (by decide +kernel) fun t hf y => ?_
  have ht := (idx t).2.2.2.2.2.2.2.2.2.2.2
  blk_simp
  rw [after0_8]
  have e0 : (((View.whole main_v85_0).slice (win0_8.rect t)).emb y 0).val = t.val % 8 * 512 + (y 0).val := by blk_simp [idx t]
  have e1 : (((View.whole main_v85_0).slice (win0_8.rect t)).emb y 1).val = t.val / 8 * 256 + (y 1).val := by blk_simp [idx t]
  refine (dq_pt a hM t y).trans ?_
  unfold outQ
  generalize (((View.whole main_v85_0).slice (win0_8.rect t)).emb y) = j at e0 e1
  idx_vars y
  idx_vars j
  have e0 : j0.val = t.val % 8 * 512 + y0.val := e0
  have e1 : j1.val = t.val / 8 * 256 + y1.val := e1
  have hy : y1.val < 256 := y1.isLt
  show ((slot (unrot co sn (dq (rot co sn q) k v g) (rw' t y0) (hd t (top y1))) (low y1) : ℝ) : EReal)
    = ((slot (unrot co sn (dq (rot co sn q) k v g) j0 (headK j1)) (lowK j1) : ℝ) : EReal)
  have r0 : rw' t y0 = j0 := Fin.ext (by show 512 * (t.val % 8) + y0.val = j0.val; omega)
  have r1 : hd t (top y1) = headK j1 := Fin.ext (by show 2 * (t.val / 8) + y1.val / 128 = j1.val / 128; omega)
  have r2 : low y1 = lowK j1 := Fin.ext (by show y1.val % 128 = j1.val % 128; omega)
  rw [r0, r1, r2]

theorem final9 : (dats m 0 c).arrAt 9 (cfgs 0).N = outK q k v co sn g := by
  refine (dats m 0 c).arrAt_eq_of_covers 9 _ (by decide +kernel) fun t hf y => ?_
  have ht := (idx t).2.2.2.2.2.2.2.2.2.2.2
  have hr : t.val % 8 = 7 := (flush0_9 t).mp hf
  blk_simp
  rw [after0_9]
  have e0 : (((View.whole main_v85_1).slice (win0_9.rect t)).emb y 0).val = (y 0).val := by blk_simp [idx t]
  have e1 : (((View.whole main_v85_1).slice (win0_9.rect t)).emb y 1).val = t.val / 8 * 256 + (y 1).val := by blk_simp [idx t]
  unfold outK
  generalize (((View.whole main_v85_1).slice (win0_9.rect t)).emb y) = j at e0 e1
  idx_vars y
  idx_vars j
  refine (dk_out t hr y0 y1).trans ((congrArg (fun z : EReal => @HMul.hMul EReal EReal EReal _ z _) (dk_acc a hM t hr (ix2 y0 y1))).trans ?_)
  have e0 : j0 = y0 := Fin.ext e0
  have e1 : j1.val = t.val / 8 * 256 + y1.val := e1
  have hy : y1.val < 256 := y1.isLt
  subst e0
  refine (EReal.coe_mul _ _).symm.trans (congrArg Real.toEReal ?_)
  refine (dk_sum (rot co sn q) t _ (top y1) j0 (low y1)).trans ?_
  have r1 : hd t (top y1) = headK j1 := Fin.ext (by show 2 * (t.val / 8) + y1.val / 128 = j1.val / 128; omega)
  have r2 : low y1 = lowK j1 := Fin.ext (by show y1.val % 128 = j1.val % 128; omega)
  rw [r1, r2]

theorem final10 : (dats m 0 c).arrAt 10 (cfgs 0).N = outV q k co sn g := by
  refine (dats m 0 c).arrAt_eq_of_covers 10 _ (by decide +kernel) fun t hf y => ?_
  have ht := (idx t).2.2.2.2.2.2.2.2.2.2.2
  have hr : t.val % 8 = 7 := (flush0_10 t).mp hf
  blk_simp
  rw [after0_10]
  have e0 : (((View.whole main_v85_2).slice (win0_10.rect t)).emb y 0).val = (y 0).val := by blk_simp [idx t]
  have e1 : (((View.whole main_v85_2).slice (win0_10.rect t)).emb y 1).val = t.val / 8 * 128 + (y 1).val := by blk_simp [idx t]
  unfold outV
  generalize (((View.whole main_v85_2).slice (win0_10.rect t)).emb y) = j at e0 e1
  idx_vars y
  idx_vars j
  refine (dv_out t hr y0 y1).trans ((dv_acc a hM t hr (ix2 y0 y1)).trans ?_)
  have e0 : j0 = y0 := Fin.ext e0
  have e1 : j1.val = t.val / 8 * 128 + y1.val := e1
  have hy : y1.val < 128 := y1.isLt
  subst e0
  refine congrArg Real.toEReal ?_
  refine (dv_sum (rot co sn q) t _ j0 y1).trans ?_
  have r1 : hd t (half y1) = headV j1 := Fin.ext (by show 2 * (t.val / 8) + y1.val / 64 = j1.val / 64; omega)
  have r2 : lane y1 = lowV j1 := Fin.ext (by show y1.val % 64 = j1.val % 64; omega)
  rw [r1, r2]

end Cert.AttnIdeal.Host
end
-- ==== Proof.AttnRefVal.lean ====
/- The reference's three gradients of the attention. -/
module

public import proofs.«01_k».proof.Proof.Gen.AttnRefIdeal.Run
public import proofs.«01_k».proof.Proof.Gen.AttnRefIdeal.Read
public import proofs.«01_k».proof.Proof.AttnVal

set_option maxRecDepth 16384

@[expose] public noncomputable section

open Idealize.ShloMosaic Idealize.ShloMosaic.TcCoe Idealize.SL.Sem

namespace Cert.AttnRefIdeal.Val

open Cert.AttnRefIdeal Cert.AttnRefIdeal.Gen Cert.AttnRefIdeal.Read Cert.AttnSpec
open Cert.AttnIdeal.Pay (sum_coe)
open Cert.AttnIdeal.Host (root_at entry_at ofBits_bottom)

/-- The reference's arguments are these reals. -/
structure Reals (X0 : FVec Ideal S1x4096x8x96 .f32) (X1 : FVec Ideal S1x4352x8x96 .f32) (X2 : FVec Ideal S1x4352x8x64 .f32)
    (X3 X4 : FVec Ideal S4096x1x2x8 .f32) (X5 : FVec Ideal S1x4096x1024 .f32)
    (q : Fin 4096 → Fin 8 → Fin 96 → ℝ) (k : Fin 4352 → Fin 8 → Fin 96 → ℝ) (v : Fin 4352 → Fin 8 → Fin 64 → ℝ)
    (co sn : Fin 4096 → Fin 2 → Fin 8 → ℝ) (g : Fin 4096 → Fin 8 → Fin 64 → ℝ) : Prop where
  hq : ∀ s h d, X0 (ix4 0 s h d) = ((q s h d : ℝ) : EReal)
  hk : ∀ s h d, X1 (ix4 0 s h d) = ((k s h d : ℝ) : EReal)
  hv : ∀ s h d, X2 (ix4 0 s h d) = ((v s h d : ℝ) : EReal)
  hc : ∀ s a f, X3 (ix4 s 0 a f) = ((co s a f : ℝ) : EReal)
  hn : ∀ s a f, X4 (ix4 s 0 a f) = ((sn s a f : ℝ) : EReal)
  hg : ∀ s (h : Fin 8) (e : Fin 64), X5 (ix3 0 s ⟨h.val * 64 + e.val, by omega⟩) = ((g s h e : ℝ) : EReal)

variable {X0 : FVec Ideal S1x4096x8x96 .f32} {X1 : FVec Ideal S1x4352x8x96 .f32} {X2 : FVec Ideal S1x4352x8x64 .f32}
  {X3 X4 : FVec Ideal S4096x1x2x8 .f32} {X5 : FVec Ideal S1x4096x1024 .f32}
  {q : Fin 4096 → Fin 8 → Fin 96 → ℝ} {k : Fin 4352 → Fin 8 → Fin 96 → ℝ} {v : Fin 4352 → Fin 8 → Fin 64 → ℝ}
  {co sn : Fin 4096 → Fin 2 → Fin 8 → ℝ} {g : Fin 4096 → Fin 8 → Fin 64 → ℝ} (a : Reals X0 X1 X2 X3 X4 X5 q k v co sn g)
include a

omit a in
theorem turn_sub {f : Fin 96 → ℝ} {u w : Fin 2 → Fin 8 → ℝ} {d d' n n' : Fin 96} {b b' : Fin 2} {e e' : Fin 8} (h1 : d = d') (h2 : n = n') (h3 : b = b') (h4 : e = e') :
    (f d : EReal) * (u b e : EReal) - (f n : EReal) * (w b e : EReal) = ((f d' * u b' e' - f n' * w b' e' : ℝ) : EReal) := by
  subst h1 h2 h3 h4; rfl

omit a in
theorem turn_add {f : Fin 96 → ℝ} {u w : Fin 2 → Fin 8 → ℝ} {d d' n n' : Fin 96} {b b' : Fin 2} {e e' : Fin 8} (h1 : d = d') (h2 : n = n') (h3 : b = b') (h4 : e = e') :
    (f d : EReal) * (u b e : EReal) + (f n : EReal) * (w b e : EReal) = ((f d' * u b' e' + f n' * w b' e' : ℝ) : EReal) := by
  subst h1 h2 h3 h4; rfl

omit a in
theorem turn_neg {f : Fin 96 → ℝ} {u w : Fin 2 → Fin 8 → ℝ} {d d' n n' : Fin 96} {b b' : Fin 2} {e e' : Fin 8} (h1 : d = d') (h2 : n = n') (h3 : b = b') (h4 : e = e') :
    (f d : EReal) * (u b e : EReal) + -(f n : EReal) * (w b e : EReal) = ((f d' * u b' e' - f n' * w b' e' : ℝ) : EReal) := by
  subst h1 h2 h3 h4
  rw [← EReal.coe_neg, ← EReal.coe_mul, ← EReal.coe_mul, ← EReal.coe_add, neg_mul, sub_eq_add_neg]

omit a in
theorem plus {x x' y y' : EReal} (hx : x = x') (hy : y = y') : x + y = x' + y' := by rw [hx, hy]

omit a in
/-- A head's values with zeros after them. -/
theorem padded {F : Fin 8 → Fin 96 → ℝ} (n l : ℕ) (hn : n < 8) (hl : l < 128) :
    (if h : n < 8 ∧ l < 96 then ((F ⟨n, h.1⟩ ⟨l, h.2⟩ : ℝ) : EReal) else 0) = ((slot (F ⟨n, hn⟩) ⟨l, hl⟩ : ℝ) : EReal) := by
  unfold slot
  by_cases h : l < 96
  · rw [dif_pos (show (⟨l, hl⟩ : Fin 128).val < 96 from h)]
    exact dif_pos ⟨hn, h⟩
  · rw [dif_neg (show ¬ (⟨l, hl⟩ : Fin 128).val < 96 from h)]
    exact dif_neg fun c => h c.2

theorem rot_at (s : Fin 4096) (h : Fin 8) (d : Fin 96) : (val_main_v24 (F := Ideal) X0 X3 X4 (ix3 s h d) : EReal) = ((rot co sn q s h d : ℝ) : EReal) := by
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v0]
  simp only [a.hq, a.hc, a.hn]
  unfold rot entry
  have hd := d.isLt
  by_cases h64 : d.val < 64
  · exact (dif_pos h64).trans (congrArg Real.toEReal (if_pos h64).symm)
  · refine (dif_neg h64).trans (Eq.trans ?_ (congrArg Real.toEReal (if_neg h64).symm))
    have e0 : (⟨(d.val - 64) / 16, by omega⟩ : Fin 2) = ⟨(d.val - 64) / 16 % 2, Nat.mod_lt _ (by decide)⟩ := Fin.ext (by show (d.val - 64) / 16 = (d.val - 64) / 16 % 2; omega)
    have e1 : (⟨(d.val - 64) % 8, by omega⟩ : Fin 8) = ⟨d.val % 8, Nat.mod_lt _ (by decide)⟩ := Fin.ext (by show (d.val - 64) % 8 = d.val % 8; omega)
    by_cases h8 : d.val % 16 < 8
    · have e2 : (⟨64 + ((d.val - 64) / 16 * 16 + (d.val - 64) % 8), by omega⟩ : Fin 96) = d := Fin.ext (by show 64 + ((d.val - 64) / 16 * 16 + (d.val - 64) % 8) = d.val; omega)
      have e3 : (⟨64 + ((d.val - 64) / 16 * 16 + 8 + (d.val - 64) % 8), by omega⟩ : Fin 96) = ⟨(d.val + 8) % 96, Nat.mod_lt _ (by decide)⟩ := Fin.ext (by show 64 + ((d.val - 64) / 16 * 16 + 8 + (d.val - 64) % 8) = (d.val + 8) % 96; omega)
      refine (dif_pos (by omega)).trans (Eq.trans ?_ (congrArg Real.toEReal (if_pos h8).symm))
      exact turn_sub e2 e3 e0 e1
    · have e2 : (⟨64 + ((d.val - 64) / 16 * 16 + 8 + (d.val - 64) % 8), by omega⟩ : Fin 96) = d := Fin.ext (by show 64 + ((d.val - 64) / 16 * 16 + 8 + (d.val - 64) % 8) = d.val; omega)
      have e3 : (⟨64 + ((d.val - 64) / 16 * 16 + (d.val - 64) % 8), by omega⟩ : Fin 96) = ⟨d.val - 8, lt_of_le_of_lt (Nat.sub_le _ _) d.isLt⟩ := Fin.ext (by show 64 + ((d.val - 64) / 16 * 16 + (d.val - 64) % 8) = d.val - 8; omega)
      refine (dif_neg (by omega)).trans (Eq.trans ?_ (congrArg Real.toEReal (if_neg h8).symm))
      exact turn_add e2 e3 e0 e1

theorem score_at (s : Fin 4096) (h : Fin 8) (t : Fin 4352) : (val_main_v25 (F := Ideal) X0 X1 X3 X4 (ix3 h s t) : EReal) = ((score (rot co sn q) k h s t : ℝ) : EReal) := by
  pointwise [val_main_v25, val_main_v1, rot_at a, a.hk]
  exact sum_coe _ _ fun d => (EReal.coe_mul _ _).symm

theorem scaled_at (s : Fin 4096) (h : Fin 8) (t : Fin 4352) : (val_main_v29 (F := Ideal) X0 X1 X3 X4 (ix3 h s t) : EReal) = ((scale * score (rot co sn q) k h s t : ℝ) : EReal) := by
  pointwise [val_main_v29, val_main_v28, val_main_v27, val_main_v26, val_main_cst, val_main_cst_0, score_at a]
  rw [show Ideal.ofBits FTy.f32 1119879168#32 = Ideal.ofBits FTy.f32 0x42C00000#32 from rfl, root_at, ← EReal.coe_mul, mul_comm]

omit a in
theorem reduce_max (x : FVec Ideal S8x4096x4352 .f32) (h : Fin 8) (s : Fin 4096) :
    (Host.reduce FloatOps.maximumf x (constant S_ .f32 0xFF800000#32) reducesTo_S8x4096x4352_S8x4096_d2 h_S_ : FVec Ideal S8x4096 .f32) (ix2 h s)
      = ((Finset.univ : Finset (Fin 4352)).fold max (⊥ : EReal) (fun t => x (ix3 h s t)) : EReal) := by
  pointwise
  rw [ofBits_bottom]

theorem max_at : ∃ M : Fin 8 → Fin 4096 → ℝ, ∀ h s, (val_main_v30 (F := Ideal) X0 X1 X3 X4 (ix2 h s) : EReal) = ((M h s : ℝ) : EReal) := by
  have e : ∀ h s, ∃ x : ℝ, (val_main_v30 (F := Ideal) X0 X1 X3 X4 (ix2 h s) : EReal) = (x : EReal) := fun h s => by
    obtain ⟨x, hx⟩ := fold_max_real (Finset.univ : Finset (Fin 4352)) ⟨0, Finset.mem_univ _⟩ (fun t => scale * score (rot co sn q) k h s t)
    refine ⟨x, (reduce_max (val_main_v29 (F := Ideal) X0 X1 X3 X4) h s).trans (Eq.trans ?_ hx)⟩
    exact congrArg (fun f : Fin 4352 → EReal => Finset.fold max (⊥ : EReal) f Finset.univ) (funext fun t => scaled_at a s h t)
  exact ⟨fun h s => (e h s).choose, fun h s => (e h s).choose_spec⟩

variable {M : Fin 8 → Fin 4096 → ℝ} (hM : ∀ h s, (val_main_v30 (F := Ideal) X0 X1 X3 X4 (ix2 h s) : EReal) = ((M h s : ℝ) : EReal))
include hM

theorem shift_at (s : Fin 4096) (h : Fin 8) (t : Fin 4352) : (val_main_v48 (F := Ideal) X0 X1 X3 X4 (ix3 h s t) : EReal) = ((M h s : ℝ) : EReal) := by
  rw [val_main_v48_apply, val_main_v47_apply, val_main_v37_apply]
  have e : idx_main_v47 (idx_main_v48 (ix3 h s t)) = ix2 h s := by funext b; fin_cases b <;> rfl
  rw [e, val_main_v36_apply]
  exact (congr (congrArg (fun x y : EReal => max x y) (show (val_main_cst_3 (F := Ideal) _ : EReal) = ⊥ from ofBits_bottom)) (hM h s)).trans (bot_sup_eq _)

/-- The exponential of a score less its row's largest, and the row's sum of them. -/
theorem ex_at (s : Fin 4096) (h : Fin 8) (t : Fin 4352) : (val_main_v50 (F := Ideal) X0 X1 X3 X4 (ix3 h s t) : EReal)
    = ((Real.exp (scale * score (rot co sn q) k h s t - M h s) : ℝ) : EReal) := by
  rw [val_main_v50_apply, val_main_v49_apply]
  refine (congr (congrArg (fun x y : EReal => Ideal.exp (x - y)) (scaled_at a s h t)) (shift_at a hM s h t)).trans ?_
  rw [← EReal.coe_sub, Ideal.exp_coe]

/-- The row's sum of exponentials. -/
def tot (q : Fin 4096 → Fin 8 → Fin 96 → ℝ) (k : Fin 4352 → Fin 8 → Fin 96 → ℝ) (M : Fin 8 → Fin 4096 → ℝ) (h : Fin 8) (s : Fin 4096) : ℝ :=
  ∑ t : Fin 4352, Real.exp (scale * score q k h s t - M h s)

omit a hM in
theorem tot_ne (h : Fin 8) (s : Fin 4096) : tot q k M h s ≠ 0 :=
  (Finset.sum_pos (fun _ _ => Real.exp_pos _) ⟨0, Finset.mem_univ _⟩).ne'

omit a hM in
theorem reduce_sum (x : FVec Ideal S8x4096x4352 .f32) (h : Fin 8) (s : Fin 4096) :
    (Host.reduceAdd x (constant S_ .f32 0x00000000#32) reducesTo_S8x4096x4352_S8x4096_d2 h_S_ : FVec Ideal S8x4096 .f32) (ix2 h s)
      = (∑ t : Fin 4352, (x (ix3 h s t) : EReal) : EReal) := by
  pointwise

theorem tot_at (s : Fin 4096) (h : Fin 8) : (val_main_v51 (F := Ideal) X0 X1 X3 X4 (ix2 h s) : EReal) = ((tot (rot co sn q) k M h s : ℝ) : EReal) :=
  (reduce_sum (val_main_v50 (F := Ideal) X0 X1 X3 X4) h s).trans (sum_coe _ _ fun t => ex_at a hM s h t)

theorem col_at (s : Fin 4096) (h : Fin 8) : (val_main_v52 (F := Ideal) X0 X1 X3 X4 (ix3 h s 0) : EReal) = ((tot (rot co sn q) k M h s : ℝ) : EReal) := by
  rw [val_main_v52_apply]
  refine (congrArg _ ?_).trans (tot_at a hM s h)
  funext b
  fin_cases b <;> rfl

theorem row_at (s : Fin 4096) (h : Fin 8) (t : Fin 4352) : (val_main_v53 (F := Ideal) X0 X1 X3 X4 (ix3 h s t) : EReal) = ((tot (rot co sn q) k M h s : ℝ) : EReal) := by
  rw [val_main_v53_apply]
  refine (congrArg _ ?_).trans (col_at a hM s h)
  funext b
  fin_cases b <;> rfl

theorem prob_at (s : Fin 4096) (h : Fin 8) (t : Fin 4352) : (val_main_v54 (F := Ideal) X0 X1 X3 X4 (ix3 h s t) : EReal) = ((prob (rot co sn q) k h s t : ℝ) : EReal) := by
  rw [val_main_v54_apply]
  refine (congr (congrArg (fun x y : EReal => Ideal.div x y) (ex_at a hM s h t)) (row_at a hM s h t)).trans ?_
  rw [Ideal.div_coe (tot_ne h s), ← EReal.coe_mul, ← prob_shift (M h s) h s t]
  refine congrArg Real.toEReal ?_
  rw [mul_one_div]
  rfl

theorem inv_at (s : Fin 4096) (h : Fin 8) (t : Fin 4352) : (val_main_v68 (F := Ideal) X0 X1 X3 X4 (ix3 h s t) : EReal)
    = ((1 / (tot (rot co sn q) k M h s * tot (rot co sn q) k M h s) : ℝ) : EReal) := by
  rw [val_main_v68_apply]
  refine (congrArg (val_main_v57 (F := Ideal) X0 X1 X3 X4) (show _ = ix3 h s 0 from ?_)).trans ?_
  · funext b
    fin_cases b <;> rfl
  rw [val_main_v57_apply, val_main_v55_apply, val_main_v56_apply]
  refine (congr (congrArg (fun x y : EReal => Ideal.div x (y * y)) (show (val_main_cst_10 (F := Ideal) _ : EReal) = 1 from Ideal.ofBits_one_f32)) (col_at a hM s h)).trans ?_
  rw [← EReal.coe_mul, Ideal.div_coe (mul_ne_zero (tot_ne h s) (tot_ne h s)), one_mul]

omit hM in
theorem ct_at (s : Fin 4096) (h : Fin 8) (e : Fin 64) : (val_main_v64 (F := Ideal) X5 (ix3 h e s) : EReal) = ((g s h e : ℝ) : EReal) := by
  pointwise [val_main_v64, val_main_v63, val_main_v62, val_main_v61]
  exact a.hg s h e

omit hM in
theorem dprob_at (s : Fin 4096) (h : Fin 8) (t : Fin 4352) : (val_main_v65 (F := Ideal) X2 X5 (ix3 h s t) : EReal) = ((dprob v g h s t : ℝ) : EReal) := by
  pointwise [val_main_v65, val_main_v2, ct_at a, a.hv]
  exact sum_coe _ _ fun d => (EReal.coe_mul _ _).symm

theorem neg_at (s : Fin 4096) (h : Fin 8) : (val_main_v76 (F := Ideal) X0 X1 X2 X3 X4 X5 (ix2 h s) : EReal)
    = ((-(∑ t : Fin 4352, dprob v g h s t * (1 / (tot (rot co sn q) k M h s * tot (rot co sn q) k M h s)) * Real.exp (scale * score (rot co sn q) k h s t - M h s)) : ℝ) : EReal) := by
  have e70 : ∀ t, (val_main_v70 (F := Ideal) X0 X1 X2 X3 X4 X5 (ix3 h s t) : EReal)
      = ((dprob v g h s t * (1 / (tot (rot co sn q) k M h s * tot (rot co sn q) k M h s)) * Real.exp (scale * score (rot co sn q) k h s t - M h s) : ℝ) : EReal) := fun t => by
    rw [val_main_v70_apply, val_main_v69_apply]
    refine (congr (congrArg (fun x y : EReal => x * y) ((congr (congrArg (fun x y : EReal => x * y) (dprob_at a s h t)) (inv_at a hM s h t)))) (ex_at a hM s h t)).trans ?_
    rw [← EReal.coe_mul, ← EReal.coe_mul]
  have e71 := (reduce_sum (val_main_v70 (F := Ideal) X0 X1 X2 X3 X4 X5) h s).trans (sum_coe _ _ e70)
  have e73 : (val_main_v73 (F := Ideal) X0 X1 X2 X3 X4 X5 (idx_main_v76 (ix2 h s) 0) : EReal)
      = -(∑ t : Fin 4352, dprob v g h s t * (1 / (tot (rot co sn q) k M h s * tot (rot co sn q) k M h s)) * Real.exp (scale * score (rot co sn q) k h s t - M h s) : ℝ) := by
    rw [val_main_v73_apply, val_main_v72_apply]
    have e : idx_main_v72 (idx_main_v76 (ix2 h s) 0) = ix2 h s := by
      funext b
      fin_cases b
      · exact Fin.ext (by show (((h.val * 4096 + s.val) * 1 + 0) / 4096) = h.val; omega)
      · exact Fin.ext (by show (((h.val * 4096 + s.val) * 1 + 0) % 4096) = s.val; omega)
    rw [e]
    exact congrArg (fun x : EReal => -x) e71
  rw [val_main_v76_apply]
  refine (congr (congrArg (fun x y : EReal => x + y) (show (val_main_cst_12 (F := Ideal) _ : EReal) = 0 from Ideal.ofBits_zero_f32)) ((Fin.sum_univ_one (M := EReal) _).trans e73)).trans ?_
  rw [zero_add, EReal.coe_neg]

theorem ds_at (s : Fin 4096) (h : Fin 8) (t : Fin 4352) : (val_main_v81 (F := Ideal) X0 X1 X2 X3 X4 X5 (ix3 h s t) : EReal)
    = ((dscore (rot co sn q) k v g h s t * scale : ℝ) : EReal) := by
  rw [val_main_v81_apply, val_main_v79_apply, val_main_v78_apply, val_main_v75_apply, val_main_v77_apply, val_main_v74_apply, val_main_v80_apply]
  have e1 : idx_main_v77 (ix3 h s t) = ix2 h s := by funext b; fin_cases b <;> rfl
  have e2 : idx_main_v74 (ix3 h s t) = ix3 h s 0 := by funext b; fin_cases b <;> rfl
  rw [e1, e2]
  refine (congr (congrArg (fun x y : EReal => x * y) (congr (congrArg (fun x y : EReal => x * y) (congr (congrArg (fun x y : EReal => x + y)
    (congr (congrArg (fun x y : EReal => Ideal.div x y) (dprob_at a s h t)) (col_at a hM s h))) (neg_at a hM s h))) (ex_at a hM s h t))) (show (val_main_v27 (F := Ideal) _ : EReal) = ((scale : ℝ) : EReal) from ?_)).trans ?_
  · refine Eq.trans ?_ root_at
    rw [← Ideal.ofBits_one_f32]
    rfl
  rw [Ideal.div_coe (tot_ne h s), ← EReal.coe_mul, ← EReal.coe_add, ← EReal.coe_mul, ← EReal.coe_mul, mul_one_div, ← dscore_eq (M h s) h s t]
  rfl

theorem dk_at (t : Fin 4352) (h : Fin 8) (d : Fin 96) : (val_main_v83 (F := Ideal) X0 X1 X2 X3 X4 X5 (ix3 t h d) : EReal)
    = ((dk (rot co sn q) k v g t h d : ℝ) : EReal) := by
  pointwise [val_main_v83, val_main_v82, ds_at a hM, rot_at a]
  refine (sum_coe _ _ fun d => (EReal.coe_mul _ _).symm).trans (congrArg Real.toEReal ?_)
  unfold dk
  rw [Finset.mul_sum]
  exact Finset.sum_congr rfl fun i _ => by ring

theorem dq_at (s : Fin 4096) (h : Fin 8) (d : Fin 96) : (val_main_v85 (F := Ideal) X0 X1 X2 X3 X4 X5 (ix3 s h d) : EReal)
    = ((dq (rot co sn q) k v g s h d : ℝ) : EReal) := by
  pointwise [val_main_v85, val_main_v84, ds_at a hM, val_main_v1, a.hk]
  refine (sum_coe _ _ fun d => (EReal.coe_mul _ _).symm).trans (congrArg Real.toEReal ?_)
  unfold dq
  rw [Finset.mul_sum]
  exact Finset.sum_congr rfl fun i _ => by ring

theorem dv_at (t : Fin 4352) (h : Fin 8) (e : Fin 64) : (val_main_v67 (F := Ideal) X0 X1 X3 X4 X5 (ix3 t h e) : EReal)
    = ((dv (rot co sn q) k g t h e : ℝ) : EReal) := by
  pointwise [val_main_v67, val_main_v66, ct_at a, prob_at a hM]
  refine (sum_coe _ _ fun d => (EReal.coe_mul _ _).symm).trans (congrArg Real.toEReal ?_)
  unfold dv
  exact Finset.sum_congr rfl fun i _ => by ring

theorem unrot_at (s : Fin 4096) (h : Fin 8) (d : Fin 96) : (val_main_v112 (F := Ideal) X0 X1 X2 X3 X4 X5 (ix3 s h d) : EReal)
    = ((unrot co sn (dq (rot co sn q) k v g) s h d : ℝ) : EReal) := by
  pointwise [val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_cst_13, val_main_cst_14, val_main_cst_15, val_main_cst_16, dq_at a hM]
  simp only [a.hc, a.hn]
  unfold unrot entry
  have hd := d.isLt
  by_cases h64 : d.val < 64
  · refine (plus (dif_neg (by omega)) (dif_pos h64)).trans ((zero_add _).trans ?_)
    exact congrArg Real.toEReal (if_pos h64).symm
  · refine (plus (dif_pos (by omega)) (dif_neg h64)).trans ((add_zero _).trans (Eq.trans ?_ (congrArg Real.toEReal (if_neg h64).symm)))
    have e0 : (⟨(d.val - 64) / 16, by omega⟩ : Fin 2) = ⟨(d.val - 64) / 16 % 2, Nat.mod_lt _ (by decide)⟩ := Fin.ext (by show (d.val - 64) / 16 = (d.val - 64) / 16 % 2; omega)
    have e1 : (⟨(d.val - 64) % 8, by omega⟩ : Fin 8) = ⟨d.val % 8, Nat.mod_lt _ (by decide)⟩ := Fin.ext (by show (d.val - 64) % 8 = d.val % 8; omega)
    by_cases h8 : d.val % 16 < 8
    · have e2 : (⟨64 + ((d.val - 64) / 16 * 16 + (d.val - 64) % 8), by omega⟩ : Fin 96) = d := Fin.ext (by show 64 + ((d.val - 64) / 16 * 16 + (d.val - 64) % 8) = d.val; omega)
      have e3 : (⟨64 + ((d.val - 64) / 16 * 16 + 8 + (d.val - 64) % 8), by omega⟩ : Fin 96) = ⟨(d.val + 8) % 96, Nat.mod_lt _ (by decide)⟩ := Fin.ext (by show 64 + ((d.val - 64) / 16 * 16 + 8 + (d.val - 64) % 8) = (d.val + 8) % 96; omega)
      refine (plus (dif_neg (by omega)) (dif_pos (by omega))).trans ((zero_add _).trans ((add_comm (G := EReal) _ _).trans (Eq.trans ?_ (congrArg Real.toEReal (if_pos h8).symm))))
      exact turn_add e2 e3 e0 e1
    · have e2 : (⟨64 + ((d.val - 64) / 16 * 16 + 8 + (d.val - 64) % 8), by omega⟩ : Fin 96) = d := Fin.ext (by show 64 + ((d.val - 64) / 16 * 16 + 8 + (d.val - 64) % 8) = d.val; omega)
      have e3 : (⟨64 + ((d.val - 64) / 16 * 16 + (d.val - 64) % 8), by omega⟩ : Fin 96) = ⟨d.val - 8, lt_of_le_of_lt (Nat.sub_le _ _) d.isLt⟩ := Fin.ext (by show 64 + ((d.val - 64) / 16 * 16 + (d.val - 64) % 8) = d.val - 8; omega)
      refine (plus (dif_pos (by omega)) (dif_neg (by omega))).trans ((add_zero _).trans (Eq.trans ?_ (congrArg Real.toEReal (if_neg h8).symm)))
      exact turn_neg e2 e3 e0 e1

theorem resQ (y : S4096x1024.Idx) : (val_main_v115 (F := Ideal) X0 X1 X2 X3 X4 X5 y : EReal) = Cert.AttnIdeal.Host.outQ q k v co sn g y := by
  idx_vars y
  pointwise [val_main_v115, val_main_v114, val_main_v113, val_main_cst_17, unrot_at a hM]
  exact padded (F := unrot co sn (dq (rot co sn q) k v g) y0) _ _ (by omega) (by omega)

theorem resK (y : S4352x1024.Idx) : (val_main_v118 (F := Ideal) X0 X1 X2 X3 X4 X5 y : EReal) = Cert.AttnIdeal.Host.outK q k v co sn g y := by
  idx_vars y
  pointwise [val_main_v118, val_main_v117, val_main_v116, val_main_cst_18, dk_at a hM]
  exact padded (F := dk (rot co sn q) k v g y0) _ _ (by omega) (by omega)

theorem resV (y : S4352x512.Idx) : (val_main_v120 (F := Ideal) X0 X1 X3 X4 X5 y : EReal) = Cert.AttnIdeal.Host.outV q k co sn g y := by
  idx_vars y
  pointwise [val_main_v120, val_main_v119, dv_at a hM]
  rfl

end Cert.AttnRefIdeal.Val
end
-- ==== Proof.AttnClaim.lean ====
/- The claims about the attention's gradient call. -/

module

public import proofs.«01_k».proof.Defs
public import proofs.«01_k».proof.Proof.AttnPre
public import proofs.«01_k».proof.Proof.AttnVal
public import proofs.«01_k».proof.Proof.AttnRefVal
public import proofs.«01_k».proof.Proof.Gen.Attn.Frame
public import proofs.«01_k».proof.Proof.Gen.AttnIdeal.Frame
public import proofs.«01_k».proof.Proof.Gen.AttnIdeal.Value
public import proofs.«01_k».proof.Proof.Gen.AttnRefIdeal.Read
public import proofs.«01_k».proof.Proof.Gen.AttnRefIdeal.Run
public import proofs.«01_k».proof.Proof.Gen.Pre_finite
public import Idealize.ShloMosaic.Lib.Claim
public import Idealize.ShloMosaic.Lib.Quiescent

@[expose] public noncomputable section

set_option maxRecDepth 16384

namespace Cert.Proof

open Idealize.ShloMosaic Idealize.SL.Sem

theorem quiescent_Attn : Cert.quiescent_Attn := fun m ρ _ => Cert.Attn.Gen.frame m ρ

theorem quiescent_AttnIdeal : Cert.quiescent_AttnIdeal := fun m ρ _ => Cert.AttnIdeal.Gen.frame m ρ

theorem quiescent_AttnIdeal_pre_finite : Cert.quiescent_AttnIdeal_pre_finite := fun m ρ _ => Cert.AttnIdeal.Gen.frame m ρ

theorem quiescent_AttnRefIdeal : Cert.quiescent_AttnRefIdeal := by
  intro m g _
  exact (θ_run _ _ _).mono (fun r h => ⟨fun c => (h c).2.2.2, sem_eq_zero_of_no_sems rfl r.2⟩) (Cert.AttnRefIdeal.Value.run m g)

theorem quiescent_AttnRefIdeal_pre_finite : Cert.quiescent_AttnRefIdeal_pre_finite := fun m g _ => quiescent_AttnRefIdeal m g trivial

theorem preserves_Attn_AttnIdeal : Cert.preserves_Attn_AttnIdeal :=
  ⟨IdealRules.named_const.statement _ _ _ _ _ rfl, IdealRules.named_const.statement _ _ _ _ _ rfl⟩

section

variable (m : (ℓ : Loc Cert.AttnIdeal.nD Cert.AttnIdeal.τ Cert.AttnIdeal.sig) → Buf (Elt Ideal) ℓ) (hp : Cert.Pre_AttnIdeal_finite m) (c : Dev Cert.AttnIdeal.nD)

include hp in
/-- Finite arguments are arrays of real numbers. -/
theorem attn_args : ∃ q k v co sn g, Cert.AttnIdeal.Host.Args m c q k v co sn g := by
  obtain ⟨h0, h1, h2, h3, h4, h5⟩ := Cert.Pre_finite.At.fn_real _ _ _ _ _ _ (fun k => k.elim0) (congrFun (hp c) _)
  choose r0 h0 using h0
  choose r1 h1 using h1
  choose r2 h2 using h2
  choose r3 h3 using h3
  choose r4 h4 using h4
  choose r5 h5 using h5
  exact ⟨fun s h d => r0 (ix4 0 s h d), fun s h d => r1 (ix4 0 s h d), fun s h d => r2 (ix4 0 s h d), fun s a f => r3 (ix4 s 0 a f), fun s a f => r4 (ix4 s 0 a f),
    fun s h e => r5 s ⟨h.val * 64 + e.val, by omega⟩, fun s h d => h0 _, fun s h d => h1 _, fun s h d => h2 _, fun s a f => h3 _, fun s a f => h4 _, fun s h e => h5 s ⟨h.val * 64 + e.val, by omega⟩⟩

include hp in
/-- Where the two programs start from equal finite arguments, the reference's three results are what the kernel's windows hold at the end. -/
theorem attn_results : ∀ X0 X1 X2 X3 X4 X5,
    X0 = m ((c.tc : Thread Cert.AttnIdeal.nD Cert.AttnIdeal.τ).loc Cert.AttnIdeal.main_arg0) → X1 = m ((c.tc : Thread Cert.AttnIdeal.nD Cert.AttnIdeal.τ).loc Cert.AttnIdeal.main_arg1)
    → X2 = m ((c.tc : Thread Cert.AttnIdeal.nD Cert.AttnIdeal.τ).loc Cert.AttnIdeal.main_arg2) → X3 = m ((c.tc : Thread Cert.AttnIdeal.nD Cert.AttnIdeal.τ).loc Cert.AttnIdeal.main_arg3)
    → X4 = m ((c.tc : Thread Cert.AttnIdeal.nD Cert.AttnIdeal.τ).loc Cert.AttnIdeal.main_arg4) → X5 = m ((c.tc : Thread Cert.AttnIdeal.nD Cert.AttnIdeal.τ).loc Cert.AttnIdeal.main_arg5)
    → Cert.AttnRefIdeal.Read.val_main_v115 (F := Ideal) X0 X1 X2 X3 X4 X5 = (Cert.AttnIdeal.Gen.dats m 0 c).arrAt 8 (Cert.AttnIdeal.cfgs 0).N
      ∧ Cert.AttnRefIdeal.Read.val_main_v118 (F := Ideal) X0 X1 X2 X3 X4 X5 = (Cert.AttnIdeal.Gen.dats m 0 c).arrAt 9 (Cert.AttnIdeal.cfgs 0).N
      ∧ Cert.AttnRefIdeal.Read.val_main_v120 (F := Ideal) X0 X1 X3 X4 X5 = (Cert.AttnIdeal.Gen.dats m 0 c).arrAt 10 (Cert.AttnIdeal.cfgs 0).N := by
  intro X0 X1 X2 X3 X4 X5 e0 e1 e2 e3 e4 e5
  obtain ⟨q, k, v, co, sn, g, a⟩ := attn_args m hp c
  obtain ⟨M, hM⟩ := Cert.AttnIdeal.Host.max_at a
  have b : Cert.AttnRefIdeal.Val.Reals X0 X1 X2 X3 X4 X5 q k v co sn g := by
    rw [e0, e1, e2, e3, e4, e5]
    exact ⟨a.hq, a.hk, a.hv, a.hc, a.hn, a.hg⟩
  obtain ⟨M', hM'⟩ := Cert.AttnRefIdeal.Val.max_at b
  exact ⟨(funext fun y => Cert.AttnRefIdeal.Val.resQ b hM' y).trans (Cert.AttnIdeal.Host.final8 a hM).symm,
    (funext fun y => Cert.AttnRefIdeal.Val.resK b hM' y).trans (Cert.AttnIdeal.Host.final9 a hM).symm,
    (funext fun y => Cert.AttnRefIdeal.Val.resV b hM' y).trans (Cert.AttnIdeal.Host.final10 a hM).symm⟩

end

theorem algebraic_AttnIdeal_AttnRefIdeal_pre_finite : Cert.algebraic_AttnIdeal_AttnRefIdeal_pre_finite := by
  intro m g m' g' hp hagree
  refine ⟨fun c => (Cert.AttnIdeal.Gen.dats m 0 c).arrAt 8 (Cert.AttnIdeal.cfgs 0).N, fun c => (Cert.AttnIdeal.Gen.dats m 0 c).arrAt 9 (Cert.AttnIdeal.cfgs 0).N,
    fun c => (Cert.AttnIdeal.Gen.dats m 0 c).arrAt 10 (Cert.AttnIdeal.cfgs 0).N, ?_, ?_⟩
  · exact (θ_run _ _ _).mono (fun r h c => ⟨(h.1 c).1 8, (h.1 c).1 9, (h.1 c).1 10, h.2 c⟩) (θ_run_and (Cert.AttnIdeal.Gen.run_main m g) (Cert.AttnIdeal.Gen.unchanged m g))
  · refine (θ_run _ _ _).mono (fun r h c => ?_) (Cert.AttnRefIdeal.Value.run m' g')
    have e := attn_results m hp c _ _ _ _ _ _ (hagree c).1 (hagree c).2.1 (hagree c).2.2.1 (hagree c).2.2.2.1 (hagree c).2.2.2.2.1 (hagree c).2.2.2.2.2
    exact ⟨(h c).1.trans ((Cert.AttnRefIdeal.Read.val_main_v115_eq _).trans e.1), (h c).2.1.trans ((Cert.AttnRefIdeal.Read.val_main_v118_eq _).trans e.2.1),
      (h c).2.2.1.trans ((Cert.AttnRefIdeal.Read.val_main_v120_eq _).trans e.2.2), (h c).2.2.2⟩

end Cert.Proof

end
-- ==== Proof.ActVal.lean ====
/- The gradient before the squared ReLU: the kernel's tile and the reference at one element. -/
module

public import proofs.«01_k».proof.Proof.Gen.ActIdeal
public import proofs.«01_k».proof.Proof.Gen.ActIdeal.Skeleton
public import proofs.«01_k».proof.Proof.Gen.ActIdeal.Launch
public import proofs.«01_k».proof.Proof.Gen.ActIdeal.Points
public import proofs.«01_k».proof.Proof.Gen.ActIdeal.Frame
public import proofs.«01_k».proof.Proof.Gen.ActRefIdeal
public import proofs.«01_k».proof.Proof.Gen.ActRefIdeal.Run
public import proofs.«01_k».proof.Proof.Gen.ActRefIdeal.Read
public import Idealize.ShloMosaic.Lib.Pipeline.Value
public import Idealize.ShloMosaic.Lib.Pipeline.ValueKit
public import Idealize.ShloMosaic.Lib.StableHlo.Run

set_option maxRecDepth 16384

@[expose] public noncomputable section

open Idealize.ShloMosaic Idealize.ShloMosaic.TcCoe Idealize.SL.Sem
open Idealize.ShloMosaic.Pipeline (Dat)

namespace Cert.ActSpec

/-- One hidden value before the activation. -/
def hid (H : FVec Ideal Cert.ActRefIdeal.S1x4096x1024 .f32) (W1 : FVec Ideal Cert.ActRefIdeal.S1x1024x4096 .f32) (i j : Fin 4096) : EReal :=
  ∑ k : Fin 1024, H (ix3 0 i k) * W1 (ix3 0 k j)
/-- One value of the cotangent after the second product. -/
def cot (W2 D : FVec Ideal Cert.ActRefIdeal.S1x4096x1024 .f32) (i j : Fin 4096) : EReal :=
  ∑ k : Fin 1024, D (ix3 0 i k) * W2 (ix3 0 j k)
/-- The reluSlope of the squared ReLU. -/
def reluSlope (u : EReal) : EReal := Ideal.ofBits .f32 0x40000000#32 * max u 0
/-- The gradient before the activation. -/
def OUT (H : FVec Ideal Cert.ActRefIdeal.S1x4096x1024 .f32) (W1 : FVec Ideal Cert.ActRefIdeal.S1x1024x4096 .f32)
    (W2 D : FVec Ideal Cert.ActRefIdeal.S1x4096x1024 .f32) : FVec Ideal Cert.ActRefIdeal.S4096x4096 .bf16 :=
  fun y => cot W2 D (y 0) (y 1) * reluSlope (hid H W1 (y 0) (y 1))

end Cert.ActSpec

namespace Cert.ActRefIdeal.Val

open Cert.ActRefIdeal Cert.ActRefIdeal.Gen Cert.ActRefIdeal.Read Cert.ActSpec

variable (H : FVec Ideal S1x4096x1024 .f32) (W1 : FVec Ideal S1x1024x4096 .f32) (W2 D : FVec Ideal S1x4096x1024 .f32)

theorem u_at (i j : Fin 4096) : (val_main_v2 (F := Ideal) H W1 (ix2 i j) : EReal) = hid H W1 i j := by
  pointwise [val_main_v2, val_main_v1, val_main_v0, hid]
theorem d_at (i j : Fin 4096) : (val_main_v13 (F := Ideal) W2 D (ix2 i j) : EReal) = cot W2 D i j := by
  pointwise [val_main_v13, val_main_v12, val_main_v10, cot]

theorem out_eq : val_main_v17 (F := Ideal) H W1 W2 D = OUT H W1 W2 D := by
  funext y
  idx_vars y
  pointwise [val_main_v17, val_main_v16, val_main_v15, val_main_v14, val_main_v9, val_main_v8, val_main_v6, val_main_v5, val_main_v4, val_main_v3, u_at, d_at, OUT, reluSlope, val_main_cst, val_main_cst_1, val_main_cst_2, val_main_call0_v0, val_main_call0_cst]
  generalize hid H W1 y0 y1 = u
  split
  · rfl
  · rw [max_eq_right (not_lt.mp ‹_›), mul_zero, mul_zero]

end Cert.ActRefIdeal.Val

namespace Cert.ActIdeal.Val

open Cert.ActIdeal Cert.ActIdeal.Gen Cert.ActSpec

variable (m : (ℓ : Loc nD τ sig) → Buf (Elt Ideal) ℓ)

theorem idx : ∀ t : Fin cfg0.N, win0_0.index t = ![t.val / 4, 0]
    ∧ win0_1.index t = ![t.val % 4, 0]
    ∧ win0_2.index t = ![t.val / 4, t.val % 4]
    ∧ win0_3.index t = ![t.val / 4, t.val % 4] ∧ t.val < 8 :=
  (by decide +kernel : ∀ t : Fin grid0.N, _)

theorem pay1_at (d : Vec Ideal S512x1024 .bf16) (w : Vec Ideal S1024x1024 .bf16) (u : Vec Ideal S512x1024 .bf16) (i : Fin 512) (j : Fin 1024) :
    (k0_pay1 d w u (ix2 i j) : EReal) = (∑ k : Fin 1024, (d (ix2 i k) : EReal) * (w (ix2 j k) : EReal)) * reluSlope (u (ix2 i j)) := by
  pointwise [k0_pay1, reluSlope]
theorem pay2_at (d : Vec Ideal S512x1024 .bf16) (w : Vec Ideal S1024x1024 .bf16) (u : Vec Ideal S512x1024 .bf16) (i : Fin 512) (j : Fin 1024) :
    (k0_pay2 d w u (ix2 i j) : EReal) = (∑ k : Fin 1024, (d (ix2 i k) : EReal) * (w (ix2 j k) : EReal)) * reluSlope (u (ix2 i j)) := by
  pointwise [k0_pay2, reluSlope]
theorem pay3_at (d : Vec Ideal S512x1024 .bf16) (w : Vec Ideal S1024x1024 .bf16) (u : Vec Ideal S512x1024 .bf16) (i : Fin 512) (j : Fin 1024) :
    (k0_pay3 d w u (ix2 i j) : EReal) = (∑ k : Fin 1024, (d (ix2 i k) : EReal) * (w (ix2 j k) : EReal)) * reluSlope (u (ix2 i j)) := by
  pointwise [k0_pay3, reluSlope]
theorem pay4_at (d : Vec Ideal S512x1024 .bf16) (w : Vec Ideal S1024x1024 .bf16) (u : Vec Ideal S512x1024 .bf16) (i : Fin 512) (j : Fin 1024) :
    (k0_pay4 d w u (ix2 i j) : EReal) = (∑ k : Fin 1024, (d (ix2 i k) : EReal) * (w (ix2 j k) : EReal)) * reluSlope (u (ix2 i j)) := by
  pointwise [k0_pay4, reluSlope]

abbrev aH (c : Dev nD) : FVec Ideal S1x4096x1024 .f32 := m ((c : Thread nD τ).loc main_arg0)
abbrev aW1 (c : Dev nD) : FVec Ideal S1x1024x4096 .f32 := m ((c : Thread nD τ).loc main_arg1)
abbrev aW2 (c : Dev nD) : FVec Ideal S1x4096x1024 .f32 := m ((c : Thread nD τ).loc main_arg2)
abbrev aD (c : Dev nD) : FVec Ideal S1x4096x1024 .f32 := m ((c : Thread nD τ).loc main_arg3)

theorem d_at (c : Dev nD) (r : Fin 4096) (k : Fin 1024) : ((V m c main_v7 : FVec Ideal S4096x1024 .bf16) (ix2 r k) : EReal) = aD m c (ix3 0 r k) := by
  unfold V; entry_read; pointwise []
theorem w_at (c : Dev nD) (r : Fin 4096) (k : Fin 1024) : ((V m c main_v9 : FVec Ideal S4096x1024 .bf16) (ix2 r k) : EReal) = aW2 m c (ix3 0 r k) := by
  unfold V; entry_read; pointwise []
theorem u_at (c : Dev nD) (i j : Fin 4096) : ((V m c main_v5 : FVec Ideal S4096x4096 .bf16) (ix2 i j) : EReal) = hid (aH m c) (aW1 m c) i j := by
  unfold V; entry_read; pointwise [hid]

theorem dblk (c : Dev nD) (t : Fin cfg0.N) (r : Fin 2048) (k : Fin 1024) (r' : Fin 4096) (h : r'.val = t.val / 4 * 2048 + r.val) :
    ((iblk m c 0 t : FVec Ideal S2048x1024 .bf16) (ix2 r k) : EReal) = aD m c (ix3 0 r' k) := by
  rw [← d_at]; blk_ext [iblk, idx t]
theorem wblk (c : Dev nD) (t : Fin cfg0.N) (r : Fin 1024) (k : Fin 1024) (r' : Fin 4096) (h : r'.val = t.val % 4 * 1024 + r.val) :
    ((iblk m c 1 t : FVec Ideal S1024x1024 .bf16) (ix2 r k) : EReal) = aW2 m c (ix3 0 r' k) := by
  rw [← w_at]; blk_ext [iblk, idx t]
theorem ublk (c : Dev nD) (t : Fin cfg0.N) (r : Fin 2048) (k : Fin 1024) (r' : Fin 4096) (k' : Fin 4096)
    (h : r'.val = t.val / 4 * 2048 + r.val) (h' : k'.val = t.val % 4 * 1024 + k.val) :
    ((iblk m c 2 t : FVec Ideal S2048x1024 .bf16) (ix2 r k) : EReal) = hid (aH m c) (aW1 m c) r' k' := by
  rw [← u_at]; blk_ext [iblk, idx t]

/-- One tile of the result from whole blocks. -/
theorem tile_at (b0 : Vec Ideal S2048x1024 .bf16) (b1 : Vec Ideal S1024x1024 .bf16) (b2 : Vec Ideal S2048x1024 .bf16) (r : Fin 2048) (k : Fin 1024) :
    (out0_3 b0 b1 b2 (ix2 r k) : EReal) = (∑ e : Fin 1024, (b0 (ix2 r e) : EReal) * (b1 (ix2 k e) : EReal)) * reluSlope (b2 (ix2 r k)) := by
  canon_tiles x h
  all_goals
    idx_vars x
    first | rw [pay1_at] | rw [pay2_at] | rw [pay3_at] | rw [pay4_at]
    refine congrArg₂ (· * ·) (Finset.sum_congr (M := EReal) rfl fun e _ => congrArg₂ (· * ·) ?_ ?_) (congrArg reluSlope ?_)
    · pointwise [r0_0, r0_2, r0_3, r0_4]
      exact congrArg (fun r => b0 (ix2 r e)) (Fin.ext h0.symm)
    · pointwise [r0_1]
      exact congrArg (fun r => b1 (ix2 r e)) (Fin.ext h1.symm)
    · pointwise [r0_0, r0_2, r0_3, r0_4]
      exact congrArg₂ (fun r k => b2 (ix2 r k)) (Fin.ext h0.symm) (Fin.ext h1.symm)

theorem point (c : Dev nD) (t : Fin cfg0.N) (y : S2048x1024.Idx) (z : S4096x4096.Idx)
    (h : (z 0).val = t.val / 4 * 2048 + (y 0).val) (h' : (z 1).val = t.val % 4 * 1024 + (y 1).val) :
    (out0_3 (iblk m c 0 t) (iblk m c 1 t) (iblk m c 2 t) y : EReal)
      = OUT (aH m c) (aW1 m c) (aW2 m c) (aD m c) z := by
  idx_vars y
  idx_vars z
  exact (tile_at (iblk m c 0 t) (iblk m c 1 t) (iblk m c 2 t) y0 y1).trans
    (congrArg₂ (· * ·) (Finset.sum_congr (M := EReal) rfl fun e _ => congrArg₂ (· * ·) (dblk m c t y0 e z0 h) (wblk m c t y1 e z1 h'))
      (congrArg reluSlope (ublk m c t y0 y1 z0 z1 h h')))

/-- The kernel's result array. -/
theorem final (c : Dev nD) : (dats m 0 c).arrAt 3 (Cert.ActIdeal.cfgs 0).N = OUT (aH m c) (aW1 m c) (aW2 m c) (aD m c) := by
  refine (dats m 0 c).arrAt_eq_of_covers 3 _ (by decide +kernel) fun t hf y => ?_
  blk_simp
  rw [after0_3]
  have e0 : (((View.whole main_v10).slice (win0_3.rect t)).emb y 0).val = t.val / 4 * 2048 + (y 0).val := by blk_simp [idx t]
  have e1 : (((View.whole main_v10).slice (win0_3.rect t)).emb y 1).val = t.val % 4 * 1024 + (y 1).val := by blk_simp [idx t]
  exact point m c t y _ e0 e1

end Cert.ActIdeal.Val

end
-- ==== Proof.ActClaim.lean ====
/- The claims about the call that takes the gradient back through the squared ReLU. -/

module

public import proofs.«01_k».proof.Defs
public import proofs.«01_k».proof.Proof.ActVal
public import proofs.«01_k».proof.Proof.Gen.Act.Frame
public import proofs.«01_k».proof.Proof.Gen.ActRefIdeal.Run
public import Idealize.ShloMosaic.Lib.Claim
public import Idealize.ShloMosaic.Lib.Quiescent

@[expose] public noncomputable section

namespace Cert.Proof

open Idealize.ShloMosaic Idealize.SL.Sem

theorem quiescent_Act : Cert.quiescent_Act := fun m ρ _ => Cert.Act.Gen.frame m ρ

theorem quiescent_ActIdeal : Cert.quiescent_ActIdeal := fun m ρ _ => Cert.ActIdeal.Gen.frame m ρ

theorem quiescent_ActRefIdeal : Cert.quiescent_ActRefIdeal := by
  intro m g _
  exact (θ_run _ _ _).mono (fun r h => ⟨fun c => (h c).2, sem_eq_zero_of_no_sems rfl r.2⟩) (Cert.ActRefIdeal.Value.run m g)

theorem preserves_Act_ActIdeal : Cert.preserves_Act_ActIdeal := trivial

theorem algebraic_ActIdeal_ActRefIdeal : Cert.algebraic_ActIdeal_ActRefIdeal := by
  pair_intro
  · run_from Cert.ActIdeal.Gen.run_main m g
  · run_from Cert.ActRefIdeal.Value.run m' g'
    rw [Cert.ActRefIdeal.Read.val_main_v17_eq]
    exact (Cert.ActRefIdeal.Val.out_eq _ _ _ _).trans (Cert.ActIdeal.Val.final m c).symm

end Cert.Proof

end
-- ==== Proof.Rows8.lean ====
/- Eight rows of sums kept in one buffer: rows stored one at a time over what stood there, and rows read back. -/
module

public import proofs.«01_k».proof.Proof.Gen.CtxIdeal
public import Idealize.ShloMosaic.Lib.Pipeline.Value
public import Idealize.ShloMosaic.Lib.Pipeline.ValueKit
public import Idealize.ShloMosaic.Lib.Pipeline.FrameBody

set_option maxRecDepth 16384

@[expose] public noncomputable section

open Idealize.ShloMosaic Idealize.ShloMosaic.TcCoe Idealize.SL.Sem

namespace Cert.Rows8

abbrev S8 (n : ℕ) : Shape := ⟨2, ![8, n]⟩
abbrev S1 (n : ℕ) : Shape := ⟨2, ![1, n]⟩

variable {n : ℕ}

/-- The buffer after a row store: that row is the payload, the others stand. -/
theorem canon_row (k : ℕ) (inb : ∀ a, (![k, 0] : Fin 2 → ℕ) a + (S1 n).size a ≤ (S8 n).size a) (w : FVec Ideal (S1 n) .f32)
    (L : List (View.Piece (Elt Ideal) (S8 n) .f32)) (i : Fin 8) (j : Fin n) :
    (View.canon ((⟨Rect.unit (s := (S8 n)) ![k, 0] ![1, n] inb, w⟩ : View.Piece (Elt Ideal) (S8 n) .f32) :: L) (ix2 i j) : EReal)
      = if i.val = k then w (ix2 0 j) else View.canon L (ix2 i j) := by
  by_cases h : i.val = k
  · rw [if_pos h]
    have e : (ix2 i j : (S8 n).Idx) = (Rect.unit (s := (S8 n)) ![k, 0] ![1, n] inb).emb (ix2 (0 : Fin 1) j : (S1 n).Idx) := by
      funext a
      fin_cases a
      · exact Fin.ext (by show i.val = k + 1 * 0; omega)
      · exact Fin.ext (by show j.val = 0 + 1 * j.val; omega)
    rw [e]
    exact View.canon_cons_emb (Val := Elt Ideal) (e := .f32) (Rect.unit (s := (S8 n)) ![k, 0] ![1, n] inb) w L (ix2 (0 : Fin 1) j : (S1 n).Idx)
  · rw [if_neg h]
    refine View.canon_cons_of_not_mem (Val := Elt Ideal) (e := .f32) _ L ?_
    rw [Rect.mem_set_unit]
    intro hm
    have h0 := hm 0
    change k ≤ i.val ∧ i.val < k + 1 at h0
    omega

/-- The buffer after a store of all rows. -/
theorem canon_all (inb : ∀ a, (![0, 0] : Fin 2 → ℕ) a + (S8 n).size a ≤ (S8 n).size a) (w : FVec Ideal (S8 n) .f32) (L : List (View.Piece (Elt Ideal) (S8 n) .f32)) :
    View.canon ((⟨Rect.unit (s := (S8 n)) ![0, 0] ![8, n] inb, w⟩ : View.Piece (Elt Ideal) (S8 n) .f32) :: L) = w :=
  View.canon_cons_unit_lit (Val := Elt Ideal) (S := (S8 n)) (e := .f32) (off := ![0, 0]) inb w L (fun a => by fin_cases a <;> rfl)

/-- A row read back from the buffer's stores. -/
theorem read_row {sig : RefSig} {κ : Kind} {sp : Space} (v : View sig κ sp (S8 n) .f32) (L : List (View.Piece (Elt Ideal) (S8 n) .f32))
    (k : ℕ) (inb : ∀ a, (![k, 0] : Fin 2 → ℕ) a + (S1 n).size a ≤ (S8 n).size a) (i : Fin 8) (hi : i.val = k) (j : Fin n) :
    ((v.readCov L (Rect.unit (s := (S8 n)) ![k, 0] ![1, n] inb).toLoadRect : FVec Ideal (S1 n) .f32) (ix2 0 j) : EReal) = View.canon L (ix2 i j) := by
  rw [View.readCov_eq_canon']
  refine congrArg (View.canon L) ?_
  funext a
  fin_cases a
  · exact Fin.ext (by show k + 1 * 0 = i.val; omega)
  · exact Fin.ext (by show 0 + 1 * j.val = j.val; omega)

/-- A row read from whole contents. -/
theorem ld_row (x : FVec Ideal (S8 n) .f32) (k : ℕ) (inb : ∀ a, (![k, 0] : Fin 2 → ℕ) a + (S1 n).size a ≤ (S8 n).size a) (i : Fin 8) (hi : i.val = k) (j : Fin n) :
    ((View.ld (Val := Elt Ideal) (S := (S8 n)) (e' := .f32) x (Rect.unit (s := (S8 n)) ![k, 0] ![1, n] inb) : FVec Ideal (S1 n) .f32) (ix2 0 j) : EReal) = x (ix2 i j) := by
  refine congrArg x ?_
  funext a
  fin_cases a
  · exact Fin.ext (by show k + 1 * 0 = i.val; omega)
  · exact Fin.ext (by show 0 + 1 * j.val = j.val; omega)

/-- A row store over whole contents: that row is the payload, the others stand. -/
theorem writes_row {sig : RefSig} {κ : Kind} {sp : Space} (v : View sig κ sp (S8 n) .f32) (f : v.ty.Contents (Elt Ideal)) (k : ℕ)
    (inb : ∀ a, (![k, 0] : Fin 2 → ℕ) a + (S1 n).size a ≤ (S8 n).size a) (w : FVec Ideal (S1 n) .f32) (L : List (View.Piece (Elt Ideal) (S8 n) .f32)) (i : Fin 8) (j : Fin n) :
    (v.read (Elt Ideal) (v.writes (Elt Ideal) f ((⟨Rect.unit (s := (S8 n)) ![k, 0] ![1, n] inb, w⟩ : View.Piece (Elt Ideal) (S8 n) .f32) :: L)) (ix2 i j) : EReal)
      = if i.val = k then w (ix2 0 j) else v.read (Elt Ideal) (v.writes (Elt Ideal) f L) (ix2 i j) := by
  by_cases h : i.val = k
  · rw [if_pos h]
    have e : (ix2 i j : (S8 n).Idx) = (Rect.unit (s := (S8 n)) ![k, 0] ![1, n] inb).emb (ix2 (0 : Fin 1) j : (S1 n).Idx) := by
      funext a
      fin_cases a
      · exact Fin.ext (by show i.val = k + 1 * 0; omega)
      · exact Fin.ext (by show j.val = 0 + 1 * j.val; omega)
    rw [e]
    exact View.read_writes_cons_emb (Val := Elt Ideal) (e := .f32) v f (Rect.unit (s := (S8 n)) ![k, 0] ![1, n] inb) w L (ix2 (0 : Fin 1) j : (S1 n).Idx)
  · rw [if_neg h]
    refine View.read_writes_cons_miss (Val := Elt Ideal) (e := .f32) v f _ L _ ?_
    rw [Rect.mem_set_unit]
    intro hm
    have h0 := hm 0
    change k ≤ i.val ∧ i.val < k + 1 at h0
    omega

abbrev S512 : Shape := ⟨2, ![512, 1024]⟩
abbrev S256 : Shape := ⟨2, ![256, 1024]⟩

/-- A tile of 512 rows stored in two halves. -/
theorem canon_halves {e : EltTy} [Nonempty (Elt Ideal e)] (inb : ∀ a, (![256, 0] : Fin 2 → ℕ) a + S256.size a ≤ S512.size a) (inb' : ∀ a, (![0, 0] : Fin 2 → ℕ) a + S256.size a ≤ S512.size a)
    (w w' : S256.Idx → Elt Ideal e) (i : Fin 512) (j : Fin 1024) :
    View.canon [(⟨Rect.unit (s := S512) ![256, 0] ![256, 1024] inb, w⟩ : View.Piece (Elt Ideal) S512 e), ⟨Rect.unit (s := S512) ![0, 0] ![256, 1024] inb', w'⟩] (ix2 i j)
      = if h : 256 ≤ i.val then w (ix2 ⟨i.val - 256, by omega⟩ j) else w' (ix2 ⟨i.val, by omega⟩ j) := by
  by_cases h : 256 ≤ i.val
  · rw [dif_pos h]
    have e0 : (ix2 i j : S512.Idx) = (Rect.unit (s := S512) ![256, 0] ![256, 1024] inb).emb (ix2 (⟨i.val - 256, by omega⟩ : Fin 256) j : S256.Idx) := by
      funext a
      fin_cases a
      · exact Fin.ext (by show i.val = 256 + 1 * (i.val - 256); omega)
      · exact Fin.ext (by show j.val = 0 + 1 * j.val; omega)
    rw [e0]
    exact View.canon_cons_emb (Val := Elt Ideal) (Rect.unit (s := S512) ![256, 0] ![256, 1024] inb) w _ (ix2 (⟨i.val - 256, by omega⟩ : Fin 256) j : S256.Idx)
  · rw [dif_neg h]
    have hm : (ix2 i j : S512.Idx) ∉ (Rect.unit (s := S512) ![256, 0] ![256, 1024] inb).set := by
      rw [Rect.mem_set_unit]
      intro hm
      have h0 := hm 0
      change 256 ≤ i.val ∧ i.val < 256 + 256 at h0
      omega
    refine (View.canon_cons_of_not_mem (Val := Elt Ideal) (⟨Rect.unit (s := S512) ![256, 0] ![256, 1024] inb, w⟩ : View.Piece (Elt Ideal) S512 e) _ hm).trans ?_
    have e0 : (ix2 i j : S512.Idx) = (Rect.unit (s := S512) ![0, 0] ![256, 1024] inb').emb (ix2 (⟨i.val, by omega⟩ : Fin 256) j : S256.Idx) := by
      funext a
      fin_cases a
      · exact Fin.ext (by show i.val = 0 + 1 * i.val; omega)
      · exact Fin.ext (by show j.val = 0 + 1 * j.val; omega)
    rw [e0]
    exact View.canon_cons_emb (Val := Elt Ideal) (Rect.unit (s := S512) ![0, 0] ![256, 1024] inb') w' _ (ix2 (⟨i.val, by omega⟩ : Fin 256) j : S256.Idx)

/-- Half of a tile of 512 rows, read back. -/
theorem ld_half {e : EltTy} (x : S512.Idx → Elt Ideal e) (o : ℕ) (inb : ∀ a, (![o, 0] : Fin 2 → ℕ) a + S256.size a ≤ S512.size a) (r : Fin 256) (j : Fin 1024) (i : Fin 512) (hi : i.val = o + r.val) :
    (View.ld (Val := Elt Ideal) (S := S512) (e' := e) x (Rect.unit (s := S512) ![o, 0] ![256, 1024] inb) : S256.Idx → Elt Ideal e) (ix2 r j) = x (ix2 i j) := by
  refine congrArg x ?_
  funext a
  fin_cases a
  · exact Fin.ext (by show o + 1 * r.val = i.val; omega)
  · exact Fin.ext (by show 0 + 1 * j.val = j.val; omega)

/-- Four thousand and ninety-six rows in eight pairs of runs of 256. -/
theorem sum_runs (F : Fin 4096 → EReal) :
    ∑ t : Fin 8, ((∑ r : Fin 256, F ⟨t.val * 512 + r.val, by omega⟩) + ∑ r : Fin 256, F ⟨t.val * 512 + (256 + r.val), by omega⟩) = ∑ R, F R := by
  have e : ∀ t : Fin 8, (∑ r : Fin 256, F ⟨t.val * 512 + r.val, by omega⟩) + ∑ r : Fin 256, F ⟨t.val * 512 + (256 + r.val), by omega⟩
      = ∑ r : Fin 512, F ⟨t.val * 512 + r.val, by omega⟩ := fun t =>
    (Fin.sum_univ_add (M := EReal) (a := 256) (b := 256) fun r : Fin (256 + 256) => F ⟨t.val * 512 + r.val, by omega⟩).symm
  rw [Finset.sum_congr (M := EReal) rfl fun t _ => e t]
  exact Fin.sum_mul_add_congr (f := F) fun t r hl => rfl

/-- A product over 4096 in eight slots of 512. -/
theorem sum_slots (F : Fin 4096 → EReal) :
    ((((((((∑ e : Fin 512, F ⟨e.val, by omega⟩) + ∑ e : Fin 512, F ⟨512 + e.val, by omega⟩) + ∑ e : Fin 512, F ⟨1024 + e.val, by omega⟩)
      + ∑ e : Fin 512, F ⟨1536 + e.val, by omega⟩) + ∑ e : Fin 512, F ⟨2048 + e.val, by omega⟩) + ∑ e : Fin 512, F ⟨2560 + e.val, by omega⟩)
      + ∑ e : Fin 512, F ⟨3072 + e.val, by omega⟩) + ∑ e : Fin 512, F ⟨3584 + e.val, by omega⟩) = ∑ R, F R := by
  have h : ∑ t : Fin 8, ∑ e : Fin 512, F ⟨t.val * 512 + e.val, by omega⟩ = ∑ R, F R :=
    Fin.sum_mul_add_congr (f := F) fun t r hl => rfl
  rw [← h, Fin.sum_univ_eight]
  simp only [Fin.val_zero, Fin.val_one, Nat.zero_mul, Nat.zero_add, Nat.one_mul]
  rfl

/-- A value that grows by one term at each of eight points. -/
theorem acc_eq (S : (n : ℕ) → n < 8 → EReal) (term : ℕ → EReal) (h0 : S 0 (by omega) = term 0)
    (hs : ∀ (n : ℕ) (h : n + 1 < 8), S (n + 1) h = S n (by omega) + term (n + 1)) : S 7 (by omega) = ∑ t : Fin 8, term t.val := by
  rw [Fin.sum_univ_eight, hs 6, hs 5, hs 4, hs 3, hs 2, hs 1, hs 0, h0]
  rfl

end Cert.Rows8

end
-- ==== Proof.CtxVal.lean ====
/- The shift and scale gradients over the context rows: the kernel's result and the reference's at one element. -/
module

public import proofs.«01_k».proof.Proof.Gen.CtxIdeal
public import proofs.«01_k».proof.Proof.Rows8
public import proofs.«01_k».proof.Proof.Gen.CtxIdeal.Skeleton
public import proofs.«01_k».proof.Proof.Gen.CtxIdeal.Launch
public import proofs.«01_k».proof.Proof.Gen.CtxIdeal.Points
public import proofs.«01_k».proof.Proof.Gen.CtxIdeal.Frame
public import proofs.«01_k».proof.Proof.Gen.CtxRefIdeal
public import proofs.«01_k».proof.Proof.Gen.CtxRefIdeal.Run
public import proofs.«01_k».proof.Proof.Gen.CtxRefIdeal.Read
public import Idealize.ShloMosaic.Lib.Pipeline.Value
public import Idealize.ShloMosaic.Lib.Pipeline.ValueKit
public import Idealize.ShloMosaic.Lib.StableHlo.Run

set_option maxRecDepth 16384

@[expose] public noncomputable section

open Idealize.ShloMosaic Idealize.ShloMosaic.TcCoe Idealize.SL.Sem
open Idealize.ShloMosaic.Pipeline (Dat)

namespace Cert.CtxSpec

open Cert.CtxRefIdeal

/-- One normalized value of a context row. -/
def xn (X : FVec Ideal S1x256x1024 .f32) (r : Fin 256) (j : Fin 1024) : EReal :=
  X (ix3 0 r j) * Ideal.rsqrt (Ideal.div (∑ k : Fin 1024, X (ix3 0 r k) * X (ix3 0 r k)) (Ideal.ofBits .f32 0x44800000#32) + Ideal.ofBits .f32 0x358637BD#32)
/-- The cotangent on a context row. -/
def ct (D : FVec Ideal S1x4352x1024 .f32) (r : Fin 256) (j : Fin 1024) : EReal := D (ix3 0 ⟨4096 + r.val, by omega⟩ j)
/-- Row 0 is the scale's gradient, row 1 the shift's. -/
def OUT (X : FVec Ideal S1x256x1024 .f32) (D : FVec Ideal S1x4352x1024 .f32) : FVec Ideal S8x1024 .f32 := fun y =>
  if (y 0).val = 1 then ∑ r : Fin 256, ct D r (y 1) else if (y 0).val = 0 then ∑ r : Fin 256, ct D r (y 1) * xn X r (y 1) else 0

end Cert.CtxSpec

namespace Cert.CtxRefIdeal.Val

open Cert.CtxRefIdeal Cert.CtxRefIdeal.Gen Cert.CtxRefIdeal.Read Cert.CtxSpec

variable (X : FVec Ideal S1x256x1024 .f32) (D : FVec Ideal S1x4352x1024 .f32)

theorem xn_at (i : Fin 256) (j : Fin 1024) : (val_main_v16 (F := Ideal) X (ix2 i j) : EReal) = xn X i j := by
  pointwise [val_main_v16, val_main_v15, val_main_v14, val_main_v13, val_main_v12, val_main_v11, val_main_v10, val_main_v9, val_main_v8, val_main_v7, val_main_v6, val_main_cst, val_main_cst_0, val_main_cst_1, xn]

theorem out_eq : val_main_v31 (F := Ideal) X D = OUT X D := by
  funext y
  idx_vars y
  pointwise [val_main_v31, val_main_v30, val_main_v29, val_main_v28, val_main_v27, val_main_v26, val_main_v25, val_main_v24, val_main_v23, val_main_cst_3, val_main_cst_4, val_main_cst_5, xn_at, OUT, ct]
  by_cases h0 : y0.val = 0
  · rw [dif_pos (by omega), if_neg (by omega), if_pos (by omega)]
    exact Finset.sum_congr (M := EReal) rfl fun r _ => mul_comm _ _
  · by_cases h1 : y0.val = 1
    · rw [dif_neg (by omega), dif_pos (by omega), if_pos (by omega)]
    · rw [dif_neg (by omega), dif_neg (by omega), if_neg (by omega), if_neg (by omega)]

end Cert.CtxRefIdeal.Val

namespace Cert.CtxIdeal.Val

open Cert.CtxIdeal Cert.CtxIdeal.Gen Cert.CtxSpec

variable (m : (ℓ : Loc nD τ sig) → Buf (Elt Ideal) ℓ)

theorem idx : ∀ t : Fin cfg0.N, win0_0.index t = ![16, 0]
    ∧ win0_1.index t = ![0, 0]
    ∧ win0_2.index t = ![0, 0] :=
  (by decide +kernel : ∀ t : Fin grid0.N, _)

abbrev aX (c : Dev nD) : FVec Ideal S1x256x1024 .f32 := m ((c : Thread nD τ).loc main_arg0)
abbrev aD (c : Dev nD) : FVec Ideal S1x4352x1024 .f32 := m ((c : Thread nD τ).loc main_arg2)

theorem xblk (c : Dev nD) (t : Fin cfg0.N) (r : Fin 256) (k : Fin 1024) :
    ((iblk m c 1 t : FVec Ideal S256x1024 .f32) (ix2 r k) : EReal) = aX m c (ix3 0 r k) := by
  have e : ((V m c main_v1 : FVec Ideal S256x1024 .f32) (ix2 r k) : EReal) = aX m c (ix3 0 r k) := by
    unfold V; entry_read; pointwise []
  rw [← e]; blk_ext [iblk, idx t]
theorem dblk (c : Dev nD) (t : Fin cfg0.N) (r : Fin 256) (k : Fin 1024) :
    ((iblk m c 0 t : FVec Ideal S256x1024 .f32) (ix2 r k) : EReal) = aD m c (ix3 0 ⟨4096 + r.val, by omega⟩ k) := by
  have e : ((V m c main_v0 : FVec Ideal S4352x1024 .f32) (ix2 ⟨4096 + r.val, by omega⟩ k) : EReal) = aD m c (ix3 0 ⟨4096 + r.val, by omega⟩ k) := by
    unfold V; entry_read; pointwise []
  rw [← e]; blk_ext [iblk, idx t]

theorem pay2_at (y : S8x1024.Idx) : (k0_pay2 (F := Ideal) y : EReal) = 0 := by
  idx_vars y
  pointwise [k0_pay2]
theorem pay3_at (c : Dev nD) (t : Fin cfg0.N) (a : Vec Ideal S1x1024 .f32) (j : Fin 1024) :
    (k0_pay3 (iblk m c 1 t) (iblk m c 0 t) a (ix2 0 j) : EReal) = a (ix2 0 j) + ∑ r : Fin 256, ct (aD m c) r j * xn (aX m c) r j := by
  have e : ∀ x d : FVec Ideal S256x1024 .f32, (k0_pay3 x d a (ix2 0 j) : EReal) = a (ix2 0 j) + ∑ r : Fin 256, d (ix2 r j) * (x (ix2 r j)
      * Ideal.rsqrt (Ideal.div (∑ k : Fin 1024, x (ix2 r k) * x (ix2 r k)) (Ideal.ofBits .f32 0x44800000#32) + Ideal.ofBits .f32 0x358637BD#32)) := by
    intro x d
    pointwise [k0_pay3, k0_pay1]
  refine (e _ _).trans (congrArg (_ + ·) (Finset.sum_congr (M := EReal) rfl fun r _ => ?_))
  rw [dblk]
  simp only [xblk]
  rfl
theorem pay4_at (c : Dev nD) (t : Fin cfg0.N) (a : Vec Ideal S1x1024 .f32) (j : Fin 1024) :
    (k0_pay4 (iblk m c 0 t) a (ix2 0 j) : EReal) = a (ix2 0 j) + ∑ r : Fin 256, ct (aD m c) r j := by
  have e : ∀ d : FVec Ideal S256x1024 .f32, (k0_pay4 d a (ix2 0 j) : EReal) = a (ix2 0 j) + ∑ r : Fin 256, d (ix2 r j) := by
    intro d
    pointwise [k0_pay4, k0_pay1]
  refine (e _).trans (congrArg (_ + ·) (Finset.sum_congr (M := EReal) rfl fun r _ => ?_))
  rw [dblk]
  rfl

theorem point (c : Dev nD) (t : Fin cfg0.N) (y : S8x1024.Idx) :
    ((outsAt0 m c t : FVec Ideal S8x1024 .f32) y : EReal) = OUT (aX m c) (aD m c) y := by
  idx_vars y
  unfold outsAt0
  frame_out
  refine (Rows8.canon_row 1 _ _ _ y0 y1).trans ?_
  by_cases h1 : y0.val = 1
  · rw [if_pos h1]
    refine (pay4_at m c t _ y1).trans ?_
    rw [Rows8.read_row _ _ 1 _ 1 rfl, Rows8.canon_row, if_neg (by decide), Rows8.canon_all, pay2_at, zero_add]
    exact (if_pos h1).symm
  · rw [if_neg h1, Rows8.canon_row]
    by_cases h0 : y0.val = 0
    · rw [if_pos h0]
      refine (pay3_at m c t _ y1).trans ?_
      rw [Rows8.read_row _ _ 0 _ 0 rfl, Rows8.canon_all, pay2_at, zero_add]
      exact ((if_neg h1).trans (if_pos h0)).symm
    · rw [if_neg h0, Rows8.canon_all, pay2_at]
      exact ((if_neg h1).trans (if_neg h0)).symm

/-- The kernel's result array. -/
theorem final (c : Dev nD) : (dats m 0 c).arrAt 2 (Cert.CtxIdeal.cfgs 0).N = OUT (aX m c) (aD m c) := by
  refine (dats m 0 c).arrAt_eq_of_covers 2 _ (by decide +kernel) fun t hf y => ?_
  blk_simp
  rw [after0_2]
  have e : (((View.whole main_v2).slice (win0_2.rect t)).emb y) = y := by
    funext a
    fin_cases a
    · exact Fin.ext (by show _ = (y 0).val; blk_simp [idx t]; rfl)
    · exact Fin.ext (by show _ = (y 1).val; blk_simp [idx t]; rfl)
  rw [e]
  exact point m c t y

end Cert.CtxIdeal.Val

end
-- ==== Proof.CtxClaim.lean ====
/- The claims about the call that sums the gradients of the context modulation. -/

module

public import proofs.«01_k».proof.Defs
public import proofs.«01_k».proof.Proof.CtxVal
public import proofs.«01_k».proof.Proof.Gen.Ctx.Frame
public import proofs.«01_k».proof.Proof.Gen.CtxRefIdeal.Run
public import Idealize.ShloMosaic.Lib.Claim
public import Idealize.ShloMosaic.Lib.Quiescent

@[expose] public noncomputable section

namespace Cert.Proof

open Idealize.ShloMosaic Idealize.SL.Sem

theorem quiescent_Ctx : Cert.quiescent_Ctx := fun m ρ _ => Cert.Ctx.Gen.frame m ρ

theorem quiescent_CtxIdeal : Cert.quiescent_CtxIdeal := fun m ρ _ => Cert.CtxIdeal.Gen.frame m ρ

theorem quiescent_CtxRefIdeal : Cert.quiescent_CtxRefIdeal := by
  intro m g _
  exact (θ_run _ _ _).mono (fun r h => ⟨fun c => (h c).2, sem_eq_zero_of_no_sems rfl r.2⟩) (Cert.CtxRefIdeal.Value.run m g)

theorem preserves_Ctx_CtxIdeal : Cert.preserves_Ctx_CtxIdeal := trivial

theorem algebraic_CtxIdeal_CtxRefIdeal : Cert.algebraic_CtxIdeal_CtxRefIdeal := by
  pair_intro
  · run_from Cert.CtxIdeal.Gen.run_main m g
  · run_from Cert.CtxRefIdeal.Value.run m' g'
    rw [Cert.CtxRefIdeal.Read.val_main_v31_eq, (hagree c).2.2]
    exact (Cert.CtxRefIdeal.Val.out_eq _ _).trans (Cert.CtxIdeal.Val.final m c).symm

end Cert.Proof

end
-- ==== Proof.RealRows.lean ====
/- Sums and products of real numbers are real numbers. -/
module

public import proofs.«01_k».proof.Proof.AttnSpec
public import Idealize.ShloMosaic.Lib.Pipeline.ValueKit

@[expose] public noncomputable section

open Idealize.ShloMosaic

namespace Cert.RealRows

/-- A value that is a real number. -/
abbrev Re (x : EReal) : Prop := ∃ r : ℝ, x = ((r : ℝ) : EReal)

theorem mul {x y : EReal} (hx : Re x) (hy : Re y) : Re (x * y) := by
  obtain ⟨a, rfl⟩ := hx
  obtain ⟨b, rfl⟩ := hy
  exact ⟨a * b, (EReal.coe_mul a b).symm⟩
theorem add {x y : EReal} (hx : Re x) (hy : Re y) : Re (x + y) := by
  obtain ⟨a, rfl⟩ := hx
  obtain ⟨b, rfl⟩ := hy
  exact ⟨a + b, (EReal.coe_add a b).symm⟩
theorem sum {n : ℕ} (f : Fin n → EReal) (h : ∀ k, Re (f k)) : Re (∑ k, f k) := by
  choose g hg using h
  exact ⟨∑ k, g k, by rw [Finset.sum_congr (M := EReal) rfl fun k _ => hg k]; exact (AttnSpec.coe_sum _ _).symm⟩
theorem row {n : ℕ} (f : Fin n → EReal) (h : ∀ k, Re (f k)) : ∃ g : Fin n → ℝ, f = fun k => (g k : EReal) := by
  choose g hg using h
  exact ⟨g, funext hg⟩
theorem one : Re (Ideal.ofBits .f32 0x3F800000#32) := ⟨1, by simp [Ideal.ofBits, Ideal.ieee, -EReal.coe_mul]; norm_num⟩

end Cert.RealRows

end
-- ==== Proof.NormSpec.lean ====
/- The gradient of a root-mean-square norm on one row of 1024 values, in the two ways it is written. -/
module

public import Idealize.ShloMosaic.PureOps.Ideal
public import proofs.«01_k».proof.Proof.AttnSpec

@[expose] public noncomputable section

namespace Cert.NormSpec

open Idealize.ShloMosaic

/-- The reciprocal root of a row's mean square. -/
def rinv (f : Fin 1024 → EReal) : EReal :=
  Ideal.rsqrt (Ideal.div (∑ k, f k * f k) (Ideal.ofBits .f32 0x44800000#32) + Ideal.ofBits .f32 0x358637BD#32)
/-- The row's mean square with the small constant. -/
def msq (f : Fin 1024 → EReal) : EReal :=
  Ideal.div (∑ k, f k * f k) (Ideal.ofBits .f32 0x44800000#32) + Ideal.ofBits .f32 0x358637BD#32
/-- The gradient through the norm as the kernel writes it. -/
def byHand (f g : Fin 1024 → EReal) (j : Fin 1024) : EReal :=
  rinv f * (g j - f j * rinv f * Ideal.div (∑ k, g k * (f k * rinv f)) (Ideal.ofBits .f32 0x44800000#32))
/-- The gradient of the mean square's factor, as the chain rule writes it. -/
def chainW (f g : Fin 1024 → EReal) : EReal :=
  Ideal.div ((∑ k, f k * g k) * (Ideal.ofBits .f32 0xBF000000#32 * Ideal.div (rinv f) (msq f))) (Ideal.ofBits .f32 0x44800000#32)
/-- The gradient through the norm as the chain rule writes it, on top of another gradient. -/
def byChain (a : EReal) (f g : Fin 1024 → EReal) (j : Fin 1024) : EReal :=
  ((a + g j * rinv f) + f j * chainW f g) + chainW f g * f j

theorem c1024 : (Ideal.ofBits .f32 0x44800000#32 : EReal) = ((1024 : ℝ) : EReal) := by
  simp [Ideal.ofBits, Ideal.ieee, -EReal.coe_mul]; norm_num
theorem cHalf : (Ideal.ofBits .f32 0xBF000000#32 : EReal) = ((-(1 / 2) : ℝ) : EReal) := by
  simp [Ideal.ofBits, Ideal.ieee, -EReal.coe_mul]; norm_num
theorem cEps : ∃ e : ℝ, 0 < e ∧ (Ideal.ofBits .f32 0x358637BD#32 : EReal) = ((e : ℝ) : EReal) := by
  refine ⟨8796093 / 8796093022208, by norm_num, ?_⟩
  simp [Ideal.ofBits, Ideal.ieee, -EReal.coe_mul]; norm_num

theorem div_real (x y : ℝ) (h : y ≠ 0) : Ideal.div (x : EReal) (y : EReal) = ((x / y : ℝ) : EReal) := by
  rw [Ideal.div_coe h, ← EReal.coe_mul, mul_one_div]

/-- A row of reals has a positive mean square with the constant, and its reciprocal root. -/
theorem rinv_real (f : Fin 1024 → ℝ) : ∃ q R : ℝ, 0 < q ∧ R * R = q⁻¹ ∧ msq (fun k => f k) = (q : EReal) ∧ rinv (fun k => f k) = (R : EReal) := by
  obtain ⟨e, he, hE⟩ := cEps
  have h0 : 0 ≤ ∑ k, f k * f k := Finset.sum_nonneg fun k _ => mul_self_nonneg _
  have hq : 0 < (∑ k, f k * f k) / 1024 + e := by positivity
  have hm : msq (fun k => f k) = (((∑ k, f k * f k) / 1024 + e : ℝ) : EReal) := by
    unfold msq
    rw [c1024, hE]
    simp only [← EReal.coe_mul, ← AttnSpec.coe_sum]
    rw [div_real _ _ (by norm_num), EReal.coe_add]
  refine ⟨_, (Real.sqrt ((∑ k, f k * f k) / 1024 + e))⁻¹, hq, ?_, hm, ?_⟩
  · rw [← mul_inv, Real.mul_self_sqrt hq.le]
  · show Ideal.rsqrt (msq _) = _
    rw [hm, Ideal.rsqrt_coe, if_neg (not_lt.mpr hq.le), if_neg hq.ne']

theorem byHand_real (f g : Fin 1024 → ℝ) (j : Fin 1024) : ∃ x : ℝ, byHand (fun k => f k) (fun k => g k) j = (x : EReal) := by
  obtain ⟨q, R, hq, hR, hm, hr⟩ := rinv_real f
  unfold byHand
  rw [hr, c1024]
  simp only [← EReal.coe_mul, ← AttnSpec.coe_sum]
  rw [div_real _ _ (by norm_num)]
  exact ⟨_, by norm_cast⟩

/-- On rows of reals the two agree. -/
theorem byChain_eq (a : EReal) (f g : Fin 1024 → ℝ) (j : Fin 1024) :
    byChain a (fun k => f k) (fun k => g k) j = a + byHand (fun k => f k) (fun k => g k) j := by
  obtain ⟨q, R, hq, hR, hm, hr⟩ := rinv_real f
  unfold byChain chainW byHand
  rw [hm, hr, c1024, cHalf]
  rw [div_real _ _ hq.ne']
  simp only [← EReal.coe_mul, ← AttnSpec.coe_sum]
  rw [div_real _ _ (by norm_num), div_real _ _ (by norm_num), add_assoc, add_assoc]
  refine congrArg (a + ·) ?_
  norm_cast
  have hs : ∑ k, g k * (f k * R) = (∑ k, f k * g k) * R := by
    rw [Finset.sum_mul]
    exact Finset.sum_congr rfl fun k _ => by ring
  rw [hs, div_eq_mul_inv R q, ← hR]
  ring

end Cert.NormSpec

end
-- ==== Proof.ModbSpec.lean ====
/- The second modulation's gradient, elementwise. -/
module

public import proofs.«01_k».proof.Proof.Gen.ModbIdeal
public import proofs.«01_k».proof.Proof.Gen.ModbRefIdeal
public import proofs.«01_k».proof.Proof.Rows8
public import proofs.«01_k».proof.Proof.NormSpec

set_option maxRecDepth 16384

@[expose] public noncomputable section

open Idealize.ShloMosaic Idealize.ShloMosaic.TcCoe Idealize.SL.Sem

namespace Cert.ModbSpec

open Cert.ModbRefIdeal Cert.NormSpec

variable (X O : FVec Ideal S1x4096x1024 .f32) (M : FVec Ideal S1x6144 .f32) (W : FVec Ideal S1x1024x4096 .f32)
  (D : FVec Ideal S1x4096x1024 .f32) (U : FVec Ideal S1x4096x4096 .f32)

/-- The gate of the attention branch. -/
def gate (j : Fin 1024) : EReal := M (ix2 0 ⟨2048 + j.val, by omega⟩)
/-- One plus the scale of the second modulation. -/
def amp (j : Fin 1024) : EReal := Ideal.ofBits .f32 0x3F800000#32 + M (ix2 0 ⟨4096 + j.val, by omega⟩)
/-- The residual stream after the attention branch. -/
def x1 (R : Fin 4096) (j : Fin 1024) : EReal := X (ix3 0 R j) + gate M j * O (ix3 0 R j)
/-- The gradient of the modulated values. -/
def dh (R : Fin 4096) (j : Fin 1024) : EReal := ∑ e : Fin 4096, U (ix3 0 R e) * W (ix3 0 j e)
/-- The gradient of the normalized values. -/
def dn (R : Fin 4096) (j : Fin 1024) : EReal := dh W U R j * amp M j
/-- The gradient of the residual stream. -/
def dx (R : Fin 4096) (j : Fin 1024) : EReal := D (ix3 0 R j) + byHand (x1 X O M R) (dn M W U R) j
/-- The normalized values. -/
def xn (R : Fin 4096) (j : Fin 1024) : EReal := x1 X O M R j * rinv (x1 X O M R)
/-- What one row adds to the rows of sums. -/
def term (i : ℕ) (j : Fin 1024) (R : Fin 4096) : EReal :=
  if i = 2 then dx X O M W D U R j * O (ix3 0 R j) else if i = 1 then dh W U R j else if i = 0 then dh W U R j * xn X O M R j else 0

def OUT7 : FVec Ideal S4096x1024 .f32 := fun y => dx X O M W D U (y 0) (y 1)
def OUT8 : FVec Ideal S4096x1024 .bf16 := fun y => dx X O M W D U (y 0) (y 1) * gate M (y 1)
def OUT9 : FVec Ideal S8x1024 .f32 := fun y => ∑ R, term X O M W D U (y 0).val (y 1) R

end Cert.ModbSpec

end
-- ==== Proof.ModbRefVal.lean ====
/- The reference's three results of the second modulation's gradient. -/
module

public import proofs.«01_k».proof.Proof.ModbSpec
public import proofs.«01_k».proof.Proof.Gen.ModbRefIdeal.Run
public import proofs.«01_k».proof.Proof.Gen.ModbRefIdeal.Read
public import Idealize.ShloMosaic.Lib.Pipeline.ValueKit

set_option maxRecDepth 16384

@[expose] public noncomputable section

open Idealize.ShloMosaic Idealize.ShloMosaic.TcCoe Idealize.SL.Sem

namespace Cert.ModbRefIdeal.Val

open Cert.ModbRefIdeal Cert.ModbRefIdeal.Gen Cert.ModbRefIdeal.Read Cert.ModbSpec Cert.NormSpec

variable (X O : FVec Ideal S1x4096x1024 .f32) (M : FVec Ideal S1x6144 .f32) (W : FVec Ideal S1x1024x4096 .f32)
  (D : FVec Ideal S1x4096x1024 .f32) (U : FVec Ideal S1x4096x4096 .f32)

theorem x1_at (R : Fin 4096) (j : Fin 1024) : (val_main_v10 (F := Ideal) X O M (ix2 R j) : EReal) = x1 X O M R j := by
  pointwise [val_main_v10, val_main_v9, val_main_v8, val_main_v7, val_main_v6, val_main_v2, x1, gate]
theorem o_at (R : Fin 4096) (j : Fin 1024) : (val_main_v7 (F := Ideal) O (ix2 R j) : EReal) = O (ix3 0 R j) := by
  pointwise [val_main_v7]
theorem d_at (R : Fin 4096) (j : Fin 1024) : (val_main_v32 (F := Ideal) D (ix2 R j) : EReal) = D (ix3 0 R j) := by
  pointwise [val_main_v32]
theorem msq_at (R : Fin 4096) : (val_main_v17 (F := Ideal) X O M (ix2 R 0) : EReal) = msq (x1 X O M R) := by
  pointwise [val_main_v17, val_main_v16, val_main_v15, val_main_v14, val_main_v13, val_main_v12, val_main_v11, val_main_cst, val_main_cst_0, val_main_cst_1, x1_at, msq]
theorem rinv_at (R : Fin 4096) : (val_main_v18 (F := Ideal) X O M (ix2 R 0) : EReal) = rinv (x1 X O M R) := by
  pointwise [val_main_v18, msq_at]
  rfl
theorem half_at (R : Fin 4096) : (val_main_v21 (F := Ideal) X O M (ix2 R 0) : EReal) = Ideal.ofBits .f32 0xBF000000#32 * Ideal.div (rinv (x1 X O M R)) (msq (x1 X O M R)) := by
  pointwise [val_main_v21, val_main_v20, val_main_v19, val_main_cst_2, msq_at, rinv_at]
theorem xn_at (R : Fin 4096) (j : Fin 1024) : (val_main_v23 (F := Ideal) X O M (ix2 R j) : EReal) = xn X O M R j := by
  pointwise [val_main_v23, val_main_v22, x1_at, rinv_at, xn]
theorem dh_at (R : Fin 4096) (j : Fin 1024) : (val_main_v34 (F := Ideal) W U (ix2 R j) : EReal) = dh W U R j := by
  pointwise [val_main_v34, val_main_v33, val_main_v30, dh]
theorem dn_at (R : Fin 4096) (j : Fin 1024) : (val_main_v41 (F := Ideal) M W U (ix2 R j) : EReal) = dn M W U R j := by
  pointwise [val_main_v41, val_main_v40, val_main_v25, val_main_v24, val_main_cst_3, val_main_v4, dh_at, dn, amp]
theorem w_at (R : Fin 4096) : (val_main_v51 (F := Ideal) X O M W U (ix1 R) : EReal) = chainW (x1 X O M R) (dn M W U R) := by
  pointwise [val_main_v51, val_main_v50, val_main_v49, val_main_v48, val_main_v44, val_main_v43, val_main_v42, val_main_cst_6, val_main_cst_7, val_main_cst_8, half_at, x1_at, dn_at, chainW, Fin.sum_univ_one]
theorem dx_at (R : Fin 4096) (j : Fin 1024) : (val_main_v56 (F := Ideal) X O M W D U (ix2 R j) : EReal) = byChain (D (ix3 0 R j)) (x1 X O M R) (dn M W U R) j := by
  pointwise [val_main_v56, val_main_v55, val_main_v54, val_main_v53, val_main_v52, val_main_v47, val_main_v46, val_main_v45, x1_at, dn_at, rinv_at, d_at, w_at, byChain]
/-- Where the rows are real numbers, the chain rule's form is the one written by hand. -/
def Real : Prop := ∀ R : Fin 4096, (∃ f : Fin 1024 → ℝ, x1 X O M R = fun k => (f k : EReal)) ∧ ∃ g : Fin 1024 → ℝ, dn M W U R = fun k => (g k : EReal)

theorem chain_eq (h : Real X O M W U) (R : Fin 4096) (j : Fin 1024) : byChain (D (ix3 0 R j)) (x1 X O M R) (dn M W U R) j = dx X O M W D U R j := by
  obtain ⟨⟨f, hf⟩, g, hg⟩ := h R
  unfold dx
  rw [hf, hg]
  exact byChain_eq _ f g j

theorem out7 (h : Real X O M W U) : val_main_v56 (F := Ideal) X O M W D U = OUT7 X O M W D U := by
  funext y
  idx_vars y
  exact (dx_at X O M W D U y0 y1).trans (chain_eq X O M W D U h y0 y1)

theorem out8 (h : Real X O M W U) : val_main_v62 (F := Ideal) X O M W D U = OUT8 X O M W D U := by
  funext y
  idx_vars y
  have e : (val_main_v62 (F := Ideal) X O M W D U (ix2 y0 y1) : EReal) = byChain (D (ix3 0 y0 y1)) (x1 X O M y0) (dn M W U y0) y1 * gate M y1 := by
    pointwise [val_main_v62, val_main_v58, val_main_v57, val_main_v8, val_main_v6, val_main_v2, dx_at, gate]
    exact mul_comm _ _
  exact e.trans (congrArg (· * gate M y1) (chain_eq X O M W D U h y0 y1))

theorem out9 (h : Real X O M W U) : val_main_v64 (F := Ideal) X O M W D U = OUT9 X O M W D U := by
  funext y
  idx_vars y
  have e : (val_main_v64 (F := Ideal) X O M W D U (ix2 y0 y1) : EReal) = (if y0.val = 0 then ∑ R, xn X O M R y1 * dh W U R y1 else if y0.val = 1 then ∑ R, dh W U R y1
      else if y0.val = 2 then ∑ R, dx X O M W D U R y1 * O (ix3 0 R y1) else 0) := by
    pointwise [val_main_v64, val_main_v39, val_main_v36, val_main_v61, val_main_v38, val_main_v60, val_main_v35, val_main_v37, val_main_v59, val_main_v63, val_main_cst_4, val_main_cst_5, val_main_cst_9, val_main_cst_10, dx_at, dh_at, xn_at, o_at]
    simp only [chain_eq X O M W D U h]
    by_cases h0 : y0.val = 0
    · rw [dif_pos (by omega), if_pos h0]
    · by_cases h1 : y0.val = 1
      · rw [dif_neg (by omega), dif_pos (by omega), if_neg h0, if_pos h1]
      · by_cases h2 : y0.val = 2
        · rw [dif_neg (by omega), dif_neg (by omega), dif_pos (by omega), if_neg h0, if_neg h1, if_pos h2]
        · rw [dif_neg (by omega), dif_neg (by omega), dif_neg (by omega), if_neg h0, if_neg h1, if_neg h2]
  refine e.trans ?_
  show _ = ∑ R, term X O M W D U y0.val y1 R
  unfold term
  by_cases h0 : y0.val = 0
  · rw [if_pos h0]
    refine Finset.sum_congr (M := EReal) rfl fun R _ => ?_
    rw [if_neg (by omega), if_neg (by omega), if_pos h0]
    exact mul_comm _ _
  · by_cases h1 : y0.val = 1
    · rw [if_neg h0, if_pos h1]
      refine Finset.sum_congr (M := EReal) rfl fun R _ => ?_
      rw [if_neg (by omega), if_pos h1]
    · by_cases h2 : y0.val = 2
      · rw [if_neg h0, if_neg h1, if_pos h2]
        exact Finset.sum_congr (M := EReal) rfl fun R _ => (if_pos h2).symm
      · rw [if_neg h0, if_neg h1, if_neg h2]
        refine (Finset.sum_eq_zero (M := EReal) fun R _ => ?_).symm
        rw [if_neg h2, if_neg h1, if_neg h0]

end Cert.ModbRefIdeal.Val

end
-- ==== Proof.ModbPre.lean ====
/- The second modulation's precondition: every element read is a real number. -/
module

public import proofs.«01_k».proof.Proof.AttnPre
public import proofs.«01_k».proof.Proof.RealRows
public import proofs.«01_k».proof.Proof.ModbRefVal
public import proofs.«01_k».proof.Proof.Gen.Pre_finite_mod2

set_option maxRecDepth 16384

@[expose] public noncomputable section

open Idealize.ShloMosaic Idealize.ShloMosaic.TcCoe Idealize.SL.Sem

namespace Cert.Pre_finite_mod2.At

open Cert.Pre_finite_mod2 Cert.Pre_finite_mod2.Gen
open Cert.Pre_finite.At (real_of_lt word_and)
open Cert.RealRows (Re)

instance : Subsingleton S_.Idx := ⟨fun a b => funext fun k => k.elim0⟩

theorem fn_real (X O : FVec Ideal S1x4096x1024 .f32) (M : FVec Ideal S1x6144 .f32) (W : FVec Ideal S1x1024x4096 .f32) (D : FVec Ideal S1x4096x1024 .f32) (U : FVec Ideal S1x4096x4096 .f32)
    (j : S_.Idx) (h : fn (F := Ideal) X O M W D U j = 1#1) :
    (∀ i, Re (X i)) ∧ (∀ i, Re (O i)) ∧ (∀ i, Re (M i)) ∧ (∀ i, Re (W i)) ∧ (∀ i, Re (U i)) := by
  dsimp only [fn, fn_part1] at h
  obtain ⟨h, h4⟩ := word_and _ _ h
  obtain ⟨h, h3⟩ := word_and _ _ h
  obtain ⟨h, h2⟩ := word_and _ _ h
  obtain ⟨h0, h1⟩ := word_and _ _ h
  exact ⟨fun i => real_of_lt _ (Host.reduce_andi_all _ _ _ _ _ h0 i), fun i => real_of_lt _ (Host.reduce_andi_all _ _ _ _ _ h1 i), fun i => real_of_lt _ (Host.reduce_andi_all _ _ _ _ _ h2 i),
    fun i => real_of_lt _ (Host.reduce_andi_all _ _ _ _ _ h3 i), fun i => real_of_lt _ (Host.reduce_andi_all _ _ _ _ _ h4 i)⟩

/-- With such arguments the rows the chain rule works on are real. -/
theorem rows_real (X O : FVec Ideal S1x4096x1024 .f32) (M : FVec Ideal S1x6144 .f32) (W : FVec Ideal S1x1024x4096 .f32) (D : FVec Ideal S1x4096x1024 .f32) (U : FVec Ideal S1x4096x4096 .f32)
    (j : S_.Idx) (h : fn (F := Ideal) X O M W D U j = 1#1) : Cert.ModbRefIdeal.Val.Real X O M W U := by
  obtain ⟨hX, hO, hM, hW, hU⟩ := fn_real X O M W D U j h
  intro R
  exact ⟨RealRows.row _ fun k => RealRows.add (hX _) (RealRows.mul (hM _) (hO _)),
    RealRows.row _ fun k => RealRows.mul (RealRows.sum _ fun e => RealRows.mul (hU _) (hW _)) (RealRows.add RealRows.one (hM _))⟩

end Cert.Pre_finite_mod2.At

end
-- ==== Proof.ModbPay.lean ====
/- What the second modulation's kernel computes from whole tiles. -/
module

public import proofs.«01_k».proof.Proof.ModbSpec
public import proofs.«01_k».proof.Proof.Gen.ModbIdeal.Skeleton
public import Idealize.ShloMosaic.Lib.Pipeline.Value
public import Idealize.ShloMosaic.Lib.Pipeline.ValueKit

set_option maxRecDepth 16384

@[expose] public noncomputable section

open Idealize.ShloMosaic Idealize.ShloMosaic.TcCoe Idealize.SL.Sem

namespace Cert.ModbIdeal.Pay

open Cert.ModbIdeal Cert.ModbIdeal.Gen Cert.NormSpec

abbrev T := FVec Ideal S256x1024 .f32

/-- A row of a tile. -/
abbrev row (x : T) (r : Fin 256) : Fin 1024 → EReal := fun j => x (ix2 r j)

theorem pay3_at (a0 a1 a2 a3 a4 a5 a6 a7 : FVec Ideal S512x512 .bf16) (b0 b1 b2 b3 b4 b5 b6 b7 : FVec Ideal S1x1024x512 .bf16) (r : Fin 512) (j : Fin 1024) :
    (k0_pay3 (F := Ideal) (k0_pay1 a0 b0 a1 b1 a2 b2 a3 b3) (k0_pay2 a4 b4) a5 b5 a6 b6 a7 b7 (ix2 r j) : EReal) =
      ((((((((∑ e : Fin 512, (a0 (ix2 r e) : EReal) * (b0 (ix3 0 j e) : EReal)) + ∑ e : Fin 512, (a1 (ix2 r e) : EReal) * (b1 (ix3 0 j e) : EReal))
      + ∑ e : Fin 512, (a2 (ix2 r e) : EReal) * (b2 (ix3 0 j e) : EReal)) + ∑ e : Fin 512, (a3 (ix2 r e) : EReal) * (b3 (ix3 0 j e) : EReal))
      + ∑ e : Fin 512, (a4 (ix2 r e) : EReal) * (b4 (ix3 0 j e) : EReal)) + ∑ e : Fin 512, (a5 (ix2 r e) : EReal) * (b5 (ix3 0 j e) : EReal))
      + ∑ e : Fin 512, (a6 (ix2 r e) : EReal) * (b6 (ix3 0 j e) : EReal)) + ∑ e : Fin 512, (a7 (ix2 r e) : EReal) * (b7 (ix3 0 j e) : EReal)) := by
  pointwise [k0_pay3, k0_pay1, k0_pay2]
theorem pay4_at (p q a0 b0 a1 b1 a2 b2) (r : Fin 256) (j : Fin 1024) :
    (k0_pay4 (F := Ideal) p q a0 b0 a1 b1 a2 b2 (ix2 r j) : EReal) = k0_pay3 p q a0 b0 a1 b1 a2 b2 (ix2 ⟨r.val, by omega⟩ j) := by
  unfold k0_pay4
  generalize k0_pay3 p q a0 b0 a1 b1 a2 b2 = z
  pointwise []
theorem pay16_at (p) (r : Fin 256) (j : Fin 1024) :
    (k0_pay16 (F := Ideal) p (ix2 r j) : EReal) = p (ix2 ⟨256 + r.val, by omega⟩ j) := by
  pointwise [k0_pay16]
theorem pay6_at (x : T) (r : Fin 256) : (k0_pay6 (F := Ideal) x (ix2 r 0) : EReal) = rinv (row x r) := by
  pointwise [k0_pay6, k0_pay5, rinv]
theorem pay7_at (x : T) (r : Fin 256) (j : Fin 1024) : (k0_pay7 (F := Ideal) x (ix2 r j) : EReal) = x (ix2 r j) * rinv (row x r) := by
  unfold k0_pay7
  have e : ∀ z : FVec Ideal S256x1 .f32, (mulf (k0_pay5 x) (broadcastTo S256x1024 z broadcasts_S256x1_S256x1024) (ix2 r j) : EReal) = x (ix2 r j) * z (ix2 r 0) := by
    intro z
    pointwise [k0_pay5]
  exact (e _).trans (congrArg (x (ix2 r j) * ·) (pay6_at x r))
theorem pay8_at (g x d : T) (s : FVec Ideal S1x1024 .f32) (r : Fin 256) (j : Fin 1024) :
    (k0_pay8 g (k0_pay6 x) (k0_pay7 x) d s (ix2 r j) : EReal) =
      d (ix2 r j) + byHand (row x r) (fun j => g (ix2 r j) * (Ideal.ofBits .f32 0x3F800000#32 + s (ix2 0 j))) j := by
  have e : ∀ (z : FVec Ideal S256x1 .f32) (y : T), (k0_pay8 g z y d s (ix2 r j) : EReal) = d (ix2 r j) + z (ix2 r 0) * (g (ix2 r j) * (Ideal.ofBits .f32 0x3F800000#32 + s (ix2 0 j))
      - y (ix2 r j) * Ideal.div (∑ k : Fin 1024, g (ix2 r k) * (Ideal.ofBits .f32 0x3F800000#32 + s (ix2 0 k)) * y (ix2 r k)) (Ideal.ofBits .f32 0x44800000#32)) := by
    intro z y
    pointwise [k0_pay8]
  refine (e _ _).trans ?_
  rw [pay6_at]
  simp only [pay7_at]
  rfl
theorem pay9_at (g x d : T) (z : FVec Ideal S256x1 .f32) (y : T) (s a : FVec Ideal S1x1024 .f32) (r : Fin 256) (j : Fin 1024) :
    (k0_pay9 g z y d s a (ix2 r j) : EReal) = k0_pay8 g z y d s (ix2 r j) * a (ix2 0 j) := by
  unfold k0_pay9
  generalize k0_pay8 g z y d s = w
  pointwise []
theorem pay10_at (y : S8x1024.Idx) : (k0_pay10 (F := Ideal) y : EReal) = 0 := by
  idx_vars y
  pointwise [k0_pay10]
theorem pay11_at (g y : T) (a : FVec Ideal S1x1024 .f32) (j : Fin 1024) :
    (k0_pay11 g y a (ix2 0 j) : EReal) = a (ix2 0 j) + ∑ r : Fin 256, g (ix2 r j) * y (ix2 r j) := by
  pointwise [k0_pay11]
theorem pay14_at (g : T) (a : FVec Ideal S1x1024 .f32) (j : Fin 1024) :
    (k0_pay14 (k0_pay12 a) (k0_pay13 g) (ix2 0 j) : EReal) = a (ix2 0 j) + ∑ r : Fin 256, g (ix2 r j) := by
  pointwise [k0_pay14, k0_pay12, k0_pay13]
theorem pay15_at (g o : T) (a : FVec Ideal S1x1024 .f32) (j : Fin 1024) :
    (k0_pay15 g a o (ix2 0 j) : EReal) = a (ix2 0 j) + ∑ r : Fin 256, g (ix2 r j) * o (ix2 r j) := by
  pointwise [k0_pay15]
theorem pay18_at (x : T) (r : Fin 256) : (k0_pay18 (F := Ideal) x (ix2 r 0) : EReal) = rinv (row x r) := by
  pointwise [k0_pay18, k0_pay17, rinv]
theorem pay19_at (x : T) (r : Fin 256) (j : Fin 1024) : (k0_pay19 (F := Ideal) x (ix2 r j) : EReal) = x (ix2 r j) * rinv (row x r) := by
  unfold k0_pay19
  have e : ∀ z : FVec Ideal S256x1 .f32, (mulf (k0_pay17 x) (broadcastTo S256x1024 z broadcasts_S256x1_S256x1024) (ix2 r j) : EReal) = x (ix2 r j) * z (ix2 r 0) := by
    intro z
    pointwise [k0_pay17]
  exact (e _).trans (congrArg (x (ix2 r j) * ·) (pay18_at x r))
theorem pay21_at (p : FVec Ideal S512x1024 .f32) (s : FVec Ideal S1x1024 .f32) (r : Fin 256) (j : Fin 1024) :
    (k0_pay21 p s (ix2 r j) : EReal) = p (ix2 ⟨256 + r.val, by omega⟩ j) * (Ideal.ofBits .f32 0x3F800000#32 + s (ix2 0 j)) := by
  pointwise [k0_pay21, k0_pay16]
theorem pay23_at (p : FVec Ideal S512x1024 .f32) (x d : T) (s : FVec Ideal S1x1024 .f32) (r : Fin 256) (j : Fin 1024) :
    (k0_pay23 (k0_pay18 x) (k0_pay19 x) (k0_pay20 d) (k0_pay21 p s) (k0_pay22 p x s) (ix2 r j) : EReal) =
      d (ix2 r j) + byHand (row x r) (fun j => p (ix2 ⟨256 + r.val, by omega⟩ j) * (Ideal.ofBits .f32 0x3F800000#32 + s (ix2 0 j))) j := by
  have e : ∀ (z : FVec Ideal S256x1 .f32) (y g q : T), (k0_pay23 z y (k0_pay20 d) g q (ix2 r j) : EReal) = d (ix2 r j) + z (ix2 r 0) * (g (ix2 r j) - y (ix2 r j) * q (ix2 r j)) := by
    intro z y g q
    pointwise [k0_pay23, k0_pay20]
  have e' : ∀ y g : T, (broadcastTo S256x1024 (divf (shapeCast S256x1 (multiReduction .add [1] S256 (mulf g y) 0x00000000#32 reduces_S256x1024_S256 (.inl rfl) rfl) shapeCasts_S256_S256x1)
      (broadcast S256x1 (Scalar.ofBits (F := Ideal) .f32 0x44800000#32))) broadcasts_S256x1_S256x1024 (ix2 r j) : EReal)
      = Ideal.div (∑ k : Fin 1024, g (ix2 r k) * y (ix2 r k)) (Ideal.ofBits .f32 0x44800000#32) := by
    intro y g
    pointwise []
  refine (e _ _ _ _).trans ?_
  rw [pay18_at, pay19_at, pay21_at, show k0_pay22 p x s (ix2 r j) = _ from e' (k0_pay19 x) (k0_pay21 p s)]
  simp only [pay19_at, pay21_at]
  rfl
theorem pay24_at (z : FVec Ideal S256x1 .f32) (y d g q : T) (a : FVec Ideal S1x1024 .f32) (r : Fin 256) (j : Fin 1024) :
    (k0_pay24 z y d g q a (ix2 r j) : EReal) = k0_pay23 z y d g q (ix2 r j) * a (ix2 0 j) := by
  unfold k0_pay24
  generalize k0_pay23 z y d g q = w
  pointwise []
theorem pay25_at (g y : T) (a : FVec Ideal S1x1024 .f32) (j : Fin 1024) :
    (k0_pay25 g y a (ix2 0 j) : EReal) = a (ix2 0 j) + ∑ r : Fin 256, g (ix2 r j) * y (ix2 r j) := by
  pointwise [k0_pay25]
theorem pay26_at (g : T) (a : FVec Ideal S1x1024 .f32) (j : Fin 1024) :
    (k0_pay26 g a (ix2 0 j) : EReal) = a (ix2 0 j) + ∑ r : Fin 256, g (ix2 r j) := by
  pointwise [k0_pay26]
theorem pay27_at (z : FVec Ideal S256x1 .f32) (y d g q o : T) (a : FVec Ideal S1x1024 .f32) (j : Fin 1024) :
    (k0_pay27 z y d g q a o (ix2 0 j) : EReal) = a (ix2 0 j) + ∑ r : Fin 256, k0_pay23 z y d g q (ix2 r j) * o (ix2 r j) := by
  unfold k0_pay27
  generalize k0_pay23 z y d g q = w
  pointwise []

end Cert.ModbIdeal.Pay

end
-- ==== Proof.ModbVal.lean ====
/- The second modulation's gradient: the kernel's three result arrays. -/
module

public import proofs.«01_k».proof.Proof.ModbPay
public import proofs.«01_k».proof.Proof.Gen.ModbIdeal.Launch
public import proofs.«01_k».proof.Proof.Gen.ModbIdeal.Points
public import proofs.«01_k».proof.Proof.Gen.ModbIdeal.Frame
public import Idealize.ShloMosaic.Lib.Pipeline.ReadBack
public import Idealize.ShloMosaic.Lib.StableHlo.Run

set_option maxRecDepth 16384

@[expose] public noncomputable section

open Idealize.ShloMosaic Idealize.ShloMosaic.TcCoe Idealize.SL.Sem
open Idealize.ShloMosaic.Pipeline (Dat)

namespace Cert.ModbIdeal.Val

open Cert.ModbIdeal Cert.ModbIdeal.Gen Cert.ModbIdeal.Pay Cert.NormSpec

variable (m : (ℓ : Loc nD τ sig) → Buf (Elt Ideal) ℓ)

theorem idx : ∀ t : Fin cfg0.N, win0_0.index t = ![t.val, 0]
    ∧ win0_1.index t = ![0, 0, 0]
    ∧ win0_2.index t = ![t.val, 0]
    ∧ win0_3.index t = ![t.val, 0]
    ∧ win0_4.index t = ![t.val, 0]
    ∧ win0_5.index t = ![0, 4]
    ∧ win0_6.index t = ![0, 2]
    ∧ win0_7.index t = ![t.val, 0]
    ∧ win0_8.index t = ![t.val, 0]
    ∧ win0_9.index t = ![0, 0] :=
  (by decide +kernel : ∀ t : Fin grid0.N, _)

theorem lt8 (t : Fin cfg0.N) : t.val < 8 := lt_of_lt_of_eq t.isLt N_0

abbrev aX (c : Dev nD) : FVec Ideal S1x4096x1024 .f32 := m ((c : Thread nD τ).loc main_arg0)
abbrev aO (c : Dev nD) : FVec Ideal S1x4096x1024 .f32 := m ((c : Thread nD τ).loc main_arg1)
abbrev aM (c : Dev nD) : FVec Ideal S1x6144 .f32 := m ((c : Thread nD τ).loc main_arg2)
abbrev aW (c : Dev nD) : FVec Ideal S1x1024x4096 .f32 := m ((c : Thread nD τ).loc main_arg3)
abbrev aD (c : Dev nD) : FVec Ideal S1x4096x1024 .f32 := m ((c : Thread nD τ).loc main_arg4)
abbrev aU (c : Dev nD) : FVec Ideal S1x4096x4096 .f32 := m ((c : Thread nD τ).loc main_arg5)

/-- The residual stream, of the kernel's memory. -/
abbrev x1 (c : Dev nD) := ModbSpec.x1 (aX m c) (aO m c) (aM m c)
abbrev dh (c : Dev nD) := ModbSpec.dh (aW m c) (aU m c)
abbrev dn (c : Dev nD) := ModbSpec.dn (aM m c) (aW m c) (aU m c)
abbrev dx (c : Dev nD) := ModbSpec.dx (aX m c) (aO m c) (aM m c) (aW m c) (aD m c) (aU m c)
abbrev xn (c : Dev nD) := ModbSpec.xn (aX m c) (aO m c) (aM m c)
abbrev term (c : Dev nD) := ModbSpec.term (aX m c) (aO m c) (aM m c) (aW m c) (aD m c) (aU m c)

theorem ublk (c : Dev nD) (t : Fin cfg0.N) (r : Fin 512) (e : Fin 4096) (R : Fin 4096) (hR : R.val = t.val * 512 + r.val) :
    ((iblk m c 0 t : FVec Ideal S512x4096 .bf16) (ix2 r e) : EReal) = aU m c (ix3 0 R e) := by
  have h : ((V m c main_v11 : FVec Ideal S4096x4096 .bf16) (ix2 R e) : EReal) = aU m c (ix3 0 R e) := by
    unfold V; entry_read; pointwise []
  rw [← h]; blk_ext [iblk, idx t]
theorem wblk (c : Dev nD) (t : Fin cfg0.N) (s : Fin 8) (j : Fin 1024) (e : Fin 512) (E : Fin 4096) (hE : E.val = s.val * 512 + e.val) :
    ((iblk m c 1 t : FVec Ideal S8x1024x512 .bf16) (ix3 s j e) : EReal) = aW m c (ix3 0 j E) := by
  have h : ((V m c main_v9 : FVec Ideal S8x1024x512 .bf16) (ix3 s j e) : EReal) = aW m c (ix3 0 j E) := by
    obtain ⟨E, hl⟩ := E
    obtain rfl : E = s.val * 512 + e.val := hE
    unfold V; entry_read; pointwise []
  rw [← h]; blk_ext [iblk, idx t]
theorem xblk (c : Dev nD) (t : Fin cfg0.N) (r : Fin 512) (j : Fin 1024) (R : Fin 4096) (hR : R.val = t.val * 512 + r.val) :
    ((iblk m c 2 t : FVec Ideal S512x1024 .f32) (ix2 r j) : EReal) = x1 m c R j := by
  have h : ((V m c main_v5 : FVec Ideal S4096x1024 .f32) (ix2 R j) : EReal) = x1 m c R j := by
    unfold V; entry_read; pointwise [ModbSpec.x1, ModbSpec.gate]
  rw [← h]; blk_ext [iblk, idx t]
theorem dblk (c : Dev nD) (t : Fin cfg0.N) (r : Fin 512) (j : Fin 1024) (R : Fin 4096) (hR : R.val = t.val * 512 + r.val) :
    ((iblk m c 3 t : FVec Ideal S512x1024 .f32) (ix2 r j) : EReal) = aD m c (ix3 0 R j) := by
  have h : ((V m c main_v12 : FVec Ideal S4096x1024 .f32) (ix2 R j) : EReal) = aD m c (ix3 0 R j) := by
    unfold V; entry_read; pointwise []
  rw [← h]; blk_ext [iblk, idx t]
theorem oblk (c : Dev nD) (t : Fin cfg0.N) (r : Fin 512) (j : Fin 1024) (R : Fin 4096) (hR : R.val = t.val * 512 + r.val) :
    ((iblk m c 4 t : FVec Ideal S512x1024 .f32) (ix2 r j) : EReal) = aO m c (ix3 0 R j) := by
  have h : ((V m c main_v13 : FVec Ideal S4096x1024 .f32) (ix2 R j) : EReal) = aO m c (ix3 0 R j) := by
    unfold V; entry_read; pointwise []
  rw [← h]; blk_ext [iblk, idx t]
theorem sblk (c : Dev nD) (t : Fin cfg0.N) (j : Fin 1024) :
    ((iblk m c 5 t : FVec Ideal S1x1024 .f32) (ix2 0 j) : EReal) = aM m c (ix2 0 ⟨4096 + j.val, by omega⟩) := by
  have h : ((V m c main_arg2 : FVec Ideal S1x6144 .f32) (ix2 0 ⟨4096 + j.val, by omega⟩) : EReal) = aM m c (ix2 0 ⟨4096 + j.val, by omega⟩) := by
    unfold V; entry_read; pointwise []
  rw [← h]; blk_ext [iblk, idx t]
theorem gblk (c : Dev nD) (t : Fin cfg0.N) (j : Fin 1024) :
    ((iblk m c 6 t : FVec Ideal S1x1024 .f32) (ix2 0 j) : EReal) = ModbSpec.gate (aM m c) j := by
  have h : ((V m c main_arg2 : FVec Ideal S1x6144 .f32) (ix2 0 ⟨2048 + j.val, by omega⟩) : EReal) = ModbSpec.gate (aM m c) j := by
    unfold V; entry_read; pointwise [ModbSpec.gate]
  rw [← h]; blk_ext [iblk, idx t]

/-- One slot of the product. -/
theorem slot (c : Dev nD) (t : Fin cfg0.N) (r : Fin 512) (j : Fin 1024) (R : Fin 4096) (hR : R.val = t.val * 512 + r.val) (o : ℕ) (s : Fin 8)
    (inb : ∀ a, (![0, o] : Fin 2 → ℕ) a + S512x512.size a ≤ S512x4096.size a) (inb' : ∀ a, (![s.val, 0, 0] : Fin 3 → ℕ) a + S1x1024x512.size a ≤ S8x1024x512.size a)
    (k : Fin 512 → Fin 4096) (hk : ∀ e, (k e).val = o + e.val) (hs : o = s.val * 512) :
    ∑ e : Fin 512, ((View.ld (Val := Elt Ideal) (S := S512x4096) (e' := .bf16) (iblk m c 0 t) (Rect.unit (s := S512x4096) ![0, o] ![512, 512] inb) : FVec Ideal S512x512 .bf16) (ix2 r e) : EReal)
      * ((View.ld (Val := Elt Ideal) (S := S8x1024x512) (e' := .bf16) (iblk m c 1 t) (Rect.unit (s := S8x1024x512) ![s.val, 0, 0] ![1, 1024, 512] inb') : FVec Ideal S1x1024x512 .bf16) (ix3 0 j e) : EReal)
      = ∑ e : Fin 512, (aU m c (ix3 0 R (k e)) : EReal) * aW m c (ix3 0 j (k e)) := by
  refine Finset.sum_congr (M := EReal) rfl fun e _ => congrArg₂ (· * ·) ?_ ?_
  · refine Eq.trans ?_ (ublk m c t r (k e) R hR)
    refine congrArg (iblk m c 0 t) ?_
    funext a
    fin_cases a
    · exact Fin.ext (by show 0 + 1 * r.val = r.val; omega)
    · exact Fin.ext (by show o + 1 * e.val = (k e).val; rw [hk e]; omega)
  · refine Eq.trans ?_ (wblk m c t s j e (k e) (by rw [hk e, hs]))
    refine congrArg (iblk m c 1 t) ?_
    funext a
    fin_cases a
    · exact Fin.ext (by show s.val + 1 * 0 = s.val; omega)
    · exact Fin.ext (by show 0 + 1 * j.val = j.val; omega)
    · exact Fin.ext (by show 0 + 1 * e.val = e.val; omega)

abbrev lu0 (c : Dev nD) (t : Fin cfg0.N) : FVec Ideal S512x512 .bf16 := View.ld (iblk m c 0 t) (Rect.unit ![0, 0] ![512, 512] inb_S512x4096_S512x512_0_0)
abbrev lu1 (c : Dev nD) (t : Fin cfg0.N) : FVec Ideal S512x512 .bf16 := View.ld (iblk m c 0 t) (Rect.unit ![0, 512] ![512, 512] inb_S512x4096_S512x512_0_512)
abbrev lu2 (c : Dev nD) (t : Fin cfg0.N) : FVec Ideal S512x512 .bf16 := View.ld (iblk m c 0 t) (Rect.unit ![0, 1024] ![512, 512] inb_S512x4096_S512x512_0_1024)
abbrev lu3 (c : Dev nD) (t : Fin cfg0.N) : FVec Ideal S512x512 .bf16 := View.ld (iblk m c 0 t) (Rect.unit ![0, 1536] ![512, 512] inb_S512x4096_S512x512_0_1536)
abbrev lu4 (c : Dev nD) (t : Fin cfg0.N) : FVec Ideal S512x512 .bf16 := View.ld (iblk m c 0 t) (Rect.unit ![0, 2048] ![512, 512] inb_S512x4096_S512x512_0_2048)
abbrev lu5 (c : Dev nD) (t : Fin cfg0.N) : FVec Ideal S512x512 .bf16 := View.ld (iblk m c 0 t) (Rect.unit ![0, 2560] ![512, 512] inb_S512x4096_S512x512_0_2560)
abbrev lu6 (c : Dev nD) (t : Fin cfg0.N) : FVec Ideal S512x512 .bf16 := View.ld (iblk m c 0 t) (Rect.unit ![0, 3072] ![512, 512] inb_S512x4096_S512x512_0_3072)
abbrev lu7 (c : Dev nD) (t : Fin cfg0.N) : FVec Ideal S512x512 .bf16 := View.ld (iblk m c 0 t) (Rect.unit ![0, 3584] ![512, 512] inb_S512x4096_S512x512_0_3584)
abbrev lw0 (c : Dev nD) (t : Fin cfg0.N) : FVec Ideal S1x1024x512 .bf16 := View.ld (iblk m c 1 t) (Rect.unit ![0, 0, 0] ![1, 1024, 512] inb_S8x1024x512_S1x1024x512_0_0_0)
abbrev lw1 (c : Dev nD) (t : Fin cfg0.N) : FVec Ideal S1x1024x512 .bf16 := View.ld (iblk m c 1 t) (Rect.unit ![1, 0, 0] ![1, 1024, 512] inb_S8x1024x512_S1x1024x512_1_0_0)
abbrev lw2 (c : Dev nD) (t : Fin cfg0.N) : FVec Ideal S1x1024x512 .bf16 := View.ld (iblk m c 1 t) (Rect.unit ![2, 0, 0] ![1, 1024, 512] inb_S8x1024x512_S1x1024x512_2_0_0)
abbrev lw3 (c : Dev nD) (t : Fin cfg0.N) : FVec Ideal S1x1024x512 .bf16 := View.ld (iblk m c 1 t) (Rect.unit ![3, 0, 0] ![1, 1024, 512] inb_S8x1024x512_S1x1024x512_3_0_0)
abbrev lw4 (c : Dev nD) (t : Fin cfg0.N) : FVec Ideal S1x1024x512 .bf16 := View.ld (iblk m c 1 t) (Rect.unit ![4, 0, 0] ![1, 1024, 512] inb_S8x1024x512_S1x1024x512_4_0_0)
abbrev lw5 (c : Dev nD) (t : Fin cfg0.N) : FVec Ideal S1x1024x512 .bf16 := View.ld (iblk m c 1 t) (Rect.unit ![5, 0, 0] ![1, 1024, 512] inb_S8x1024x512_S1x1024x512_5_0_0)
abbrev lw6 (c : Dev nD) (t : Fin cfg0.N) : FVec Ideal S1x1024x512 .bf16 := View.ld (iblk m c 1 t) (Rect.unit ![6, 0, 0] ![1, 1024, 512] inb_S8x1024x512_S1x1024x512_6_0_0)
abbrev lw7 (c : Dev nD) (t : Fin cfg0.N) : FVec Ideal S1x1024x512 .bf16 := View.ld (iblk m c 1 t) (Rect.unit ![7, 0, 0] ![1, 1024, 512] inb_S8x1024x512_S1x1024x512_7_0_0)

/-- The product tile of a point. -/
abbrev P (c : Dev nD) (t : Fin cfg0.N) : FVec Ideal S512x1024 .f32 :=
  k0_pay3 (k0_pay1 (lu0 m c t) (lw0 m c t) (lu1 m c t) (lw1 m c t) (lu2 m c t) (lw2 m c t) (lu3 m c t) (lw3 m c t)) (k0_pay2 (lu4 m c t) (lw4 m c t))
    (lu5 m c t) (lw5 m c t) (lu6 m c t) (lw6 m c t) (lu7 m c t) (lw7 m c t)

theorem P_at (c : Dev nD) (t : Fin cfg0.N) (r : Fin 512) (j : Fin 1024) (R : Fin 4096) (hR : R.val = t.val * 512 + r.val) :
    (P m c t (ix2 r j) : EReal) = dh m c R j := by
  refine (pay3_at _ _ _ _ _ _ _ _ _ _ _ _ _ _ _ _ r j).trans ?_
  refine Eq.trans ?_ (Rows8.sum_slots fun e => (aU m c (ix3 0 R e) : EReal) * aW m c (ix3 0 j e))
  exact congrArg₂ (· + ·) (congrArg₂ (· + ·) (congrArg₂ (· + ·) (congrArg₂ (· + ·) (congrArg₂ (· + ·) (congrArg₂ (· + ·) (congrArg₂ (· + ·) (slot m c t r j R hR 0 0 _ _ (fun e => ⟨e.val, by omega⟩) (fun e => (Nat.zero_add _).symm) rfl)
    (slot m c t r j R hR 512 1 _ _ (fun e => ⟨512 + e.val, by omega⟩) (fun e => rfl) rfl))
    (slot m c t r j R hR 1024 2 _ _ (fun e => ⟨1024 + e.val, by omega⟩) (fun e => rfl) rfl))
    (slot m c t r j R hR 1536 3 _ _ (fun e => ⟨1536 + e.val, by omega⟩) (fun e => rfl) rfl))
    (slot m c t r j R hR 2048 4 _ _ (fun e => ⟨2048 + e.val, by omega⟩) (fun e => rfl) rfl))
    (slot m c t r j R hR 2560 5 _ _ (fun e => ⟨2560 + e.val, by omega⟩) (fun e => rfl) rfl))
    (slot m c t r j R hR 3072 6 _ _ (fun e => ⟨3072 + e.val, by omega⟩) (fun e => rfl) rfl))
    (slot m c t r j R hR 3584 7 _ _ (fun e => ⟨3584 + e.val, by omega⟩) (fun e => rfl) rfl)

/-- The first half of the product tile. -/
abbrev G (c : Dev nD) (t : Fin cfg0.N) : T :=
  k0_pay4 (k0_pay1 (lu0 m c t) (lw0 m c t) (lu1 m c t) (lw1 m c t) (lu2 m c t) (lw2 m c t) (lu3 m c t) (lw3 m c t)) (k0_pay2 (lu4 m c t) (lw4 m c t))
    (lu5 m c t) (lw5 m c t) (lu6 m c t) (lw6 m c t) (lu7 m c t) (lw7 m c t)

theorem G_at (c : Dev nD) (t : Fin cfg0.N) (r : Fin 256) (j : Fin 1024) (R : Fin 4096) (hR : R.val = t.val * 512 + r.val) :
    (G m c t (ix2 r j) : EReal) = dh m c R j :=
  (pay4_at _ _ _ _ _ _ _ _ r j).trans (P_at m c t _ j R hR)
theorem H_at (c : Dev nD) (t : Fin cfg0.N) (r : Fin 256) (j : Fin 1024) (R : Fin 4096) (hR : R.val = t.val * 512 + (256 + r.val)) :
    (k0_pay16 (P m c t) (ix2 r j) : EReal) = dh m c R j :=
  (pay16_at _ r j).trans (P_at m c t _ j R hR)

abbrev xl (c : Dev nD) (t : Fin cfg0.N) : T := View.ld (iblk m c 2 t) (Rect.unit ![0, 0] ![256, 1024] inb_S512x1024_S256x1024_0_0)
abbrev xh (c : Dev nD) (t : Fin cfg0.N) : T := View.ld (iblk m c 2 t) (Rect.unit ![256, 0] ![256, 1024] inb_S512x1024_S256x1024_256_0)
abbrev dl (c : Dev nD) (t : Fin cfg0.N) : T := View.ld (iblk m c 3 t) (Rect.unit ![0, 0] ![256, 1024] inb_S512x1024_S256x1024_0_0)
abbrev dhi (c : Dev nD) (t : Fin cfg0.N) : T := View.ld (iblk m c 3 t) (Rect.unit ![256, 0] ![256, 1024] inb_S512x1024_S256x1024_256_0)
abbrev ol (c : Dev nD) (t : Fin cfg0.N) : T := View.ld (iblk m c 4 t) (Rect.unit ![0, 0] ![256, 1024] inb_S512x1024_S256x1024_0_0)
abbrev oh (c : Dev nD) (t : Fin cfg0.N) : T := View.ld (iblk m c 4 t) (Rect.unit ![256, 0] ![256, 1024] inb_S512x1024_S256x1024_256_0)

section
variable (c : Dev nD) (t : Fin cfg0.N) (r : Fin 256) (j : Fin 1024) (R : Fin 4096)
theorem xl_at (hR : R.val = t.val * 512 + r.val) : (xl m c t (ix2 r j) : EReal) = x1 m c R j :=
  (Rows8.ld_half (e := .f32) (iblk m c 2 t) 0 _ r j ⟨r.val, by omega⟩ (by simp)).trans (xblk m c t _ j R hR)
theorem xh_at (hR : R.val = t.val * 512 + (256 + r.val)) : (xh m c t (ix2 r j) : EReal) = x1 m c R j :=
  (Rows8.ld_half (e := .f32) (iblk m c 2 t) 256 _ r j ⟨256 + r.val, by omega⟩ rfl).trans (xblk m c t _ j R hR)
theorem dl_at (hR : R.val = t.val * 512 + r.val) : (dl m c t (ix2 r j) : EReal) = aD m c (ix3 0 R j) :=
  (Rows8.ld_half (e := .f32) (iblk m c 3 t) 0 _ r j ⟨r.val, by omega⟩ (by simp)).trans (dblk m c t _ j R hR)
theorem dhi_at (hR : R.val = t.val * 512 + (256 + r.val)) : (dhi m c t (ix2 r j) : EReal) = aD m c (ix3 0 R j) :=
  (Rows8.ld_half (e := .f32) (iblk m c 3 t) 256 _ r j ⟨256 + r.val, by omega⟩ rfl).trans (dblk m c t _ j R hR)
theorem ol_at (hR : R.val = t.val * 512 + r.val) : (ol m c t (ix2 r j) : EReal) = aO m c (ix3 0 R j) :=
  (Rows8.ld_half (e := .f32) (iblk m c 4 t) 0 _ r j ⟨r.val, by omega⟩ (by simp)).trans (oblk m c t _ j R hR)
theorem oh_at (hR : R.val = t.val * 512 + (256 + r.val)) : (oh m c t (ix2 r j) : EReal) = aO m c (ix3 0 R j) :=
  (Rows8.ld_half (e := .f32) (iblk m c 4 t) 256 _ r j ⟨256 + r.val, by omega⟩ rfl).trans (oblk m c t _ j R hR)

theorem dxl_at (hR : R.val = t.val * 512 + r.val) :
    (k0_pay8 (G m c t) (k0_pay6 (xl m c t)) (k0_pay7 (xl m c t)) (dl m c t) (iblk m c 5 t) (ix2 r j) : EReal) = dx m c R j := by
  refine (pay8_at (G m c t) (xl m c t) (dl m c t) (iblk m c 5 t) r j).trans ?_
  rw [dl_at m c t r j R hR, show row (xl m c t) r = x1 m c R from funext fun k => xl_at m c t r k R hR]
  have e : (fun j : Fin 1024 => (G m c t (ix2 r j) : EReal) * (Ideal.ofBits .f32 0x3F800000#32 + ((iblk m c 5 t : FVec Ideal S1x1024 .f32) (ix2 0 j) : EReal))) = dn m c R :=
    funext fun k => by rw [G_at m c t r k R hR, sblk m c t k]; rfl
  exact congrArg (fun g => _ + byHand _ g j) e
theorem dxh_at (hR : R.val = t.val * 512 + (256 + r.val)) :
    (k0_pay23 (k0_pay18 (xh m c t)) (k0_pay19 (xh m c t)) (k0_pay20 (dhi m c t)) (k0_pay21 (P m c t) (iblk m c 5 t)) (k0_pay22 (P m c t) (xh m c t) (iblk m c 5 t)) (ix2 r j) : EReal) = dx m c R j := by
  refine (pay23_at (P m c t) (xh m c t) (dhi m c t) (iblk m c 5 t) r j).trans ?_
  rw [dhi_at m c t r j R hR, show row (xh m c t) r = x1 m c R from funext fun k => xh_at m c t r k R hR]
  have e : (fun j : Fin 1024 => (P m c t (ix2 ⟨256 + r.val, by omega⟩ j) : EReal) * (Ideal.ofBits .f32 0x3F800000#32 + ((iblk m c 5 t : FVec Ideal S1x1024 .f32) (ix2 0 j) : EReal))) = dn m c R :=
    funext fun k => by rw [P_at m c t _ k R hR, sblk m c t k]; rfl
  exact congrArg (fun g => _ + byHand _ g j) e
theorem yl_at (hR : R.val = t.val * 512 + r.val) : (k0_pay7 (F := Ideal) (xl m c t) (ix2 r j) : EReal) = xn m c R j := by
  refine (pay7_at (xl m c t) r j).trans ?_
  rw [xl_at m c t r j R hR, show row (xl m c t) r = x1 m c R from funext fun k => xl_at m c t r k R hR]
  rfl
theorem yh_at (hR : R.val = t.val * 512 + (256 + r.val)) : (k0_pay19 (F := Ideal) (xh m c t) (ix2 r j) : EReal) = xn m c R j := by
  refine (pay19_at (xh m c t) r j).trans ?_
  rw [xh_at m c t r j R hR, show row (xh m c t) r = x1 m c R from funext fun k => xh_at m c t r k R hR]
  rfl
end

/-- The two runs of rows of a point. -/
abbrev lo (t : Fin cfg0.N) (r : Fin 256) : Fin 4096 := ⟨t.val * 512 + r.val, by have := lt8 t; omega⟩
abbrev hi (t : Fin cfg0.N) (r : Fin 256) : Fin 4096 := ⟨t.val * 512 + (256 + r.val), by have := lt8 t; omega⟩

theorem tile7 (c : Dev nD) (t : Fin cfg0.N) (i : Fin 512) (j : Fin 1024) (R : Fin 4096) (hR : R.val = t.val * 512 + i.val) :
    ((outsAt0 m c t.val t.isLt).1 (ix2 i j) : EReal) = dx m c R j := by
  by_cases h : t.val % 8 = 0
  · rw [outsAt0_A m c t h]; frame_open
    simp (disch := decide) only [↓ View.readCov_skip, ↓ View.readCov_cons_toLoadRect, ↓ View.readCov_fill]
    frame_out
    refine (Rows8.canon_halves (e := .f32) _ _ _ _ i j).trans ?_
    split
    · exact dxh_at m c t _ j R (by simp only; omega)
    · exact dxl_at m c t _ j R hR
  · rw [outsAt0_B m c t h]; frame_open
    simp (disch := decide) only [↓ View.readCov_skip, ↓ View.readCov_cons_toLoadRect, ↓ View.readCov_fill]
    frame_out
    refine (Rows8.canon_halves (e := .f32) _ _ _ _ i j).trans ?_
    split
    · exact dxh_at m c t _ j R (by simp only; omega)
    · exact dxl_at m c t _ j R hR

theorem tile8 (c : Dev nD) (t : Fin cfg0.N) (i : Fin 512) (j : Fin 1024) (R : Fin 4096) (hR : R.val = t.val * 512 + i.val) :
    ((outsAt0 m c t.val t.isLt).2.1 (ix2 i j) : EReal) = dx m c R j * ModbSpec.gate (aM m c) j := by
  by_cases h : t.val % 8 = 0
  · rw [outsAt0_A m c t h]; frame_open
    simp (disch := decide) only [↓ View.readCov_skip, ↓ View.readCov_cons_toLoadRect, ↓ View.readCov_fill]
    frame_out
    refine (Rows8.canon_halves (e := .bf16) _ _ _ _ i j).trans ?_
    split
    · exact (pay24_at _ _ _ _ _ _ _ j).trans (congrArg₂ (· * ·) (dxh_at m c t _ j R (by simp only; omega)) (gblk m c t j))
    · exact (pay9_at _ (xl m c t) _ _ _ _ _ _ j).trans (congrArg₂ (· * ·) (dxl_at m c t ⟨i.val, by omega⟩ j R hR) (gblk m c t j))
  · rw [outsAt0_B m c t h]; frame_open
    simp (disch := decide) only [↓ View.readCov_skip, ↓ View.readCov_cons_toLoadRect, ↓ View.readCov_fill]
    frame_out
    refine (Rows8.canon_halves (e := .bf16) _ _ _ _ i j).trans ?_
    split
    · exact (pay24_at _ _ _ _ _ _ _ j).trans (congrArg₂ (· * ·) (dxh_at m c t _ j R (by simp only; omega)) (gblk m c t j))
    · exact (pay9_at _ (xl m c t) _ _ _ _ _ _ j).trans (congrArg₂ (· * ·) (dxl_at m c t ⟨i.val, by omega⟩ j R hR) (gblk m c t j))

section
variable (c : Dev nD) (t : Fin cfg0.N) (a : FVec Ideal S1x1024 .f32) (j : Fin 1024)
theorem row0 : (k0_pay25 (k0_pay16 (P m c t)) (k0_pay19 (xh m c t)) (k0_pay11 (G m c t) (k0_pay7 (xl m c t)) a) (ix2 0 j) : EReal)
    = a (ix2 0 j) + ((∑ r, term m c 0 j (lo t r)) + ∑ r, term m c 0 j (hi t r)) := by
  refine (pay25_at _ _ _ j).trans ?_
  refine (congrArg₂ (· + ·) (pay11_at _ _ a j) rfl).trans ?_
  rw [add_assoc]
  refine congrArg (_ + ·) (congrArg₂ (· + ·) (Finset.sum_congr (M := EReal) rfl fun r _ => ?_) (Finset.sum_congr (M := EReal) rfl fun r _ => ?_))
  · exact congrArg₂ (· * ·) (G_at m c t r j (lo t r) rfl) (yl_at m c t r j (lo t r) rfl)
  · exact congrArg₂ (· * ·) (H_at m c t r j (hi t r) rfl) (yh_at m c t r j (hi t r) rfl)
theorem row1 : (k0_pay26 (k0_pay16 (P m c t)) (k0_pay14 (k0_pay12 a) (k0_pay13 (G m c t))) (ix2 0 j) : EReal)
    = a (ix2 0 j) + ((∑ r, term m c 1 j (lo t r)) + ∑ r, term m c 1 j (hi t r)) := by
  refine (pay26_at _ _ j).trans ?_
  refine (congrArg₂ (· + ·) (pay14_at _ a j) rfl).trans ?_
  rw [add_assoc]
  refine congrArg (_ + ·) (congrArg₂ (· + ·) (Finset.sum_congr (M := EReal) rfl fun r _ => ?_) (Finset.sum_congr (M := EReal) rfl fun r _ => ?_))
  · exact G_at m c t r j (lo t r) rfl
  · exact H_at m c t r j (hi t r) rfl
theorem row2 : (k0_pay27 (k0_pay18 (xh m c t)) (k0_pay19 (xh m c t)) (k0_pay20 (dhi m c t)) (k0_pay21 (P m c t) (iblk m c 5 t)) (k0_pay22 (P m c t) (xh m c t) (iblk m c 5 t))
      (k0_pay15 (k0_pay8 (G m c t) (k0_pay6 (xl m c t)) (k0_pay7 (xl m c t)) (dl m c t) (iblk m c 5 t)) a (ol m c t)) (oh m c t) (ix2 0 j) : EReal)
    = a (ix2 0 j) + ((∑ r, term m c 2 j (lo t r)) + ∑ r, term m c 2 j (hi t r)) := by
  refine (pay27_at _ _ _ _ _ _ _ j).trans ?_
  refine (congrArg₂ (· + ·) (pay15_at _ _ a j) rfl).trans ?_
  rw [add_assoc]
  refine congrArg (_ + ·) (congrArg₂ (· + ·) (Finset.sum_congr (M := EReal) rfl fun r _ => ?_) (Finset.sum_congr (M := EReal) rfl fun r _ => ?_))
  · exact congrArg₂ (· * ·) (dxl_at m c t r j (lo t r) rfl) (ol_at m c t r j (lo t r) rfl)
  · exact congrArg₂ (· * ·) (dxh_at m c t r j (hi t r) rfl) (oh_at m c t r j (hi t r) rfl)
end

/-- What a point adds to a row of sums. -/
def part (c : Dev nD) (i : Fin 8) (j : Fin 1024) (t : Fin cfg0.N) : EReal := (∑ r, term m c i.val j (lo t r)) + ∑ r, term m c i.val j (hi t r)

theorem part_zero (c : Dev nD) (i : Fin 8) (j : Fin 1024) (t : Fin cfg0.N) (h2 : ¬ i.val = 2) (h1 : ¬ i.val = 1) (h0 : ¬ i.val = 0) : part m c i j t = 0 := by
  have e : ∀ R, term m c i.val j R = 0 := fun R => (if_neg h2).trans ((if_neg h1).trans (if_neg h0))
  unfold part
  simp only [e, Finset.sum_const_zero, add_zero]

theorem sumsA (c : Dev nD) (t : Fin cfg0.N) (h : t.val % 8 = 0) (i : Fin 8) (j : Fin 1024) :
    ((outsAt0 m c t.val t.isLt).2.2 (ix2 i j) : EReal) = part m c i j t := by
  rw [outsAt0_A m c t h]; frame_open
  simp (disch := decide) only [↓ View.readCov_skip, ↓ View.readCov_cons_toLoadRect, ↓ View.readCov_fill]
  frame_out
  refine (Rows8.canon_row 2 _ _ _ i j).trans ?_
  by_cases h2 : i.val = 2
  · rw [if_pos h2]
    refine (row2 m c t _ j).trans ?_
    rw [Rows8.ld_row _ 2 _ 2 rfl, pay10_at, zero_add, part, h2]
  rw [if_neg h2]
  refine (Rows8.canon_row 1 _ _ _ i j).trans ?_
  by_cases h1 : i.val = 1
  · rw [if_pos h1]
    refine (row1 m c t _ j).trans ?_
    rw [Rows8.ld_row _ 1 _ 1 rfl, pay10_at, zero_add, part, h1]
  rw [if_neg h1]
  refine (Rows8.canon_row 0 _ _ _ i j).trans ?_
  by_cases h0 : i.val = 0
  · rw [if_pos h0]
    refine (row0 m c t _ j).trans ?_
    rw [Rows8.ld_row _ 0 _ 0 rfl, pay10_at, zero_add, part, h0]
  rw [if_neg h0, part_zero m c i j t h2 h1 h0]
  refine (Rows8.canon_row 2 _ _ _ i j).trans ((if_neg h2).trans ?_)
  refine (Rows8.canon_row 1 _ _ _ i j).trans ((if_neg h1).trans ?_)
  refine (Rows8.canon_row 0 _ _ _ i j).trans ((if_neg h0).trans ?_)
  exact (congrFun (Rows8.canon_all _ _ _) _).trans (pay10_at _)

theorem sumsB (c : Dev nD) (t : Fin cfg0.N) (h : ¬ t.val % 8 = 0) (i : Fin 8) (j : Fin 1024) :
    ((outsAt0 m c t.val t.isLt).2.2 (ix2 i j) : EReal) = (outsAt0 m c (t.val - 1) (by have := t.isLt; omega)).2.2 (ix2 i j) + part m c i j t := by
  rw [outsAt0_B m c t h]; frame_open
  simp (disch := decide) only [↓ View.readCov_skip, ↓ View.readCov_cons_toLoadRect, ↓ View.readCov_fill]
  frame_out
  refine (Rows8.writes_row _ _ 2 _ _ _ i j).trans ?_
  by_cases h2 : i.val = 2
  · rw [if_pos h2]
    refine (row2 m c t _ j).trans ?_
    rw [Rows8.ld_row _ 2 _ i h2, part, h2]
  rw [if_neg h2]
  refine (Rows8.writes_row _ _ 1 _ _ _ i j).trans ?_
  by_cases h1 : i.val = 1
  · rw [if_pos h1]
    refine (row1 m c t _ j).trans ?_
    rw [Rows8.ld_row _ 1 _ i h1, part, h1]
  rw [if_neg h1]
  refine (Rows8.writes_row _ _ 0 _ _ _ i j).trans ?_
  by_cases h0 : i.val = 0
  · rw [if_pos h0]
    refine (row0 m c t _ j).trans ?_
    rw [Rows8.ld_row _ 0 _ i h0, part, h0]
  rw [if_neg h0, part_zero m c i j t h2 h1 h0, add_zero]
  refine (Rows8.writes_row _ _ 2 _ _ _ i j).trans ((if_neg h2).trans ?_)
  refine (Rows8.writes_row _ _ 1 _ _ _ i j).trans ((if_neg h1).trans ?_)
  refine (Rows8.writes_row _ _ 0 _ _ _ i j).trans ((if_neg h0).trans ?_)
  exact congrFun (Memref.IsWhole.read_unread _ _) _

/-- The same, at a number. -/
def partN (c : Dev nD) (i : Fin 8) (j : Fin 1024) (n : ℕ) : EReal := if h : n < cfg0.N then part m c i j ⟨n, h⟩ else 0
theorem partN_eq (c : Dev nD) (i : Fin 8) (j : Fin 1024) (n : ℕ) (h : n < cfg0.N) : partN m c i j n = part m c i j ⟨n, h⟩ := by
  unfold partN
  rw [dif_pos h]

/-- The sums after the last point. -/
theorem sums_last (c : Dev nD) (i : Fin 8) (j : Fin 1024) (h : 7 < cfg0.N) :
    ((outsAt0 m c 7 h).2.2 (ix2 i j) : EReal) = ∑ R, term m c i.val j R := by
  have hN : cfg0.N = 8 := N_0
  refine (Rows8.acc_eq (fun n hn => ((outsAt0 m c n (by omega)).2.2 (ix2 i j) : EReal)) (partN m c i j) ?_ ?_).trans ?_
  · exact (sumsA m c ⟨0, by omega⟩ rfl i j).trans (partN_eq m c i j 0 (by omega)).symm
  · intro n hn
    exact (sumsB m c ⟨n + 1, by omega⟩ (by simp only; omega) i j).trans (congrArg (_ + ·) (partN_eq m c i j (n + 1) (by omega)).symm)
  · refine Eq.trans ?_ (Rows8.sum_runs fun R => term m c i.val j R)
    exact Finset.sum_congr (M := EReal) rfl fun t _ => partN_eq m c i j t.val (by have := t.isLt; omega)

theorem point7 (c : Dev nD) (t : Fin cfg0.N) (y : S512x1024.Idx) (z : S4096x1024.Idx) (h0 : (z 0).val = t.val * 512 + (y 0).val) (h1 : (z 1).val = (y 1).val) :
    ((outsAt0 m c t.val t.isLt).1 y : EReal) = ModbSpec.OUT7 (aX m c) (aO m c) (aM m c) (aW m c) (aD m c) (aU m c) z := by
  idx_vars y
  idx_vars z
  obtain rfl : z1 = y1 := Fin.ext h1
  exact tile7 m c t y0 z1 z0 h0
theorem point8 (c : Dev nD) (t : Fin cfg0.N) (y : S512x1024.Idx) (z : S4096x1024.Idx) (h0 : (z 0).val = t.val * 512 + (y 0).val) (h1 : (z 1).val = (y 1).val) :
    ((outsAt0 m c t.val t.isLt).2.1 y : EReal) = ModbSpec.OUT8 (aX m c) (aO m c) (aM m c) (aW m c) (aD m c) (aU m c) z := by
  idx_vars y
  idx_vars z
  obtain rfl : z1 = y1 := Fin.ext h1
  exact tile8 m c t y0 z1 z0 h0
theorem point9 (c : Dev nD) (h : 7 < cfg0.N) (y : S8x1024.Idx) :
    ((outsAt0 m c 7 h).2.2 y : EReal) = ModbSpec.OUT9 (aX m c) (aO m c) (aM m c) (aW m c) (aD m c) (aU m c) y := by
  idx_vars y
  exact sums_last m c y0 y1 h

/-- The gradient of the residual stream. -/
theorem final7 (c : Dev nD) : (dats m 0 c).arrAt 7 (Cert.ModbIdeal.cfgs 0).N = ModbSpec.OUT7 (aX m c) (aO m c) (aM m c) (aW m c) (aD m c) (aU m c) := by
  refine (dats m 0 c).arrAt_eq_of_covers 7 _ (by decide +kernel) fun t hf y => ?_
  blk_simp
  rw [after0_7]
  have e0 : (((View.whole main_v14_0).slice (win0_7.rect t)).emb y 0).val = t.val * 512 + (y 0).val := by blk_simp [idx t]
  have e1 : (((View.whole main_v14_0).slice (win0_7.rect t)).emb y 1).val = (y 1).val := by blk_simp [idx t]
  exact point7 m c t y _ e0 e1
/-- The gradient of the attention branch. -/
theorem final8 (c : Dev nD) : (dats m 0 c).arrAt 8 (Cert.ModbIdeal.cfgs 0).N = ModbSpec.OUT8 (aX m c) (aO m c) (aM m c) (aW m c) (aD m c) (aU m c) := by
  refine (dats m 0 c).arrAt_eq_of_covers 8 _ (by decide +kernel) fun t hf y => ?_
  blk_simp
  rw [after0_8]
  have e0 : (((View.whole main_v14_1).slice (win0_8.rect t)).emb y 0).val = t.val * 512 + (y 0).val := by blk_simp [idx t]
  have e1 : (((View.whole main_v14_1).slice (win0_8.rect t)).emb y 1).val = (y 1).val := by blk_simp [idx t]
  exact point8 m c t y _ e0 e1
/-- The rows of sums. -/
theorem final9 (c : Dev nD) : (dats m 0 c).arrAt 9 (Cert.ModbIdeal.cfgs 0).N = ModbSpec.OUT9 (aX m c) (aO m c) (aM m c) (aW m c) (aD m c) (aU m c) := by
  refine (dats m 0 c).arrAt_eq_of_after_last 9 t0_7 (by decide +kernel) _ fun y => ?_
  blk_simp
  rw [after0_9]
  exact point9 m c _ y

end Cert.ModbIdeal.Val

end
-- ==== Proof.ModbClaim.lean ====
/- The claims about the second modulation's gradient call. -/

module

public import proofs.«01_k».proof.Defs
public import proofs.«01_k».proof.Proof.ModbPre
public import proofs.«01_k».proof.Proof.ModbVal
public import proofs.«01_k».proof.Proof.ModbRefVal
public import proofs.«01_k».proof.Proof.Gen.Modb.Frame
public import proofs.«01_k».proof.Proof.Gen.ModbIdeal.Frame
public import proofs.«01_k».proof.Proof.Gen.ModbIdeal.Value
public import proofs.«01_k».proof.Proof.Gen.ModbRefIdeal.Read
public import proofs.«01_k».proof.Proof.Gen.ModbRefIdeal.Run
public import Idealize.ShloMosaic.Lib.Claim
public import Idealize.ShloMosaic.Lib.Quiescent

@[expose] public noncomputable section

set_option maxRecDepth 16384

namespace Cert.Proof

open Idealize.ShloMosaic Idealize.SL.Sem

theorem quiescent_Modb : Cert.quiescent_Modb := fun m ρ _ => Cert.Modb.Gen.frame m ρ

theorem quiescent_ModbIdeal : Cert.quiescent_ModbIdeal := fun m ρ _ => Cert.ModbIdeal.Gen.frame m ρ

theorem quiescent_ModbIdeal_pre_finite_mod2 : Cert.quiescent_ModbIdeal_pre_finite_mod2 := fun m ρ _ => Cert.ModbIdeal.Gen.frame m ρ

theorem quiescent_ModbRefIdeal : Cert.quiescent_ModbRefIdeal := by
  intro m g _
  exact (θ_run _ _ _).mono (fun r h => ⟨fun c => (h c).2.2.2, sem_eq_zero_of_no_sems rfl r.2⟩) (Cert.ModbRefIdeal.Value.run m g)

theorem quiescent_ModbRefIdeal_pre_finite_mod2 : Cert.quiescent_ModbRefIdeal_pre_finite_mod2 := fun m g _ => quiescent_ModbRefIdeal m g trivial

theorem preserves_Modb_ModbIdeal : Cert.preserves_Modb_ModbIdeal := trivial

section

variable (m : (ℓ : Loc Cert.ModbIdeal.nD Cert.ModbIdeal.τ Cert.ModbIdeal.sig) → Buf (Elt Ideal) ℓ) (hp : Cert.Pre_ModbIdeal_finite_mod2 m) (c : Dev Cert.ModbIdeal.nD)

include hp in
/-- Where the two programs start from equal finite arguments, the reference's three results are what the kernel's windows hold at the end. -/
theorem modb_results : ∀ X0 X1 X2 X3 X4 X5,
    X0 = m ((c.tc : Thread Cert.ModbIdeal.nD Cert.ModbIdeal.τ).loc Cert.ModbIdeal.main_arg0) → X1 = m ((c.tc : Thread Cert.ModbIdeal.nD Cert.ModbIdeal.τ).loc Cert.ModbIdeal.main_arg1)
    → X2 = m ((c.tc : Thread Cert.ModbIdeal.nD Cert.ModbIdeal.τ).loc Cert.ModbIdeal.main_arg2) → X3 = m ((c.tc : Thread Cert.ModbIdeal.nD Cert.ModbIdeal.τ).loc Cert.ModbIdeal.main_arg3)
    → X4 = m ((c.tc : Thread Cert.ModbIdeal.nD Cert.ModbIdeal.τ).loc Cert.ModbIdeal.main_arg4) → X5 = m ((c.tc : Thread Cert.ModbIdeal.nD Cert.ModbIdeal.τ).loc Cert.ModbIdeal.main_arg5)
    → Cert.ModbRefIdeal.Read.val_main_v56 (F := Ideal) X0 X1 X2 X3 X4 X5 = (Cert.ModbIdeal.Gen.dats m 0 c).arrAt 7 (Cert.ModbIdeal.cfgs 0).N
      ∧ Cert.ModbRefIdeal.Read.val_main_v62 (F := Ideal) X0 X1 X2 X3 X4 X5 = (Cert.ModbIdeal.Gen.dats m 0 c).arrAt 8 (Cert.ModbIdeal.cfgs 0).N
      ∧ Cert.ModbRefIdeal.Read.val_main_v64 (F := Ideal) X0 X1 X2 X3 X4 X5 = (Cert.ModbIdeal.Gen.dats m 0 c).arrAt 9 (Cert.ModbIdeal.cfgs 0).N := by
  have hr := Cert.Pre_finite_mod2.At.rows_real _ _ _ _ _ _ (fun k => k.elim0) (congrFun (hp c) _)
  rintro _ _ _ _ _ _ rfl rfl rfl rfl rfl rfl
  exact ⟨(Cert.ModbRefIdeal.Val.out7 _ _ _ _ _ _ hr).trans (Cert.ModbIdeal.Val.final7 m c).symm,
    (Cert.ModbRefIdeal.Val.out8 _ _ _ _ _ _ hr).trans (Cert.ModbIdeal.Val.final8 m c).symm,
    (Cert.ModbRefIdeal.Val.out9 _ _ _ _ _ _ hr).trans (Cert.ModbIdeal.Val.final9 m c).symm⟩

end

theorem algebraic_ModbIdeal_ModbRefIdeal_pre_finite_mod2 : Cert.algebraic_ModbIdeal_ModbRefIdeal_pre_finite_mod2 := by
  intro m g m' g' hp hagree
  refine ⟨fun c => (Cert.ModbIdeal.Gen.dats m 0 c).arrAt 7 (Cert.ModbIdeal.cfgs 0).N, fun c => (Cert.ModbIdeal.Gen.dats m 0 c).arrAt 8 (Cert.ModbIdeal.cfgs 0).N,
    fun c => (Cert.ModbIdeal.Gen.dats m 0 c).arrAt 9 (Cert.ModbIdeal.cfgs 0).N, ?_, ?_⟩
  · exact (θ_run _ _ _).mono (fun r h c => ⟨(h.1 c).1 7, (h.1 c).1 8, (h.1 c).1 9, h.2 c⟩) (θ_run_and (Cert.ModbIdeal.Gen.run_main m g) (Cert.ModbIdeal.Gen.unchanged m g))
  · refine (θ_run _ _ _).mono (fun r h c => ?_) (Cert.ModbRefIdeal.Value.run m' g')
    have e := modb_results m hp c _ _ _ _ _ _ (hagree c).1 (hagree c).2.1 (hagree c).2.2.1 (hagree c).2.2.2.1 (hagree c).2.2.2.2.1 (hagree c).2.2.2.2.2
    exact ⟨(h c).1.trans ((Cert.ModbRefIdeal.Read.val_main_v56_eq _ _).trans e.1), (h c).2.1.trans ((Cert.ModbRefIdeal.Read.val_main_v62_eq _ _).trans e.2.1),
      (h c).2.2.1.trans ((Cert.ModbRefIdeal.Read.val_main_v64_eq _ _).trans e.2.2), (h c).2.2.2⟩

end Cert.Proof

end
-- ==== Proof.ModaSpec.lean ====
/- The first modulation's gradient, elementwise. -/
module

public import proofs.«01_k».proof.Proof.Gen.ModaIdeal
public import proofs.«01_k».proof.Proof.Gen.ModaRefIdeal
public import proofs.«01_k».proof.Proof.Rows8
public import proofs.«01_k».proof.Proof.NormSpec

set_option maxRecDepth 16384

@[expose] public noncomputable section

open Idealize.ShloMosaic Idealize.ShloMosaic.TcCoe Idealize.SL.Sem

namespace Cert.ModaSpec

open Cert.ModaRefIdeal Cert.NormSpec

variable (X : FVec Ideal S1x4096x1024 .f32) (M : FVec Ideal S1x6144 .f32) (W : FVec Ideal S1x1024x1952 .f32)
  (D : FVec Ideal S1x4096x1024 .f32) (E : FVec Ideal S1x4352x1024 .f32) (Z : FVec Ideal S1x4096x1536 .f32)

/-- One plus the scale of the first modulation. -/
def amp (j : Fin 1024) : EReal := Ideal.ofBits .f32 0x3F800000#32 + M (ix2 0 ⟨1024 + j.val, by omega⟩)
/-- One term of the product with the convolution's input weights. -/
def prod (R : Fin 4096) (j : Fin 1024) (e : Fin 1536) : EReal := Z (ix3 0 R e) * W (ix3 0 j ⟨416 + e.val, by omega⟩)
/-- The gradient of the modulated values. -/
def dh (R : Fin 4096) (j : Fin 1024) : EReal := E (ix3 0 ⟨R.val, by omega⟩ j) + ∑ e : Fin 1536, prod W Z R j e
/-- The gradient of the normalized values. -/
def dn (R : Fin 4096) (j : Fin 1024) : EReal := dh W E Z R j * amp M j
/-- A row of the stream. -/
def x0 (R : Fin 4096) (j : Fin 1024) : EReal := X (ix3 0 R j)
/-- The gradient of the stream. -/
def dx (R : Fin 4096) (j : Fin 1024) : EReal := D (ix3 0 R j) + byHand (x0 X R) (dn M W E Z R) j
/-- The normalized values. -/
def xn (R : Fin 4096) (j : Fin 1024) : EReal := x0 X R j * rinv (x0 X R)
/-- What one row adds to the rows of sums. -/
def term (i : ℕ) (j : Fin 1024) (R : Fin 4096) : EReal :=
  if i = 1 then dh W E Z R j else if i = 0 then dh W E Z R j * xn X R j else 0

def OUT6 : FVec Ideal S4096x1024 .f32 := fun y => dx X M W D E Z (y 0) (y 1)
def OUT7 : FVec Ideal S8x1024 .f32 := fun y => ∑ R, term X W E Z (y 0).val (y 1) R

/-- Where the kernel's column `q` of the product lies: channel groups first, then the three parts. -/
def perm (q : Fin 1536) : Fin 1536 := ⟨q.val / 128 % 3 * 512 + q.val / 384 * 128 + q.val % 128, by omega⟩
def iperm (e : Fin 1536) : Fin 1536 := ⟨e.val % 512 / 128 * 384 + e.val / 512 * 128 + e.val % 128, by omega⟩
theorem iperm_perm : ∀ q, iperm (perm q) = q := by decide +kernel
theorem perm_iperm : ∀ e, perm (iperm e) = e := by decide +kernel
/-- A sum does not care for the order of its terms. -/
theorem sum_perm (f : Fin 1536 → EReal) : ∑ q, f (perm q) = ∑ e, f e :=
  Equiv.sum_comp (M := EReal) ⟨perm, iperm, iperm_perm, perm_iperm⟩ f

end Cert.ModaSpec

end
-- ==== Proof.ModaRefVal.lean ====
/- The reference's two results of the first modulation's gradient. -/
module

public import proofs.«01_k».proof.Proof.ModaSpec
public import proofs.«01_k».proof.Proof.Gen.ModaRefIdeal.Run
public import proofs.«01_k».proof.Proof.Gen.ModaRefIdeal.Read
public import Idealize.ShloMosaic.Lib.Pipeline.ValueKit

set_option maxRecDepth 16384

@[expose] public noncomputable section

open Idealize.ShloMosaic Idealize.ShloMosaic.TcCoe Idealize.SL.Sem

namespace Cert.ModaRefIdeal.Val

open Cert.ModaRefIdeal Cert.ModaRefIdeal.Gen Cert.ModaRefIdeal.Read Cert.ModaSpec Cert.NormSpec

variable (X : FVec Ideal S1x4096x1024 .f32) (M : FVec Ideal S1x6144 .f32) (W : FVec Ideal S1x1024x1952 .f32)
  (D : FVec Ideal S1x4096x1024 .f32) (E : FVec Ideal S1x4352x1024 .f32) (Z : FVec Ideal S1x4096x1536 .f32)

theorem x_at (R : Fin 4096) (j : Fin 1024) : (val_main_v6 (F := Ideal) X (ix2 R j) : EReal) = x0 X R j := by
  pointwise [val_main_v6, x0]
theorem msq_at (R : Fin 4096) : (val_main_v13 (F := Ideal) X (ix2 R 0) : EReal) = msq (x0 X R) := by
  pointwise [val_main_v13, val_main_v12, val_main_v11, val_main_v10, val_main_v9, val_main_v8, val_main_v7, val_main_cst, val_main_cst_0, val_main_cst_1, x_at, msq]
theorem rinv_at (R : Fin 4096) : (val_main_v14 (F := Ideal) X (ix2 R 0) : EReal) = rinv (x0 X R) := by
  pointwise [val_main_v14, msq_at]
  rfl
theorem half_at (R : Fin 4096) : (val_main_v17 (F := Ideal) X (ix2 R 0) : EReal) = Ideal.ofBits .f32 0xBF000000#32 * Ideal.div (rinv (x0 X R)) (msq (x0 X R)) := by
  pointwise [val_main_v17, val_main_v16, val_main_v15, val_main_cst_2, msq_at, rinv_at]
theorem xn_at (R : Fin 4096) (j : Fin 1024) : (val_main_v19 (F := Ideal) X (ix2 R j) : EReal) = xn X R j := by
  pointwise [val_main_v19, val_main_v18, x_at, rinv_at, xn]
theorem dh_at (R : Fin 4096) (j : Fin 1024) : (val_main_v34 (F := Ideal) W E Z (ix2 R j) : EReal) = dh W E Z R j := by
  pointwise [val_main_v34, val_main_v33, val_main_v32, val_main_v31, val_main_v30, val_main_v27, val_main_v26, dh, prod]
theorem dn_at (R : Fin 4096) (j : Fin 1024) : (val_main_v41 (F := Ideal) M W E Z (ix2 R j) : EReal) = dn M W E Z R j := by
  pointwise [val_main_v41, val_main_v40, val_main_v21, val_main_v20, val_main_cst_3, val_main_v1, dh_at, dn, amp]
theorem w_at (R : Fin 4096) : (val_main_v51 (F := Ideal) X M W E Z (ix1 R) : EReal) = chainW (x0 X R) (dn M W E Z R) := by
  pointwise [val_main_v51, val_main_v50, val_main_v49, val_main_v48, val_main_v44, val_main_v43, val_main_v42, val_main_cst_6, val_main_cst_7, val_main_cst_8, half_at, x_at, dn_at, chainW, Fin.sum_univ_one]
theorem dx_at (R : Fin 4096) (j : Fin 1024) : (val_main_v56 (F := Ideal) X M W D E Z (ix2 R j) : EReal) = byChain (D (ix3 0 R j)) (x0 X R) (dn M W E Z R) j := by
  pointwise [val_main_v56, val_main_v55, val_main_v54, val_main_v53, val_main_v52, val_main_v47, val_main_v46, val_main_v45, val_main_v29, x_at, dn_at, rinv_at, w_at, byChain]

/-- Where the rows are real numbers, the chain rule's form is the one written by hand. -/
def Real : Prop := ∀ R : Fin 4096, (∃ f : Fin 1024 → ℝ, x0 X R = fun k => (f k : EReal)) ∧ ∃ g : Fin 1024 → ℝ, dn M W E Z R = fun k => (g k : EReal)

theorem out6 (h : Real X M W E Z) : val_main_v56 (F := Ideal) X M W D E Z = OUT6 X M W D E Z := by
  funext y
  idx_vars y
  refine (dx_at X M W D E Z y0 y1).trans ?_
  obtain ⟨⟨f, hf⟩, g, hg⟩ := h y0
  show _ = dx X M W D E Z y0 y1
  unfold dx
  rw [hf, hg]
  exact byChain_eq _ f g y1

theorem out7 : val_main_v58 (F := Ideal) X W E Z = OUT7 X W E Z := by
  funext y
  idx_vars y
  have e : (val_main_v58 (F := Ideal) X W E Z (ix2 y0 y1) : EReal) = (if y0.val = 0 then ∑ R, xn X R y1 * dh W E Z R y1 else if y0.val = 1 then ∑ R, dh W E Z R y1 else 0) := by
    pointwise [val_main_v58, val_main_v39, val_main_v36, val_main_v38, val_main_v35, val_main_v37, val_main_v57, val_main_cst_4, val_main_cst_5, val_main_cst_9, dh_at, xn_at]
    by_cases h0 : y0.val = 0
    · rw [dif_pos (by omega), if_pos h0]
    · by_cases h1 : y0.val = 1
      · rw [dif_neg (by omega), dif_pos (by omega), if_neg h0, if_pos h1]
      · rw [dif_neg (by omega), dif_neg (by omega), if_neg h0, if_neg h1]
  refine e.trans ?_
  show _ = ∑ R, term X W E Z y0.val y1 R
  unfold term
  by_cases h0 : y0.val = 0
  · rw [if_pos h0]
    refine Finset.sum_congr (M := EReal) rfl fun R _ => ?_
    rw [if_neg (by omega), if_pos h0]
    exact mul_comm _ _
  · by_cases h1 : y0.val = 1
    · rw [if_neg h0, if_pos h1]
      exact Finset.sum_congr (M := EReal) rfl fun R _ => (if_pos h1).symm
    · rw [if_neg h0, if_neg h1]
      refine (Finset.sum_eq_zero (M := EReal) fun R _ => ?_).symm
      rw [if_neg h1, if_neg h0]

end Cert.ModaRefIdeal.Val

end
-- ==== Proof.ModaPre.lean ====
/- The first modulation's precondition: every element read is a real number. -/
module

public import proofs.«01_k».proof.Proof.AttnPre
public import proofs.«01_k».proof.Proof.RealRows
public import proofs.«01_k».proof.Proof.ModaRefVal
public import proofs.«01_k».proof.Proof.Gen.Pre_finite_mod1

set_option maxRecDepth 16384

@[expose] public noncomputable section

open Idealize.ShloMosaic Idealize.ShloMosaic.TcCoe Idealize.SL.Sem

namespace Cert.Pre_finite_mod1.At

open Cert.Pre_finite_mod1 Cert.Pre_finite_mod1.Gen
open Cert.Pre_finite.At (real_of_lt word_and)
open Cert.RealRows (Re)

instance : Subsingleton S_.Idx := ⟨fun a b => funext fun k => k.elim0⟩

theorem fn_real (X : FVec Ideal S1x4096x1024 .f32) (M : FVec Ideal S1x6144 .f32) (W : FVec Ideal S1x1024x1952 .f32) (D : FVec Ideal S1x4096x1024 .f32) (E : FVec Ideal S1x4352x1024 .f32) (Z : FVec Ideal S1x4096x1536 .f32)
    (j : S_.Idx) (h : fn (F := Ideal) X M W D E Z j = 1#1) :
    (∀ i, Re (X i)) ∧ (∀ i, Re (M i)) ∧ (∀ i, Re (W i)) ∧ (∀ i, Re (E i)) ∧ (∀ i, Re (Z i)) := by
  dsimp only [fn, fn_part1] at h
  obtain ⟨h, h4⟩ := word_and _ _ h
  obtain ⟨h, h3⟩ := word_and _ _ h
  obtain ⟨h, h2⟩ := word_and _ _ h
  obtain ⟨h0, h1⟩ := word_and _ _ h
  exact ⟨fun i => real_of_lt _ (Host.reduce_andi_all _ _ _ _ _ h0 i), fun i => real_of_lt _ (Host.reduce_andi_all _ _ _ _ _ h1 i), fun i => real_of_lt _ (Host.reduce_andi_all _ _ _ _ _ h2 i),
    fun i => real_of_lt _ (Host.reduce_andi_all _ _ _ _ _ h3 i), fun i => real_of_lt _ (Host.reduce_andi_all _ _ _ _ _ h4 i)⟩

/-- With such arguments the rows the chain rule works on are real. -/
theorem rows_real (X : FVec Ideal S1x4096x1024 .f32) (M : FVec Ideal S1x6144 .f32) (W : FVec Ideal S1x1024x1952 .f32) (D : FVec Ideal S1x4096x1024 .f32) (E : FVec Ideal S1x4352x1024 .f32) (Z : FVec Ideal S1x4096x1536 .f32)
    (j : S_.Idx) (h : fn (F := Ideal) X M W D E Z j = 1#1) : Cert.ModaRefIdeal.Val.Real X M W E Z := by
  obtain ⟨hX, hM, hW, hE, hZ⟩ := fn_real X M W D E Z j h
  intro R
  exact ⟨RealRows.row _ fun k => hX _,
    RealRows.row _ fun k => RealRows.mul (RealRows.add (hE _) (RealRows.sum _ fun e => RealRows.mul (hZ _) (hW _))) (RealRows.add RealRows.one (hM _))⟩

end Cert.Pre_finite_mod1.At

end
-- ==== Proof.ModaPay.lean ====
/- What the first modulation's kernel computes from whole tiles. -/
module

public import proofs.«01_k».proof.Proof.ModaSpec
public import proofs.«01_k».proof.Proof.Gen.ModaIdeal.Skeleton
public import Idealize.ShloMosaic.Lib.Pipeline.Value
public import Idealize.ShloMosaic.Lib.Pipeline.ValueKit

set_option maxRecDepth 16384

@[expose] public noncomputable section

open Idealize.ShloMosaic Idealize.ShloMosaic.TcCoe Idealize.SL.Sem

namespace Cert.ModaIdeal.Pay

open Cert.ModaIdeal Cert.ModaIdeal.Gen Cert.NormSpec

abbrev T := FVec Ideal S256x1024 .f32
abbrev V1 := FVec Ideal S1x1024 .f32

/-- A row of a tile. -/
abbrev row (x : T) (r : Fin 256) : Fin 1024 → EReal := fun j => x (ix2 r j)

section
variable (u : FVec Ideal S512x1536 .bf16) (w : FVec Ideal S1536x1024 .bf16) (p : FVec Ideal S512x1024 .f32) (x h d g y : T) (s a : V1) (r : Fin 256) (j : Fin 1024)

theorem pay4_at (r : Fin 512) : (k0_pay4 (F := Ideal) u w (ix2 r j) : EReal) = ∑ e : Fin 1536, (u (ix2 r e) : EReal) * (w (ix2 e j) : EReal) := by
  pointwise [k0_pay4]
theorem pay5_at : (k0_pay5 (F := Ideal) u w h (ix2 r j) : EReal) = k0_pay4 (F := Ideal) u w (ix2 ⟨r.val, by omega⟩ j) + h (ix2 r j) := by
  unfold k0_pay5
  generalize k0_pay4 (F := Ideal) u w = z
  pointwise []
theorem pay16_at : (k0_pay16 (F := Ideal) p h (ix2 r j) : EReal) = p (ix2 ⟨256 + r.val, by omega⟩ j) + h (ix2 r j) := by
  pointwise [k0_pay16]
theorem pay7_at : (k0_pay7 (F := Ideal) x (ix2 r 0) : EReal) = rinv (row x r) := by
  pointwise [k0_pay7, k0_pay6, rinv]
theorem pay18_at : (k0_pay18 (F := Ideal) x (ix2 r 0) : EReal) = rinv (row x r) := by
  pointwise [k0_pay18, k0_pay17, rinv]
theorem pay8_at : (k0_pay8 (F := Ideal) x (ix2 r j) : EReal) = x (ix2 r j) * rinv (row x r) := by
  have e : ∀ z : FVec Ideal S256x1 .f32, (mulf (k0_pay6 x) (broadcastTo S256x1024 z broadcasts_S256x1_S256x1024) (ix2 r j) : EReal) = x (ix2 r j) * z (ix2 r 0) := by
    intro z
    pointwise [k0_pay6]
  unfold k0_pay8
  exact (e _).trans (congrArg (x (ix2 r j) * ·) (pay7_at x r))
theorem pay19_at : (k0_pay19 (F := Ideal) x (ix2 r j) : EReal) = x (ix2 r j) * rinv (row x r) := by
  have e : ∀ z : FVec Ideal S256x1 .f32, (mulf (k0_pay17 x) (broadcastTo S256x1024 z broadcasts_S256x1_S256x1024) (ix2 r j) : EReal) = x (ix2 r j) * z (ix2 r 0) := by
    intro z
    pointwise [k0_pay17]
  unfold k0_pay19
  exact (e _).trans (congrArg (x (ix2 r j) * ·) (pay18_at x r))
theorem pay10_at : (k0_pay10 (F := Ideal) u w h x s (ix2 r j) : EReal) =
    k0_pay5 (F := Ideal) u w h (ix2 r j) * (Ideal.ofBits .f32 0x3F800000#32 + s (ix2 0 j))
      - k0_pay8 (F := Ideal) x (ix2 r j) * Ideal.div (∑ k : Fin 1024, k0_pay5 (F := Ideal) u w h (ix2 r k) * (Ideal.ofBits .f32 0x3F800000#32 + s (ix2 0 k)) * k0_pay8 (F := Ideal) x (ix2 r k)) (Ideal.ofBits .f32 0x44800000#32) := by
  unfold k0_pay10
  generalize k0_pay5 (F := Ideal) u w h = z
  generalize k0_pay8 (F := Ideal) x = v
  pointwise []
theorem pay11_at : (k0_pay11 (F := Ideal) x (ix2 r j) : EReal) = rinv (row x r) := by
  have e : ∀ z : FVec Ideal S256x1 .f32, (broadcastTo S256x1024 z broadcasts_S256x1_S256x1024 (ix2 r j) : EReal) = z (ix2 r 0) := by
    intro z
    pointwise []
  unfold k0_pay11
  exact (e _).trans (pay7_at x r)
theorem pay12_at : (k0_pay12 (F := Ideal) (k0_pay9 d) g y (ix2 r j) : EReal) = d (ix2 r j) + y (ix2 r j) * g (ix2 r j) := by
  pointwise [k0_pay12, k0_pay9]
theorem pay1_at (z : FVec Ideal S256x1 .f32) : (k0_pay1 (F := Ideal) g z y d s (ix2 r j) : EReal) =
    d (ix2 r j) + z (ix2 r 0) * (g (ix2 r j) * (Ideal.ofBits .f32 0x3F800000#32 + s (ix2 0 j))
      - y (ix2 r j) * Ideal.div (∑ k : Fin 1024, g (ix2 r k) * (Ideal.ofBits .f32 0x3F800000#32 + s (ix2 0 k)) * y (ix2 r k)) (Ideal.ofBits .f32 0x44800000#32)) := by
  pointwise [k0_pay1]
theorem pay13_at (y : S8x1024.Idx) : (k0_pay13 (F := Ideal) y : EReal) = 0 := by
  idx_vars y
  pointwise [k0_pay13]
theorem pay14_at : (k0_pay14 (F := Ideal) g y a (ix2 0 j) : EReal) = a (ix2 0 j) + ∑ r : Fin 256, g (ix2 r j) * y (ix2 r j) := by
  pointwise [k0_pay14]
theorem pay2_at : (k0_pay2 (F := Ideal) g y a (ix2 0 j) : EReal) = a (ix2 0 j) + ∑ r : Fin 256, g (ix2 r j) * y (ix2 r j) := by
  pointwise [k0_pay2]
theorem pay15_at : (k0_pay15 (F := Ideal) g a (ix2 0 j) : EReal) = a (ix2 0 j) + ∑ r : Fin 256, g (ix2 r j) := by
  pointwise [k0_pay15]
theorem pay3_at : (k0_pay3 (F := Ideal) g a (ix2 0 j) : EReal) = a (ix2 0 j) + ∑ r : Fin 256, g (ix2 r j) := by
  pointwise [k0_pay3]
end

end Cert.ModaIdeal.Pay

end
-- ==== Proof.ModaVal.lean ====
/- The first modulation's gradient: the kernel's two result arrays. -/
module

public import proofs.«01_k».proof.Proof.ModaPay
public import proofs.«01_k».proof.Proof.Gen.ModaIdeal.Launch
public import proofs.«01_k».proof.Proof.Gen.ModaIdeal.Points
public import proofs.«01_k».proof.Proof.Gen.ModaIdeal.Frame
public import Idealize.ShloMosaic.Lib.Pipeline.ReadBack
public import Idealize.ShloMosaic.Lib.StableHlo.Run

set_option maxRecDepth 16384

@[expose] public noncomputable section

open Idealize.ShloMosaic Idealize.ShloMosaic.TcCoe Idealize.SL.Sem

open Idealize.ShloMosaic.Pipeline (Dat)

namespace Cert.ModaIdeal.Val

open Cert.ModaIdeal Cert.ModaIdeal.Gen Cert.ModaIdeal.Pay Cert.NormSpec

variable (m : (ℓ : Loc nD τ sig) → Buf (Elt Ideal) ℓ)

theorem idx : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![0, 1]
    ∧ win0_6.index t = ![t.val, 0]
    ∧ win0_7.index t = ![0, 0] :=
  (by decide +kernel : ∀ t : Fin grid0.N, _)

theorem lt8 (t : Fin cfg0.N) : t.val < 8 := lt_of_lt_of_eq t.isLt N_0

abbrev aX (c : Dev nD) : FVec Ideal S1x4096x1024 .f32 := m ((c : Thread nD τ).loc main_arg0)
abbrev aM (c : Dev nD) : FVec Ideal S1x6144 .f32 := m ((c : Thread nD τ).loc main_arg1)
abbrev aW (c : Dev nD) : FVec Ideal S1x1024x1952 .f32 := m ((c : Thread nD τ).loc main_arg2)
abbrev aD (c : Dev nD) : FVec Ideal S1x4096x1024 .f32 := m ((c : Thread nD τ).loc main_arg3)
abbrev aE (c : Dev nD) : FVec Ideal S1x4352x1024 .f32 := m ((c : Thread nD τ).loc main_arg4)
abbrev aZ (c : Dev nD) : FVec Ideal S1x4096x1536 .f32 := m ((c : Thread nD τ).loc main_arg5)

/-- The spec's functions, of the kernel's memory. -/
abbrev x0 (c : Dev nD) := ModaSpec.x0 (aX m c)
abbrev dh (c : Dev nD) := ModaSpec.dh (aW m c) (aE m c) (aZ m c)
abbrev dn (c : Dev nD) := ModaSpec.dn (aM m c) (aW m c) (aE m c) (aZ m c)
abbrev dx (c : Dev nD) := ModaSpec.dx (aX m c) (aM m c) (aW m c) (aD m c) (aE m c) (aZ m c)
abbrev xn (c : Dev nD) := ModaSpec.xn (aX m c)
abbrev term (c : Dev nD) := ModaSpec.term (aX m c) (aW m c) (aE m c) (aZ m c)

theorem ublk (c : Dev nD) (t : Fin cfg0.N) (r : Fin 512) (q : Fin 1536) (R : Fin 4096) (hR : R.val = t.val * 512 + r.val) :
    ((iblk m c 0 t : FVec Ideal S512x1536 .bf16) (ix2 r q) : EReal) = aZ m c (ix3 0 R (ModaSpec.perm q)) := by
  have h : ((V m c main_v11 : FVec Ideal S4096x1536 .bf16) (ix2 R q) : EReal) = aZ m c (ix3 0 R (ModaSpec.perm q)) := by
    unfold V; entry_read; pointwise [ModaSpec.perm]
  rw [← h]; blk_ext [iblk, idx t]
theorem wblk (c : Dev nD) (t : Fin cfg0.N) (q : Fin 1536) (j : Fin 1024) :
    ((iblk m c 1 t : FVec Ideal S1536x1024 .bf16) (ix2 q j) : EReal) = aW m c (ix3 0 j ⟨416 + (ModaSpec.perm q).val, by omega⟩) := by
  have h : ((V m c main_v6 : FVec Ideal S1536x1024 .bf16) (ix2 q j) : EReal) = aW m c (ix3 0 j ⟨416 + (ModaSpec.perm q).val, by omega⟩) := by
    unfold V; entry_read; pointwise [ModaSpec.perm]
  rw [← h]; blk_ext [iblk, idx t]
theorem hblk (c : Dev nD) (t : Fin cfg0.N) (r : Fin 512) (j : Fin 1024) (R : Fin 4096) (hR : R.val = t.val * 512 + r.val) :
    ((X0_2 m c t : FVec Ideal S512x1024 .f32) (ix2 r j) : EReal) = aE m c (ix3 0 ⟨R.val, by omega⟩ j) := by
  have h : ((V m c main_v12 : FVec Ideal S4352x1024 .f32) (ix2 ⟨R.val, by omega⟩ j) : EReal) = aE m c (ix3 0 ⟨R.val, by omega⟩ j) := by
    unfold V; entry_read; pointwise []
  rw [← h]
  unfold X0_2 Pipeline.Window.fill
  rw [dif_pos (moved0_2 t _)]
  blk_ext [iblk, idx t]
theorem xblk (c : Dev nD) (t : Fin cfg0.N) (r : Fin 512) (j : Fin 1024) (R : Fin 4096) (hR : R.val = t.val * 512 + r.val) :
    ((iblk m c 3 t : FVec Ideal S512x1024 .f32) (ix2 r j) : EReal) = aX m c (ix3 0 R j) := by
  have h : ((V m c main_v13 : FVec Ideal S4096x1024 .f32) (ix2 R j) : EReal) = aX m c (ix3 0 R j) := by
    unfold V; entry_read; pointwise []
  rw [← h]; blk_ext [iblk, idx t]
theorem dblk (c : Dev nD) (t : Fin cfg0.N) (r : Fin 512) (j : Fin 1024) (R : Fin 4096) (hR : R.val = t.val * 512 + r.val) :
    ((iblk m c 4 t : FVec Ideal S512x1024 .f32) (ix2 r j) : EReal) = aD m c (ix3 0 R j) := by
  have h : ((V m c main_v14 : FVec Ideal S4096x1024 .f32) (ix2 R j) : EReal) = aD m c (ix3 0 R j) := by
    unfold V; entry_read; pointwise []
  rw [← h]; blk_ext [iblk, idx t]
theorem sblk (c : Dev nD) (t : Fin cfg0.N) (j : Fin 1024) :
    ((iblk m c 5 t : FVec Ideal S1x1024 .f32) (ix2 0 j) : EReal) = aM m c (ix2 0 ⟨1024 + j.val, by omega⟩) := by
  have h : ((V m c main_arg1 : FVec Ideal S1x6144 .f32) (ix2 0 ⟨1024 + j.val, by omega⟩) : EReal) = aM m c (ix2 0 ⟨1024 + j.val, by omega⟩) := by
    unfold V; entry_read; pointwise []
  rw [← h]; blk_ext [iblk, idx t]

abbrev u (c : Dev nD) (t : Fin cfg0.N) : FVec Ideal S512x1536 .bf16 := iblk m c 0 t
abbrev w (c : Dev nD) (t : Fin cfg0.N) : FVec Ideal S1536x1024 .bf16 := iblk m c 1 t
abbrev s (c : Dev nD) (t : Fin cfg0.N) : V1 := iblk m c 5 t
/-- The product tile of a point. -/
abbrev P (c : Dev nD) (t : Fin cfg0.N) : FVec Ideal S512x1024 .f32 := k0_pay4 (u m c t) (w m c t)

theorem P_at (c : Dev nD) (t : Fin cfg0.N) (r : Fin 512) (j : Fin 1024) (R : Fin 4096) (hR : R.val = t.val * 512 + r.val) :
    (P m c t (ix2 r j) : EReal) = ∑ e, ModaSpec.prod (aW m c) (aZ m c) R j e :=
  (pay4_at (u m c t) (w m c t) j r).trans ((Finset.sum_congr (M := EReal) rfl fun q _ => congrArg₂ (fun a b : EReal => a * b) (ublk m c t r q R hR) (wblk m c t q j)).trans
    (ModaSpec.sum_perm (ModaSpec.prod (aW m c) (aZ m c) R j)))

abbrev hl (c : Dev nD) (t : Fin cfg0.N) : T := View.ld (X0_2 m c t) (Rect.unit ![0, 0] ![256, 1024] inb_S512x1024_S256x1024_0_0)
abbrev hh (c : Dev nD) (t : Fin cfg0.N) : T := View.ld (X0_2 m c t) (Rect.unit ![256, 0] ![256, 1024] inb_S512x1024_S256x1024_256_0)
abbrev xl (c : Dev nD) (t : Fin cfg0.N) : T := View.ld (iblk m c 3 t) (Rect.unit ![0, 0] ![256, 1024] inb_S512x1024_S256x1024_0_0)
abbrev xh (c : Dev nD) (t : Fin cfg0.N) : T := View.ld (iblk m c 3 t) (Rect.unit ![256, 0] ![256, 1024] inb_S512x1024_S256x1024_256_0)
abbrev dl (c : Dev nD) (t : Fin cfg0.N) : T := View.ld (iblk m c 4 t) (Rect.unit ![0, 0] ![256, 1024] inb_S512x1024_S256x1024_0_0)
abbrev dhi (c : Dev nD) (t : Fin cfg0.N) : T := View.ld (iblk m c 4 t) (Rect.unit ![256, 0] ![256, 1024] inb_S512x1024_S256x1024_256_0)

section
variable (c : Dev nD) (t : Fin cfg0.N) (r : Fin 256) (j : Fin 1024) (R : Fin 4096)
theorem hl_at (hR : R.val = t.val * 512 + r.val) : (hl m c t (ix2 r j) : EReal) = aE m c (ix3 0 ⟨R.val, by omega⟩ j) :=
  (Rows8.ld_half (e := .f32) (X0_2 m c t) 0 _ r j ⟨r.val, by omega⟩ (by simp)).trans (hblk m c t _ j R hR)
theorem hh_at (hR : R.val = t.val * 512 + (256 + r.val)) : (hh m c t (ix2 r j) : EReal) = aE m c (ix3 0 ⟨R.val, by omega⟩ j) :=
  (Rows8.ld_half (e := .f32) (X0_2 m c t) 256 _ r j ⟨256 + r.val, by omega⟩ rfl).trans (hblk m c t _ j R hR)
theorem xl_at (hR : R.val = t.val * 512 + r.val) : (xl m c t (ix2 r j) : EReal) = aX m c (ix3 0 R j) :=
  (Rows8.ld_half (e := .f32) (iblk m c 3 t) 0 _ r j ⟨r.val, by omega⟩ (by simp)).trans (xblk m c t _ j R hR)
theorem xh_at (hR : R.val = t.val * 512 + (256 + r.val)) : (xh m c t (ix2 r j) : EReal) = aX m c (ix3 0 R j) :=
  (Rows8.ld_half (e := .f32) (iblk m c 3 t) 256 _ r j ⟨256 + r.val, by omega⟩ rfl).trans (xblk m c t _ j R hR)
theorem dl_at (hR : R.val = t.val * 512 + r.val) : (dl m c t (ix2 r j) : EReal) = aD m c (ix3 0 R j) :=
  (Rows8.ld_half (e := .f32) (iblk m c 4 t) 0 _ r j ⟨r.val, by omega⟩ (by simp)).trans (dblk m c t _ j R hR)
theorem dhi_at (hR : R.val = t.val * 512 + (256 + r.val)) : (dhi m c t (ix2 r j) : EReal) = aD m c (ix3 0 R j) :=
  (Rows8.ld_half (e := .f32) (iblk m c 4 t) 256 _ r j ⟨256 + r.val, by omega⟩ rfl).trans (dblk m c t _ j R hR)
end

section
variable (c : Dev nD) (t : Fin cfg0.N) (r : Fin 256) (j : Fin 1024) (R : Fin 4096) (hR : R.val = t.val * 512 + r.val)
include hR
theorem gl_at : (k0_pay5 (F := Ideal) (u m c t) (w m c t) (hl m c t) (ix2 r j) : EReal) = dh m c R j :=
  (pay5_at (u m c t) (w m c t) (hl m c t) r j).trans ((congrArg₂ (· + ·) (P_at m c t _ j R hR) (hl_at m c t r j R hR)).trans (add_comm _ _))
theorem rowl : row (xl m c t) r = x0 m c R := funext fun k => xl_at m c t r k R hR
theorem yl_at : (k0_pay8 (F := Ideal) (xl m c t) (ix2 r j) : EReal) = xn m c R j := by
  refine (pay8_at (xl m c t) r j).trans ?_
  rw [rowl m c t r R hR, xl_at m c t r j R hR]
  rfl
theorem sl_at : (k0_pay5 (F := Ideal) (u m c t) (w m c t) (hl m c t) (ix2 r j) * (Ideal.ofBits .f32 0x3F800000#32 + s m c t (ix2 0 j)) : EReal) = dn m c R j :=
  congrArg₂ (· * ·) (gl_at m c t r j R hR) (congrArg (_ + ·) (sblk m c t j))
theorem dxl_at : (k0_pay12 (F := Ideal) (k0_pay9 (dl m c t)) (k0_pay10 (u m c t) (w m c t) (hl m c t) (xl m c t) (s m c t)) (k0_pay11 (xl m c t)) (ix2 r j) : EReal) = dx m c R j := by
  refine (pay12_at _ _ _ r j).trans (congrArg₂ (· + ·) (dl_at m c t r j R hR) (congrArg₂ (· * ·) ((pay11_at (xl m c t) r j).trans (congrArg rinv (rowl m c t r R hR))) ?_))
  refine (pay10_at _ _ _ _ _ r j).trans (congrArg₂ (· - ·) (sl_at m c t r j R hR) (congrArg₂ (· * ·) (yl_at m c t r j R hR) (congrArg (Ideal.div · _) (Finset.sum_congr (M := EReal) rfl fun k _ => ?_))))
  exact congrArg₂ (· * ·) (sl_at m c t r k R hR) (yl_at m c t r k R hR)
end

section
variable (c : Dev nD) (t : Fin cfg0.N) (r : Fin 256) (j : Fin 1024) (R : Fin 4096) (hR : R.val = t.val * 512 + (256 + r.val))
include hR
theorem gh_at : (k0_pay16 (F := Ideal) (P m c t) (hh m c t) (ix2 r j) : EReal) = dh m c R j :=
  (pay16_at (P m c t) (hh m c t) r j).trans ((congrArg₂ (· + ·) (P_at m c t _ j R hR) (hh_at m c t r j R hR)).trans (add_comm _ _))
theorem rowh : row (xh m c t) r = x0 m c R := funext fun k => xh_at m c t r k R hR
theorem yh_at : (k0_pay19 (F := Ideal) (xh m c t) (ix2 r j) : EReal) = xn m c R j := by
  refine (pay19_at (xh m c t) r j).trans ?_
  rw [rowh m c t r R hR, xh_at m c t r j R hR]
  rfl
theorem sh_at : (k0_pay16 (F := Ideal) (P m c t) (hh m c t) (ix2 r j) * (Ideal.ofBits .f32 0x3F800000#32 + s m c t (ix2 0 j)) : EReal) = dn m c R j :=
  congrArg₂ (· * ·) (gh_at m c t r j R hR) (congrArg (_ + ·) (sblk m c t j))
theorem dxh_at : (k0_pay1 (F := Ideal) (k0_pay16 (P m c t) (hh m c t)) (k0_pay18 (xh m c t)) (k0_pay19 (xh m c t)) (dhi m c t) (s m c t) (ix2 r j) : EReal) = dx m c R j := by
  refine (pay1_at _ _ _ _ r j _).trans (congrArg₂ (· + ·) (dhi_at m c t r j R hR) (congrArg₂ (· * ·) ((pay18_at (xh m c t) r).trans (congrArg rinv (rowh m c t r R hR))) ?_))
  refine congrArg₂ (· - ·) (sh_at m c t r j R hR) (congrArg₂ (· * ·) (yh_at m c t r j R hR) (congrArg (Ideal.div · _) (Finset.sum_congr (M := EReal) rfl fun k _ => ?_)))
  exact congrArg₂ (· * ·) (sh_at m c t r k R hR) (yh_at m c t r k R hR)
end

/-- The two runs of rows of a point. -/
abbrev lo (t : Fin cfg0.N) (r : Fin 256) : Fin 4096 := ⟨t.val * 512 + r.val, by have := lt8 t; omega⟩
abbrev hi (t : Fin cfg0.N) (r : Fin 256) : Fin 4096 := ⟨t.val * 512 + (256 + r.val), by have := lt8 t; omega⟩

theorem tile6 (c : Dev nD) (t : Fin cfg0.N) (i : Fin 512) (j : Fin 1024) (R : Fin 4096) (hR : R.val = t.val * 512 + i.val) :
    ((outsAt0 m c t.val t.isLt).1 (ix2 i j) : EReal) = dx m c R j := by
  by_cases h : t.val % 8 = 0
  · rw [outsAt0_A m c t h]; frame_open
    simp (disch := decide) only [↓ View.readCov_skip, ↓ View.readCov_cons_toLoadRect, ↓ View.readCov_fill]
    frame_out
    refine (Rows8.canon_halves (e := .f32) _ _ _ _ i j).trans ?_
    split
    · exact dxh_at m c t _ j R (by simp only; omega)
    · exact dxl_at m c t _ j R hR
  · rw [outsAt0_B m c t h]; frame_open
    simp (disch := decide) only [↓ View.readCov_skip, ↓ View.readCov_cons_toLoadRect, ↓ View.readCov_fill]
    frame_out
    refine (Rows8.canon_halves (e := .f32) _ _ _ _ i j).trans ?_
    split
    · exact dxh_at m c t _ j R (by simp only; omega)
    · exact dxl_at m c t _ j R hR

section
variable (c : Dev nD) (t : Fin cfg0.N) (a : V1) (j : Fin 1024)
theorem row0 : (k0_pay2 (F := Ideal) (k0_pay16 (P m c t) (hh m c t)) (k0_pay19 (xh m c t)) (k0_pay14 (F := Ideal) (k0_pay5 (F := Ideal) (u m c t) (w m c t) (hl m c t)) (k0_pay8 (F := Ideal) (xl m c t)) a) (ix2 0 j) : EReal)
    = a (ix2 0 j) + ((∑ r, term m c 0 j (lo t r)) + ∑ r, term m c 0 j (hi t r)) := by
  refine (pay2_at _ _ _ j).trans ?_
  refine (congrArg₂ (· + ·) (pay14_at _ _ a j) rfl).trans ?_
  rw [add_assoc]
  refine congrArg (_ + ·) (congrArg₂ (· + ·) (Finset.sum_congr (M := EReal) rfl fun r _ => ?_) (Finset.sum_congr (M := EReal) rfl fun r _ => ?_))
  · exact congrArg₂ (· * ·) (gl_at m c t r j (lo t r) rfl) (yl_at m c t r j (lo t r) rfl)
  · exact congrArg₂ (· * ·) (gh_at m c t r j (hi t r) rfl) (yh_at m c t r j (hi t r) rfl)
theorem row1 : (k0_pay3 (F := Ideal) (k0_pay16 (P m c t) (hh m c t)) (k0_pay15 (F := Ideal) (k0_pay5 (F := Ideal) (u m c t) (w m c t) (hl m c t)) a) (ix2 0 j) : EReal)
    = a (ix2 0 j) + ((∑ r, term m c 1 j (lo t r)) + ∑ r, term m c 1 j (hi t r)) := by
  refine (pay3_at _ _ j).trans ?_
  refine (congrArg₂ (· + ·) (pay15_at _ a j) rfl).trans ?_
  rw [add_assoc]
  refine congrArg (_ + ·) (congrArg₂ (· + ·) (Finset.sum_congr (M := EReal) rfl fun r _ => ?_) (Finset.sum_congr (M := EReal) rfl fun r _ => ?_))
  · exact gl_at m c t r j (lo t r) rfl
  · exact gh_at m c t r j (hi t r) rfl
end

/-- What a point adds to a row of sums. -/
def part (c : Dev nD) (i : Fin 8) (j : Fin 1024) (t : Fin cfg0.N) : EReal := (∑ r, term m c i.val j (lo t r)) + ∑ r, term m c i.val j (hi t r)

theorem part_zero (c : Dev nD) (i : Fin 8) (j : Fin 1024) (t : Fin cfg0.N) (h1 : ¬ i.val = 1) (h0 : ¬ i.val = 0) : part m c i j t = 0 := by
  have e : ∀ R, term m c i.val j R = 0 := fun R => (if_neg h1).trans (if_neg h0)
  unfold part
  simp only [e, Finset.sum_const_zero, add_zero]

theorem sumsA (c : Dev nD) (t : Fin cfg0.N) (h : t.val % 8 = 0) (i : Fin 8) (j : Fin 1024) :
    ((outsAt0 m c t.val t.isLt).2 (ix2 i j) : EReal) = part m c i j t := by
  rw [outsAt0_A m c t h]; frame_open
  simp (disch := decide) only [↓ View.readCov_skip, ↓ View.readCov_cons_toLoadRect, ↓ View.readCov_fill]
  frame_out
  refine (Rows8.canon_row 1 _ _ _ i j).trans ?_
  by_cases h1 : i.val = 1
  · rw [if_pos h1]
    refine (row1 m c t _ j).trans ?_
    rw [Rows8.ld_row _ 1 _ 1 rfl, pay13_at, zero_add, part, h1]
  rw [if_neg h1]
  refine (Rows8.canon_row 0 _ _ _ i j).trans ?_
  by_cases h0 : i.val = 0
  · rw [if_pos h0]
    refine (row0 m c t _ j).trans ?_
    rw [Rows8.ld_row _ 0 _ 0 rfl, pay13_at, zero_add, part, h0]
  rw [if_neg h0, part_zero m c i j t h1 h0]
  refine (Rows8.canon_row 1 _ _ _ i j).trans ((if_neg h1).trans ?_)
  refine (Rows8.canon_row 0 _ _ _ i j).trans ((if_neg h0).trans ?_)
  exact (congrFun (Rows8.canon_all _ _ _) _).trans (pay13_at _)

theorem sumsB (c : Dev nD) (t : Fin cfg0.N) (h : ¬ t.val % 8 = 0) (i : Fin 8) (j : Fin 1024) :
    ((outsAt0 m c t.val t.isLt).2 (ix2 i j) : EReal) = (outsAt0 m c (t.val - 1) (by have := t.isLt; omega)).2 (ix2 i j) + part m c i j t := by
  rw [outsAt0_B m c t h]; frame_open
  simp (disch := decide) only [↓ View.readCov_skip, ↓ View.readCov_cons_toLoadRect, ↓ View.readCov_fill]
  frame_out
  refine (Rows8.writes_row _ _ 1 _ _ _ i j).trans ?_
  by_cases h1 : i.val = 1
  · rw [if_pos h1]
    refine (row1 m c t _ j).trans ?_
    rw [Rows8.ld_row _ 1 _ i h1, part, h1]
  rw [if_neg h1]
  refine (Rows8.writes_row _ _ 0 _ _ _ i j).trans ?_
  by_cases h0 : i.val = 0
  · rw [if_pos h0]
    refine (row0 m c t _ j).trans ?_
    rw [Rows8.ld_row _ 0 _ i h0, part, h0]
  rw [if_neg h0, part_zero m c i j t h1 h0, add_zero]
  refine (Rows8.writes_row _ _ 1 _ _ _ i j).trans ((if_neg h1).trans ?_)
  refine (Rows8.writes_row _ _ 0 _ _ _ i j).trans ((if_neg h0).trans ?_)
  exact congrFun (Memref.IsWhole.read_unread _ _) _

/-- The same, at a number. -/
def partN (c : Dev nD) (i : Fin 8) (j : Fin 1024) (n : ℕ) : EReal := if h : n < cfg0.N then part m c i j ⟨n, h⟩ else 0
theorem partN_eq (c : Dev nD) (i : Fin 8) (j : Fin 1024) (n : ℕ) (h : n < cfg0.N) : partN m c i j n = part m c i j ⟨n, h⟩ := by
  unfold partN
  rw [dif_pos h]

/-- The sums after the last point. -/
theorem sums_last (c : Dev nD) (i : Fin 8) (j : Fin 1024) (h : 7 < cfg0.N) :
    ((outsAt0 m c 7 h).2 (ix2 i j) : EReal) = ∑ R, term m c i.val j R := by
  have hN : cfg0.N = 8 := N_0
  refine (Rows8.acc_eq (fun n hn => ((outsAt0 m c n (by omega)).2 (ix2 i j) : EReal)) (partN m c i j) ?_ ?_).trans ?_
  · exact (sumsA m c ⟨0, by omega⟩ rfl i j).trans (partN_eq m c i j 0 (by omega)).symm
  · intro n hn
    exact (sumsB m c ⟨n + 1, by omega⟩ (by simp only; omega) i j).trans (congrArg (_ + ·) (partN_eq m c i j (n + 1) (by omega)).symm)
  · refine Eq.trans ?_ (Rows8.sum_runs fun R => term m c i.val j R)
    exact Finset.sum_congr (M := EReal) rfl fun t _ => partN_eq m c i j t.val (by have := t.isLt; omega)

theorem point6 (c : Dev nD) (t : Fin cfg0.N) (y : S512x1024.Idx) (z : S4096x1024.Idx) (h0 : (z 0).val = t.val * 512 + (y 0).val) (h1 : (z 1).val = (y 1).val) :
    ((outsAt0 m c t.val t.isLt).1 y : EReal) = ModaSpec.OUT6 (aX m c) (aM m c) (aW m c) (aD m c) (aE m c) (aZ m c) z := by
  idx_vars y
  idx_vars z
  obtain rfl : z1 = y1 := Fin.ext h1
  exact tile6 m c t y0 z1 z0 h0
theorem point7 (c : Dev nD) (h : 7 < cfg0.N) (y : S8x1024.Idx) :
    ((outsAt0 m c 7 h).2 y : EReal) = ModaSpec.OUT7 (aX m c) (aW m c) (aE m c) (aZ m c) y := by
  idx_vars y
  exact sums_last m c y0 y1 h

/-- The gradient of the stream. -/
theorem final6 (c : Dev nD) : (dats m 0 c).arrAt 6 (Cert.ModaIdeal.cfgs 0).N = ModaSpec.OUT6 (aX m c) (aM m c) (aW m c) (aD m c) (aE m c) (aZ m c) := by
  refine (dats m 0 c).arrAt_eq_of_covers 6 _ (by decide +kernel) fun t hf y => ?_
  blk_simp
  rw [after0_6]
  have e0 : (((View.whole main_v15_0).slice (win0_6.rect t)).emb y 0).val = t.val * 512 + (y 0).val := by blk_simp [idx t]
  have e1 : (((View.whole main_v15_0).slice (win0_6.rect t)).emb y 1).val = (y 1).val := by blk_simp [idx t]
  exact point6 m c t y _ e0 e1
/-- The rows of sums. -/
theorem final7 (c : Dev nD) : (dats m 0 c).arrAt 7 (Cert.ModaIdeal.cfgs 0).N = ModaSpec.OUT7 (aX m c) (aW m c) (aE m c) (aZ m c) := by
  refine (dats m 0 c).arrAt_eq_of_after_last 7 t0_7 (by decide +kernel) _ fun y => ?_
  blk_simp
  rw [after0_7]
  exact point7 m c _ y

end Cert.ModaIdeal.Val

end
-- ==== Proof.ModaClaim.lean ====
/- The claims about the first modulation's gradient call. -/

module

public import proofs.«01_k».proof.Defs
public import proofs.«01_k».proof.Proof.ModaPre
public import proofs.«01_k».proof.Proof.ModaVal
public import proofs.«01_k».proof.Proof.ModaRefVal
public import proofs.«01_k».proof.Proof.Gen.Moda.Frame
public import proofs.«01_k».proof.Proof.Gen.ModaIdeal.Frame
public import proofs.«01_k».proof.Proof.Gen.ModaIdeal.Value
public import proofs.«01_k».proof.Proof.Gen.ModaRefIdeal.Read
public import proofs.«01_k».proof.Proof.Gen.ModaRefIdeal.Run
public import Idealize.ShloMosaic.Lib.Claim
public import Idealize.ShloMosaic.Lib.Quiescent

@[expose] public noncomputable section

set_option maxRecDepth 16384

namespace Cert.Proof

open Idealize.ShloMosaic Idealize.SL.Sem

theorem quiescent_Moda : Cert.quiescent_Moda := fun m ρ _ => Cert.Moda.Gen.frame m ρ

theorem quiescent_ModaIdeal : Cert.quiescent_ModaIdeal := fun m ρ _ => Cert.ModaIdeal.Gen.frame m ρ

theorem quiescent_ModaIdeal_pre_finite_mod1 : Cert.quiescent_ModaIdeal_pre_finite_mod1 := fun m ρ _ => Cert.ModaIdeal.Gen.frame m ρ

theorem quiescent_ModaRefIdeal : Cert.quiescent_ModaRefIdeal := by
  intro m g _
  exact (θ_run _ _ _).mono (fun r h => ⟨fun c => (h c).2.2, sem_eq_zero_of_no_sems rfl r.2⟩) (Cert.ModaRefIdeal.Value.run m g)

theorem quiescent_ModaRefIdeal_pre_finite_mod1 : Cert.quiescent_ModaRefIdeal_pre_finite_mod1 := fun m g _ => quiescent_ModaRefIdeal m g trivial

theorem preserves_Moda_ModaIdeal : Cert.preserves_Moda_ModaIdeal := trivial

section

variable (m : (ℓ : Loc Cert.ModaIdeal.nD Cert.ModaIdeal.τ Cert.ModaIdeal.sig) → Buf (Elt Ideal) ℓ) (hp : Cert.Pre_ModaIdeal_finite_mod1 m) (c : Dev Cert.ModaIdeal.nD)

include hp in
/-- Where the two programs start from equal finite arguments, the reference's two results are what the kernel's windows hold at the end. -/
theorem moda_results : ∀ X0 X1 X2 X3 X4 X5,
    X0 = m ((c.tc : Thread Cert.ModaIdeal.nD Cert.ModaIdeal.τ).loc Cert.ModaIdeal.main_arg0) → X1 = m ((c.tc : Thread Cert.ModaIdeal.nD Cert.ModaIdeal.τ).loc Cert.ModaIdeal.main_arg1)
    → X2 = m ((c.tc : Thread Cert.ModaIdeal.nD Cert.ModaIdeal.τ).loc Cert.ModaIdeal.main_arg2) → X3 = m ((c.tc : Thread Cert.ModaIdeal.nD Cert.ModaIdeal.τ).loc Cert.ModaIdeal.main_arg3)
    → X4 = m ((c.tc : Thread Cert.ModaIdeal.nD Cert.ModaIdeal.τ).loc Cert.ModaIdeal.main_arg4) → X5 = m ((c.tc : Thread Cert.ModaIdeal.nD Cert.ModaIdeal.τ).loc Cert.ModaIdeal.main_arg5)
    → Cert.ModaRefIdeal.Read.val_main_v56 (F := Ideal) X0 X1 X2 X3 X4 X5 = (Cert.ModaIdeal.Gen.dats m 0 c).arrAt 6 (Cert.ModaIdeal.cfgs 0).N
      ∧ Cert.ModaRefIdeal.Read.val_main_v58 (F := Ideal) X0 X2 X4 X5 = (Cert.ModaIdeal.Gen.dats m 0 c).arrAt 7 (Cert.ModaIdeal.cfgs 0).N := by
  have hr := Cert.Pre_finite_mod1.At.rows_real _ _ _ _ _ _ (fun k => k.elim0) (congrFun (hp c) _)
  rintro _ _ _ _ _ _ rfl rfl rfl rfl rfl rfl
  exact ⟨(Cert.ModaRefIdeal.Val.out6 _ _ _ _ _ _ hr).trans (Cert.ModaIdeal.Val.final6 m c).symm,
    (Cert.ModaRefIdeal.Val.out7 _ _ _ _).trans (Cert.ModaIdeal.Val.final7 m c).symm⟩

end

theorem algebraic_ModaIdeal_ModaRefIdeal_pre_finite_mod1 : Cert.algebraic_ModaIdeal_ModaRefIdeal_pre_finite_mod1 := by
  intro m g m' g' hp hagree
  refine ⟨fun c => (Cert.ModaIdeal.Gen.dats m 0 c).arrAt 6 (Cert.ModaIdeal.cfgs 0).N, fun c => (Cert.ModaIdeal.Gen.dats m 0 c).arrAt 7 (Cert.ModaIdeal.cfgs 0).N, ?_, ?_⟩
  · exact (θ_run _ _ _).mono (fun r h c => ⟨(h.1 c).1 6, (h.1 c).1 7, h.2 c⟩) (θ_run_and (Cert.ModaIdeal.Gen.run_main m g) (Cert.ModaIdeal.Gen.unchanged m g))
  · refine (θ_run _ _ _).mono (fun r h c => ?_) (Cert.ModaRefIdeal.Value.run m' g')
    have e := moda_results m hp c _ _ _ _ _ _ (hagree c).1 (hagree c).2.1 (hagree c).2.2.1 (hagree c).2.2.2.1 (hagree c).2.2.2.2.1 (hagree c).2.2.2.2.2
    exact ⟨(h c).1.trans ((Cert.ModaRefIdeal.Read.val_main_v56_eq _ _).trans e.1), (h c).2.1.trans ((Cert.ModaRefIdeal.Read.val_main_v58_eq _ _ _ _).trans e.2), (h c).2.2⟩

end Cert.Proof

end
-- ==== Proof.FinalSpec.lean ====
/- The last norm, the loss and the gradient back to the second product, elementwise. -/
module

public import proofs.«01_k».proof.Proof.Gen.FinalIdeal
public import proofs.«01_k».proof.Proof.Gen.FinalRefIdeal
public import proofs.«01_k».proof.Proof.Rows8
public import proofs.«01_k».proof.Proof.NormSpec
public import proofs.«01_k».proof.Proof.RealRows

set_option maxRecDepth 16384

@[expose] public noncomputable section

open Idealize.ShloMosaic Idealize.ShloMosaic.TcCoe Idealize.SL.Sem

namespace Cert.FinalSpec

open Cert.FinalRefIdeal Cert.NormSpec Cert.RealRows

variable (A : FVec Ideal S1x4096x4096 .f32) (W X : FVec Ideal S1x4096x1024 .f32) (M : FVec Ideal S1x6144 .f32)
  (Gf : FVec Ideal S1024 .f32) (T : FVec Ideal S1x4096x1024 .f32)

/-- The gate of the MLP branch. -/
def gate (j : Fin 1024) : EReal := M (ix2 0 ⟨5120 + j.val, by omega⟩)
/-- The MLP branch. -/
def mm (R : Fin 4096) (j : Fin 1024) : EReal := ∑ e : Fin 4096, A (ix3 0 R e) * W (ix3 0 e j)
/-- The residual stream after the MLP branch. -/
def x2 (R : Fin 4096) (j : Fin 1024) : EReal := X (ix3 0 R j) + gate M j * mm A W R j
def xn (R : Fin 4096) (j : Fin 1024) : EReal := x2 A W X M R j * rinv (x2 A W X M R)
/-- The error against the target. -/
def err (R : Fin 4096) (j : Fin 1024) : EReal := xn A W X M R j * Gf (ix1 j) - T (ix3 0 R j)
def dy (R : Fin 4096) (j : Fin 1024) : EReal := err A W X M Gf T R j * Ideal.ofBits .f32 0x3A800000#32
def dn (R : Fin 4096) (j : Fin 1024) : EReal := dy A W X M Gf T R j * Gf (ix1 j)
def dx (R : Fin 4096) (j : Fin 1024) : EReal := byHand (x2 A W X M R) (dn A W X M Gf T R) j
/-- What one row adds to the rows of sums. -/
def term (i : ℕ) (j : Fin 1024) (R : Fin 4096) : EReal :=
  if i = 2 then err A W X M Gf T R j * err A W X M Gf T R j else if i = 1 then dx A W X M Gf T R j * mm A W R j
  else if i = 0 then dy A W X M Gf T R j * xn A W X M R j else 0

def OUT6 : FVec Ideal S4096x1024 .f32 := fun y => dx A W X M Gf T (y 0) (y 1)
def OUT7 : FVec Ideal S4096x1024 .bf16 := fun y => dx A W X M Gf T (y 0) (y 1) * gate M (y 1)
def OUT8 : FVec Ideal S8x1024 .f32 := fun y =>
  if (y 0).val = 3 then (∑ k, ∑ R, term A W X M Gf T 2 k R) * Ideal.ofBits .f32 0x3A000000#32 else ∑ R, term A W X M Gf T (y 0).val (y 1) R

theorem rinv_re (f : Fin 1024 → EReal) (h : ∀ k, Re (f k)) : Re (rinv f) := by
  obtain ⟨g, rfl⟩ := row f h
  obtain ⟨q, R, _, _, _, hR⟩ := rinv_real g
  exact ⟨R, hR⟩

/-- All arguments are arrays of real numbers. -/
def Reals : Prop := (∀ i, Re (A i)) ∧ (∀ i, Re (W i)) ∧ (∀ i, Re (X i)) ∧ (∀ i, Re (M i)) ∧ (∀ i, Re (Gf i)) ∧ (∀ i, Re (T i))

variable {A W X M Gf T}

theorem x2_re (h : Reals A W X M Gf T) (R : Fin 4096) (j : Fin 1024) : Re (x2 A W X M R j) :=
  add (h.2.2.1 _) (mul (h.2.2.2.1 _) (sum _ fun e => mul (h.1 _) (h.2.1 _)))
theorem err_re (h : Reals A W X M Gf T) (R : Fin 4096) (j : Fin 1024) : Re (err A W X M Gf T R j) := by
  obtain ⟨a, ha⟩ := mul (mul (x2_re h R j) (rinv_re _ (x2_re h R))) (h.2.2.2.2.1 (ix1 j))
  obtain ⟨b, hb⟩ := h.2.2.2.2.2 (ix3 0 R j)
  exact ⟨a - b, by unfold err xn; rw [ha, hb, EReal.coe_sub]⟩

theorem cInv : (Ideal.ofBits .f32 0x3A800000#32 : EReal) = ((1 / 1024 : ℝ) : EReal) := by
  simp [Ideal.ofBits, Ideal.ieee, -EReal.coe_mul]; norm_num
theorem cLoss : (Ideal.ofBits .f32 0x3A000000#32 : EReal) = ((1 / 2048 : ℝ) : EReal) := by
  simp [Ideal.ofBits, Ideal.ieee, -EReal.coe_mul]; norm_num
theorem cTwo : (Ideal.ofBits .f32 0x40000000#32 : EReal) = ((2 : ℝ) : EReal) := by
  simp [Ideal.ofBits, Ideal.ieee, -EReal.coe_mul]; norm_num
theorem cH : (Ideal.ofBits .f32 0x3F000000#32 : EReal) = ((1 / 2 : ℝ) : EReal) := by
  simp [Ideal.ofBits, Ideal.ieee, -EReal.coe_mul]; norm_num

/-- Half the mean of the square, differentiated. -/
theorem dy_chain (h : Reals A W X M Gf T) (R : Fin 4096) (j : Fin 1024) :
    Ideal.div (Ideal.ofBits .f32 0x3F000000#32) (Ideal.ofBits .f32 0x44800000#32) * (Ideal.ofBits .f32 0x40000000#32 * err A W X M Gf T R j) = dy A W X M Gf T R j := by
  obtain ⟨e, he⟩ := err_re h R j
  unfold dy
  rw [he, cH, cTwo, cInv, c1024, div_real _ _ (by norm_num), ← EReal.coe_mul, ← EReal.coe_mul, ← EReal.coe_mul]
  congr 1
  ring

theorem dn_re (h : Reals A W X M Gf T) (R : Fin 4096) (j : Fin 1024) : Re (dn A W X M Gf T R j) :=
  mul (mul (err_re h R j) ⟨_, cInv⟩) (h.2.2.2.2.1 _)

theorem chain_eq (h : Reals A W X M Gf T) (R : Fin 4096) (j : Fin 1024) :
    byChain 0 (x2 A W X M R) (dn A W X M Gf T R) j = dx A W X M Gf T R j := by
  obtain ⟨f, hf⟩ := row _ (x2_re h R)
  obtain ⟨g, hg⟩ := row _ (dn_re h R)
  unfold dx
  rw [hf, hg]
  exact (byChain_eq 0 f g j).trans (zero_add _)

/-- The loss summed row by row, or from the sums of squares. -/
theorem loss_eq (h : Reals A W X M Gf T) :
    Ideal.ofBits .f32 0x3F000000#32 * ∑ R, Ideal.div (∑ k, err A W X M Gf T R k * err A W X M Gf T R k) (Ideal.ofBits .f32 0x44800000#32)
      = (∑ k, ∑ R, term A W X M Gf T 2 k R) * Ideal.ofBits .f32 0x3A000000#32 := by
  have hc := fun R j => err_re h R j
  choose e he using hc
  have ht : ∀ k R, term A W X M Gf T 2 k R = ((e R k * e R k : ℝ) : EReal) := fun k R => by
    unfold term
    rw [if_pos rfl, he, EReal.coe_mul]
  simp only [ht, he, cH, cLoss, c1024, ← EReal.coe_mul, ← AttnSpec.coe_sum]
  have hd : ∀ R, Ideal.div ((∑ k, e R k * e R k : ℝ) : EReal) ((1024 : ℝ) : EReal) = (((∑ k, e R k * e R k) / 1024 : ℝ) : EReal) := fun R => div_real _ _ (by norm_num)
  simp only [hd, ← EReal.coe_mul, ← AttnSpec.coe_sum]
  congr 1
  rw [Finset.sum_comm, ← Finset.sum_div]
  ring

end Cert.FinalSpec

end
-- ==== Proof.FinalPre.lean ====
/- The precondition at the last norm: every element read is a real number. -/
module

public import proofs.«01_k».proof.Proof.AttnPre
public import proofs.«01_k».proof.Proof.RealRows
public import proofs.«01_k».proof.Proof.FinalSpec
public import proofs.«01_k».proof.Proof.Gen.Pre_finite_final

set_option maxRecDepth 16384

@[expose] public noncomputable section

open Idealize.ShloMosaic Idealize.ShloMosaic.TcCoe Idealize.SL.Sem

namespace Cert.Pre_finite_final.At

open Cert.Pre_finite_final Cert.Pre_finite_final.Gen
open Cert.Pre_finite.At (real_of_lt word_and)
open Cert.RealRows (Re)

instance : Subsingleton S_.Idx := ⟨fun a b => funext fun k => k.elim0⟩

/-- With such arguments every element is real. -/
theorem reals (A : FVec Ideal S1x4096x4096 .f32) (W X : FVec Ideal S1x4096x1024 .f32) (M : FVec Ideal S1x6144 .f32) (Gf : FVec Ideal S1024 .f32) (T : FVec Ideal S1x4096x1024 .f32)
    (j : S_.Idx) (h : fn (F := Ideal) A W X M Gf T j = 1#1) : Cert.FinalSpec.Reals A W X M Gf T := by
  dsimp only [fn, fn_part1] at h
  obtain ⟨h, h5⟩ := word_and _ _ h
  obtain ⟨h, h4⟩ := word_and _ _ h
  obtain ⟨h, h3⟩ := word_and _ _ h
  obtain ⟨h, h2⟩ := word_and _ _ h
  obtain ⟨h0, h1⟩ := word_and _ _ h
  exact ⟨fun i => real_of_lt _ (Host.reduce_andi_all _ _ _ _ _ h0 i), fun i => real_of_lt _ (Host.reduce_andi_all _ _ _ _ _ h1 i), fun i => real_of_lt _ (Host.reduce_andi_all _ _ _ _ _ h2 i),
    fun i => real_of_lt _ (Host.reduce_andi_all _ _ _ _ _ h3 i), fun i => real_of_lt _ (Host.reduce_andi_all _ _ _ _ _ h4 i), fun i => real_of_lt _ (Host.reduce_andi_all _ _ _ _ _ h5 i)⟩

end Cert.Pre_finite_final.At

end
-- ==== Proof.FinalPay.lean ====
/- What the last product's kernel computes from whole tiles. -/
module

public import proofs.«01_k».proof.Proof.FinalSpec
public import proofs.«01_k».proof.Proof.Gen.FinalIdeal.Skeleton
public import Idealize.ShloMosaic.Lib.Pipeline.Value
public import Idealize.ShloMosaic.Lib.Pipeline.ValueKit

set_option maxRecDepth 16384

@[expose] public noncomputable section

open Idealize.ShloMosaic Idealize.ShloMosaic.TcCoe Idealize.SL.Sem

namespace Cert.FinalIdeal.Pay

open Cert.FinalIdeal Cert.FinalIdeal.Gen Cert.NormSpec

abbrev T := FVec Ideal S256x1024 .f32
abbrev V1 := FVec Ideal S1x1024 .f32

section
variable (u : FVec Ideal S512x4096 .bf16) (w : FVec Ideal S4096x1024 .bf16) (p : FVec Ideal S512x1024 .f32) (x t o : T) (g gf gf' a : V1) (r : Fin 256) (j : Fin 1024)

theorem pay2_at (r : Fin 512) : (k0_pay2 (F := Ideal) u w (ix2 r j) : EReal) = ∑ e : Fin 4096, (u (ix2 r e) : EReal) * (w (ix2 e j) : EReal) := by
  pointwise [k0_pay2]
theorem pay3_at : (k0_pay3 (F := Ideal) u w (ix2 r j) : EReal) = k0_pay2 (F := Ideal) u w (ix2 ⟨r.val, by omega⟩ j) := by
  unfold k0_pay3
  generalize k0_pay2 (F := Ideal) u w = z
  pointwise []
theorem pay19_at : (k0_pay19 (F := Ideal) p (ix2 r j) : EReal) = p (ix2 ⟨256 + r.val, by omega⟩ j) := by
  pointwise [k0_pay19]

theorem pay4_at : (k0_pay4 (F := Ideal) u w x g (ix2 r j) : EReal) = x (ix2 r j) + g (ix2 0 j) * k0_pay3 (F := Ideal) u w (ix2 r j) := by
  unfold k0_pay4
  generalize k0_pay3 (F := Ideal) u w = z
  pointwise []
theorem pay20_at : (k0_pay20 (F := Ideal) p x g (ix2 r j) : EReal) = x (ix2 r j) + g (ix2 0 j) * k0_pay19 (F := Ideal) p (ix2 r j) := by
  unfold k0_pay20
  generalize k0_pay19 (F := Ideal) p = z
  pointwise []
theorem pay5_at : (k0_pay5 (F := Ideal) u w x g (ix2 r 0) : EReal) = rinv fun k => k0_pay4 (F := Ideal) u w x g (ix2 r k) := by
  unfold k0_pay5
  generalize k0_pay4 (F := Ideal) u w x g = z
  pointwise [rinv]
theorem pay21_at : (k0_pay21 (F := Ideal) p x g (ix2 r 0) : EReal) = rinv fun k => k0_pay20 (F := Ideal) p x g (ix2 r k) := by
  unfold k0_pay21
  generalize k0_pay20 (F := Ideal) p x g = z
  pointwise [rinv]
theorem pay6_at : (k0_pay6 (F := Ideal) u w x g (ix2 r j) : EReal) = k0_pay4 (F := Ideal) u w x g (ix2 r j) * k0_pay5 (F := Ideal) u w x g (ix2 r 0) := by
  unfold k0_pay6
  generalize k0_pay4 (F := Ideal) u w x g = z
  generalize k0_pay5 (F := Ideal) u w x g = y
  pointwise []
theorem pay22_at : (k0_pay22 (F := Ideal) p x g (ix2 r j) : EReal) = k0_pay20 (F := Ideal) p x g (ix2 r j) * k0_pay21 (F := Ideal) p x g (ix2 r 0) := by
  unfold k0_pay22
  generalize k0_pay20 (F := Ideal) p x g = z
  generalize k0_pay21 (F := Ideal) p x g = y
  pointwise []
theorem pay7_at : (k0_pay7 (F := Ideal) u w x g gf t (ix2 r j) : EReal) = k0_pay6 (F := Ideal) u w x g (ix2 r j) * gf (ix2 0 j) - t (ix2 r j) := by
  unfold k0_pay7
  generalize k0_pay6 (F := Ideal) u w x g = z
  pointwise []
theorem pay23_at : (k0_pay23 (F := Ideal) p x g gf t (ix2 r j) : EReal) = k0_pay22 (F := Ideal) p x g (ix2 r j) * gf (ix2 0 j) - t (ix2 r j) := by
  unfold k0_pay23
  generalize k0_pay22 (F := Ideal) p x g = z
  pointwise []
theorem pay8_at : (k0_pay8 (F := Ideal) u w x g gf t (ix2 r j) : EReal) = k0_pay7 (F := Ideal) u w x g gf t (ix2 r j) * Ideal.ofBits .f32 0x3A800000#32 := by
  unfold k0_pay8
  generalize k0_pay7 (F := Ideal) u w x g gf t = z
  pointwise []
theorem pay24_at : (k0_pay24 (F := Ideal) p x g gf t (ix2 r j) : EReal) = k0_pay23 (F := Ideal) p x g gf t (ix2 r j) * Ideal.ofBits .f32 0x3A800000#32 := by
  unfold k0_pay24
  generalize k0_pay23 (F := Ideal) p x g gf t = z
  pointwise []
theorem pay9_at : (k0_pay9 (F := Ideal) u w x g gf t gf' (ix2 r j) : EReal) = k0_pay8 (F := Ideal) u w x g gf t (ix2 r j) * gf' (ix2 0 j) := by
  unfold k0_pay9
  generalize k0_pay8 (F := Ideal) u w x g gf t = z
  pointwise []
theorem pay25_at : (k0_pay25 (F := Ideal) p x g gf t gf' (ix2 r j) : EReal) = k0_pay24 (F := Ideal) p x g gf t (ix2 r j) * gf' (ix2 0 j) := by
  unfold k0_pay25
  generalize k0_pay24 (F := Ideal) p x g gf t = z
  pointwise []
theorem pay10_at : (k0_pay10 (F := Ideal) u w x g gf t gf' (ix2 r j) : EReal) = k0_pay9 (F := Ideal) u w x g gf t gf' (ix2 r j) * k0_pay6 (F := Ideal) u w x g (ix2 r j) := by
  unfold k0_pay10
  generalize k0_pay9 (F := Ideal) u w x g gf t gf' = z
  generalize k0_pay6 (F := Ideal) u w x g = y
  pointwise []
theorem pay26_at : (k0_pay26 (F := Ideal) p x g gf t gf' (ix2 r 0) : EReal) = Ideal.div (∑ k : Fin 1024, k0_pay25 (F := Ideal) p x g gf t gf' (ix2 r k) * k0_pay22 (F := Ideal) p x g (ix2 r k)) (Ideal.ofBits .f32 0x44800000#32) := by
  unfold k0_pay26
  generalize k0_pay25 (F := Ideal) p x g gf t gf' = z
  generalize k0_pay22 (F := Ideal) p x g = y
  pointwise []
end

section
variable (z q : FVec Ideal S256x1 .f32) (y v s o : T) (a : V1) (r : Fin 256) (j : Fin 1024)
theorem pay11_at : (k0_pay11 (F := Ideal) z y v s (ix2 r j) : EReal) = z (ix2 r 0) * (v (ix2 r j) - y (ix2 r j) * Ideal.div (∑ k : Fin 1024, s (ix2 r k)) (Ideal.ofBits .f32 0x44800000#32)) := by
  pointwise [k0_pay11]
theorem pay27_at : (k0_pay27 (F := Ideal) z y v q (ix2 r j) : EReal) = z (ix2 r 0) * (v (ix2 r j) - y (ix2 r j) * q (ix2 r 0)) := by
  pointwise [k0_pay27]
theorem pay12_at : (k0_pay12 (F := Ideal) z y v s a (ix2 r j) : EReal) = k0_pay11 (F := Ideal) z y v s (ix2 r j) * a (ix2 0 j) := by
  unfold k0_pay12
  generalize k0_pay11 (F := Ideal) z y v s = d
  pointwise []
theorem pay28_at : (k0_pay28 (F := Ideal) z y v q a (ix2 r j) : EReal) = k0_pay27 (F := Ideal) z y v q (ix2 r j) * a (ix2 0 j) := by
  unfold k0_pay28
  generalize k0_pay27 (F := Ideal) z y v q = d
  pointwise []
theorem pay13_at (y : S8x1024.Idx) : (k0_pay13 (F := Ideal) y : EReal) = 0 := by
  idx_vars y
  pointwise [k0_pay13]
theorem pay14_at : (k0_pay14 (F := Ideal) y v a (ix2 0 j) : EReal) = a (ix2 0 j) + ∑ r : Fin 256, v (ix2 r j) * y (ix2 r j) := by
  pointwise [k0_pay14]
theorem pay29_at : (k0_pay29 (F := Ideal) y v a (ix2 0 j) : EReal) = a (ix2 0 j) + ∑ r : Fin 256, v (ix2 r j) * y (ix2 r j) := by
  pointwise [k0_pay29]
theorem pay15_at : (k0_pay15 (F := Ideal) o z y v s a (ix2 0 j) : EReal) = a (ix2 0 j) + ∑ r : Fin 256, k0_pay11 (F := Ideal) z y v s (ix2 r j) * o (ix2 r j) := by
  unfold k0_pay15
  generalize k0_pay11 (F := Ideal) z y v s = d
  pointwise []
theorem pay30_at : (k0_pay30 (F := Ideal) o z y v q a (ix2 0 j) : EReal) = a (ix2 0 j) + ∑ r : Fin 256, k0_pay27 (F := Ideal) z y v q (ix2 r j) * o (ix2 r j) := by
  unfold k0_pay30
  generalize k0_pay27 (F := Ideal) z y v q = d
  pointwise []
theorem pay18_at : (k0_pay18 (F := Ideal) (k0_pay16 (F := Ideal) a) (k0_pay17 (F := Ideal) v) (ix2 0 j) : EReal) = a (ix2 0 j) + ∑ r : Fin 256, v (ix2 r j) * v (ix2 r j) := by
  pointwise [k0_pay18, k0_pay17, k0_pay16]
theorem pay31_at : (k0_pay31 (F := Ideal) v a (ix2 0 j) : EReal) = a (ix2 0 j) + ∑ r : Fin 256, v (ix2 r j) * v (ix2 r j) := by
  pointwise [k0_pay31]
theorem pay1_at : (k0_pay1 (F := Ideal) a (ix2 0 j) : EReal) = (∑ k : Fin 1024, a (ix2 0 k)) * Ideal.ofBits .f32 0x3A000000#32 := by
  pointwise [k0_pay1]
end

end Cert.FinalIdeal.Pay

end
-- ==== Proof.FinalVal.lean ====
/- The last norm and the loss: the kernel's three result arrays. -/
module

public import proofs.«01_k».proof.Proof.FinalPay
public import proofs.«01_k».proof.Proof.Gen.FinalIdeal.Launch
public import proofs.«01_k».proof.Proof.Gen.FinalIdeal.Points
public import proofs.«01_k».proof.Proof.Gen.FinalIdeal.Frame
public import Idealize.ShloMosaic.Lib.Pipeline.ReadBack
public import Idealize.ShloMosaic.Lib.StableHlo.Run

set_option maxRecDepth 16384

@[expose] public noncomputable section

open Idealize.ShloMosaic Idealize.ShloMosaic.TcCoe Idealize.SL.Sem
open Idealize.ShloMosaic.Pipeline (Dat)

namespace Cert.FinalIdeal.Val

open Cert.FinalIdeal Cert.FinalIdeal.Gen Cert.FinalIdeal.Pay Cert.NormSpec

variable (m : (ℓ : Loc nD τ sig) → Buf (Elt Ideal) ℓ)

theorem idx : ∀ t : Fin cfg0.N, win0_0.index t = ![t.val, 0]
    ∧ win0_1.index t = ![0, 0]
    ∧ win0_2.index t = ![t.val, 0]
    ∧ win0_3.index t = ![t.val, 0]
    ∧ win0_4.index t = ![0, 5]
    ∧ win0_5.index t = ![0, 0]
    ∧ win0_6.index t = ![t.val, 0]
    ∧ win0_7.index t = ![t.val, 0]
    ∧ win0_8.index t = ![0, 0] :=
  (by decide +kernel : ∀ t : Fin grid0.N, _)

theorem lt8 (t : Fin cfg0.N) : t.val < 8 := lt_of_lt_of_eq t.isLt N_0

abbrev aA (c : Dev nD) : FVec Ideal S1x4096x4096 .f32 := m ((c : Thread nD τ).loc main_arg0)
abbrev aW (c : Dev nD) : FVec Ideal S1x4096x1024 .f32 := m ((c : Thread nD τ).loc main_arg1)
abbrev aX (c : Dev nD) : FVec Ideal S1x4096x1024 .f32 := m ((c : Thread nD τ).loc main_arg2)
abbrev aM (c : Dev nD) : FVec Ideal S1x6144 .f32 := m ((c : Thread nD τ).loc main_arg3)
abbrev aG (c : Dev nD) : FVec Ideal S1024 .f32 := m ((c : Thread nD τ).loc main_arg4)
abbrev aT (c : Dev nD) : FVec Ideal S1x4096x1024 .f32 := m ((c : Thread nD τ).loc main_arg5)

/-- The spec's functions, of the kernel's memory. -/
abbrev mm (c : Dev nD) := FinalSpec.mm (aA m c) (aW m c)
abbrev x2 (c : Dev nD) := FinalSpec.x2 (aA m c) (aW m c) (aX m c) (aM m c)
abbrev xn (c : Dev nD) := FinalSpec.xn (aA m c) (aW m c) (aX m c) (aM m c)
abbrev err (c : Dev nD) := FinalSpec.err (aA m c) (aW m c) (aX m c) (aM m c) (aG m c) (aT m c)
abbrev dy (c : Dev nD) := FinalSpec.dy (aA m c) (aW m c) (aX m c) (aM m c) (aG m c) (aT m c)
abbrev dn (c : Dev nD) := FinalSpec.dn (aA m c) (aW m c) (aX m c) (aM m c) (aG m c) (aT m c)
abbrev dx (c : Dev nD) := FinalSpec.dx (aA m c) (aW m c) (aX m c) (aM m c) (aG m c) (aT m c)
abbrev term (c : Dev nD) := FinalSpec.term (aA m c) (aW m c) (aX m c) (aM m c) (aG m c) (aT m c)

theorem ublk (c : Dev nD) (t : Fin cfg0.N) (r : Fin 512) (e : Fin 4096) (R : Fin 4096) (hR : R.val = t.val * 512 + r.val) :
    ((iblk m c 0 t : FVec Ideal S512x4096 .bf16) (ix2 r e) : EReal) = aA m c (ix3 0 R e) := by
  have h : ((V m c main_v1 : FVec Ideal S4096x4096 .bf16) (ix2 R e) : EReal) = aA m c (ix3 0 R e) := by
    unfold V; entry_read; pointwise []
  rw [← h]; blk_ext [iblk, idx t]
theorem wblk (c : Dev nD) (t : Fin cfg0.N) (e : Fin 4096) (j : Fin 1024) :
    ((iblk m c 1 t : FVec Ideal S4096x1024 .bf16) (ix2 e j) : EReal) = aW m c (ix3 0 e j) := by
  have h : ((V m c main_v3 : FVec Ideal S4096x1024 .bf16) (ix2 e j) : EReal) = aW m c (ix3 0 e j) := by
    unfold V; entry_read; pointwise []
  rw [← h]; blk_ext [iblk, idx t]
theorem xblk (c : Dev nD) (t : Fin cfg0.N) (r : Fin 512) (j : Fin 1024) (R : Fin 4096) (hR : R.val = t.val * 512 + r.val) :
    ((iblk m c 2 t : FVec Ideal S512x1024 .f32) (ix2 r j) : EReal) = aX m c (ix3 0 R j) := by
  have h : ((V m c main_v4 : FVec Ideal S4096x1024 .f32) (ix2 R j) : EReal) = aX m c (ix3 0 R j) := by
    unfold V; entry_read; pointwise []
  rw [← h]; blk_ext [iblk, idx t]
theorem tblk (c : Dev nD) (t : Fin cfg0.N) (r : Fin 512) (j : Fin 1024) (R : Fin 4096) (hR : R.val = t.val * 512 + r.val) :
    ((iblk m c 3 t : FVec Ideal S512x1024 .f32) (ix2 r j) : EReal) = aT m c (ix3 0 R j) := by
  have h : ((V m c main_v5 : FVec Ideal S4096x1024 .f32) (ix2 R j) : EReal) = aT m c (ix3 0 R j) := by
    unfold V; entry_read; pointwise []
  rw [← h]; blk_ext [iblk, idx t]
theorem gblk (c : Dev nD) (t : Fin cfg0.N) (j : Fin 1024) :
    ((iblk m c 4 t : FVec Ideal S1x1024 .f32) (ix2 0 j) : EReal) = FinalSpec.gate (aM m c) j := by
  have h : ((V m c main_arg3 : FVec Ideal S1x6144 .f32) (ix2 0 ⟨5120 + j.val, by omega⟩) : EReal) = FinalSpec.gate (aM m c) j := by
    unfold V; entry_read; pointwise [FinalSpec.gate]
  rw [← h]; blk_ext [iblk, idx t]
theorem fblk (c : Dev nD) (t : Fin cfg0.N) (j : Fin 1024) :
    ((iblk m c 5 t : FVec Ideal S1x1024 .f32) (ix2 0 j) : EReal) = aG m c (ix1 j) := by
  have h : ((V m c main_v6 : FVec Ideal S1x1024 .f32) (ix2 0 j) : EReal) = aG m c (ix1 j) := by
    unfold V; entry_read; pointwise []
  rw [← h]; blk_ext [iblk, idx t]

abbrev u (c : Dev nD) (t : Fin cfg0.N) : FVec Ideal S512x4096 .bf16 := iblk m c 0 t
abbrev w (c : Dev nD) (t : Fin cfg0.N) : FVec Ideal S4096x1024 .bf16 := iblk m c 1 t
abbrev g (c : Dev nD) (t : Fin cfg0.N) : V1 := iblk m c 4 t
abbrev gf (c : Dev nD) (t : Fin cfg0.N) : V1 := iblk m c 5 t
/-- The product tile of a point. -/
abbrev P (c : Dev nD) (t : Fin cfg0.N) : FVec Ideal S512x1024 .f32 := k0_pay2 (u m c t) (w m c t)

theorem P_at (c : Dev nD) (t : Fin cfg0.N) (r : Fin 512) (j : Fin 1024) (R : Fin 4096) (hR : R.val = t.val * 512 + r.val) :
    (P m c t (ix2 r j) : EReal) = mm m c R j :=
  (pay2_at _ _ j r).trans (Finset.sum_congr (M := EReal) rfl fun e _ => congrArg₂ (· * ·) (ublk m c t r e R hR) (wblk m c t e j))
theorem G_at (c : Dev nD) (t : Fin cfg0.N) (r : Fin 256) (j : Fin 1024) (R : Fin 4096) (hR : R.val = t.val * 512 + r.val) :
    (k0_pay3 (F := Ideal) (u m c t) (w m c t) (ix2 r j) : EReal) = mm m c R j :=
  (pay3_at _ _ r j).trans (P_at m c t _ j R hR)
theorem H_at (c : Dev nD) (t : Fin cfg0.N) (r : Fin 256) (j : Fin 1024) (R : Fin 4096) (hR : R.val = t.val * 512 + (256 + r.val)) :
    (k0_pay19 (F := Ideal) (P m c t) (ix2 r j) : EReal) = mm m c R j :=
  (pay19_at _ r j).trans (P_at m c t _ j R hR)

abbrev xl (c : Dev nD) (t : Fin cfg0.N) : T := View.ld (iblk m c 2 t) (Rect.unit ![0, 0] ![256, 1024] inb_S512x1024_S256x1024_0_0)
abbrev xh (c : Dev nD) (t : Fin cfg0.N) : T := View.ld (iblk m c 2 t) (Rect.unit ![256, 0] ![256, 1024] inb_S512x1024_S256x1024_256_0)
abbrev tl (c : Dev nD) (t : Fin cfg0.N) : T := View.ld (iblk m c 3 t) (Rect.unit ![0, 0] ![256, 1024] inb_S512x1024_S256x1024_0_0)
abbrev th (c : Dev nD) (t : Fin cfg0.N) : T := View.ld (iblk m c 3 t) (Rect.unit ![256, 0] ![256, 1024] inb_S512x1024_S256x1024_256_0)

section
variable (c : Dev nD) (t : Fin cfg0.N) (r : Fin 256) (j : Fin 1024) (R : Fin 4096)
theorem xl_at (hR : R.val = t.val * 512 + r.val) : (xl m c t (ix2 r j) : EReal) = aX m c (ix3 0 R j) :=
  (Rows8.ld_half (e := .f32) (iblk m c 2 t) 0 _ r j ⟨r.val, by omega⟩ (by simp)).trans (xblk m c t _ j R hR)
theorem xh_at (hR : R.val = t.val * 512 + (256 + r.val)) : (xh m c t (ix2 r j) : EReal) = aX m c (ix3 0 R j) :=
  (Rows8.ld_half (e := .f32) (iblk m c 2 t) 256 _ r j ⟨256 + r.val, by omega⟩ rfl).trans (xblk m c t _ j R hR)
theorem tl_at (hR : R.val = t.val * 512 + r.val) : (tl m c t (ix2 r j) : EReal) = aT m c (ix3 0 R j) :=
  (Rows8.ld_half (e := .f32) (iblk m c 3 t) 0 _ r j ⟨r.val, by omega⟩ (by simp)).trans (tblk m c t _ j R hR)
theorem th_at (hR : R.val = t.val * 512 + (256 + r.val)) : (th m c t (ix2 r j) : EReal) = aT m c (ix3 0 R j) :=
  (Rows8.ld_half (e := .f32) (iblk m c 3 t) 256 _ r j ⟨256 + r.val, by omega⟩ rfl).trans (tblk m c t _ j R hR)
end

/-- The tiles the first half computes with. -/
abbrev l5 (c : Dev nD) (t : Fin cfg0.N) := k0_pay5 (F := Ideal) (u m c t) (w m c t) (xl m c t) (g m c t)
abbrev l6 (c : Dev nD) (t : Fin cfg0.N) := k0_pay6 (F := Ideal) (u m c t) (w m c t) (xl m c t) (g m c t)
abbrev l7 (c : Dev nD) (t : Fin cfg0.N) := k0_pay7 (F := Ideal) (u m c t) (w m c t) (xl m c t) (g m c t) (gf m c t) (tl m c t)
abbrev l8 (c : Dev nD) (t : Fin cfg0.N) := k0_pay8 (F := Ideal) (u m c t) (w m c t) (xl m c t) (g m c t) (gf m c t) (tl m c t)
abbrev l9 (c : Dev nD) (t : Fin cfg0.N) := k0_pay9 (F := Ideal) (u m c t) (w m c t) (xl m c t) (g m c t) (gf m c t) (tl m c t) (gf m c t)
abbrev l10 (c : Dev nD) (t : Fin cfg0.N) := k0_pay10 (F := Ideal) (u m c t) (w m c t) (xl m c t) (g m c t) (gf m c t) (tl m c t) (gf m c t)
abbrev l11 (c : Dev nD) (t : Fin cfg0.N) := k0_pay11 (F := Ideal) (l5 m c t) (l6 m c t) (l9 m c t) (l10 m c t)
/-- The tiles the second half computes with. -/
abbrev h5 (c : Dev nD) (t : Fin cfg0.N) := k0_pay21 (F := Ideal) (P m c t) (xh m c t) (g m c t)
abbrev h6 (c : Dev nD) (t : Fin cfg0.N) := k0_pay22 (F := Ideal) (P m c t) (xh m c t) (g m c t)
abbrev h7 (c : Dev nD) (t : Fin cfg0.N) := k0_pay23 (F := Ideal) (P m c t) (xh m c t) (g m c t) (gf m c t) (th m c t)
abbrev h8 (c : Dev nD) (t : Fin cfg0.N) := k0_pay24 (F := Ideal) (P m c t) (xh m c t) (g m c t) (gf m c t) (th m c t)
abbrev h9 (c : Dev nD) (t : Fin cfg0.N) := k0_pay25 (F := Ideal) (P m c t) (xh m c t) (g m c t) (gf m c t) (th m c t) (gf m c t)
abbrev h10 (c : Dev nD) (t : Fin cfg0.N) := k0_pay26 (F := Ideal) (P m c t) (xh m c t) (g m c t) (gf m c t) (th m c t) (gf m c t)
abbrev h11 (c : Dev nD) (t : Fin cfg0.N) := k0_pay27 (F := Ideal) (h5 m c t) (h6 m c t) (h9 m c t) (h10 m c t)

section
variable (c : Dev nD) (t : Fin cfg0.N) (r : Fin 256) (j : Fin 1024) (R : Fin 4096) (hR : R.val = t.val * 512 + r.val)
include hR
theorem l4_at : (k0_pay4 (F := Ideal) (u m c t) (w m c t) (xl m c t) (g m c t) (ix2 r j) : EReal) = x2 m c R j :=
  (pay4_at _ _ _ _ r j).trans (congrArg₂ (· + ·) (xl_at m c t r j R hR) (congrArg₂ (· * ·) (gblk m c t j) (G_at m c t r j R hR)))
theorem l5_at : (l5 m c t (ix2 r 0) : EReal) = rinv (x2 m c R) :=
  (pay5_at _ _ _ _ r).trans (congrArg rinv (funext fun k => l4_at m c t r k R hR))
theorem l6_at : (l6 m c t (ix2 r j) : EReal) = xn m c R j :=
  (pay6_at _ _ _ _ r j).trans (congrArg₂ (· * ·) (l4_at m c t r j R hR) (l5_at m c t r R hR))
theorem l7_at : (l7 m c t (ix2 r j) : EReal) = err m c R j :=
  (pay7_at _ _ _ _ _ _ r j).trans (congrArg₂ (· - ·) (congrArg₂ (· * ·) (l6_at m c t r j R hR) (fblk m c t j)) (tl_at m c t r j R hR))
theorem l8_at : (l8 m c t (ix2 r j) : EReal) = dy m c R j :=
  (pay8_at _ _ _ _ _ _ r j).trans (congrArg (· * _) (l7_at m c t r j R hR))
theorem l9_at : (l9 m c t (ix2 r j) : EReal) = dn m c R j :=
  (pay9_at _ _ _ _ _ _ _ r j).trans (congrArg₂ (· * ·) (l8_at m c t r j R hR) (fblk m c t j))
theorem l10_at : (l10 m c t (ix2 r j) : EReal) = dn m c R j * xn m c R j :=
  (pay10_at _ _ _ _ _ _ _ r j).trans (congrArg₂ (· * ·) (l9_at m c t r j R hR) (l6_at m c t r j R hR))
theorem l11_at : (l11 m c t (ix2 r j) : EReal) = dx m c R j := by
  refine (pay11_at _ _ _ _ r j).trans ?_
  rw [l5_at m c t r R hR, l6_at m c t r j R hR, l9_at m c t r j R hR, Finset.sum_congr (M := EReal) rfl fun k _ => l10_at m c t r k R hR]
  rfl
end

section
variable (c : Dev nD) (t : Fin cfg0.N) (r : Fin 256) (j : Fin 1024) (R : Fin 4096) (hR : R.val = t.val * 512 + (256 + r.val))
include hR
theorem h4_at : (k0_pay20 (F := Ideal) (P m c t) (xh m c t) (g m c t) (ix2 r j) : EReal) = x2 m c R j :=
  (pay20_at _ _ _ r j).trans (congrArg₂ (· + ·) (xh_at m c t r j R hR) (congrArg₂ (· * ·) (gblk m c t j) (H_at m c t r j R hR)))
theorem h5_at : (h5 m c t (ix2 r 0) : EReal) = rinv (x2 m c R) :=
  (pay21_at _ _ _ r).trans (congrArg rinv (funext fun k => h4_at m c t r k R hR))
theorem h6_at : (h6 m c t (ix2 r j) : EReal) = xn m c R j :=
  (pay22_at _ _ _ r j).trans (congrArg₂ (· * ·) (h4_at m c t r j R hR) (h5_at m c t r R hR))
theorem h7_at : (h7 m c t (ix2 r j) : EReal) = err m c R j :=
  (pay23_at _ _ _ _ _ r j).trans (congrArg₂ (· - ·) (congrArg₂ (· * ·) (h6_at m c t r j R hR) (fblk m c t j)) (th_at m c t r j R hR))
theorem h8_at : (h8 m c t (ix2 r j) : EReal) = dy m c R j :=
  (pay24_at _ _ _ _ _ r j).trans (congrArg (· * _) (h7_at m c t r j R hR))
theorem h9_at : (h9 m c t (ix2 r j) : EReal) = dn m c R j :=
  (pay25_at _ _ _ _ _ _ r j).trans (congrArg₂ (· * ·) (h8_at m c t r j R hR) (fblk m c t j))
theorem h10_at : (h10 m c t (ix2 r 0) : EReal) = Ideal.div (∑ k : Fin 1024, dn m c R k * xn m c R k) (Ideal.ofBits .f32 0x44800000#32) :=
  (pay26_at _ _ _ _ _ _ r).trans (congrArg (Ideal.div · _) (Finset.sum_congr (M := EReal) rfl fun k _ => congrArg₂ (· * ·) (h9_at m c t r k R hR) (h6_at m c t r k R hR)))
theorem h11_at : (h11 m c t (ix2 r j) : EReal) = dx m c R j := by
  refine (pay27_at _ _ _ _ r j).trans ?_
  rw [h5_at m c t r R hR, h6_at m c t r j R hR, h9_at m c t r j R hR, h10_at m c t r R hR]
  rfl
end

/-- The two runs of rows of a point. -/
abbrev lo (t : Fin cfg0.N) (r : Fin 256) : Fin 4096 := ⟨t.val * 512 + r.val, by have := lt8 t; omega⟩
abbrev hi (t : Fin cfg0.N) (r : Fin 256) : Fin 4096 := ⟨t.val * 512 + (256 + r.val), by have := lt8 t; omega⟩

theorem tile6 (c : Dev nD) (t : Fin cfg0.N) (i : Fin 512) (j : Fin 1024) (R : Fin 4096) (hR : R.val = t.val * 512 + i.val) :
    ((outsAt0 m c t.val t.isLt).1 (ix2 i j) : EReal) = dx m c R j := by
  by_cases h : t.val % 8 = 0
  · rw [outsAt0_A m c t h (by omega)]; frame_open
    simp (disch := decide) only [↓ View.readCov_skip, ↓ View.readCov_cons_toLoadRect, ↓ View.readCov_fill]
    frame_out
    refine (Rows8.canon_halves (e := .f32) _ _ _ _ i j).trans ?_
    split
    · exact h11_at m c t _ j R (by simp only; omega)
    · exact l11_at m c t _ j R hR
  by_cases h' : t.val % 8 = 7
  · rw [outsAt0_C m c t h h']; frame_open
    simp (disch := decide) only [↓ View.readCov_skip, ↓ View.readCov_cons_toLoadRect, ↓ View.readCov_fill]
    frame_out
    refine (Rows8.canon_halves (e := .f32) _ _ _ _ i j).trans ?_
    split
    · exact h11_at m c t _ j R (by simp only; omega)
    · exact l11_at m c t _ j R hR
  · rw [outsAt0_B m c t h h']; frame_open
    simp (disch := decide) only [↓ View.readCov_skip, ↓ View.readCov_cons_toLoadRect, ↓ View.readCov_fill]
    frame_out
    refine (Rows8.canon_halves (e := .f32) _ _ _ _ i j).trans ?_
    split
    · exact h11_at m c t _ j R (by simp only; omega)
    · exact l11_at m c t _ j R hR

theorem tile7 (c : Dev nD) (t : Fin cfg0.N) (i : Fin 512) (j : Fin 1024) (R : Fin 4096) (hR : R.val = t.val * 512 + i.val) :
    ((outsAt0 m c t.val t.isLt).2.1 (ix2 i j) : EReal) = dx m c R j * FinalSpec.gate (aM m c) j := by
  by_cases h : t.val % 8 = 0
  · rw [outsAt0_A m c t h (by omega)]; frame_open
    simp (disch := decide) only [↓ View.readCov_skip, ↓ View.readCov_cons_toLoadRect, ↓ View.readCov_fill]
    frame_out
    refine (Rows8.canon_halves (e := .bf16) _ _ _ _ i j).trans ?_
    split
    · exact (pay28_at _ _ _ _ _ _ j).trans (congrArg₂ (· * ·) (h11_at m c t _ j R (by simp only; omega)) (gblk m c t j))
    · exact (pay12_at _ _ _ _ _ _ j).trans (congrArg₂ (· * ·) (l11_at m c t ⟨i.val, by omega⟩ j R hR) (gblk m c t j))
  by_cases h' : t.val % 8 = 7
  · rw [outsAt0_C m c t h h']; frame_open
    simp (disch := decide) only [↓ View.readCov_skip, ↓ View.readCov_cons_toLoadRect, ↓ View.readCov_fill]
    frame_out
    refine (Rows8.canon_halves (e := .bf16) _ _ _ _ i j).trans ?_
    split
    · exact (pay28_at _ _ _ _ _ _ j).trans (congrArg₂ (· * ·) (h11_at m c t _ j R (by simp only; omega)) (gblk m c t j))
    · exact (pay12_at _ _ _ _ _ _ j).trans (congrArg₂ (· * ·) (l11_at m c t ⟨i.val, by omega⟩ j R hR) (gblk m c t j))
  · rw [outsAt0_B m c t h h']; frame_open
    simp (disch := decide) only [↓ View.readCov_skip, ↓ View.readCov_cons_toLoadRect, ↓ View.readCov_fill]
    frame_out
    refine (Rows8.canon_halves (e := .bf16) _ _ _ _ i j).trans ?_
    split
    · exact (pay28_at _ _ _ _ _ _ j).trans (congrArg₂ (· * ·) (h11_at m c t _ j R (by simp only; omega)) (gblk m c t j))
    · exact (pay12_at _ _ _ _ _ _ j).trans (congrArg₂ (· * ·) (l11_at m c t ⟨i.val, by omega⟩ j R hR) (gblk m c t j))

section
variable (c : Dev nD) (t : Fin cfg0.N) (a : V1) (j : Fin 1024)
theorem row0 : (k0_pay29 (F := Ideal) (h6 m c t) (h8 m c t) (k0_pay14 (l6 m c t) (l8 m c t) a) (ix2 0 j) : EReal)
    = a (ix2 0 j) + ((∑ r, term m c 0 j (lo t r)) + ∑ r, term m c 0 j (hi t r)) := by
  refine (pay29_at _ _ _ j).trans ?_
  refine (congrArg₂ (· + ·) (pay14_at _ _ a j) rfl).trans ?_
  rw [add_assoc]
  refine congrArg (_ + ·) (congrArg₂ (· + ·) (Finset.sum_congr (M := EReal) rfl fun r _ => ?_) (Finset.sum_congr (M := EReal) rfl fun r _ => ?_))
  · exact congrArg₂ (· * ·) (l8_at m c t r j (lo t r) rfl) (l6_at m c t r j (lo t r) rfl)
  · exact congrArg₂ (· * ·) (h8_at m c t r j (hi t r) rfl) (h6_at m c t r j (hi t r) rfl)
theorem row1 : (k0_pay30 (F := Ideal) (k0_pay19 (P m c t)) (h5 m c t) (h6 m c t) (h9 m c t) (h10 m c t) (k0_pay15 (k0_pay3 (u m c t) (w m c t)) (l5 m c t) (l6 m c t) (l9 m c t) (l10 m c t) a) (ix2 0 j) : EReal)
    = a (ix2 0 j) + ((∑ r, term m c 1 j (lo t r)) + ∑ r, term m c 1 j (hi t r)) := by
  refine (pay30_at _ _ _ _ _ _ j).trans ?_
  refine (congrArg₂ (· + ·) (pay15_at _ _ _ _ _ a j) rfl).trans ?_
  rw [add_assoc]
  refine congrArg (_ + ·) (congrArg₂ (· + ·) (Finset.sum_congr (M := EReal) rfl fun r _ => ?_) (Finset.sum_congr (M := EReal) rfl fun r _ => ?_))
  · exact congrArg₂ (· * ·) (l11_at m c t r j (lo t r) rfl) (G_at m c t r j (lo t r) rfl)
  · exact congrArg₂ (· * ·) (h11_at m c t r j (hi t r) rfl) (H_at m c t r j (hi t r) rfl)
theorem row2 : (k0_pay31 (F := Ideal) (h7 m c t) (k0_pay18 (k0_pay16 a) (k0_pay17 (l7 m c t))) (ix2 0 j) : EReal)
    = a (ix2 0 j) + ((∑ r, term m c 2 j (lo t r)) + ∑ r, term m c 2 j (hi t r)) := by
  refine (pay31_at _ _ j).trans ?_
  refine (congrArg₂ (· + ·) (pay18_at _ a j) rfl).trans ?_
  rw [add_assoc]
  refine congrArg (_ + ·) (congrArg₂ (· + ·) (Finset.sum_congr (M := EReal) rfl fun r _ => ?_) (Finset.sum_congr (M := EReal) rfl fun r _ => ?_))
  · exact congrArg₂ (· * ·) (l7_at m c t r j (lo t r) rfl) (l7_at m c t r j (lo t r) rfl)
  · exact congrArg₂ (· * ·) (h7_at m c t r j (hi t r) rfl) (h7_at m c t r j (hi t r) rfl)
end

/-- What a point adds to a row of sums. -/
def part (c : Dev nD) (i : Fin 8) (j : Fin 1024) (t : Fin cfg0.N) : EReal := (∑ r, term m c i.val j (lo t r)) + ∑ r, term m c i.val j (hi t r)

theorem part_zero (c : Dev nD) (i : Fin 8) (j : Fin 1024) (t : Fin cfg0.N) (h2 : ¬ i.val = 2) (h1 : ¬ i.val = 1) (h0 : ¬ i.val = 0) : part m c i j t = 0 := by
  have e : ∀ R, term m c i.val j R = 0 := fun R => (if_neg h2).trans ((if_neg h1).trans (if_neg h0))
  unfold part
  simp only [e, Finset.sum_const_zero, add_zero]

theorem sumsA (c : Dev nD) (t : Fin cfg0.N) (h : t.val % 8 = 0) (i : Fin 8) (j : Fin 1024) :
    ((outsAt0 m c t.val t.isLt).2.2 (ix2 i j) : EReal) = part m c i j t := by
  rw [outsAt0_A m c t h (by omega)]; frame_open
  simp (disch := decide) only [↓ View.readCov_skip, ↓ View.readCov_cons_toLoadRect, ↓ View.readCov_fill]
  frame_out
  refine (Rows8.canon_row 2 _ _ _ i j).trans ?_
  by_cases h2 : i.val = 2
  · rw [if_pos h2]
    refine (row2 m c t _ j).trans ?_
    rw [Rows8.ld_row _ 2 _ 2 rfl, pay13_at, zero_add, part, h2]
  rw [if_neg h2]
  refine (Rows8.canon_row 1 _ _ _ i j).trans ?_
  by_cases h1 : i.val = 1
  · rw [if_pos h1]
    refine (row1 m c t _ j).trans ?_
    rw [Rows8.ld_row _ 1 _ 1 rfl, pay13_at, zero_add, part, h1]
  rw [if_neg h1]
  refine (Rows8.canon_row 0 _ _ _ i j).trans ?_
  by_cases h0 : i.val = 0
  · rw [if_pos h0]
    refine (row0 m c t _ j).trans ?_
    rw [Rows8.ld_row _ 0 _ 0 rfl, pay13_at, zero_add, part, h0]
  rw [if_neg h0, part_zero m c i j t h2 h1 h0]
  refine (Rows8.canon_row 2 _ _ _ i j).trans ((if_neg h2).trans ?_)
  refine (Rows8.canon_row 1 _ _ _ i j).trans ((if_neg h1).trans ?_)
  refine (Rows8.canon_row 0 _ _ _ i j).trans ((if_neg h0).trans ?_)
  exact (congrFun (Rows8.canon_all _ _ _) _).trans (pay13_at _)

theorem sumsB (c : Dev nD) (t : Fin cfg0.N) (h : ¬ t.val % 8 = 0) (h' : ¬ t.val % 8 = 7) (i : Fin 8) (j : Fin 1024) :
    ((outsAt0 m c t.val t.isLt).2.2 (ix2 i j) : EReal) = (outsAt0 m c (t.val - 1) (by have := t.isLt; omega)).2.2 (ix2 i j) + part m c i j t := by
  rw [outsAt0_B m c t h h']; frame_open
  simp (disch := decide) only [↓ View.readCov_skip, ↓ View.readCov_cons_toLoadRect, ↓ View.readCov_fill]
  frame_out
  refine (Rows8.writes_row _ _ 2 _ _ _ i j).trans ?_
  by_cases h2 : i.val = 2
  · rw [if_pos h2]
    refine (row2 m c t _ j).trans ?_
    rw [Rows8.ld_row _ 2 _ i h2, part, h2]
  rw [if_neg h2]
  refine (Rows8.writes_row _ _ 1 _ _ _ i j).trans ?_
  by_cases h1 : i.val = 1
  · rw [if_pos h1]
    refine (row1 m c t _ j).trans ?_
    rw [Rows8.ld_row _ 1 _ i h1, part, h1]
  rw [if_neg h1]
  refine (Rows8.writes_row _ _ 0 _ _ _ i j).trans ?_
  by_cases h0 : i.val = 0
  · rw [if_pos h0]
    refine (row0 m c t _ j).trans ?_
    rw [Rows8.ld_row _ 0 _ i h0, part, h0]
  rw [if_neg h0, part_zero m c i j t h2 h1 h0, add_zero]
  refine (Rows8.writes_row _ _ 2 _ _ _ i j).trans ((if_neg h2).trans ?_)
  refine (Rows8.writes_row _ _ 1 _ _ _ i j).trans ((if_neg h1).trans ?_)
  refine (Rows8.writes_row _ _ 0 _ _ _ i j).trans ((if_neg h0).trans ?_)
  exact congrFun (Memref.IsWhole.read_unread _ _) _

theorem sumsC (c : Dev nD) (t : Fin cfg0.N) (h : ¬ t.val % 8 = 0) (h' : t.val % 8 = 7) (i : Fin 8) (j : Fin 1024) (h3 : ¬ i.val = 3) :
    ((outsAt0 m c t.val t.isLt).2.2 (ix2 i j) : EReal) = (outsAt0 m c (t.val - 1) (by have := t.isLt; omega)).2.2 (ix2 i j) + part m c i j t := by
  rw [outsAt0_C m c t h h']; frame_open
  simp (disch := decide) only [↓ View.readCov_skip, ↓ View.readCov_cons_toLoadRect, ↓ View.readCov_fill]
  frame_out
  refine (Rows8.writes_row _ _ 3 _ _ _ i j).trans ((if_neg h3).trans ?_)
  refine (Rows8.writes_row _ _ 2 _ _ _ i j).trans ?_
  by_cases h2 : i.val = 2
  · rw [if_pos h2]
    refine (row2 m c t _ j).trans ?_
    rw [Rows8.ld_row _ 2 _ i h2, part, h2]
  rw [if_neg h2]
  refine (Rows8.writes_row _ _ 1 _ _ _ i j).trans ?_
  by_cases h1 : i.val = 1
  · rw [if_pos h1]
    refine (row1 m c t _ j).trans ?_
    rw [Rows8.ld_row _ 1 _ i h1, part, h1]
  rw [if_neg h1]
  refine (Rows8.writes_row _ _ 0 _ _ _ i j).trans ?_
  by_cases h0 : i.val = 0
  · rw [if_pos h0]
    refine (row0 m c t _ j).trans ?_
    rw [Rows8.ld_row _ 0 _ i h0, part, h0]
  rw [if_neg h0, part_zero m c i j t h2 h1 h0, add_zero]
  refine (Rows8.writes_row _ _ 2 _ _ _ i j).trans ((if_neg h2).trans ?_)
  refine (Rows8.writes_row _ _ 1 _ _ _ i j).trans ((if_neg h1).trans ?_)
  refine (Rows8.writes_row _ _ 0 _ _ _ i j).trans ((if_neg h0).trans ?_)
  exact congrFun (Memref.IsWhole.read_unread _ _) _

/-- The last point turns the row of squares into the loss. -/
theorem lossC (c : Dev nD) (t : Fin cfg0.N) (h : ¬ t.val % 8 = 0) (h' : t.val % 8 = 7) (i : Fin 8) (j : Fin 1024) (h3 : i.val = 3) :
    ((outsAt0 m c t.val t.isLt).2.2 (ix2 i j) : EReal)
      = (∑ k, ((outsAt0 m c (t.val - 1) (by have := t.isLt; omega)).2.2 (ix2 2 k) + part m c 2 k t)) * Ideal.ofBits .f32 0x3A000000#32 := by
  rw [outsAt0_C m c t h h']; frame_open
  simp (disch := decide) only [↓ View.readCov_skip, ↓ View.readCov_cons_toLoadRect, ↓ View.readCov_fill]
  frame_out
  refine (Rows8.writes_row _ _ 3 _ _ _ i j).trans ((if_pos h3).trans ?_)
  refine (pay1_at _ j).trans (congrArg (· * _) (Finset.sum_congr (M := EReal) rfl fun k _ => ?_))
  refine (row2 m c t _ k).trans ?_
  rw [Rows8.ld_row _ 2 _ 2 rfl]
  rfl

/-- The same, at a number. -/
def partN (c : Dev nD) (i : Fin 8) (j : Fin 1024) (n : ℕ) : EReal := if h : n < cfg0.N then part m c i j ⟨n, h⟩ else 0
theorem partN_eq (c : Dev nD) (i : Fin 8) (j : Fin 1024) (n : ℕ) (h : n < cfg0.N) : partN m c i j n = part m c i j ⟨n, h⟩ := by
  unfold partN
  rw [dif_pos h]

/-- The sums after the last point. -/
theorem sums_last (c : Dev nD) (i : Fin 8) (j : Fin 1024) (h : 7 < cfg0.N) (h3 : ¬ i.val = 3) :
    ((outsAt0 m c 7 h).2.2 (ix2 i j) : EReal) = ∑ R, term m c i.val j R := by
  have hN : cfg0.N = 8 := N_0
  refine (Rows8.acc_eq (fun n hn => ((outsAt0 m c n (by omega)).2.2 (ix2 i j) : EReal)) (partN m c i j) ?_ ?_).trans ?_
  · exact (sumsA m c ⟨0, by omega⟩ rfl i j).trans (partN_eq m c i j 0 (by omega)).symm
  · intro n hn
    refine Eq.trans ?_ (congrArg (_ + ·) (partN_eq m c i j (n + 1) (by omega)).symm)
    by_cases h7 : (n + 1) % 8 = 7
    · exact sumsC m c ⟨n + 1, by omega⟩ (by simp only; omega) h7 i j h3
    · exact sumsB m c ⟨n + 1, by omega⟩ (by simp only; omega) h7 i j
  · refine Eq.trans ?_ (Rows8.sum_runs fun R => term m c i.val j R)
    exact Finset.sum_congr (M := EReal) rfl fun t _ => partN_eq m c i j t.val (by have := t.isLt; omega)

theorem sq_last (c : Dev nD) (t : Fin cfg0.N) (h : t.val = 7) (k : Fin 1024) :
    ((outsAt0 m c (t.val - 1) (by have := t.isLt; omega)).2.2 (ix2 2 k) : EReal) + part m c 2 k t = ∑ R, term m c 2 k R := by
  have e := sumsC m c t (by omega) (by omega) 2 k (by decide)
  obtain ⟨n, hn⟩ := t
  obtain rfl : n = 7 := h
  exact e.symm.trans (sums_last m c 2 k hn (by decide))
/-- The loss, from the sums of squares over all rows. -/
theorem loss_last (c : Dev nD) (t : Fin cfg0.N) (h : t.val = 7) (i : Fin 8) (j : Fin 1024) (h3 : i.val = 3) :
    ((outsAt0 m c t.val t.isLt).2.2 (ix2 i j) : EReal) = (∑ k, ∑ R, term m c 2 k R) * Ideal.ofBits .f32 0x3A000000#32 := by
  rw [lossC m c t (by omega) (by omega) i j h3]
  exact congrArg (· * Ideal.ofBits .f32 0x3A000000#32) (Finset.sum_congr (M := EReal) rfl fun k _ => sq_last m c t h k)

theorem point6 (c : Dev nD) (t : Fin cfg0.N) (y : S512x1024.Idx) (z : S4096x1024.Idx) (h0 : (z 0).val = t.val * 512 + (y 0).val) (h1 : (z 1).val = (y 1).val) :
    ((outsAt0 m c t.val t.isLt).1 y : EReal) = FinalSpec.OUT6 (aA m c) (aW m c) (aX m c) (aM m c) (aG m c) (aT m c) z := by
  idx_vars y
  idx_vars z
  obtain rfl : z1 = y1 := Fin.ext h1
  exact tile6 m c t y0 z1 z0 h0
theorem point7 (c : Dev nD) (t : Fin cfg0.N) (y : S512x1024.Idx) (z : S4096x1024.Idx) (h0 : (z 0).val = t.val * 512 + (y 0).val) (h1 : (z 1).val = (y 1).val) :
    ((outsAt0 m c t.val t.isLt).2.1 y : EReal) = FinalSpec.OUT7 (aA m c) (aW m c) (aX m c) (aM m c) (aG m c) (aT m c) z := by
  idx_vars y
  idx_vars z
  obtain rfl : z1 = y1 := Fin.ext h1
  exact tile7 m c t y0 z1 z0 h0
theorem point8 (c : Dev nD) (h : 7 < cfg0.N) (y : S8x1024.Idx) :
    ((outsAt0 m c 7 h).2.2 y : EReal) = FinalSpec.OUT8 (aA m c) (aW m c) (aX m c) (aM m c) (aG m c) (aT m c) y := by
  idx_vars y
  show _ = if y0.val = 3 then _ else _
  by_cases h3 : y0.val = 3
  · rw [if_pos h3]
    exact loss_last m c ⟨7, h⟩ rfl y0 y1 h3
  · rw [if_neg h3]
    exact sums_last m c y0 y1 h h3

/-- The gradient of the residual stream. -/
theorem final6 (c : Dev nD) : (dats m 0 c).arrAt 6 (Cert.FinalIdeal.cfgs 0).N = FinalSpec.OUT6 (aA m c) (aW m c) (aX m c) (aM m c) (aG m c) (aT m c) := by
  refine (dats m 0 c).arrAt_eq_of_covers 6 _ (by decide +kernel) fun t hf y => ?_
  blk_simp
  rw [after0_6]
  have e0 : (((View.whole main_v7_0).slice (win0_6.rect t)).emb y 0).val = t.val * 512 + (y 0).val := by blk_simp [idx t]
  have e1 : (((View.whole main_v7_0).slice (win0_6.rect t)).emb y 1).val = (y 1).val := by blk_simp [idx t]
  exact point6 m c t y _ e0 e1
/-- The gradient of the MLP branch. -/
theorem final7 (c : Dev nD) : (dats m 0 c).arrAt 7 (Cert.FinalIdeal.cfgs 0).N = FinalSpec.OUT7 (aA m c) (aW m c) (aX m c) (aM m c) (aG m c) (aT m c) := by
  refine (dats m 0 c).arrAt_eq_of_covers 7 _ (by decide +kernel) fun t hf y => ?_
  blk_simp
  rw [after0_7]
  have e0 : (((View.whole main_v7_1).slice (win0_7.rect t)).emb y 0).val = t.val * 512 + (y 0).val := by blk_simp [idx t]
  have e1 : (((View.whole main_v7_1).slice (win0_7.rect t)).emb y 1).val = (y 1).val := by blk_simp [idx t]
  exact point7 m c t y _ e0 e1
/-- The rows of sums. -/
theorem final8 (c : Dev nD) : (dats m 0 c).arrAt 8 (Cert.FinalIdeal.cfgs 0).N = FinalSpec.OUT8 (aA m c) (aW m c) (aX m c) (aM m c) (aG m c) (aT m c) := by
  refine (dats m 0 c).arrAt_eq_of_after_last 8 t0_7 (by decide +kernel) _ fun y => ?_
  blk_simp
  rw [after0_8]
  exact point8 m c _ y

end Cert.FinalIdeal.Val

end
-- ==== Proof.FinalRefVal.lean ====
/- The reference's three results at the last norm and the loss. -/
module

public import proofs.«01_k».proof.Proof.FinalSpec
public import proofs.«01_k».proof.Proof.Gen.FinalRefIdeal.Run
public import proofs.«01_k».proof.Proof.Gen.FinalRefIdeal.Read
public import Idealize.ShloMosaic.Lib.Pipeline.ValueKit

set_option maxRecDepth 16384

@[expose] public noncomputable section

open Idealize.ShloMosaic Idealize.ShloMosaic.TcCoe Idealize.SL.Sem

namespace Cert.FinalRefIdeal.Val

open Cert.FinalRefIdeal Cert.FinalRefIdeal.Gen Cert.FinalRefIdeal.Read Cert.FinalSpec Cert.NormSpec

variable (A : FVec Ideal S1x4096x4096 .f32) (W X : FVec Ideal S1x4096x1024 .f32) (M : FVec Ideal S1x6144 .f32)
  (Gf : FVec Ideal S1024 .f32) (T : FVec Ideal S1x4096x1024 .f32)

theorem mm_at (R : Fin 4096) (j : Fin 1024) : (val_main_v9 (F := Ideal) A W (ix2 R j) : EReal) = mm A W R j := by
  pointwise [val_main_v9, val_main_v8, val_main_v7, mm]
theorem x2_at (R : Fin 4096) (j : Fin 1024) : (val_main_v13 (F := Ideal) A W X M (ix2 R j) : EReal) = x2 A W X M R j := by
  pointwise [val_main_v13, val_main_v12, val_main_v11, val_main_v6, val_main_v5, mm_at, x2, gate]
theorem msq_at (R : Fin 4096) : (val_main_v20 (F := Ideal) A W X M (ix2 R 0) : EReal) = msq (x2 A W X M R) := by
  pointwise [val_main_v20, val_main_v19, val_main_v18, val_main_v17, val_main_v16, val_main_v15, val_main_v14, val_main_cst, val_main_cst_0, val_main_cst_1, x2_at, msq]
theorem rinv_at (R : Fin 4096) : (val_main_v21 (F := Ideal) A W X M (ix2 R 0) : EReal) = rinv (x2 A W X M R) := by
  pointwise [val_main_v21, msq_at]
  rfl
theorem half_at (R : Fin 4096) : (val_main_v24 (F := Ideal) A W X M (ix2 R 0) : EReal) = Ideal.ofBits .f32 0xBF000000#32 * Ideal.div (rinv (x2 A W X M R)) (msq (x2 A W X M R)) := by
  pointwise [val_main_v24, val_main_v23, val_main_v22, val_main_cst_2, msq_at, rinv_at]
theorem xn_at (R : Fin 4096) (j : Fin 1024) : (val_main_v26 (F := Ideal) A W X M (ix2 R j) : EReal) = xn A W X M R j := by
  pointwise [val_main_v26, val_main_v25, x2_at, rinv_at, xn]
theorem err_at (R : Fin 4096) (j : Fin 1024) : (val_main_v30 (F := Ideal) A W X M Gf T (ix2 R j) : EReal) = err A W X M Gf T R j := by
  pointwise [val_main_v30, val_main_v29, val_main_v28, val_main_v27, val_main_v10, xn_at, err]

variable (h : Reals A W X M Gf T)
include h

theorem dy_at (R : Fin 4096) (j : Fin 1024) : (val_main_v46 (F := Ideal) A W X M Gf T (ix2 R j) : EReal) = dy A W X M Gf T R j := by
  pointwise [val_main_v46, val_main_v45, val_main_v44, val_main_v43, val_main_v42, val_main_v41, val_main_v33, val_main_v32, val_main_cst_3, val_main_cst_9, val_main_cst_10, val_main_cst_11, err_at]
  exact dy_chain h R j
theorem dn_at (R : Fin 4096) (j : Fin 1024) : (val_main_v51 (F := Ideal) A W X M Gf T (ix2 R j) : EReal) = dn A W X M Gf T R j := by
  pointwise [val_main_v51, val_main_v50, val_main_v10, dy_at A W X M Gf T h, dn]
theorem w_at (R : Fin 4096) : (val_main_v60 (F := Ideal) A W X M Gf T (ix1 R) : EReal) = chainW (x2 A W X M R) (dn A W X M Gf T R) := by
  pointwise [val_main_v60, val_main_v59, val_main_v58, val_main_v57, val_main_v54, val_main_v53, val_main_v52, val_main_cst_13, val_main_cst_14, val_main_cst_15, half_at, x2_at, dn_at A W X M Gf T h, chainW, Fin.sum_univ_one]
theorem dx_at (R : Fin 4096) (j : Fin 1024) : (val_main_v65 (F := Ideal) A W X M Gf T (ix2 R j) : EReal) = dx A W X M Gf T R j := by
  refine Eq.trans ?_ (chain_eq h R j)
  pointwise [val_main_v65, val_main_v64, val_main_v63, val_main_v62, val_main_v61, val_main_v56, val_main_v55, x2_at, dn_at A W X M Gf T h, rinv_at, w_at A W X M Gf T h, byChain]

theorem out6 : val_main_v65 (F := Ideal) A W X M Gf T = OUT6 A W X M Gf T := by
  funext y
  idx_vars y
  exact dx_at A W X M Gf T h y0 y1

theorem out7 : val_main_v71 (F := Ideal) A W X M Gf T = OUT7 A W X M Gf T := by
  funext y
  idx_vars y
  show _ = dx A W X M Gf T y0 y1 * gate M y1
  pointwise [val_main_v71, val_main_v67, val_main_v66, val_main_v5, dx_at A W X M Gf T h, gate]
  exact mul_comm _ _

theorem out8 : val_main_v74 (F := Ideal) A W X M Gf T = OUT8 A W X M Gf T := by
  funext y
  idx_vars y
  have e : (val_main_v74 (F := Ideal) A W X M Gf T (ix2 y0 y1) : EReal) = (if y0.val = 0 then ∑ R, xn A W X M R y1 * dy A W X M Gf T R y1 else if y0.val = 1 then ∑ R, dx A W X M Gf T R y1 * mm A W R y1
      else if y0.val = 2 then ∑ R, err A W X M Gf T R y1 * err A W X M Gf T R y1 else if y0.val = 3 then (∑ k, ∑ R, term A W X M Gf T 2 k R) * Ideal.ofBits .f32 0x3A000000#32 else 0) := by
    pointwise [val_main_v74, val_main_v49, val_main_v48, val_main_v47, val_main_v70, val_main_v69, val_main_v68, val_main_v40, val_main_v39, val_main_v31, val_main_v72, val_main_v38, val_main_v37, val_main_v36, val_main_v35, val_main_v34,
      val_main_v73, val_main_cst_4, val_main_cst_5, val_main_cst_6, val_main_cst_7, val_main_cst_8, val_main_cst_12, val_main_cst_16, val_main_cst_17, dx_at A W X M Gf T h, dy_at A W X M Gf T h, mm_at, xn_at, err_at]
    rw [← loss_eq h]
    by_cases h0 : y0.val = 0
    · rw [dif_pos (by omega), if_pos h0]
    · by_cases h1 : y0.val = 1
      · rw [dif_neg (by omega), dif_pos (by omega), if_neg h0, if_pos h1]
      · by_cases h2 : y0.val = 2
        · rw [dif_neg (by omega), dif_neg (by omega), dif_pos (by omega), if_neg h0, if_neg h1, if_pos h2]
        · by_cases h3 : y0.val = 3
          · rw [dif_neg (by omega), dif_neg (by omega), dif_neg (by omega), dif_pos (by omega), if_neg h0, if_neg h1, if_neg h2, if_pos h3]
          · rw [dif_neg (by omega), dif_neg (by omega), dif_neg (by omega), dif_neg (by omega), if_neg h0, if_neg h1, if_neg h2, if_neg h3]
  refine e.trans ?_
  show _ = if y0.val = 3 then _ else ∑ R, term A W X M Gf T y0.val y1 R
  by_cases h0 : y0.val = 0
  · rw [if_pos h0, if_neg (by omega)]
    refine Finset.sum_congr (M := EReal) rfl fun R _ => ?_
    unfold term
    rw [if_neg (by omega), if_neg (by omega), if_pos h0]
    exact mul_comm _ _
  · by_cases h1 : y0.val = 1
    · rw [if_neg h0, if_pos h1, if_neg (by omega)]
      refine Finset.sum_congr (M := EReal) rfl fun R _ => ?_
      unfold term
      rw [if_neg (by omega), if_pos h1]
    · by_cases h2 : y0.val = 2
      · rw [if_neg h0, if_neg h1, if_pos h2, if_neg (by omega)]
        exact Finset.sum_congr (M := EReal) rfl fun R _ => (if_pos h2).symm
      · by_cases h3 : y0.val = 3
        · rw [if_neg h0, if_neg h1, if_neg h2, if_pos h3, if_pos h3]
        · rw [if_neg h0, if_neg h1, if_neg h2, if_neg h3, if_neg h3]
          refine (Finset.sum_eq_zero (M := EReal) fun R _ => ?_).symm
          unfold term
          rw [if_neg h2, if_neg h1, if_neg h0]

end Cert.FinalRefIdeal.Val

end
-- ==== Proof.FinalClaim.lean ====
/- The claims about the last product with the norm, the loss and their gradient. -/

module

public import proofs.«01_k».proof.Defs
public import proofs.«01_k».proof.Proof.FinalPre
public import proofs.«01_k».proof.Proof.FinalVal
public import proofs.«01_k».proof.Proof.FinalRefVal
public import proofs.«01_k».proof.Proof.Gen.Final.Frame
public import proofs.«01_k».proof.Proof.Gen.FinalIdeal.Frame
public import proofs.«01_k».proof.Proof.Gen.FinalIdeal.Value
public import proofs.«01_k».proof.Proof.Gen.FinalRefIdeal.Read
public import proofs.«01_k».proof.Proof.Gen.FinalRefIdeal.Run
public import Idealize.ShloMosaic.Lib.Claim
public import Idealize.ShloMosaic.Lib.Quiescent

@[expose] public noncomputable section

set_option maxRecDepth 16384

namespace Cert.Proof

open Idealize.ShloMosaic Idealize.SL.Sem

theorem quiescent_Final : Cert.quiescent_Final := fun m ρ _ => Cert.Final.Gen.frame m ρ

theorem quiescent_FinalIdeal : Cert.quiescent_FinalIdeal := fun m ρ _ => Cert.FinalIdeal.Gen.frame m ρ

theorem quiescent_FinalIdeal_pre_finite_final : Cert.quiescent_FinalIdeal_pre_finite_final := fun m ρ _ => Cert.FinalIdeal.Gen.frame m ρ

theorem quiescent_FinalRefIdeal : Cert.quiescent_FinalRefIdeal := by
  intro m g _
  exact (θ_run _ _ _).mono (fun r h => ⟨fun c => (h c).2.2.2, sem_eq_zero_of_no_sems rfl r.2⟩) (Cert.FinalRefIdeal.Value.run m g)

theorem quiescent_FinalRefIdeal_pre_finite_final : Cert.quiescent_FinalRefIdeal_pre_finite_final := fun m g _ => quiescent_FinalRefIdeal m g trivial

theorem preserves_Final_FinalIdeal : Cert.preserves_Final_FinalIdeal := trivial

section

variable (m : (ℓ : Loc Cert.FinalIdeal.nD Cert.FinalIdeal.τ Cert.FinalIdeal.sig) → Buf (Elt Ideal) ℓ) (hp : Cert.Pre_FinalIdeal_finite_final m) (c : Dev Cert.FinalIdeal.nD)

include hp in
/-- Where the two programs start from equal finite arguments, the reference's three results are what the kernel's windows hold at the end. -/
theorem final_results : ∀ X0 X1 X2 X3 X4 X5,
    X0 = m ((c.tc : Thread Cert.FinalIdeal.nD Cert.FinalIdeal.τ).loc Cert.FinalIdeal.main_arg0) → X1 = m ((c.tc : Thread Cert.FinalIdeal.nD Cert.FinalIdeal.τ).loc Cert.FinalIdeal.main_arg1)
    → X2 = m ((c.tc : Thread Cert.FinalIdeal.nD Cert.FinalIdeal.τ).loc Cert.FinalIdeal.main_arg2) → X3 = m ((c.tc : Thread Cert.FinalIdeal.nD Cert.FinalIdeal.τ).loc Cert.FinalIdeal.main_arg3)
    → X4 = m ((c.tc : Thread Cert.FinalIdeal.nD Cert.FinalIdeal.τ).loc Cert.FinalIdeal.main_arg4) → X5 = m ((c.tc : Thread Cert.FinalIdeal.nD Cert.FinalIdeal.τ).loc Cert.FinalIdeal.main_arg5)
    → Cert.FinalRefIdeal.Read.val_main_v65 (F := Ideal) X0 X1 X2 X3 X4 X5 = (Cert.FinalIdeal.Gen.dats m 0 c).arrAt 6 (Cert.FinalIdeal.cfgs 0).N
      ∧ Cert.FinalRefIdeal.Read.val_main_v71 (F := Ideal) X0 X1 X2 X3 X4 X5 = (Cert.FinalIdeal.Gen.dats m 0 c).arrAt 7 (Cert.FinalIdeal.cfgs 0).N
      ∧ Cert.FinalRefIdeal.Read.val_main_v74 (F := Ideal) X0 X1 X2 X3 X4 X5 = (Cert.FinalIdeal.Gen.dats m 0 c).arrAt 8 (Cert.FinalIdeal.cfgs 0).N := by
  have hr := Cert.Pre_finite_final.At.reals _ _ _ _ _ _ (fun k => k.elim0) (congrFun (hp c) _)
  rintro _ _ _ _ _ _ rfl rfl rfl rfl rfl rfl
  exact ⟨(Cert.FinalRefIdeal.Val.out6 _ _ _ _ _ _ hr).trans (Cert.FinalIdeal.Val.final6 m c).symm,
    (Cert.FinalRefIdeal.Val.out7 _ _ _ _ _ _ hr).trans (Cert.FinalIdeal.Val.final7 m c).symm,
    (Cert.FinalRefIdeal.Val.out8 _ _ _ _ _ _ hr).trans (Cert.FinalIdeal.Val.final8 m c).symm⟩

end

theorem algebraic_FinalIdeal_FinalRefIdeal_pre_finite_final : Cert.algebraic_FinalIdeal_FinalRefIdeal_pre_finite_final := by
  intro m g m' g' hp hagree
  refine ⟨fun c => (Cert.FinalIdeal.Gen.dats m 0 c).arrAt 6 (Cert.FinalIdeal.cfgs 0).N, fun c => (Cert.FinalIdeal.Gen.dats m 0 c).arrAt 7 (Cert.FinalIdeal.cfgs 0).N,
    fun c => (Cert.FinalIdeal.Gen.dats m 0 c).arrAt 8 (Cert.FinalIdeal.cfgs 0).N, ?_, ?_⟩
  · exact (θ_run _ _ _).mono (fun r h c => ⟨(h.1 c).1 6, (h.1 c).1 7, (h.1 c).1 8, h.2 c⟩) (θ_run_and (Cert.FinalIdeal.Gen.run_main m g) (Cert.FinalIdeal.Gen.unchanged m g))
  · refine (θ_run _ _ _).mono (fun r h c => ?_) (Cert.FinalRefIdeal.Value.run m' g')
    have e := final_results m hp c _ _ _ _ _ _ (hagree c).1 (hagree c).2.1 (hagree c).2.2.1 (hagree c).2.2.2.1 (hagree c).2.2.2.2.1 (hagree c).2.2.2.2.2
    exact ⟨(h c).1.trans ((Cert.FinalRefIdeal.Read.val_main_v65_eq _ _).trans e.1), (h c).2.1.trans ((Cert.FinalRefIdeal.Read.val_main_v71_eq _ _).trans e.2.1),
      (h c).2.2.1.trans ((Cert.FinalRefIdeal.Read.val_main_v74_eq _ _).trans e.2.2), (h c).2.2.2⟩

end Cert.Proof

end
-- ==== Proof.AdalnVal.lean ====
/- The gradient through the adaLN projection: the kernel's outputs and the reference, element by element. -/
module

public import proofs.«01_k».proof.Proof.Gen.AdalnIdeal
public import proofs.«01_k».proof.Proof.Gen.AdalnIdeal.Skeleton
public import proofs.«01_k».proof.Proof.Gen.AdalnIdeal.Launch
public import proofs.«01_k».proof.Proof.Gen.AdalnIdeal.Points
public import proofs.«01_k».proof.Proof.Gen.AdalnIdeal.Frame
public import proofs.«01_k».proof.Proof.Gen.AdalnRefIdeal
public import proofs.«01_k».proof.Proof.Gen.AdalnRefIdeal.Run
public import proofs.«01_k».proof.Proof.Gen.AdalnRefIdeal.Read
public import Idealize.ShloMosaic.Lib.Pipeline.Value
public import Idealize.ShloMosaic.Lib.Pipeline.ValueKit
public import Idealize.ShloMosaic.Lib.StableHlo.Run
public import Idealize.ShloMosaic.Lib.StableHlo.RunRead

set_option maxRecDepth 16384

@[expose] public noncomputable section

open Idealize.ShloMosaic Idealize.ShloMosaic.TcCoe Idealize.SL.Sem
open Idealize.ShloMosaic.Pipeline (Dat)

namespace Cert.AdalnSpec

abbrev A (s : Shape) := FVec Ideal s .f32

/-- One value through the gate. -/
def gate (x : EReal) : EReal := x * Ideal.div 1 (1 + Ideal.exp (-x))
/-- One column of the context's cotangent, summed over its eight rows. -/
def row (D : A Cert.AdalnRefIdeal.S8x768) (j : Fin 768) : EReal := ∑ p : Fin 8, (D (ix2 p j) : EReal)
/-- The gradient of the projection. -/
def OUTW (C : A Cert.AdalnRefIdeal.S8x1024) (X : A Cert.AdalnRefIdeal.S1024) (E D : A Cert.AdalnRefIdeal.S8x768) : A Cert.AdalnRefIdeal.S1024x768 :=
  fun y => (∑ r : Fin 8, gate (C (ix2 r (y 0))) * (E (ix2 r (y 1)) : EReal)) + gate (X (ix1 (y 0))) * row D (y 1)
/-- The gradient of the context's gated row, in the first of eight rows. -/
def OUTS (W : A Cert.AdalnRefIdeal.S1x1024x768) (D : A Cert.AdalnRefIdeal.S8x768) : A Cert.AdalnRefIdeal.S8x1024 :=
  fun y => if (y 0).val = 0 then ∑ k : Fin 768, row D k * (W (ix3 0 (y 1) k) : EReal) else (0 : EReal)
/-- The eight devices' sums added. -/
def OUTD (G : A Cert.AdalnRefIdeal.S8x24x768) : A Cert.AdalnRefIdeal.S24x768 :=
  fun y => ∑ p : Fin 8, (G (ix3 p (y 0) (y 1)) : EReal)

end Cert.AdalnSpec

namespace Cert.AdalnRefIdeal.Val

open Cert.AdalnRefIdeal Cert.AdalnRefIdeal.Gen Cert.AdalnRefIdeal.Read Cert.AdalnSpec

variable (C : FVec Ideal S8x1024 .f32) (X : FVec Ideal S1024 .f32) (W : FVec Ideal S1x1024x768 .f32) (E D : FVec Ideal S8x768 .f32) (G : FVec Ideal S8x24x768 .f32)

theorem x_at (d : Fin 1024) : (val_main_v1 (F := Ideal) X (ix1 d) : EReal) = gate (X (ix1 d)) := by
  pointwise [val_main_v1, val_main_call0_v5, val_main_call0_v4, val_main_call0_v3, val_main_call0_v2, val_main_call0_v1, val_main_call0_v0, val_main_call0_cst, val_main_call0_cst_0, gate]
theorem c_at (r : Fin 8) (d : Fin 1024) : (val_main_v3 (F := Ideal) C (ix2 r d) : EReal) = gate (C (ix2 r d)) := by
  pointwise [val_main_v3, val_main_call1_v5, val_main_call1_v4, val_main_call1_v3, val_main_call1_v2, val_main_call1_v1, val_main_call1_v0, val_main_call1_cst, val_main_call1_cst_0, gate]
theorem row_at (j : Fin 768) : (val_main_v7 (F := Ideal) D (ix1 j) : EReal) = row D j := by
  pointwise [val_main_v7, val_main_cst, row]
theorem outW : val_main_v14 (F := Ideal) C X E D = OUTW C X E D := by
  funext y
  idx_vars y
  pointwise [val_main_v14, val_main_v13, val_main_v12, val_main_v10, val_main_v9, val_main_v8, val_main_v2, x_at, c_at, row_at, OUTW]
  first | rw [Fin.sum_univ_one] | skip
  rw [add_comm, mul_comm (row D y1)]
  exact congrArg (· + _) (Finset.sum_congr (M := EReal) rfl fun r _ => mul_comm _ _)
theorem outS : val_main_v16 (F := Ideal) W D = OUTS W D := by
  funext y
  idx_vars y
  pointwise [val_main_v16, val_main_v15, val_main_v11, val_main_v8, val_main_v0, row_at, val_main_cst_0, OUTS]
  simp only [Nat.lt_one_iff, dite_eq_ite]
theorem outD : val_main_v17 (F := Ideal) G = OUTD G := by
  funext y
  idx_vars y
  pointwise [val_main_v17, val_main_cst_1, OUTD]

end Cert.AdalnRefIdeal.Val

namespace Cert.AdalnIdeal.Val

open Cert.AdalnIdeal Cert.AdalnIdeal.Gen Cert.AdalnSpec

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0]
    ∧ win0_4.index t = ![0, 0, 0] ∧ win0_5.index t = ![0, 0] ∧ win0_6.index t = ![0, 0] ∧ win0_7.index t = ![0, 0] :=
  (by decide +kernel : ∀ t : Fin grid0.N, _)

theorem eight (f : Fin 8 → EReal) : f 0 + f 1 + f 2 + f 3 + f 4 + f 5 + f 6 + f 7 = ∑ p : Fin 8, f p := (Fin.sum_univ_eight f).symm

theorem pay1_at (a b c d e f g h : Vec Ideal S1x24x768 .f32) (r : Fin 24) (j : Fin 768) :
    (k0_pay1 (F := Ideal) a b c d e f g h (ix2 r j) : EReal)
      = (a (ix3 0 r j) : EReal) + b (ix3 0 r j) + c (ix3 0 r j) + d (ix3 0 r j) + e (ix3 0 r j) + f (ix3 0 r j) + g (ix3 0 r j) + h (ix3 0 r j) := by
  pointwise [k0_pay1]
theorem sel (r : Fin 8) (a b : EReal) : Scalar.select (IntOp.cmpi CmpIPredicate.eq (BitVec.ofNat 32 r.val) 0#32) a b = if r.val = 0 then a else b := by
  fin_cases r <;> rfl
theorem pay2_at (v : Vec Ideal S8x768 .f32) (r : Fin 8) (j : Fin 768) :
    (k0_pay2 (F := Ideal) v (ix2 r j) : EReal) = if r.val = 0 then row v j else (0 : EReal) := by
  unfold row
  rw [← eight]
  pointwise [k0_pay2]
  exact sel r _ _
theorem pay3_at (a : Vec Ideal S1024x16 .f32) (v w : Vec Ideal S8x768 .f32) (d : Fin 1024) (j : Fin 768) :
    (k0_pay3 (F := Ideal) a v w (ix2 d j) : EReal)
      = (∑ r : Fin 8, gate (a (ix2 d (Fin.castAdd 8 r))) * (w (ix2 r j) : EReal)) + gate (a (ix2 d 8)) * row v j := by
  have h : (k0_pay3 (F := Ideal) a v w (ix2 d j) : EReal)
      = ∑ q : Fin (8 + 8), gate (a (ix2 d q)) * (if h : q.val < 8 then (w (ix2 ⟨q.val, h⟩ j) : EReal) else k0_pay2 (F := Ideal) v (ix2 ⟨q.val - 8, by omega⟩ j)) := by
    unfold k0_pay3
    generalize k0_pay2 (F := Ideal) v = z
    pointwise [gate]
    simp only [zero_sub]
  rw [h, Fin.sum_univ_add]
  refine congrArg₂ (fun a b : EReal => a + b) (Finset.sum_congr (M := EReal) rfl fun r _ => ?_) ?_
  · rw [dif_pos (show (Fin.castAdd 8 r).val < 8 from r.isLt)]; rfl
  · rw [Fin.sum_univ_succ]
    refine (congrArg₂ (fun a b : EReal => a + b) ?_ (Finset.sum_eq_zero (M := EReal) fun r _ => ?_)).trans (add_zero _)
    · rw [dif_neg (by decide), pay2_at, if_pos (by rfl)]; rfl
    · rw [dif_neg (by simp), pay2_at, if_neg (by simp), mul_zero]
theorem pay4_at (v : Vec Ideal S8x768 .f32) (w : Vec Ideal S1024x768 .f32) (r : Fin 8) (d : Fin 1024) :
    (k0_pay4 (F := Ideal) v w (ix2 r d) : EReal) = if r.val = 0 then ∑ k : Fin 768, row v k * (w (ix2 d k) : EReal) else (0 : EReal) := by
  have h : (k0_pay4 (F := Ideal) v w (ix2 r d) : EReal) = ∑ k : Fin 768, k0_pay2 (F := Ideal) v (ix2 r k) * (w (ix2 d k) : EReal) := by
    unfold k0_pay4
    generalize k0_pay2 (F := Ideal) v = z
    pointwise []
  rw [h]
  split
  · exact Finset.sum_congr (M := EReal) rfl fun k _ => by rw [pay2_at, if_pos ‹_›]
  · exact Finset.sum_eq_zero (M := EReal) fun k _ => by rw [pay2_at, if_neg ‹_›, zero_mul]

abbrev aC (c : Dev nD) : FVec Ideal S8x1024 .f32 := m ((c : Thread nD τ).loc main_arg0)
abbrev aX (c : Dev nD) : FVec Ideal S1024 .f32 := m ((c : Thread nD τ).loc main_arg1)
abbrev aW (c : Dev nD) : FVec Ideal S1x1024x768 .f32 := m ((c : Thread nD τ).loc main_arg2)
abbrev aE (c : Dev nD) : FVec Ideal S8x768 .f32 := m ((c : Thread nD τ).loc main_arg3)
abbrev aD (c : Dev nD) : FVec Ideal S8x768 .f32 := m ((c : Thread nD τ).loc main_arg4)
abbrev aG (c : Dev nD) : FVec Ideal S8x24x768 .f32 := m ((c : Thread nD τ).loc main_arg5)

theorem v3_at (c : Dev nD) (d : Fin 1024) (q : Fin 16) : ((V m c main_v3 : FVec Ideal S1024x16 .f32) (ix2 d q) : EReal)
    = if h : q.val < 8 then (aC m c (ix2 ⟨q.val, h⟩ d) : EReal) else if q.val - 8 < 1 then (aX m c (ix1 d) : EReal) else 0 := by
  unfold V
  after_reads_simp
  pointwise
  after_reads_simp
  pointwise
  rfl
theorem ablk (c : Dev nD) (t : Fin cfg0.N) (d : Fin 1024) (r : Fin 8) :
    ((iblk m c 0 t : FVec Ideal S1024x16 .f32) (ix2 d (Fin.castAdd 8 r)) : EReal) = aC m c (ix2 r d) := by
  have h := (v3_at m c d (Fin.castAdd 8 r)).trans (dif_pos r.isLt)
  refine Eq.trans ?_ h
  blk_ext [iblk, idx t]
theorem xblk (c : Dev nD) (t : Fin cfg0.N) (d : Fin 1024) : ((iblk m c 0 t : FVec Ideal S1024x16 .f32) (ix2 d 8) : EReal) = aX m c (ix1 d) := by
  have h := ((v3_at m c d 8).trans (dif_neg (by decide))).trans (if_pos (by decide))
  refine Eq.trans ?_ h
  blk_ext [iblk, idx t]
theorem wblk (c : Dev nD) (t : Fin cfg0.N) (d : Fin 1024) (k : Fin 768) : ((iblk m c 1 t : FVec Ideal S1024x768 .f32) (ix2 d k) : EReal) = aW m c (ix3 0 d k) := by
  have h : ((V m c main_v4 : FVec Ideal S1024x768 .f32) (ix2 d k) : EReal) = aW m c (ix3 0 d k) := by
    unfold V; entry_read; pointwise []
  rw [← h]; blk_ext [iblk, idx t]
theorem eblk (c : Dev nD) (t : Fin cfg0.N) : (iblk m c 2 t : FVec Ideal S8x768 .f32) = aE m c := by
  funext y; idx_vars y
  have h : ((V m c main_arg3 : FVec Ideal S8x768 .f32) (ix2 y0 y1) : EReal) = aE m c (ix2 y0 y1) := by unfold V; entry_read; rfl
  rw [← h]; blk_ext [iblk, idx t]
theorem dblk (c : Dev nD) (t : Fin cfg0.N) : (iblk m c 3 t : FVec Ideal S8x768 .f32) = aD m c := by
  funext y; idx_vars y
  have h : ((V m c main_arg4 : FVec Ideal S8x768 .f32) (ix2 y0 y1) : EReal) = aD m c (ix2 y0 y1) := by unfold V; entry_read; rfl
  rw [← h]; blk_ext [iblk, idx t]
theorem gblk (c : Dev nD) (t : Fin cfg0.N) : (iblk m c 4 t : FVec Ideal S8x24x768 .f32) = aG m c := by
  funext y; idx_vars y
  have h : ((V m c main_arg5 : FVec Ideal S8x24x768 .f32) (ix3 y0 y1 y2) : EReal) = aG m c (ix3 y0 y1 y2) := by unfold V; entry_read; rfl
  rw [← h]; blk_ext [iblk, idx t]

theorem out5_eq (a : FVec Ideal S1024x16 .f32) (w : FVec Ideal S1024x768 .f32) (e d : FVec Ideal S8x768 .f32) (g : FVec Ideal S8x24x768 .f32) :
    out0_5 (F := Ideal) a w e d g = k0_pay3 (F := Ideal) a d e := by
  unfold out0_5; frame_out
theorem out6_eq (a : FVec Ideal S1024x16 .f32) (w : FVec Ideal S1024x768 .f32) (e d : FVec Ideal S8x768 .f32) (g : FVec Ideal S8x24x768 .f32) :
    out0_6 (F := Ideal) a w e d g = k0_pay4 (F := Ideal) d w := by
  unfold out0_6; frame_out
theorem out7_at (a : FVec Ideal S1024x16 .f32) (w : FVec Ideal S1024x768 .f32) (e d : FVec Ideal S8x768 .f32) (g : FVec Ideal S8x24x768 .f32) (r : Fin 24) (j : Fin 768) :
    (out0_7 (F := Ideal) a w e d g (ix2 r j) : EReal) = ∑ p : Fin 8, (g (ix3 p r j) : EReal) := by
  unfold out0_7; frame_out
  rw [← eight]
  refine (pay1_at _ _ _ _ _ _ _ _ r j).trans ?_
  pointwise []

theorem final5 (c : Dev nD) : (dats m 0 c).arrAt 5 (cfgs 0).N = OUTW (aC m c) (aX m c) (aE m c) (aD m c) := by
  refine (dats m 0 c).arrAt_eq_of_covers 5 _ (by decide +kernel) fun t hf y => ?_
  blk_simp
  rw [after0_5, out5_eq, eblk, dblk]
  have e0 : (((View.whole main_v5_0).slice (win0_5.rect t)).emb y 0) = y 0 := Fin.ext (by blk_simp [idx t])
  have e1 : (((View.whole main_v5_0).slice (win0_5.rect t)).emb y 1) = y 1 := Fin.ext (by blk_simp [idx t])
  unfold OUTW
  rw [e0, e1]
  idx_vars y
  refine (pay3_at _ _ _ y0 y1).trans ?_
  exact congrArg₂ (fun a b : EReal => a + b) (Finset.sum_congr (M := EReal) rfl fun r _ => congrArg (fun x => gate x * _) (ablk m c t y0 r))
    (congrArg (fun x => gate x * _) (xblk m c t y0))
theorem final6 (c : Dev nD) : (dats m 0 c).arrAt 6 (cfgs 0).N = OUTS (aW m c) (aD m c) := by
  refine (dats m 0 c).arrAt_eq_of_covers 6 _ (by decide +kernel) fun t hf y => ?_
  blk_simp
  rw [after0_6, out6_eq, dblk]
  have e0 : (((View.whole main_v5_1).slice (win0_6.rect t)).emb y 0) = y 0 := Fin.ext (by blk_simp [idx t])
  have e1 : (((View.whole main_v5_1).slice (win0_6.rect t)).emb y 1) = y 1 := Fin.ext (by blk_simp [idx t])
  unfold OUTS
  rw [e0, e1]
  idx_vars y
  refine (pay4_at _ _ y0 y1).trans ?_
  exact congrArg (fun x : EReal => if y0.val = 0 then x else 0) (Finset.sum_congr (M := EReal) rfl fun k _ => congrArg (row (aD m c) k * ·) (wblk m c t y1 k))
theorem final7 (c : Dev nD) : (dats m 0 c).arrAt 7 (cfgs 0).N = OUTD (aG m c) := by
  refine (dats m 0 c).arrAt_eq_of_covers 7 _ (by decide +kernel) fun t hf y => ?_
  blk_simp
  rw [after0_7, gblk]
  have e0 : (((View.whole main_v5_2).slice (win0_7.rect t)).emb y 0) = y 0 := Fin.ext (by blk_simp [idx t])
  have e1 : (((View.whole main_v5_2).slice (win0_7.rect t)).emb y 1) = y 1 := Fin.ext (by blk_simp [idx t])
  unfold OUTD
  rw [e0, e1]
  idx_vars y
  exact out7_at _ _ _ _ _ y0 y1

end Cert.AdalnIdeal.Val

end
-- ==== Proof.AdalnClaim.lean ====
/- The claims about the call that takes the gradient through the adaLN projection. -/

module

public import proofs.«01_k».proof.Defs
public import proofs.«01_k».proof.Proof.AdalnVal
public import proofs.«01_k».proof.Proof.Gen.Adaln.Frame
public import proofs.«01_k».proof.Proof.Gen.AdalnRefIdeal.Run
public import Idealize.ShloMosaic.Lib.Claim
public import Idealize.ShloMosaic.Lib.Quiescent

@[expose] public noncomputable section

set_option maxRecDepth 16384

namespace Cert.Proof

open Idealize.ShloMosaic Idealize.SL.Sem

theorem quiescent_Adaln : Cert.quiescent_Adaln := fun m ρ _ => Cert.Adaln.Gen.frame m ρ

theorem quiescent_AdalnIdeal : Cert.quiescent_AdalnIdeal := fun m ρ _ => Cert.AdalnIdeal.Gen.frame m ρ

theorem quiescent_AdalnRefIdeal : Cert.quiescent_AdalnRefIdeal := by
  intro m g _
  exact (θ_run _ _ _).mono (fun r h => ⟨fun c => (h c).2.2.2, sem_eq_zero_of_no_sems rfl r.2⟩) (Cert.AdalnRefIdeal.Value.run m g)

theorem preserves_Adaln_AdalnIdeal : Cert.preserves_Adaln_AdalnIdeal := trivial

/-- Where the two programs start from equal arguments, the reference's three results are what the kernel's windows hold at the end. -/
theorem adaln_results (m : (ℓ : Loc Cert.AdalnIdeal.nD Cert.AdalnIdeal.τ Cert.AdalnIdeal.sig) → Buf (Elt Ideal) ℓ) (c : Dev Cert.AdalnIdeal.nD) : ∀ X0 X1 X2 X3 X4 X5,
    X0 = m ((c.tc : Thread Cert.AdalnIdeal.nD Cert.AdalnIdeal.τ).loc Cert.AdalnIdeal.main_arg0) → X1 = m ((c.tc : Thread Cert.AdalnIdeal.nD Cert.AdalnIdeal.τ).loc Cert.AdalnIdeal.main_arg1)
    → X2 = m ((c.tc : Thread Cert.AdalnIdeal.nD Cert.AdalnIdeal.τ).loc Cert.AdalnIdeal.main_arg2) → X3 = m ((c.tc : Thread Cert.AdalnIdeal.nD Cert.AdalnIdeal.τ).loc Cert.AdalnIdeal.main_arg3)
    → X4 = m ((c.tc : Thread Cert.AdalnIdeal.nD Cert.AdalnIdeal.τ).loc Cert.AdalnIdeal.main_arg4) → X5 = m ((c.tc : Thread Cert.AdalnIdeal.nD Cert.AdalnIdeal.τ).loc Cert.AdalnIdeal.main_arg5)
    → Cert.AdalnRefIdeal.Read.val_main_v14 (F := Ideal) X0 X1 X3 X4 = (Cert.AdalnIdeal.Gen.dats m 0 c).arrAt 5 (Cert.AdalnIdeal.cfgs 0).N
      ∧ Cert.AdalnRefIdeal.Read.val_main_v16 (F := Ideal) X2 X4 = (Cert.AdalnIdeal.Gen.dats m 0 c).arrAt 6 (Cert.AdalnIdeal.cfgs 0).N
      ∧ Cert.AdalnRefIdeal.Read.val_main_v17 (F := Ideal) X5 = (Cert.AdalnIdeal.Gen.dats m 0 c).arrAt 7 (Cert.AdalnIdeal.cfgs 0).N := by
  rintro _ _ _ _ _ _ rfl rfl rfl rfl rfl rfl
  exact ⟨(Cert.AdalnRefIdeal.Val.outW _ _ _ _).trans (Cert.AdalnIdeal.Val.final5 m c).symm,
    (Cert.AdalnRefIdeal.Val.outS _ _).trans (Cert.AdalnIdeal.Val.final6 m c).symm,
    (Cert.AdalnRefIdeal.Val.outD _).trans (Cert.AdalnIdeal.Val.final7 m c).symm⟩

theorem algebraic_AdalnIdeal_AdalnRefIdeal : Cert.algebraic_AdalnIdeal_AdalnRefIdeal := by
  intro m g m' g' hp hagree
  refine ⟨fun c => (Cert.AdalnIdeal.Gen.dats m 0 c).arrAt 5 (Cert.AdalnIdeal.cfgs 0).N, fun c => (Cert.AdalnIdeal.Gen.dats m 0 c).arrAt 6 (Cert.AdalnIdeal.cfgs 0).N,
    fun c => (Cert.AdalnIdeal.Gen.dats m 0 c).arrAt 7 (Cert.AdalnIdeal.cfgs 0).N, ?_, ?_⟩
  · exact (θ_run _ _ _).mono (fun r h c => ⟨(h.1 c).1 5, (h.1 c).1 6, (h.1 c).1 7, h.2 c⟩) (θ_run_and (Cert.AdalnIdeal.Gen.run_main m g) (Cert.AdalnIdeal.Gen.unchanged m g))
  · refine (θ_run _ _ _).mono (fun r h c => ?_) (Cert.AdalnRefIdeal.Value.run m' g')
    have e := adaln_results m c _ _ _ _ _ _ (hagree c).1 (hagree c).2.1 (hagree c).2.2.1 (hagree c).2.2.2.1 (hagree c).2.2.2.2.1 (hagree c).2.2.2.2.2
    exact ⟨(h c).1.trans ((Cert.AdalnRefIdeal.Read.val_main_v14_eq _ _ _ _).trans e.1), (h c).2.1.trans ((Cert.AdalnRefIdeal.Read.val_main_v16_eq _ _).trans e.2.1),
      (h c).2.2.1.trans ((Cert.AdalnRefIdeal.Read.val_main_v17_eq _).trans e.2.2), (h c).2.2.2⟩

end Cert.Proof

end
-- ==== Proof.FwdPre.lean ====
/- The queries and keys of the attention call are finite: what the precondition says, read at an entry. -/

module

public import proofs.«01_k».proof.Proof.AttnPre
public import proofs.«01_k».proof.Proof.Gen.Pre_finite_qk

@[expose] public noncomputable section

set_option maxRecDepth 16384

namespace Cert.Pre_finite_qk.At

open Idealize.ShloMosaic Idealize.SL.Sem
open Facts
open Cert.Pre_finite.At (real_of_lt word_and)

instance : Subsingleton S_.Idx := ⟨fun a b => funext fun k => k.elim0⟩

theorem fn_real (x0 : FVec Ideal S1x4096x8x96 .f32) (x1 : FVec Ideal S1x4352x8x96 .f32) (x2 : FVec Ideal S1x4352x8x64 .f32) (j : S_.Idx) (h : fn (F := Ideal) x0 x1 x2 j = 1#1) :
    (∀ i, ∃ r : ℝ, x0 i = ((r : ℝ) : EReal)) ∧ (∀ i, ∃ r : ℝ, x1 i = ((r : ℝ) : EReal)) := by
  dsimp only [fn] at h
  obtain ⟨h0, h1⟩ := word_and _ _ h
  exact ⟨fun i => real_of_lt _ (Host.reduce_andi_all _ _ _ _ _ h0 i), fun i => real_of_lt _ (Host.reduce_andi_all _ _ _ _ _ h1 i)⟩

end Cert.Pre_finite_qk.At

end
-- ==== Proof.FwdPay.lean ====
/- What one trip of the attention's kernel computes from real blocks, read at an index. -/
module

public import proofs.«01_k».proof.Proof.Gen.FwdIdeal.Frame
public import proofs.«01_k».proof.Proof.AttnSaved
public import Idealize.ShloMosaic.Lib.Pipeline.ValueKit

set_option maxRecDepth 16384

@[expose] public noncomputable section

open Idealize.ShloMosaic Idealize.ShloMosaic.TcCoe Idealize.SL.Sem

namespace Cert.FwdIdeal.Pay

open Cert.FwdIdeal Cert.FwdIdeal.Gen Cert.AttnSpec
open Cert.AttnIdeal.Pay (sum_coe coe_ite)

theorem named_exp2 : (Named.named κ "exp2_scale" 0x3E16C740#32 : Ideal .f32) = ((scale * (Real.log 2)⁻¹ : ℝ) : EReal) :=
  IdealRules.named_const.ideal_named_scalar _ _ _ _ rfl

theorem named_log2 : (Named.named κ "log2_e" 0x3FB8AA3B#32 : Ideal .f32) = (((Real.log 2)⁻¹ : ℝ) : EReal) :=
  IdealRules.named_const.ideal_named_scalar _ _ _ _ rfl

variable {K : Fin 4352 → Fin 128 → ℝ} {W V : Fin 4352 → Fin 128 → EReal} {Q : Fin 512 → Fin 128 → ℝ} {M D D' : Fin 512 → ℝ} {A : Fin 512 → Fin 128 → EReal}

/-- A row's scores against the keys, and their exponentials over the row's `M`. -/
def sc (Q : Fin 512 → Fin 128 → ℝ) (K : Fin 4352 → Fin 128 → ℝ) (r : Fin 512) (t : Fin 4352) : ℝ := ∑ l : Fin 128, Q r l * K t l
def ex (Q : Fin 512 → Fin 128 → ℝ) (K : Fin 4352 → Fin 128 → ℝ) (M : Fin 512 → ℝ) (r : Fin 512) (t : Fin 4352) : ℝ := Real.exp ((sc Q K r t - M r) * scale)
def dn (Q : Fin 512 → Fin 128 → ℝ) (K : Fin 4352 → Fin 128 → ℝ) (M : Fin 512 → ℝ) (r : Fin 512) : ℝ := ∑ t : Fin 4352, ex Q K M r t

theorem dn_pos (r : Fin 512) : 0 < dn Q K M r := Finset.sum_pos (fun _ _ => Real.exp_pos _) ⟨0, Finset.mem_univ _⟩

/-- The values with a column of ones in the other half's first lane. -/
def ones0 (V : Fin 4352 → Fin 128 → EReal) (t : Fin 4352) (l : Fin 128) : EReal := if l.val < 64 then V t l else if l.val = 64 then 1 else 0
def ones1 (V : Fin 4352 → Fin 128 → EReal) (t : Fin 4352) (l : Fin 128) : EReal := if 64 ≤ l.val then V t l else if l.val = 0 then 1 else 0

theorem pay2_at (v : FVec Ideal S4352x128 .bf16) (hv : ∀ t l, v (ix2 t l) = V t l) (t : Fin 4352) (l : Fin 128) :
    k0_pay2 (F := Ideal) v (ix2 t l) = ones0 V t l := by
  pointwise [k0_pay2, k0_pay1]
  word_cmp
  rw [ones0, hv]
  exact if_congr (by omega) rfl (if_congr (by omega) rfl rfl)

theorem pay3_at (v : FVec Ideal S4352x128 .bf16) (hv : ∀ t l, v (ix2 t l) = V t l) (t : Fin 4352) (l : Fin 128) :
    k0_pay3 (F := Ideal) v (ix2 t l) = ones1 V t l := by
  pointwise [k0_pay3, k0_pay1]
  word_cmp
  rw [ones1, hv]
  exact if_congr (by omega) rfl (if_congr (by omega) rfl rfl)

section
variable (q : FVec Ideal S512x128 .bf16) (k : FVec Ideal S4352x128 .bf16)
    (hq : ∀ r l, q (ix2 r l) = ((Q r l : ℝ) : EReal)) (hk : ∀ r l, k (ix2 r l) = ((K r l : ℝ) : EReal))
include hq hk

theorem pay9_at (r : Fin 512) (t : Fin 4352) : k0_pay9 (F := Ideal) q k (ix2 r t) = ((sc Q K r t : ℝ) : EReal) := by
  pointwise [k0_pay9]
  exact sum_coe _ _ fun l => by rw [hk, hq, EReal.coe_mul]

theorem pay11_at : ∃ M : Fin 512 → ℝ, ∀ r, k0_pay11 (F := Ideal) q k (ix2 r 0) = ((M r : ℝ) : EReal) := by
  have e : ∀ r, ∃ x : ℝ, k0_pay11 (F := Ideal) q k (ix2 r 0) = (x : EReal) := fun r => by
    obtain ⟨x, hx⟩ := fold_max_real (Finset.univ : Finset (Fin 4352)) ⟨0, Finset.mem_univ _⟩ (fun t => sc Q K r t)
    refine ⟨x, ?_⟩
    refine Eq.trans ?_ hx
    unfold k0_pay11
    have h9 := fun t => pay9_at q k hq hk r t
    generalize k0_pay9 (F := Ideal) q k = z at h9 ⊢
    pointwise []
    try rw [Cert.AttnIdeal.Saved.ofBits_bottom]
    exact congrArg (fun f : Fin 4352 → EReal => Finset.fold max (⊥ : EReal) f Finset.univ) (funext fun t => h9 t)
  exact ⟨fun r => (e r).choose, fun r => (e r).choose_spec⟩

variable (hM : ∀ r, k0_pay11 (F := Ideal) q k (ix2 r 0) = ((M r : ℝ) : EReal))
include hM

omit hq hk hM in
theorem ex_coe (x : ℝ) : (FloatOps.exp2 (F := Ideal) (φ := .f32) ((x : EReal) * (Named.named κ "exp2_scale" 0x3E16C740#32 : Ideal .f32)) : EReal) = ((Real.exp (x * scale) : ℝ) : EReal) := by
  rw [named_exp2, ← EReal.coe_mul]
  refine (Ideal.exp2_coe _).trans (congrArg (fun y : ℝ => (y : EReal)) ?_)
  change (2 : ℝ) ^ (x * (scale * (Real.log 2)⁻¹)) = _
  rw [Real.rpow_def_of_pos two_pos]
  have h2 : Real.log 2 ≠ 0 := (Real.log_pos one_lt_two).ne'
  congr 1
  field_simp

theorem pay13_at (r : Fin 512) (t : Fin 4352) : k0_pay13 (F := Ideal) q k (ix2 r t) = ((ex Q K M r t : ℝ) : EReal) := by
  have h9 : k0_pay10 (F := Ideal) q k (ix2 r t) = ((sc Q K r t : ℝ) : EReal) := pay9_at q k hq hk r t
  have h11 : k0_pay12 (F := Ideal) q k (ix2 r 0) = ((M r : ℝ) : EReal) := hM r
  unfold k0_pay13
  generalize k0_pay10 (F := Ideal) q k = z at h9 ⊢
  generalize k0_pay12 (F := Ideal) q k = y at h11 ⊢
  pointwise []
  rw [h9, h11, ← EReal.coe_sub]
  exact ex_coe _

omit hq hk hM in
theorem pay18_at (v : FVec Ideal S4352x128 .bf16) (z : FVec Ideal S512x4352 .bf16) {P : Fin 512 → Fin 4352 → ℝ} (hv : ∀ t l, v (ix2 t l) = W t l)
    (hz : ∀ r t, z (ix2 r t) = ((P r t : ℝ) : EReal)) (r : Fin 512) (l : Fin 128) :
    k0_pay18 (F := Ideal) v z (ix2 r l) = ∑ t : Fin 4352, ((P r t : ℝ) : EReal) * W t l := by
  pointwise [k0_pay18]
  exact Finset.sum_congr rfl fun t _ => by rw [hz, hv]

theorem pay14_at (v : FVec Ideal S4352x128 .bf16) (hv : ∀ t l, v (ix2 t l) = W t l) (r : Fin 512) (l : Fin 128) :
    k0_pay14 (F := Ideal) v q k (ix2 r l) = ∑ t : Fin 4352, ((ex Q K M r t : ℝ) : EReal) * W t l :=
  pay18_at v (k0_pay13 (F := Ideal) q k) hv (pay13_at q k hq hk hM) r l
end

/-- One lane of a row picked out by a sum. -/
theorem pick (f : Fin 128 → EReal) (i : Fin 128) : ∑ l : Fin 128, (if l = i then f l else 0) = f i := by
  rw [Finset.sum_ite_eq' Finset.univ i f, if_pos (Finset.mem_univ _)]

theorem pay15_at (v : FVec Ideal S4352x128 .bf16) (q : FVec Ideal S512x128 .bf16) (k : FVec Ideal S4352x128 .bf16)
    (hz : ∀ r l, k0_pay14 (F := Ideal) v q k (ix2 r l) = A r l) (r : Fin 512) :
    k0_pay15 (F := Ideal) v q k (ix2 r 0) = A r 64 := by
  rw [← pick (fun l => A r l) 64]
  unfold k0_pay15
  generalize k0_pay14 (F := Ideal) v q k = z at hz ⊢
  pointwise []
  word_cmp
  refine Finset.sum_congr rfl fun l _ => ?_
  rw [hz]
  exact if_congr (by rw [Fin.ext_iff]; show _ ↔ l.val = 64; omega) rfl rfl

theorem pay19_at (v : FVec Ideal S4352x128 .bf16) (z : FVec Ideal S512x4352 .bf16)
    (hz : ∀ r l, k0_pay18 (F := Ideal) v z (ix2 r l) = A r l) (r : Fin 512) :
    k0_pay19 (F := Ideal) v (iota Kind.tc S512x128 32 [1] iota_S512x128_d1_w32) z (ix2 r 0) = A r 0 := by
  rw [← pick (fun l => A r l) 0]
  unfold k0_pay19
  generalize k0_pay18 (F := Ideal) v z = z at hz ⊢
  pointwise []
  word_cmp
  refine Finset.sum_congr rfl fun l _ => ?_
  rw [hz]
  exact if_congr (by rw [Fin.ext_iff]; show _ ↔ l.val = 0; omega) rfl rfl

theorem inv_coe {x : ℝ} (hx : x ≠ 0) (a : EReal) : a * (Ideal.div 1 (x : EReal)) = a * ((1 / x : ℝ) : EReal) := by
  rw [Ideal.div_coe hx, one_mul]

theorem pay21_at (v : FVec Ideal S4352x128 .bf16) (z : FVec Ideal S512x4352 .bf16)
    (hz : ∀ r l, k0_pay18 (F := Ideal) v z (ix2 r l) = A r l) (hA : ∀ r, A r 0 = ((D r : ℝ) : EReal)) (hD : ∀ r, D r ≠ 0) (r : Fin 512) (l : Fin 128) :
    k0_pay21 (F := Ideal) v (iota Kind.tc S512x128 32 [1] iota_S512x128_d1_w32) z (ix2 r l) = A r l * ((1 / D r : ℝ) : EReal) := by
  have h19 := pay19_at v z hz r
  unfold k0_pay21
  generalize k0_pay18 (F := Ideal) v z = y at hz ⊢
  generalize k0_pay19 (F := Ideal) v (iota Kind.tc S512x128 32 [1] iota_S512x128_d1_w32) z = x at h19 ⊢
  pointwise []
  rw [hz, h19, hA]
  exact inv_coe (hD r) _

/-- What a trip stores of the output: each head's rows in its half of the lanes. -/
theorem pay4_at (a : FVec Ideal S512x128 .f32) (x : FVec Ideal S512x1 .f32) (b : FVec Ideal S512x128 .f32) {B : Fin 512 → Fin 128 → EReal}
    (ha : ∀ r l, a (ix2 r l) = A r l) (hx : ∀ r, x (ix2 r 0) = ((D r : ℝ) : EReal)) (hD : ∀ r, D r ≠ 0)
    (hb : ∀ r l, b (ix2 r l) = B r l) (r : Fin 512) (l : Fin 128) :
    k0_pay4 (F := Ideal) (k0_pay16 (F := Ideal) (k0_pay7 (F := Ideal)) a x) k0_pay20 b (k0_pay22 (F := Ideal)) (ix2 r l)
      = if l.val < 64 then A r l * ((1 / D r : ℝ) : EReal) else B r l := by
  pointwise [k0_pay4, k0_pay16, k0_pay7, k0_pay20, k0_pay22]
  word_cmp
  rw [ha, hx, hb]
  by_cases h : l.val < 64
  · rw [if_pos h, if_pos (by omega), if_neg (by omega)]
    simp only [zero_add, add_zero]
    exact inv_coe (hD r) _
  · rw [if_neg h, if_neg (by omega), if_pos (by omega)]
    simp only [zero_add, add_zero]

/-- A row's statistic from its `M` and its sum. -/
def st (m d : ℝ) : ℝ := m * (scale * (Real.log 2)⁻¹) + Real.log d * (Real.log 2)⁻¹

theorem st_coe (m d : ℝ) (hd : 0 < d) : ((m : EReal) * (Named.named κ "exp2_scale" 0x3E16C740#32 : Ideal .f32)
    + Ideal.log (d : EReal) * (Named.named κ "log2_e" 0x3FB8AA3B#32 : Ideal .f32) : EReal) = ((st m d : ℝ) : EReal) := by
  rw [named_exp2, named_log2, Ideal.log_coe, if_neg (not_le.mpr hd), ← EReal.coe_mul, ← EReal.coe_mul, ← EReal.coe_add]
  rfl

/-- What a trip stores of the statistics: a row for each head, and zeros. -/
theorem pay6_at (m1 d1 m2 d2 : FVec Ideal S512x1 .f32) {M' : Fin 512 → ℝ} (h1 : ∀ r, m1 (ix2 r 0) = ((M r : ℝ) : EReal)) (h2 : ∀ r, d1 (ix2 r 0) = ((D r : ℝ) : EReal)) (hD : ∀ r, 0 < D r)
    (h3 : ∀ r, m2 (ix2 r 0) = ((M' r : ℝ) : EReal)) (h4 : ∀ r, d2 (ix2 r 0) = ((D' r : ℝ) : EReal)) (hD' : ∀ r, 0 < D' r) (i : Fin 8) (r : Fin 512) :
    k0_pay6 (F := Ideal) (iota Kind.tc S512x128 32 [1] iota_S512x128_d1_w32) m2 (k0_pay17 (F := Ideal) (iota Kind.tc S512x128 32 [1] iota_S512x128_d1_w32) (k0_pay8 (F := Ideal)) m1 d1) d2 (ix2 i r)
      = (((if i.val = 0 then st (M r) (D r) else if i.val = 1 then st (M' r) (D' r) else 0 : ℝ)) : EReal) := by
  pointwise [k0_pay6, k0_pay17, k0_pay8]
  word_cmp
  rw [h1, h2, h3, h4, st_coe _ _ (hD r), st_coe _ _ (hD' r)]
  by_cases h0 : i.val = 0
  · have h1' : ¬ i.val = 1 := by omega
    rw [if_pos h0, if_pos h0, if_neg h1', add_zero]
  rw [if_neg h0, if_neg h0, zero_add]
  split <;> rfl

end Cert.FwdIdeal.Pay

end
-- ==== Proof.FwdSpec.lean ====
/- The attention's output and its rows' statistics, over the reals. -/
module

public import proofs.«01_k».proof.Proof.AttnSpec
public import proofs.«01_k».proof.Proof.Gen.FwdIdeal

@[expose] public noncomputable section

namespace Cert.AttnSpec

open Idealize.ShloMosaic

variable (q : Fin 4096 → Fin 8 → Fin 96 → ℝ) (k : Fin 4352 → Fin 8 → Fin 96 → ℝ) (v : Fin 4352 → Fin 8 → Fin 64 → EReal)

/-- The logarithm of a row's sum of exponentials, in base two. -/
def lse (h : Fin 8) (s : Fin 4096) : ℝ := Real.log (den q k h s) * (Real.log 2)⁻¹

/-- It does not depend on what is taken from the scores. -/
theorem lse_shift (a : ℝ) (h : Fin 8) (s : Fin 4096) :
    (a + Real.log (∑ t : Fin 4352, Real.exp (scale * score q k h s t - a))) * (Real.log 2)⁻¹ = lse q k h s := by
  rw [sum_exp_shift, Real.log_mul (Real.exp_ne_zero _) (den_pos h s).ne', Real.log_exp, lse, add_neg_cancel_left]

/-- A row's mean of the values over its probabilities; the values need not be finite. -/
def mean (h : Fin 8) (s : Fin 4096) (e : Fin 64) : EReal := ∑ t : Fin 4352, ((prob q k h s t : ℝ) : EReal) * v t h e

/-- A positive real factor of every summand. -/
theorem sum_mul_coe {n : ℕ} (f : Fin n → EReal) (x : ℝ) (hx : 0 ≤ x) : (∑ i, f i) * ((x : ℝ) : EReal) = ∑ i, f i * ((x : ℝ) : EReal) := by
  have key : ∀ S : Finset (Fin n), (∑ i ∈ S, f i) * ((x : ℝ) : EReal) = ∑ i ∈ S, f i * ((x : ℝ) : EReal) := fun S => by
    induction S using Finset.induction_on with
    | empty => simp
    | insert i S hi ih =>
      rw [Finset.sum_insert hi, Finset.sum_insert hi, EReal.right_distrib_of_nonneg_of_ne_top (EReal.coe_nonneg.mpr hx) (EReal.coe_ne_top x), ih]
  exact key _

/-- The output, its heads side by side. -/
def outO (y : Cert.FwdIdeal.S4096x512.Idx) : EReal :=
  mean q k v ⟨(y 1).val / 64, Nat.div_lt_of_lt_mul (y 1).isLt⟩ (y 0) ⟨(y 1).val % 64, Nat.mod_lt _ (by decide)⟩

/-- The statistics: of each eight rows the first two hold a pair of heads, the others zeros. -/
def outS (y : Cert.FwdIdeal.S32x4096.Idx) : EReal :=
  if h : (y 0).val % 8 < 2 then ((lse q k ⟨(y 0).val / 8 * 2 + (y 0).val % 8, by have : (y 0).val < 32 := (y 0).isLt; omega⟩ (y 1) : ℝ) : EReal) else 0

end Cert.AttnSpec

end
-- ==== Proof.FwdBlk.lean ====
/- The arrays the host prepares for the attention's kernel and the blocks a grid point reads, from real arguments. -/
module

public import proofs.«01_k».proof.Proof.FwdPay
public import proofs.«01_k».proof.Proof.FwdSpec
public import Idealize.ShloMosaic.Lib.StableHlo.RunRead

set_option maxRecDepth 16384

@[expose] public noncomputable section

open Idealize.ShloMosaic Idealize.ShloMosaic.TcCoe Idealize.SL.Sem
open Idealize.ShloMosaic.Pipeline (Dat)

namespace Cert.FwdIdeal.Host

open Cert.FwdIdeal Cert.FwdIdeal.Gen Cert.AttnSpec Cert.FwdIdeal.Pay

theorem idx : ∀ t : Fin cfg0.N, win0_0.index t = ![t.val % 4, t.val / 4]
    ∧ win0_1.index t = ![0, t.val / 4]
    ∧ win0_2.index t = ![0, 8 + (t.val / 4)]
    ∧ win0_3.index t = ![t.val % 4, t.val / 4]
    ∧ win0_5.index t = ![t.val / 4, t.val % 4] ∧ t.val < 16 :=
  (by decide +kernel : ∀ t : Fin grid0.N, _)

theorem lt16 (t : Fin cfg0.N) : t.val < 16 := (idx t).2.2.2.2.2

/-- The heads of a point, and the rows of its block. -/
def hd (t : Fin cfg0.N) (a : Fin 2) : Fin 8 := ⟨2 * (t.val / 4) + a.val, by have := lt16 t; omega⟩
def rw' (t : Fin cfg0.N) (r : Fin 1024) : Fin 4096 := ⟨1024 * (t.val % 4) + r.val, by omega⟩
def half (l : Fin 128) : Fin 2 := ⟨l.val / 64, by omega⟩
def lane (l : Fin 128) : Fin 64 := ⟨l.val % 64, by omega⟩

variable (m : (ℓ : Loc nD τ sig) → Buf (Elt Ideal) ℓ)

/-- A core's arguments: queries and keys are these reals. -/
structure Args (c : Dev nD) (q : Fin 4096 → Fin 8 → Fin 96 → ℝ) (k : Fin 4352 → Fin 8 → Fin 96 → ℝ) (v : Fin 4352 → Fin 8 → Fin 64 → EReal) : Prop where
  hq : ∀ s h d, (m ((c : Thread nD τ).loc main_arg0) : FVec Ideal S1x4096x8x96 .f32) (ix4 0 s h d) = ((q s h d : ℝ) : EReal)
  hk : ∀ s h d, (m ((c : Thread nD τ).loc main_arg1) : FVec Ideal S1x4352x8x96 .f32) (ix4 0 s h d) = ((k s h d : ℝ) : EReal)
  hv : ∀ s h d, (m ((c : Thread nD τ).loc main_arg2) : FVec Ideal S1x4352x8x64 .f32) (ix4 0 s h d) = v s h d

variable {m} {c : Dev nD} {q : Fin 4096 → Fin 8 → Fin 96 → ℝ} {k : Fin 4352 → Fin 8 → Fin 96 → ℝ} {v : Fin 4352 → Fin 8 → Fin 64 → EReal} (a : Args m c q k v)
include a

theorem q_at (s : Fin 4096) (n : Fin 1024) : (V m c main_v3 : FVec Ideal S4096x1024 .bf16) (ix2 s n)
    = ((slot (q s ⟨n.val / 128, by omega⟩) ⟨n.val % 128, by omega⟩ : ℝ) : EReal) := by
  unfold V
  after_reads_simp
  pointwise
  unfold slot
  by_cases hl : n.val % 128 < 96
  · rw [dif_pos ⟨by omega, hl⟩, dif_pos hl]
    exact a.hq _ _ _
  · rw [dif_neg (fun e => hl e.2), dif_neg hl]
    rfl

omit a in
theorem key_eq (s : Fin 4352) (n : Fin 1024) : (V m c main_v11 : FVec Ideal S4352x1536 .bf16) (ix2 s ⟨n.val, by omega⟩)
    = (V m c main_v6 : FVec Ideal S4352x8x128 .bf16) (ix3 s ⟨n.val / 128, by omega⟩ ⟨n.val % 128, by omega⟩) := by
  unfold V
  after_reads_simp
  pointwise

omit a in
theorem val_eq (s : Fin 4352) (n : Fin 512) : (V m c main_v11 : FVec Ideal S4352x1536 .bf16) (ix2 s ⟨1024 + n.val, by omega⟩)
    = (V m c main_v9 : FVec Ideal S4352x8x64 .bf16) (ix3 s ⟨n.val / 64, by omega⟩ ⟨n.val % 64, by omega⟩) := by
  unfold V
  after_reads_simp
  pointwise

theorem k_at (s : Fin 4352) (n : Fin 1024) : (V m c main_v11 : FVec Ideal S4352x1536 .bf16) (ix2 s ⟨n.val, by omega⟩)
    = ((slot (k s ⟨n.val / 128, by omega⟩) ⟨n.val % 128, by omega⟩ : ℝ) : EReal) := by
  rw [key_eq]
  unfold V
  after_reads_simp
  pointwise
  unfold slot
  by_cases hl : n.val % 128 < 96
  · rw [dif_pos (show (⟨n.val % 128, by omega⟩ : Fin 128).val < 96 from hl)]
    split_ifs <;> first | exact a.hk _ _ _ | (exfalso; omega)
  · rw [dif_neg (show ¬(⟨n.val % 128, by omega⟩ : Fin 128).val < 96 from hl)]
    split_ifs <;> first | rfl | (exfalso; omega)

theorem v_at (s : Fin 4352) (n : Fin 512) : (V m c main_v11 : FVec Ideal S4352x1536 .bf16) (ix2 s ⟨1024 + n.val, by omega⟩)
    = v s ⟨n.val / 64, by omega⟩ ⟨n.val % 64, by omega⟩ := by
  rw [val_eq]
  unfold V
  after_reads_simp
  pointwise
  exact a.hv _ _ _

theorem qblk (t : Fin cfg0.N) (b : Fin 2) (r : Fin 1024) (l : Fin 128) (n : Fin 256) (hn : n.val = b.val * 128 + l.val) :
    (iblk m c 0 t : FVec Ideal S1024x256 .bf16) (ix2 r n) = ((slot (q (rw' t r) (hd t b)) l : ℝ) : EReal) := by
  have ht := lt16 t
  have e : (iblk m c 0 t : FVec Ideal S1024x256 .bf16) (ix2 r n)
      = (V m c main_v3 : FVec Ideal S4096x1024 .bf16) (ix2 (rw' t r) ⟨t.val / 4 * 256 + n.val, by omega⟩) := by
    blk_ext [iblk, idx t, rw']
  rw [e, q_at a]
  refine congrArg Real.toEReal (congr (congrArg (fun h => slot (q (rw' t r) h)) (Fin.ext ?_)) (Fin.ext ?_)) <;> simp only [hd] <;> omega

theorem kblk (t : Fin cfg0.N) (b : Fin 2) (r : Fin 4352) (l : Fin 128) (n : Fin 256) (hn : n.val = b.val * 128 + l.val) :
    (iblk m c 1 t : FVec Ideal S4352x256 .bf16) (ix2 r n) = ((slot (k r (hd t b)) l : ℝ) : EReal) := by
  have ht := lt16 t
  have e : (iblk m c 1 t : FVec Ideal S4352x256 .bf16) (ix2 r n)
      = (V m c main_v11 : FVec Ideal S4352x1536 .bf16) (ix2 r ⟨t.val / 4 * 256 + n.val, by omega⟩) := by
    blk_ext [iblk, idx t]
  rw [e, k_at a r ⟨t.val / 4 * 256 + n.val, by omega⟩]
  refine congrArg Real.toEReal (congr (congrArg (fun h => slot (k r h)) (Fin.ext ?_)) (Fin.ext ?_)) <;> simp only [hd] <;> omega

theorem vblk (t : Fin cfg0.N) (r : Fin 4352) (l : Fin 128) :
    (iblk m c 2 t : FVec Ideal S4352x128 .bf16) (ix2 r l) = v r (hd t (half l)) (lane l) := by
  have ht := lt16 t
  have e : (iblk m c 2 t : FVec Ideal S4352x128 .bf16) (ix2 r l)
      = (V m c main_v11 : FVec Ideal S4352x1536 .bf16) (ix2 r ⟨1024 + (t.val / 4 * 128 + l.val), by omega⟩) := by
    blk_ext [iblk, idx t]
  rw [e, v_at a r ⟨t.val / 4 * 128 + l.val, by omega⟩]
  refine (congr (congrArg (v r) (Fin.ext ?_)) (Fin.ext ?_)) <;> simp only [hd, half, lane] <;> omega

end Cert.FwdIdeal.Host
end
-- ==== Proof.FwdTrip.lean ====
/- What one trip of the attention's kernel stores, from real blocks: 512 rows of two heads' output and statistics. -/
module

public import proofs.«01_k».proof.Proof.FwdBlk

set_option maxRecDepth 16384

@[expose] public noncomputable section

open Idealize.ShloMosaic Idealize.ShloMosaic.TcCoe Idealize.SL.Sem

namespace Cert.FwdIdeal.Host

open Cert.FwdIdeal Cert.FwdIdeal.Gen Cert.AttnSpec Cert.FwdIdeal.Pay

/-- The two stored blocks as the kernel's operations make them. -/
abbrev PO (q1 q2 : FVec Ideal S512x128 .bf16) (k1 k2 v0 : FVec Ideal S4352x128 .bf16) : FVec Ideal S512x128 .f32 :=
  k0_pay4 (F := Ideal) (k0_pay16 (F := Ideal) (k0_pay7 (F := Ideal)) (k0_pay14 (F := Ideal) (k0_pay2 (F := Ideal) v0) q1 k1) (k0_pay15 (F := Ideal) (k0_pay2 (F := Ideal) v0) q1 k1)) k0_pay20
    (k0_pay21 (F := Ideal) (k0_pay3 (F := Ideal) v0) (iota Kind.tc S512x128 32 [1] iota_S512x128_d1_w32) (k0_pay13 (F := Ideal) q2 k2)) (k0_pay22 (F := Ideal))
abbrev PS (q1 q2 : FVec Ideal S512x128 .bf16) (k1 k2 v0 : FVec Ideal S4352x128 .bf16) : FVec Ideal S8x512 .f32 :=
  k0_pay6 (F := Ideal) (iota Kind.tc S512x128 32 [1] iota_S512x128_d1_w32) (k0_pay12 (F := Ideal) q2 k2)
    (k0_pay17 (F := Ideal) (iota Kind.tc S512x128 32 [1] iota_S512x128_d1_w32) (k0_pay8 (F := Ideal)) (k0_pay11 (F := Ideal) q1 k1) (k0_pay15 (F := Ideal) (k0_pay2 (F := Ideal) v0) q1 k1))
    (k0_pay19 (F := Ideal) (k0_pay3 (F := Ideal) v0) (iota Kind.tc S512x128 32 [1] iota_S512x128_d1_w32) (k0_pay13 (F := Ideal) q2 k2))

variable {q : Fin 4096 → Fin 8 → Fin 96 → ℝ} {k : Fin 4352 → Fin 8 → Fin 96 → ℝ} {v : Fin 4352 → Fin 8 → Fin 64 → EReal}

section
variable (q k v) (s : Fin 512 → Fin 4096) (h : Fin 2 → Fin 8) (b : Fin 2) (M : Fin 512 → ℝ)
abbrev Qr (r : Fin 512) (l : Fin 128) : ℝ := slot (q (s r) (h b)) l
abbrev Kr (t : Fin 4352) (l : Fin 128) : ℝ := slot (k t (h b)) l
abbrev Vr (t : Fin 4352) (l : Fin 128) : EReal := v t (h (half l)) (lane l)

theorem ex_eq (r : Fin 512) (t : Fin 4352) : ex (Qr q s h b) (Kr k h b) M r t = Real.exp (scale * score q k (h b) (s r) t - scale * M r) := by
  unfold ex sc
  rw [sum_slot, sub_mul, mul_comm, mul_comm (M r)]
  rfl

theorem mean_eq (W : Fin 4352 → EReal) (r : Fin 512) :
    (∑ t : Fin 4352, ((ex (Qr q s h b) (Kr k h b) M r t : ℝ) : EReal) * W t) * ((1 / dn (Qr q s h b) (Kr k h b) M r : ℝ) : EReal)
      = ∑ t : Fin 4352, ((prob q k (h b) (s r) t : ℝ) : EReal) * W t := by
  rw [sum_mul_coe _ _ (one_div_pos.mpr (dn_pos r)).le]
  refine Finset.sum_congr rfl fun t _ => ?_
  have e : dn (Qr q s h b) (Kr k h b) M r = ∑ t' : Fin 4352, Real.exp (scale * score q k (h b) (s r) t' - scale * M r) :=
    Finset.sum_congr rfl fun t' _ => ex_eq q k s h b M r t'
  rw [mul_right_comm, ← EReal.coe_mul, mul_one_div, ← prob_shift (scale * M r) (h b) (s r) t, ex_eq, e]

theorem stat_eq (r : Fin 512) : st (M r) (dn (Qr q s h b) (Kr k h b) M r) = lse q k (h b) (s r) := by
  rw [← lse_shift q k (scale * M r) (h b) (s r), st]
  have e : dn (Qr q s h b) (Kr k h b) M r = ∑ t : Fin 4352, Real.exp (scale * score q k (h b) (s r) t - scale * M r) :=
    Finset.sum_congr rfl fun t _ => ex_eq q k s h b M r t
  rw [e]
  ring
end

variable {s : Fin 512 → Fin 4096} {h : Fin 2 → Fin 8}

/-- The rows' sums against the values with their column of ones. -/
abbrev A0 (q : Fin 4096 → Fin 8 → Fin 96 → ℝ) (k : Fin 4352 → Fin 8 → Fin 96 → ℝ) (v : Fin 4352 → Fin 8 → Fin 64 → EReal) (s : Fin 512 → Fin 4096) (h : Fin 2 → Fin 8) (M : Fin 512 → ℝ) (r : Fin 512) (l : Fin 128) : EReal :=
  ∑ t : Fin 4352, ((ex (Qr q s h 0) (Kr k h 0) M r t : ℝ) : EReal) * ones0 (Vr v h) t l
abbrev A1 (q : Fin 4096 → Fin 8 → Fin 96 → ℝ) (k : Fin 4352 → Fin 8 → Fin 96 → ℝ) (v : Fin 4352 → Fin 8 → Fin 64 → EReal) (s : Fin 512 → Fin 4096) (h : Fin 2 → Fin 8) (M : Fin 512 → ℝ) (r : Fin 512) (l : Fin 128) : EReal :=
  ∑ t : Fin 4352, ((ex (Qr q s h 1) (Kr k h 1) M r t : ℝ) : EReal) * ones1 (Vr v h) t l

theorem A0_64 (M : Fin 512 → ℝ) (r : Fin 512) : A0 q k v s h M r 64 = ((dn (Qr q s h 0) (Kr k h 0) M r : ℝ) : EReal) :=
  Cert.AttnIdeal.Pay.sum_coe _ _ fun t => by
    rw [ones0, if_neg (show ¬ (64 : Fin 128).val < 64 by decide), if_pos (show (64 : Fin 128).val = 64 by decide), mul_one]
theorem A1_0 (M : Fin 512 → ℝ) (r : Fin 512) : A1 q k v s h M r 0 = ((dn (Qr q s h 1) (Kr k h 1) M r : ℝ) : EReal) :=
  Cert.AttnIdeal.Pay.sum_coe _ _ fun t => by
    rw [ones1, if_neg (show ¬ 64 ≤ (0 : Fin 128).val by decide), if_pos (show (0 : Fin 128).val = 0 by decide), mul_one]

variable {q1 q2 : FVec Ideal S512x128 .bf16} {k1 k2 v0 : FVec Ideal S4352x128 .bf16}
  (hq1 : ∀ r l, q1 (ix2 r l) = ((Qr q s h 0 r l : ℝ) : EReal)) (hq2 : ∀ r l, q2 (ix2 r l) = ((Qr q s h 1 r l : ℝ) : EReal))
  (hk1 : ∀ t l, k1 (ix2 t l) = ((Kr k h 0 t l : ℝ) : EReal)) (hk2 : ∀ t l, k2 (ix2 t l) = ((Kr k h 1 t l : ℝ) : EReal))
  (hv : ∀ t l, v0 (ix2 t l) = Vr v h t l)
include hq1 hq2 hk1 hk2 hv

theorem PO_at (r : Fin 512) (l : Fin 128) : PO q1 q2 k1 k2 v0 (ix2 r l) = mean q k v (h (half l)) (s r) (lane l) := by
  obtain ⟨M, hM⟩ := pay11_at q1 k1 hq1 hk1
  obtain ⟨M', hM'⟩ := pay11_at q2 k2 hq2 hk2
  have hz := pay14_at q1 k1 hq1 hk1 hM (k0_pay2 (F := Ideal) v0) (pay2_at v0 hv)
  have hz' := pay18_at (k0_pay3 (F := Ideal) v0) (k0_pay13 (F := Ideal) q2 k2) (pay3_at v0 hv) (pay13_at q2 k2 hq2 hk2 hM')
  refine (pay4_at (A := A0 q k v s h M) (B := fun r l => A1 q k v s h M' r l * ((1 / dn (Qr q s h 1) (Kr k h 1) M' r : ℝ) : EReal)) _ _ _ hz
    (fun r => (pay15_at _ q1 k1 hz r).trans (A0_64 M r)) (fun r => (dn_pos r).ne') (pay21_at _ _ hz' (A1_0 M') (fun r => (dn_pos r).ne')) r l).trans ?_
  by_cases hl : l.val < 64
  · rw [if_pos hl, mean_eq]
    have hh : half l = 0 := Fin.ext (by show l.val / 64 = 0; omega)
    rw [hh]
    refine Finset.sum_congr rfl fun t _ => ?_
    rw [ones0, if_pos hl, Vr, hh]
  · rw [if_neg hl, mean_eq]
    have hh : half l = 1 := Fin.ext (by show l.val / 64 = 1; omega)
    rw [hh]
    refine Finset.sum_congr rfl fun t _ => ?_
    rw [ones1, if_pos (by omega), Vr, hh]

theorem PS_at (i : Fin 8) (r : Fin 512) : PS q1 q2 k1 k2 v0 (ix2 i r)
    = (((if i.val = 0 then lse q k (h 0) (s r) else if i.val = 1 then lse q k (h 1) (s r) else 0 : ℝ)) : EReal) := by
  obtain ⟨M, hM⟩ := pay11_at q1 k1 hq1 hk1
  obtain ⟨M', hM'⟩ := pay11_at q2 k2 hq2 hk2
  have hz := pay14_at q1 k1 hq1 hk1 hM (k0_pay2 (F := Ideal) v0) (pay2_at v0 hv)
  have hz' := pay18_at (k0_pay3 (F := Ideal) v0) (k0_pay13 (F := Ideal) q2 k2) (pay3_at v0 hv) (pay13_at q2 k2 hq2 hk2 hM')
  have h15 : ∀ r, k0_pay15 (F := Ideal) (k0_pay2 (F := Ideal) v0) q1 k1 (ix2 r 0) = ((dn (Qr q s h 0) (Kr k h 0) M r : ℝ) : EReal) :=
    fun r => (pay15_at _ q1 k1 hz r).trans (A0_64 M r)
  have h19 : ∀ r, k0_pay19 (F := Ideal) (k0_pay3 (F := Ideal) v0) (iota Kind.tc S512x128 32 [1] iota_S512x128_d1_w32) (k0_pay13 (F := Ideal) q2 k2) (ix2 r 0) = ((dn (Qr q s h 1) (Kr k h 1) M' r : ℝ) : EReal) :=
    fun r => (pay19_at _ _ hz' r).trans (A1_0 M' r)
  refine (pay6_at _ _ _ _ hM h15 (fun _ => dn_pos _) hM' h19 (fun _ => dn_pos _) i r).trans ?_
  rw [stat_eq, stat_eq]

end Cert.FwdIdeal.Host
end
-- ==== Proof.FwdVal.lean ====
/- The attention's output and statistics as the kernel leaves them in their arrays. -/
module

public import proofs.«01_k».proof.Proof.FwdTrip
public import proofs.«01_k».proof.Proof.Gen.FwdIdeal.Value
public import Idealize.ShloMosaic.Lib.Pipeline.ReadBack
public import Idealize.ShloMosaic.Lib.WholeRead

set_option maxRecDepth 16384

@[expose] public noncomputable section

open Idealize.ShloMosaic Idealize.ShloMosaic.TcCoe Idealize.SL.Sem
open Idealize.ShloMosaic.Pipeline (Dat)

namespace Cert.FwdIdeal.Host

open Cert.FwdIdeal Cert.FwdIdeal.Gen Cert.AttnSpec Cert.FwdIdeal.Pay

/-- Where a trip reads and stores. -/
theorem offs : ∀ k : Fin k0_t1_loop.trips, k0_off1 k = ![512 * k.val, 0] ∧ k0_off2 k = ![512 * k.val, 128]
    ∧ k0_off3 k = ![512 * k.val, 0] ∧ k0_off4 k = ![0, 512 * k.val] ∧ k.val < 2 := by decide +kernel

section
variable {arg2 : Memref sig .tc .vmem S1024x256 .bf16} (harg2 : arg2.IsWhole) {arg3 : Memref sig .tc .vmem S4352x256 .bf16} (harg3 : arg3.IsWhole)
  (x2 : FVec Ideal S1024x256 .bf16) (x3 : FVec Ideal S4352x256 .bf16) (k : Fin k0_t1_loop.trips)

/-- The blocks a trip loads. -/
abbrev Q1 : FVec Ideal S512x128 .bf16 := View.readAt (Elt Ideal) arg2.view (Rect.unit (s := S1024x256) (k0_off1 k) S512x128.size (k0_off1_inb k)).toLoadRect (harg2.unread x2)
abbrev Q2 : FVec Ideal S512x128 .bf16 := View.readAt (Elt Ideal) arg2.view (Rect.unit (s := S1024x256) (k0_off2 k) S512x128.size (k0_off2_inb k)).toLoadRect (harg2.unread x2)
abbrev K1 : FVec Ideal S4352x128 .bf16 := View.readAt (Elt Ideal) arg3.view (Rect.unit (s := S4352x256) ![0, 0] S4352x128.size inb_S4352x256_S4352x128_0_0).toLoadRect (harg3.unread x3)
abbrev K2 : FVec Ideal S4352x128 .bf16 := View.readAt (Elt Ideal) arg3.view (Rect.unit (s := S4352x256) ![0, 128] S4352x128.size inb_S4352x256_S4352x128_0_128).toLoadRect (harg3.unread x3)

theorem Q1_at (r : Fin 512) (l : Fin 128) : Q1 harg2 x2 k (ix2 r l) = x2 (ix2 ⟨512 * k.val + r.val, by have := (offs k).2.2.2.2; omega⟩ ⟨l.val, by omega⟩) := by
  refine (harg2.readAt_unread (Val := Elt Ideal) x2 _ _).trans (congrArg x2 (funext fun b => Fin.ext ?_))
  have e := (offs k).1
  fin_cases b
  · show (k0_off1 k) 0 + 1 * r.val = 512 * k.val + r.val
    rw [e, one_mul]; rfl
  · show (k0_off1 k) 1 + 1 * l.val = l.val
    rw [e, one_mul]; exact Nat.zero_add _

theorem Q2_at (r : Fin 512) (l : Fin 128) : Q2 harg2 x2 k (ix2 r l) = x2 (ix2 ⟨512 * k.val + r.val, by have := (offs k).2.2.2.2; omega⟩ ⟨128 + l.val, by omega⟩) := by
  refine (harg2.readAt_unread (Val := Elt Ideal) x2 _ _).trans (congrArg x2 (funext fun b => Fin.ext ?_))
  have e := (offs k).2.1
  fin_cases b
  · show (k0_off2 k) 0 + 1 * r.val = 512 * k.val + r.val
    rw [e, one_mul]; rfl
  · show (k0_off2 k) 1 + 1 * l.val = 128 + l.val
    rw [e, one_mul]; rfl

theorem K1_at (r : Fin 4352) (l : Fin 128) : K1 harg3 x3 (ix2 r l) = x3 (ix2 r ⟨l.val, by omega⟩) := by
  refine (harg3.readAt_unread (Val := Elt Ideal) x3 _ _).trans (congrArg x3 (funext fun b => Fin.ext ?_))
  fin_cases b
  · show 0 + 1 * r.val = r.val
    omega
  · show 0 + 1 * l.val = l.val
    omega

theorem K2_at (r : Fin 4352) (l : Fin 128) : K2 harg3 x3 (ix2 r l) = x3 (ix2 r ⟨128 + l.val, by omega⟩) := by
  refine (harg3.readAt_unread (Val := Elt Ideal) x3 _ _).trans (congrArg x3 (funext fun b => Fin.ext ?_))
  fin_cases b
  · show 0 + 1 * r.val = r.val
    omega
  · show 128 + 1 * l.val = 128 + l.val
    omega

theorem trip3 {𝒱 c bd i arg4 harg4 arg5 harg5 arg6 harg6 arg7 harg7 v0} :
    (trip_k0_t1 (F := Ideal) 𝒱 c bd i arg2 harg2 arg3 harg3 arg4 harg4 arg5 harg5 arg6 harg6 arg7 harg7 v0 (harg2.unread x2) (harg3.unread x3) k).1
      = [⟨Rect.unit (s := S1024x128) (k0_off3 k) S512x128.size (k0_off3_inb k), PO (Q1 harg2 x2 k) (Q2 harg2 x2 k) (K1 harg3 x3) (K2 harg3 x3) v0⟩] := by
  unfold trip_k0_t1
  rfl

theorem trip5 {𝒱 c bd i arg4 harg4 arg5 harg5 arg6 harg6 arg7 harg7 v0} :
    (trip_k0_t1 (F := Ideal) 𝒱 c bd i arg2 harg2 arg3 harg3 arg4 harg4 arg5 harg5 arg6 harg6 arg7 harg7 v0 (harg2.unread x2) (harg3.unread x3) k).2.2.1
      = [⟨Rect.unit (s := S8x1024) (k0_off4 k) S8x512.size (k0_off4_inb k), PS (Q1 harg2 x2 k) (Q2 harg2 x2 k) (K1 harg3 x3) (K2 harg3 x3) v0⟩] := by
  unfold trip_k0_t1
  rfl
end

/-- Two halves of rows, and two halves of columns, stored one after the other. -/
theorem canon_rows (o o' : Fin 2 → ℕ) (ho : o = ![512, 0]) (ho' : o' = ![0, 0]) (inb : ∀ a, o a + S512x128.size a ≤ S1024x128.size a) (inb' : ∀ a, o' a + S512x128.size a ≤ S1024x128.size a)
    (w w' : FVec Ideal S512x128 .f32) (f : Fin 1024 → Fin 128 → EReal)
    (hw : ∀ r l, w (ix2 r l) = f ⟨512 + r.val, by omega⟩ l) (hw' : ∀ r l, w' (ix2 r l) = f ⟨r.val, by omega⟩ l) (i : Fin 1024) (j : Fin 128) :
    View.canon [(⟨Rect.unit (s := S1024x128) o S512x128.size inb, w⟩ : View.Piece (Elt Ideal) S1024x128 .f32), ⟨Rect.unit (s := S1024x128) o' S512x128.size inb', w'⟩] (ix2 i j) = f i j := by
  subst ho ho'
  by_cases h : 512 ≤ i.val
  · have e0 : (ix2 i j : S1024x128.Idx) = (Rect.unit (s := S1024x128) ![512, 0] S512x128.size inb).emb (ix2 (⟨i.val - 512, by omega⟩ : Fin 512) j : S512x128.Idx) := by
      funext a
      fin_cases a
      · exact Fin.ext (by show i.val = 512 + 1 * (i.val - 512); omega)
      · exact Fin.ext (by show j.val = 0 + 1 * j.val; omega)
    rw [e0]
    refine (View.canon_cons_emb (Val := Elt Ideal) (e := .f32) (Rect.unit (s := S1024x128) ![512, 0] S512x128.size inb) w _ (ix2 (⟨i.val - 512, by omega⟩ : Fin 512) j : S512x128.Idx)).trans ((hw _ _).trans ?_)
    exact congrArg (fun z => f z j) (Fin.ext (by show 512 + (i.val - 512) = i.val; omega))
  · have hm : (ix2 i j : S1024x128.Idx) ∉ (Rect.unit (s := S1024x128) ![512, 0] S512x128.size inb).set := by
      rw [Rect.mem_set_unit]
      intro hm
      have h0 := hm 0
      change 512 ≤ i.val ∧ i.val < 512 + 512 at h0
      omega
    refine (View.canon_cons_of_not_mem (Val := Elt Ideal) (⟨Rect.unit (s := S1024x128) ![512, 0] S512x128.size inb, w⟩ : View.Piece (Elt Ideal) S1024x128 .f32) _ hm).trans ?_
    have e0 : (ix2 i j : S1024x128.Idx) = (Rect.unit (s := S1024x128) ![0, 0] S512x128.size inb').emb (ix2 (⟨i.val, by omega⟩ : Fin 512) j : S512x128.Idx) := by
      funext a
      fin_cases a
      · exact Fin.ext (by show i.val = 0 + 1 * i.val; omega)
      · exact Fin.ext (by show j.val = 0 + 1 * j.val; omega)
    rw [e0]
    exact (View.canon_cons_emb (Val := Elt Ideal) (e := .f32) (Rect.unit (s := S1024x128) ![0, 0] S512x128.size inb') w' _ (ix2 (⟨i.val, by omega⟩ : Fin 512) j : S512x128.Idx)).trans (hw' _ _)

theorem canon_cols (o o' : Fin 2 → ℕ) (ho : o = ![0, 512]) (ho' : o' = ![0, 0]) (inb : ∀ a, o a + S8x512.size a ≤ S8x1024.size a) (inb' : ∀ a, o' a + S8x512.size a ≤ S8x1024.size a)
    (w w' : FVec Ideal S8x512 .f32) (f : Fin 8 → Fin 1024 → EReal)
    (hw : ∀ i r, w (ix2 i r) = f i ⟨512 + r.val, by omega⟩) (hw' : ∀ i r, w' (ix2 i r) = f i ⟨r.val, by omega⟩) (i : Fin 8) (j : Fin 1024) :
    View.canon [(⟨Rect.unit (s := S8x1024) o S8x512.size inb, w⟩ : View.Piece (Elt Ideal) S8x1024 .f32), ⟨Rect.unit (s := S8x1024) o' S8x512.size inb', w'⟩] (ix2 i j) = f i j := by
  subst ho ho'
  by_cases h : 512 ≤ j.val
  · have e0 : (ix2 i j : S8x1024.Idx) = (Rect.unit (s := S8x1024) ![0, 512] S8x512.size inb).emb (ix2 i (⟨j.val - 512, by omega⟩ : Fin 512) : S8x512.Idx) := by
      funext a
      fin_cases a
      · exact Fin.ext (by show i.val = 0 + 1 * i.val; omega)
      · exact Fin.ext (by show j.val = 512 + 1 * (j.val - 512); omega)
    rw [e0]
    refine (View.canon_cons_emb (Val := Elt Ideal) (e := .f32) (Rect.unit (s := S8x1024) ![0, 512] S8x512.size inb) w _ (ix2 i (⟨j.val - 512, by omega⟩ : Fin 512) : S8x512.Idx)).trans ((hw _ _).trans ?_)
    exact congrArg (f i) (Fin.ext (by show 512 + (j.val - 512) = j.val; omega))
  · have hm : (ix2 i j : S8x1024.Idx) ∉ (Rect.unit (s := S8x1024) ![0, 512] S8x512.size inb).set := by
      rw [Rect.mem_set_unit]
      intro hm
      have h0 := hm 1
      change 512 ≤ j.val ∧ j.val < 512 + 512 at h0
      omega
    refine (View.canon_cons_of_not_mem (Val := Elt Ideal) (⟨Rect.unit (s := S8x1024) ![0, 512] S8x512.size inb, w⟩ : View.Piece (Elt Ideal) S8x1024 .f32) _ hm).trans ?_
    have e0 : (ix2 i j : S8x1024.Idx) = (Rect.unit (s := S8x1024) ![0, 0] S8x512.size inb').emb (ix2 i (⟨j.val, by omega⟩ : Fin 512) : S8x512.Idx) := by
      funext a
      fin_cases a
      · exact Fin.ext (by show i.val = 0 + 1 * i.val; omega)
      · exact Fin.ext (by show j.val = 0 + 1 * j.val; omega)
    rw [e0]
    exact (View.canon_cons_emb (Val := Elt Ideal) (e := .f32) (Rect.unit (s := S8x1024) ![0, 0] S8x512.size inb') w' _ (ix2 i (⟨j.val, by omega⟩ : Fin 512) : S8x512.Idx)).trans (hw' _ _)

variable {m : (ℓ : Loc nD τ sig) → Buf (Elt Ideal) ℓ} {c : Dev nD}

theorem ld_all (x : FVec Ideal S4352x128 .bf16) {arg : Memref sig .tc .vmem S4352x128 .bf16} (harg : arg.IsWhole) (r : Fin 4352) (l : Fin 128) :
    (View.readAt (Elt Ideal) arg.view (Rect.unit (s := S4352x128) ![0, 0] S4352x128.size inb_S4352x128_S4352x128_0_0).toLoadRect (harg.unread x) : FVec Ideal S4352x128 .bf16) (ix2 r l) = x (ix2 r l) := by
  refine (harg.readAt_unread (Val := Elt Ideal) x _ _).trans (congrArg x (funext fun b => Fin.ext ?_))
  fin_cases b
  · show 0 + 1 * r.val = r.val
    omega
  · show 0 + 1 * l.val = l.val
    omega

/-- The whole block of values as a point loads it. -/
abbrev V0 (m : (ℓ : Loc nD τ sig) → Buf (Elt Ideal) ℓ) (c : Dev nD) (t : Fin cfg0.N) : FVec Ideal S4352x128 .bf16 :=
  View.readAt (Elt Ideal) (ms0_2 t).view (Rect.unit (s := S4352x128) ![0, 0] S4352x128.size inb_S4352x128_S4352x128_0_0).toLoadRect ((hs0_2 t).unread (iblk m c 2 t))

abbrev POk (m : (ℓ : Loc nD τ sig) → Buf (Elt Ideal) ℓ) (c : Dev nD) (t : Fin cfg0.N) (k : Fin k0_t1_loop.trips) : FVec Ideal S512x128 .f32 :=
  PO (Q1 (hs0_0 t) (iblk m c 0 t) k) (Q2 (hs0_0 t) (iblk m c 0 t) k) (K1 (hs0_1 t) (iblk m c 1 t)) (K2 (hs0_1 t) (iblk m c 1 t)) (V0 m c t)
abbrev PSk (m : (ℓ : Loc nD τ sig) → Buf (Elt Ideal) ℓ) (c : Dev nD) (t : Fin cfg0.N) (k : Fin k0_t1_loop.trips) : FVec Ideal S8x512 .f32 :=
  PS (Q1 (hs0_0 t) (iblk m c 0 t) k) (Q2 (hs0_0 t) (iblk m c 0 t) k) (K1 (hs0_1 t) (iblk m c 1 t)) (K2 (hs0_1 t) (iblk m c 1 t)) (V0 m c t)

abbrev one : Fin k0_t1_loop.trips := ⟨1, by decide⟩
abbrev nul : Fin k0_t1_loop.trips := ⟨0, by decide⟩

theorem outs3 (t : Fin cfg0.N) : (outsAt0 m c t).1
    = View.canon [(⟨Rect.unit (s := S1024x128) (k0_off3 one) S512x128.size (k0_off3_inb one), POk m c t one⟩ : View.Piece (Elt Ideal) S1024x128 .f32),
        ⟨Rect.unit (s := S1024x128) (k0_off3 nul) S512x128.size (k0_off3_inb nul), POk m c t nul⟩] := by
  unfold outsAt0
  frame_open
  refine (View.read_writes_junk_eq_canon _ _).trans (congrArg View.canon ?_)
  refine (congrArg (fun z => z.1) (pb_k0_t1_succ (F := Ideal) _ _ _ _ _ _ _ _ _ _ _ _ _ _ _ _ _ _ _ one)).trans ?_
  refine (congrArg (fun z => _ ++ z) (congrArg (fun z => z.1) (pb_k0_t1_succ (F := Ideal) _ _ _ _ _ _ _ _ _ _ _ _ _ _ _ _ _ _ _ nul))).trans ?_
  refine congrArg₂ (· ++ ·) (trip3 (hs0_0 t) (hs0_1 t) (iblk m c 0 t) (iblk m c 1 t) one) (congrArg₂ (· ++ ·) (trip3 (hs0_0 t) (hs0_1 t) (iblk m c 0 t) (iblk m c 1 t) nul) ?_)
  rfl

theorem outs5 (t : Fin cfg0.N) : (outsAt0 m c t).2.2
    = View.canon [(⟨Rect.unit (s := S8x1024) (k0_off4 one) S8x512.size (k0_off4_inb one), PSk m c t one⟩ : View.Piece (Elt Ideal) S8x1024 .f32),
        ⟨Rect.unit (s := S8x1024) (k0_off4 nul) S8x512.size (k0_off4_inb nul), PSk m c t nul⟩] := by
  unfold outsAt0
  frame_open
  refine (View.read_writes_junk_eq_canon _ _).trans (congrArg View.canon ?_)
  refine (congrArg (fun z => z.2.2) (pb_k0_t1_succ (F := Ideal) _ _ _ _ _ _ _ _ _ _ _ _ _ _ _ _ _ _ _ one)).trans ?_
  refine (congrArg (fun z => _ ++ z) (congrArg (fun z => z.2.2) (pb_k0_t1_succ (F := Ideal) _ _ _ _ _ _ _ _ _ _ _ _ _ _ _ _ _ _ _ nul))).trans ?_
  refine congrArg₂ (· ++ ·) (trip5 (hs0_0 t) (hs0_1 t) (iblk m c 0 t) (iblk m c 1 t) one) (congrArg₂ (· ++ ·) (trip5 (hs0_0 t) (hs0_1 t) (iblk m c 0 t) (iblk m c 1 t) nul) ?_)
  rfl

variable {q : Fin 4096 → Fin 8 → Fin 96 → ℝ} {k : Fin 4352 → Fin 8 → Fin 96 → ℝ} {v : Fin 4352 → Fin 8 → Fin 64 → EReal} (a : Args m c q k v)
include a

/-- The rows of a trip. -/
def row (t : Fin cfg0.N) (j : Fin k0_t1_loop.trips) (r : Fin 512) : Fin 4096 := rw' t ⟨512 * j.val + r.val, by have := (offs j).2.2.2.2; omega⟩

theorem PO_row (t : Fin cfg0.N) (j : Fin k0_t1_loop.trips) (r : Fin 512) (l : Fin 128) :
    POk m c t j (ix2 r l) = mean q k v (hd t (half l)) (row t j r) (lane l) :=
  PO_at (s := row t j) (h := hd t) (fun r l => (Q1_at _ _ j r l).trans (qblk a t 0 _ l _ (by show l.val = 0 * 128 + l.val; omega)))
    (fun r l => (Q2_at _ _ j r l).trans (qblk a t 1 _ l _ (by show 128 + l.val = 1 * 128 + l.val; omega)))
    (fun r l => (K1_at _ _ r l).trans (kblk a t 0 _ l _ (by show l.val = 0 * 128 + l.val; omega)))
    (fun r l => (K2_at _ _ r l).trans (kblk a t 1 _ l _ (by show 128 + l.val = 1 * 128 + l.val; omega)))
    (fun r l => (ld_all _ _ r l).trans (vblk a t r l)) r l

theorem PS_row (t : Fin cfg0.N) (j : Fin k0_t1_loop.trips) (i : Fin 8) (r : Fin 512) :
    PSk m c t j (ix2 i r) = (((if i.val = 0 then lse q k (hd t 0) (row t j r) else if i.val = 1 then lse q k (hd t 1) (row t j r) else 0 : ℝ)) : EReal) :=
  PS_at (v := v) (s := row t j) (h := hd t) (fun r l => (Q1_at _ _ j r l).trans (qblk a t 0 _ l _ (by show l.val = 0 * 128 + l.val; omega)))
    (fun r l => (Q2_at _ _ j r l).trans (qblk a t 1 _ l _ (by show 128 + l.val = 1 * 128 + l.val; omega)))
    (fun r l => (K1_at _ _ r l).trans (kblk a t 0 _ l _ (by show l.val = 0 * 128 + l.val; omega)))
    (fun r l => (K2_at _ _ r l).trans (kblk a t 1 _ l _ (by show 128 + l.val = 1 * 128 + l.val; omega)))
    (fun r l => (ld_all _ _ r l).trans (vblk a t r l)) i r

theorem tileO (t : Fin cfg0.N) (i : Fin 1024) (j : Fin 128) : (outsAt0 m c t).1 (ix2 i j) = mean q k v (hd t (half j)) (rw' t i) (lane j) := by
  rw [outs3]
  refine canon_rows _ _ (offs one).2.2.1 (offs nul).2.2.1 _ _ _ _ (fun i j => mean q k v (hd t (half j)) (rw' t i) (lane j)) (fun r l => ?_) (fun r l => ?_) i j
  · exact PO_row a t one r l
  · refine (PO_row a t nul r l).trans (congrArg (fun z => mean q k v (hd t (half l)) z (lane l)) (congrArg (rw' t) (Fin.ext ?_)))
    show 512 * 0 + r.val = r.val
    omega

theorem tileS (t : Fin cfg0.N) (i : Fin 8) (j : Fin 1024) : (outsAt0 m c t).2.2 (ix2 i j)
    = (((if i.val = 0 then lse q k (hd t 0) (rw' t j) else if i.val = 1 then lse q k (hd t 1) (rw' t j) else 0 : ℝ)) : EReal) := by
  rw [outs5]
  refine canon_cols _ _ (offs one).2.2.2.1 (offs nul).2.2.2.1 _ _ _ _ (fun i j => (((if i.val = 0 then lse q k (hd t 0) (rw' t j) else if i.val = 1 then lse q k (hd t 1) (rw' t j) else 0 : ℝ)) : EReal)) (fun i r => ?_) (fun i r => ?_) i j
  · exact PS_row a t one i r
  · refine (PS_row a t nul i r).trans (congrArg (fun z => (((if i.val = 0 then lse q k (hd t 0) z else if i.val = 1 then lse q k (hd t 1) z else 0 : ℝ)) : EReal)) (congrArg (rw' t) (Fin.ext ?_)))
    show 512 * 0 + r.val = r.val
    omega

theorem final3 : (dats m 0 c).arrAt 3 (cfgs 0).N = outO q k v := by
  refine (dats m 0 c).arrAt_eq_of_covers 3 _ (by decide +kernel) fun t hf y => ?_
  have ht := lt16 t
  blk_simp
  rw [after0_3]
  have e0 : (((View.whole main_v12_0).slice (win0_3.rect t)).emb y 0).val = t.val % 4 * 1024 + (y 0).val := by blk_simp [idx t]
  have e1 : (((View.whole main_v12_0).slice (win0_3.rect t)).emb y 1).val = t.val / 4 * 128 + (y 1).val := by blk_simp [idx t]
  generalize (((View.whole main_v12_0).slice (win0_3.rect t)).emb y) = j at e0 e1
  idx_vars y
  idx_vars j
  have e0 : j0.val = t.val % 4 * 1024 + y0.val := e0
  have e1 : j1.val = t.val / 4 * 128 + y1.val := e1
  have hy : y1.val < 128 := y1.isLt
  refine (tileO a t y0 y1).trans ?_
  show _ = mean q k v ⟨j1.val / 64, _⟩ j0 ⟨j1.val % 64, _⟩
  have r0 : rw' t y0 = j0 := Fin.ext (by show 1024 * (t.val % 4) + y0.val = j0.val; omega)
  have r1 : hd t (half y1) = ⟨j1.val / 64, by omega⟩ := Fin.ext (by show 2 * (t.val / 4) + y1.val / 64 = j1.val / 64; omega)
  have r2 : lane y1 = ⟨j1.val % 64, by omega⟩ := Fin.ext (by show y1.val % 64 = j1.val % 64; omega)
  rw [r0, r1, r2]

theorem final5 : (dats m 0 c).arrAt 5 (cfgs 0).N = outS q k := by
  refine (dats m 0 c).arrAt_eq_of_covers 5 _ (by decide +kernel) fun t hf y => ?_
  have ht := lt16 t
  blk_simp
  rw [after0_5]
  have e0 : (((View.whole main_v12_2).slice (win0_5.rect t)).emb y 0).val = t.val / 4 * 8 + (y 0).val := by blk_simp [idx t]
  have e1 : (((View.whole main_v12_2).slice (win0_5.rect t)).emb y 1).val = t.val % 4 * 1024 + (y 1).val := by blk_simp [idx t]
  generalize (((View.whole main_v12_2).slice (win0_5.rect t)).emb y) = j at e0 e1
  idx_vars y
  idx_vars j
  have e0 : j0.val = t.val / 4 * 8 + y0.val := e0
  have e1 : j1.val = t.val % 4 * 1024 + y1.val := e1
  have hy : y0.val < 8 := y0.isLt
  have hj : j0.val < 32 := j0.isLt
  refine (tileS a t y0 y1).trans ?_
  show _ = (if h : j0.val % 8 < 2 then ((lse q k ⟨j0.val / 8 * 2 + j0.val % 8, _⟩ j1 : ℝ) : EReal) else 0)
  have r1 : rw' t y1 = j1 := Fin.ext (by show 1024 * (t.val % 4) + y1.val = j1.val; omega)
  rw [r1]
  by_cases h0 : y0.val = 0
  · rw [if_pos h0, dif_pos (show j0.val % 8 < 2 by omega)]
    exact congrArg (fun z => ((lse q k z j1 : ℝ) : EReal)) (Fin.ext (by show 2 * (t.val / 4) + 0 = j0.val / 8 * 2 + j0.val % 8; omega))
  · by_cases h1 : y0.val = 1
    · rw [if_neg h0, if_pos h1, dif_pos (show j0.val % 8 < 2 by omega)]
      exact congrArg (fun z => ((lse q k z j1 : ℝ) : EReal)) (Fin.ext (by show 2 * (t.val / 4) + 1 = j0.val / 8 * 2 + j0.val % 8; omega))
    · rw [if_neg h0, if_neg h1, dif_neg (show ¬ j0.val % 8 < 2 by omega)]
      rfl

end Cert.FwdIdeal.Host
end
-- ==== Proof.FwdRefVal.lean ====
/- The reference's output and statistics of the attention. -/
module

public import proofs.«01_k».proof.Proof.Gen.FwdRefIdeal.Run
public import proofs.«01_k».proof.Proof.Gen.FwdRefIdeal.Read
public import proofs.«01_k».proof.Proof.FwdSpec
public import proofs.«01_k».proof.Proof.AttnSaved

set_option maxRecDepth 16384

@[expose] public noncomputable section

open Idealize.ShloMosaic Idealize.ShloMosaic.TcCoe Idealize.SL.Sem

namespace Cert.FwdRefIdeal.Val

open Cert.FwdRefIdeal Cert.FwdRefIdeal.Gen Cert.FwdRefIdeal.Read Cert.AttnSpec
open Cert.AttnIdeal.Pay (sum_coe)
open Cert.AttnIdeal.Host (root_at ofBits_bottom ofBits_two)

/-- The reference's arguments: queries and keys are these reals. -/
structure Reals (X0 : FVec Ideal S1x4096x8x96 .f32) (X1 : FVec Ideal S1x4352x8x96 .f32) (X2 : FVec Ideal S1x4352x8x64 .f32)
    (q : Fin 4096 → Fin 8 → Fin 96 → ℝ) (k : Fin 4352 → Fin 8 → Fin 96 → ℝ) (v : Fin 4352 → Fin 8 → Fin 64 → EReal) : Prop where
  hq : ∀ s h d, X0 (ix4 0 s h d) = ((q s h d : ℝ) : EReal)
  hk : ∀ s h d, X1 (ix4 0 s h d) = ((k s h d : ℝ) : EReal)
  hv : ∀ s h d, X2 (ix4 0 s h d) = v s h d

variable {X0 : FVec Ideal S1x4096x8x96 .f32} {X1 : FVec Ideal S1x4352x8x96 .f32} {X2 : FVec Ideal S1x4352x8x64 .f32}
  {q : Fin 4096 → Fin 8 → Fin 96 → ℝ} {k : Fin 4352 → Fin 8 → Fin 96 → ℝ} {v : Fin 4352 → Fin 8 → Fin 64 → EReal} (a : Reals X0 X1 X2 q k v)
include a

theorem scaled_at (s : Fin 4096) (h : Fin 8) (t : Fin 4352) : (val_main_v6 (F := Ideal) X0 X1 (ix3 h s t) : EReal) = ((scale * score q k h s t : ℝ) : EReal) := by
  pointwise [val_main_v6, val_main_v5, val_main_v4, val_main_v3, val_main_v2, val_main_v1, val_main_v0, val_main_cst, val_main_cst_0, a.hk, a.hq]
  rw [show Ideal.ofBits FTy.f32 1119879168#32 = Ideal.ofBits FTy.f32 0x42C00000#32 from rfl, root_at,
    sum_coe _ (fun d => q s h d * k t h d) (fun d => (EReal.coe_mul _ _).symm), ← EReal.coe_mul, mul_comm]
  rfl

omit a in
theorem reduce_max (x : FVec Ideal S8x4096x4352 .f32) (h : Fin 8) (s : Fin 4096) :
    (Host.reduce FloatOps.maximumf x (constant S_ .f32 0xFF800000#32) reducesTo_S8x4096x4352_S8x4096_d2 h_S_ : FVec Ideal S8x4096 .f32) (ix2 h s)
      = ((Finset.univ : Finset (Fin 4352)).fold max (⊥ : EReal) (fun t => x (ix3 h s t)) : EReal) := by
  pointwise
  rw [ofBits_bottom]

theorem max_at : ∃ M : Fin 8 → Fin 4096 → ℝ, ∀ h s, (val_main_v7 (F := Ideal) X0 X1 (ix2 h s) : EReal) = ((M h s : ℝ) : EReal) := by
  have e : ∀ h s, ∃ x : ℝ, (val_main_v7 (F := Ideal) X0 X1 (ix2 h s) : EReal) = (x : EReal) := fun h s => by
    obtain ⟨x, hx⟩ := fold_max_real (Finset.univ : Finset (Fin 4352)) ⟨0, Finset.mem_univ _⟩ (fun t => scale * score q k h s t)
    refine ⟨x, (reduce_max (val_main_v6 (F := Ideal) X0 X1) h s).trans (Eq.trans ?_ hx)⟩
    exact congrArg (fun f : Fin 4352 → EReal => Finset.fold max (⊥ : EReal) f Finset.univ) (funext fun t => scaled_at a s h t)
  exact ⟨fun h s => (e h s).choose, fun h s => (e h s).choose_spec⟩

variable {M : Fin 8 → Fin 4096 → ℝ} (hM : ∀ h s, (val_main_v7 (F := Ideal) X0 X1 (ix2 h s) : EReal) = ((M h s : ℝ) : EReal))
include hM

omit a in
theorem top_at (s : Fin 4096) (h : Fin 8) : (val_main_v8 (F := Ideal) X0 X1 (ix3 h s 0) : EReal) = ((M h s : ℝ) : EReal) := by
  rw [val_main_v8_apply]
  refine (congrArg _ ?_).trans (hM h s)
  funext b
  fin_cases b <;> rfl

/-- The exponential of a score less its row's largest. -/
theorem ex_at (s : Fin 4096) (h : Fin 8) (t : Fin 4352) : (val_main_v11 (F := Ideal) X0 X1 (ix3 h s t) : EReal)
    = ((Real.exp (scale * score q k h s t - M h s) : ℝ) : EReal) := by
  have e : (val_main_v9 (F := Ideal) X0 X1 (ix3 h s t) : EReal) = ((M h s : ℝ) : EReal) := by
    rw [val_main_v9_apply]
    refine (congrArg _ ?_).trans (top_at hM s h)
    funext b
    fin_cases b <;> rfl
  rw [val_main_v11_apply, val_main_v10_apply]
  refine (congr (congrArg (fun x y : EReal => Ideal.exp (x - y)) (scaled_at a s h t)) e).trans ?_
  rw [← EReal.coe_sub, Ideal.exp_coe]

/-- The row's sum of exponentials. -/
def tot (q : Fin 4096 → Fin 8 → Fin 96 → ℝ) (k : Fin 4352 → Fin 8 → Fin 96 → ℝ) (M : Fin 8 → Fin 4096 → ℝ) (h : Fin 8) (s : Fin 4096) : ℝ :=
  ∑ t : Fin 4352, Real.exp (scale * score q k h s t - M h s)

omit a hM in
theorem tot_pos (h : Fin 8) (s : Fin 4096) : 0 < tot q k M h s :=
  Finset.sum_pos (fun _ _ => Real.exp_pos _) ⟨0, Finset.mem_univ _⟩

omit a hM in
theorem reduce_sum (x : FVec Ideal S8x4096x4352 .f32) (h : Fin 8) (s : Fin 4096) :
    (Host.reduceAdd x (constant S_ .f32 0x00000000#32) reducesTo_S8x4096x4352_S8x4096_d2 h_S_ : FVec Ideal S8x4096 .f32) (ix2 h s)
      = (∑ t : Fin 4352, (x (ix3 h s t) : EReal) : EReal) := by
  pointwise

theorem col_at (s : Fin 4096) (h : Fin 8) : (val_main_v13 (F := Ideal) X0 X1 (ix3 h s 0) : EReal) = ((tot q k M h s : ℝ) : EReal) := by
  rw [val_main_v13_apply]
  refine (congrArg _ (show _ = ix2 h s from ?_)).trans ((reduce_sum (val_main_v11 (F := Ideal) X0 X1) h s).trans (sum_coe _ _ fun t => ex_at a hM s h t))
  funext b
  fin_cases b <;> rfl

theorem prob_at (s : Fin 4096) (h : Fin 8) (t : Fin 4352) : (val_main_v15 (F := Ideal) X0 X1 (ix3 h s t) : EReal) = ((prob q k h s t : ℝ) : EReal) := by
  have e : (val_main_v14 (F := Ideal) X0 X1 (ix3 h s t) : EReal) = ((tot q k M h s : ℝ) : EReal) := by
    rw [val_main_v14_apply]
    refine (congrArg _ ?_).trans (col_at a hM s h)
    funext b
    fin_cases b <;> rfl
  rw [val_main_v15_apply]
  refine (congr (congrArg (fun x y : EReal => Ideal.div x y) (ex_at a hM s h t)) e).trans ?_
  rw [Ideal.div_coe (tot_pos h s).ne', ← EReal.coe_mul, ← prob_shift (M h s) h s t]
  refine congrArg Real.toEReal ?_
  rw [mul_one_div]
  rfl

theorem stat_at (s : Fin 4096) (h : Fin 8) : (val_main_v24 (F := Ideal) X0 X1 (ix3 h s 0) : EReal) = ((lse q k h s : ℝ) : EReal) := by
  have e : (val_main_v23 (F := Ideal) (ix3 h s 0) : EReal) = ((Real.log 2 : ℝ) : EReal) := by
    rw [val_main_v23_apply, val_main_v22_apply]
    refine (congrArg Ideal.log (ofBits_two : Ideal.ofBits FTy.f32 _ = ((2 : ℝ) : EReal))).trans ?_
    rw [Ideal.log_coe, if_neg (by norm_num)]
  have h2 : Real.log 2 ≠ 0 := (Real.log_pos one_lt_two).ne'
  rw [val_main_v24_apply, val_main_v21_apply, val_main_v20_apply]
  refine (congr (congrArg (fun x y : EReal => Ideal.div x y) (congr (congrArg (fun x y : EReal => x + Ideal.log y) (top_at hM s h)) (col_at a hM s h))) e).trans ?_
  rw [Ideal.log_coe, if_neg (not_le.mpr (tot_pos h s)), ← EReal.coe_add, Ideal.div_coe h2, ← EReal.coe_mul, ← lse_shift q k (M h s) h s, one_div]
  rfl

theorem resO (y : S4096x512.Idx) : (val_main_v19 (F := Ideal) X0 X1 X2 y : EReal) = outO q k v y := by
  idx_vars y
  pointwise [val_main_v19, val_main_v18, val_main_v17, val_main_v16, prob_at a hM, a.hv]
  exact Finset.sum_congr rfl fun t _ => mul_comm _ _

theorem resS (y : S32x4096.Idx) : (val_main_v27 (F := Ideal) X0 X1 y : EReal) = outS q k y := by
  idx_vars y
  pointwise [val_main_v27, val_main_v26, val_main_v25, val_main_cst_4, stat_at a hM]
  have h8 : y0.val / 8 < 4 := by omega
  unfold outS
  by_cases h : y0.val % 8 < 2
  · rw [dif_pos ⟨h8, h⟩, dif_pos (show ((ix2 y0 y1 : S32x4096.Idx) 0).val % 8 < 2 from h)]
    rfl
  · rw [dif_neg (fun e => h e.2), dif_neg (show ¬((ix2 y0 y1 : S32x4096.Idx) 0).val % 8 < 2 from h)]

end Cert.FwdRefIdeal.Val
end
-- ==== Proof.FwdClaim.lean ====
/- The claims about the attention call. -/

module

public import proofs.«01_k».proof.Defs
public import proofs.«01_k».proof.Proof.FwdPre
public import proofs.«01_k».proof.Proof.FwdVal
public import proofs.«01_k».proof.Proof.FwdRefVal
public import proofs.«01_k».proof.Proof.Gen.Fwd.Frame
public import proofs.«01_k».proof.Proof.Gen.FwdIdeal.Frame
public import proofs.«01_k».proof.Proof.Gen.FwdIdeal.Value
public import proofs.«01_k».proof.Proof.Gen.FwdRefIdeal.Read
public import proofs.«01_k».proof.Proof.Gen.FwdRefIdeal.Run
public import Idealize.ShloMosaic.Lib.Claim
public import Idealize.ShloMosaic.Lib.Quiescent

@[expose] public noncomputable section

set_option maxRecDepth 16384

namespace Cert.Proof

open Idealize.ShloMosaic Idealize.SL.Sem

theorem quiescent_Fwd : Cert.quiescent_Fwd := fun m ρ _ => Cert.Fwd.Gen.frame m ρ

theorem quiescent_FwdIdeal : Cert.quiescent_FwdIdeal := fun m ρ _ => Cert.FwdIdeal.Gen.frame m ρ

theorem quiescent_FwdIdeal_pre_finite_qk : Cert.quiescent_FwdIdeal_pre_finite_qk := fun m ρ _ => Cert.FwdIdeal.Gen.frame m ρ

theorem quiescent_FwdRefIdeal : Cert.quiescent_FwdRefIdeal := by
  intro m g _
  exact (θ_run _ _ _).mono (fun r h => ⟨fun c => (h c).2.2, sem_eq_zero_of_no_sems rfl r.2⟩) (Cert.FwdRefIdeal.Value.run m g)

theorem quiescent_FwdRefIdeal_pre_finite_qk : Cert.quiescent_FwdRefIdeal_pre_finite_qk := fun m g _ => quiescent_FwdRefIdeal m g trivial

theorem preserves_Fwd_FwdIdeal : Cert.preserves_Fwd_FwdIdeal :=
  ⟨IdealRules.named_const.statement _ _ _ _ _ rfl, IdealRules.named_const.statement _ _ _ _ _ rfl⟩

section

variable (m : (ℓ : Loc Cert.FwdIdeal.nD Cert.FwdIdeal.τ Cert.FwdIdeal.sig) → Buf (Elt Ideal) ℓ) (hp : Cert.Pre_FwdIdeal_finite_qk m) (c : Dev Cert.FwdIdeal.nD)

include hp in
/-- Finite queries and keys are arrays of real numbers. -/
theorem fwd_args : ∃ q k v, Cert.FwdIdeal.Host.Args m c q k v := by
  obtain ⟨h0, h1⟩ := Cert.Pre_finite_qk.At.fn_real _ _ _ (fun k => k.elim0) (congrFun (hp c) _)
  choose r0 h0 using h0
  choose r1 h1 using h1
  exact ⟨fun s h d => r0 (ix4 0 s h d), fun s h d => r1 (ix4 0 s h d),
    fun s h d => (m ((c.tc : Thread Cert.FwdIdeal.nD Cert.FwdIdeal.τ).loc Cert.FwdIdeal.main_arg2) : FVec Ideal Cert.FwdIdeal.S1x4352x8x64 .f32) (ix4 0 s h d),
    fun s h d => h0 _, fun s h d => h1 _, fun s h d => rfl⟩

include hp in
/-- Where the two programs start from equal arguments, queries and keys finite, the reference's two results are what the kernel's windows hold at the end. -/
theorem fwd_results : ∀ X0 X1 X2,
    X0 = m ((c.tc : Thread Cert.FwdIdeal.nD Cert.FwdIdeal.τ).loc Cert.FwdIdeal.main_arg0) → X1 = m ((c.tc : Thread Cert.FwdIdeal.nD Cert.FwdIdeal.τ).loc Cert.FwdIdeal.main_arg1)
    → X2 = m ((c.tc : Thread Cert.FwdIdeal.nD Cert.FwdIdeal.τ).loc Cert.FwdIdeal.main_arg2)
    → Cert.FwdRefIdeal.Read.val_main_v19 (F := Ideal) X0 X1 X2 = (Cert.FwdIdeal.Gen.dats m 0 c).arrAt 3 (Cert.FwdIdeal.cfgs 0).N
      ∧ Cert.FwdRefIdeal.Read.val_main_v27 (F := Ideal) X0 X1 = (Cert.FwdIdeal.Gen.dats m 0 c).arrAt 5 (Cert.FwdIdeal.cfgs 0).N := by
  intro X0 X1 X2 e0 e1 e2
  obtain ⟨q, k, v, a⟩ := fwd_args m hp c
  have b : Cert.FwdRefIdeal.Val.Reals X0 X1 X2 q k v := by
    rw [e0, e1, e2]
    exact ⟨a.hq, a.hk, a.hv⟩
  obtain ⟨M, hM⟩ := Cert.FwdRefIdeal.Val.max_at b
  exact ⟨(funext fun y => Cert.FwdRefIdeal.Val.resO b hM y).trans (Cert.FwdIdeal.Host.final3 a).symm,
    (funext fun y => Cert.FwdRefIdeal.Val.resS b hM y).trans (Cert.FwdIdeal.Host.final5 a).symm⟩

end

theorem algebraic_FwdIdeal_FwdRefIdeal_pre_finite_qk : Cert.algebraic_FwdIdeal_FwdRefIdeal_pre_finite_qk := by
  intro m g m' g' hp hagree
  refine ⟨fun c => (Cert.FwdIdeal.Gen.dats m 0 c).arrAt 3 (Cert.FwdIdeal.cfgs 0).N, fun c => (Cert.FwdIdeal.Gen.dats m 0 c).arrAt 5 (Cert.FwdIdeal.cfgs 0).N, ?_, ?_⟩
  · exact (θ_run _ _ _).mono (fun r h c => ⟨(h.1 c).1 3, (h.1 c).1 5, h.2 c⟩) (θ_run_and (Cert.FwdIdeal.Gen.run_main m g) (Cert.FwdIdeal.Gen.unchanged m g))
  · refine (θ_run _ _ _).mono (fun r h c => ?_) (Cert.FwdRefIdeal.Value.run m' g')
    have e := fwd_results m hp c _ _ _ (hagree c).1 (hagree c).2.1 (hagree c).2.2
    exact ⟨(h c).1.trans ((Cert.FwdRefIdeal.Read.val_main_v19_eq _ _ _).trans e.1), (h c).2.1.trans ((Cert.FwdRefIdeal.Read.val_main_v27_eq _ _).trans e.2), (h c).2.2⟩

end Cert.Proof

end
-- ==== Proof.HeadSpec.lean ====
/- The head's gradients at the two gains and at the queries' up projection, as functions of the arguments. -/
module

public import proofs.«01_k».proof.Proof.Gen.HeadIdeal
public import Idealize.ShloMosaic.Lib.Pipeline.Value
public import Idealize.ShloMosaic.Lib.Pipeline.ValueKit

set_option maxRecDepth 16384

@[expose] public noncomputable section

open Idealize.ShloMosaic Idealize.ShloMosaic.TcCoe Idealize.SL.Sem

namespace Cert.HeadSpec

open Cert.HeadIdeal

/-- The reciprocal root of a row's mean square, the row's length as a constant's word. -/
def rinv {n : ℕ} (w : BitVec 32) (f : Fin n → EReal) : EReal :=
  Ideal.rsqrt (Ideal.div (∑ k, f k * f k) (Ideal.ofBits .f32 w) + Ideal.ofBits .f32 0x358637BD#32)

variable (H : FVec Ideal S1x4352x1024 .f32) (W : FVec Ideal S1x1024x1952 .f32) (U : FVec Ideal S1x256x768 .f32) (K : FVec Ideal S1x128x1024 .f32)
  (QG : FVec Ideal S1x256 .f32) (DQ : FVec Ideal S1x4096x8x96 .f32) (DK : FVec Ideal S1x4352x8x96 .f32) (DV : FVec Ideal S1x4352x8x64 .f32)

/-- A latent row among all rows. -/
abbrev up (R : Fin 4096) : Fin 4352 := ⟨R.val, by omega⟩

/-- The low-rank rows of the queries, and of the keys and values. -/
def zq (R : Fin 4096) (a : Fin 256) : EReal := ∑ k : Fin 1024, H (ix3 0 (up R) k) * W (ix3 0 k ⟨a.val, by omega⟩)
def zk (R : Fin 4352) (b : Fin 128) : EReal := ∑ k : Fin 1024, H (ix3 0 R k) * W (ix3 0 k ⟨256 + b.val, by omega⟩)
/-- The same rows normed. -/
def nq (R : Fin 4096) (a : Fin 256) : EReal := zq H W R a * rinv 0x43800000#32 (zq H W R)
def nk (R : Fin 4352) (b : Fin 128) : EReal := zk H W R b * rinv 0x43000000#32 (zk H W R)
/-- The gradient at the scaled rows of the queries. -/
def dcq (R : Fin 4096) (a : Fin 256) : EReal := ∑ q : Fin 768, DQ (ix4 0 R ⟨q.val / 96, by omega⟩ ⟨q.val % 96, by omega⟩) * U (ix3 0 a q)
/-- The gradient at the up projection of the keys and values: a head's keys, then its values. -/
def gkv (R : Fin 4352) (j : Fin 1024) : EReal :=
  if h : j.val % 128 < 64 then DK (ix4 0 R ⟨j.val / 128, by omega⟩ ⟨j.val % 128, by omega⟩)
  else DV (ix4 0 R ⟨j.val / 128, by omega⟩ ⟨j.val % 128 - 64, by omega⟩)
/-- The gradient at the scaled rows of the keys and values. -/
def dck (R : Fin 4352) (b : Fin 128) : EReal := ∑ j : Fin 1024, gkv DK DV R j * K (ix3 0 b j)

/-- What a row adds to the sums. -/
def term (i : ℕ) (j : Fin 256) (R : Fin 4096) : EReal :=
  if i = 1 then (if h : j.val < 128 then dck K DK DV (up R) ⟨j.val, h⟩ * nk H W (up R) ⟨j.val, h⟩ else 0)
  else if i = 0 then dcq U DQ R j * nq H W R j else 0

/-- The rows of sums: the gradients of the two gains. -/
def OUT17 (y : S8x256.Idx) : EReal := ∑ R, term H W U K DQ DK DV (y 0).val (y 1) R

/-- A row of the context among all rows. -/
abbrev lo (r : Fin 256) : Fin 4352 := ⟨4096 + r.val, by omega⟩

/-- The rows of sums over the context's rows: the gradient of the keys' gain alone. -/
def CTX (y : S8x256.Idx) : EReal :=
  if (y 0).val = 1 then (if h : (y 1).val < 128 then ∑ r : Fin 256, dck K DK DV (lo r) ⟨(y 1).val, h⟩ * nk H W (lo r) ⟨(y 1).val, h⟩ else 0) else 0

/-- A lane of a padded head of the queries' gradient, and of the up projection. -/
def dqP (R : Fin 4096) (j : Fin 1024) : EReal := if h : j.val % 128 < 96 then DQ (ix4 0 R ⟨j.val / 128, by omega⟩ ⟨j.val % 128, by omega⟩) else 0
def uP (a : Fin 256) (j : Fin 1024) : EReal := if h : j.val % 128 < 96 then U (ix3 0 a ⟨j.val / 128 * 96 + j.val % 128, by omega⟩) else 0
def dkP (R : Fin 4352) (j : Fin 1024) : EReal := if h : j.val % 128 < 96 then DK (ix4 0 R ⟨j.val / 128, by omega⟩ ⟨j.val % 128, by omega⟩) else 0
def kP (b : Fin 128) (j : Fin 1024) : EReal := if h : j.val % 128 < 64 then K (ix3 0 b j) else 0
def dvP (R : Fin 4352) (e : Fin 512) : EReal := DV (ix4 0 R ⟨e.val / 64, by omega⟩ ⟨e.val % 64, by omega⟩)
def vP (b : Fin 128) (e : Fin 512) : EReal := K (ix3 0 b ⟨e.val / 64 * 128 + (64 + e.val % 64), by omega⟩)

/-- The gradient of the queries' up projection, a head's columns padded. -/
def OUT18 (y : S256x1024.Idx) : EReal := ∑ R, nq H W R (y 0) * QG (ix2 0 (y 0)) * dqP DQ R (y 1)

/-- Heads of 128 lanes of which 96 count. -/
theorem sum_heads (F : Fin 768 → EReal) :
    ∑ j : Fin 1024, (if h : j.val % 128 < 96 then F ⟨j.val / 128 * 96 + j.val % 128, by omega⟩ else 0) = ∑ q, F q := by
  have e1 : ∑ h : Fin 8, ∑ l : Fin 96, F ⟨h.val * 96 + l.val, by omega⟩ = ∑ q, F q := Fin.sum_mul_add_congr (f := F) fun t r hl => rfl
  have e2 : ∑ h : Fin 8, ∑ l : Fin 128, (if hl : l.val < 96 then F ⟨h.val * 96 + l.val, by omega⟩ else 0)
      = ∑ j : Fin 1024, (if h : j.val % 128 < 96 then F ⟨j.val / 128 * 96 + j.val % 128, by omega⟩ else 0) :=
    Fin.sum_mul_add_congr (f := fun j : Fin 1024 => if h : j.val % 128 < 96 then F ⟨j.val / 128 * 96 + j.val % 128, by omega⟩ else 0) fun t r hl => by
      have e1 : (t.val * 128 + r.val) % 128 = r.val := by omega
      have e2 : (t.val * 128 + r.val) / 128 = t.val := by omega
      simp only [e1, e2]
  rw [← e1, ← e2]
  refine Finset.sum_congr (M := EReal) rfl fun h _ => ?_
  refine (Fin.sum_univ_add (M := EReal) (a := 96) (b := 32) fun l : Fin (96 + 32) => if hl : l.val < 96 then F ⟨h.val * 96 + l.val, by omega⟩ else 0).trans ?_
  refine (congrArg₂ (· + ·) (Finset.sum_congr (M := EReal) rfl fun l _ => dif_pos l.isLt) (Finset.sum_eq_zero fun l _ => dif_neg (by simp))).trans ?_
  exact add_zero _

theorem dcq_eq (R : Fin 4096) (a : Fin 256) : ∑ j, dqP DQ R j * uP U a j = dcq U DQ R a := by
  refine Eq.trans (Finset.sum_congr (M := EReal) rfl fun j _ => ?_) (sum_heads fun q => DQ (ix4 0 R ⟨q.val / 96, by omega⟩ ⟨q.val % 96, by omega⟩) * U (ix3 0 a q))
  unfold dqP uP
  by_cases h : j.val % 128 < 96
  · simp only [dif_pos h]
    congr 2
    exact congrArg₂ (ix4 0 R) (Fin.ext (by simp only; omega)) (Fin.ext (by simp only; omega))
  · simp only [dif_neg h, mul_zero]

/-- A head's 64 lanes of keys and 64 of values, summed apart. -/
theorem sum_halves (A B : Fin 1024 → EReal) :
    (∑ j : Fin 1024, (if j.val % 128 < 64 then A j else 0)) + ∑ e : Fin 512, B ⟨e.val / 64 * 128 + (64 + e.val % 64), by omega⟩
      = ∑ j : Fin 1024, if j.val % 128 < 64 then A j else B j := by
  have e : ∀ C : Fin 1024 → EReal, ∑ j, (if j.val % 128 < 64 then A j else C j)
      = ∑ h : Fin 8, ((∑ l : Fin 64, A ⟨h.val * 128 + l.val, by omega⟩) + ∑ l : Fin 64, C ⟨h.val * 128 + (64 + l.val), by omega⟩) := by
    intro C
    have e2 : ∑ h : Fin 8, ∑ l : Fin 128, (if l.val < 64 then A ⟨h.val * 128 + l.val, by omega⟩ else C ⟨h.val * 128 + l.val, by omega⟩)
        = ∑ j : Fin 1024, if j.val % 128 < 64 then A j else C j :=
      Fin.sum_mul_add_congr (f := fun j : Fin 1024 => if j.val % 128 < 64 then A j else C j) fun t r hl => by
        have e1 : (t.val * 128 + r.val) % 128 = r.val := by omega
        simp only [e1]
    rw [← e2]
    refine Finset.sum_congr (M := EReal) rfl fun h _ => ?_
    refine (Fin.sum_univ_add (M := EReal) (a := 64) (b := 64) fun l : Fin (64 + 64) => if l.val < 64 then A ⟨h.val * 128 + l.val, by omega⟩ else C ⟨h.val * 128 + l.val, by omega⟩).trans ?_
    exact congrArg₂ (· + ·) (Finset.sum_congr (M := EReal) rfl fun l _ => if_pos l.isLt) (Finset.sum_congr (M := EReal) rfl fun l _ => if_neg (by simp))
  have eB : ∑ h : Fin 8, ∑ l : Fin 64, B ⟨h.val * 128 + (64 + l.val), by omega⟩ = ∑ e : Fin 512, B ⟨e.val / 64 * 128 + (64 + e.val % 64), by omega⟩ :=
    Fin.sum_mul_add_congr (f := fun e : Fin 512 => B ⟨e.val / 64 * 128 + (64 + e.val % 64), by omega⟩) fun t r hl => by
      have e1 : (t.val * 64 + r.val) % 64 = r.val := by omega
      have e2 : (t.val * 64 + r.val) / 64 = t.val := by omega
      simp only [e1, e2]
  rw [e B, e fun _ => 0, ← eB, Finset.sum_add_distrib (M := EReal), Finset.sum_add_distrib (M := EReal)]
  simp only [Finset.sum_const_zero, add_zero]

theorem dck_eq (R : Fin 4352) (b : Fin 128) : (∑ j, dkP DK R j * kP K b j) + ∑ e, dvP DV R e * vP K b e = dck K DK DV R b := by
  let A : Fin 1024 → EReal := fun j => if h : j.val % 128 < 96 then DK (ix4 0 R ⟨j.val / 128, by omega⟩ ⟨j.val % 128, by omega⟩) * K (ix3 0 b j) else 0
  let B : Fin 1024 → EReal := fun j => DV (ix4 0 R ⟨j.val / 128, by omega⟩ ⟨j.val % 128 - 64, by omega⟩) * K (ix3 0 b j)
  refine Eq.trans (congrArg₂ (· + ·) (Finset.sum_congr (M := EReal) rfl fun j _ => ?_) (Finset.sum_congr (M := EReal) rfl fun e _ => ?_))
    ((sum_halves A B).trans (Finset.sum_congr (M := EReal) rfl fun j _ => ?_))
  · show dkP DK R j * kP K b j = if j.val % 128 < 64 then A j else 0
    unfold dkP kP
    by_cases h : j.val % 128 < 64
    · simp only [A, dif_pos h, if_pos h, dif_pos (show j.val % 128 < 96 by omega)]
    · simp only [dif_neg h, if_neg h, mul_zero]
  · show dvP DV R e * vP K b e = B _
    unfold dvP vP
    refine congrArg₂ (· * ·) (congrArg DV ?_) rfl
    exact congrArg₂ (ix4 0 R) (Fin.ext (by simp only; omega)) (Fin.ext (by simp only; omega))
  · show _ = gkv DK DV R j * K (ix3 0 b j)
    unfold gkv
    by_cases h : j.val % 128 < 64
    · simp only [A, dif_pos h, if_pos h, dif_pos (show j.val % 128 < 96 by omega)]
    · simp only [B, dif_neg h, if_neg h]

end Cert.HeadSpec

end
-- ==== Proof.HeadPay.lean ====
/- The head's gradient: what the kernel computes at a point, entry by entry. -/
module

public import proofs.«01_k».proof.Proof.HeadSpec
public import proofs.«01_k».proof.Proof.Gen.HeadIdeal.Skeleton
public import Idealize.ShloMosaic.Lib.Pipeline.ValueKit

set_option maxRecDepth 16384

@[expose] public noncomputable section

open Idealize.ShloMosaic Idealize.ShloMosaic.TcCoe Idealize.SL.Sem

namespace Cert.HeadIdeal.Pay

open Cert.HeadIdeal Cert.HeadIdeal.Gen Cert.HeadSpec

theorem pay3_at (i : Fin 8) (j : Fin 256) : (k0_pay3 (F := Ideal) (ix2 i j) : EReal) = 0 := by pointwise [k0_pay3]
theorem pay4_at (i : Fin 256) (j : Fin 1024) : (k0_pay4 (F := Ideal) (ix2 i j) : EReal) = 0 := by pointwise [k0_pay4]

theorem pay8_at (a : FVec Ideal S256x1024 .f32) (q : FVec Ideal S512x256 .bf16) (d : FVec Ideal S512x1024 .f32) (i : Fin 256) (j : Fin 1024) :
    (k0_pay8 (F := Ideal) a q d (ix2 i j) : EReal) = a (ix2 i j) + ∑ r : Fin 512, q (ix2 r i) * d (ix2 r j) := by
  pointwise [k0_pay8]
theorem pay11_at (d : FVec Ideal S512x1024 .f32) (w : FVec Ideal S256x1024 .bf16) (r : Fin 512) (a : Fin 256) :
    (k0_pay11 (F := Ideal) d w (ix2 r a) : EReal) = ∑ j : Fin 1024, d (ix2 r j) * w (ix2 a j) := by
  pointwise [k0_pay11]
theorem pay13_at (z : FVec Ideal S512x256 .f32) (r : Fin 512) :
    (k0_pay13 (F := Ideal) z (ix2 r 0) : EReal) = rinv 0x43800000#32 fun k : Fin 256 => (z (ix2 r k) : EReal) := by
  pointwise [k0_pay13, k0_pay12, rinv]
theorem pay14_at (z : FVec Ideal S512x256 .f32) (r : Fin 512) (a : Fin 256) :
    (k0_pay14 (F := Ideal) z (ix2 r a) : EReal) = z (ix2 r a) * rinv 0x43800000#32 fun k : Fin 256 => (z (ix2 r k) : EReal) := by
  pointwise [k0_pay14, k0_pay12, pay13_at]
theorem pay15_at (d : FVec Ideal S512x1024 .f32) (w : FVec Ideal S256x1024 .bf16) (z : FVec Ideal S512x256 .f32) (s : FVec Ideal S1x256 .f32) (a : Fin 256) :
    (k0_pay15 (F := Ideal) d w z s (ix2 0 a) : EReal) = s (ix2 0 a) + ∑ r : Fin 512, k0_pay11 (F := Ideal) d w (ix2 r a) * k0_pay14 (F := Ideal) z (ix2 r a) := by
  unfold k0_pay15; generalize k0_pay11 (F := Ideal) d w = x; generalize k0_pay14 (F := Ideal) z = y; pointwise []
theorem pay19_at (d : FVec Ideal S512x1024 .f32) (w : FVec Ideal S256x1024 .bf16) (v : FVec Ideal S512x512 .bf16) (u : FVec Ideal S256x512 .bf16) (r : Fin 512) (a : Fin 256) :
    (k0_pay19 (F := Ideal) d w v u (ix2 r a) : EReal) = (∑ j : Fin 1024, d (ix2 r j) * w (ix2 a j)) + ∑ e : Fin 512, v (ix2 r e) * u (ix2 a e) := by
  pointwise [k0_pay19]
theorem pay21_at (z : FVec Ideal S512x128 .f32) (r : Fin 512) :
    (k0_pay21 (F := Ideal) z (ix2 r 0) : EReal) = rinv 0x43000000#32 fun k : Fin 128 => (z (ix2 r k) : EReal) := by
  pointwise [k0_pay21, k0_pay20, rinv]
theorem pay22_at (z : FVec Ideal S512x128 .f32) (r : Fin 512) (a : Fin 128) :
    (k0_pay22 (F := Ideal) z (ix2 r a) : EReal) = z (ix2 r a) * rinv 0x43000000#32 fun k : Fin 128 => (z (ix2 r k) : EReal) := by
  pointwise [k0_pay22, k0_pay20, pay21_at]
theorem pay24_at (d : FVec Ideal S512x1024 .f32) (w : FVec Ideal S256x1024 .bf16) (v : FVec Ideal S512x512 .bf16) (u : FVec Ideal S256x512 .bf16) (z : FVec Ideal S512x128 .f32)
    (s : FVec Ideal S1x256 .f32) (a : Fin 256) :
    (k0_pay24 (F := Ideal) d w v u z s (ix2 0 a) : EReal) = s (ix2 0 a)
      + if h : a.val < 128 then ∑ r : Fin 512, k0_pay19 (F := Ideal) d w v u (ix2 r a) * k0_pay22 (F := Ideal) z (ix2 r ⟨a.val, h⟩) else 0 := by
  unfold k0_pay24 k0_pay23; generalize k0_pay19 (F := Ideal) d w v u = x; generalize k0_pay22 (F := Ideal) z = y; pointwise []

end Cert.HeadIdeal.Pay

end
-- ==== Proof.HeadBlk.lean ====
/- The head's gradient: the arrays the kernel reads, block by block. -/
module

public import proofs.«01_k».proof.Proof.HeadPay
public import proofs.«01_k».proof.Proof.Gen.HeadIdeal.Launch
public import proofs.«01_k».proof.Proof.Gen.HeadIdeal.Points
public import proofs.«01_k».proof.Proof.Gen.HeadIdeal.Frame
public import Idealize.ShloMosaic.Lib.Pipeline.ReadBack
public import Idealize.ShloMosaic.Lib.StableHlo.RunRead

set_option maxRecDepth 16384

@[expose] public noncomputable section

open Idealize.ShloMosaic Idealize.ShloMosaic.TcCoe Idealize.SL.Sem

open Idealize.ShloMosaic.Pipeline (Dat)

namespace Cert.HeadIdeal.Val

open Cert.HeadIdeal Cert.HeadIdeal.Gen Cert.HeadIdeal.Pay Cert.HeadSpec

variable (m : (ℓ : Loc nD τ sig) → Buf (Elt Ideal) ℓ)

theorem idx : ∀ t : Fin cfg0.N, win0_0.index t = ![t.val, 0]
    ∧ win0_1.index t = ![t.val, 0]
    ∧ win0_2.index t = ![t.val, 0]
    ∧ win0_3.index t = ![t.val, 0]
    ∧ win0_4.index t = ![0, 0]
    ∧ win0_5.index t = ![0, 0]
    ∧ win0_6.index t = ![0, 0]
    ∧ win0_12.index t = ![t.val, 0]
    ∧ win0_17.index t = ![0, 0]
    ∧ win0_18.index t = ![0, 0] :=
  (by decide +kernel : ∀ t : Fin grid0.N, _)

theorem lt8 (t : Fin cfg0.N) : t.val < 8 := lt_of_lt_of_eq t.isLt N_0

abbrev aH (c : Dev nD) : FVec Ideal S1x4352x1024 .f32 := m ((c : Thread nD τ).loc main_arg0)
abbrev aW (c : Dev nD) : FVec Ideal S1x1024x1952 .f32 := m ((c : Thread nD τ).loc main_arg1)
abbrev aU (c : Dev nD) : FVec Ideal S1x256x768 .f32 := m ((c : Thread nD τ).loc main_arg2)
abbrev aK (c : Dev nD) : FVec Ideal S1x128x1024 .f32 := m ((c : Thread nD τ).loc main_arg3)
abbrev aG (c : Dev nD) : FVec Ideal S1x256 .f32 := m ((c : Thread nD τ).loc main_arg4)
abbrev aQ (c : Dev nD) : FVec Ideal S1x4096x8x96 .f32 := m ((c : Thread nD τ).loc main_arg8)
abbrev aE (c : Dev nD) : FVec Ideal S1x4352x8x96 .f32 := m ((c : Thread nD τ).loc main_arg9)
abbrev aV (c : Dev nD) : FVec Ideal S1x4352x8x64 .f32 := m ((c : Thread nD τ).loc main_arg10)

set_option maxHeartbeats 400000

/-- A guard replaced by an equivalent one. -/
theorem dite_cut {p q : Prop} [Decidable p] [Decidable q] (h : p ↔ q) (x : q → EReal) :
    (if hp : p then x (h.mp hp) else 0) = if hq : q then x hq else 0 := by
  by_cases hq : q
  · rw [dif_pos hq, dif_pos (h.mpr hq)]
  · rw [dif_neg hq, dif_neg fun hp => hq (h.mp hp)]

theorem dqblk (c : Dev nD) (t : Fin cfg0.N) (r : Fin 512) (j : Fin 1024) (R : Fin 4096) (hR : R.val = t.val * 512 + r.val) :
    ((iblk m c 0 t : FVec Ideal S512x1024 .f32) (ix2 r j) : EReal) = dqP (aQ m c) R j := by
  have h : ((V m c main_v110 : FVec Ideal S4096x1024 .f32) (ix2 R j) : EReal) = dqP (aQ m c) R j := by
    unfold V
    simp only [List.flatten_cons, List.flatten_nil, List.cons_append, List.nil_append, List.append_nil, List.append]
    after_reads_simp
    pointwise [dqP]
    exact dite_cut ⟨fun h => h.2, fun h => ⟨by omega, h⟩⟩ fun hl => aQ m c (ix4 0 R ⟨j.val / 128, by omega⟩ ⟨j.val % 128, hl⟩)
  rw [← h]; blk_ext [iblk, idx t]
theorem dkblk (c : Dev nD) (t : Fin cfg0.N) (r : Fin 512) (j : Fin 1024) (R : Fin 4096) (hR : R.val = t.val * 512 + r.val) :
    ((X0_1 m c t : FVec Ideal S512x1024 .f32) (ix2 r j) : EReal) = dkP (aE m c) (up R) j := by
  have h : ((V m c main_v113 : FVec Ideal S4352x1024 .f32) (ix2 (up R) j) : EReal) = dkP (aE m c) (up R) j := by
    unfold V
    simp only [List.flatten_cons, List.flatten_nil, List.cons_append, List.nil_append, List.append_nil, List.append]
    after_reads_simp
    pointwise [dkP]
    exact dite_cut ⟨fun h => h.2.2, fun h => ⟨by omega, by omega, h⟩⟩ fun hl => aE m c (ix4 0 (up R) ⟨j.val / 128, by omega⟩ ⟨j.val % 128, hl⟩)
  rw [← h]
  unfold X0_1 Pipeline.Window.fill
  rw [dif_pos (moved0_1 t _)]
  blk_ext [iblk, idx t]
theorem dvblk (c : Dev nD) (t : Fin cfg0.N) (r : Fin 512) (e : Fin 512) (R : Fin 4096) (hR : R.val = t.val * 512 + r.val) :
    ((X0_2 m c t : FVec Ideal S512x512 .bf16) (ix2 r e) : EReal) = dvP (aV m c) (up R) e := by
  have h : ((V m c main_v116 : FVec Ideal S4352x512 .bf16) (ix2 (up R) e) : EReal) = dvP (aV m c) (up R) e := by
    unfold V
    simp only [List.flatten_cons, List.flatten_nil, List.cons_append, List.nil_append, List.append_nil, List.append]
    after_reads_simp
    pointwise [dvP]
  rw [← h]
  unfold X0_2 Pipeline.Window.fill
  rw [dif_pos (moved0_2 t _)]
  blk_ext [iblk, idx t]
/-- A column of the low-rank rows. -/
theorem zent (c : Dev nD) (R : Fin 4352) (q : Fin 384) :
    ((V m c main_v61 : FVec Ideal S4352x512 .f32) (ix2 R ⟨q.val, by omega⟩) : EReal) = ∑ k : Fin 1024, aH m c (ix3 0 R k) * aW m c (ix3 0 k ⟨q.val, by omega⟩) := by
  unfold V
  simp only [List.flatten_cons, List.flatten_nil, List.cons_append, List.nil_append, List.append_nil, List.append]
  after_reads_simp
  pointwise []
  after_reads_simp
  pointwise []
/-- The normed rows of the queries, scaled. -/
theorem cqent (c : Dev nD) (R : Fin 4096) (a : Fin 256) :
    ((V m c main_v76 : FVec Ideal S4352x256 .bf16) (ix2 (up R) a) : EReal) = nq (aH m c) (aW m c) R a * aG m c (ix2 0 a) := by
  unfold V
  simp only [List.flatten_cons, List.flatten_nil, List.cons_append, List.nil_append, List.append_nil, List.append]
  after_reads_simp
  pointwise []
  after_reads_simp
  pointwise [nq, zq, rinv]
  have e : ∀ x : Fin 256, x.val < 384 := fun x => by omega
  simp only [e, ↓reduceDIte]
theorem cqblk (c : Dev nD) (t : Fin cfg0.N) (r : Fin 512) (a : Fin 256) (R : Fin 4096) (hR : R.val = t.val * 512 + r.val) :
    ((X0_12 m c t : FVec Ideal S512x256 .bf16) (ix2 r a) : EReal) = nq (aH m c) (aW m c) R a * aG m c (ix2 0 a) := by
  rw [← cqent m c R a]
  unfold X0_12 Pipeline.Window.fill
  rw [dif_pos (moved0_12 t _)]
  blk_ext [iblk, idx t]
theorem zblk (c : Dev nD) (t : Fin cfg0.N) (r : Fin 512) (q : Fin 384) (R : Fin 4096) (hR : R.val = t.val * 512 + r.val) :
    ((X0_3 m c t : FVec Ideal S512x512 .f32) (ix2 r ⟨q.val, by omega⟩) : EReal) = ∑ k : Fin 1024, aH m c (ix3 0 (up R) k) * aW m c (ix3 0 k ⟨q.val, by omega⟩) := by
  rw [← zent m c (up R) q]
  unfold X0_3 Pipeline.Window.fill
  rw [dif_pos (moved0_3 t _)]
  blk_ext [iblk, idx t]

theorem wqblk (c : Dev nD) (t : Fin cfg0.N) (a : Fin 256) (j : Fin 1024) :
    ((iblk m c 4 t : FVec Ideal S256x1024 .bf16) (ix2 a j) : EReal) = uP (aU m c) a j := by
  have h : ((V m c main_v14 : FVec Ideal S256x1024 .bf16) (ix2 a j) : EReal) = uP (aU m c) a j := by
    unfold V
    simp only [List.flatten_cons, List.flatten_nil, List.cons_append, List.nil_append, List.append_nil, List.append]
    after_reads_simp
    pointwise [uP]
    exact dite_cut ⟨fun h => h.2, fun h => ⟨by omega, h⟩⟩ fun hl => aU m c (ix3 0 a ⟨j.val / 128 * 96 + j.val % 128, by omega⟩)
  rw [← h]; blk_ext [iblk, idx t]
theorem wkblk (c : Dev nD) (t : Fin cfg0.N) (b : Fin 128) (j : Fin 1024) :
    ((iblk m c 5 t : FVec Ideal S256x1024 .bf16) (ix2 ⟨b.val, by omega⟩ j) : EReal) = kP (aK m c) b j := by
  have h : ((V m c main_v32 : FVec Ideal S256x1024 .bf16) (ix2 ⟨b.val, by omega⟩ j) : EReal) = kP (aK m c) b j := by
    unfold V
    simp only [List.flatten_cons, List.flatten_nil, List.cons_append, List.nil_append, List.append_nil, List.append]
    after_reads_simp
    pointwise [kP]
    refine (dite_cut (q := j.val % 128 < 64) ⟨fun h => h.2, fun h => ⟨by omega, h⟩⟩ fun hl => aK m c (ix3 0 b ⟨j.val / 128 * 128 + j.val % 128, by omega⟩)).trans ?_
    exact dite_congr rfl (fun hl => congrArg (fun i => aK m c (ix3 0 b i)) (Fin.ext (Nat.div_add_mod' j.val 128))) fun _ => rfl
  rw [← h]; blk_ext [iblk, idx t]
theorem wvblk (c : Dev nD) (t : Fin cfg0.N) (b : Fin 128) (e : Fin 512) :
    ((iblk m c 6 t : FVec Ideal S256x512 .bf16) (ix2 ⟨b.val, by omega⟩ e) : EReal) = vP (aK m c) b e := by
  have h : ((V m c main_v34 : FVec Ideal S256x512 .bf16) (ix2 ⟨b.val, by omega⟩ e) : EReal) = vP (aK m c) b e := by
    unfold V
    simp only [List.flatten_cons, List.flatten_nil, List.cons_append, List.nil_append, List.append_nil, List.append]
    after_reads_simp
    pointwise [vP]
  rw [← h]; blk_ext [iblk, idx t]

abbrev dq (c : Dev nD) (t : Fin cfg0.N) : FVec Ideal S512x1024 .f32 := iblk m c 0 t
abbrev dk (c : Dev nD) (t : Fin cfg0.N) : FVec Ideal S512x1024 .f32 := X0_1 m c t
abbrev dv (c : Dev nD) (t : Fin cfg0.N) : FVec Ideal S512x512 .bf16 := X0_2 m c t
abbrev wq (c : Dev nD) (t : Fin cfg0.N) : FVec Ideal S256x1024 .bf16 := iblk m c 4 t
abbrev wk (c : Dev nD) (t : Fin cfg0.N) : FVec Ideal S256x1024 .bf16 := iblk m c 5 t
abbrev wv (c : Dev nD) (t : Fin cfg0.N) : FVec Ideal S256x512 .bf16 := iblk m c 6 t
abbrev cq (c : Dev nD) (t : Fin cfg0.N) : FVec Ideal S512x256 .bf16 := X0_12 m c t
abbrev zl (c : Dev nD) (t : Fin cfg0.N) : FVec Ideal S512x256 .f32 := View.ld (X0_3 m c t) (Rect.unit ![0, 0] ![512, 256] inb_S512x512_S512x256_0_0)
abbrev zh (c : Dev nD) (t : Fin cfg0.N) : FVec Ideal S512x128 .f32 := View.ld (X0_3 m c t) (Rect.unit ![0, 256] ![512, 128] inb_S512x512_S512x128_0_256)

/-- Columns of a tile, read back. -/
theorem ld_cols {n : ℕ} (x : FVec Ideal S512x512 .f32) (o : ℕ) (inb : ∀ a, (![0, o] : Fin 2 → ℕ) a + (⟨2, ![512, n]⟩ : Shape).size a ≤ S512x512.size a) (r : Fin 512) (j : Fin n) (i : Fin 512) (hi : i.val = o + j.val) :
    ((View.ld (Val := Elt Ideal) (S := S512x512) (e' := .f32) x (Rect.unit (s := S512x512) ![0, o] ![512, n] inb) : FVec Ideal ⟨2, ![512, n]⟩ .f32) (ix2 r j) : EReal) = x (ix2 r i) := by
  refine congrArg x ?_
  funext a
  fin_cases a
  · exact Fin.ext (by show 0 + 1 * r.val = r.val; omega)
  · exact Fin.ext (by show o + 1 * j.val = i.val; omega)

section
variable (c : Dev nD) (t : Fin cfg0.N) (r : Fin 512) (R : Fin 4096) (hR : R.val = t.val * 512 + r.val)
include hR
theorem zl_at (a : Fin 256) : (zl m c t (ix2 r a) : EReal) = zq (aH m c) (aW m c) R a :=
  (ld_cols (X0_3 m c t) 0 _ r a ⟨a.val, by omega⟩ (by simp)).trans (zblk m c t r ⟨a.val, by omega⟩ R hR)
theorem zh_at (b : Fin 128) : (zh m c t (ix2 r b) : EReal) = zk (aH m c) (aW m c) (up R) b :=
  (ld_cols (X0_3 m c t) 256 _ r b ⟨256 + b.val, by omega⟩ rfl).trans (zblk m c t r ⟨256 + b.val, by omega⟩ R hR)
theorem nq_at (a : Fin 256) : (k0_pay14 (F := Ideal) (zl m c t) (ix2 r a) : EReal) = nq (aH m c) (aW m c) R a :=
  (pay14_at _ r a).trans (congrArg₂ (· * ·) (zl_at m c t r R hR a) (congrArg (rinv 0x43800000#32) (funext fun k => zl_at m c t r R hR k)))
theorem nk_at (b : Fin 128) : (k0_pay22 (F := Ideal) (zh m c t) (ix2 r b) : EReal) = nk (aH m c) (aW m c) (up R) b :=
  (pay22_at _ r b).trans (congrArg₂ (· * ·) (zh_at m c t r R hR b) (congrArg (rinv 0x43000000#32) (funext fun k => zh_at m c t r R hR k)))
theorem dcq_at (a : Fin 256) : (k0_pay11 (F := Ideal) (dq m c t) (wq m c t) (ix2 r a) : EReal) = dcq (aU m c) (aQ m c) R a :=
  (pay11_at _ _ r a).trans ((Finset.sum_congr (M := EReal) rfl fun j _ => congrArg₂ (fun a b : EReal => a * b) (dqblk m c t r j R hR) (wqblk m c t a j)).trans (dcq_eq _ _ R a))
theorem dck_at (b : Fin 128) : (k0_pay19 (F := Ideal) (dk m c t) (wk m c t) (dv m c t) (wv m c t) (ix2 r ⟨b.val, by omega⟩) : EReal) = dck (aK m c) (aE m c) (aV m c) (up R) b :=
  (pay19_at _ _ _ _ r _).trans ((congrArg₂ (· + ·) (Finset.sum_congr (M := EReal) rfl fun j _ => congrArg₂ (fun a b : EReal => a * b) (dkblk m c t r j R hR) (wkblk m c t b j))
    (Finset.sum_congr (M := EReal) rfl fun e _ => congrArg₂ (fun a b : EReal => a * b) (dvblk m c t r e R hR) (wvblk m c t b e))).trans (dck_eq _ _ _ (up R) b))
end

end Cert.HeadIdeal.Val

end
-- ==== Proof.HeadVal.lean ====
/- The head's gradient: the kernel's rows of sums and its gradient of the queries' up projection. -/
module

public import proofs.«01_k».proof.Proof.HeadBlk
public import proofs.«01_k».proof.Proof.Rows8

set_option maxRecDepth 16384

@[expose] public noncomputable section

open Idealize.ShloMosaic Idealize.ShloMosaic.TcCoe Idealize.SL.Sem

open Idealize.ShloMosaic.Pipeline (Dat)

namespace Cert.HeadIdeal.Val

open Cert.HeadIdeal Cert.HeadIdeal.Gen Cert.HeadIdeal.Pay Cert.HeadSpec

variable (m : (ℓ : Loc nD τ sig) → Buf (Elt Ideal) ℓ)

abbrev at_ (t : Fin cfg0.N) (r : Fin 512) : Fin 4096 := ⟨t.val * 512 + r.val, by have := lt8 t; omega⟩
abbrev tm (c : Dev nD) := term (aH m c) (aW m c) (aU m c) (aK m c) (aQ m c) (aE m c) (aV m c)

section
variable (c : Dev nD) (t : Fin cfg0.N) (a : FVec Ideal S1x256 .f32) (j : Fin 256)
theorem row0 : (k0_pay15 (F := Ideal) (dq m c t) (wq m c t) (zl m c t) a (ix2 0 j) : EReal) = a (ix2 0 j) + ∑ r, tm m c 0 j (at_ t r) :=
  (pay15_at _ _ _ a j).trans (congrArg (_ + ·) (Finset.sum_congr (M := EReal) rfl fun r _ =>
    congrArg₂ (· * ·) (dcq_at m c t r (at_ t r) rfl j) (nq_at m c t r (at_ t r) rfl j)))
theorem row1 : (k0_pay24 (F := Ideal) (dk m c t) (wk m c t) (dv m c t) (wv m c t) (zh m c t) a (ix2 0 j) : EReal) = a (ix2 0 j) + ∑ r, tm m c 1 j (at_ t r) := by
  refine (pay24_at _ _ _ _ _ a j).trans (congrArg (_ + ·) ?_)
  by_cases h : j.val < 128
  · rw [dif_pos h]
    refine Finset.sum_congr (M := EReal) rfl fun r _ => ?_
    refine Eq.trans ?_ (dif_pos h).symm
    exact congrArg₂ (· * ·) (dck_at m c t r (at_ t r) rfl ⟨j.val, h⟩) (nk_at m c t r (at_ t r) rfl ⟨j.val, h⟩)
  · rw [dif_neg h]
    exact (Finset.sum_eq_zero fun r _ => dif_neg h).symm
end

/-- What a point adds to a row of sums. -/
def part (c : Dev nD) (i : Fin 8) (j : Fin 256) (t : Fin cfg0.N) : EReal := ∑ r, tm m c i.val j (at_ t r)

theorem part_zero (c : Dev nD) (i : Fin 8) (j : Fin 256) (t : Fin cfg0.N) (h1 : ¬ i.val = 1) (h0 : ¬ i.val = 0) : part m c i j t = 0 :=
  Finset.sum_eq_zero fun r _ => (if_neg h1).trans (if_neg h0)

theorem sumsA (c : Dev nD) (t : Fin cfg0.N) (h : t.val % 8 = 0) (i : Fin 8) (j : Fin 256) :
    ((outsAt0 m c t.val t.isLt).2.2.1 (ix2 i j) : EReal) = part m c i j t := by
  rw [outsAt0_A m c t h]; frame_open
  simp (disch := decide) only [↓ View.readCov_skip, ↓ View.readCov_cons_toLoadRect, ↓ View.readCov_fill]
  frame_out
  refine (Rows8.canon_row 1 _ _ _ i j).trans ?_
  by_cases h1 : i.val = 1
  · rw [if_pos h1]
    refine (row1 m c t _ j).trans ?_
    rw [Rows8.ld_row _ 1 _ 1 rfl, pay3_at, zero_add, part, h1]
  rw [if_neg h1]
  refine (Rows8.canon_row 0 _ _ _ i j).trans ?_
  by_cases h0 : i.val = 0
  · rw [if_pos h0]
    refine (row0 m c t _ j).trans ?_
    rw [Rows8.ld_row _ 0 _ 0 rfl, pay3_at, zero_add, part, h0]
  rw [if_neg h0, part_zero m c i j t h1 h0]
  exact (congrFun (Rows8.canon_all _ _ _) _).trans (pay3_at _ _)

theorem sumsB (c : Dev nD) (t : Fin cfg0.N) (h : ¬ t.val % 8 = 0) (i : Fin 8) (j : Fin 256) :
    ((outsAt0 m c t.val t.isLt).2.2.1 (ix2 i j) : EReal) = (outsAt0 m c (t.val - 1) (by have := t.isLt; omega)).2.2.1 (ix2 i j) + part m c i j t := by
  rw [outsAt0_B m c t h]; frame_open
  simp (disch := decide) only [↓ View.readCov_skip, ↓ View.readCov_cons_toLoadRect, ↓ View.readCov_fill]
  frame_out
  refine (Rows8.writes_row _ _ 1 _ _ _ i j).trans ?_
  by_cases h1 : i.val = 1
  · rw [if_pos h1]
    refine (row1 m c t _ j).trans ?_
    rw [Rows8.ld_row _ 1 _ i h1, part, h1]
  rw [if_neg h1]
  refine (Rows8.writes_row _ _ 0 _ _ _ i j).trans ?_
  by_cases h0 : i.val = 0
  · rw [if_pos h0]
    refine (row0 m c t _ j).trans ?_
    rw [Rows8.ld_row _ 0 _ i h0, part, h0]
  rw [if_neg h0, part_zero m c i j t h1 h0, add_zero]
  exact congrFun (Memref.IsWhole.read_unread _ _) _

/-- What a point adds to the gradient of the up projection. -/
def gpart (c : Dev nD) (i : Fin 256) (j : Fin 1024) (t : Fin cfg0.N) : EReal :=
  ∑ r, nq (aH m c) (aW m c) (at_ t r) i * aG m c (ix2 0 i) * dqP (aQ m c) (at_ t r) j

theorem acc (c : Dev nD) (t : Fin cfg0.N) (a : FVec Ideal S256x1024 .f32) (i : Fin 256) (j : Fin 1024) :
    (k0_pay8 (F := Ideal) a (cq m c t) (dq m c t) (ix2 i j) : EReal) = a (ix2 i j) + gpart m c i j t :=
  (pay8_at a _ _ i j).trans (congrArg (_ + ·) (Finset.sum_congr (M := EReal) rfl fun r _ =>
    congrArg₂ (fun a b : EReal => a * b) (cqblk m c t r i (at_ t r) rfl) (dqblk m c t r j (at_ t r) rfl)))

theorem gradA (c : Dev nD) (t : Fin cfg0.N) (h : t.val % 8 = 0) (i : Fin 256) (j : Fin 1024) :
    ((outsAt0 m c t.val t.isLt).2.2.2.1 (ix2 i j) : EReal) = gpart m c i j t := by
  rw [outsAt0_A m c t h]; frame_open
  simp (disch := decide) only [↓ View.readCov_skip, ↓ View.readCov_cons_toLoadRect, ↓ View.readCov_fill]
  frame_out
  refine (acc m c t _ i j).trans ?_
  rw [pay4_at, zero_add]

theorem gradB (c : Dev nD) (t : Fin cfg0.N) (h : ¬ t.val % 8 = 0) (i : Fin 256) (j : Fin 1024) :
    ((outsAt0 m c t.val t.isLt).2.2.2.1 (ix2 i j) : EReal) = (outsAt0 m c (t.val - 1) (by have := t.isLt; omega)).2.2.2.1 (ix2 i j) + gpart m c i j t := by
  rw [outsAt0_B m c t h]; frame_open
  simp (disch := decide) only [↓ View.readCov_skip, ↓ View.readCov_cons_toLoadRect, ↓ View.readCov_fill]
  frame_out
  exact acc m c t _ i j

/-- A function of the points, at a number. -/
def num (f : Fin cfg0.N → EReal) (n : ℕ) : EReal := if h : n < cfg0.N then f ⟨n, h⟩ else 0
theorem num_eq (f : Fin cfg0.N → EReal) (n : ℕ) (h : n < cfg0.N) : num f n = f ⟨n, h⟩ := dif_pos h

/-- Eight points' parts are all rows. -/
theorem sum_points (F : Fin 4096 → EReal) : ∑ t : Fin 8, num (fun t => ∑ r, F (at_ t r)) t.val = ∑ R, F R := by
  have hN : cfg0.N = 8 := N_0
  refine Eq.trans (Finset.sum_congr (M := EReal) rfl fun t _ => num_eq _ t.val (by have := t.isLt; omega)) ?_
  exact Fin.sum_mul_add_congr (f := F) fun t r hl => rfl

/-- The rows of sums after a point. -/
def rowsAt (c : Dev nD) (i : Fin 8) (j : Fin 256) (n : ℕ) (h : n < 8) : EReal := (outsAt0 m c n (h.trans_eq N_0.symm)).2.2.1 (ix2 i j)
theorem rowsAt_eq (c : Dev nD) (i : Fin 8) (j : Fin 256) (n : ℕ) (h : n < 8) (h' : n < cfg0.N) : ((outsAt0 m c n h').2.2.1 (ix2 i j) : EReal) = rowsAt m c i j n h := rfl
theorem rowsAt_first (c : Dev nD) (i : Fin 8) (j : Fin 256) (n : ℕ) (h : n < 8) (h0 : n % 8 = 0) : rowsAt m c i j n h = num (part m c i j) n :=
  (sumsA m c ⟨n, h.trans_eq N_0.symm⟩ h0 i j).trans (num_eq (part m c i j) n (h.trans_eq N_0.symm)).symm
theorem rowsAt_step (c : Dev nD) (i : Fin 8) (j : Fin 256) (n : ℕ) (h : n + 1 < 8) : rowsAt m c i j (n + 1) h = rowsAt m c i j n (by omega) + num (part m c i j) (n + 1) :=
  (sumsB m c ⟨n + 1, h.trans_eq N_0.symm⟩ (by simp only; omega) i j).trans (congrArg (_ + ·) (num_eq (part m c i j) (n + 1) (h.trans_eq N_0.symm)).symm)
theorem rowsAt_all (c : Dev nD) (i : Fin 8) (j : Fin 256) : rowsAt m c i j 7 (by omega) = ∑ R, tm m c i.val j R :=
  (Rows8.acc_eq (rowsAt m c i j) (num (part m c i j)) (rowsAt_first m c i j 0 (by omega) rfl) (rowsAt_step m c i j)).trans
    (sum_points fun R => tm m c i.val j R)
theorem sums_last (c : Dev nD) (i : Fin 8) (j : Fin 256) (h : 7 < cfg0.N) : ((outsAt0 m c 7 h).2.2.1 (ix2 i j) : EReal) = ∑ R, tm m c i.val j R :=
  (rowsAt_eq m c i j 7 (by omega) h).trans (rowsAt_all m c i j)

/-- The gradient of the up projection after a point. -/
def gradAt (c : Dev nD) (i : Fin 256) (j : Fin 1024) (n : ℕ) (h : n < 8) : EReal := (outsAt0 m c n (h.trans_eq N_0.symm)).2.2.2.1 (ix2 i j)
theorem gradAt_eq (c : Dev nD) (i : Fin 256) (j : Fin 1024) (n : ℕ) (h : n < 8) (h' : n < cfg0.N) : ((outsAt0 m c n h').2.2.2.1 (ix2 i j) : EReal) = gradAt m c i j n h := rfl
theorem gradAt_first (c : Dev nD) (i : Fin 256) (j : Fin 1024) (n : ℕ) (h : n < 8) (h0 : n % 8 = 0) : gradAt m c i j n h = num (gpart m c i j) n :=
  (gradA m c ⟨n, h.trans_eq N_0.symm⟩ h0 i j).trans (num_eq (gpart m c i j) n (h.trans_eq N_0.symm)).symm
theorem gradAt_step (c : Dev nD) (i : Fin 256) (j : Fin 1024) (n : ℕ) (h : n + 1 < 8) : gradAt m c i j (n + 1) h = gradAt m c i j n (by omega) + num (gpart m c i j) (n + 1) :=
  (gradB m c ⟨n + 1, h.trans_eq N_0.symm⟩ (by simp only; omega) i j).trans (congrArg (_ + ·) (num_eq (gpart m c i j) (n + 1) (h.trans_eq N_0.symm)).symm)
theorem gradAt_all (c : Dev nD) (i : Fin 256) (j : Fin 1024) : gradAt m c i j 7 (by omega) = ∑ R, nq (aH m c) (aW m c) R i * aG m c (ix2 0 i) * dqP (aQ m c) R j :=
  (Rows8.acc_eq (gradAt m c i j) (num (gpart m c i j)) (gradAt_first m c i j 0 (by omega) rfl) (gradAt_step m c i j)).trans
    (sum_points fun R => nq (aH m c) (aW m c) R i * aG m c (ix2 0 i) * dqP (aQ m c) R j)
theorem grad_last (c : Dev nD) (i : Fin 256) (j : Fin 1024) (h : 7 < cfg0.N) : ((outsAt0 m c 7 h).2.2.2.1 (ix2 i j) : EReal) = ∑ R, nq (aH m c) (aW m c) R i * aG m c (ix2 0 i) * dqP (aQ m c) R j :=
  (gradAt_eq m c i j 7 (by omega) h).trans (gradAt_all m c i j)

theorem point17 (c : Dev nD) (h : 7 < cfg0.N) (y : S8x256.Idx) :
    ((outsAt0 m c 7 h).2.2.1 y : EReal) = OUT17 (aH m c) (aW m c) (aU m c) (aK m c) (aQ m c) (aE m c) (aV m c) y := by
  idx_vars y
  exact sums_last m c y0 y1 h
theorem point18 (c : Dev nD) (h : 7 < cfg0.N) (y : S256x1024.Idx) :
    ((outsAt0 m c 7 h).2.2.2.1 y : EReal) = OUT18 (aH m c) (aW m c) (aG m c) (aQ m c) y := by
  idx_vars y
  exact grad_last m c y0 y1 h

/-- The gradients of the gains. -/
theorem final17 (c : Dev nD) : (dats m 0 c).arrAt 17 (Cert.HeadIdeal.cfgs 0).N = OUT17 (aH m c) (aW m c) (aU m c) (aK m c) (aQ m c) (aE m c) (aV m c) := by
  refine (dats m 0 c).arrAt_eq_of_after_last 17 t0_7 (by decide +kernel) _ fun y => ?_
  blk_simp
  rw [after0_17]
  exact point17 m c _ y
/-- The gradient of the queries' up projection. -/
theorem final18 (c : Dev nD) : (dats m 0 c).arrAt 18 (Cert.HeadIdeal.cfgs 0).N = OUT18 (aH m c) (aW m c) (aG m c) (aQ m c) := by
  refine (dats m 0 c).arrAt_eq_of_after_last 18 t0_7 (by decide +kernel) _ fun y => ?_
  blk_simp
  rw [after0_18]
  exact point18 m c _ y

end Cert.HeadIdeal.Val

end
-- ==== Proof.HeadRefVal.lean ====
/- The reference's two results of the head's gradient. -/
module

public import proofs.«01_k».proof.Proof.HeadSpec
public import proofs.«01_k».proof.Proof.Gen.HeadRefIdeal.Run
public import proofs.«01_k».proof.Proof.Gen.HeadRefIdeal.Read
public import Idealize.ShloMosaic.Lib.Pipeline.ValueKit

set_option maxRecDepth 16384

@[expose] public noncomputable section

open Idealize.ShloMosaic Idealize.ShloMosaic.TcCoe Idealize.SL.Sem

namespace Cert.HeadRefIdeal.Val

open Cert.HeadRefIdeal Cert.HeadRefIdeal.Gen Cert.HeadRefIdeal.Read Cert.HeadSpec

variable (H : FVec Ideal S1x4352x1024 .f32) (W : FVec Ideal S1x1024x1952 .f32) (U : FVec Ideal S1x256x768 .f32) (K : FVec Ideal S1x128x1024 .f32)
  (QG : FVec Ideal S1x256 .f32) (DQ : FVec Ideal S1x4096x8x96 .f32) (DK : FVec Ideal S1x4352x8x96 .f32) (DV : FVec Ideal S1x4352x8x64 .f32)

theorem zq_at (R : Fin 4096) (a : Fin 256) : (val_main_v7 (F := Ideal) H W (ix2 R a) : EReal) = zq H W R a := by
  pointwise [val_main_v7, val_main_v6, val_main_v3, val_main_v2, val_main_v1, val_main_v0, zq]
theorem zk_at (R : Fin 4096) (b : Fin 128) : (val_main_v25 (F := Ideal) H W (ix2 R b) : EReal) = zk H W (up R) b := by
  pointwise [val_main_v25, val_main_v6, val_main_v3, val_main_v2, val_main_v1, val_main_v0, zk]
theorem rq_at (R : Fin 4096) : (val_main_v15 (F := Ideal) H W (ix2 R 0) : EReal) = rinv 0x43800000#32 (zq H W R) := by
  pointwise [val_main_v15, val_main_v14, val_main_v13, val_main_v12, val_main_v11, val_main_v10, val_main_v9, val_main_v8, val_main_cst, val_main_cst_0, val_main_cst_1, zq_at, rinv]
theorem rk_at (R : Fin 4096) : (val_main_v33 (F := Ideal) H W (ix2 R 0) : EReal) = rinv 0x43000000#32 (zk H W (up R)) := by
  pointwise [val_main_v33, val_main_v32, val_main_v31, val_main_v30, val_main_v29, val_main_v28, val_main_v27, val_main_v26, val_main_cst_3, val_main_cst_4, val_main_cst_5, zk_at, rinv]
theorem nq_at (R : Fin 4096) (a : Fin 256) : (val_main_v20 (F := Ideal) H W (ix2 R a) : EReal) = nq H W R a := by
  pointwise [val_main_v20, val_main_v19, zq_at, rq_at, nq]
theorem nk_at (R : Fin 4096) (b : Fin 128) : (val_main_v38 (F := Ideal) H W (ix2 R b) : EReal) = nk H W (up R) b := by
  pointwise [val_main_v38, val_main_v37, zk_at, rk_at, nk]
theorem cq_at (R : Fin 4096) (a : Fin 256) : (val_main_v22 (F := Ideal) H W QG (ix2 R a) : EReal) = nq H W R a * QG (ix2 0 a) := by
  pointwise [val_main_v22, val_main_v21, nq_at]
theorem dcq_at (R : Fin 4096) (a : Fin 256) : (val_main_v123 (F := Ideal) U DQ (ix2 R a) : EReal) = dcq U DQ R a := by
  pointwise [val_main_v123, val_main_v120, val_main_v63, val_main_v4, dcq]
theorem gkv_at (R : Fin 4096) (j : Fin 1024) : (val_main_v95 (F := Ideal) DK DV (ix2 R j) : EReal) = gkv DK DV (up R) j := by
  pointwise [val_main_v95, val_main_v74, val_main_v73, val_main_v70, val_main_v69, val_main_v68, val_main_v65, val_main_v64, val_main_cst_7, val_main_cst_9, gkv]
  simp only [up]
  split_ifs <;> first | omega | exact zero_add (M := EReal) _ | exact add_zero (M := EReal) _
theorem dck_at (R : Fin 4096) (b : Fin 128) : (val_main_v98 (F := Ideal) K DK DV (ix2 R b) : EReal) = dck K DK DV (up R) b := by
  pointwise [val_main_v98, val_main_v5, gkv_at, dck]

/-- Two rows, the second of 128 lanes, in a tile of zeros. -/
theorem rows_if (i j : ℕ) (A : EReal) (B : j < 128 → EReal) :
    (if h : i < 1 then A else if h : i - 1 < 1 then if h : i - 1 < 1 ∧ j < 128 then B h.2 else 0 else 0)
      = if i = 0 then A else if i = 1 then if h : j < 128 then B h else 0 else 0 := by
  split_ifs <;> first | rfl | omega

theorem out17 : val_main_v150 (F := Ideal) H W U K DQ DK DV = OUT17 H W U K DQ DK DV := by
  funext y
  idx_vars y
  have e : (val_main_v150 (F := Ideal) H W U K DQ DK DV (ix2 y0 y1) : EReal) = (if y0.val = 0 then ∑ R, nq H W R y1 * dcq U DQ R y1
      else if y0.val = 1 then (if h : y1.val < 128 then ∑ R, nk H W (up R) ⟨y1.val, h⟩ * dck K DK DV (up R) ⟨y1.val, h⟩ else 0) else 0) := by
    pointwise [val_main_v150, val_main_v126, val_main_v125, val_main_v124, val_main_v148, val_main_v101, val_main_v100, val_main_v99, val_main_v149, val_main_cst_14, val_main_cst_19, val_main_cst_24, val_main_cst_25, nq_at, nk_at, dcq_at, dck_at]
    exact rows_if y0.val y1.val (∑ R, nq H W R y1 * dcq U DQ R y1) fun h => ∑ R, nk H W (up R) ⟨y1.val, h⟩ * dck K DK DV (up R) ⟨y1.val, h⟩
  refine e.trans ?_
  show _ = ∑ R, term H W U K DQ DK DV y0.val y1 R
  unfold term
  by_cases h0 : y0.val = 0
  · rw [if_pos h0]
    refine Finset.sum_congr (M := EReal) rfl fun R _ => ?_
    rw [if_neg (by omega), if_pos h0]
    exact mul_comm _ _
  · rw [if_neg h0]
    by_cases h1 : y0.val = 1
    · rw [if_pos h1]
      by_cases hl : y1.val < 128
      · rw [dif_pos hl]
        refine Finset.sum_congr (M := EReal) rfl fun R _ => ?_
        rw [if_pos h1, dif_pos hl]
        exact mul_comm _ _
      · rw [dif_neg hl]
        refine (Finset.sum_eq_zero fun R _ => ?_).symm
        rw [if_pos h1, dif_neg hl]
    · rw [if_neg h1]
      refine (Finset.sum_eq_zero fun R _ => ?_).symm
      rw [if_neg h1, if_neg h0]

theorem out18 : val_main_v153 (F := Ideal) H W QG DQ = OUT18 H W QG DQ := by
  funext y
  idx_vars y
  have e : (val_main_v153 (F := Ideal) H W QG DQ (ix2 y0 y1) : EReal) = (if h : y1.val % 128 < 96 then
      ∑ R, DQ (ix4 0 R ⟨y1.val / 128, by omega⟩ ⟨y1.val % 128, by omega⟩) * (nq H W R y0 * QG (ix2 0 y0)) else 0) := by
    pointwise [val_main_v153, val_main_v152, val_main_v151, val_main_v122, val_main_v121, val_main_v120, val_main_v63, val_main_cst_26, cq_at]
    by_cases h : y1.val % 128 < 96
    · rw [dif_pos h, dif_pos (show y1.val / 128 < 8 ∧ y1.val % 128 < 96 by omega)]
      have e1 : (y1.val / 128 * 96 + y1.val % 128) / 96 = y1.val / 128 := by omega
      have e2 : (y1.val / 128 * 96 + y1.val % 128) % 96 = y1.val % 128 := by omega
      simp only [e1, e2]
    · rw [dif_neg h, dif_neg (show ¬ (y1.val / 128 < 8 ∧ y1.val % 128 < 96) by omega)]
  refine e.trans ?_
  show _ = ∑ R, nq H W R y0 * QG (ix2 0 y0) * dqP DQ R y1
  unfold dqP
  by_cases h : y1.val % 128 < 96
  · rw [dif_pos h]
    refine Finset.sum_congr (M := EReal) rfl fun R _ => ?_
    rw [dif_pos h]
    exact mul_comm _ _
  · rw [dif_neg h]
    refine (Finset.sum_eq_zero fun R _ => ?_).symm
    rw [dif_neg h, mul_zero]

end Cert.HeadRefIdeal.Val

end
-- ==== Proof.HeadClaim.lean ====
/- The claims about the head's gradient call. -/

module

public import proofs.«01_k».proof.Defs
public import proofs.«01_k».proof.Proof.HeadVal
public import proofs.«01_k».proof.Proof.HeadRefVal
public import proofs.«01_k».proof.Proof.Gen.Head.Frame
public import proofs.«01_k».proof.Proof.Gen.HeadIdeal.Frame
public import proofs.«01_k».proof.Proof.Gen.HeadIdeal.Value
public import proofs.«01_k».proof.Proof.Gen.HeadRefIdeal.Read
public import proofs.«01_k».proof.Proof.Gen.HeadRefIdeal.Run
public import Idealize.ShloMosaic.Lib.Claim
public import Idealize.ShloMosaic.Lib.Quiescent

@[expose] public noncomputable section

set_option maxRecDepth 16384

namespace Cert.Proof

open Idealize.ShloMosaic Idealize.SL.Sem

theorem quiescent_Head : Cert.quiescent_Head := fun m ρ _ => Cert.Head.Gen.frame m ρ

theorem quiescent_HeadIdeal : Cert.quiescent_HeadIdeal := fun m ρ _ => Cert.HeadIdeal.Gen.frame m ρ

theorem quiescent_HeadRefIdeal : Cert.quiescent_HeadRefIdeal := by
  intro m g _
  exact (θ_run _ _ _).mono (fun r h => ⟨fun c => (h c).2.2, sem_eq_zero_of_no_sems rfl r.2⟩) (Cert.HeadRefIdeal.Value.run m g)

theorem preserves_Head_HeadIdeal : Cert.preserves_Head_HeadIdeal := trivial

section

variable (m : (ℓ : Loc Cert.HeadIdeal.nD Cert.HeadIdeal.τ Cert.HeadIdeal.sig) → Buf (Elt Ideal) ℓ) (c : Dev Cert.HeadIdeal.nD)

/-- Where the two programs start from equal arguments, the reference's two results are what the kernel's windows hold at the end. -/
theorem head_results : ∀ X0 X1 X2 X3 X4 X8 X9 X10,
    X0 = m ((c.tc : Thread Cert.HeadIdeal.nD Cert.HeadIdeal.τ).loc Cert.HeadIdeal.main_arg0)
    → X1 = m ((c.tc : Thread Cert.HeadIdeal.nD Cert.HeadIdeal.τ).loc Cert.HeadIdeal.main_arg1)
    → X2 = m ((c.tc : Thread Cert.HeadIdeal.nD Cert.HeadIdeal.τ).loc Cert.HeadIdeal.main_arg2)
    → X3 = m ((c.tc : Thread Cert.HeadIdeal.nD Cert.HeadIdeal.τ).loc Cert.HeadIdeal.main_arg3)
    → X4 = m ((c.tc : Thread Cert.HeadIdeal.nD Cert.HeadIdeal.τ).loc Cert.HeadIdeal.main_arg4)
    → X8 = m ((c.tc : Thread Cert.HeadIdeal.nD Cert.HeadIdeal.τ).loc Cert.HeadIdeal.main_arg8)
    → X9 = m ((c.tc : Thread Cert.HeadIdeal.nD Cert.HeadIdeal.τ).loc Cert.HeadIdeal.main_arg9)
    → X10 = m ((c.tc : Thread Cert.HeadIdeal.nD Cert.HeadIdeal.τ).loc Cert.HeadIdeal.main_arg10)
    → Cert.HeadRefIdeal.Read.val_main_v150 (F := Ideal) X0 X1 X2 X3 X8 X9 X10 = (Cert.HeadIdeal.Gen.dats m 0 c).arrAt 17 (Cert.HeadIdeal.cfgs 0).N
      ∧ Cert.HeadRefIdeal.Read.val_main_v153 (F := Ideal) X0 X1 X4 X8 = (Cert.HeadIdeal.Gen.dats m 0 c).arrAt 18 (Cert.HeadIdeal.cfgs 0).N := by
  rintro _ _ _ _ _ _ _ _ rfl rfl rfl rfl rfl rfl rfl rfl
  exact ⟨(Cert.HeadRefIdeal.Val.out17 _ _ _ _ _ _ _).trans (Cert.HeadIdeal.Val.final17 m c).symm,
    (Cert.HeadRefIdeal.Val.out18 _ _ _ _).trans (Cert.HeadIdeal.Val.final18 m c).symm⟩

end

theorem algebraic_HeadIdeal_HeadRefIdeal : Cert.algebraic_HeadIdeal_HeadRefIdeal := by
  intro m g m' g' hp hagree
  refine ⟨fun c => (Cert.HeadIdeal.Gen.dats m 0 c).arrAt 17 (Cert.HeadIdeal.cfgs 0).N, fun c => (Cert.HeadIdeal.Gen.dats m 0 c).arrAt 18 (Cert.HeadIdeal.cfgs 0).N, ?_, ?_⟩
  · exact (θ_run _ _ _).mono (fun r h c => ⟨(h.1 c).1 17, (h.1 c).1 18, h.2 c⟩) (θ_run_and (Cert.HeadIdeal.Gen.run_main m g) (Cert.HeadIdeal.Gen.unchanged m g))
  · refine (θ_run _ _ _).mono (fun r h c => ?_) (Cert.HeadRefIdeal.Value.run m' g')
    have e := head_results m c _ _ _ _ _ _ _ _ (hagree c).1 (hagree c).2.1 (hagree c).2.2.1 (hagree c).2.2.2.1 (hagree c).2.2.2.2.1 (hagree c).2.2.2.2.2.2.2.2.1 (hagree c).2.2.2.2.2.2.2.2.2.1 (hagree c).2.2.2.2.2.2.2.2.2.2
    exact ⟨(h c).1.trans ((Cert.HeadRefIdeal.Read.val_main_v150_eq _).trans e.1), (h c).2.1.trans ((Cert.HeadRefIdeal.Read.val_main_v153_eq _).trans e.2), (h c).2.2⟩

end Cert.Proof

end
-- ==== Proof.HeadCtxVal.lean ====
/- The head's gradient over the context's rows: what the kernel computes at its one point. -/
module

public import proofs.«01_k».proof.Proof.HeadSpec
public import proofs.«01_k».proof.Proof.Rows8
public import proofs.«01_k».proof.Proof.Gen.HeadCtxIdeal.Skeleton
public import proofs.«01_k».proof.Proof.Gen.HeadCtxIdeal.Launch
public import proofs.«01_k».proof.Proof.Gen.HeadCtxIdeal.Points
public import proofs.«01_k».proof.Proof.Gen.HeadCtxIdeal.Frame
public import Idealize.ShloMosaic.Lib.Pipeline.ValueKit
public import Idealize.ShloMosaic.Lib.Pipeline.ReadBack
public import Idealize.ShloMosaic.Lib.StableHlo.RunRead

set_option maxRecDepth 16384

@[expose] public noncomputable section

open Idealize.ShloMosaic Idealize.ShloMosaic.TcCoe Idealize.SL.Sem

open Idealize.ShloMosaic.Pipeline (Dat)

namespace Cert.HeadCtxIdeal.Val

open Cert.HeadCtxIdeal Cert.HeadCtxIdeal.Gen Cert.HeadSpec

theorem pay2_at (i : Fin 8) (j : Fin 256) : (k0_pay2 (F := Ideal) (ix2 i j) : EReal) = 0 := by pointwise [k0_pay2]
theorem pay8_at (d : FVec Ideal S256x1024 .f32) (w : FVec Ideal S256x1024 .bf16) (v : FVec Ideal S256x512 .bf16) (u : FVec Ideal S256x512 .bf16) (r : Fin 256) (a : Fin 256) :
    (k0_pay8 (F := Ideal) (k0_pay6 (F := Ideal) d) (k0_pay7 (F := Ideal) w) (constant S256x256 .f32 0x00000000#32) v u (ix2 r a) : EReal) = (∑ j : Fin 1024, d (ix2 r j) * w (ix2 a j)) + ∑ e : Fin 512, v (ix2 r e) * u (ix2 a e) := by
  pointwise [k0_pay8, k0_pay6, k0_pay7]
theorem pay10_at (z : FVec Ideal S256x128 .f32) (r : Fin 256) :
    (k0_pay10 (F := Ideal) z (ix2 r 0) : EReal) = rinv 0x43000000#32 fun k : Fin 128 => (z (ix2 r k) : EReal) := by
  pointwise [k0_pay10, k0_pay9, rinv]
theorem pay11_at (z : FVec Ideal S256x128 .f32) (r : Fin 256) (a : Fin 128) :
    (k0_pay11 (F := Ideal) z (ix2 r a) : EReal) = z (ix2 r a) * rinv 0x43000000#32 fun k : Fin 128 => (z (ix2 r k) : EReal) := by
  pointwise [k0_pay11, k0_pay9, pay10_at]
theorem pay13_at (d : FVec Ideal S256x1024 .f32) (w : FVec Ideal S256x1024 .bf16) (x : FVec Ideal S256x256 .f32) (v : FVec Ideal S256x512 .bf16) (u : FVec Ideal S256x512 .bf16) (z : FVec Ideal S256x128 .f32)
    (s : FVec Ideal S1x256 .f32) (a : Fin 256) :
    (k0_pay13 (F := Ideal) d w x v u z s (ix2 0 a) : EReal) = s (ix2 0 a)
      + if h : a.val < 128 then ∑ r : Fin 256, k0_pay8 (F := Ideal) d w x v u (ix2 r a) * k0_pay11 (F := Ideal) z (ix2 r ⟨a.val, h⟩) else 0 := by
  unfold k0_pay13 k0_pay12; generalize k0_pay8 (F := Ideal) d w x v u = x; generalize k0_pay11 (F := Ideal) z = y; pointwise []

variable (m : (ℓ : Loc nD τ sig) → Buf (Elt Ideal) ℓ)

theorem idx : ∀ t : Fin cfg0.N, win0_0.index t = ![16, 0]
    ∧ win0_1.index t = ![16, 0]
    ∧ win0_2.index t = ![16, 0]
    ∧ win0_4.index t = ![0, 0]
    ∧ win0_5.index t = ![0, 0]
    ∧ win0_18.index t = ![0, 0] :=
  (by decide +kernel : ∀ t : Fin grid0.N, _)

abbrev aH (c : Dev nD) : FVec Ideal S1x4352x1024 .f32 := m ((c : Thread nD τ).loc main_arg0)
abbrev aW (c : Dev nD) : FVec Ideal S1x1024x1952 .f32 := m ((c : Thread nD τ).loc main_arg1)
abbrev aK (c : Dev nD) : FVec Ideal S1x128x1024 .f32 := m ((c : Thread nD τ).loc main_arg3)
abbrev aE (c : Dev nD) : FVec Ideal S1x4352x8x96 .f32 := m ((c : Thread nD τ).loc main_arg8)
abbrev aV (c : Dev nD) : FVec Ideal S1x4352x8x64 .f32 := m ((c : Thread nD τ).loc main_arg9)

set_option maxHeartbeats 400000

/-- A guard replaced by an equivalent one. -/
theorem dite_cut {p q : Prop} [Decidable p] [Decidable q] (h : p ↔ q) (x : q → EReal) :
    (if hp : p then x (h.mp hp) else 0) = if hq : q then x hq else 0 := by
  by_cases hq : q
  · rw [dif_pos hq, dif_pos (h.mpr hq)]
  · rw [dif_neg hq, dif_neg fun hp => hq (h.mp hp)]

section
variable (c : Dev nD) (t : Fin cfg0.N)

theorem dkblk (r : Fin 256) (j : Fin 1024) : ((iblk m c 0 t : FVec Ideal S256x1024 .f32) (ix2 r j) : EReal) = dkP (aE m c) (lo r) j := by
  have h : ((V m c main_v96 : FVec Ideal S4352x1024 .f32) (ix2 (lo r) j) : EReal) = dkP (aE m c) (lo r) j := by
    generalize lo r = R
    unfold V
    simp only [List.flatten_cons, List.flatten_nil, List.cons_append, List.nil_append, List.append_nil, List.append]
    after_reads_simp
    pointwise [dkP]
    exact dite_cut ⟨fun h => h.2, fun h => ⟨by omega, h⟩⟩ fun hl => aE m c (ix4 0 R ⟨j.val / 128, by omega⟩ ⟨j.val % 128, hl⟩)
  rw [← h]; blk_ext [iblk, idx t]
theorem dvblk (r : Fin 256) (e : Fin 512) : ((iblk m c 1 t : FVec Ideal S256x512 .bf16) (ix2 r e) : EReal) = dvP (aV m c) (lo r) e := by
  have h : ((V m c main_v99 : FVec Ideal S4352x512 .bf16) (ix2 (lo r) e) : EReal) = dvP (aV m c) (lo r) e := by
    generalize lo r = R
    unfold V
    simp only [List.flatten_cons, List.flatten_nil, List.cons_append, List.nil_append, List.append_nil, List.append]
    after_reads_simp
    pointwise [dvP]
  rw [← h]; blk_ext [iblk, idx t]
/-- A column of the low-rank rows. -/
theorem zent (R : Fin 4352) (q : Fin 384) :
    ((V m c main_v61 : FVec Ideal S4352x512 .f32) (ix2 R ⟨q.val, by omega⟩) : EReal) = ∑ k : Fin 1024, aH m c (ix3 0 R k) * aW m c (ix3 0 k ⟨q.val, by omega⟩) := by
  unfold V
  simp only [List.flatten_cons, List.flatten_nil, List.cons_append, List.nil_append, List.append_nil, List.append]
  after_reads_simp
  pointwise []
  after_reads_simp
  pointwise []
theorem zblk (r : Fin 256) (q : Fin 384) : ((iblk m c 2 t : FVec Ideal S256x512 .f32) (ix2 r ⟨q.val, by omega⟩) : EReal)
    = ∑ k : Fin 1024, aH m c (ix3 0 (lo r) k) * aW m c (ix3 0 k ⟨q.val, by omega⟩) := by
  rw [← zent m c (lo r) q]; blk_ext [iblk, idx t]
theorem wkblk (b : Fin 128) (j : Fin 1024) : ((iblk m c 4 t : FVec Ideal S256x1024 .bf16) (ix2 ⟨b.val, by omega⟩ j) : EReal) = kP (aK m c) b j := by
  have h : ((V m c main_v32 : FVec Ideal S256x1024 .bf16) (ix2 ⟨b.val, by omega⟩ j) : EReal) = kP (aK m c) b j := by
    unfold V
    simp only [List.flatten_cons, List.flatten_nil, List.cons_append, List.nil_append, List.append_nil, List.append]
    after_reads_simp
    pointwise [kP]
    refine (dite_cut (q := j.val % 128 < 64) ⟨fun h => h.2, fun h => ⟨by omega, h⟩⟩ fun hl => aK m c (ix3 0 b ⟨j.val / 128 * 128 + j.val % 128, by omega⟩)).trans ?_
    exact dite_congr rfl (fun hl => congrArg (fun i => aK m c (ix3 0 b i)) (Fin.ext (Nat.div_add_mod' j.val 128))) fun _ => rfl
  rw [← h]; blk_ext [iblk, idx t]
theorem wvblk (b : Fin 128) (e : Fin 512) : ((iblk m c 5 t : FVec Ideal S256x512 .bf16) (ix2 ⟨b.val, by omega⟩ e) : EReal) = vP (aK m c) b e := by
  have h : ((V m c main_v34 : FVec Ideal S256x512 .bf16) (ix2 ⟨b.val, by omega⟩ e) : EReal) = vP (aK m c) b e := by
    unfold V
    simp only [List.flatten_cons, List.flatten_nil, List.cons_append, List.nil_append, List.append_nil, List.append]
    after_reads_simp
    pointwise [vP]
  rw [← h]; blk_ext [iblk, idx t]

abbrev dk : FVec Ideal S256x1024 .f32 := iblk m c 0 t
abbrev dv : FVec Ideal S256x512 .bf16 := iblk m c 1 t
abbrev wk : FVec Ideal S256x1024 .bf16 := iblk m c 4 t
abbrev wv : FVec Ideal S256x512 .bf16 := iblk m c 5 t
abbrev zh : FVec Ideal S256x128 .f32 := View.ld (iblk m c 2 t) (Rect.unit ![0, 256] ![256, 128] inb_S256x512_S256x128_0_256)

/-- The keys' columns of a tile, read back. -/
theorem ld_cols (x : FVec Ideal S256x512 .f32) (r : Fin 256) (j : Fin 128) :
    ((View.ld (Val := Elt Ideal) (S := S256x512) (e' := .f32) x (Rect.unit (s := S256x512) ![0, 256] ![256, 128] inb_S256x512_S256x128_0_256) : FVec Ideal S256x128 .f32) (ix2 r j) : EReal)
      = x (ix2 r ⟨256 + j.val, by omega⟩) := by
  refine congrArg x ?_
  funext a
  fin_cases a
  · exact Fin.ext (by show 0 + 1 * r.val = r.val; omega)
  · exact Fin.ext (by show 256 + 1 * j.val = 256 + j.val; omega)

theorem zh_at (r : Fin 256) (b : Fin 128) : (zh m c t (ix2 r b) : EReal) = zk (aH m c) (aW m c) (lo r) b :=
  (ld_cols (iblk m c 2 t) r b).trans (zblk m c t r ⟨256 + b.val, by omega⟩)
theorem nk_at (r : Fin 256) (b : Fin 128) : (k0_pay11 (F := Ideal) (zh m c t) (ix2 r b) : EReal) = nk (aH m c) (aW m c) (lo r) b :=
  (pay11_at _ r b).trans (congrArg₂ (· * ·) (zh_at m c t r b) (congrArg (rinv 0x43000000#32) (funext fun k => zh_at m c t r k)))
theorem dck_at (r : Fin 256) (b : Fin 128) :
    (k0_pay8 (F := Ideal) (k0_pay6 (F := Ideal) (dk m c t)) (k0_pay7 (F := Ideal) (wk m c t)) (constant S256x256 .f32 0x00000000#32) (dv m c t) (wv m c t) (ix2 r ⟨b.val, by omega⟩) : EReal) = dck (aK m c) (aE m c) (aV m c) (lo r) b :=
  (pay8_at _ _ _ _ r _).trans ((congrArg₂ (· + ·) (Finset.sum_congr (M := EReal) rfl fun j _ => congrArg₂ (fun a b : EReal => a * b) (dkblk m c t r j) (wkblk m c t b j))
    (Finset.sum_congr (M := EReal) rfl fun e _ => congrArg₂ (fun a b : EReal => a * b) (dvblk m c t r e) (wvblk m c t b e))).trans (dck_eq _ _ _ (lo r) b))

theorem row1 (a : FVec Ideal S1x256 .f32) (j : Fin 256) :
    (k0_pay13 (F := Ideal) (k0_pay6 (F := Ideal) (dk m c t)) (k0_pay7 (F := Ideal) (wk m c t)) (constant S256x256 .f32 0x00000000#32) (dv m c t) (wv m c t) (zh m c t) a (ix2 0 j) : EReal)
      = a (ix2 0 j) + if h : j.val < 128 then ∑ r : Fin 256, dck (aK m c) (aE m c) (aV m c) (lo r) ⟨j.val, h⟩ * nk (aH m c) (aW m c) (lo r) ⟨j.val, h⟩ else 0 := by
  refine (pay13_at _ _ _ _ _ _ a j).trans (congrArg (_ + ·) ?_)
  by_cases h : j.val < 128
  · rw [dif_pos h, dif_pos h]
    exact Finset.sum_congr (M := EReal) rfl fun r _ => congrArg₂ (· * ·) (dck_at m c t r ⟨j.val, h⟩) (nk_at m c t r ⟨j.val, h⟩)
  · rw [dif_neg h, dif_neg h]

theorem sums (i : Fin 8) (j : Fin 256) : ((outsAt0 m c t).2.2.1 (ix2 i j) : EReal) = CTX (aH m c) (aW m c) (aK m c) (aE m c) (aV m c) (ix2 i j) := by
  unfold outsAt0; frame_open
  simp (disch := decide) only [↓ View.readCov_skip, ↓ View.readCov_cons_toLoadRect, ↓ View.readCov_fill]
  frame_out
  refine (Rows8.canon_row 1 _ _ _ i j).trans ?_
  show _ = if i.val = 1 then _ else 0
  by_cases h1 : i.val = 1
  · rw [if_pos h1, if_pos h1]
    refine (row1 m c t _ j).trans ?_
    rw [Rows8.ld_row _ 1 _ 1 rfl, pay2_at, zero_add]
    rfl
  rw [if_neg h1, if_neg h1]
  exact (congrFun (Rows8.canon_all _ _ _) _).trans (pay2_at _ _)
end

/-- The gradient of the keys' gain over the context's rows. -/
theorem final (c : Dev nD) : (dats m 0 c).arrAt 18 (Cert.HeadCtxIdeal.cfgs 0).N = CTX (aH m c) (aW m c) (aK m c) (aE m c) (aV m c) := by
  refine (dats m 0 c).arrAt_eq_of_after_last 18 t0_0 (by decide +kernel) _ fun y => ?_
  blk_simp
  rw [after0_18]
  idx_vars y
  exact sums m c _ y0 y1

end Cert.HeadCtxIdeal.Val

end
-- ==== Proof.HeadCtxRefVal.lean ====
/- The reference's result of the head's gradient over the context's rows. -/
module

public import proofs.«01_k».proof.Proof.HeadSpec
public import proofs.«01_k».proof.Proof.Gen.HeadCtxRefIdeal.Run
public import proofs.«01_k».proof.Proof.Gen.HeadCtxRefIdeal.Read
public import Idealize.ShloMosaic.Lib.Pipeline.ValueKit

set_option maxRecDepth 16384

@[expose] public noncomputable section

open Idealize.ShloMosaic Idealize.ShloMosaic.TcCoe Idealize.SL.Sem

namespace Cert.HeadCtxRefIdeal.Val

open Cert.HeadCtxRefIdeal Cert.HeadCtxRefIdeal.Gen Cert.HeadCtxRefIdeal.Read Cert.HeadSpec

variable (H : FVec Ideal S1x4352x1024 .f32) (W : FVec Ideal S1x1024x1952 .f32) (K : FVec Ideal S1x128x1024 .f32)
  (DK : FVec Ideal S1x4352x8x96 .f32) (DV : FVec Ideal S1x4352x8x64 .f32)

theorem zk_at (r : Fin 256) (b : Fin 128) : (val_main_v6 (F := Ideal) H W (ix2 r b) : EReal) = zk H W (lo r) b := by
  pointwise [val_main_v6, val_main_v5, val_main_v3, val_main_v2, val_main_v1, val_main_v0, zk]
theorem rk_at (r : Fin 256) : (val_main_v14 (F := Ideal) H W (ix2 r 0) : EReal) = rinv 0x43000000#32 (zk H W (lo r)) := by
  pointwise [val_main_v14, val_main_v13, val_main_v12, val_main_v11, val_main_v10, val_main_v9, val_main_v8, val_main_v7, val_main_cst, val_main_cst_0, val_main_cst_1, zk_at, rinv]
theorem nk_at (r : Fin 256) (b : Fin 128) : (val_main_v19 (F := Ideal) H W (ix2 r b) : EReal) = nk H W (lo r) b := by
  pointwise [val_main_v19, val_main_v18, zk_at, rk_at, nk]
theorem gkv_at (r : Fin 256) (j : Fin 1024) : (val_main_v42 (F := Ideal) DK DV (ix2 r j) : EReal) = gkv DK DV (lo r) j := by
  pointwise [val_main_v42, val_main_v37, val_main_v36, val_main_v35, val_main_v34, val_main_v33, val_main_v30, val_main_v29, val_main_cst_3, val_main_cst_4, gkv]
  split_ifs <;> first | omega | exact zero_add (M := EReal) _ | exact add_zero (M := EReal) _
theorem dck_at (r : Fin 256) (b : Fin 128) : (val_main_v45 (F := Ideal) K DK DV (ix2 r b) : EReal) = dck K DK DV (lo r) b := by
  pointwise [val_main_v45, val_main_v4, gkv_at, dck]

/-- The second of eight rows, its first 128 lanes, in zeros. -/
theorem row_if (i j : ℕ) (B : j < 128 → EReal) :
    (if h : i < 1 then (0 : EReal) else if h : i - 1 < 1 then if h : i - 1 < 1 ∧ j < 128 then B h.2 else 0 else 0)
      = if i = 1 then if h : j < 128 then B h else 0 else 0 := by
  split_ifs <;> first | rfl | omega

theorem out : val_main_v73 (F := Ideal) H W K DK DV = CTX H W K DK DV := by
  funext y
  idx_vars y
  have e : (val_main_v73 (F := Ideal) H W K DK DV (ix2 y0 y1) : EReal)
      = if y0.val = 1 then (if h : y1.val < 128 then ∑ r : Fin 256, nk H W (lo r) ⟨y1.val, h⟩ * dck K DK DV (lo r) ⟨y1.val, h⟩ else 0) else 0 := by
    pointwise [val_main_v73, val_main_v72, val_main_v71, val_main_v70, val_main_v48, val_main_v47, val_main_v46, val_main_cst_8, val_main_cst_13, val_main_cst_14, val_main_cst_15, nk_at, dck_at]
    exact row_if y0.val y1.val fun h => ∑ r : Fin 256, nk H W (lo r) ⟨y1.val, h⟩ * dck K DK DV (lo r) ⟨y1.val, h⟩
  refine e.trans ?_
  show _ = if y0.val = 1 then (if h : y1.val < 128 then ∑ r : Fin 256, dck K DK DV (lo r) ⟨y1.val, h⟩ * nk H W (lo r) ⟨y1.val, h⟩ else 0) else 0
  by_cases h1 : y0.val = 1
  · rw [if_pos h1, if_pos h1]
    by_cases hl : y1.val < 128
    · rw [dif_pos hl, dif_pos hl]
      exact Finset.sum_congr (M := EReal) rfl fun r _ => mul_comm _ _
    · rw [dif_neg hl, dif_neg hl]
  · rw [if_neg h1, if_neg h1]

end Cert.HeadCtxRefIdeal.Val

end
-- ==== Proof.HeadCtxClaim.lean ====
/- The claims about the head's gradient call over the context's rows. -/

module

public import proofs.«01_k».proof.Defs
public import proofs.«01_k».proof.Proof.HeadCtxVal
public import proofs.«01_k».proof.Proof.HeadCtxRefVal
public import proofs.«01_k».proof.Proof.Gen.HeadCtx.Frame
public import proofs.«01_k».proof.Proof.Gen.HeadCtxIdeal.Frame
public import proofs.«01_k».proof.Proof.Gen.HeadCtxIdeal.Value
public import proofs.«01_k».proof.Proof.Gen.HeadCtxRefIdeal.Read
public import proofs.«01_k».proof.Proof.Gen.HeadCtxRefIdeal.Run
public import Idealize.ShloMosaic.Lib.Claim
public import Idealize.ShloMosaic.Lib.Quiescent

@[expose] public noncomputable section

set_option maxRecDepth 16384

namespace Cert.Proof

open Idealize.ShloMosaic Idealize.SL.Sem

theorem quiescent_HeadCtx : Cert.quiescent_HeadCtx := fun m ρ _ => Cert.HeadCtx.Gen.frame m ρ

theorem quiescent_HeadCtxIdeal : Cert.quiescent_HeadCtxIdeal := fun m ρ _ => Cert.HeadCtxIdeal.Gen.frame m ρ

theorem quiescent_HeadCtxRefIdeal : Cert.quiescent_HeadCtxRefIdeal := by
  intro m g _
  exact (θ_run _ _ _).mono (fun r h => ⟨fun c => (h c).2, sem_eq_zero_of_no_sems rfl r.2⟩) (Cert.HeadCtxRefIdeal.Value.run m g)

theorem preserves_HeadCtx_HeadCtxIdeal : Cert.preserves_HeadCtx_HeadCtxIdeal := trivial

section

variable (m : (ℓ : Loc Cert.HeadCtxIdeal.nD Cert.HeadCtxIdeal.τ Cert.HeadCtxIdeal.sig) → Buf (Elt Ideal) ℓ) (c : Dev Cert.HeadCtxIdeal.nD)

/-- Where the two programs start from equal arguments, the reference's result is what the kernel's window holds at the end. -/
theorem head_ctx_result : ∀ X0 X1 X3 X8 X9,
    X0 = m ((c.tc : Thread Cert.HeadCtxIdeal.nD Cert.HeadCtxIdeal.τ).loc Cert.HeadCtxIdeal.main_arg0)
    → X1 = m ((c.tc : Thread Cert.HeadCtxIdeal.nD Cert.HeadCtxIdeal.τ).loc Cert.HeadCtxIdeal.main_arg1)
    → X3 = m ((c.tc : Thread Cert.HeadCtxIdeal.nD Cert.HeadCtxIdeal.τ).loc Cert.HeadCtxIdeal.main_arg3)
    → X8 = m ((c.tc : Thread Cert.HeadCtxIdeal.nD Cert.HeadCtxIdeal.τ).loc Cert.HeadCtxIdeal.main_arg8)
    → X9 = m ((c.tc : Thread Cert.HeadCtxIdeal.nD Cert.HeadCtxIdeal.τ).loc Cert.HeadCtxIdeal.main_arg9)
    → Cert.HeadCtxRefIdeal.Read.val_main_v73 (F := Ideal) X0 X1 X3 X8 X9 = (Cert.HeadCtxIdeal.Gen.dats m 0 c).arrAt 18 (Cert.HeadCtxIdeal.cfgs 0).N := by
  rintro _ _ _ _ _ rfl rfl rfl rfl rfl
  exact (Cert.HeadCtxRefIdeal.Val.out _ _ _ _ _).trans (Cert.HeadCtxIdeal.Val.final m c).symm

end

theorem algebraic_HeadCtxIdeal_HeadCtxRefIdeal : Cert.algebraic_HeadCtxIdeal_HeadCtxRefIdeal := by
  intro m g m' g' hp hagree
  refine ⟨fun c => (Cert.HeadCtxIdeal.Gen.dats m 0 c).arrAt 18 (Cert.HeadCtxIdeal.cfgs 0).N, ?_, ?_⟩
  · exact (θ_run _ _ _).mono (fun r h c => ⟨(h.1 c).1 18, h.2 c⟩) (θ_run_and (Cert.HeadCtxIdeal.Gen.run_main m g) (Cert.HeadCtxIdeal.Gen.unchanged m g))
  · refine (θ_run _ _ _).mono (fun r h c => ?_) (Cert.HeadCtxRefIdeal.Value.run m' g')
    have e := head_ctx_result m c _ _ _ _ _ (hagree c).1 (hagree c).2.1 (hagree c).2.2.2.1 (hagree c).2.2.2.2.2.2.2.2.1 (hagree c).2.2.2.2.2.2.2.2.2.1
    exact ⟨(h c).1.trans ((Cert.HeadCtxRefIdeal.Read.val_main_v73_eq _ _ _ _ _).trans e), (h c).2⟩

end Cert.Proof

end
-- ==== Proof.UpVal.lean ====
/- The first MLP product and the squared ReLU: the kernel's tiles and the reference at one element. -/
module

public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal.Run
public import proofs.«01_k».proof.Proof.Gen.UpRefIdeal.Read
public import proofs.«01_k».proof.UpIdeal
public import proofs.«01_k».proof.UpRefIdeal
public import Idealize.ShloMosaic.Lib.Pipeline.Value
public import Idealize.ShloMosaic.Lib.Pipeline.ValueKit
public import Idealize.ShloMosaic.Lib.StableHlo.Run

set_option maxRecDepth 16384

@[expose] public noncomputable section

open Idealize.ShloMosaic Idealize.ShloMosaic.TcCoe Idealize.SL.Sem
open Idealize.ShloMosaic.Pipeline (Dat)

namespace Cert.UpSpec

/-- The squared ReLU. -/
def relu2 (u : EReal) : EReal := max u 0 * max u 0
/-- The hidden values before the activation. -/
def HID (H : FVec Ideal Cert.UpRefIdeal.S1x4096x1024 .f32) (W : FVec Ideal Cert.UpRefIdeal.S1x1024x4096 .f32) : FVec Ideal Cert.UpRefIdeal.S4096x4096 .bf16 :=
  fun y => ∑ k : Fin 1024, (H (ix3 0 (y 0) k) : EReal) * (W (ix3 0 k (y 1)) : EReal)
/-- The hidden values after it. -/
def ACT (H : FVec Ideal Cert.UpRefIdeal.S1x4096x1024 .f32) (W : FVec Ideal Cert.UpRefIdeal.S1x1024x4096 .f32) : FVec Ideal Cert.UpRefIdeal.S4096x4096 .bf16 :=
  fun y => relu2 (HID H W y)

end Cert.UpSpec

namespace Cert.UpRefIdeal.Val

open Cert.UpRefIdeal Cert.UpRefIdeal.Gen Cert.UpRefIdeal.Read Cert.UpSpec

variable (H : FVec Ideal S1x4096x1024 .f32) (W : FVec Ideal S1x1024x4096 .f32)

theorem u_at (i j : Fin 4096) : (val_main_v2 (F := Ideal) H W (ix2 i j) : EReal) = HID H W (ix2 i j) := by
  pointwise [val_main_v2, val_main_v1, val_main_v0, HID]

theorem hid_eq : val_main_v3 (F := Ideal) H W = HID H W := by
  funext y
  idx_vars y
  pointwise [val_main_v3, u_at]

theorem act_eq : val_main_v6 (F := Ideal) H W = ACT H W := by
  funext y
  idx_vars y
  pointwise [val_main_v6, val_main_v5, val_main_v4, u_at, ACT, relu2, val_main_call0_v0, val_main_call0_cst]

end Cert.UpRefIdeal.Val

namespace Cert.UpIdeal.Val

open Cert.UpIdeal Cert.UpIdeal.Gen Cert.UpSpec

variable (m : (ℓ : Loc nD τ sig) → Buf (Elt Ideal) ℓ)

theorem idx : ∀ t : Fin cfg0.N, win0_0.index t = ![0, 0]
    ∧ win0_1.index t = ![t.val, 0, 0]
    ∧ win0_2.index t = ![0, t.val]
    ∧ win0_3.index t = ![0, t.val] ∧ t.val < 8 :=
  (by decide +kernel : ∀ t : Fin grid0.N, _)

theorem hid_pay (d : Vec Ideal S512x1024 .bf16) (w : Vec Ideal S1x1024x512 .bf16) (i : Fin 512) (j : Fin 512) :
    (k0_pay2 d w (ix2 i j) : EReal) = ∑ k : Fin 1024, (d (ix2 i k) : EReal) * (w (ix3 0 k j) : EReal) := by
  pointwise [k0_pay2, k0_pay1]
theorem act_pay (d : Vec Ideal S512x1024 .bf16) (w : Vec Ideal S1x1024x512 .bf16) (i : Fin 512) (j : Fin 512) :
    (k0_pay3 d w (ix2 i j) : EReal) = relu2 (∑ k : Fin 1024, (d (ix2 i k) : EReal) * (w (ix3 0 k j) : EReal)) := by
  pointwise [k0_pay3, k0_pay1, relu2]

abbrev aH (c : Dev nD) : FVec Ideal S1x4096x1024 .f32 := m ((c : Thread nD τ).loc main_arg0)
abbrev aW (c : Dev nD) : FVec Ideal S1x1024x4096 .f32 := m ((c : Thread nD τ).loc main_arg1)

theorem hblk (c : Dev nD) (t : Fin cfg0.N) (r : Fin 4096) (k : Fin 1024) :
    ((iblk m c 0 t : FVec Ideal S4096x1024 .bf16) (ix2 r k) : EReal) = aH m c (ix3 0 r k) := by
  have h : ((V m c main_v5 : FVec Ideal S4096x1024 .bf16) (ix2 r k) : EReal) = aH m c (ix3 0 r k) := by
    unfold V; entry_read; pointwise []
  rw [← h]; blk_ext [iblk, idx t]
theorem wblk (c : Dev nD) (t : Fin cfg0.N) (k : Fin 1024) (e : Fin 512) (E : Fin 4096) (hE : E.val = t.val * 512 + e.val) :
    ((iblk m c 1 t : FVec Ideal S1x1024x512 .bf16) (ix3 0 k e) : EReal) = aW m c (ix3 0 k E) := by
  have h : ((V m c main_v3 : FVec Ideal S8x1024x512 .bf16) (ix3 ⟨t.val, (idx t).2.2.2.2⟩ k e) : EReal) = aW m c (ix3 0 k E) := by
    obtain ⟨E, hl⟩ := E
    obtain rfl : E = t.val * 512 + e.val := hE
    unfold V; entry_read; pointwise []
  rw [← h]; blk_ext [iblk, idx t]

/-- The chunks of rows all take the same product, -/
theorem hid_pays : k0_pay5 (F := Ideal) = k0_pay2 ∧ k0_pay8 (F := Ideal) = k0_pay2 ∧ k0_pay15 (F := Ideal) = k0_pay2
    ∧ k0_pay18 (F := Ideal) = k0_pay2 ∧ k0_pay21 (F := Ideal) = k0_pay2 ∧ k0_pay24 (F := Ideal) = k0_pay2
    ∧ (fun d w => k0_pay12 (F := Ideal) (k0_pay10 d) w) = k0_pay2 := ⟨rfl, rfl, rfl, rfl, rfl, rfl, rfl⟩
/-- and the same squared ReLU. -/
theorem act_pays : k0_pay6 (F := Ideal) = k0_pay3 ∧ k0_pay9 (F := Ideal) = k0_pay3 ∧ k0_pay16 (F := Ideal) = k0_pay3
    ∧ (fun d w => k0_pay19 (F := Ideal) (k0_pay17 d w) (Scalar.ofBits .f32 0x00000000#32)) = k0_pay3
    ∧ k0_pay22 (F := Ideal) = k0_pay3 ∧ k0_pay25 (F := Ideal) = k0_pay3
    ∧ (fun d w => k0_pay13 (F := Ideal) (k0_pay10 d) w) = k0_pay3 := ⟨rfl, rfl, rfl, rfl, rfl, rfl, rfl⟩

/-- The product of one chunk of rows. -/
theorem chunk (b0 : Vec Ideal S4096x1024 .bf16) (b1 : Vec Ideal S1x1024x512 .bf16) (o : ℕ)
    (inb : ∀ a, (![o, 0] : Fin 2 → ℕ) a + S512x1024.size a ≤ S4096x1024.size a)
    (i j : Fin 512) (r : Fin 4096) (k : Fin 512) (h : r.val = o + i.val) (h' : k.val = j.val) :
    (∑ e : Fin 1024, ((View.ld (Val := Elt Ideal) (S := S4096x1024) (e' := .bf16) b0 (Rect.unit (s := S4096x1024) ![o, 0] S512x1024.size inb) : FVec Ideal S512x1024 .bf16) (ix2 i e) : EReal)
        * ((View.ld (Val := Elt Ideal) (S := S1x1024x512) (e' := .bf16) b1 r0_1 : FVec Ideal S1x1024x512 .bf16) (ix3 0 e j) : EReal))
      = ∑ e : Fin 1024, (b0 (ix2 r e) : EReal) * (b1 (ix3 0 e k) : EReal) := by
  obtain rfl : k = j := Fin.ext h'
  refine Finset.sum_congr (M := EReal) rfl fun e _ => congrArg₂ (· * ·) ?_ ?_
  · pointwise []
    exact congrArg (fun r => b0 (ix2 r e)) (Fin.ext (by simp [h]))
  · pointwise [r0_1]

/-- One tile before the activation, from whole blocks. -/
theorem hid_tile (b0 : Vec Ideal S4096x1024 .bf16) (b1 : Vec Ideal S1x1024x512 .bf16) (r : Fin 4096) (k : Fin 512) :
    (out0_2 b0 b1 (ix2 r k) : EReal) = ∑ e : Fin 1024, (b0 (ix2 r e) : EReal) * (b1 (ix3 0 e k) : EReal) := by
  obtain ⟨p1, p2, p3, p4, p5, p6, p7⟩ := hid_pays
  have p7' (d w) : k0_pay12 (F := Ideal) (k0_pay10 d) w = k0_pay2 d w := congrFun (congrFun p7 d) w
  unfold_out out0_2
  simp only [p1, p2, p3, p4, p5, p6, p7']
  canon_tiles x h
  all_goals
    idx_vars x
    exact (hid_pay _ _ _ _).trans (chunk b0 b1 _ _ _ _ r k (by omega) (by omega))

/-- The same tile after it. -/
theorem act_tile (b0 : Vec Ideal S4096x1024 .bf16) (b1 : Vec Ideal S1x1024x512 .bf16) (r : Fin 4096) (k : Fin 512) :
    (out0_3 b0 b1 (ix2 r k) : EReal) = relu2 (∑ e : Fin 1024, (b0 (ix2 r e) : EReal) * (b1 (ix3 0 e k) : EReal)) := by
  obtain ⟨p1, p2, p3, p4, p5, p6, p7⟩ := act_pays
  have p4' (d w) : k0_pay19 (F := Ideal) (k0_pay17 d w) (Scalar.ofBits .f32 0x00000000#32) = k0_pay3 d w := congrFun (congrFun p4 d) w
  have p7' (d w) : k0_pay13 (F := Ideal) (k0_pay10 d) w = k0_pay3 d w := congrFun (congrFun p7 d) w
  unfold_out out0_3
  simp only [p1, p2, p3, p4', p5, p6, p7']
  canon_tiles x h
  all_goals
    idx_vars x
    exact (act_pay _ _ _ _).trans (congrArg relu2 (chunk b0 b1 _ _ _ _ r k (by omega) (by omega)))

theorem sum_point (c : Dev nD) (t : Fin cfg0.N) (b0 : Vec Ideal S4096x1024 .bf16) (b1 : Vec Ideal S1x1024x512 .bf16)
    (hb0 : b0 = iblk m c 0 t) (hb1 : b1 = iblk m c 1 t) (y0 : Fin 4096) (y1 : Fin 512) (z : S4096x4096.Idx)
    (h : (z 0).val = y0.val) (h' : (z 1).val = t.val * 512 + y1.val) :
    (∑ e : Fin 1024, (b0 (ix2 y0 e) : EReal) * (b1 (ix3 0 e y1) : EReal)) = HID (aH m c) (aW m c) z := by
  obtain rfl : z 0 = y0 := Fin.ext h
  subst hb0 hb1
  exact Finset.sum_congr (M := EReal) rfl fun e _ => congrArg₂ (· * ·) (hblk m c t (z 0) e) (wblk m c t e y1 (z 1) h')

theorem hid_point (c : Dev nD) (t : Fin cfg0.N) (y : S4096x512.Idx) (z : S4096x4096.Idx)
    (h : (z 0).val = (y 0).val) (h' : (z 1).val = t.val * 512 + (y 1).val) :
    (out0_2 (iblk m c 0 t) (iblk m c 1 t) y : EReal) = HID (aH m c) (aW m c) z := by
  idx_vars y
  exact (hid_tile (iblk m c 0 t) (iblk m c 1 t) y0 y1).trans (sum_point m c t _ _ rfl rfl y0 y1 z h h')

theorem act_point (c : Dev nD) (t : Fin cfg0.N) (y : S4096x512.Idx) (z : S4096x4096.Idx)
    (h : (z 0).val = (y 0).val) (h' : (z 1).val = t.val * 512 + (y 1).val) :
    (out0_3 (iblk m c 0 t) (iblk m c 1 t) y : EReal) = ACT (aH m c) (aW m c) z := by
  idx_vars y
  exact (act_tile (iblk m c 0 t) (iblk m c 1 t) y0 y1).trans (congrArg relu2 (sum_point m c t _ _ rfl rfl y0 y1 z h h'))

/-- The kernel's first result array. -/
theorem hid_final (c : Dev nD) : (dats m 0 c).arrAt 2 (Cert.UpIdeal.cfgs 0).N = HID (aH m c) (aW m c) := by
  refine (dats m 0 c).arrAt_eq_of_covers 2 _ (by decide +kernel) fun t hf y => ?_
  blk_simp
  rw [after0_2]
  have e0 : (((View.whole main_v6_0).slice (win0_2.rect t)).emb y 0).val = (y 0).val := by blk_simp [idx t]
  have e1 : (((View.whole main_v6_0).slice (win0_2.rect t)).emb y 1).val = t.val * 512 + (y 1).val := by blk_simp [idx t]
  exact hid_point m c t y _ e0 e1

/-- The kernel's second result array. -/
theorem act_final (c : Dev nD) : (dats m 0 c).arrAt 3 (Cert.UpIdeal.cfgs 0).N = ACT (aH m c) (aW m c) := by
  refine (dats m 0 c).arrAt_eq_of_covers 3 _ (by decide +kernel) fun t hf y => ?_
  blk_simp
  rw [after0_3]
  have e0 : (((View.whole main_v6_1).slice (win0_3.rect t)).emb y 0).val = (y 0).val := by blk_simp [idx t]
  have e1 : (((View.whole main_v6_1).slice (win0_3.rect t)).emb y 1).val = t.val * 512 + (y 1).val := by blk_simp [idx t]
  exact act_point m c t y _ e0 e1

end Cert.UpIdeal.Val

end
-- ==== Proof.UpClaim.lean ====
/- The claims about the call that takes the first MLP product and the squared ReLU. -/

module

public import proofs.«01_k».proof.Defs
public import proofs.«01_k».proof.Proof.UpVal
public import proofs.«01_k».proof.Proof.Gen.Up.Frame
public import proofs.«01_k».proof.Proof.Gen.UpRefIdeal.Run
public import Idealize.ShloMosaic.Lib.Claim
public import Idealize.ShloMosaic.Lib.Quiescent

@[expose] public noncomputable section

namespace Cert.Proof

open Idealize.ShloMosaic Idealize.SL.Sem

theorem quiescent_Up : Cert.quiescent_Up := fun m ρ _ => Cert.Up.Gen.frame m ρ

theorem quiescent_UpIdeal : Cert.quiescent_UpIdeal := fun m ρ _ => Cert.UpIdeal.Gen.frame m ρ

theorem quiescent_UpRefIdeal : Cert.quiescent_UpRefIdeal := by
  intro m g _
  exact (θ_run _ _ _).mono (fun r h => ⟨fun c => (h c).2.2, sem_eq_zero_of_no_sems rfl r.2⟩) (Cert.UpRefIdeal.Value.run m g)

theorem preserves_Up_UpIdeal : Cert.preserves_Up_UpIdeal := trivial

theorem algebraic_UpIdeal_UpRefIdeal : Cert.algebraic_UpIdeal_UpRefIdeal := by
  pair_intro
  · run_from Cert.UpIdeal.Gen.run_main m g
  · run_from Cert.UpRefIdeal.Value.run m' g'
    · rw [Cert.UpRefIdeal.Read.val_main_v3_eq]
      exact (Cert.UpRefIdeal.Val.hid_eq _ _).trans (Cert.UpIdeal.Val.hid_final m c).symm
    · rw [Cert.UpRefIdeal.Read.val_main_v6_eq]
      exact (Cert.UpRefIdeal.Val.act_eq _ _).trans (Cert.UpIdeal.Val.act_final m c).symm

end Cert.Proof

end
-- ==== Proof.lean ====
module

public import proofs.«01_k».proof.Defs
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.ConvIdeal.Value
public import proofs.«01_k».proof.Proof.Gen.ConvRefIdeal.Run
public import proofs.«01_k».proof.Proof.Gen.ConvRefIdeal.Read
public import proofs.«01_k».proof.Proof.ConvClaim
public import proofs.«01_k».proof.Proof.AttnClaim
public import proofs.«01_k».proof.Proof.ActClaim
public import proofs.«01_k».proof.Proof.CtxClaim
public import proofs.«01_k».proof.Proof.ModbClaim
public import proofs.«01_k».proof.Proof.ModaClaim
public import proofs.«01_k».proof.Proof.FinalClaim
public import proofs.«01_k».proof.Proof.AdalnClaim
public import proofs.«01_k».proof.Proof.FwdClaim
public import proofs.«01_k».proof.Proof.HeadClaim
public import proofs.«01_k».proof.Proof.HeadCtxClaim
public import proofs.«01_k».proof.Proof.UpClaim
public import Idealize.ShloMosaic.Adequacy
public import Idealize.ShloMosaic.Init

@[expose] public noncomputable section

set_option maxRecDepth 16384

noncomputable section

namespace Cert.Proof

open Idealize.ShloMosaic Idealize.SL.Sem

theorem claim : Cert.Claim :=
  ⟨Cert.Conv.Gen.facts, Cert.ConvIdeal.Gen.facts, Cert.ConvRefIdeal.Gen.facts,
   Cert.Attn.Gen.facts, Cert.AttnIdeal.Gen.facts, Cert.AttnRefIdeal.Gen.facts,
   Cert.Act.Gen.facts, Cert.ActIdeal.Gen.facts, Cert.ActRefIdeal.Gen.facts,
   Cert.Ctx.Gen.facts, Cert.CtxIdeal.Gen.facts, Cert.CtxRefIdeal.Gen.facts,
   Cert.Modb.Gen.facts, Cert.ModbIdeal.Gen.facts, Cert.ModbRefIdeal.Gen.facts,
   Cert.Moda.Gen.facts, Cert.ModaIdeal.Gen.facts, Cert.ModaRefIdeal.Gen.facts,
   Cert.Final.Gen.facts, Cert.FinalIdeal.Gen.facts, Cert.FinalRefIdeal.Gen.facts,
   Cert.Adaln.Gen.facts, Cert.AdalnIdeal.Gen.facts, Cert.AdalnRefIdeal.Gen.facts,
   Cert.Fwd.Gen.facts, Cert.FwdIdeal.Gen.facts, Cert.FwdRefIdeal.Gen.facts,
   Cert.Head.Gen.facts, Cert.HeadIdeal.Gen.facts, Cert.HeadRefIdeal.Gen.facts,
   Cert.HeadCtx.Gen.facts, Cert.HeadCtxIdeal.Gen.facts, Cert.HeadCtxRefIdeal.Gen.facts,
   Cert.Up.Gen.facts, Cert.UpIdeal.Gen.facts, Cert.UpRefIdeal.Gen.facts,
   Cert.Pre_finite.Gen.facts, Cert.Pre_finite_mod2.Gen.facts, Cert.Pre_finite_mod1.Gen.facts, Cert.Pre_finite_final.Gen.facts, Cert.Pre_finite_qk.Gen.facts,
   quiescent_Conv,
   quiescent_ConvIdeal,
   quiescent_ConvRefIdeal,
   quiescent_Attn,
   quiescent_AttnIdeal,
   quiescent_AttnIdeal_pre_finite,
   quiescent_AttnRefIdeal,
   quiescent_AttnRefIdeal_pre_finite,
   quiescent_Act,
   quiescent_ActIdeal,
   quiescent_ActRefIdeal,
   quiescent_Ctx,
   quiescent_CtxIdeal,
   quiescent_CtxRefIdeal,
   quiescent_Modb,
   quiescent_ModbIdeal,
   quiescent_ModbIdeal_pre_finite_mod2,
   quiescent_ModbRefIdeal,
   quiescent_ModbRefIdeal_pre_finite_mod2,
   quiescent_Moda,
   quiescent_ModaIdeal,
   quiescent_ModaIdeal_pre_finite_mod1,
   quiescent_ModaRefIdeal,
   quiescent_ModaRefIdeal_pre_finite_mod1,
   quiescent_Final,
   quiescent_FinalIdeal,
   quiescent_FinalIdeal_pre_finite_final,
   quiescent_FinalRefIdeal,
   quiescent_FinalRefIdeal_pre_finite_final,
   quiescent_Adaln,
   quiescent_AdalnIdeal,
   quiescent_AdalnRefIdeal,
   quiescent_Fwd,
   quiescent_FwdIdeal,
   quiescent_FwdIdeal_pre_finite_qk,
   quiescent_FwdRefIdeal,
   quiescent_FwdRefIdeal_pre_finite_qk,
   quiescent_Head,
   quiescent_HeadIdeal,
   quiescent_HeadRefIdeal,
   quiescent_HeadCtx,
   quiescent_HeadCtxIdeal,
   quiescent_HeadCtxRefIdeal,
   quiescent_Up,
   quiescent_UpIdeal,
   quiescent_UpRefIdeal,
   preserves_Conv_ConvIdeal,
   algebraic_ConvIdeal_ConvRefIdeal,
   preserves_Attn_AttnIdeal,
   algebraic_AttnIdeal_AttnRefIdeal_pre_finite,
   preserves_Act_ActIdeal,
   algebraic_ActIdeal_ActRefIdeal,
   preserves_Ctx_CtxIdeal,
   algebraic_CtxIdeal_CtxRefIdeal,
   preserves_Modb_ModbIdeal,
   algebraic_ModbIdeal_ModbRefIdeal_pre_finite_mod2,
   preserves_Moda_ModaIdeal,
   algebraic_ModaIdeal_ModaRefIdeal_pre_finite_mod1,
   preserves_Final_FinalIdeal,
   algebraic_FinalIdeal_FinalRefIdeal_pre_finite_final,
   preserves_Adaln_AdalnIdeal,
   algebraic_AdalnIdeal_AdalnRefIdeal,
   preserves_Fwd_FwdIdeal,
   algebraic_FwdIdeal_FwdRefIdeal_pre_finite_qk,
   preserves_Head_HeadIdeal,
   algebraic_HeadIdeal_HeadRefIdeal,
   preserves_HeadCtx_HeadCtxIdeal,
   algebraic_HeadCtxIdeal_HeadCtxRefIdeal,
   preserves_Up_UpIdeal,
   algebraic_UpIdeal_UpRefIdeal⟩

end Cert.Proof

end
